-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_dact [hPre_finite_dact : Cert.Pre_finite_dact.Facts] (m : (ℓ : Loc Cert.GateIdeal.nD Cert.GateIdeal.τ Cert.GateIdeal.sig) → Buf (Elt Ideal) ℓ) : Prop :=
  ∀ c : Dev Cert.GateIdeal.nD,
    (Cert.Pre_finite_dact.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_dact [hPre_finite_dact : Cert.Pre_finite_dact.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_dact.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinReferenceIdeal (m : (ℓ : Loc Cert.DinReferenceIdeal.nD Cert.DinReferenceIdeal.τ Cert.DinReferenceIdeal.sig) → Buf (Elt Ideal) ℓ) : Prop :=
  True

def Pre_Pin (m : (ℓ : Loc Cert.Pin.nD Cert.Pin.τ Cert.Pin.sig) → Buf (Elt Bits) ℓ) : Prop :=
  True

def Pre_PinIdeal (m : (ℓ : Loc Cert.PinIdeal.nD Cert.PinIdeal.τ Cert.PinIdeal.sig) → Buf (Elt Ideal) ℓ) : Prop :=
  True

def Pre_PinReferenceIdeal (m : (ℓ : Loc Cert.PinReferenceIdeal.nD Cert.PinReferenceIdeal.τ Cert.PinReferenceIdeal.sig) → Buf (Elt Ideal) ℓ) : Prop :=
  True

def Pre_Pout (m : (ℓ : Loc Cert.Pout.nD Cert.Pout.τ Cert.Pout.sig) → Buf (Elt Bits) ℓ) : Prop :=
  True

def Pre_PoutIdeal (m : (ℓ : Loc Cert.PoutIdeal.nD Cert.PoutIdeal.τ Cert.PoutIdeal.sig) → Buf (Elt Ideal) ℓ) : Prop :=
  True

def Pre_PoutReferenceIdeal (m : (ℓ : Loc Cert.PoutReferenceIdeal.nD Cert.PoutReferenceIdeal.τ Cert.PoutReferenceIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatReferenceIdeal (m : (ℓ : Loc Cert.DcatReferenceIdeal.nD Cert.DcatReferenceIdeal.τ Cert.DcatReferenceIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutReferenceIdeal (m : (ℓ : Loc Cert.DwoutReferenceIdeal.nD Cert.DwoutReferenceIdeal.τ Cert.DwoutReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Dpooled (m : (ℓ : Loc Cert.Dpooled.nD Cert.Dpooled.τ Cert.Dpooled.sig) → Buf (Elt Bits) ℓ) : Prop :=
  True

def Pre_DpooledIdeal (m : (ℓ : Loc Cert.DpooledIdeal.nD Cert.DpooledIdeal.τ Cert.DpooledIdeal.sig) → Buf (Elt Ideal) ℓ) : Prop :=
  True

def Pre_DpooledReferenceIdeal (m : (ℓ : Loc Cert.DpooledReferenceIdeal.nD Cert.DpooledReferenceIdeal.τ Cert.DpooledReferenceIdeal.sig) → Buf (Elt Ideal) ℓ) : Prop :=
  True

def Pre_Dwpool (m : (ℓ : Loc Cert.Dwpool.nD Cert.Dwpool.τ Cert.Dwpool.sig) → Buf (Elt Bits) ℓ) : Prop :=
  True

def Pre_DwpoolIdeal (m : (ℓ : Loc Cert.DwpoolIdeal.nD Cert.DwpoolIdeal.τ Cert.DwpoolIdeal.sig) → Buf (Elt Ideal) ℓ) : Prop :=
  True

def Pre_DwpoolReferenceIdeal (m : (ℓ : Loc Cert.DwpoolReferenceIdeal.nD Cert.DwpoolReferenceIdeal.τ Cert.DwpoolReferenceIdeal.sig) → Buf (Elt Ideal) ℓ) : Prop :=
  True

def Pre_Adam2 (m : (ℓ : Loc Cert.Adam2.nD Cert.Adam2.τ Cert.Adam2.sig) → Buf (Elt Bits) ℓ) : Prop :=
  True

def Pre_Adam2Ideal (m : (ℓ : Loc Cert.Adam2Ideal.nD Cert.Adam2Ideal.τ Cert.Adam2Ideal.sig) → Buf (Elt Ideal) ℓ) : Prop :=
  True

def Pre_Adam2ReferenceIdeal (m : (ℓ : Loc Cert.Adam2ReferenceIdeal.nD Cert.Adam2ReferenceIdeal.τ Cert.Adam2ReferenceIdeal.sig) → Buf (Elt Ideal) ℓ) : Prop :=
  True

def Pre_Adam1 (m : (ℓ : Loc Cert.Adam1.nD Cert.Adam1.τ Cert.Adam1.sig) → Buf (Elt Bits) ℓ) : Prop :=
  True

def Pre_Adam1Ideal (m : (ℓ : Loc Cert.Adam1Ideal.nD Cert.Adam1Ideal.τ Cert.Adam1Ideal.sig) → Buf (Elt Ideal) ℓ) : Prop :=
  True

def Pre_Adam1ReferenceIdeal (m : (ℓ : Loc Cert.Adam1ReferenceIdeal.nD Cert.Adam1ReferenceIdeal.τ Cert.Adam1ReferenceIdeal.sig) → Buf (Elt Ideal) ℓ) : Prop :=
  True

def Pre_Adamlb (m : (ℓ : Loc Cert.Adamlb.nD Cert.Adamlb.τ Cert.Adamlb.sig) → Buf (Elt Bits) ℓ) : Prop :=
  True

def Pre_AdamlbIdeal (m : (ℓ : Loc Cert.AdamlbIdeal.nD Cert.AdamlbIdeal.τ Cert.AdamlbIdeal.sig) → Buf (Elt Ideal) ℓ) : Prop :=
  True

def Pre_AdamlbReferenceIdeal (m : (ℓ : Loc Cert.AdamlbReferenceIdeal.nD Cert.AdamlbReferenceIdeal.τ Cert.AdamlbReferenceIdeal.sig) → Buf (Elt Ideal) ℓ) : Prop :=
  True

def Pre_Adamhg (m : (ℓ : Loc Cert.Adamhg.nD Cert.Adamhg.τ Cert.Adamhg.sig) → Buf (Elt Bits) ℓ) : Prop :=
  True

def Pre_AdamhgIdeal (m : (ℓ : Loc Cert.AdamhgIdeal.nD Cert.AdamhgIdeal.τ Cert.AdamhgIdeal.sig) → Buf (Elt Ideal) ℓ) : Prop :=
  True

def Pre_AdamhgReferenceIdeal (m : (ℓ : Loc Cert.AdamhgReferenceIdeal.nD Cert.AdamhgReferenceIdeal.τ Cert.AdamhgReferenceIdeal.sig) → Buf (Elt Ideal) ℓ) : Prop :=
  True

def Pre_Adamsc (m : (ℓ : Loc Cert.Adamsc.nD Cert.Adamsc.τ Cert.Adamsc.sig) → Buf (Elt Bits) ℓ) : Prop :=
  True

def Pre_AdamscIdeal (m : (ℓ : Loc Cert.AdamscIdeal.nD Cert.AdamscIdeal.τ Cert.AdamscIdeal.sig) → Buf (Elt Ideal) ℓ) : Prop :=
  True

def Pre_AdamscReferenceIdeal (m : (ℓ : Loc Cert.AdamscReferenceIdeal.nD Cert.AdamscReferenceIdeal.τ Cert.AdamscReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite_dact [hGateIdeal : Cert.GateIdeal.Facts] [hPre_finite_dact : Cert.Pre_finite_dact.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_dact m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_finite_dact [hGateReferenceIdeal : Cert.GateReferenceIdeal.Facts] [hPre_finite_dact : Cert.Pre_finite_dact.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_dact m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1)
      ∧ r.2.mem ((c.tc : Thread Cert.Dwd.nD Cert.Dwd.τ).loc Cert.Dwd.main_arg2) = m ((c.tc : Thread Cert.Dwd.nD Cert.Dwd.τ).loc Cert.Dwd.main_arg2))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
      ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1)
      ∧ r.2.mem ((c.tc : Thread Cert.DwdReferenceIdeal.nD Cert.DwdReferenceIdeal.τ).loc Cert.DwdReferenceIdeal.main_arg2) = m ((c.tc : Thread Cert.DwdReferenceIdeal.nD Cert.DwdReferenceIdeal.τ).loc Cert.DwdReferenceIdeal.main_arg2))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2))
      ∧ r.2.sem = fun _ => 0)

def quiescent_DinReferenceIdeal [hDinReferenceIdeal : Cert.DinReferenceIdeal.Facts] : Prop :=
  ∀ (m : (ℓ : Loc Cert.DinReferenceIdeal.nD Cert.DinReferenceIdeal.τ Cert.DinReferenceIdeal.sig) → Buf (Elt Ideal) ℓ) (g : Dev Cert.DinReferenceIdeal.nD → PrngReg), Pre_DinReferenceIdeal m →
    θ_run (Cert.DinReferenceIdeal.defs (F := Ideal)) (onTc (τ := Cert.DinReferenceIdeal.τ) (Cert.DinReferenceIdeal.main (F := Ideal))) ⟨m, fun _ => 0, g⟩ (fun r => (∀ c : Dev Cert.DinReferenceIdeal.nD,
      r.2.mem ((c.tc : Thread Cert.DinReferenceIdeal.nD Cert.DinReferenceIdeal.τ).loc Cert.DinReferenceIdeal.main_arg0) = m ((c.tc : Thread Cert.DinReferenceIdeal.nD Cert.DinReferenceIdeal.τ).loc Cert.DinReferenceIdeal.main_arg0)
      ∧ r.2.mem ((c.tc : Thread Cert.DinReferenceIdeal.nD Cert.DinReferenceIdeal.τ).loc Cert.DinReferenceIdeal.main_arg1) = m ((c.tc : Thread Cert.DinReferenceIdeal.nD Cert.DinReferenceIdeal.τ).loc Cert.DinReferenceIdeal.main_arg1)
      ∧ r.2.mem ((c.tc : Thread Cert.DinReferenceIdeal.nD Cert.DinReferenceIdeal.τ).loc Cert.DinReferenceIdeal.main_arg2) = m ((c.tc : Thread Cert.DinReferenceIdeal.nD Cert.DinReferenceIdeal.τ).loc Cert.DinReferenceIdeal.main_arg2))
      ∧ r.2.sem = fun _ => 0)

def quiescent_Pin [hPin : Cert.Pin.Facts] : Prop :=
  ∀ (m : (ℓ : Loc Cert.Pin.nD Cert.Pin.τ Cert.Pin.sig) → Buf (Elt Bits) ℓ) (g : Dev Cert.Pin.nD → PrngReg), Pre_Pin m →
    θ_run (Cert.Pin.defs (F := Bits)) (onTc (τ := Cert.Pin.τ) (Cert.Pin.main (F := Bits))) ⟨m, fun _ => 0, g⟩ (fun r => (∀ c : Dev Cert.Pin.nD,
      r.2.mem ((c.tc : Thread Cert.Pin.nD Cert.Pin.τ).loc Cert.Pin.main_arg0) = m ((c.tc : Thread Cert.Pin.nD Cert.Pin.τ).loc Cert.Pin.main_arg0)
      ∧ r.2.mem ((c.tc : Thread Cert.Pin.nD Cert.Pin.τ).loc Cert.Pin.main_arg1) = m ((c.tc : Thread Cert.Pin.nD Cert.Pin.τ).loc Cert.Pin.main_arg1))
      ∧ r.2.sem = fun _ => 0)

def quiescent_PinIdeal [hPinIdeal : Cert.PinIdeal.Facts] : Prop :=
  ∀ (m : (ℓ : Loc Cert.PinIdeal.nD Cert.PinIdeal.τ Cert.PinIdeal.sig) → Buf (Elt Ideal) ℓ) (g : Dev Cert.PinIdeal.nD → PrngReg), Pre_PinIdeal m →
    θ_run (Cert.PinIdeal.defs (F := Ideal)) (onTc (τ := Cert.PinIdeal.τ) (Cert.PinIdeal.main (F := Ideal))) ⟨m, fun _ => 0, g⟩ (fun r => (∀ c : Dev Cert.PinIdeal.nD,
      r.2.mem ((c.tc : Thread Cert.PinIdeal.nD Cert.PinIdeal.τ).loc Cert.PinIdeal.main_arg0) = m ((c.tc : Thread Cert.PinIdeal.nD Cert.PinIdeal.τ).loc Cert.PinIdeal.main_arg0)
      ∧ r.2.mem ((c.tc : Thread Cert.PinIdeal.nD Cert.PinIdeal.τ).loc Cert.PinIdeal.main_arg1) = m ((c.tc : Thread Cert.PinIdeal.nD Cert.PinIdeal.τ).loc Cert.PinIdeal.main_arg1))
      ∧ r.2.sem = fun _ => 0)

def quiescent_PinReferenceIdeal [hPinReferenceIdeal : Cert.PinReferenceIdeal.Facts] : Prop :=
  ∀ (m : (ℓ : Loc Cert.PinReferenceIdeal.nD Cert.PinReferenceIdeal.τ Cert.PinReferenceIdeal.sig) → Buf (Elt Ideal) ℓ) (g : Dev Cert.PinReferenceIdeal.nD → PrngReg), Pre_PinReferenceIdeal m →
    θ_run (Cert.PinReferenceIdeal.defs (F := Ideal)) (onTc (τ := Cert.PinReferenceIdeal.τ) (Cert.PinReferenceIdeal.main (F := Ideal))) ⟨m, fun _ => 0, g⟩ (fun r => (∀ c : Dev Cert.PinReferenceIdeal.nD,
      r.2.mem ((c.tc : Thread Cert.PinReferenceIdeal.nD Cert.PinReferenceIdeal.τ).loc Cert.PinReferenceIdeal.main_arg0) = m ((c.tc : Thread Cert.PinReferenceIdeal.nD Cert.PinReferenceIdeal.τ).loc Cert.PinReferenceIdeal.main_arg0)
      ∧ r.2.mem ((c.tc : Thread Cert.PinReferenceIdeal.nD Cert.PinReferenceIdeal.τ).loc Cert.PinReferenceIdeal.main_arg1) = m ((c.tc : Thread Cert.PinReferenceIdeal.nD Cert.PinReferenceIdeal.τ).loc Cert.PinReferenceIdeal.main_arg1))
      ∧ r.2.sem = fun _ => 0)

def quiescent_Pout [hPout : Cert.Pout.Facts] : Prop :=
  ∀ (m : (ℓ : Loc Cert.Pout.nD Cert.Pout.τ Cert.Pout.sig) → Buf (Elt Bits) ℓ) (g : Dev Cert.Pout.nD → PrngReg), Pre_Pout m →
    θ_run (Cert.Pout.defs (F := Bits)) (onTc (τ := Cert.Pout.τ) (Cert.Pout.main (F := Bits))) ⟨m, fun _ => 0, g⟩ (fun r => (∀ c : Dev Cert.Pout.nD,
      r.2.mem ((c.tc : Thread Cert.Pout.nD Cert.Pout.τ).loc Cert.Pout.main_arg0) = m ((c.tc : Thread Cert.Pout.nD Cert.Pout.τ).loc Cert.Pout.main_arg0)
      ∧ r.2.mem ((c.tc : Thread Cert.Pout.nD Cert.Pout.τ).loc Cert.Pout.main_arg1) = m ((c.tc : Thread Cert.Pout.nD Cert.Pout.τ).loc Cert.Pout.main_arg1)
      ∧ r.2.mem ((c.tc : Thread Cert.Pout.nD Cert.Pout.τ).loc Cert.Pout.main_arg2) = m ((c.tc : Thread Cert.Pout.nD Cert.Pout.τ).loc Cert.Pout.main_arg2))
      ∧ r.2.sem = fun _ => 0)

def quiescent_PoutIdeal [hPoutIdeal : Cert.PoutIdeal.Facts] : Prop :=
  ∀ (m : (ℓ : Loc Cert.PoutIdeal.nD Cert.PoutIdeal.τ Cert.PoutIdeal.sig) → Buf (Elt Ideal) ℓ) (g : Dev Cert.PoutIdeal.nD → PrngReg), Pre_PoutIdeal m →
    θ_run (Cert.PoutIdeal.defs (F := Ideal)) (onTc (τ := Cert.PoutIdeal.τ) (Cert.PoutIdeal.main (F := Ideal))) ⟨m, fun _ => 0, g⟩ (fun r => (∀ c : Dev Cert.PoutIdeal.nD,
      r.2.mem ((c.tc : Thread Cert.PoutIdeal.nD Cert.PoutIdeal.τ).loc Cert.PoutIdeal.main_arg0) = m ((c.tc : Thread Cert.PoutIdeal.nD Cert.PoutIdeal.τ).loc Cert.PoutIdeal.main_arg0)
      ∧ r.2.mem ((c.tc : Thread Cert.PoutIdeal.nD Cert.PoutIdeal.τ).loc Cert.PoutIdeal.main_arg1) = m ((c.tc : Thread Cert.PoutIdeal.nD Cert.PoutIdeal.τ).loc Cert.PoutIdeal.main_arg1)
      ∧ r.2.mem ((c.tc : Thread Cert.PoutIdeal.nD Cert.PoutIdeal.τ).loc Cert.PoutIdeal.main_arg2) = m ((c.tc : Thread Cert.PoutIdeal.nD Cert.PoutIdeal.τ).loc Cert.PoutIdeal.main_arg2))
      ∧ r.2.sem = fun _ => 0)

def quiescent_PoutReferenceIdeal [hPoutReferenceIdeal : Cert.PoutReferenceIdeal.Facts] : Prop :=
  ∀ (m : (ℓ : Loc Cert.PoutReferenceIdeal.nD Cert.PoutReferenceIdeal.τ Cert.PoutReferenceIdeal.sig) → Buf (Elt Ideal) ℓ) (g : Dev Cert.PoutReferenceIdeal.nD → PrngReg), Pre_PoutReferenceIdeal m →
    θ_run (Cert.PoutReferenceIdeal.defs (F := Ideal)) (onTc (τ := Cert.PoutReferenceIdeal.τ) (Cert.PoutReferenceIdeal.main (F := Ideal))) ⟨m, fun _ => 0, g⟩ (fun r => (∀ c : Dev Cert.PoutReferenceIdeal.nD,
      r.2.mem ((c.tc : Thread Cert.PoutReferenceIdeal.nD Cert.PoutReferenceIdeal.τ).loc Cert.PoutReferenceIdeal.main_arg0) = m ((c.tc : Thread Cert.PoutReferenceIdeal.nD Cert.PoutReferenceIdeal.τ).loc Cert.PoutReferenceIdeal.main_arg0)
      ∧ r.2.mem ((c.tc : Thread Cert.PoutReferenceIdeal.nD Cert.PoutReferenceIdeal.τ).loc Cert.PoutReferenceIdeal.main_arg1) = m ((c.tc : Thread Cert.PoutReferenceIdeal.nD Cert.PoutReferenceIdeal.τ).loc Cert.PoutReferenceIdeal.main_arg1)
      ∧ r.2.mem ((c.tc : Thread Cert.PoutReferenceIdeal.nD Cert.PoutReferenceIdeal.τ).loc Cert.PoutReferenceIdeal.main_arg2) = m ((c.tc : Thread Cert.PoutReferenceIdeal.nD Cert.PoutReferenceIdeal.τ).loc Cert.PoutReferenceIdeal.main_arg2))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1)
      ∧ r.2.mem ((c.tc : Thread Cert.Dcat.nD Cert.Dcat.τ).loc Cert.Dcat.main_arg2) = m ((c.tc : Thread Cert.Dcat.nD Cert.Dcat.τ).loc Cert.Dcat.main_arg2)
      ∧ r.2.mem ((c.tc : Thread Cert.Dcat.nD Cert.Dcat.τ).loc Cert.Dcat.main_arg3) = m ((c.tc : Thread Cert.Dcat.nD Cert.Dcat.τ).loc Cert.Dcat.main_arg3))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1)
      ∧ r.2.mem ((c.tc : Thread Cert.DcatIdeal.nD Cert.DcatIdeal.τ).loc Cert.DcatIdeal.main_arg2) = m ((c.tc : Thread Cert.DcatIdeal.nD Cert.DcatIdeal.τ).loc Cert.DcatIdeal.main_arg2)
      ∧ r.2.mem ((c.tc : Thread Cert.DcatIdeal.nD Cert.DcatIdeal.τ).loc Cert.DcatIdeal.main_arg3) = m ((c.tc : Thread Cert.DcatIdeal.nD Cert.DcatIdeal.τ).loc Cert.DcatIdeal.main_arg3))
      ∧ r.2.sem = fun _ => 0)

def quiescent_DcatReferenceIdeal [hDcatReferenceIdeal : Cert.DcatReferenceIdeal.Facts] : Prop :=
  ∀ (m : (ℓ : Loc Cert.DcatReferenceIdeal.nD Cert.DcatReferenceIdeal.τ Cert.DcatReferenceIdeal.sig) → Buf (Elt Ideal) ℓ) (g : Dev Cert.DcatReferenceIdeal.nD → PrngReg), Pre_DcatReferenceIdeal m →
    θ_run (Cert.DcatReferenceIdeal.defs (F := Ideal)) (onTc (τ := Cert.DcatReferenceIdeal.τ) (Cert.DcatReferenceIdeal.main (F := Ideal))) ⟨m, fun _ => 0, g⟩ (fun r => (∀ c : Dev Cert.DcatReferenceIdeal.nD,
      r.2.mem ((c.tc : Thread Cert.DcatReferenceIdeal.nD Cert.DcatReferenceIdeal.τ).loc Cert.DcatReferenceIdeal.main_arg0) = m ((c.tc : Thread Cert.DcatReferenceIdeal.nD Cert.DcatReferenceIdeal.τ).loc Cert.DcatReferenceIdeal.main_arg0)
      ∧ r.2.mem ((c.tc : Thread Cert.DcatReferenceIdeal.nD Cert.DcatReferenceIdeal.τ).loc Cert.DcatReferenceIdeal.main_arg1) = m ((c.tc : Thread Cert.DcatReferenceIdeal.nD Cert.DcatReferenceIdeal.τ).loc Cert.DcatReferenceIdeal.main_arg1)
      ∧ r.2.mem ((c.tc : Thread Cert.DcatReferenceIdeal.nD Cert.DcatReferenceIdeal.τ).loc Cert.DcatReferenceIdeal.main_arg2) = m ((c.tc : Thread Cert.DcatReferenceIdeal.nD Cert.DcatReferenceIdeal.τ).loc Cert.DcatReferenceIdeal.main_arg2)
      ∧ r.2.mem ((c.tc : Thread Cert.DcatReferenceIdeal.nD Cert.DcatReferenceIdeal.τ).loc Cert.DcatReferenceIdeal.main_arg3) = m ((c.tc : Thread Cert.DcatReferenceIdeal.nD Cert.DcatReferenceIdeal.τ).loc Cert.DcatReferenceIdeal.main_arg3))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutReferenceIdeal [hDwoutReferenceIdeal : Cert.DwoutReferenceIdeal.Facts] : Prop :=
  ∀ (m : (ℓ : Loc Cert.DwoutReferenceIdeal.nD Cert.DwoutReferenceIdeal.τ Cert.DwoutReferenceIdeal.sig) → Buf (Elt Ideal) ℓ) (g : Dev Cert.DwoutReferenceIdeal.nD → PrngReg), Pre_DwoutReferenceIdeal m →
    θ_run (Cert.DwoutReferenceIdeal.defs (F := Ideal)) (onTc (τ := Cert.DwoutReferenceIdeal.τ) (Cert.DwoutReferenceIdeal.main (F := Ideal))) ⟨m, fun _ => 0, g⟩ (fun r => (∀ c : Dev Cert.DwoutReferenceIdeal.nD,
      r.2.mem ((c.tc : Thread Cert.DwoutReferenceIdeal.nD Cert.DwoutReferenceIdeal.τ).loc Cert.DwoutReferenceIdeal.main_arg0) = m ((c.tc : Thread Cert.DwoutReferenceIdeal.nD Cert.DwoutReferenceIdeal.τ).loc Cert.DwoutReferenceIdeal.main_arg0)
      ∧ r.2.mem ((c.tc : Thread Cert.DwoutReferenceIdeal.nD Cert.DwoutReferenceIdeal.τ).loc Cert.DwoutReferenceIdeal.main_arg1) = m ((c.tc : Thread Cert.DwoutReferenceIdeal.nD Cert.DwoutReferenceIdeal.τ).loc Cert.DwoutReferenceIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_Dpooled [hDpooled : Cert.Dpooled.Facts] : Prop :=
  ∀ (m : (ℓ : Loc Cert.Dpooled.nD Cert.Dpooled.τ Cert.Dpooled.sig) → Buf (Elt Bits) ℓ) (g : Dev Cert.Dpooled.nD → PrngReg), Pre_Dpooled m →
    θ_run (Cert.Dpooled.defs (F := Bits)) (onTc (τ := Cert.Dpooled.τ) (Cert.Dpooled.main (F := Bits))) ⟨m, fun _ => 0, g⟩ (fun r => (∀ c : Dev Cert.Dpooled.nD,
      r.2.mem ((c.tc : Thread Cert.Dpooled.nD Cert.Dpooled.τ).loc Cert.Dpooled.main_arg0) = m ((c.tc : Thread Cert.Dpooled.nD Cert.Dpooled.τ).loc Cert.Dpooled.main_arg0)
      ∧ r.2.mem ((c.tc : Thread Cert.Dpooled.nD Cert.Dpooled.τ).loc Cert.Dpooled.main_arg1) = m ((c.tc : Thread Cert.Dpooled.nD Cert.Dpooled.τ).loc Cert.Dpooled.main_arg1)
      ∧ r.2.mem ((c.tc : Thread Cert.Dpooled.nD Cert.Dpooled.τ).loc Cert.Dpooled.main_arg2) = m ((c.tc : Thread Cert.Dpooled.nD Cert.Dpooled.τ).loc Cert.Dpooled.main_arg2))
      ∧ r.2.sem = fun _ => 0)

def quiescent_DpooledIdeal [hDpooledIdeal : Cert.DpooledIdeal.Facts] : Prop :=
  ∀ (m : (ℓ : Loc Cert.DpooledIdeal.nD Cert.DpooledIdeal.τ Cert.DpooledIdeal.sig) → Buf (Elt Ideal) ℓ) (g : Dev Cert.DpooledIdeal.nD → PrngReg), Pre_DpooledIdeal m →
    θ_run (Cert.DpooledIdeal.defs (F := Ideal)) (onTc (τ := Cert.DpooledIdeal.τ) (Cert.DpooledIdeal.main (F := Ideal))) ⟨m, fun _ => 0, g⟩ (fun r => (∀ c : Dev Cert.DpooledIdeal.nD,
      r.2.mem ((c.tc : Thread Cert.DpooledIdeal.nD Cert.DpooledIdeal.τ).loc Cert.DpooledIdeal.main_arg0) = m ((c.tc : Thread Cert.DpooledIdeal.nD Cert.DpooledIdeal.τ).loc Cert.DpooledIdeal.main_arg0)
      ∧ r.2.mem ((c.tc : Thread Cert.DpooledIdeal.nD Cert.DpooledIdeal.τ).loc Cert.DpooledIdeal.main_arg1) = m ((c.tc : Thread Cert.DpooledIdeal.nD Cert.DpooledIdeal.τ).loc Cert.DpooledIdeal.main_arg1)
      ∧ r.2.mem ((c.tc : Thread Cert.DpooledIdeal.nD Cert.DpooledIdeal.τ).loc Cert.DpooledIdeal.main_arg2) = m ((c.tc : Thread Cert.DpooledIdeal.nD Cert.DpooledIdeal.τ).loc Cert.DpooledIdeal.main_arg2))
      ∧ r.2.sem = fun _ => 0)

def quiescent_DpooledReferenceIdeal [hDpooledReferenceIdeal : Cert.DpooledReferenceIdeal.Facts] : Prop :=
  ∀ (m : (ℓ : Loc Cert.DpooledReferenceIdeal.nD Cert.DpooledReferenceIdeal.τ Cert.DpooledReferenceIdeal.sig) → Buf (Elt Ideal) ℓ) (g : Dev Cert.DpooledReferenceIdeal.nD → PrngReg), Pre_DpooledReferenceIdeal m →
    θ_run (Cert.DpooledReferenceIdeal.defs (F := Ideal)) (onTc (τ := Cert.DpooledReferenceIdeal.τ) (Cert.DpooledReferenceIdeal.main (F := Ideal))) ⟨m, fun _ => 0, g⟩ (fun r => (∀ c : Dev Cert.DpooledReferenceIdeal.nD,
      r.2.mem ((c.tc : Thread Cert.DpooledReferenceIdeal.nD Cert.DpooledReferenceIdeal.τ).loc Cert.DpooledReferenceIdeal.main_arg0) = m ((c.tc : Thread Cert.DpooledReferenceIdeal.nD Cert.DpooledReferenceIdeal.τ).loc Cert.DpooledReferenceIdeal.main_arg0)
      ∧ r.2.mem ((c.tc : Thread Cert.DpooledReferenceIdeal.nD Cert.DpooledReferenceIdeal.τ).loc Cert.DpooledReferenceIdeal.main_arg1) = m ((c.tc : Thread Cert.DpooledReferenceIdeal.nD Cert.DpooledReferenceIdeal.τ).loc Cert.DpooledReferenceIdeal.main_arg1)
      ∧ r.2.mem ((c.tc : Thread Cert.DpooledReferenceIdeal.nD Cert.DpooledReferenceIdeal.τ).loc Cert.DpooledReferenceIdeal.main_arg2) = m ((c.tc : Thread Cert.DpooledReferenceIdeal.nD Cert.DpooledReferenceIdeal.τ).loc Cert.DpooledReferenceIdeal.main_arg2))
      ∧ r.2.sem = fun _ => 0)

def quiescent_Dwpool [hDwpool : Cert.Dwpool.Facts] : Prop :=
  ∀ (m : (ℓ : Loc Cert.Dwpool.nD Cert.Dwpool.τ Cert.Dwpool.sig) → Buf (Elt Bits) ℓ) (g : Dev Cert.Dwpool.nD → PrngReg), Pre_Dwpool m →
    θ_run (Cert.Dwpool.defs (F := Bits)) (onTc (τ := Cert.Dwpool.τ) (Cert.Dwpool.main (F := Bits))) ⟨m, fun _ => 0, g⟩ (fun r => (∀ c : Dev Cert.Dwpool.nD,
      r.2.mem ((c.tc : Thread Cert.Dwpool.nD Cert.Dwpool.τ).loc Cert.Dwpool.main_arg0) = m ((c.tc : Thread Cert.Dwpool.nD Cert.Dwpool.τ).loc Cert.Dwpool.main_arg0)
      ∧ r.2.mem ((c.tc : Thread Cert.Dwpool.nD Cert.Dwpool.τ).loc Cert.Dwpool.main_arg1) = m ((c.tc : Thread Cert.Dwpool.nD Cert.Dwpool.τ).loc Cert.Dwpool.main_arg1))
      ∧ r.2.sem = fun _ => 0)

def quiescent_DwpoolIdeal [hDwpoolIdeal : Cert.DwpoolIdeal.Facts] : Prop :=
  ∀ (m : (ℓ : Loc Cert.DwpoolIdeal.nD Cert.DwpoolIdeal.τ Cert.DwpoolIdeal.sig) → Buf (Elt Ideal) ℓ) (g : Dev Cert.DwpoolIdeal.nD → PrngReg), Pre_DwpoolIdeal m →
    θ_run (Cert.DwpoolIdeal.defs (F := Ideal)) (onTc (τ := Cert.DwpoolIdeal.τ) (Cert.DwpoolIdeal.main (F := Ideal))) ⟨m, fun _ => 0, g⟩ (fun r => (∀ c : Dev Cert.DwpoolIdeal.nD,
      r.2.mem ((c.tc : Thread Cert.DwpoolIdeal.nD Cert.DwpoolIdeal.τ).loc Cert.DwpoolIdeal.main_arg0) = m ((c.tc : Thread Cert.DwpoolIdeal.nD Cert.DwpoolIdeal.τ).loc Cert.DwpoolIdeal.main_arg0)
      ∧ r.2.mem ((c.tc : Thread Cert.DwpoolIdeal.nD Cert.DwpoolIdeal.τ).loc Cert.DwpoolIdeal.main_arg1) = m ((c.tc : Thread Cert.DwpoolIdeal.nD Cert.DwpoolIdeal.τ).loc Cert.DwpoolIdeal.main_arg1))
      ∧ r.2.sem = fun _ => 0)

def quiescent_DwpoolReferenceIdeal [hDwpoolReferenceIdeal : Cert.DwpoolReferenceIdeal.Facts] : Prop :=
  ∀ (m : (ℓ : Loc Cert.DwpoolReferenceIdeal.nD Cert.DwpoolReferenceIdeal.τ Cert.DwpoolReferenceIdeal.sig) → Buf (Elt Ideal) ℓ) (g : Dev Cert.DwpoolReferenceIdeal.nD → PrngReg), Pre_DwpoolReferenceIdeal m →
    θ_run (Cert.DwpoolReferenceIdeal.defs (F := Ideal)) (onTc (τ := Cert.DwpoolReferenceIdeal.τ) (Cert.DwpoolReferenceIdeal.main (F := Ideal))) ⟨m, fun _ => 0, g⟩ (fun r => (∀ c : Dev Cert.DwpoolReferenceIdeal.nD,
      r.2.mem ((c.tc : Thread Cert.DwpoolReferenceIdeal.nD Cert.DwpoolReferenceIdeal.τ).loc Cert.DwpoolReferenceIdeal.main_arg0) = m ((c.tc : Thread Cert.DwpoolReferenceIdeal.nD Cert.DwpoolReferenceIdeal.τ).loc Cert.DwpoolReferenceIdeal.main_arg0)
      ∧ r.2.mem ((c.tc : Thread Cert.DwpoolReferenceIdeal.nD Cert.DwpoolReferenceIdeal.τ).loc Cert.DwpoolReferenceIdeal.main_arg1) = m ((c.tc : Thread Cert.DwpoolReferenceIdeal.nD Cert.DwpoolReferenceIdeal.τ).loc Cert.DwpoolReferenceIdeal.main_arg1))
      ∧ r.2.sem = fun _ => 0)

def quiescent_Adam2 [hAdam2 : Cert.Adam2.Facts] : Prop :=
  ∀ (m : (ℓ : Loc Cert.Adam2.nD Cert.Adam2.τ Cert.Adam2.sig) → Buf (Elt Bits) ℓ) (g : Dev Cert.Adam2.nD → PrngReg), Pre_Adam2 m →
    θ_run (Cert.Adam2.defs (F := Bits)) (onTc (τ := Cert.Adam2.τ) (Cert.Adam2.main (F := Bits))) ⟨m, fun _ => 0, g⟩ (fun r => (∀ c : Dev Cert.Adam2.nD,
      r.2.mem ((c.tc : Thread Cert.Adam2.nD Cert.Adam2.τ).loc Cert.Adam2.main_arg0) = m ((c.tc : Thread Cert.Adam2.nD Cert.Adam2.τ).loc Cert.Adam2.main_arg0)
      ∧ r.2.mem ((c.tc : Thread Cert.Adam2.nD Cert.Adam2.τ).loc Cert.Adam2.main_arg1) = m ((c.tc : Thread Cert.Adam2.nD Cert.Adam2.τ).loc Cert.Adam2.main_arg1)
      ∧ r.2.mem ((c.tc : Thread Cert.Adam2.nD Cert.Adam2.τ).loc Cert.Adam2.main_arg2) = m ((c.tc : Thread Cert.Adam2.nD Cert.Adam2.τ).loc Cert.Adam2.main_arg2)
      ∧ r.2.mem ((c.tc : Thread Cert.Adam2.nD Cert.Adam2.τ).loc Cert.Adam2.main_arg3) = m ((c.tc : Thread Cert.Adam2.nD Cert.Adam2.τ).loc Cert.Adam2.main_arg3))
      ∧ r.2.sem = fun _ => 0)

def quiescent_Adam2Ideal [hAdam2Ideal : Cert.Adam2Ideal.Facts] : Prop :=
  ∀ (m : (ℓ : Loc Cert.Adam2Ideal.nD Cert.Adam2Ideal.τ Cert.Adam2Ideal.sig) → Buf (Elt Ideal) ℓ) (g : Dev Cert.Adam2Ideal.nD → PrngReg), Pre_Adam2Ideal m →
    θ_run (Cert.Adam2Ideal.defs (F := Ideal)) (onTc (τ := Cert.Adam2Ideal.τ) (Cert.Adam2Ideal.main (F := Ideal))) ⟨m, fun _ => 0, g⟩ (fun r => (∀ c : Dev Cert.Adam2Ideal.nD,
      r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
      ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
      ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
      ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ r.2.sem = fun _ => 0)

def quiescent_Adam2ReferenceIdeal [hAdam2ReferenceIdeal : Cert.Adam2ReferenceIdeal.Facts] : Prop :=
  ∀ (m : (ℓ : Loc Cert.Adam2ReferenceIdeal.nD Cert.Adam2ReferenceIdeal.τ Cert.Adam2ReferenceIdeal.sig) → Buf (Elt Ideal) ℓ) (g : Dev Cert.Adam2ReferenceIdeal.nD → PrngReg), Pre_Adam2ReferenceIdeal m →
    θ_run (Cert.Adam2ReferenceIdeal.defs (F := Ideal)) (onTc (τ := Cert.Adam2ReferenceIdeal.τ) (Cert.Adam2ReferenceIdeal.main (F := Ideal))) ⟨m, fun _ => 0, g⟩ (fun r => (∀ c : Dev Cert.Adam2ReferenceIdeal.nD,
      r.2.mem ((c.tc : Thread Cert.Adam2ReferenceIdeal.nD Cert.Adam2ReferenceIdeal.τ).loc Cert.Adam2ReferenceIdeal.main_arg0) = m ((c.tc : Thread Cert.Adam2ReferenceIdeal.nD Cert.Adam2ReferenceIdeal.τ).loc Cert.Adam2ReferenceIdeal.main_arg0)
      ∧ r.2.mem ((c.tc : Thread Cert.Adam2ReferenceIdeal.nD Cert.Adam2ReferenceIdeal.τ).loc Cert.Adam2ReferenceIdeal.main_arg1) = m ((c.tc : Thread Cert.Adam2ReferenceIdeal.nD Cert.Adam2ReferenceIdeal.τ).loc Cert.Adam2ReferenceIdeal.main_arg1)
      ∧ r.2.mem ((c.tc : Thread Cert.Adam2ReferenceIdeal.nD Cert.Adam2ReferenceIdeal.τ).loc Cert.Adam2ReferenceIdeal.main_arg2) = m ((c.tc : Thread Cert.Adam2ReferenceIdeal.nD Cert.Adam2ReferenceIdeal.τ).loc Cert.Adam2ReferenceIdeal.main_arg2)
      ∧ r.2.mem ((c.tc : Thread Cert.Adam2ReferenceIdeal.nD Cert.Adam2ReferenceIdeal.τ).loc Cert.Adam2ReferenceIdeal.main_arg3) = m ((c.tc : Thread Cert.Adam2ReferenceIdeal.nD Cert.Adam2ReferenceIdeal.τ).loc Cert.Adam2ReferenceIdeal.main_arg3))
      ∧ r.2.sem = fun _ => 0)

def quiescent_Adam1 [hAdam1 : Cert.Adam1.Facts] : Prop :=
  ∀ (m : (ℓ : Loc Cert.Adam1.nD Cert.Adam1.τ Cert.Adam1.sig) → Buf (Elt Bits) ℓ) (g : Dev Cert.Adam1.nD → PrngReg), Pre_Adam1 m →
    θ_run (Cert.Adam1.defs (F := Bits)) (onTc (τ := Cert.Adam1.τ) (Cert.Adam1.main (F := Bits))) ⟨m, fun _ => 0, g⟩ (fun r => (∀ c : Dev Cert.Adam1.nD,
      r.2.mem ((c.tc : Thread Cert.Adam1.nD Cert.Adam1.τ).loc Cert.Adam1.main_arg0) = m ((c.tc : Thread Cert.Adam1.nD Cert.Adam1.τ).loc Cert.Adam1.main_arg0)
      ∧ r.2.mem ((c.tc : Thread Cert.Adam1.nD Cert.Adam1.τ).loc Cert.Adam1.main_arg1) = m ((c.tc : Thread Cert.Adam1.nD Cert.Adam1.τ).loc Cert.Adam1.main_arg1)
      ∧ r.2.mem ((c.tc : Thread Cert.Adam1.nD Cert.Adam1.τ).loc Cert.Adam1.main_arg2) = m ((c.tc : Thread Cert.Adam1.nD Cert.Adam1.τ).loc Cert.Adam1.main_arg2)
      ∧ r.2.mem ((c.tc : Thread Cert.Adam1.nD Cert.Adam1.τ).loc Cert.Adam1.main_arg3) = m ((c.tc : Thread Cert.Adam1.nD Cert.Adam1.τ).loc Cert.Adam1.main_arg3))
      ∧ r.2.sem = fun _ => 0)

def quiescent_Adam1Ideal [hAdam1Ideal : Cert.Adam1Ideal.Facts] : Prop :=
  ∀ (m : (ℓ : Loc Cert.Adam1Ideal.nD Cert.Adam1Ideal.τ Cert.Adam1Ideal.sig) → Buf (Elt Ideal) ℓ) (g : Dev Cert.Adam1Ideal.nD → PrngReg), Pre_Adam1Ideal m →
    θ_run (Cert.Adam1Ideal.defs (F := Ideal)) (onTc (τ := Cert.Adam1Ideal.τ) (Cert.Adam1Ideal.main (F := Ideal))) ⟨m, fun _ => 0, g⟩ (fun r => (∀ c : Dev Cert.Adam1Ideal.nD,
      r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
      ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
      ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
      ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ r.2.sem = fun _ => 0)

def quiescent_Adam1ReferenceIdeal [hAdam1ReferenceIdeal : Cert.Adam1ReferenceIdeal.Facts] : Prop :=
  ∀ (m : (ℓ : Loc Cert.Adam1ReferenceIdeal.nD Cert.Adam1ReferenceIdeal.τ Cert.Adam1ReferenceIdeal.sig) → Buf (Elt Ideal) ℓ) (g : Dev Cert.Adam1ReferenceIdeal.nD → PrngReg), Pre_Adam1ReferenceIdeal m →
    θ_run (Cert.Adam1ReferenceIdeal.defs (F := Ideal)) (onTc (τ := Cert.Adam1ReferenceIdeal.τ) (Cert.Adam1ReferenceIdeal.main (F := Ideal))) ⟨m, fun _ => 0, g⟩ (fun r => (∀ c : Dev Cert.Adam1ReferenceIdeal.nD,
      r.2.mem ((c.tc : Thread Cert.Adam1ReferenceIdeal.nD Cert.Adam1ReferenceIdeal.τ).loc Cert.Adam1ReferenceIdeal.main_arg0) = m ((c.tc : Thread Cert.Adam1ReferenceIdeal.nD Cert.Adam1ReferenceIdeal.τ).loc Cert.Adam1ReferenceIdeal.main_arg0)
      ∧ r.2.mem ((c.tc : Thread Cert.Adam1ReferenceIdeal.nD Cert.Adam1ReferenceIdeal.τ).loc Cert.Adam1ReferenceIdeal.main_arg1) = m ((c.tc : Thread Cert.Adam1ReferenceIdeal.nD Cert.Adam1ReferenceIdeal.τ).loc Cert.Adam1ReferenceIdeal.main_arg1)
      ∧ r.2.mem ((c.tc : Thread Cert.Adam1ReferenceIdeal.nD Cert.Adam1ReferenceIdeal.τ).loc Cert.Adam1ReferenceIdeal.main_arg2) = m ((c.tc : Thread Cert.Adam1ReferenceIdeal.nD Cert.Adam1ReferenceIdeal.τ).loc Cert.Adam1ReferenceIdeal.main_arg2)
      ∧ r.2.mem ((c.tc : Thread Cert.Adam1ReferenceIdeal.nD Cert.Adam1ReferenceIdeal.τ).loc Cert.Adam1ReferenceIdeal.main_arg3) = m ((c.tc : Thread Cert.Adam1ReferenceIdeal.nD Cert.Adam1ReferenceIdeal.τ).loc Cert.Adam1ReferenceIdeal.main_arg3))
      ∧ r.2.sem = fun _ => 0)

def quiescent_Adamlb [hAdamlb : Cert.Adamlb.Facts] : Prop :=
  ∀ (m : (ℓ : Loc Cert.Adamlb.nD Cert.Adamlb.τ Cert.Adamlb.sig) → Buf (Elt Bits) ℓ) (g : Dev Cert.Adamlb.nD → PrngReg), Pre_Adamlb m →
    θ_run (Cert.Adamlb.defs (F := Bits)) (onTc (τ := Cert.Adamlb.τ) (Cert.Adamlb.main (F := Bits))) ⟨m, fun _ => 0, g⟩ (fun r => (∀ c : Dev Cert.Adamlb.nD,
      r.2.mem ((c.tc : Thread Cert.Adamlb.nD Cert.Adamlb.τ).loc Cert.Adamlb.main_arg0) = m ((c.tc : Thread Cert.Adamlb.nD Cert.Adamlb.τ).loc Cert.Adamlb.main_arg0)
      ∧ r.2.mem ((c.tc : Thread Cert.Adamlb.nD Cert.Adamlb.τ).loc Cert.Adamlb.main_arg1) = m ((c.tc : Thread Cert.Adamlb.nD Cert.Adamlb.τ).loc Cert.Adamlb.main_arg1)
      ∧ r.2.mem ((c.tc : Thread Cert.Adamlb.nD Cert.Adamlb.τ).loc Cert.Adamlb.main_arg2) = m ((c.tc : Thread Cert.Adamlb.nD Cert.Adamlb.τ).loc Cert.Adamlb.main_arg2)
      ∧ r.2.mem ((c.tc : Thread Cert.Adamlb.nD Cert.Adamlb.τ).loc Cert.Adamlb.main_arg3) = m ((c.tc : Thread Cert.Adamlb.nD Cert.Adamlb.τ).loc Cert.Adamlb.main_arg3))
      ∧ r.2.sem = fun _ => 0)

def quiescent_AdamlbIdeal [hAdamlbIdeal : Cert.AdamlbIdeal.Facts] : Prop :=
  ∀ (m : (ℓ : Loc Cert.AdamlbIdeal.nD Cert.AdamlbIdeal.τ Cert.AdamlbIdeal.sig) → Buf (Elt Ideal) ℓ) (g : Dev Cert.AdamlbIdeal.nD → PrngReg), Pre_AdamlbIdeal m →
    θ_run (Cert.AdamlbIdeal.defs (F := Ideal)) (onTc (τ := Cert.AdamlbIdeal.τ) (Cert.AdamlbIdeal.main (F := Ideal))) ⟨m, fun _ => 0, g⟩ (fun r => (∀ c : Dev Cert.AdamlbIdeal.nD,
      r.2.mem ((c.tc : Thread Cert.AdamlbIdeal.nD Cert.AdamlbIdeal.τ).loc Cert.AdamlbIdeal.main_arg0) = m ((c.tc : Thread Cert.AdamlbIdeal.nD Cert.AdamlbIdeal.τ).loc Cert.AdamlbIdeal.main_arg0)
      ∧ r.2.mem ((c.tc : Thread Cert.AdamlbIdeal.nD Cert.AdamlbIdeal.τ).loc Cert.AdamlbIdeal.main_arg1) = m ((c.tc : Thread Cert.AdamlbIdeal.nD Cert.AdamlbIdeal.τ).loc Cert.AdamlbIdeal.main_arg1)
      ∧ r.2.mem ((c.tc : Thread Cert.AdamlbIdeal.nD Cert.AdamlbIdeal.τ).loc Cert.AdamlbIdeal.main_arg2) = m ((c.tc : Thread Cert.AdamlbIdeal.nD Cert.AdamlbIdeal.τ).loc Cert.AdamlbIdeal.main_arg2)
      ∧ r.2.mem ((c.tc : Thread Cert.AdamlbIdeal.nD Cert.AdamlbIdeal.τ).loc Cert.AdamlbIdeal.main_arg3) = m ((c.tc : Thread Cert.AdamlbIdeal.nD Cert.AdamlbIdeal.τ).loc Cert.AdamlbIdeal.main_arg3))
      ∧ r.2.sem = fun _ => 0)

def quiescent_AdamlbReferenceIdeal [hAdamlbReferenceIdeal : Cert.AdamlbReferenceIdeal.Facts] : Prop :=
  ∀ (m : (ℓ : Loc Cert.AdamlbReferenceIdeal.nD Cert.AdamlbReferenceIdeal.τ Cert.AdamlbReferenceIdeal.sig) → Buf (Elt Ideal) ℓ) (g : Dev Cert.AdamlbReferenceIdeal.nD → PrngReg), Pre_AdamlbReferenceIdeal m →
    θ_run (Cert.AdamlbReferenceIdeal.defs (F := Ideal)) (onTc (τ := Cert.AdamlbReferenceIdeal.τ) (Cert.AdamlbReferenceIdeal.main (F := Ideal))) ⟨m, fun _ => 0, g⟩ (fun r => (∀ c : Dev Cert.AdamlbReferenceIdeal.nD,
      r.2.mem ((c.tc : Thread Cert.AdamlbReferenceIdeal.nD Cert.AdamlbReferenceIdeal.τ).loc Cert.AdamlbReferenceIdeal.main_arg0) = m ((c.tc : Thread Cert.AdamlbReferenceIdeal.nD Cert.AdamlbReferenceIdeal.τ).loc Cert.AdamlbReferenceIdeal.main_arg0)
      ∧ r.2.mem ((c.tc : Thread Cert.AdamlbReferenceIdeal.nD Cert.AdamlbReferenceIdeal.τ).loc Cert.AdamlbReferenceIdeal.main_arg1) = m ((c.tc : Thread Cert.AdamlbReferenceIdeal.nD Cert.AdamlbReferenceIdeal.τ).loc Cert.AdamlbReferenceIdeal.main_arg1)
      ∧ r.2.mem ((c.tc : Thread Cert.AdamlbReferenceIdeal.nD Cert.AdamlbReferenceIdeal.τ).loc Cert.AdamlbReferenceIdeal.main_arg2) = m ((c.tc : Thread Cert.AdamlbReferenceIdeal.nD Cert.AdamlbReferenceIdeal.τ).loc Cert.AdamlbReferenceIdeal.main_arg2)
      ∧ r.2.mem ((c.tc : Thread Cert.AdamlbReferenceIdeal.nD Cert.AdamlbReferenceIdeal.τ).loc Cert.AdamlbReferenceIdeal.main_arg3) = m ((c.tc : Thread Cert.AdamlbReferenceIdeal.nD Cert.AdamlbReferenceIdeal.τ).loc Cert.AdamlbReferenceIdeal.main_arg3))
      ∧ r.2.sem = fun _ => 0)

def quiescent_Adamhg [hAdamhg : Cert.Adamhg.Facts] : Prop :=
  ∀ (m : (ℓ : Loc Cert.Adamhg.nD Cert.Adamhg.τ Cert.Adamhg.sig) → Buf (Elt Bits) ℓ) (g : Dev Cert.Adamhg.nD → PrngReg), Pre_Adamhg m →
    θ_run (Cert.Adamhg.defs (F := Bits)) (onTc (τ := Cert.Adamhg.τ) (Cert.Adamhg.main (F := Bits))) ⟨m, fun _ => 0, g⟩ (fun r => (∀ c : Dev Cert.Adamhg.nD,
      r.2.mem ((c.tc : Thread Cert.Adamhg.nD Cert.Adamhg.τ).loc Cert.Adamhg.main_arg0) = m ((c.tc : Thread Cert.Adamhg.nD Cert.Adamhg.τ).loc Cert.Adamhg.main_arg0)
      ∧ r.2.mem ((c.tc : Thread Cert.Adamhg.nD Cert.Adamhg.τ).loc Cert.Adamhg.main_arg1) = m ((c.tc : Thread Cert.Adamhg.nD Cert.Adamhg.τ).loc Cert.Adamhg.main_arg1)
      ∧ r.2.mem ((c.tc : Thread Cert.Adamhg.nD Cert.Adamhg.τ).loc Cert.Adamhg.main_arg2) = m ((c.tc : Thread Cert.Adamhg.nD Cert.Adamhg.τ).loc Cert.Adamhg.main_arg2)
      ∧ r.2.mem ((c.tc : Thread Cert.Adamhg.nD Cert.Adamhg.τ).loc Cert.Adamhg.main_arg3) = m ((c.tc : Thread Cert.Adamhg.nD Cert.Adamhg.τ).loc Cert.Adamhg.main_arg3))
      ∧ r.2.sem = fun _ => 0)

def quiescent_AdamhgIdeal [hAdamhgIdeal : Cert.AdamhgIdeal.Facts] : Prop :=
  ∀ (m : (ℓ : Loc Cert.AdamhgIdeal.nD Cert.AdamhgIdeal.τ Cert.AdamhgIdeal.sig) → Buf (Elt Ideal) ℓ) (g : Dev Cert.AdamhgIdeal.nD → PrngReg), Pre_AdamhgIdeal m →
    θ_run (Cert.AdamhgIdeal.defs (F := Ideal)) (onTc (τ := Cert.AdamhgIdeal.τ) (Cert.AdamhgIdeal.main (F := Ideal))) ⟨m, fun _ => 0, g⟩ (fun r => (∀ c : Dev Cert.AdamhgIdeal.nD,
      r.2.mem ((c.tc : Thread Cert.AdamhgIdeal.nD Cert.AdamhgIdeal.τ).loc Cert.AdamhgIdeal.main_arg0) = m ((c.tc : Thread Cert.AdamhgIdeal.nD Cert.AdamhgIdeal.τ).loc Cert.AdamhgIdeal.main_arg0)
      ∧ r.2.mem ((c.tc : Thread Cert.AdamhgIdeal.nD Cert.AdamhgIdeal.τ).loc Cert.AdamhgIdeal.main_arg1) = m ((c.tc : Thread Cert.AdamhgIdeal.nD Cert.AdamhgIdeal.τ).loc Cert.AdamhgIdeal.main_arg1)
      ∧ r.2.mem ((c.tc : Thread Cert.AdamhgIdeal.nD Cert.AdamhgIdeal.τ).loc Cert.AdamhgIdeal.main_arg2) = m ((c.tc : Thread Cert.AdamhgIdeal.nD Cert.AdamhgIdeal.τ).loc Cert.AdamhgIdeal.main_arg2)
      ∧ r.2.mem ((c.tc : Thread Cert.AdamhgIdeal.nD Cert.AdamhgIdeal.τ).loc Cert.AdamhgIdeal.main_arg3) = m ((c.tc : Thread Cert.AdamhgIdeal.nD Cert.AdamhgIdeal.τ).loc Cert.AdamhgIdeal.main_arg3))
      ∧ r.2.sem = fun _ => 0)

def quiescent_AdamhgReferenceIdeal [hAdamhgReferenceIdeal : Cert.AdamhgReferenceIdeal.Facts] : Prop :=
  ∀ (m : (ℓ : Loc Cert.AdamhgReferenceIdeal.nD Cert.AdamhgReferenceIdeal.τ Cert.AdamhgReferenceIdeal.sig) → Buf (Elt Ideal) ℓ) (g : Dev Cert.AdamhgReferenceIdeal.nD → PrngReg), Pre_AdamhgReferenceIdeal m →
    θ_run (Cert.AdamhgReferenceIdeal.defs (F := Ideal)) (onTc (τ := Cert.AdamhgReferenceIdeal.τ) (Cert.AdamhgReferenceIdeal.main (F := Ideal))) ⟨m, fun _ => 0, g⟩ (fun r => (∀ c : Dev Cert.AdamhgReferenceIdeal.nD,
      r.2.mem ((c.tc : Thread Cert.AdamhgReferenceIdeal.nD Cert.AdamhgReferenceIdeal.τ).loc Cert.AdamhgReferenceIdeal.main_arg0) = m ((c.tc : Thread Cert.AdamhgReferenceIdeal.nD Cert.AdamhgReferenceIdeal.τ).loc Cert.AdamhgReferenceIdeal.main_arg0)
      ∧ r.2.mem ((c.tc : Thread Cert.AdamhgReferenceIdeal.nD Cert.AdamhgReferenceIdeal.τ).loc Cert.AdamhgReferenceIdeal.main_arg1) = m ((c.tc : Thread Cert.AdamhgReferenceIdeal.nD Cert.AdamhgReferenceIdeal.τ).loc Cert.AdamhgReferenceIdeal.main_arg1)
      ∧ r.2.mem ((c.tc : Thread Cert.AdamhgReferenceIdeal.nD Cert.AdamhgReferenceIdeal.τ).loc Cert.AdamhgReferenceIdeal.main_arg2) = m ((c.tc : Thread Cert.AdamhgReferenceIdeal.nD Cert.AdamhgReferenceIdeal.τ).loc Cert.AdamhgReferenceIdeal.main_arg2)
      ∧ r.2.mem ((c.tc : Thread Cert.AdamhgReferenceIdeal.nD Cert.AdamhgReferenceIdeal.τ).loc Cert.AdamhgReferenceIdeal.main_arg3) = m ((c.tc : Thread Cert.AdamhgReferenceIdeal.nD Cert.AdamhgReferenceIdeal.τ).loc Cert.AdamhgReferenceIdeal.main_arg3))
      ∧ r.2.sem = fun _ => 0)

def quiescent_Adamsc [hAdamsc : Cert.Adamsc.Facts] : Prop :=
  ∀ (m : (ℓ : Loc Cert.Adamsc.nD Cert.Adamsc.τ Cert.Adamsc.sig) → Buf (Elt Bits) ℓ) (g : Dev Cert.Adamsc.nD → PrngReg), Pre_Adamsc m →
    θ_run (Cert.Adamsc.defs (F := Bits)) (onTc (τ := Cert.Adamsc.τ) (Cert.Adamsc.main (F := Bits))) ⟨m, fun _ => 0, g⟩ (fun r => (∀ c : Dev Cert.Adamsc.nD,
      r.2.mem ((c.tc : Thread Cert.Adamsc.nD Cert.Adamsc.τ).loc Cert.Adamsc.main_arg0) = m ((c.tc : Thread Cert.Adamsc.nD Cert.Adamsc.τ).loc Cert.Adamsc.main_arg0)
      ∧ r.2.mem ((c.tc : Thread Cert.Adamsc.nD Cert.Adamsc.τ).loc Cert.Adamsc.main_arg1) = m ((c.tc : Thread Cert.Adamsc.nD Cert.Adamsc.τ).loc Cert.Adamsc.main_arg1)
      ∧ r.2.mem ((c.tc : Thread Cert.Adamsc.nD Cert.Adamsc.τ).loc Cert.Adamsc.main_arg2) = m ((c.tc : Thread Cert.Adamsc.nD Cert.Adamsc.τ).loc Cert.Adamsc.main_arg2)
      ∧ r.2.mem ((c.tc : Thread Cert.Adamsc.nD Cert.Adamsc.τ).loc Cert.Adamsc.main_arg3) = m ((c.tc : Thread Cert.Adamsc.nD Cert.Adamsc.τ).loc Cert.Adamsc.main_arg3))
      ∧ r.2.sem = fun _ => 0)

def quiescent_AdamscIdeal [hAdamscIdeal : Cert.AdamscIdeal.Facts] : Prop :=
  ∀ (m : (ℓ : Loc Cert.AdamscIdeal.nD Cert.AdamscIdeal.τ Cert.AdamscIdeal.sig) → Buf (Elt Ideal) ℓ) (g : Dev Cert.AdamscIdeal.nD → PrngReg), Pre_AdamscIdeal m →
    θ_run (Cert.AdamscIdeal.defs (F := Ideal)) (onTc (τ := Cert.AdamscIdeal.τ) (Cert.AdamscIdeal.main (F := Ideal))) ⟨m, fun _ => 0, g⟩ (fun r => (∀ c : Dev Cert.AdamscIdeal.nD,
      r.2.mem ((c.tc : Thread Cert.AdamscIdeal.nD Cert.AdamscIdeal.τ).loc Cert.AdamscIdeal.main_arg0) = m ((c.tc : Thread Cert.AdamscIdeal.nD Cert.AdamscIdeal.τ).loc Cert.AdamscIdeal.main_arg0)
      ∧ r.2.mem ((c.tc : Thread Cert.AdamscIdeal.nD Cert.AdamscIdeal.τ).loc Cert.AdamscIdeal.main_arg1) = m ((c.tc : Thread Cert.AdamscIdeal.nD Cert.AdamscIdeal.τ).loc Cert.AdamscIdeal.main_arg1)
      ∧ r.2.mem ((c.tc : Thread Cert.AdamscIdeal.nD Cert.AdamscIdeal.τ).loc Cert.AdamscIdeal.main_arg2) = m ((c.tc : Thread Cert.AdamscIdeal.nD Cert.AdamscIdeal.τ).loc Cert.AdamscIdeal.main_arg2)
      ∧ r.2.mem ((c.tc : Thread Cert.AdamscIdeal.nD Cert.AdamscIdeal.τ).loc Cert.AdamscIdeal.main_arg3) = m ((c.tc : Thread Cert.AdamscIdeal.nD Cert.AdamscIdeal.τ).loc Cert.AdamscIdeal.main_arg3))
      ∧ r.2.sem = fun _ => 0)

def quiescent_AdamscReferenceIdeal [hAdamscReferenceIdeal : Cert.AdamscReferenceIdeal.Facts] : Prop :=
  ∀ (m : (ℓ : Loc Cert.AdamscReferenceIdeal.nD Cert.AdamscReferenceIdeal.τ Cert.AdamscReferenceIdeal.sig) → Buf (Elt Ideal) ℓ) (g : Dev Cert.AdamscReferenceIdeal.nD → PrngReg), Pre_AdamscReferenceIdeal m →
    θ_run (Cert.AdamscReferenceIdeal.defs (F := Ideal)) (onTc (τ := Cert.AdamscReferenceIdeal.τ) (Cert.AdamscReferenceIdeal.main (F := Ideal))) ⟨m, fun _ => 0, g⟩ (fun r => (∀ c : Dev Cert.AdamscReferenceIdeal.nD,
      r.2.mem ((c.tc : Thread Cert.AdamscReferenceIdeal.nD Cert.AdamscReferenceIdeal.τ).loc Cert.AdamscReferenceIdeal.main_arg0) = m ((c.tc : Thread Cert.AdamscReferenceIdeal.nD Cert.AdamscReferenceIdeal.τ).loc Cert.AdamscReferenceIdeal.main_arg0)
      ∧ r.2.mem ((c.tc : Thread Cert.AdamscReferenceIdeal.nD Cert.AdamscReferenceIdeal.τ).loc Cert.AdamscReferenceIdeal.main_arg1) = m ((c.tc : Thread Cert.AdamscReferenceIdeal.nD Cert.AdamscReferenceIdeal.τ).loc Cert.AdamscReferenceIdeal.main_arg1)
      ∧ r.2.mem ((c.tc : Thread Cert.AdamscReferenceIdeal.nD Cert.AdamscReferenceIdeal.τ).loc Cert.AdamscReferenceIdeal.main_arg2) = m ((c.tc : Thread Cert.AdamscReferenceIdeal.nD Cert.AdamscReferenceIdeal.τ).loc Cert.AdamscReferenceIdeal.main_arg2)
      ∧ r.2.mem ((c.tc : Thread Cert.AdamscReferenceIdeal.nD Cert.AdamscReferenceIdeal.τ).loc Cert.AdamscReferenceIdeal.main_arg3) = m ((c.tc : Thread Cert.AdamscReferenceIdeal.nD Cert.AdamscReferenceIdeal.τ).loc Cert.AdamscReferenceIdeal.main_arg3))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gate_GateIdeal : Prop :=
  True

def algebraic_GateIdeal_GateReferenceIdeal_pre_finite_dact [hGateIdeal : Cert.GateIdeal.Facts] [hGateReferenceIdeal : Cert.GateReferenceIdeal.Facts] [hPre_finite_dact : Cert.Pre_finite_dact.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_finite_dact m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v7_0)) (v1 : (c : Dev Cert.GateIdeal.nD) → Buf (Elt Ideal) ((c.tc : Thread Cert.GateIdeal.nD Cert.GateIdeal.τ).loc Cert.GateIdeal.main_v7_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v7_0) = v0 c
          ∧ r.2.mem ((c.tc : Thread Cert.GateIdeal.nD Cert.GateIdeal.τ).loc Cert.GateIdeal.main_v7_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v9) = v0 c
          ∧ r.2.mem ((c.tc : Thread Cert.GateReferenceIdeal.nD Cert.GateReferenceIdeal.τ).loc Cert.GateReferenceIdeal.main_v10) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)
      ∧ m' ((c.tc : Thread Cert.DhReferenceIdeal.nD Cert.DhReferenceIdeal.τ).loc Cert.DhReferenceIdeal.main_arg3) = m ((c.tc : Thread Cert.DhIdeal.nD Cert.DhIdeal.τ).loc Cert.DhIdeal.main_arg3)
      ∧ m' ((c.tc : Thread Cert.DhReferenceIdeal.nD Cert.DhReferenceIdeal.τ).loc Cert.DhReferenceIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v15)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v15) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v11) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v5_0)) (v1 : (c : Dev Cert.UpIdeal.nD) → Buf (Elt Ideal) ((c.tc : Thread Cert.UpIdeal.nD Cert.UpIdeal.τ).loc Cert.UpIdeal.main_v5_1)) (v2 : (c : Dev Cert.UpIdeal.nD) → Buf (Elt Ideal) ((c.tc : Thread Cert.UpIdeal.nD Cert.UpIdeal.τ).loc Cert.UpIdeal.main_v5_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5_0) = v0 c
          ∧ r.2.mem ((c.tc : Thread Cert.UpIdeal.nD Cert.UpIdeal.τ).loc Cert.UpIdeal.main_v5_1) = v1 c
          ∧ r.2.mem ((c.tc : Thread Cert.UpIdeal.nD Cert.UpIdeal.τ).loc Cert.UpIdeal.main_v5_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_v3) = v1 c
          ∧ r.2.mem ((c.tc : Thread Cert.UpReferenceIdeal.nD Cert.UpReferenceIdeal.τ).loc Cert.UpReferenceIdeal.main_v6) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)
      ∧ m' ((c.tc : Thread Cert.DwReferenceIdeal.nD Cert.DwReferenceIdeal.τ).loc Cert.DwReferenceIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v10) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2))

def preserves_Dwin_DwinIdeal : Prop :=
  True

def algebraic_DwinIdeal_DwinReferenceIdeal [hDwinIdeal : Cert.DwinIdeal.Facts] [hDwinReferenceIdeal : Cert.DwinReferenceIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinIdeal m →
    (∀ c : Dev Cert.DwinIdeal.nD,
      m' ((c.tc : Thread Cert.DwinReferenceIdeal.nD Cert.DwinReferenceIdeal.τ).loc Cert.DwinReferenceIdeal.main_arg0) = m ((c.tc : Thread Cert.DwinIdeal.nD Cert.DwinIdeal.τ).loc Cert.DwinIdeal.main_arg0)
      ∧ m' ((c.tc : Thread Cert.DwinReferenceIdeal.nD Cert.DwinReferenceIdeal.τ).loc Cert.DwinReferenceIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v2)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v2) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v5) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1))

def preserves_Dwd_DwdIdeal : Prop :=
  True

def algebraic_DwdIdeal_DwdReferenceIdeal [hDwdIdeal : Cert.DwdIdeal.Facts] [hDwdReferenceIdeal : Cert.DwdReferenceIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdIdeal m →
    (∀ c : Dev Cert.DwdIdeal.nD,
      m' ((c.tc : Thread Cert.DwdReferenceIdeal.nD Cert.DwdReferenceIdeal.τ).loc Cert.DwdReferenceIdeal.main_arg0) = m ((c.tc : Thread Cert.DwdIdeal.nD Cert.DwdIdeal.τ).loc Cert.DwdIdeal.main_arg0)
      ∧ m' ((c.tc : Thread Cert.DwdReferenceIdeal.nD Cert.DwdReferenceIdeal.τ).loc Cert.DwdReferenceIdeal.main_arg1) = m ((c.tc : Thread Cert.DwdIdeal.nD Cert.DwdIdeal.τ).loc Cert.DwdIdeal.main_arg1)
      ∧ m' ((c.tc : Thread Cert.DwdReferenceIdeal.nD Cert.DwdReferenceIdeal.τ).loc Cert.DwdReferenceIdeal.main_arg2) = m ((c.tc : Thread Cert.DwdIdeal.nD Cert.DwdIdeal.τ).loc Cert.DwdIdeal.main_arg2)) →
    ∃ (v0 : (c : Dev Cert.DwdIdeal.nD) → Buf (Elt Ideal) ((c.tc : Thread Cert.DwdIdeal.nD Cert.DwdIdeal.τ).loc Cert.DwdIdeal.main_v2)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v2) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
          ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v10) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1)
          ∧ r.2.mem ((c.tc : Thread Cert.DwdReferenceIdeal.nD Cert.DwdReferenceIdeal.τ).loc Cert.DwdReferenceIdeal.main_arg2) = m' ((c.tc : Thread Cert.DwdReferenceIdeal.nD Cert.DwdReferenceIdeal.τ).loc Cert.DwdReferenceIdeal.main_arg2))

def preserves_Din_DinIdeal : Prop :=
  True

def algebraic_DinIdeal_DinReferenceIdeal [hDinIdeal : Cert.DinIdeal.Facts] [hDinReferenceIdeal : Cert.DinReferenceIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinReferenceIdeal.nD Cert.DinReferenceIdeal.τ Cert.DinReferenceIdeal.sig) → Buf (Elt Ideal) ℓ) (g' : Dev Cert.DinReferenceIdeal.nD → PrngReg), Pre_DinIdeal m →
    (∀ c : Dev Cert.DinIdeal.nD,
      m' ((c.tc : Thread Cert.DinReferenceIdeal.nD Cert.DinReferenceIdeal.τ).loc Cert.DinReferenceIdeal.main_arg0) = m ((c.tc : Thread Cert.DinIdeal.nD Cert.DinIdeal.τ).loc Cert.DinIdeal.main_arg0)
      ∧ m' ((c.tc : Thread Cert.DinReferenceIdeal.nD Cert.DinReferenceIdeal.τ).loc Cert.DinReferenceIdeal.main_arg1) = m ((c.tc : Thread Cert.DinIdeal.nD Cert.DinIdeal.τ).loc Cert.DinIdeal.main_arg1)
      ∧ m' ((c.tc : Thread Cert.DinReferenceIdeal.nD Cert.DinReferenceIdeal.τ).loc Cert.DinReferenceIdeal.main_arg2) = m ((c.tc : Thread Cert.DinIdeal.nD Cert.DinIdeal.τ).loc Cert.DinIdeal.main_arg2)) →
    ∃ (v0 : (c : Dev Cert.DinIdeal.nD) → Buf (Elt Ideal) ((c.tc : Thread Cert.DinIdeal.nD Cert.DinIdeal.τ).loc Cert.DinIdeal.main_v3)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v3) = v0 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2))
      ∧ θ_run (Cert.DinReferenceIdeal.defs (F := Ideal)) (onTc (τ := Cert.DinReferenceIdeal.τ) (Cert.DinReferenceIdeal.main (F := Ideal))) ⟨m', fun _ => 0, g'⟩ (fun r => ∀ c : Dev Cert.DinReferenceIdeal.nD,
          r.2.mem ((c.tc : Thread Cert.DinReferenceIdeal.nD Cert.DinReferenceIdeal.τ).loc Cert.DinReferenceIdeal.main_v1) = v0 c
          ∧ r.2.mem ((c.tc : Thread Cert.DinReferenceIdeal.nD Cert.DinReferenceIdeal.τ).loc Cert.DinReferenceIdeal.main_arg0) = m' ((c.tc : Thread Cert.DinReferenceIdeal.nD Cert.DinReferenceIdeal.τ).loc Cert.DinReferenceIdeal.main_arg0)
          ∧ r.2.mem ((c.tc : Thread Cert.DinReferenceIdeal.nD Cert.DinReferenceIdeal.τ).loc Cert.DinReferenceIdeal.main_arg1) = m' ((c.tc : Thread Cert.DinReferenceIdeal.nD Cert.DinReferenceIdeal.τ).loc Cert.DinReferenceIdeal.main_arg1)
          ∧ r.2.mem ((c.tc : Thread Cert.DinReferenceIdeal.nD Cert.DinReferenceIdeal.τ).loc Cert.DinReferenceIdeal.main_arg2) = m' ((c.tc : Thread Cert.DinReferenceIdeal.nD Cert.DinReferenceIdeal.τ).loc Cert.DinReferenceIdeal.main_arg2))

def preserves_Pin_PinIdeal : Prop :=
  True

def algebraic_PinIdeal_PinReferenceIdeal [hPinIdeal : Cert.PinIdeal.Facts] [hPinReferenceIdeal : Cert.PinReferenceIdeal.Facts] : Prop :=
  ∀ (m : (ℓ : Loc Cert.PinIdeal.nD Cert.PinIdeal.τ Cert.PinIdeal.sig) → Buf (Elt Ideal) ℓ) (g : Dev Cert.PinIdeal.nD → PrngReg)
    (m' : (ℓ : Loc Cert.PinReferenceIdeal.nD Cert.PinReferenceIdeal.τ Cert.PinReferenceIdeal.sig) → Buf (Elt Ideal) ℓ) (g' : Dev Cert.PinReferenceIdeal.nD → PrngReg), Pre_PinIdeal m →
    (∀ c : Dev Cert.PinIdeal.nD,
      m' ((c.tc : Thread Cert.PinReferenceIdeal.nD Cert.PinReferenceIdeal.τ).loc Cert.PinReferenceIdeal.main_arg0) = m ((c.tc : Thread Cert.PinIdeal.nD Cert.PinIdeal.τ).loc Cert.PinIdeal.main_arg0)
      ∧ m' ((c.tc : Thread Cert.PinReferenceIdeal.nD Cert.PinReferenceIdeal.τ).loc Cert.PinReferenceIdeal.main_arg1) = m ((c.tc : Thread Cert.PinIdeal.nD Cert.PinIdeal.τ).loc Cert.PinIdeal.main_arg1)) →
    ∃ (v0 : (c : Dev Cert.PinIdeal.nD) → Buf (Elt Ideal) ((c.tc : Thread Cert.PinIdeal.nD Cert.PinIdeal.τ).loc Cert.PinIdeal.main_v3_0)) (v1 : (c : Dev Cert.PinIdeal.nD) → Buf (Elt Ideal) ((c.tc : Thread Cert.PinIdeal.nD Cert.PinIdeal.τ).loc Cert.PinIdeal.main_v3_1)),
      θ_run (Cert.PinIdeal.defs (F := Ideal)) (onTc (τ := Cert.PinIdeal.τ) (Cert.PinIdeal.main (F := Ideal))) ⟨m, fun _ => 0, g⟩ (fun r => ∀ c : Dev Cert.PinIdeal.nD,
          r.2.mem ((c.tc : Thread Cert.PinIdeal.nD Cert.PinIdeal.τ).loc Cert.PinIdeal.main_v3_0) = v0 c
          ∧ r.2.mem ((c.tc : Thread Cert.PinIdeal.nD Cert.PinIdeal.τ).loc Cert.PinIdeal.main_v3_1) = v1 c
          ∧ r.2.mem ((c.tc : Thread Cert.PinIdeal.nD Cert.PinIdeal.τ).loc Cert.PinIdeal.main_arg0) = m ((c.tc : Thread Cert.PinIdeal.nD Cert.PinIdeal.τ).loc Cert.PinIdeal.main_arg0)
          ∧ r.2.mem ((c.tc : Thread Cert.PinIdeal.nD Cert.PinIdeal.τ).loc Cert.PinIdeal.main_arg1) = m ((c.tc : Thread Cert.PinIdeal.nD Cert.PinIdeal.τ).loc Cert.PinIdeal.main_arg1))
      ∧ θ_run (Cert.PinReferenceIdeal.defs (F := Ideal)) (onTc (τ := Cert.PinReferenceIdeal.τ) (Cert.PinReferenceIdeal.main (F := Ideal))) ⟨m', fun _ => 0, g'⟩ (fun r => ∀ c : Dev Cert.PinReferenceIdeal.nD,
          r.2.mem ((c.tc : Thread Cert.PinReferenceIdeal.nD Cert.PinReferenceIdeal.τ).loc Cert.PinReferenceIdeal.main_v0) = v0 c
          ∧ r.2.mem ((c.tc : Thread Cert.PinReferenceIdeal.nD Cert.PinReferenceIdeal.τ).loc Cert.PinReferenceIdeal.main_v1) = v1 c
          ∧ r.2.mem ((c.tc : Thread Cert.PinReferenceIdeal.nD Cert.PinReferenceIdeal.τ).loc Cert.PinReferenceIdeal.main_arg0) = m' ((c.tc : Thread Cert.PinReferenceIdeal.nD Cert.PinReferenceIdeal.τ).loc Cert.PinReferenceIdeal.main_arg0)
          ∧ r.2.mem ((c.tc : Thread Cert.PinReferenceIdeal.nD Cert.PinReferenceIdeal.τ).loc Cert.PinReferenceIdeal.main_arg1) = m' ((c.tc : Thread Cert.PinReferenceIdeal.nD Cert.PinReferenceIdeal.τ).loc Cert.PinReferenceIdeal.main_arg1))

def preserves_Pout_PoutIdeal : Prop :=
  True

def algebraic_PoutIdeal_PoutReferenceIdeal [hPoutIdeal : Cert.PoutIdeal.Facts] [hPoutReferenceIdeal : Cert.PoutReferenceIdeal.Facts] : Prop :=
  ∀ (m : (ℓ : Loc Cert.PoutIdeal.nD Cert.PoutIdeal.τ Cert.PoutIdeal.sig) → Buf (Elt Ideal) ℓ) (g : Dev Cert.PoutIdeal.nD → PrngReg)
    (m' : (ℓ : Loc Cert.PoutReferenceIdeal.nD Cert.PoutReferenceIdeal.τ Cert.PoutReferenceIdeal.sig) → Buf (Elt Ideal) ℓ) (g' : Dev Cert.PoutReferenceIdeal.nD → PrngReg), Pre_PoutIdeal m →
    (∀ c : Dev Cert.PoutIdeal.nD,
      m' ((c.tc : Thread Cert.PoutReferenceIdeal.nD Cert.PoutReferenceIdeal.τ).loc Cert.PoutReferenceIdeal.main_arg0) = m ((c.tc : Thread Cert.PoutIdeal.nD Cert.PoutIdeal.τ).loc Cert.PoutIdeal.main_arg0)
      ∧ m' ((c.tc : Thread Cert.PoutReferenceIdeal.nD Cert.PoutReferenceIdeal.τ).loc Cert.PoutReferenceIdeal.main_arg1) = m ((c.tc : Thread Cert.PoutIdeal.nD Cert.PoutIdeal.τ).loc Cert.PoutIdeal.main_arg1)
      ∧ m' ((c.tc : Thread Cert.PoutReferenceIdeal.nD Cert.PoutReferenceIdeal.τ).loc Cert.PoutReferenceIdeal.main_arg2) = m ((c.tc : Thread Cert.PoutIdeal.nD Cert.PoutIdeal.τ).loc Cert.PoutIdeal.main_arg2)) →
    ∃ (v0 : (c : Dev Cert.PoutIdeal.nD) → Buf (Elt Ideal) ((c.tc : Thread Cert.PoutIdeal.nD Cert.PoutIdeal.τ).loc Cert.PoutIdeal.main_v3)),
      θ_run (Cert.PoutIdeal.defs (F := Ideal)) (onTc (τ := Cert.PoutIdeal.τ) (Cert.PoutIdeal.main (F := Ideal))) ⟨m, fun _ => 0, g⟩ (fun r => ∀ c : Dev Cert.PoutIdeal.nD,
          r.2.mem ((c.tc : Thread Cert.PoutIdeal.nD Cert.PoutIdeal.τ).loc Cert.PoutIdeal.main_v3) = v0 c
          ∧ r.2.mem ((c.tc : Thread Cert.PoutIdeal.nD Cert.PoutIdeal.τ).loc Cert.PoutIdeal.main_arg0) = m ((c.tc : Thread Cert.PoutIdeal.nD Cert.PoutIdeal.τ).loc Cert.PoutIdeal.main_arg0)
          ∧ r.2.mem ((c.tc : Thread Cert.PoutIdeal.nD Cert.PoutIdeal.τ).loc Cert.PoutIdeal.main_arg1) = m ((c.tc : Thread Cert.PoutIdeal.nD Cert.PoutIdeal.τ).loc Cert.PoutIdeal.main_arg1)
          ∧ r.2.mem ((c.tc : Thread Cert.PoutIdeal.nD Cert.PoutIdeal.τ).loc Cert.PoutIdeal.main_arg2) = m ((c.tc : Thread Cert.PoutIdeal.nD Cert.PoutIdeal.τ).loc Cert.PoutIdeal.main_arg2))
      ∧ θ_run (Cert.PoutReferenceIdeal.defs (F := Ideal)) (onTc (τ := Cert.PoutReferenceIdeal.τ) (Cert.PoutReferenceIdeal.main (F := Ideal))) ⟨m', fun _ => 0, g'⟩ (fun r => ∀ c : Dev Cert.PoutReferenceIdeal.nD,
          r.2.mem ((c.tc : Thread Cert.PoutReferenceIdeal.nD Cert.PoutReferenceIdeal.τ).loc Cert.PoutReferenceIdeal.main_v1) = v0 c
          ∧ r.2.mem ((c.tc : Thread Cert.PoutReferenceIdeal.nD Cert.PoutReferenceIdeal.τ).loc Cert.PoutReferenceIdeal.main_arg0) = m' ((c.tc : Thread Cert.PoutReferenceIdeal.nD Cert.PoutReferenceIdeal.τ).loc Cert.PoutReferenceIdeal.main_arg0)
          ∧ r.2.mem ((c.tc : Thread Cert.PoutReferenceIdeal.nD Cert.PoutReferenceIdeal.τ).loc Cert.PoutReferenceIdeal.main_arg1) = m' ((c.tc : Thread Cert.PoutReferenceIdeal.nD Cert.PoutReferenceIdeal.τ).loc Cert.PoutReferenceIdeal.main_arg1)
          ∧ r.2.mem ((c.tc : Thread Cert.PoutReferenceIdeal.nD Cert.PoutReferenceIdeal.τ).loc Cert.PoutReferenceIdeal.main_arg2) = m' ((c.tc : Thread Cert.PoutReferenceIdeal.nD Cert.PoutReferenceIdeal.τ).loc Cert.PoutReferenceIdeal.main_arg2))

def preserves_Dcat_DcatIdeal : Prop :=
  True

def algebraic_DcatIdeal_DcatReferenceIdeal [hDcatIdeal : Cert.DcatIdeal.Facts] [hDcatReferenceIdeal : Cert.DcatReferenceIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatReferenceIdeal.nD Cert.DcatReferenceIdeal.τ Cert.DcatReferenceIdeal.sig) → Buf (Elt Ideal) ℓ) (g' : Dev Cert.DcatReferenceIdeal.nD → PrngReg), Pre_DcatIdeal m →
    (∀ c : Dev Cert.DcatIdeal.nD,
      m' ((c.tc : Thread Cert.DcatReferenceIdeal.nD Cert.DcatReferenceIdeal.τ).loc Cert.DcatReferenceIdeal.main_arg0) = m ((c.tc : Thread Cert.DcatIdeal.nD Cert.DcatIdeal.τ).loc Cert.DcatIdeal.main_arg0)
      ∧ m' ((c.tc : Thread Cert.DcatReferenceIdeal.nD Cert.DcatReferenceIdeal.τ).loc Cert.DcatReferenceIdeal.main_arg1) = m ((c.tc : Thread Cert.DcatIdeal.nD Cert.DcatIdeal.τ).loc Cert.DcatIdeal.main_arg1)
      ∧ m' ((c.tc : Thread Cert.DcatReferenceIdeal.nD Cert.DcatReferenceIdeal.τ).loc Cert.DcatReferenceIdeal.main_arg2) = m ((c.tc : Thread Cert.DcatIdeal.nD Cert.DcatIdeal.τ).loc Cert.DcatIdeal.main_arg2)
      ∧ m' ((c.tc : Thread Cert.DcatReferenceIdeal.nD Cert.DcatReferenceIdeal.τ).loc Cert.DcatReferenceIdeal.main_arg3) = m ((c.tc : Thread Cert.DcatIdeal.nD Cert.DcatIdeal.τ).loc Cert.DcatIdeal.main_arg3)) →
    ∃ (v0 : (c : Dev Cert.DcatIdeal.nD) → Buf (Elt Ideal) ((c.tc : Thread Cert.DcatIdeal.nD Cert.DcatIdeal.τ).loc Cert.DcatIdeal.main_v3)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v3) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1)
          ∧ r.2.mem ((c.tc : Thread Cert.DcatIdeal.nD Cert.DcatIdeal.τ).loc Cert.DcatIdeal.main_arg2) = m ((c.tc : Thread Cert.DcatIdeal.nD Cert.DcatIdeal.τ).loc Cert.DcatIdeal.main_arg2)
          ∧ r.2.mem ((c.tc : Thread Cert.DcatIdeal.nD Cert.DcatIdeal.τ).loc Cert.DcatIdeal.main_arg3) = m ((c.tc : Thread Cert.DcatIdeal.nD Cert.DcatIdeal.τ).loc Cert.DcatIdeal.main_arg3))
      ∧ θ_run (Cert.DcatReferenceIdeal.defs (F := Ideal)) (onTc (τ := Cert.DcatReferenceIdeal.τ) (Cert.DcatReferenceIdeal.main (F := Ideal))) ⟨m', fun _ => 0, g'⟩ (fun r => ∀ c : Dev Cert.DcatReferenceIdeal.nD,
          r.2.mem ((c.tc : Thread Cert.DcatReferenceIdeal.nD Cert.DcatReferenceIdeal.τ).loc Cert.DcatReferenceIdeal.main_v2) = v0 c
          ∧ r.2.mem ((c.tc : Thread Cert.DcatReferenceIdeal.nD Cert.DcatReferenceIdeal.τ).loc Cert.DcatReferenceIdeal.main_arg0) = m' ((c.tc : Thread Cert.DcatReferenceIdeal.nD Cert.DcatReferenceIdeal.τ).loc Cert.DcatReferenceIdeal.main_arg0)
          ∧ r.2.mem ((c.tc : Thread Cert.DcatReferenceIdeal.nD Cert.DcatReferenceIdeal.τ).loc Cert.DcatReferenceIdeal.main_arg1) = m' ((c.tc : Thread Cert.DcatReferenceIdeal.nD Cert.DcatReferenceIdeal.τ).loc Cert.DcatReferenceIdeal.main_arg1)
          ∧ r.2.mem ((c.tc : Thread Cert.DcatReferenceIdeal.nD Cert.DcatReferenceIdeal.τ).loc Cert.DcatReferenceIdeal.main_arg2) = m' ((c.tc : Thread Cert.DcatReferenceIdeal.nD Cert.DcatReferenceIdeal.τ).loc Cert.DcatReferenceIdeal.main_arg2)
          ∧ r.2.mem ((c.tc : Thread Cert.DcatReferenceIdeal.nD Cert.DcatReferenceIdeal.τ).loc Cert.DcatReferenceIdeal.main_arg3) = m' ((c.tc : Thread Cert.DcatReferenceIdeal.nD Cert.DcatReferenceIdeal.τ).loc Cert.DcatReferenceIdeal.main_arg3))

def preserves_Dwout_DwoutIdeal : Prop :=
  True

def algebraic_DwoutIdeal_DwoutReferenceIdeal [hDwoutIdeal : Cert.DwoutIdeal.Facts] [hDwoutReferenceIdeal : Cert.DwoutReferenceIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutReferenceIdeal.nD Cert.DwoutReferenceIdeal.τ Cert.DwoutReferenceIdeal.sig) → Buf (Elt Ideal) ℓ) (g' : Dev Cert.DwoutReferenceIdeal.nD → PrngReg), Pre_DwoutIdeal m →
    (∀ c : Dev Cert.DwoutIdeal.nD,
      m' ((c.tc : Thread Cert.DwoutReferenceIdeal.nD Cert.DwoutReferenceIdeal.τ).loc Cert.DwoutReferenceIdeal.main_arg0) = m ((c.tc : Thread Cert.DwoutIdeal.nD Cert.DwoutIdeal.τ).loc Cert.DwoutIdeal.main_arg0)
      ∧ m' ((c.tc : Thread Cert.DwoutReferenceIdeal.nD Cert.DwoutReferenceIdeal.τ).loc Cert.DwoutReferenceIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v2) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutReferenceIdeal.defs (F := Ideal)) (onTc (τ := Cert.DwoutReferenceIdeal.τ) (Cert.DwoutReferenceIdeal.main (F := Ideal))) ⟨m', fun _ => 0, g'⟩ (fun r => ∀ c : Dev Cert.DwoutReferenceIdeal.nD,
          r.2.mem ((c.tc : Thread Cert.DwoutReferenceIdeal.nD Cert.DwoutReferenceIdeal.τ).loc Cert.DwoutReferenceIdeal.main_v4) = v0 c
          ∧ r.2.mem ((c.tc : Thread Cert.DwoutReferenceIdeal.nD Cert.DwoutReferenceIdeal.τ).loc Cert.DwoutReferenceIdeal.main_arg0) = m' ((c.tc : Thread Cert.DwoutReferenceIdeal.nD Cert.DwoutReferenceIdeal.τ).loc Cert.DwoutReferenceIdeal.main_arg0)
          ∧ r.2.mem ((c.tc : Thread Cert.DwoutReferenceIdeal.nD Cert.DwoutReferenceIdeal.τ).loc Cert.DwoutReferenceIdeal.main_arg1) = m' ((c.tc : Thread Cert.DwoutReferenceIdeal.nD Cert.DwoutReferenceIdeal.τ).loc Cert.DwoutReferenceIdeal.main_arg1))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v2_0)) (v1 : (c : Dev Cert.PoolIdeal.nD) → Buf (Elt Ideal) ((c.tc : Thread Cert.PoolIdeal.nD Cert.PoolIdeal.τ).loc Cert.PoolIdeal.main_v2_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_0) = v0 c
          ∧ r.2.mem ((c.tc : Thread Cert.PoolIdeal.nD Cert.PoolIdeal.τ).loc Cert.PoolIdeal.main_v2_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v6) = v0 c
          ∧ r.2.mem ((c.tc : Thread Cert.PoolReferenceIdeal.nD Cert.PoolReferenceIdeal.τ).loc Cert.PoolReferenceIdeal.main_v3) = v1 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_Dpooled_DpooledIdeal : Prop :=
  True

def algebraic_DpooledIdeal_DpooledReferenceIdeal [hDpooledIdeal : Cert.DpooledIdeal.Facts] [hDpooledReferenceIdeal : Cert.DpooledReferenceIdeal.Facts] : Prop :=
  ∀ (m : (ℓ : Loc Cert.DpooledIdeal.nD Cert.DpooledIdeal.τ Cert.DpooledIdeal.sig) → Buf (Elt Ideal) ℓ) (g : Dev Cert.DpooledIdeal.nD → PrngReg)
    (m' : (ℓ : Loc Cert.DpooledReferenceIdeal.nD Cert.DpooledReferenceIdeal.τ Cert.DpooledReferenceIdeal.sig) → Buf (Elt Ideal) ℓ) (g' : Dev Cert.DpooledReferenceIdeal.nD → PrngReg), Pre_DpooledIdeal m →
    (∀ c : Dev Cert.DpooledIdeal.nD,
      m' ((c.tc : Thread Cert.DpooledReferenceIdeal.nD Cert.DpooledReferenceIdeal.τ).loc Cert.DpooledReferenceIdeal.main_arg0) = m ((c.tc : Thread Cert.DpooledIdeal.nD Cert.DpooledIdeal.τ).loc Cert.DpooledIdeal.main_arg0)
      ∧ m' ((c.tc : Thread Cert.DpooledReferenceIdeal.nD Cert.DpooledReferenceIdeal.τ).loc Cert.DpooledReferenceIdeal.main_arg1) = m ((c.tc : Thread Cert.DpooledIdeal.nD Cert.DpooledIdeal.τ).loc Cert.DpooledIdeal.main_arg1)
      ∧ m' ((c.tc : Thread Cert.DpooledReferenceIdeal.nD Cert.DpooledReferenceIdeal.τ).loc Cert.DpooledReferenceIdeal.main_arg2) = m ((c.tc : Thread Cert.DpooledIdeal.nD Cert.DpooledIdeal.τ).loc Cert.DpooledIdeal.main_arg2)) →
    ∃ (v0 : (c : Dev Cert.DpooledIdeal.nD) → Buf (Elt Ideal) ((c.tc : Thread Cert.DpooledIdeal.nD Cert.DpooledIdeal.τ).loc Cert.DpooledIdeal.main_v2)),
      θ_run (Cert.DpooledIdeal.defs (F := Ideal)) (onTc (τ := Cert.DpooledIdeal.τ) (Cert.DpooledIdeal.main (F := Ideal))) ⟨m, fun _ => 0, g⟩ (fun r => ∀ c : Dev Cert.DpooledIdeal.nD,
          r.2.mem ((c.tc : Thread Cert.DpooledIdeal.nD Cert.DpooledIdeal.τ).loc Cert.DpooledIdeal.main_v2) = v0 c
          ∧ r.2.mem ((c.tc : Thread Cert.DpooledIdeal.nD Cert.DpooledIdeal.τ).loc Cert.DpooledIdeal.main_arg0) = m ((c.tc : Thread Cert.DpooledIdeal.nD Cert.DpooledIdeal.τ).loc Cert.DpooledIdeal.main_arg0)
          ∧ r.2.mem ((c.tc : Thread Cert.DpooledIdeal.nD Cert.DpooledIdeal.τ).loc Cert.DpooledIdeal.main_arg1) = m ((c.tc : Thread Cert.DpooledIdeal.nD Cert.DpooledIdeal.τ).loc Cert.DpooledIdeal.main_arg1)
          ∧ r.2.mem ((c.tc : Thread Cert.DpooledIdeal.nD Cert.DpooledIdeal.τ).loc Cert.DpooledIdeal.main_arg2) = m ((c.tc : Thread Cert.DpooledIdeal.nD Cert.DpooledIdeal.τ).loc Cert.DpooledIdeal.main_arg2))
      ∧ θ_run (Cert.DpooledReferenceIdeal.defs (F := Ideal)) (onTc (τ := Cert.DpooledReferenceIdeal.τ) (Cert.DpooledReferenceIdeal.main (F := Ideal))) ⟨m', fun _ => 0, g'⟩ (fun r => ∀ c : Dev Cert.DpooledReferenceIdeal.nD,
          r.2.mem ((c.tc : Thread Cert.DpooledReferenceIdeal.nD Cert.DpooledReferenceIdeal.τ).loc Cert.DpooledReferenceIdeal.main_v11) = v0 c
          ∧ r.2.mem ((c.tc : Thread Cert.DpooledReferenceIdeal.nD Cert.DpooledReferenceIdeal.τ).loc Cert.DpooledReferenceIdeal.main_arg0) = m' ((c.tc : Thread Cert.DpooledReferenceIdeal.nD Cert.DpooledReferenceIdeal.τ).loc Cert.DpooledReferenceIdeal.main_arg0)
          ∧ r.2.mem ((c.tc : Thread Cert.DpooledReferenceIdeal.nD Cert.DpooledReferenceIdeal.τ).loc Cert.DpooledReferenceIdeal.main_arg1) = m' ((c.tc : Thread Cert.DpooledReferenceIdeal.nD Cert.DpooledReferenceIdeal.τ).loc Cert.DpooledReferenceIdeal.main_arg1)
          ∧ r.2.mem ((c.tc : Thread Cert.DpooledReferenceIdeal.nD Cert.DpooledReferenceIdeal.τ).loc Cert.DpooledReferenceIdeal.main_arg2) = m' ((c.tc : Thread Cert.DpooledReferenceIdeal.nD Cert.DpooledReferenceIdeal.τ).loc Cert.DpooledReferenceIdeal.main_arg2))

def preserves_Dwpool_DwpoolIdeal : Prop :=
  True

def algebraic_DwpoolIdeal_DwpoolReferenceIdeal [hDwpoolIdeal : Cert.DwpoolIdeal.Facts] [hDwpoolReferenceIdeal : Cert.DwpoolReferenceIdeal.Facts] : Prop :=
  ∀ (m : (ℓ : Loc Cert.DwpoolIdeal.nD Cert.DwpoolIdeal.τ Cert.DwpoolIdeal.sig) → Buf (Elt Ideal) ℓ) (g : Dev Cert.DwpoolIdeal.nD → PrngReg)
    (m' : (ℓ : Loc Cert.DwpoolReferenceIdeal.nD Cert.DwpoolReferenceIdeal.τ Cert.DwpoolReferenceIdeal.sig) → Buf (Elt Ideal) ℓ) (g' : Dev Cert.DwpoolReferenceIdeal.nD → PrngReg), Pre_DwpoolIdeal m →
    (∀ c : Dev Cert.DwpoolIdeal.nD,
      m' ((c.tc : Thread Cert.DwpoolReferenceIdeal.nD Cert.DwpoolReferenceIdeal.τ).loc Cert.DwpoolReferenceIdeal.main_arg0) = m ((c.tc : Thread Cert.DwpoolIdeal.nD Cert.DwpoolIdeal.τ).loc Cert.DwpoolIdeal.main_arg0)
      ∧ m' ((c.tc : Thread Cert.DwpoolReferenceIdeal.nD Cert.DwpoolReferenceIdeal.τ).loc Cert.DwpoolReferenceIdeal.main_arg1) = m ((c.tc : Thread Cert.DwpoolIdeal.nD Cert.DwpoolIdeal.τ).loc Cert.DwpoolIdeal.main_arg1)) →
    ∃ (v0 : (c : Dev Cert.DwpoolIdeal.nD) → Buf (Elt Ideal) ((c.tc : Thread Cert.DwpoolIdeal.nD Cert.DwpoolIdeal.τ).loc Cert.DwpoolIdeal.main_v2)),
      θ_run (Cert.DwpoolIdeal.defs (F := Ideal)) (onTc (τ := Cert.DwpoolIdeal.τ) (Cert.DwpoolIdeal.main (F := Ideal))) ⟨m, fun _ => 0, g⟩ (fun r => ∀ c : Dev Cert.DwpoolIdeal.nD,
          r.2.mem ((c.tc : Thread Cert.DwpoolIdeal.nD Cert.DwpoolIdeal.τ).loc Cert.DwpoolIdeal.main_v2) = v0 c
          ∧ r.2.mem ((c.tc : Thread Cert.DwpoolIdeal.nD Cert.DwpoolIdeal.τ).loc Cert.DwpoolIdeal.main_arg0) = m ((c.tc : Thread Cert.DwpoolIdeal.nD Cert.DwpoolIdeal.τ).loc Cert.DwpoolIdeal.main_arg0)
          ∧ r.2.mem ((c.tc : Thread Cert.DwpoolIdeal.nD Cert.DwpoolIdeal.τ).loc Cert.DwpoolIdeal.main_arg1) = m ((c.tc : Thread Cert.DwpoolIdeal.nD Cert.DwpoolIdeal.τ).loc Cert.DwpoolIdeal.main_arg1))
      ∧ θ_run (Cert.DwpoolReferenceIdeal.defs (F := Ideal)) (onTc (τ := Cert.DwpoolReferenceIdeal.τ) (Cert.DwpoolReferenceIdeal.main (F := Ideal))) ⟨m', fun _ => 0, g'⟩ (fun r => ∀ c : Dev Cert.DwpoolReferenceIdeal.nD,
          r.2.mem ((c.tc : Thread Cert.DwpoolReferenceIdeal.nD Cert.DwpoolReferenceIdeal.τ).loc Cert.DwpoolReferenceIdeal.main_v13) = v0 c
          ∧ r.2.mem ((c.tc : Thread Cert.DwpoolReferenceIdeal.nD Cert.DwpoolReferenceIdeal.τ).loc Cert.DwpoolReferenceIdeal.main_arg0) = m' ((c.tc : Thread Cert.DwpoolReferenceIdeal.nD Cert.DwpoolReferenceIdeal.τ).loc Cert.DwpoolReferenceIdeal.main_arg0)
          ∧ r.2.mem ((c.tc : Thread Cert.DwpoolReferenceIdeal.nD Cert.DwpoolReferenceIdeal.τ).loc Cert.DwpoolReferenceIdeal.main_arg1) = m' ((c.tc : Thread Cert.DwpoolReferenceIdeal.nD Cert.DwpoolReferenceIdeal.τ).loc Cert.DwpoolReferenceIdeal.main_arg1))

def preserves_Adam2_Adam2Ideal : Prop :=
  True

def algebraic_Adam2Ideal_Adam2ReferenceIdeal [hAdam2Ideal : Cert.Adam2Ideal.Facts] [hAdam2ReferenceIdeal : Cert.Adam2ReferenceIdeal.Facts] : Prop :=
  ∀ (m : (ℓ : Loc Cert.Adam2Ideal.nD Cert.Adam2Ideal.τ Cert.Adam2Ideal.sig) → Buf (Elt Ideal) ℓ) (g : Dev Cert.Adam2Ideal.nD → PrngReg)
    (m' : (ℓ : Loc Cert.Adam2ReferenceIdeal.nD Cert.Adam2ReferenceIdeal.τ Cert.Adam2ReferenceIdeal.sig) → Buf (Elt Ideal) ℓ) (g' : Dev Cert.Adam2ReferenceIdeal.nD → PrngReg), Pre_Adam2Ideal m →
    (∀ c : Dev Cert.Adam2Ideal.nD,
      m' ((c.tc : Thread Cert.Adam2ReferenceIdeal.nD Cert.Adam2ReferenceIdeal.τ).loc Cert.Adam2ReferenceIdeal.main_arg0) = m ((c.tc : Thread Cert.Adam2Ideal.nD Cert.Adam2Ideal.τ).loc Cert.Adam2Ideal.main_arg0)
      ∧ m' ((c.tc : Thread Cert.Adam2ReferenceIdeal.nD Cert.Adam2ReferenceIdeal.τ).loc Cert.Adam2ReferenceIdeal.main_arg1) = m ((c.tc : Thread Cert.Adam2Ideal.nD Cert.Adam2Ideal.τ).loc Cert.Adam2Ideal.main_arg1)
      ∧ m' ((c.tc : Thread Cert.Adam2ReferenceIdeal.nD Cert.Adam2ReferenceIdeal.τ).loc Cert.Adam2ReferenceIdeal.main_arg2) = m ((c.tc : Thread Cert.Adam2Ideal.nD Cert.Adam2Ideal.τ).loc Cert.Adam2Ideal.main_arg2)
      ∧ m' ((c.tc : Thread Cert.Adam2ReferenceIdeal.nD Cert.Adam2ReferenceIdeal.τ).loc Cert.Adam2ReferenceIdeal.main_arg3) = m ((c.tc : Thread Cert.Adam2Ideal.nD Cert.Adam2Ideal.τ).loc Cert.Adam2Ideal.main_arg3)) →
    ∃ (v0 : (c : Dev Cert.Adam2Ideal.nD) → Buf (Elt Ideal) ((c.tc : Thread Cert.Adam2Ideal.nD Cert.Adam2Ideal.τ).loc Cert.Adam2Ideal.main_v0_0)) (v1 : (c : Dev Cert.Adam2Ideal.nD) → Buf (Elt Ideal) ((c.tc : Thread Cert.Adam2Ideal.nD Cert.Adam2Ideal.τ).loc Cert.Adam2Ideal.main_v0_1)) (v2 : (c : Dev Cert.Adam2Ideal.nD) → Buf (Elt Ideal) ((c.tc : Thread Cert.Adam2Ideal.nD Cert.Adam2Ideal.τ).loc Cert.Adam2Ideal.main_v0_2)),
      θ_run (Cert.Adam2Ideal.defs (F := Ideal)) (onTc (τ := Cert.Adam2Ideal.τ) (Cert.Adam2Ideal.main (F := Ideal))) ⟨m, fun _ => 0, g⟩ (fun r => ∀ c : Dev Cert.Adam2Ideal.nD,
          r.2.mem ((c.tc : Thread Cert.Adam2Ideal.nD Cert.Adam2Ideal.τ).loc Cert.Adam2Ideal.main_v0_0) = v0 c
          ∧ r.2.mem ((c.tc : Thread Cert.Adam2Ideal.nD Cert.Adam2Ideal.τ).loc Cert.Adam2Ideal.main_v0_1) = v1 c
          ∧ r.2.mem ((c.tc : Thread Cert.Adam2Ideal.nD Cert.Adam2Ideal.τ).loc Cert.Adam2Ideal.main_v0_2) = v2 c
          ∧ r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
          ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
          ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
          ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ θ_run (Cert.Adam2ReferenceIdeal.defs (F := Ideal)) (onTc (τ := Cert.Adam2ReferenceIdeal.τ) (Cert.Adam2ReferenceIdeal.main (F := Ideal))) ⟨m', fun _ => 0, g'⟩ (fun r => ∀ c : Dev Cert.Adam2ReferenceIdeal.nD,
          r.2.mem ((c.tc : Thread Cert.Adam2ReferenceIdeal.nD Cert.Adam2ReferenceIdeal.τ).loc Cert.Adam2ReferenceIdeal.main_v23) = v0 c
          ∧ r.2.mem ((c.tc : Thread Cert.Adam2ReferenceIdeal.nD Cert.Adam2ReferenceIdeal.τ).loc Cert.Adam2ReferenceIdeal.main_v4) = v1 c
          ∧ r.2.mem ((c.tc : Thread Cert.Adam2ReferenceIdeal.nD Cert.Adam2ReferenceIdeal.τ).loc Cert.Adam2ReferenceIdeal.main_v10) = v2 c
          ∧ r.2.mem ((c.tc : Thread Cert.Adam2ReferenceIdeal.nD Cert.Adam2ReferenceIdeal.τ).loc Cert.Adam2ReferenceIdeal.main_arg0) = m' ((c.tc : Thread Cert.Adam2ReferenceIdeal.nD Cert.Adam2ReferenceIdeal.τ).loc Cert.Adam2ReferenceIdeal.main_arg0)
          ∧ r.2.mem ((c.tc : Thread Cert.Adam2ReferenceIdeal.nD Cert.Adam2ReferenceIdeal.τ).loc Cert.Adam2ReferenceIdeal.main_arg1) = m' ((c.tc : Thread Cert.Adam2ReferenceIdeal.nD Cert.Adam2ReferenceIdeal.τ).loc Cert.Adam2ReferenceIdeal.main_arg1)
          ∧ r.2.mem ((c.tc : Thread Cert.Adam2ReferenceIdeal.nD Cert.Adam2ReferenceIdeal.τ).loc Cert.Adam2ReferenceIdeal.main_arg2) = m' ((c.tc : Thread Cert.Adam2ReferenceIdeal.nD Cert.Adam2ReferenceIdeal.τ).loc Cert.Adam2ReferenceIdeal.main_arg2)
          ∧ r.2.mem ((c.tc : Thread Cert.Adam2ReferenceIdeal.nD Cert.Adam2ReferenceIdeal.τ).loc Cert.Adam2ReferenceIdeal.main_arg3) = m' ((c.tc : Thread Cert.Adam2ReferenceIdeal.nD Cert.Adam2ReferenceIdeal.τ).loc Cert.Adam2ReferenceIdeal.main_arg3))

def preserves_Adam1_Adam1Ideal : Prop :=
  True

def algebraic_Adam1Ideal_Adam1ReferenceIdeal [hAdam1Ideal : Cert.Adam1Ideal.Facts] [hAdam1ReferenceIdeal : Cert.Adam1ReferenceIdeal.Facts] : Prop :=
  ∀ (m : (ℓ : Loc Cert.Adam1Ideal.nD Cert.Adam1Ideal.τ Cert.Adam1Ideal.sig) → Buf (Elt Ideal) ℓ) (g : Dev Cert.Adam1Ideal.nD → PrngReg)
    (m' : (ℓ : Loc Cert.Adam1ReferenceIdeal.nD Cert.Adam1ReferenceIdeal.τ Cert.Adam1ReferenceIdeal.sig) → Buf (Elt Ideal) ℓ) (g' : Dev Cert.Adam1ReferenceIdeal.nD → PrngReg), Pre_Adam1Ideal m →
    (∀ c : Dev Cert.Adam1Ideal.nD,
      m' ((c.tc : Thread Cert.Adam1ReferenceIdeal.nD Cert.Adam1ReferenceIdeal.τ).loc Cert.Adam1ReferenceIdeal.main_arg0) = m ((c.tc : Thread Cert.Adam1Ideal.nD Cert.Adam1Ideal.τ).loc Cert.Adam1Ideal.main_arg0)
      ∧ m' ((c.tc : Thread Cert.Adam1ReferenceIdeal.nD Cert.Adam1ReferenceIdeal.τ).loc Cert.Adam1ReferenceIdeal.main_arg1) = m ((c.tc : Thread Cert.Adam1Ideal.nD Cert.Adam1Ideal.τ).loc Cert.Adam1Ideal.main_arg1)
      ∧ m' ((c.tc : Thread Cert.Adam1ReferenceIdeal.nD Cert.Adam1ReferenceIdeal.τ).loc Cert.Adam1ReferenceIdeal.main_arg2) = m ((c.tc : Thread Cert.Adam1Ideal.nD Cert.Adam1Ideal.τ).loc Cert.Adam1Ideal.main_arg2)
      ∧ m' ((c.tc : Thread Cert.Adam1ReferenceIdeal.nD Cert.Adam1ReferenceIdeal.τ).loc Cert.Adam1ReferenceIdeal.main_arg3) = m ((c.tc : Thread Cert.Adam1Ideal.nD Cert.Adam1Ideal.τ).loc Cert.Adam1Ideal.main_arg3)) →
    ∃ (v0 : (c : Dev Cert.Adam1Ideal.nD) → Buf (Elt Ideal) ((c.tc : Thread Cert.Adam1Ideal.nD Cert.Adam1Ideal.τ).loc Cert.Adam1Ideal.main_v0_0)) (v1 : (c : Dev Cert.Adam1Ideal.nD) → Buf (Elt Ideal) ((c.tc : Thread Cert.Adam1Ideal.nD Cert.Adam1Ideal.τ).loc Cert.Adam1Ideal.main_v0_1)) (v2 : (c : Dev Cert.Adam1Ideal.nD) → Buf (Elt Ideal) ((c.tc : Thread Cert.Adam1Ideal.nD Cert.Adam1Ideal.τ).loc Cert.Adam1Ideal.main_v0_2)),
      θ_run (Cert.Adam1Ideal.defs (F := Ideal)) (onTc (τ := Cert.Adam1Ideal.τ) (Cert.Adam1Ideal.main (F := Ideal))) ⟨m, fun _ => 0, g⟩ (fun r => ∀ c : Dev Cert.Adam1Ideal.nD,
          r.2.mem ((c.tc : Thread Cert.Adam1Ideal.nD Cert.Adam1Ideal.τ).loc Cert.Adam1Ideal.main_v0_0) = v0 c
          ∧ r.2.mem ((c.tc : Thread Cert.Adam1Ideal.nD Cert.Adam1Ideal.τ).loc Cert.Adam1Ideal.main_v0_1) = v1 c
          ∧ r.2.mem ((c.tc : Thread Cert.Adam1Ideal.nD Cert.Adam1Ideal.τ).loc Cert.Adam1Ideal.main_v0_2) = v2 c
          ∧ r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
          ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
          ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
          ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ θ_run (Cert.Adam1ReferenceIdeal.defs (F := Ideal)) (onTc (τ := Cert.Adam1ReferenceIdeal.τ) (Cert.Adam1ReferenceIdeal.main (F := Ideal))) ⟨m', fun _ => 0, g'⟩ (fun r => ∀ c : Dev Cert.Adam1ReferenceIdeal.nD,
          r.2.mem ((c.tc : Thread Cert.Adam1ReferenceIdeal.nD Cert.Adam1ReferenceIdeal.τ).loc Cert.Adam1ReferenceIdeal.main_v23) = v0 c
          ∧ r.2.mem ((c.tc : Thread Cert.Adam1ReferenceIdeal.nD Cert.Adam1ReferenceIdeal.τ).loc Cert.Adam1ReferenceIdeal.main_v4) = v1 c
          ∧ r.2.mem ((c.tc : Thread Cert.Adam1ReferenceIdeal.nD Cert.Adam1ReferenceIdeal.τ).loc Cert.Adam1ReferenceIdeal.main_v10) = v2 c
          ∧ r.2.mem ((c.tc : Thread Cert.Adam1ReferenceIdeal.nD Cert.Adam1ReferenceIdeal.τ).loc Cert.Adam1ReferenceIdeal.main_arg0) = m' ((c.tc : Thread Cert.Adam1ReferenceIdeal.nD Cert.Adam1ReferenceIdeal.τ).loc Cert.Adam1ReferenceIdeal.main_arg0)
          ∧ r.2.mem ((c.tc : Thread Cert.Adam1ReferenceIdeal.nD Cert.Adam1ReferenceIdeal.τ).loc Cert.Adam1ReferenceIdeal.main_arg1) = m' ((c.tc : Thread Cert.Adam1ReferenceIdeal.nD Cert.Adam1ReferenceIdeal.τ).loc Cert.Adam1ReferenceIdeal.main_arg1)
          ∧ r.2.mem ((c.tc : Thread Cert.Adam1ReferenceIdeal.nD Cert.Adam1ReferenceIdeal.τ).loc Cert.Adam1ReferenceIdeal.main_arg2) = m' ((c.tc : Thread Cert.Adam1ReferenceIdeal.nD Cert.Adam1ReferenceIdeal.τ).loc Cert.Adam1ReferenceIdeal.main_arg2)
          ∧ r.2.mem ((c.tc : Thread Cert.Adam1ReferenceIdeal.nD Cert.Adam1ReferenceIdeal.τ).loc Cert.Adam1ReferenceIdeal.main_arg3) = m' ((c.tc : Thread Cert.Adam1ReferenceIdeal.nD Cert.Adam1ReferenceIdeal.τ).loc Cert.Adam1ReferenceIdeal.main_arg3))

def preserves_Adamlb_AdamlbIdeal : Prop :=
  True

def algebraic_AdamlbIdeal_AdamlbReferenceIdeal [hAdamlbIdeal : Cert.AdamlbIdeal.Facts] [hAdamlbReferenceIdeal : Cert.AdamlbReferenceIdeal.Facts] : Prop :=
  ∀ (m : (ℓ : Loc Cert.AdamlbIdeal.nD Cert.AdamlbIdeal.τ Cert.AdamlbIdeal.sig) → Buf (Elt Ideal) ℓ) (g : Dev Cert.AdamlbIdeal.nD → PrngReg)
    (m' : (ℓ : Loc Cert.AdamlbReferenceIdeal.nD Cert.AdamlbReferenceIdeal.τ Cert.AdamlbReferenceIdeal.sig) → Buf (Elt Ideal) ℓ) (g' : Dev Cert.AdamlbReferenceIdeal.nD → PrngReg), Pre_AdamlbIdeal m →
    (∀ c : Dev Cert.AdamlbIdeal.nD,
      m' ((c.tc : Thread Cert.AdamlbReferenceIdeal.nD Cert.AdamlbReferenceIdeal.τ).loc Cert.AdamlbReferenceIdeal.main_arg0) = m ((c.tc : Thread Cert.AdamlbIdeal.nD Cert.AdamlbIdeal.τ).loc Cert.AdamlbIdeal.main_arg0)
      ∧ m' ((c.tc : Thread Cert.AdamlbReferenceIdeal.nD Cert.AdamlbReferenceIdeal.τ).loc Cert.AdamlbReferenceIdeal.main_arg1) = m ((c.tc : Thread Cert.AdamlbIdeal.nD Cert.AdamlbIdeal.τ).loc Cert.AdamlbIdeal.main_arg1)
      ∧ m' ((c.tc : Thread Cert.AdamlbReferenceIdeal.nD Cert.AdamlbReferenceIdeal.τ).loc Cert.AdamlbReferenceIdeal.main_arg2) = m ((c.tc : Thread Cert.AdamlbIdeal.nD Cert.AdamlbIdeal.τ).loc Cert.AdamlbIdeal.main_arg2)
      ∧ m' ((c.tc : Thread Cert.AdamlbReferenceIdeal.nD Cert.AdamlbReferenceIdeal.τ).loc Cert.AdamlbReferenceIdeal.main_arg3) = m ((c.tc : Thread Cert.AdamlbIdeal.nD Cert.AdamlbIdeal.τ).loc Cert.AdamlbIdeal.main_arg3)) →
    ∃ (v0 : (c : Dev Cert.AdamlbIdeal.nD) → Buf (Elt Ideal) ((c.tc : Thread Cert.AdamlbIdeal.nD Cert.AdamlbIdeal.τ).loc Cert.AdamlbIdeal.main_v0_0)) (v1 : (c : Dev Cert.AdamlbIdeal.nD) → Buf (Elt Ideal) ((c.tc : Thread Cert.AdamlbIdeal.nD Cert.AdamlbIdeal.τ).loc Cert.AdamlbIdeal.main_v0_1)) (v2 : (c : Dev Cert.AdamlbIdeal.nD) → Buf (Elt Ideal) ((c.tc : Thread Cert.AdamlbIdeal.nD Cert.AdamlbIdeal.τ).loc Cert.AdamlbIdeal.main_v0_2)),
      θ_run (Cert.AdamlbIdeal.defs (F := Ideal)) (onTc (τ := Cert.AdamlbIdeal.τ) (Cert.AdamlbIdeal.main (F := Ideal))) ⟨m, fun _ => 0, g⟩ (fun r => ∀ c : Dev Cert.AdamlbIdeal.nD,
          r.2.mem ((c.tc : Thread Cert.AdamlbIdeal.nD Cert.AdamlbIdeal.τ).loc Cert.AdamlbIdeal.main_v0_0) = v0 c
          ∧ r.2.mem ((c.tc : Thread Cert.AdamlbIdeal.nD Cert.AdamlbIdeal.τ).loc Cert.AdamlbIdeal.main_v0_1) = v1 c
          ∧ r.2.mem ((c.tc : Thread Cert.AdamlbIdeal.nD Cert.AdamlbIdeal.τ).loc Cert.AdamlbIdeal.main_v0_2) = v2 c
          ∧ r.2.mem ((c.tc : Thread Cert.AdamlbIdeal.nD Cert.AdamlbIdeal.τ).loc Cert.AdamlbIdeal.main_arg0) = m ((c.tc : Thread Cert.AdamlbIdeal.nD Cert.AdamlbIdeal.τ).loc Cert.AdamlbIdeal.main_arg0)
          ∧ r.2.mem ((c.tc : Thread Cert.AdamlbIdeal.nD Cert.AdamlbIdeal.τ).loc Cert.AdamlbIdeal.main_arg1) = m ((c.tc : Thread Cert.AdamlbIdeal.nD Cert.AdamlbIdeal.τ).loc Cert.AdamlbIdeal.main_arg1)
          ∧ r.2.mem ((c.tc : Thread Cert.AdamlbIdeal.nD Cert.AdamlbIdeal.τ).loc Cert.AdamlbIdeal.main_arg2) = m ((c.tc : Thread Cert.AdamlbIdeal.nD Cert.AdamlbIdeal.τ).loc Cert.AdamlbIdeal.main_arg2)
          ∧ r.2.mem ((c.tc : Thread Cert.AdamlbIdeal.nD Cert.AdamlbIdeal.τ).loc Cert.AdamlbIdeal.main_arg3) = m ((c.tc : Thread Cert.AdamlbIdeal.nD Cert.AdamlbIdeal.τ).loc Cert.AdamlbIdeal.main_arg3))
      ∧ θ_run (Cert.AdamlbReferenceIdeal.defs (F := Ideal)) (onTc (τ := Cert.AdamlbReferenceIdeal.τ) (Cert.AdamlbReferenceIdeal.main (F := Ideal))) ⟨m', fun _ => 0, g'⟩ (fun r => ∀ c : Dev Cert.AdamlbReferenceIdeal.nD,
          r.2.mem ((c.tc : Thread Cert.AdamlbReferenceIdeal.nD Cert.AdamlbReferenceIdeal.τ).loc Cert.AdamlbReferenceIdeal.main_v23) = v0 c
          ∧ r.2.mem ((c.tc : Thread Cert.AdamlbReferenceIdeal.nD Cert.AdamlbReferenceIdeal.τ).loc Cert.AdamlbReferenceIdeal.main_v4) = v1 c
          ∧ r.2.mem ((c.tc : Thread Cert.AdamlbReferenceIdeal.nD Cert.AdamlbReferenceIdeal.τ).loc Cert.AdamlbReferenceIdeal.main_v10) = v2 c
          ∧ r.2.mem ((c.tc : Thread Cert.AdamlbReferenceIdeal.nD Cert.AdamlbReferenceIdeal.τ).loc Cert.AdamlbReferenceIdeal.main_arg0) = m' ((c.tc : Thread Cert.AdamlbReferenceIdeal.nD Cert.AdamlbReferenceIdeal.τ).loc Cert.AdamlbReferenceIdeal.main_arg0)
          ∧ r.2.mem ((c.tc : Thread Cert.AdamlbReferenceIdeal.nD Cert.AdamlbReferenceIdeal.τ).loc Cert.AdamlbReferenceIdeal.main_arg1) = m' ((c.tc : Thread Cert.AdamlbReferenceIdeal.nD Cert.AdamlbReferenceIdeal.τ).loc Cert.AdamlbReferenceIdeal.main_arg1)
          ∧ r.2.mem ((c.tc : Thread Cert.AdamlbReferenceIdeal.nD Cert.AdamlbReferenceIdeal.τ).loc Cert.AdamlbReferenceIdeal.main_arg2) = m' ((c.tc : Thread Cert.AdamlbReferenceIdeal.nD Cert.AdamlbReferenceIdeal.τ).loc Cert.AdamlbReferenceIdeal.main_arg2)
          ∧ r.2.mem ((c.tc : Thread Cert.AdamlbReferenceIdeal.nD Cert.AdamlbReferenceIdeal.τ).loc Cert.AdamlbReferenceIdeal.main_arg3) = m' ((c.tc : Thread Cert.AdamlbReferenceIdeal.nD Cert.AdamlbReferenceIdeal.τ).loc Cert.AdamlbReferenceIdeal.main_arg3))

def preserves_Adamhg_AdamhgIdeal : Prop :=
  True

def algebraic_AdamhgIdeal_AdamhgReferenceIdeal [hAdamhgIdeal : Cert.AdamhgIdeal.Facts] [hAdamhgReferenceIdeal : Cert.AdamhgReferenceIdeal.Facts] : Prop :=
  ∀ (m : (ℓ : Loc Cert.AdamhgIdeal.nD Cert.AdamhgIdeal.τ Cert.AdamhgIdeal.sig) → Buf (Elt Ideal) ℓ) (g : Dev Cert.AdamhgIdeal.nD → PrngReg)
    (m' : (ℓ : Loc Cert.AdamhgReferenceIdeal.nD Cert.AdamhgReferenceIdeal.τ Cert.AdamhgReferenceIdeal.sig) → Buf (Elt Ideal) ℓ) (g' : Dev Cert.AdamhgReferenceIdeal.nD → PrngReg), Pre_AdamhgIdeal m →
    (∀ c : Dev Cert.AdamhgIdeal.nD,
      m' ((c.tc : Thread Cert.AdamhgReferenceIdeal.nD Cert.AdamhgReferenceIdeal.τ).loc Cert.AdamhgReferenceIdeal.main_arg0) = m ((c.tc : Thread Cert.AdamhgIdeal.nD Cert.AdamhgIdeal.τ).loc Cert.AdamhgIdeal.main_arg0)
      ∧ m' ((c.tc : Thread Cert.AdamhgReferenceIdeal.nD Cert.AdamhgReferenceIdeal.τ).loc Cert.AdamhgReferenceIdeal.main_arg1) = m ((c.tc : Thread Cert.AdamhgIdeal.nD Cert.AdamhgIdeal.τ).loc Cert.AdamhgIdeal.main_arg1)
      ∧ m' ((c.tc : Thread Cert.AdamhgReferenceIdeal.nD Cert.AdamhgReferenceIdeal.τ).loc Cert.AdamhgReferenceIdeal.main_arg2) = m ((c.tc : Thread Cert.AdamhgIdeal.nD Cert.AdamhgIdeal.τ).loc Cert.AdamhgIdeal.main_arg2)
      ∧ m' ((c.tc : Thread Cert.AdamhgReferenceIdeal.nD Cert.AdamhgReferenceIdeal.τ).loc Cert.AdamhgReferenceIdeal.main_arg3) = m ((c.tc : Thread Cert.AdamhgIdeal.nD Cert.AdamhgIdeal.τ).loc Cert.AdamhgIdeal.main_arg3)) →
    ∃ (v0 : (c : Dev Cert.AdamhgIdeal.nD) → Buf (Elt Ideal) ((c.tc : Thread Cert.AdamhgIdeal.nD Cert.AdamhgIdeal.τ).loc Cert.AdamhgIdeal.main_v0_0)) (v1 : (c : Dev Cert.AdamhgIdeal.nD) → Buf (Elt Ideal) ((c.tc : Thread Cert.AdamhgIdeal.nD Cert.AdamhgIdeal.τ).loc Cert.AdamhgIdeal.main_v0_1)) (v2 : (c : Dev Cert.AdamhgIdeal.nD) → Buf (Elt Ideal) ((c.tc : Thread Cert.AdamhgIdeal.nD Cert.AdamhgIdeal.τ).loc Cert.AdamhgIdeal.main_v0_2)),
      θ_run (Cert.AdamhgIdeal.defs (F := Ideal)) (onTc (τ := Cert.AdamhgIdeal.τ) (Cert.AdamhgIdeal.main (F := Ideal))) ⟨m, fun _ => 0, g⟩ (fun r => ∀ c : Dev Cert.AdamhgIdeal.nD,
          r.2.mem ((c.tc : Thread Cert.AdamhgIdeal.nD Cert.AdamhgIdeal.τ).loc Cert.AdamhgIdeal.main_v0_0) = v0 c
          ∧ r.2.mem ((c.tc : Thread Cert.AdamhgIdeal.nD Cert.AdamhgIdeal.τ).loc Cert.AdamhgIdeal.main_v0_1) = v1 c
          ∧ r.2.mem ((c.tc : Thread Cert.AdamhgIdeal.nD Cert.AdamhgIdeal.τ).loc Cert.AdamhgIdeal.main_v0_2) = v2 c
          ∧ r.2.mem ((c.tc : Thread Cert.AdamhgIdeal.nD Cert.AdamhgIdeal.τ).loc Cert.AdamhgIdeal.main_arg0) = m ((c.tc : Thread Cert.AdamhgIdeal.nD Cert.AdamhgIdeal.τ).loc Cert.AdamhgIdeal.main_arg0)
          ∧ r.2.mem ((c.tc : Thread Cert.AdamhgIdeal.nD Cert.AdamhgIdeal.τ).loc Cert.AdamhgIdeal.main_arg1) = m ((c.tc : Thread Cert.AdamhgIdeal.nD Cert.AdamhgIdeal.τ).loc Cert.AdamhgIdeal.main_arg1)
          ∧ r.2.mem ((c.tc : Thread Cert.AdamhgIdeal.nD Cert.AdamhgIdeal.τ).loc Cert.AdamhgIdeal.main_arg2) = m ((c.tc : Thread Cert.AdamhgIdeal.nD Cert.AdamhgIdeal.τ).loc Cert.AdamhgIdeal.main_arg2)
          ∧ r.2.mem ((c.tc : Thread Cert.AdamhgIdeal.nD Cert.AdamhgIdeal.τ).loc Cert.AdamhgIdeal.main_arg3) = m ((c.tc : Thread Cert.AdamhgIdeal.nD Cert.AdamhgIdeal.τ).loc Cert.AdamhgIdeal.main_arg3))
      ∧ θ_run (Cert.AdamhgReferenceIdeal.defs (F := Ideal)) (onTc (τ := Cert.AdamhgReferenceIdeal.τ) (Cert.AdamhgReferenceIdeal.main (F := Ideal))) ⟨m', fun _ => 0, g'⟩ (fun r => ∀ c : Dev Cert.AdamhgReferenceIdeal.nD,
          r.2.mem ((c.tc : Thread Cert.AdamhgReferenceIdeal.nD Cert.AdamhgReferenceIdeal.τ).loc Cert.AdamhgReferenceIdeal.main_v23) = v0 c
          ∧ r.2.mem ((c.tc : Thread Cert.AdamhgReferenceIdeal.nD Cert.AdamhgReferenceIdeal.τ).loc Cert.AdamhgReferenceIdeal.main_v4) = v1 c
          ∧ r.2.mem ((c.tc : Thread Cert.AdamhgReferenceIdeal.nD Cert.AdamhgReferenceIdeal.τ).loc Cert.AdamhgReferenceIdeal.main_v10) = v2 c
          ∧ r.2.mem ((c.tc : Thread Cert.AdamhgReferenceIdeal.nD Cert.AdamhgReferenceIdeal.τ).loc Cert.AdamhgReferenceIdeal.main_arg0) = m' ((c.tc : Thread Cert.AdamhgReferenceIdeal.nD Cert.AdamhgReferenceIdeal.τ).loc Cert.AdamhgReferenceIdeal.main_arg0)
          ∧ r.2.mem ((c.tc : Thread Cert.AdamhgReferenceIdeal.nD Cert.AdamhgReferenceIdeal.τ).loc Cert.AdamhgReferenceIdeal.main_arg1) = m' ((c.tc : Thread Cert.AdamhgReferenceIdeal.nD Cert.AdamhgReferenceIdeal.τ).loc Cert.AdamhgReferenceIdeal.main_arg1)
          ∧ r.2.mem ((c.tc : Thread Cert.AdamhgReferenceIdeal.nD Cert.AdamhgReferenceIdeal.τ).loc Cert.AdamhgReferenceIdeal.main_arg2) = m' ((c.tc : Thread Cert.AdamhgReferenceIdeal.nD Cert.AdamhgReferenceIdeal.τ).loc Cert.AdamhgReferenceIdeal.main_arg2)
          ∧ r.2.mem ((c.tc : Thread Cert.AdamhgReferenceIdeal.nD Cert.AdamhgReferenceIdeal.τ).loc Cert.AdamhgReferenceIdeal.main_arg3) = m' ((c.tc : Thread Cert.AdamhgReferenceIdeal.nD Cert.AdamhgReferenceIdeal.τ).loc Cert.AdamhgReferenceIdeal.main_arg3))

def preserves_Adamsc_AdamscIdeal : Prop :=
  True

def algebraic_AdamscIdeal_AdamscReferenceIdeal [hAdamscIdeal : Cert.AdamscIdeal.Facts] [hAdamscReferenceIdeal : Cert.AdamscReferenceIdeal.Facts] : Prop :=
  ∀ (m : (ℓ : Loc Cert.AdamscIdeal.nD Cert.AdamscIdeal.τ Cert.AdamscIdeal.sig) → Buf (Elt Ideal) ℓ) (g : Dev Cert.AdamscIdeal.nD → PrngReg)
    (m' : (ℓ : Loc Cert.AdamscReferenceIdeal.nD Cert.AdamscReferenceIdeal.τ Cert.AdamscReferenceIdeal.sig) → Buf (Elt Ideal) ℓ) (g' : Dev Cert.AdamscReferenceIdeal.nD → PrngReg), Pre_AdamscIdeal m →
    (∀ c : Dev Cert.AdamscIdeal.nD,
      m' ((c.tc : Thread Cert.AdamscReferenceIdeal.nD Cert.AdamscReferenceIdeal.τ).loc Cert.AdamscReferenceIdeal.main_arg0) = m ((c.tc : Thread Cert.AdamscIdeal.nD Cert.AdamscIdeal.τ).loc Cert.AdamscIdeal.main_arg0)
      ∧ m' ((c.tc : Thread Cert.AdamscReferenceIdeal.nD Cert.AdamscReferenceIdeal.τ).loc Cert.AdamscReferenceIdeal.main_arg1) = m ((c.tc : Thread Cert.AdamscIdeal.nD Cert.AdamscIdeal.τ).loc Cert.AdamscIdeal.main_arg1)
      ∧ m' ((c.tc : Thread Cert.AdamscReferenceIdeal.nD Cert.AdamscReferenceIdeal.τ).loc Cert.AdamscReferenceIdeal.main_arg2) = m ((c.tc : Thread Cert.AdamscIdeal.nD Cert.AdamscIdeal.τ).loc Cert.AdamscIdeal.main_arg2)
      ∧ m' ((c.tc : Thread Cert.AdamscReferenceIdeal.nD Cert.AdamscReferenceIdeal.τ).loc Cert.AdamscReferenceIdeal.main_arg3) = m ((c.tc : Thread Cert.AdamscIdeal.nD Cert.AdamscIdeal.τ).loc Cert.AdamscIdeal.main_arg3)) →
    ∃ (v0 : (c : Dev Cert.AdamscIdeal.nD) → Buf (Elt Ideal) ((c.tc : Thread Cert.AdamscIdeal.nD Cert.AdamscIdeal.τ).loc Cert.AdamscIdeal.main_v0_0)) (v1 : (c : Dev Cert.AdamscIdeal.nD) → Buf (Elt Ideal) ((c.tc : Thread Cert.AdamscIdeal.nD Cert.AdamscIdeal.τ).loc Cert.AdamscIdeal.main_v0_1)) (v2 : (c : Dev Cert.AdamscIdeal.nD) → Buf (Elt Ideal) ((c.tc : Thread Cert.AdamscIdeal.nD Cert.AdamscIdeal.τ).loc Cert.AdamscIdeal.main_v0_2)),
      θ_run (Cert.AdamscIdeal.defs (F := Ideal)) (onTc (τ := Cert.AdamscIdeal.τ) (Cert.AdamscIdeal.main (F := Ideal))) ⟨m, fun _ => 0, g⟩ (fun r => ∀ c : Dev Cert.AdamscIdeal.nD,
          r.2.mem ((c.tc : Thread Cert.AdamscIdeal.nD Cert.AdamscIdeal.τ).loc Cert.AdamscIdeal.main_v0_0) = v0 c
          ∧ r.2.mem ((c.tc : Thread Cert.AdamscIdeal.nD Cert.AdamscIdeal.τ).loc Cert.AdamscIdeal.main_v0_1) = v1 c
          ∧ r.2.mem ((c.tc : Thread Cert.AdamscIdeal.nD Cert.AdamscIdeal.τ).loc Cert.AdamscIdeal.main_v0_2) = v2 c
          ∧ r.2.mem ((c.tc : Thread Cert.AdamscIdeal.nD Cert.AdamscIdeal.τ).loc Cert.AdamscIdeal.main_arg0) = m ((c.tc : Thread Cert.AdamscIdeal.nD Cert.AdamscIdeal.τ).loc Cert.AdamscIdeal.main_arg0)
          ∧ r.2.mem ((c.tc : Thread Cert.AdamscIdeal.nD Cert.AdamscIdeal.τ).loc Cert.AdamscIdeal.main_arg1) = m ((c.tc : Thread Cert.AdamscIdeal.nD Cert.AdamscIdeal.τ).loc Cert.AdamscIdeal.main_arg1)
          ∧ r.2.mem ((c.tc : Thread Cert.AdamscIdeal.nD Cert.AdamscIdeal.τ).loc Cert.AdamscIdeal.main_arg2) = m ((c.tc : Thread Cert.AdamscIdeal.nD Cert.AdamscIdeal.τ).loc Cert.AdamscIdeal.main_arg2)
          ∧ r.2.mem ((c.tc : Thread Cert.AdamscIdeal.nD Cert.AdamscIdeal.τ).loc Cert.AdamscIdeal.main_arg3) = m ((c.tc : Thread Cert.AdamscIdeal.nD Cert.AdamscIdeal.τ).loc Cert.AdamscIdeal.main_arg3))
      ∧ θ_run (Cert.AdamscReferenceIdeal.defs (F := Ideal)) (onTc (τ := Cert.AdamscReferenceIdeal.τ) (Cert.AdamscReferenceIdeal.main (F := Ideal))) ⟨m', fun _ => 0, g'⟩ (fun r => ∀ c : Dev Cert.AdamscReferenceIdeal.nD,
          r.2.mem ((c.tc : Thread Cert.AdamscReferenceIdeal.nD Cert.AdamscReferenceIdeal.τ).loc Cert.AdamscReferenceIdeal.main_v23) = v0 c
          ∧ r.2.mem ((c.tc : Thread Cert.AdamscReferenceIdeal.nD Cert.AdamscReferenceIdeal.τ).loc Cert.AdamscReferenceIdeal.main_v4) = v1 c
          ∧ r.2.mem ((c.tc : Thread Cert.AdamscReferenceIdeal.nD Cert.AdamscReferenceIdeal.τ).loc Cert.AdamscReferenceIdeal.main_v10) = v2 c
          ∧ r.2.mem ((c.tc : Thread Cert.AdamscReferenceIdeal.nD Cert.AdamscReferenceIdeal.τ).loc Cert.AdamscReferenceIdeal.main_arg0) = m' ((c.tc : Thread Cert.AdamscReferenceIdeal.nD Cert.AdamscReferenceIdeal.τ).loc Cert.AdamscReferenceIdeal.main_arg0)
          ∧ r.2.mem ((c.tc : Thread Cert.AdamscReferenceIdeal.nD Cert.AdamscReferenceIdeal.τ).loc Cert.AdamscReferenceIdeal.main_arg1) = m' ((c.tc : Thread Cert.AdamscReferenceIdeal.nD Cert.AdamscReferenceIdeal.τ).loc Cert.AdamscReferenceIdeal.main_arg1)
          ∧ r.2.mem ((c.tc : Thread Cert.AdamscReferenceIdeal.nD Cert.AdamscReferenceIdeal.τ).loc Cert.AdamscReferenceIdeal.main_arg2) = m' ((c.tc : Thread Cert.AdamscReferenceIdeal.nD Cert.AdamscReferenceIdeal.τ).loc Cert.AdamscReferenceIdeal.main_arg2)
          ∧ r.2.mem ((c.tc : Thread Cert.AdamscReferenceIdeal.nD Cert.AdamscReferenceIdeal.τ).loc Cert.AdamscReferenceIdeal.main_arg3) = m' ((c.tc : Thread Cert.AdamscReferenceIdeal.nD Cert.AdamscReferenceIdeal.τ).loc Cert.AdamscReferenceIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hDh : Cert.Dh.Facts) (hDhIdeal : Cert.DhIdeal.Facts) (hDhReferenceIdeal : Cert.DhReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDw : Cert.Dw.Facts) (hDwIdeal : Cert.DwIdeal.Facts) (hDwReferenceIdeal : Cert.DwReferenceIdeal.Facts) (hDwin : Cert.Dwin.Facts) (hDwinIdeal : Cert.DwinIdeal.Facts) (hDwinReferenceIdeal : Cert.DwinReferenceIdeal.Facts) (hDwd : Cert.Dwd.Facts) (hDwdIdeal : Cert.DwdIdeal.Facts) (hDwdReferenceIdeal : Cert.DwdReferenceIdeal.Facts) (hDin : Cert.Din.Facts) (hDinIdeal : Cert.DinIdeal.Facts) (hDinReferenceIdeal : Cert.DinReferenceIdeal.Facts) (hPin : Cert.Pin.Facts) (hPinIdeal : Cert.PinIdeal.Facts) (hPinReferenceIdeal : Cert.PinReferenceIdeal.Facts) (hPout : Cert.Pout.Facts) (hPoutIdeal : Cert.PoutIdeal.Facts) (hPoutReferenceIdeal : Cert.PoutReferenceIdeal.Facts) (hDcat : Cert.Dcat.Facts) (hDcatIdeal : Cert.DcatIdeal.Facts) (hDcatReferenceIdeal : Cert.DcatReferenceIdeal.Facts) (hDwout : Cert.Dwout.Facts) (hDwoutIdeal : Cert.DwoutIdeal.Facts) (hDwoutReferenceIdeal : Cert.DwoutReferenceIdeal.Facts) (hPool : Cert.Pool.Facts) (hPoolIdeal : Cert.PoolIdeal.Facts) (hPoolReferenceIdeal : Cert.PoolReferenceIdeal.Facts) (hDpooled : Cert.Dpooled.Facts) (hDpooledIdeal : Cert.DpooledIdeal.Facts) (hDpooledReferenceIdeal : Cert.DpooledReferenceIdeal.Facts) (hDwpool : Cert.Dwpool.Facts) (hDwpoolIdeal : Cert.DwpoolIdeal.Facts) (hDwpoolReferenceIdeal : Cert.DwpoolReferenceIdeal.Facts) (hAdam2 : Cert.Adam2.Facts) (hAdam2Ideal : Cert.Adam2Ideal.Facts) (hAdam2ReferenceIdeal : Cert.Adam2ReferenceIdeal.Facts) (hAdam1 : Cert.Adam1.Facts) (hAdam1Ideal : Cert.Adam1Ideal.Facts) (hAdam1ReferenceIdeal : Cert.Adam1ReferenceIdeal.Facts) (hAdamlb : Cert.Adamlb.Facts) (hAdamlbIdeal : Cert.AdamlbIdeal.Facts) (hAdamlbReferenceIdeal : Cert.AdamlbReferenceIdeal.Facts) (hAdamhg : Cert.Adamhg.Facts) (hAdamhgIdeal : Cert.AdamhgIdeal.Facts) (hAdamhgReferenceIdeal : Cert.AdamhgReferenceIdeal.Facts) (hAdamsc : Cert.Adamsc.Facts) (hAdamscIdeal : Cert.AdamscIdeal.Facts) (hAdamscReferenceIdeal : Cert.AdamscReferenceIdeal.Facts) (hPre_finite : Cert.Pre_finite.Facts) (hPre_finite_dact : Cert.Pre_finite_dact.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_dact (hGateIdeal := hGateIdeal) (hPre_finite_dact := hPre_finite_dact)
    ∧ quiescent_GateReferenceIdeal (hGateReferenceIdeal := hGateReferenceIdeal)
    ∧ quiescent_GateReferenceIdeal_pre_finite_dact (hGateReferenceIdeal := hGateReferenceIdeal) (hPre_finite_dact := hPre_finite_dact)
    ∧ quiescent_Dh (hDh := hDh)
    ∧ quiescent_DhIdeal (hDhIdeal := hDhIdeal)
    ∧ quiescent_DhReferenceIdeal (hDhReferenceIdeal := hDhReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Dw (hDw := hDw)
    ∧ quiescent_DwIdeal (hDwIdeal := hDwIdeal)
    ∧ quiescent_DwReferenceIdeal (hDwReferenceIdeal := hDwReferenceIdeal)
    ∧ quiescent_Dwin (hDwin := hDwin)
    ∧ quiescent_DwinIdeal (hDwinIdeal := hDwinIdeal)
    ∧ quiescent_DwinReferenceIdeal (hDwinReferenceIdeal := hDwinReferenceIdeal)
    ∧ quiescent_Dwd (hDwd := hDwd)
    ∧ quiescent_DwdIdeal (hDwdIdeal := hDwdIdeal)
    ∧ quiescent_DwdReferenceIdeal (hDwdReferenceIdeal := hDwdReferenceIdeal)
    ∧ quiescent_Din (hDin := hDin)
    ∧ quiescent_DinIdeal (hDinIdeal := hDinIdeal)
    ∧ quiescent_DinReferenceIdeal (hDinReferenceIdeal := hDinReferenceIdeal)
    ∧ quiescent_Pin (hPin := hPin)
    ∧ quiescent_PinIdeal (hPinIdeal := hPinIdeal)
    ∧ quiescent_PinReferenceIdeal (hPinReferenceIdeal := hPinReferenceIdeal)
    ∧ quiescent_Pout (hPout := hPout)
    ∧ quiescent_PoutIdeal (hPoutIdeal := hPoutIdeal)
    ∧ quiescent_PoutReferenceIdeal (hPoutReferenceIdeal := hPoutReferenceIdeal)
    ∧ quiescent_Dcat (hDcat := hDcat)
    ∧ quiescent_DcatIdeal (hDcatIdeal := hDcatIdeal)
    ∧ quiescent_DcatReferenceIdeal (hDcatReferenceIdeal := hDcatReferenceIdeal)
    ∧ quiescent_Dwout (hDwout := hDwout)
    ∧ quiescent_DwoutIdeal (hDwoutIdeal := hDwoutIdeal)
    ∧ quiescent_DwoutReferenceIdeal (hDwoutReferenceIdeal := hDwoutReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_Dpooled (hDpooled := hDpooled)
    ∧ quiescent_DpooledIdeal (hDpooledIdeal := hDpooledIdeal)
    ∧ quiescent_DpooledReferenceIdeal (hDpooledReferenceIdeal := hDpooledReferenceIdeal)
    ∧ quiescent_Dwpool (hDwpool := hDwpool)
    ∧ quiescent_DwpoolIdeal (hDwpoolIdeal := hDwpoolIdeal)
    ∧ quiescent_DwpoolReferenceIdeal (hDwpoolReferenceIdeal := hDwpoolReferenceIdeal)
    ∧ quiescent_Adam2 (hAdam2 := hAdam2)
    ∧ quiescent_Adam2Ideal (hAdam2Ideal := hAdam2Ideal)
    ∧ quiescent_Adam2ReferenceIdeal (hAdam2ReferenceIdeal := hAdam2ReferenceIdeal)
    ∧ quiescent_Adam1 (hAdam1 := hAdam1)
    ∧ quiescent_Adam1Ideal (hAdam1Ideal := hAdam1Ideal)
    ∧ quiescent_Adam1ReferenceIdeal (hAdam1ReferenceIdeal := hAdam1ReferenceIdeal)
    ∧ quiescent_Adamlb (hAdamlb := hAdamlb)
    ∧ quiescent_AdamlbIdeal (hAdamlbIdeal := hAdamlbIdeal)
    ∧ quiescent_AdamlbReferenceIdeal (hAdamlbReferenceIdeal := hAdamlbReferenceIdeal)
    ∧ quiescent_Adamhg (hAdamhg := hAdamhg)
    ∧ quiescent_AdamhgIdeal (hAdamhgIdeal := hAdamhgIdeal)
    ∧ quiescent_AdamhgReferenceIdeal (hAdamhgReferenceIdeal := hAdamhgReferenceIdeal)
    ∧ quiescent_Adamsc (hAdamsc := hAdamsc)
    ∧ quiescent_AdamscIdeal (hAdamscIdeal := hAdamscIdeal)
    ∧ quiescent_AdamscReferenceIdeal (hAdamscReferenceIdeal := hAdamscReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateReferenceIdeal_pre_finite_dact (hGateIdeal := hGateIdeal) (hGateReferenceIdeal := hGateReferenceIdeal) (hPre_finite_dact := hPre_finite_dact)
    ∧ preserves_Dh_DhIdeal
    ∧ algebraic_DhIdeal_DhReferenceIdeal (hDhIdeal := hDhIdeal) (hDhReferenceIdeal := hDhReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Dw_DwIdeal
    ∧ algebraic_DwIdeal_DwReferenceIdeal (hDwIdeal := hDwIdeal) (hDwReferenceIdeal := hDwReferenceIdeal)
    ∧ preserves_Dwin_DwinIdeal
    ∧ algebraic_DwinIdeal_DwinReferenceIdeal (hDwinIdeal := hDwinIdeal) (hDwinReferenceIdeal := hDwinReferenceIdeal)
    ∧ preserves_Dwd_DwdIdeal
    ∧ algebraic_DwdIdeal_DwdReferenceIdeal (hDwdIdeal := hDwdIdeal) (hDwdReferenceIdeal := hDwdReferenceIdeal)
    ∧ preserves_Din_DinIdeal
    ∧ algebraic_DinIdeal_DinReferenceIdeal (hDinIdeal := hDinIdeal) (hDinReferenceIdeal := hDinReferenceIdeal)
    ∧ preserves_Pin_PinIdeal
    ∧ algebraic_PinIdeal_PinReferenceIdeal (hPinIdeal := hPinIdeal) (hPinReferenceIdeal := hPinReferenceIdeal)
    ∧ preserves_Pout_PoutIdeal
    ∧ algebraic_PoutIdeal_PoutReferenceIdeal (hPoutIdeal := hPoutIdeal) (hPoutReferenceIdeal := hPoutReferenceIdeal)
    ∧ preserves_Dcat_DcatIdeal
    ∧ algebraic_DcatIdeal_DcatReferenceIdeal (hDcatIdeal := hDcatIdeal) (hDcatReferenceIdeal := hDcatReferenceIdeal)
    ∧ preserves_Dwout_DwoutIdeal
    ∧ algebraic_DwoutIdeal_DwoutReferenceIdeal (hDwoutIdeal := hDwoutIdeal) (hDwoutReferenceIdeal := hDwoutReferenceIdeal)
    ∧ preserves_Pool_PoolIdeal
    ∧ algebraic_PoolIdeal_PoolReferenceIdeal (hPoolIdeal := hPoolIdeal) (hPoolReferenceIdeal := hPoolReferenceIdeal)
    ∧ preserves_Dpooled_DpooledIdeal
    ∧ algebraic_DpooledIdeal_DpooledReferenceIdeal (hDpooledIdeal := hDpooledIdeal) (hDpooledReferenceIdeal := hDpooledReferenceIdeal)
    ∧ preserves_Dwpool_DwpoolIdeal
    ∧ algebraic_DwpoolIdeal_DwpoolReferenceIdeal (hDwpoolIdeal := hDwpoolIdeal) (hDwpoolReferenceIdeal := hDwpoolReferenceIdeal)
    ∧ preserves_Adam2_Adam2Ideal
    ∧ algebraic_Adam2Ideal_Adam2ReferenceIdeal (hAdam2Ideal := hAdam2Ideal) (hAdam2ReferenceIdeal := hAdam2ReferenceIdeal)
    ∧ preserves_Adam1_Adam1Ideal
    ∧ algebraic_Adam1Ideal_Adam1ReferenceIdeal (hAdam1Ideal := hAdam1Ideal) (hAdam1ReferenceIdeal := hAdam1ReferenceIdeal)
    ∧ preserves_Adamlb_AdamlbIdeal
    ∧ algebraic_AdamlbIdeal_AdamlbReferenceIdeal (hAdamlbIdeal := hAdamlbIdeal) (hAdamlbReferenceIdeal := hAdamlbReferenceIdeal)
    ∧ preserves_Adamhg_AdamhgIdeal
    ∧ algebraic_AdamhgIdeal_AdamhgReferenceIdeal (hAdamhgIdeal := hAdamhgIdeal) (hAdamhgReferenceIdeal := hAdamhgReferenceIdeal)
    ∧ preserves_Adamsc_AdamscIdeal
    ∧ algebraic_AdamscIdeal_AdamscReferenceIdeal (hAdamscIdeal := hAdamscIdeal) (hAdamscReferenceIdeal := hAdamscReferenceIdeal)
-- ==== Pre_finite.lean ====
abbrev S8192x7168 : Shape := ⟨2, ![8192, 7168]⟩
abbrev S8192x2048 : Shape := ⟨2, ![8192, 2048]⟩
abbrev S_ : Shape := ⟨0, ![]⟩

class Facts : Prop where
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x7168 .f32) (main_arg1 : FVec F S8192x2048 .f32) : IVec S_ 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_c : IVec S_ 1 := constantI S_ 1 1#1
  let main_v3 : IVec S_ 1 := (fun x v => Host.reduce IntOp.andi x v reducesTo_S8192x7168_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Pre_finite_dact.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S5632x2048 .f32) (main_v3 : IVec S_ 1) (main_v7 : IVec S_ 1) (main_v11 : IVec S_ 1) (main_v15 : IVec S_ 1) : IVec S_ 1 :=
  let main_v16 : FVec F S5632x2048 .f32 := Host.absf main_arg4
  let main_cst_6 : FVec F S_ .f32 := constant S_ .f32 0x7F800000#32
  let main_v17 : FVec F S5632x2048 .f32 := broadcastInDim S5632x2048 ![] bcast_S_S5632x2048 main_cst_6
  let main_v18 : IVec S5632x2048 1 := cmpf .olt main_v16 main_v17
  let main_c_7 : IVec S_ 1 := constantI S_ 1 1#1
  let main_v19 : IVec S_ 1 := (fun x v => Host.reduce IntOp.andi x v reducesTo_S5632x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2048 .f32) (main_arg1 : FVec F S8192x2048 .f32) (main_arg2 : FVec F S2048x5632 .f32) (main_arg3 : FVec F S2048x5632 .f32) (main_arg4 : FVec F S5632x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S2048x5632 .f32 := Host.absf main_arg2
  let main_cst_2 : FVec F S_ .f32 := constant S_ .f32 0x7F800000#32
  let main_v9 : FVec F S2048x5632 .f32 := broadcastInDim S2048x5632 ![] bcast_S_S2048x5632 main_cst_2
  let main_v10 : IVec S2048x5632 1 := cmpf .olt main_v8 main_v9
  let main_c_3 : IVec S_ 1 := constantI S_ 1 1#1
  let main_v11 : IVec S_ 1 := (fun x v => Host.reduce IntOp.andi x v reducesTo_S2048x5632_S_d0_1 h_S_) main_v10 main_c_3
  let main_v12 : FVec F S2048x5632 .f32 := Host.absf main_arg3
  let main_cst_4 : FVec F S_ .f32 := constant S_ .f32 0x7F800000#32
  let main_v13 : FVec F S2048x5632 .f32 := broadcastInDim S2048x5632 ![] bcast_S_S2048x5632 main_cst_4
  let main_v14 : IVec S2048x5632 1 := cmpf .olt main_v12 main_v13
  let main_c_5 : IVec S_ 1 := constantI S_ 1 1#1
  let main_v15 : IVec S_ 1 := (fun x v => Host.reduce IntOp.andi x v reducesTo_S2048x5632_S_d0_1 h_S_) main_v14 main_c_5
  fn_part1 (F := F) main_arg4 main_v3 main_v7 main_v11 main_v15
-- ==== Kernel.lean ====
abbrev S8192x7168 : Shape := ⟨2, ![8192, 7168]⟩
abbrev S8192x2048 : Shape := ⟨2, ![8192, 2048]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192x8192 : Shape := ⟨2, ![8192, 8192]⟩
abbrev S8x8192 : Shape := ⟨2, ![8, 8192]⟩
abbrev S8192x8 : Shape := ⟨2, ![8192, 8]⟩
abbrev S8192x8x1 : Shape := ⟨3, ![8192, 8, 1]⟩
abbrev S256x256 : Shape := ⟨2, ![256, 256]⟩
abbrev S8192x256 : Shape := ⟨2, ![8192, 256]⟩
abbrev S2x32x128x256 : Shape := ⟨4, ![2, 32, 128, 256]⟩
abbrev S256x128 : Shape := ⟨2, ![256, 128]⟩
abbrev S128x256 : Shape := ⟨2, ![128, 256]⟩
abbrev S256x1 : Shape := ⟨2, ![256, 1]⟩
abbrev S1x1x128x256 : Shape := ⟨4, ![1, 1, 128, 256]⟩

abbrev nBuf : Space → Nat
  | .hbm => 48
  | .vmem => 18
  | .smem => 0
  | _ => 0

abbrev bufTy : (tb : Table) → Fin (tcTables nBuf tb) → BufTy
  | .hbm, ⟨0, _⟩ => ⟨S8192x7168, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x8x128, .f32⟩
  | .hbm, ⟨5, _⟩ => ⟨S8x8192x128, .f32⟩
  | .hbm, ⟨6, _⟩ => ⟨S8192x8x128, .f32⟩
  | .hbm, ⟨7, _⟩ => ⟨S8x8192x128, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8x8192x8192, .f32⟩
  | .hbm, ⟨16, _⟩ => ⟨S8x8192x8192, .f32⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S_, .f32⟩
  | .hbm, ⟨35, _⟩ => ⟨S8x8192x8192, .i1⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8192x8, .f32⟩
  | .hbm, ⟨41, _⟩ => ⟨S8192x8x1, .f32⟩
  | .hbm, ⟨42, _⟩ => ⟨S8192x8x128, .f32⟩
  | .hbm, ⟨43, _⟩ => ⟨S8192x1024, .f32⟩
  | .hbm, ⟨44, _⟩ => ⟨S8192x7168, .bf16⟩
  | .hbm, ⟨45, _⟩ => ⟨S8192x1024, .bf16⟩
  | .hbm, ⟨46, _⟩ => ⟨S8192x1024, .bf16⟩
  | .hbm, ⟨47, _⟩ => ⟨S8192x1024, .bf16⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S8192x256, .bf16⟩
  | .local _ .vmem, ⟨13, _⟩ => ⟨S8192x256, .bf16⟩
  | .local _ .vmem, ⟨14, _⟩ => ⟨S8192x256, .bf16⟩
  | .local _ .vmem, ⟨15, _⟩ => ⟨S8192x256, .bf16⟩
  | .local _ .vmem, ⟨16, _⟩ => ⟨S2x32x128x256, .f32⟩
  | .local _ .vmem, ⟨17, _⟩ => ⟨S2x32x128x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_16 : BitVec 32 := 0#32
  let arg1 : BitVec 32 := BitVec.ofNat 32 (i 1).val
  let v48 : BitVec 32 := Scalar.subi arg1 c0_i32_16
  let c1_i32 : BitVec 32 := 1#32
  let v50 : BitVec 32 := Scalar.divsi v48 c1_i32
  let v51 : BitVec 32 := Scalar.muli v50 c1_i32
  let v52 : BitVec 32 := Scalar.addi c0_i32_16 v51
  let c1_i32_17 : BitVec 32 := 1#32
  ⟨c0_i32_16, v52, c1_i32_17⟩
def k0_mult1 (i : grid0.Coords) (k0_t1 : Fin (k0_t1_loop i).trips) : BitVec 32 :=
  let c0_i32_16 : BitVec 32 := 0#32
  let c1_i32_17 : BitVec 32 := 1#32
  let arg12 : BitVec 32 := Scf.iv c0_i32_16 c1_i32_17 k0_t1
  let c256_i32_81 : BitVec 32 := 256#32
  let v196 : BitVec 32 := Scalar.muli arg12 c256_i32_81
  v196
def k0_off1 (i : grid0.Coords) (k0_t1 : Fin (k0_t1_loop i).trips) : Fin 2 → Nat :=
  let c0_i32_16 : BitVec 32 := 0#32
  let c1_i32_17 : BitVec 32 := 1#32
  let arg12 : BitVec 32 := Scf.iv c0_i32_16 c1_i32_17 k0_t1
  let c256_i32_81 : BitVec 32 := 256#32
  let v196 : BitVec 32 := Scalar.muli arg12 c256_i32_81
  let v197 : BitVec 32 := v196
  let v198 : Index := Scalar.indexCast v197
  let c0_82 : Index := 0#32
  ![v198.toNat, 0]
def k0_off2 (i : grid0.Coords) (k0_t1 : Fin (k0_t1_loop i).trips) : Fin 2 → Nat :=
  let c0_i32_16 : BitVec 32 := 0#32
  let c1_i32_17 : BitVec 32 := 1#32
  let arg12 : BitVec 32 := Scf.iv c0_i32_16 c1_i32_17 k0_t1
  let c256_i32_81 : BitVec 32 := 256#32
  let v196 : BitVec 32 := Scalar.muli arg12 c256_i32_81
  let v197 : BitVec 32 := v196
  let v202 : Index := Scalar.indexCast v197
  let c128_84 : Index := 128#32
  ![v202.toNat, 128]
def k0_off3 (i : grid0.Coords) (k0_t1 : Fin (k0_t1_loop i).trips) : Fin 4 → Nat :=
  let c0_102 : Index := 0#32
  let c0_i32_16 : BitVec 32 := 0#32
  let c1_i32_17 : BitVec 32 := 1#32
  let arg12 : BitVec 32 := Scf.iv c0_i32_16 c1_i32_17 k0_t1
  let v274 : Index := Scalar.indexCast arg12
  let c0_103 : Index := 0#32
  let c0_104 : Index := 0#32
  ![0, v274.toNat, 0, 0]
def k0_off4 (i : grid0.Coords) (k0_t1 : Fin (k0_t1_loop i).trips) : Fin 4 → Nat :=
  let c1_118 : Index := 1#32
  let c0_i32_16 : BitVec 32 := 0#32
  let c1_i32_17 : BitVec 32 := 1#32
  let arg12 : BitVec 32 := Scf.iv c0_i32_16 c1_i32_17 k0_t1
  let v305 : Index := Scalar.indexCast arg12
  let c0_119 : Index := 0#32
  let c0_120 : Index := 0#32
  ![1, v305.toNat, 0, 0]
@[reducible] def k0_t2_loop (i : grid0.Coords) : Scf.Loop 32 :=
  let c0_i32_16 : BitVec 32 := 0#32
  let arg1 : BitVec 32 := BitVec.ofNat 32 (i 1).val
  let v48 : BitVec 32 := Scalar.subi arg1 c0_i32_16
  let c1_i32 : BitVec 32 := 1#32
  let v50 : BitVec 32 := Scalar.divsi v48 c1_i32
  let v51 : BitVec 32 := Scalar.muli v50 c1_i32
  let v52 : BitVec 32 := Scalar.addi c0_i32_16 v51
  let v49 : BitVec 32 := Scalar.addi c0_i32_16 v48
  let c1_i32_18 : BitVec 32 := 1#32
  ⟨v52, v49, c1_i32_18⟩
def k0_mult2 (i : grid0.Coords) (k0_t2 : Fin (k0_t2_loop i).trips) : BitVec 32 :=
  let c0_i32_16 : BitVec 32 := 0#32
  let arg1 : BitVec 32 := BitVec.ofNat 32 (i 1).val
  let v48 : BitVec 32 := Scalar.subi arg1 c0_i32_16
  let c1_i32 : BitVec 32 := 1#32
  let v50 : BitVec 32 := Scalar.divsi v48 c1_i32
  let v51 : BitVec 32 := Scalar.muli v50 c1_i32
  let v52 : BitVec 32 := Scalar.addi c0_i32_16 v51
  let c1_i32_18 : BitVec 32 := 1#32
  let arg12 : BitVec 32 := Scf.iv v52 c1_i32_18 k0_t2
  let c256_i32_81 : BitVec 32 := 256#32
  let v196 : BitVec 32 := Scalar.muli arg12 c256_i32_81
  v196
def k0_off5 (i : grid0.Coords) (k0_t2 : Fin (k0_t2_loop i).trips) : Fin 2 → Nat :=
  let c0_i32_16 : BitVec 32 := 0#32
  let arg1 : BitVec 32 := BitVec.ofNat 32 (i 1).val
  let v48 : BitVec 32 := Scalar.subi arg1 c0_i32_16
  let c1_i32 : BitVec 32 := 1#32
  let v50 : BitVec 32 := Scalar.divsi v48 c1_i32
  let v51 : BitVec 32 := Scalar.muli v50 c1_i32
  let v52 : BitVec 32 := Scalar.addi c0_i32_16 v51
  let c1_i32_18 : BitVec 32 := 1#32
  let arg12 : BitVec 32 := Scf.iv v52 c1_i32_18 k0_t2
  let c256_i32_81 : BitVec 32 := 256#32
  let v196 : BitVec 32 := Scalar.muli arg12 c256_i32_81
  let v197 : BitVec 32 := v196
  let v198 : Index := Scalar.indexCast v197
  let c0_82 : Index := 0#32
  ![v198.toNat, 0]
def k0_off6 (i : grid0.Coords) (k0_t2 : Fin (k0_t2_loop i).trips) : Fin 2 → Nat :=
  let c0_i32_16 : BitVec 32 := 0#32
  let arg1 : BitVec 32 := BitVec.ofNat 32 (i 1).val
  let v48 : BitVec 32 := Scalar.subi arg1 c0_i32_16
  let c1_i32 : BitVec 32 := 1#32
  let v50 : BitVec 32 := Scalar.divsi v48 c1_i32
  let v51 : BitVec 32 := Scalar.muli v50 c1_i32
  let v52 : BitVec 32 := Scalar.addi c0_i32_16 v51
  let c1_i32_18 : BitVec 32 := 1#32
  let arg12 : BitVec 32 := Scf.iv v52 c1_i32_18 k0_t2
  let c256_i32_81 : BitVec 32 := 256#32
  let v196 : BitVec 32 := Scalar.muli arg12 c256_i32_81
  let v197 : BitVec 32 := v196
  let v202 : Index := Scalar.indexCast v197
  let c128_84 : Index := 128#32
  ![v202.toNat, 128]
def k0_off7 (i : grid0.Coords) (k0_t2 : Fin (k0_t2_loop i).trips) : Fin 4 → Nat :=
  let c0_102 : Index := 0#32
  let c0_i32_16 : BitVec 32 := 0#32
  let arg1 : BitVec 32 := BitVec.ofNat 32 (i 1).val
  let v48 : BitVec 32 := Scalar.subi arg1 c0_i32_16
  let c1_i32 : BitVec 32 := 1#32
  let v50 : BitVec 32 := Scalar.divsi v48 c1_i32
  let v51 : BitVec 32 := Scalar.muli v50 c1_i32
  let v52 : BitVec 32 := Scalar.addi c0_i32_16 v51
  let c1_i32_18 : BitVec 32 := 1#32
  let arg12 : BitVec 32 := Scf.iv v52 c1_i32_18 k0_t2
  let v274 : Index := Scalar.indexCast arg12
  let c0_103 : Index := 0#32
  let c0_104 : Index := 0#32
  ![0, v274.toNat, 0, 0]
def k0_off8 (i : grid0.Coords) (k0_t2 : Fin (k0_t2_loop i).trips) : Fin 4 → Nat :=
  let c1_118 : Index := 1#32
  let c0_i32_16 : BitVec 32 := 0#32
  let arg1 : BitVec 32 := BitVec.ofNat 32 (i 1).val
  let v48 : BitVec 32 := Scalar.subi arg1 c0_i32_16
  let c1_i32 : BitVec 32 := 1#32
  let v50 : BitVec 32 := Scalar.divsi v48 c1_i32
  let v51 : BitVec 32 := Scalar.muli v50 c1_i32
  let v52 : BitVec 32 := Scalar.addi c0_i32_16 v51
  let c1_i32_18 : BitVec 32 := 1#32
  let arg12 : BitVec 32 := Scf.iv v52 c1_i32_18 k0_t2
  let v305 : Index := Scalar.indexCast arg12
  let c0_119 : Index := 0#32
  let c0_120 : Index := 0#32
  ![1, v305.toNat, 0, 0]
def k0_mult3 (i : grid0.Coords) : BitVec 32 :=
  let arg1 : BitVec 32 := BitVec.ofNat 32 (i 1).val
  let c256_i32 : BitVec 32 := 256#32
  let v55 : BitVec 32 := Scalar.muli arg1 c256_i32
  v55
def k0_off9 (i : grid0.Coords) : Fin 2 → Nat :=
  let arg1 : BitVec 32 := BitVec.ofNat 32 (i 1).val
  let c256_i32 : BitVec 32 := 256#32
  let v55 : BitVec 32 := Scalar.muli arg1 c256_i32
  let v56 : BitVec 32 := v55
  let v57 : Index := Scalar.indexCast v56
  let c0_19 : Index := 0#32
  ![v57.toNat, 0]
def k0_off10 (i : grid0.Coords) : Fin 2 → Nat :=
  let arg1 : BitVec 32 := BitVec.ofNat 32 (i 1).val
  let c256_i32 : BitVec 32 := 256#32
  let v55 : BitVec 32 := Scalar.muli arg1 c256_i32
  let v56 : BitVec 32 := v55
  let v61 : Index := Scalar.indexCast v56
  let c128_21 : Index := 128#32
  ![v61.toNat, 128]
def k0_off11 (i : grid0.Coords) : Fin 4 → Nat :=
  let c0_44 : Index := 0#32
  let arg1 : BitVec 32 := BitVec.ofNat 32 (i 1).val
  let v137 : Index := Scalar.indexCast arg1
  let c0_45 : Index := 0#32
  let c0_46 : Index := 0#32
  ![0, v137.toNat, 0, 0]
def k0_off12 (i : grid0.Coords) : Fin 4 → Nat :=
  let c1 : Index := 1#32
  let arg1 : BitVec 32 := BitVec.ofNat 32 (i 1).val
  let v167 : Index := Scalar.indexCast arg1
  let c0_61 : Index := 0#32
  let c0_62 : Index := 0#32
  ![1, v167.toNat, 0, 0]
def k0_cond2 (i : grid0.Coords) : BitVec 1 :=
  let arg1 : BitVec 32 := BitVec.ofNat 32 (i 1).val
  let c31_i32 : BitVec 32 := 31#32
  let v193 : BitVec 1 := Scalar.cmpi .eq arg1 c31_i32
  let v194 : BitVec 32 := Scalar.extui v193
  let c0_i32_80 : BitVec 32 := 0#32
  let v195 : BitVec 1 := Scalar.cmpi .ne v194 c0_i32_80
  v195

@[reducible] def k0_t3_loop : Scf.Loop 32 :=
  let c0_i32_81 : BitVec 32 := 0#32
  let c32_i32 : BitVec 32 := 32#32
  let v196 : BitVec 32 := Scalar.addi c0_i32_81 c32_i32
  let c1_i32_82 : BitVec 32 := 1#32
  ⟨c0_i32_81, v196, c1_i32_82⟩
def k0_mult4 (k0_t3 : Fin k0_t3_loop.trips) : BitVec 32 :=
  let c0_i32_81 : BitVec 32 := 0#32
  let c1_i32_82 : BitVec 32 := 1#32
  let arg12 : BitVec 32 := Scf.iv c0_i32_81 c1_i32_82 k0_t3
  let c256_i32_84 : BitVec 32 := 256#32
  let v197 : BitVec 32 := Scalar.muli arg12 c256_i32_84
  v197
def k0_off13 (k0_t3 : Fin k0_t3_loop.trips) : Fin 4 → Nat :=
  let c0_85 : Index := 0#32
  let c0_i32_81 : BitVec 32 := 0#32
  let c1_i32_82 : BitVec 32 := 1#32
  let arg12 : BitVec 32 := Scf.iv c0_i32_81 c1_i32_82 k0_t3
  let v199 : Index := Scalar.indexCast arg12
  let c0_86 : Index := 0#32
  let c0_87 : Index := 0#32
  ![0, v199.toNat, 0, 0]
def k0_off14 (k0_t3 : Fin k0_t3_loop.trips) : Fin 2 → Nat :=
  let c0_i32_81 : BitVec 32 := 0#32
  let c1_i32_82 : BitVec 32 := 1#32
  let arg12 : BitVec 32 := Scf.iv c0_i32_81 c1_i32_82 k0_t3
  let c256_i32_84 : BitVec 32 := 256#32
  let v197 : BitVec 32 := Scalar.muli arg12 c256_i32_84
  let v198 : BitVec 32 := v197
  let v204 : Index := Scalar.indexCast v198
  let c0_88 : Index := 0#32
  ![v204.toNat, 0]
def k0_off15 (k0_t3 : Fin k0_t3_loop.trips) : Fin 4 → Nat :=
  let c1_93 : Index := 1#32
  let c0_i32_81 : BitVec 32 := 0#32
  let c1_i32_82 : BitVec 32 := 1#32
  let arg12 : BitVec 32 := Scf.iv c0_i32_81 c1_i32_82 k0_t3
  let v213 : Index := Scalar.indexCast arg12
  let c0_94 : Index := 0#32
  let c0_95 : Index := 0#32
  ![1, v213.toNat, 0, 0]
def k0_off16 (k0_t3 : Fin k0_t3_loop.trips) : Fin 2 → Nat :=
  let c0_i32_81 : BitVec 32 := 0#32
  let c1_i32_82 : BitVec 32 := 1#32
  let arg12 : BitVec 32 := Scf.iv c0_i32_81 c1_i32_82 k0_t3
  let c256_i32_84 : BitVec 32 := 256#32
  let v197 : BitVec 32 := Scalar.muli arg12 c256_i32_84
  let v198 : BitVec 32 := v197
  let v218 : Index := Scalar.indexCast v198
  let c128_96 : Index := 128#32
  ![v218.toNat, 128]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S8192x7168 : Shape := ⟨2, ![8192, 7168]⟩
abbrev S8192x2048 : Shape := ⟨2, ![8192, 2048]⟩
abbrev S8192x1024 : Shape := ⟨2, ![8192, 1024]⟩
abbrev S8192x8x128 : Shape := ⟨3, ![8192, 8, 128]⟩
abbrev S8x8192x128 : Shape := ⟨3, ![8, 8192, 128]⟩
abbrev S8192x8192 : Shape := ⟨2, ![8192, 8192]⟩
abbrev S8x8192x8192 : Shape := ⟨3, ![8, 8192, 8192]⟩
abbrev S_ : Shape := ⟨0, ![]⟩
abbrev S8x128x8192 : Shape := ⟨3, ![8, 128, 8192]⟩

abbrev nBuf : Space → Nat
  | .hbm => 178
  | .vmem => 0
  | .smem => 0
  | _ => 0

abbrev hbmTy0_0 (i : Nat) : BufTy := match i % 128 with
  | 0 => ⟨S8192x7168, .f32⟩
  | 1 => ⟨S8192x2048, .f32⟩
  | 2 => ⟨S8192x1024, .f32⟩
  | 3 => ⟨S8192x1024, .f32⟩
  | 4 => ⟨S8192x1024, .f32⟩
  | 5 => ⟨S8192x8x128, .f32⟩
  | 6 => ⟨S8x8192x128, .f32⟩
  | 7 => ⟨S8192x8x128, .f32⟩
  | 8 => ⟨S8x8192x128, .f32⟩
  | 9 => ⟨S8192x8x128, .f32⟩
  | 10 => ⟨S8x8192x128, .f32⟩
  | 11 => ⟨S8192x8192, .i32⟩
  | 12 => ⟨S8192x8192, .i32⟩
  | 13 => ⟨S8192x8192, .i1⟩
  | 14 => ⟨S8x8192x8192, .f32⟩
  | 15 => ⟨S_, .f32⟩
  | 16 => ⟨S8x8192x8192, .f32⟩
  | 17 => ⟨S8x8192x8192, .f32⟩
  | 18 => ⟨S8x8192x8192, .f32⟩
  | 19 => ⟨S8x8192x8192, .f32⟩
  | 20 => ⟨S_, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .i1⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .i1⟩
  | 37 => ⟨S_, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S8x8192x8192, .f32⟩
  | 47 => ⟨S8x8192x8192, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x8192x8192, .f32⟩
  | 56 => ⟨S8x8192x8192, .i1⟩
  | 57 => ⟨S_, .f32⟩
  | 58 => ⟨S8x8192x8192, .f32⟩
  | 59 => ⟨S8x8192x8192, .f32⟩
  | 60 => ⟨S8x8192x8192, .f32⟩
  | 61 => ⟨S8x8192x8192, .f32⟩
  | 62 => ⟨S8x8192x8192, .f32⟩
  | 63 => ⟨S_, .f32⟩
  | 64 => ⟨S8x8192x8192, .f32⟩
  | 65 => ⟨S8x8192x8192, .f32⟩
  | 66 => ⟨S8x8192x8192, .f32⟩
  | 67 => ⟨S_, .f32⟩
  | 68 => ⟨S_, .f32⟩
  | 69 => ⟨S8x8192x8192, .i1⟩
  | 70 => ⟨S8x8192x8192, .f32⟩
  | 71 => ⟨S8x8192x8192, .f32⟩
  | 72 => ⟨S_, .f32⟩
  | 73 => ⟨S8x8192x8192, .f32⟩
  | 74 => ⟨S_, .f32⟩
  | 75 => ⟨S_, .f32⟩
  | 76 => ⟨S8x8192x8192, .f32⟩
  | 77 => ⟨S8x8192x8192, .f32⟩
  | 78 => ⟨S8x8192x8192, .f32⟩
  | 79 => ⟨S_, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .i1⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S_, .f32⟩
  | 94 => ⟨S8x8192x8192, .f32⟩
  | 95 => ⟨S8x8192x8192, .i1⟩
  | 96 => ⟨S_, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .i1⟩
  | 102 => ⟨S_, .f32⟩
  | 103 => ⟨S8x8192x8192, .f32⟩
  | 104 => ⟨S8x8192x8192, .f32⟩
  | 105 => ⟨S8x8192x8192, .f32⟩
  | 106 => ⟨S8x8192x8192, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x8192x8192, .f32⟩
  | 115 => ⟨S8x8192x8192, .i1⟩
  | 116 => ⟨S_, .f32⟩
  | 117 => ⟨S8x8192x8192, .f32⟩
  | 118 => ⟨S8x8192x8192, .f32⟩
  | 119 => ⟨S8x8192x8192, .f32⟩
  | 120 => ⟨S8x8192x8192, .f32⟩
  | 121 => ⟨S8x8192x8192, .f32⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x7168, .f32⟩

abbrev hbmTy0_1 (i : Nat) : BufTy := match i % 128 with
  | 0 => ⟨S_, .f32⟩
  | 1 => ⟨S_, .f32⟩
  | 2 => ⟨S8x8192x8192, .i1⟩
  | 3 => ⟨S8x8192x8192, .f32⟩
  | 4 => ⟨S8x8192x8192, .f32⟩
  | 5 => ⟨S_, .f32⟩
  | 6 => ⟨S8x8192x8192, .f32⟩
  | 7 => ⟨S8x8192x128, .f32⟩
  | 8 => ⟨S8192x8x128, .f32⟩
  | 9 => ⟨S8192x1024, .f32⟩
  | 10 => ⟨S8192x1024, .f32⟩
  | 11 => ⟨S8192x8x128, .f32⟩
  | 12 => ⟨S8x8192x128, .f32⟩
  | 13 => ⟨S8x128x8192, .f32⟩
  | 14 => ⟨S8x8192x128, .f32⟩
  | 15 => ⟨S8x8192x8192, .f32⟩
  | 16 => ⟨S_, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S_, .f32⟩
  | 25 => ⟨S_, .f32⟩
  | 26 => ⟨S8x8192x8192, .f32⟩
  | 27 => ⟨S8x8192x8192, .f32⟩
  | 28 => ⟨S_, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S_, .f32⟩
  | 37 => ⟨S8x8192x8192, .f32⟩
  | 38 => ⟨S8x8192x8192, .f32⟩
  | 39 => ⟨S8x8192x128, .f32⟩
  | 40 => ⟨S8x8192x128, .f32⟩
  | 41 => ⟨S8192x8x128, .f32⟩
  | 42 => ⟨S8192x1024, .f32⟩
  | 43 => ⟨S8192x8x128, .f32⟩
  | 44 => ⟨S8192x1024, .f32⟩
  | 45 => ⟨S8192x8x128, .f32⟩
  | 46 => ⟨S8192x1024, .f32⟩
  | 47 => ⟨S8192x1024, .bf16⟩
  | 48 => ⟨S8192x1024, .bf16⟩
  | 49 => ⟨S8192x1024, .bf16⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_call6_v0 : Ref sig .tc := ⟨.hbm, 148, rfl⟩
abbrev main_call6_v1 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_v38 : Ref sig .tc := ⟨.hbm, 155, rfl⟩
abbrev main_call8_cst : Ref sig .tc := ⟨.hbm, 156, rfl⟩
abbrev main_call8_v0 : Ref sig .tc := ⟨.hbm, 157, rfl⟩
abbrev main_v39 : Ref sig .tc := ⟨.hbm, 158, rfl⟩
abbrev main_call9_v0 : Ref sig .tc := ⟨.hbm, 159, rfl⟩
abbrev main_call9_v1 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_cst_2 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== Gate.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1x5632x2048 : Shape := ⟨3, ![1, 5632, 2048]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 14
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x5632, .f32⟩
  | .hbm, ⟨6, _⟩ => ⟨S8192x5632, .bf16⟩
  | .hbm, ⟨7, _⟩ => ⟨S8192x5632, .f32⟩
  | .hbm, ⟨8, _⟩ => ⟨S8192x5632, .bf16⟩
  | .hbm, ⟨9, _⟩ => ⟨S8192x2048, .bf16⟩
  | .hbm, ⟨10, _⟩ => ⟨S5632x2048, .bf16⟩
  | .hbm, ⟨11, _⟩ => ⟨S1x5632x2048, .bf16⟩
  | .hbm, ⟨12, _⟩ => ⟨S8192x5632, .bf16⟩
  | .hbm, ⟨13, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![1, 4, 16, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== GateReferenceIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .bf16⟩
  | .hbm, ⟨30, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Dh.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S1x2048x5632 : Shape := ⟨3, ![1, 2048, 5632]⟩
abbrev S1024x2816 : Shape := ⟨2, ![1024, 2816]⟩
abbrev S1x512x2816 : Shape := ⟨3, ![1, 512, 2816]⟩
abbrev S1024x512 : Shape := ⟨2, ![1024, 512]⟩
abbrev S512x2816 : Shape := ⟨2, ![512, 2816]⟩

abbrev nBuf : Space → Nat
  | .hbm => 36
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .bf16⟩
  | .hbm, ⟨30, _⟩ => ⟨S8192x5632, .bf16⟩
  | .hbm, ⟨31, _⟩ => ⟨S2048x5632, .bf16⟩
  | .hbm, ⟨32, _⟩ => ⟨S1x2048x5632, .bf16⟩
  | .hbm, ⟨33, _⟩ => ⟨S2048x5632, .bf16⟩
  | .hbm, ⟨34, _⟩ => ⟨S1x2048x5632, .bf16⟩
  | .hbm, ⟨35, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1x512x2816, .bf16⟩
  | .local _ .vmem, ⟨7, _⟩ => ⟨S1x512x2816, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 8, 4, 2], ![false, false, false, false]⟩

def k0_cond3 (i : grid0.Coords) : BitVec 1 :=
  let arg3 : BitVec 32 := BitVec.ofNat 32 (i 3).val
  let c1_i32 : BitVec 32 := 1#32
  let v17 : BitVec 1 := Scalar.cmpi .eq arg3 c1_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![arg1.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== DhReferenceIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x2048, .f32⟩
  | .hbm, ⟨30, _⟩ => ⟨S8192x2048, .f32⟩
  | .hbm, ⟨31, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Up.lean ====
abbrev S8192x2048 : Shape := ⟨2, ![8192, 2048]⟩
abbrev S2048x5632 : Shape := ⟨2, ![2048, 5632]⟩
abbrev S1x2048x5632 : Shape := ⟨3, ![1, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S2048x5632, .bf16⟩
  | .hbm, ⟨5, _⟩ => ⟨S1x2048x5632, .bf16⟩
  | .hbm, ⟨6, _⟩ => ⟨S2048x5632, .bf16⟩
  | .hbm, ⟨7, _⟩ => ⟨S1x2048x5632, .bf16⟩
  | .hbm, ⟨8, _⟩ => ⟨S8192x5632, .bf16⟩
  | .hbm, ⟨9, _⟩ => ⟨S8192x5632, .bf16⟩
  | .hbm, ⟨10, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![1, 8, 11, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg2
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg2
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== UpReferenceIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .bf16⟩
  | .hbm, ⟨6, _⟩ => ⟨S8192x5632, .bf16⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Down.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S1x5632x2048 : Shape := ⟨3, ![1, 5632, 2048]⟩
abbrev S1024x5632 : Shape := ⟨2, ![1024, 5632]⟩
abbrev S1x5632x512 : Shape := ⟨3, ![1, 5632, 512]⟩
abbrev S1024x512 : Shape := ⟨2, ![1024, 512]⟩
abbrev S256x5632 : Shape := ⟨2, ![256, 5632]⟩
abbrev S5632x512 : Shape := ⟨2, ![5632, 512]⟩
abbrev S256x512 : Shape := ⟨2, ![256, 512]⟩

abbrev nBuf : Space → Nat
  | .hbm => 21
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | .hbm, ⟨18, _⟩ => ⟨S5632x2048, .bf16⟩
  | .hbm, ⟨19, _⟩ => ⟨S1x5632x2048, .bf16⟩
  | .hbm, ⟨20, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== DownReferenceIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Dw.lean ====
abbrev S8192x2048 : Shape := ⟨2, ![8192, 2048]⟩
abbrev S8192x5632 : Shape := ⟨2, ![8192, 5632]⟩
abbrev S4x2x2x1024x1408 : Shape := ⟨5, ![4, 2, 2, 1024, 1408]⟩
abbrev S2048x512 : Shape := ⟨2, ![2048, 512]⟩
abbrev S2048x1408 : Shape := ⟨2, ![2048, 1408]⟩
abbrev S1x1x1x512x1408 : Shape := ⟨5, ![1, 1, 1, 512, 1408]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S4x2x2x1024x1408, .f32⟩
  | .hbm, ⟨3, _⟩ => ⟨S8192x2048, .bf16⟩
  | .hbm, ⟨4, _⟩ => ⟨S8192x5632, .bf16⟩
  | .hbm, ⟨5, _⟩ => ⟨S4x2x2x1024x1408, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1x512x1408, .f32⟩
  | .local _ .vmem, ⟨5, _⟩ => ⟨S1x1x1x512x1408, .f32⟩
  | .local _ .vmem, ⟨6, _⟩ => ⟨S512x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg2.toNat, v16.toNat, c0_i32_10.toNat, v26.toNat, c0_i32_11.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DwReferenceIdeal.lean ====
abbrev S8192x2048 : Shape := ⟨2, ![8192, 2048]⟩
abbrev S8192x5632 : Shape := ⟨2, ![8192, 5632]⟩
abbrev S4x2x2x1024x1408 : Shape := ⟨5, ![4, 2, 2, 1024, 1408]⟩
abbrev S_ : Shape := ⟨0, ![]⟩
abbrev S2048x5632 : Shape := ⟨2, ![2048, 5632]⟩
abbrev S5632x2048 : Shape := ⟨2, ![5632, 2048]⟩
abbrev S2x1024x4x1408 : Shape := ⟨4, ![2, 1024, 4, 1408]⟩
abbrev S4x2x1024x1408 : Shape := ⟨4, ![4, 2, 1024, 1408]⟩
abbrev S4x2x1x1024x1408 : Shape := ⟨5, ![4, 2, 1, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S4x2x2x1024x1408, .f32⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S5632x2048, .f32⟩
  | .hbm, ⟨7, _⟩ => ⟨S2048x5632, .f32⟩
  | .hbm, ⟨8, _⟩ => ⟨S2x1024x4x1408, .f32⟩
  | .hbm, ⟨9, _⟩ => ⟨S4x2x1024x1408, .f32⟩
  | .hbm, ⟨10, _⟩ => ⟨S4x2x1x1024x1408, .f32⟩
  | .hbm, ⟨11, _⟩ => ⟨S4x2x1024x1408, .f32⟩
  | .hbm, ⟨12, _⟩ => ⟨S4x2x1x1024x1408, .f32⟩
  | .hbm, ⟨13, _⟩ => ⟨S4x2x1x1024x1408, .f32⟩
  | .hbm, ⟨14, _⟩ => ⟨S4x2x2x1024x1408, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Dwin.lean ====
abbrev S8192x2048 : Shape := ⟨2, ![8192, 2048]⟩
abbrev S8192x7168 : Shape := ⟨2, ![8192, 7168]⟩
abbrev S4x2x1024x1792 : Shape := ⟨4, ![4, 2, 1024, 1792]⟩
abbrev S2048x512 : Shape := ⟨2, ![2048, 512]⟩
abbrev S2048x1792 : Shape := ⟨2, ![2048, 1792]⟩
abbrev S1x1x512x1792 : Shape := ⟨4, ![1, 1, 512, 1792]⟩
abbrev S512x1792 : Shape := ⟨2, ![512, 1792]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x7168, .f32⟩
  | .hbm, ⟨2, _⟩ => ⟨S8192x2048, .bf16⟩
  | .hbm, ⟨3, _⟩ => ⟨S8192x7168, .bf16⟩
  | .hbm, ⟨4, _⟩ => ⟨S4x2x1024x1792, .f32⟩
  | .local _ .vmem, ⟨0, _⟩ => ⟨S2048x512, .bf16⟩
  | .local _ .vmem, ⟨1, _⟩ => ⟨S2048x512, .bf16⟩
  | .local _ .vmem, ⟨2, _⟩ => ⟨S2048x1792, .bf16⟩
  | .local _ .vmem, ⟨3, _⟩ => ⟨S2048x1792, .bf16⟩
  | .local _ .vmem, ⟨4, _⟩ => ⟨S1x1x512x1792, .f32⟩
  | .local _ .vmem, ⟨5, _⟩ => ⟨S1x1x512x1792, .f32⟩
  | .local _ .vmem, ⟨6, _⟩ => ⟨S512x1792, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg1 c2_i32
  let c0_i32_5 : BitVec 32 := 0#32
  let v18 : BitVec 1 := Scalar.cmpi .sgt arg1 c0_i32_5
  let v19 : BitVec 32 := Scalar.extui v18
  let c0_i32_6 : BitVec 32 := 0#32
  let v20 : BitVec 1 := Scalar.cmpi .slt arg1 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg1 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi arg1 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg2 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DwinReferenceIdeal.lean ====
abbrev S8192x2048 : Shape := ⟨2, ![8192, 2048]⟩
abbrev S8192x7168 : Shape := ⟨2, ![8192, 7168]⟩
abbrev S_ : Shape := ⟨0, ![]⟩
abbrev S2048x7168 : Shape := ⟨2, ![2048, 7168]⟩
abbrev S7168x2048 : Shape := ⟨2, ![7168, 2048]⟩
abbrev S2x1024x4x1792 : Shape := ⟨4, ![2, 1024, 4, 1792]⟩
abbrev S4x2x1024x1792 : Shape := ⟨4, ![4, 2, 1024, 1792]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x7168, .f32⟩
  | .hbm, ⟨2, _⟩ => ⟨S_, .f32⟩
  | .hbm, ⟨3, _⟩ => ⟨S2048x7168, .f32⟩
  | .hbm, ⟨4, _⟩ => ⟨S8192x7168, .f32⟩
  | .hbm, ⟨5, _⟩ => ⟨S7168x2048, .f32⟩
  | .hbm, ⟨6, _⟩ => ⟨S2048x7168, .f32⟩
  | .hbm, ⟨7, _⟩ => ⟨S2x1024x4x1792, .f32⟩
  | .hbm, ⟨8, _⟩ => ⟨S4x2x1024x1792, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwd.lean ====
abbrev S8192x5632 : Shape := ⟨2, ![8192, 5632]⟩
abbrev S8192x2048 : Shape := ⟨2, ![8192, 2048]⟩
abbrev S4x2x2x1408x1024 : Shape := ⟨5, ![4, 2, 2, 1408, 1024]⟩
abbrev S2048x1408 : Shape := ⟨2, ![2048, 1408]⟩
abbrev S2048x512 : Shape := ⟨2, ![2048, 512]⟩
abbrev S1x1x1x1408x512 : Shape := ⟨5, ![1, 1, 1, 1408, 512]⟩
abbrev S1408x512 : Shape := ⟨2, ![1408, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S4x2x2x1408x1024, .f32⟩
  | .hbm, ⟨3, _⟩ => ⟨S8192x5632, .bf16⟩
  | .hbm, ⟨4, _⟩ => ⟨S8192x2048, .bf16⟩
  | .hbm, ⟨5, _⟩ => ⟨S4x2x2x1408x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1x1x1408x512, .f32⟩
  | .local _ .vmem, ⟨5, _⟩ => ⟨S1x1x1x1408x512, .f32⟩
  | .local _ .vmem, ⟨6, _⟩ => ⟨S1408x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg1.toNat, v16.toNat, c0_i32_10.toNat, c0_i32_11.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1x1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DwdReferenceIdeal.lean ====
abbrev S8192x5632 : Shape := ⟨2, ![8192, 5632]⟩
abbrev S8192x2048 : Shape := ⟨2, ![8192, 2048]⟩
abbrev S4x2x2x1408x1024 : Shape := ⟨5, ![4, 2, 2, 1408, 1024]⟩
abbrev S_ : Shape := ⟨0, ![]⟩
abbrev S5632x2048 : Shape := ⟨2, ![5632, 2048]⟩
abbrev S2048x5632 : Shape := ⟨2, ![2048, 5632]⟩
abbrev S4x1408x2x1024 : Shape := ⟨4, ![4, 1408, 2, 1024]⟩
abbrev S4x2x1408x1024 : Shape := ⟨4, ![4, 2, 1408, 1024]⟩
abbrev S4x2x1x1408x1024 : Shape := ⟨5, ![4, 2, 1, 1408, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S4x2x2x1408x1024, .f32⟩
  | .hbm, ⟨3, _⟩ => ⟨S_, .f32⟩
  | .hbm, ⟨4, _⟩ => ⟨S5632x2048, .f32⟩
  | .hbm, ⟨5, _⟩ => ⟨S8192x2048, .f32⟩
  | .hbm, ⟨6, _⟩ => ⟨S2048x5632, .f32⟩
  | .hbm, ⟨7, _⟩ => ⟨S5632x2048, .f32⟩
  | .hbm, ⟨8, _⟩ => ⟨S4x1408x2x1024, .f32⟩
  | .hbm, ⟨9, _⟩ => ⟨S4x2x1408x1024, .f32⟩
  | .hbm, ⟨10, _⟩ => ⟨S4x2x1x1408x1024, .f32⟩
  | .hbm, ⟨11, _⟩ => ⟨S4x2x1408x1024, .f32⟩
  | .hbm, ⟨12, _⟩ => ⟨S4x2x1x1408x1024, .f32⟩
  | .hbm, ⟨13, _⟩ => ⟨S4x2x1x1408x1024, .f32⟩
  | .hbm, ⟨14, _⟩ => ⟨S4x2x2x1408x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Din.lean ====
abbrev S8192x2048 : Shape := ⟨2, ![8192, 2048]⟩
abbrev S2048x7168 : Shape := ⟨2, ![2048, 7168]⟩
abbrev S8192x7168 : Shape := ⟨2, ![8192, 7168]⟩
abbrev S1x2048x7168 : Shape := ⟨3, ![1, 2048, 7168]⟩
abbrev S1024x3584 : Shape := ⟨2, ![1024, 3584]⟩
abbrev S1x512x3584 : Shape := ⟨3, ![1, 512, 3584]⟩
abbrev S1024x512 : Shape := ⟨2, ![1024, 512]⟩
abbrev S512x3584 : Shape := ⟨2, ![512, 3584]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x7168, .f32⟩
  | .hbm, ⟨2, _⟩ => ⟨S8192x7168, .f32⟩
  | .hbm, ⟨3, _⟩ => ⟨S8192x7168, .bf16⟩
  | .hbm, ⟨4, _⟩ => ⟨S2048x7168, .bf16⟩
  | .hbm, ⟨5, _⟩ => ⟨S1x2048x7168, .bf16⟩
  | .hbm, ⟨6, _⟩ => ⟨S8192x2048, .f32⟩
  | .local _ .vmem, ⟨0, _⟩ => ⟨S1024x3584, .bf16⟩
  | .local _ .vmem, ⟨1, _⟩ => ⟨S1024x3584, .bf16⟩
  | .local _ .vmem, ⟨2, _⟩ => ⟨S1x512x3584, .bf16⟩
  | .local _ .vmem, ⟨3, _⟩ => ⟨S1x512x3584, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 4, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DinReferenceIdeal.lean ====
abbrev S8192x2048 : Shape := ⟨2, ![8192, 2048]⟩
abbrev S2048x7168 : Shape := ⟨2, ![2048, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7168, .f32⟩
  | .hbm, ⟨2, _⟩ => ⟨S8192x7168, .f32⟩
  | .hbm, ⟨3, _⟩ => ⟨S8192x7168, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Pin.lean ====
abbrev S8192x2048 : Shape := ⟨2, ![8192, 2048]⟩
abbrev S2048x7168 : Shape := ⟨2, ![2048, 7168]⟩
abbrev S1x2048x7168 : Shape := ⟨3, ![1, 2048, 7168]⟩
abbrev S8192x7168 : Shape := ⟨2, ![8192, 7168]⟩
abbrev S512x2048 : Shape := ⟨2, ![512, 2048]⟩
abbrev S1x2048x1792 : Shape := ⟨3, ![1, 2048, 1792]⟩
abbrev S512x1792 : Shape := ⟨2, ![512, 1792]⟩
abbrev S256x2048 : Shape := ⟨2, ![256, 2048]⟩
abbrev S2048x1792 : Shape := ⟨2, ![2048, 1792]⟩
abbrev S256x1792 : Shape := ⟨2, ![256, 1792]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x7168, .f32⟩
  | .hbm, ⟨2, _⟩ => ⟨S8192x2048, .bf16⟩
  | .hbm, ⟨3, _⟩ => ⟨S2048x7168, .bf16⟩
  | .hbm, ⟨4, _⟩ => ⟨S1x2048x7168, .bf16⟩
  | .hbm, ⟨5, _⟩ => ⟨S8192x7168, .f32⟩
  | .hbm, ⟨6, _⟩ => ⟨S8192x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S512x1792, .f32⟩
  | .local _ .vmem, ⟨5, _⟩ => ⟨S512x1792, .f32⟩
  | .local _ .vmem, ⟨6, _⟩ => ⟨S512x1792, .bf16⟩
  | .local _ .vmem, ⟨7, _⟩ => ⟨S512x1792, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 16, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== PinReferenceIdeal.lean ====
abbrev S8192x2048 : Shape := ⟨2, ![8192, 2048]⟩
abbrev S2048x7168 : Shape := ⟨2, ![2048, 7168]⟩
abbrev S8192x7168 : Shape := ⟨2, ![8192, 7168]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7168, .f32⟩
  | .hbm, ⟨2, _⟩ => ⟨S8192x7168, .f32⟩
  | .hbm, ⟨3, _⟩ => ⟨S8192x7168, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pout.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .bf16⟩
  | .hbm, ⟨4, _⟩ => ⟨S2048x2048, .bf16⟩
  | .hbm, ⟨5, _⟩ => ⟨S1x2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== PoutReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dcat.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .bf16⟩
  | .hbm, ⟨5, _⟩ => ⟨S2048x2048, .bf16⟩
  | .hbm, ⟨6, _⟩ => ⟨S1x2048x2048, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DcatReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Dwout.lean ====
abbrev S8192x2048 : Shape := ⟨2, ![8192, 2048]⟩
abbrev S1x2048x2048 : Shape := ⟨3, ![1, 2048, 2048]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S1x2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwoutReferenceIdeal.lean ====
abbrev S8192x2048 : Shape := ⟨2, ![8192, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pool.lean ====
abbrev S8192x2048 : Shape := ⟨2, ![8192, 2048]⟩
abbrev S4x512x512 : Shape := ⟨3, ![4, 512, 512]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S256x512 : Shape := ⟨2, ![256, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x512x512, .f32⟩
  | .hbm, ⟨3, _⟩ => ⟨S1x2048, .f32⟩
  | .hbm, ⟨4, _⟩ => ⟨S8192x2048, .bf16⟩
  | .hbm, ⟨5, _⟩ => ⟨S4x512x512, .bf16⟩
  | .hbm, ⟨6, _⟩ => ⟨S8192x2048, .f32⟩
  | .hbm, ⟨7, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== PoolReferenceIdeal.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S4x512x8192 : Shape := ⟨3, ![4, 512, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x512x512, .f32⟩
  | .hbm, ⟨3, _⟩ => ⟨S1x2048, .f32⟩
  | .hbm, ⟨4, _⟩ => ⟨S8192x4x512, .f32⟩
  | .hbm, ⟨5, _⟩ => ⟨S4x512x8192, .f32⟩
  | .hbm, ⟨6, _⟩ => ⟨S8192x4x512, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dpooled.lean ====
abbrev S8192x2048 : Shape := ⟨2, ![8192, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S8192x2048, .f32⟩
  | .hbm, ⟨3, _⟩ => ⟨S8192x2048, .bf16⟩
  | .hbm, ⟨4, _⟩ => ⟨S4x512x512, .bf16⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DpooledReferenceIdeal.lean ====
abbrev S8192x2048 : Shape := ⟨2, ![8192, 2048]⟩
abbrev S4x512x512 : Shape := ⟨3, ![4, 512, 512]⟩
abbrev S_ : Shape := ⟨0, ![]⟩
abbrev S8192x4x512 : Shape := ⟨3, ![8192, 4, 512]⟩
abbrev S4x512x8192 : Shape := ⟨3, ![4, 512, 8192]⟩
abbrev S4x8192x512 : Shape := ⟨3, ![4, 8192, 512]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x4x512, .f32⟩
  | .hbm, ⟨6, _⟩ => ⟨S4x512x8192, .f32⟩
  | .hbm, ⟨7, _⟩ => ⟨S8192x4x512, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x4x512, .f32⟩
  | .hbm, ⟨12, _⟩ => ⟨S4x512x8192, .f32⟩
  | .hbm, ⟨13, _⟩ => ⟨S4x8192x512, .f32⟩
  | .hbm, ⟨14, _⟩ => ⟨S8192x4x512, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Dwpool.lean ====
abbrev S8192x2048 : Shape := ⟨2, ![8192, 2048]⟩
abbrev S4x2x2x128x512 : Shape := ⟨5, ![4, 2, 2, 128, 512]⟩
abbrev S2048x128 : Shape := ⟨2, ![2048, 128]⟩
abbrev S2048x512 : Shape := ⟨2, ![2048, 512]⟩
abbrev S1x1x1x128x512 : Shape := ⟨5, ![1, 1, 1, 128, 512]⟩
abbrev S128x512 : Shape := ⟨2, ![128, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S4x2x2x128x512, .f32⟩
  | .local _ .vmem, ⟨0, _⟩ => ⟨S2048x128, .bf16⟩
  | .local _ .vmem, ⟨1, _⟩ => ⟨S2048x128, .bf16⟩
  | .local _ .vmem, ⟨2, _⟩ => ⟨S2048x512, .bf16⟩
  | .local _ .vmem, ⟨3, _⟩ => ⟨S2048x512, .bf16⟩
  | .local _ .vmem, ⟨4, _⟩ => ⟨S1x1x1x128x512, .f32⟩
  | .local _ .vmem, ⟨5, _⟩ => ⟨S1x1x1x128x512, .f32⟩
  | .local _ .vmem, ⟨6, _⟩ => ⟨S128x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg1.toNat, v16.toNat, v26.toNat, c0_i32_10.toNat, c0_i32_11.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== DwpoolReferenceIdeal.lean ====
abbrev S8192x2048 : Shape := ⟨2, ![8192, 2048]⟩
abbrev S_ : Shape := ⟨0, ![]⟩
abbrev S4x512x512 : Shape := ⟨3, ![4, 512, 512]⟩
abbrev S8192x4x512 : Shape := ⟨3, ![8192, 4, 512]⟩
abbrev S4x512x8192 : Shape := ⟨3, ![4, 512, 8192]⟩
abbrev S2x2x4x128x512 : Shape := ⟨5, ![2, 2, 4, 128, 512]⟩
abbrev S4x2x2x128x512 : Shape := ⟨5, ![4, 2, 2, 128, 512]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4x512x512, .f32⟩
  | .hbm, ⟨6, _⟩ => ⟨S8192x4x512, .f32⟩
  | .hbm, ⟨7, _⟩ => ⟨S4x512x8192, .f32⟩
  | .hbm, ⟨8, _⟩ => ⟨S8192x4x512, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x4x512, .f32⟩
  | .hbm, ⟨13, _⟩ => ⟨S4x512x8192, .f32⟩
  | .hbm, ⟨14, _⟩ => ⟨S4x512x512, .f32⟩
  | .hbm, ⟨15, _⟩ => ⟨S4x512x512, .f32⟩
  | .hbm, ⟨16, _⟩ => ⟨S2x2x4x128x512, .f32⟩
  | .hbm, ⟨17, _⟩ => ⟨S4x2x2x128x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Adam2.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam2Ideal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam2ReferenceIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam1.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam1Ideal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam1ReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamlb.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamlbIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamlbReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamhg.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamhgIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamhgReferenceIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamsc.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamscReferenceIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Optimiser.lean ====
/-
  The runs of the optimiser's calls on the small weights, and of their references: both make the same step, the moments first and
  then the change of the weight, entry by entry.
-/
module

public import proofs.«01_k».proof.Defs
public import Idealize.ShloMosaic.Lib.Quiescent
public import proofs.«01_k».proof.Proof.Gen.Adam2.Frame
public import proofs.«01_k».proof.Proof.Gen.Adam2Ideal.Frame
public import proofs.«01_k».proof.Proof.Gen.Adam2Ideal.Value
public import proofs.«01_k».proof.Proof.Gen.Adam2ReferenceIdeal.Run
public import proofs.«01_k».proof.Proof.Gen.Adam1.Frame
public import proofs.«01_k».proof.Proof.Gen.Adam1Ideal.Frame
public import proofs.«01_k».proof.Proof.Gen.Adam1Ideal.Value
public import proofs.«01_k».proof.Proof.Gen.Adam1ReferenceIdeal.Run
public import proofs.«01_k».proof.Proof.Gen.Adamlb.Frame
public import proofs.«01_k».proof.Proof.Gen.AdamlbIdeal.Frame
public import proofs.«01_k».proof.Proof.Gen.AdamlbIdeal.Value
public import proofs.«01_k».proof.Proof.Gen.AdamlbReferenceIdeal.Run
public import proofs.«01_k».proof.Proof.Gen.Adamhg.Frame
public import proofs.«01_k».proof.Proof.Gen.AdamhgIdeal.Frame
public import proofs.«01_k».proof.Proof.Gen.AdamhgIdeal.Value
public import proofs.«01_k».proof.Proof.Gen.AdamhgReferenceIdeal.Run
public import proofs.«01_k».proof.Proof.Gen.Adamsc.Frame
public import proofs.«01_k».proof.Proof.Gen.AdamscIdeal.Frame
public import proofs.«01_k».proof.Proof.Gen.AdamscIdeal.Value
public import proofs.«01_k».proof.Proof.Gen.AdamscReferenceIdeal.Run

@[expose] public section

set_option maxRecDepth 16384

noncomputable section

namespace Cert.Proof

open Idealize.ShloMosaic Idealize.ShloMosaic.TcCoe Idealize.SL.Sem

/-- Each reference reaches its end with its arguments unchanged and no counter left over. -/
theorem frame_adam2_ri : Cert.quiescent_Adam2ReferenceIdeal := fun m ρ _ =>
  (θ_run Cert.Adam2ReferenceIdeal.defs _ _).mono
    (fun r h => ⟨fun c => (h c).2.2.2, sem_eq_zero_of_no_sems (by decide) r.2⟩)
    (Cert.Adam2ReferenceIdeal.Value.run (F := Ideal) m ρ)
theorem frame_adam1_ri : Cert.quiescent_Adam1ReferenceIdeal := fun m ρ _ =>
  (θ_run Cert.Adam1ReferenceIdeal.defs _ _).mono
    (fun r h => ⟨fun c => (h c).2.2.2, sem_eq_zero_of_no_sems (by decide) r.2⟩)
    (Cert.Adam1ReferenceIdeal.Value.run (F := Ideal) m ρ)
theorem frame_adamlb_ri : Cert.quiescent_AdamlbReferenceIdeal := fun m ρ _ =>
  (θ_run Cert.AdamlbReferenceIdeal.defs _ _).mono
    (fun r h => ⟨fun c => (h c).2.2.2, sem_eq_zero_of_no_sems (by decide) r.2⟩)
    (Cert.AdamlbReferenceIdeal.Value.run (F := Ideal) m ρ)
theorem frame_adamhg_ri : Cert.quiescent_AdamhgReferenceIdeal := fun m ρ _ =>
  (θ_run Cert.AdamhgReferenceIdeal.defs _ _).mono
    (fun r h => ⟨fun c => (h c).2.2.2, sem_eq_zero_of_no_sems (by decide) r.2⟩)
    (Cert.AdamhgReferenceIdeal.Value.run (F := Ideal) m ρ)
theorem frame_adamsc_ri : Cert.quiescent_AdamscReferenceIdeal := fun m ρ _ =>
  (θ_run Cert.AdamscReferenceIdeal.defs _ _).mono
    (fun r h => ⟨fun c => (h c).2.2.2, sem_eq_zero_of_no_sems (by decide) r.2⟩)
    (Cert.AdamscReferenceIdeal.Value.run (F := Ideal) m ρ)

/-- The step of the norms of the layers: kernel and reference end with the same change and the same moments. -/
theorem algebraic_adam2 : Cert.algebraic_Adam2Ideal_Adam2ReferenceIdeal := by
  intro m ρ m' ρ' _ hargs
  refine ⟨fun c => _, fun c => _, fun c => _, (θ_run Cert.Adam2Ideal.defs _ _).mono (fun r h c => h c) (Cert.Adam2Ideal.Value.run (F := Ideal) m ρ), ?_⟩
  refine (θ_run Cert.Adam2ReferenceIdeal.defs _ _).mono (fun r h c => ?_) (Cert.Adam2ReferenceIdeal.Value.run (F := Ideal) m' ρ')
  obtain ⟨h0, h1, h2, h3⟩ := h c
  obtain ⟨e0, e1, e2, e3⟩ := hargs c
  rw [e0, e1, e2, e3] at h0
  rw [e1, e2] at h1
  rw [e1, e3] at h2
  exact ⟨h0.trans rfl, h1.trans rfl, h2.trans rfl, h3⟩

/-- The step of the last norm: kernel and reference end with the same change and the same moments. -/
theorem algebraic_adam1 : Cert.algebraic_Adam1Ideal_Adam1ReferenceIdeal := by
  intro m ρ m' ρ' _ hargs
  refine ⟨fun c => _, fun c => _, fun c => _, (θ_run Cert.Adam1Ideal.defs _ _).mono (fun r h c => h c) (Cert.Adam1Ideal.Value.run (F := Ideal) m ρ), ?_⟩
  refine (θ_run Cert.Adam1ReferenceIdeal.defs _ _).mono (fun r h c => ?_) (Cert.Adam1ReferenceIdeal.Value.run (F := Ideal) m' ρ')
  obtain ⟨h0, h1, h2, h3⟩ := h c
  obtain ⟨e0, e1, e2, e3⟩ := hargs c
  rw [e0, e1, e2, e3] at h0
  rw [e1, e2] at h1
  rw [e1, e3] at h2
  exact ⟨h0.trans rfl, h1.trans rfl, h2.trans rfl, h3⟩

/-- The step of the recurrence's lower bounds: kernel and reference end with the same change and the same moments. -/
theorem algebraic_adamlb : Cert.algebraic_AdamlbIdeal_AdamlbReferenceIdeal := by
  intro m ρ m' ρ' _ hargs
  refine ⟨fun c => _, fun c => _, fun c => _, (θ_run Cert.AdamlbIdeal.defs _ _).mono (fun r h c => h c) (Cert.AdamlbIdeal.Value.run (F := Ideal) m ρ), ?_⟩
  refine (θ_run Cert.AdamlbReferenceIdeal.defs _ _).mono (fun r h c => ?_) (Cert.AdamlbReferenceIdeal.Value.run (F := Ideal) m' ρ')
  obtain ⟨h0, h1, h2, h3⟩ := h c
  obtain ⟨e0, e1, e2, e3⟩ := hargs c
  rw [e0, e1, e2, e3] at h0
  rw [e1, e2] at h1
  rw [e1, e3] at h2
  exact ⟨h0.trans rfl, h1.trans rfl, h2.trans rfl, h3⟩

/-- The step of the recurrence's head norm: kernel and reference end with the same change and the same moments. -/
theorem algebraic_adamhg : Cert.algebraic_AdamhgIdeal_AdamhgReferenceIdeal := by
  intro m ρ m' ρ' _ hargs
  refine ⟨fun c => _, fun c => _, fun c => _, (θ_run Cert.AdamhgIdeal.defs _ _).mono (fun r h c => h c) (Cert.AdamhgIdeal.Value.run (F := Ideal) m ρ), ?_⟩
  refine (θ_run Cert.AdamhgReferenceIdeal.defs _ _).mono (fun r h c => ?_) (Cert.AdamhgReferenceIdeal.Value.run (F := Ideal) m' ρ')
  obtain ⟨h0, h1, h2, h3⟩ := h c
  obtain ⟨e0, e1, e2, e3⟩ := hargs c
  rw [e0, e1, e2, e3] at h0
  rw [e1, e2] at h1
  rw [e1, e3] at h2
  exact ⟨h0.trans rfl, h1.trans rfl, h2.trans rfl, h3⟩

/-- The step of the pooling's scale: kernel and reference end with the same change and the same moments. -/
theorem algebraic_adamsc : Cert.algebraic_AdamscIdeal_AdamscReferenceIdeal := by
  intro m ρ m' ρ' _ hargs
  refine ⟨fun c => _, fun c => _, fun c => _, (θ_run Cert.AdamscIdeal.defs _ _).mono (fun r h c => h c) (Cert.AdamscIdeal.Value.run (F := Ideal) m ρ), ?_⟩
  refine (θ_run Cert.AdamscReferenceIdeal.defs _ _).mono (fun r h c => ?_) (Cert.AdamscReferenceIdeal.Value.run (F := Ideal) m' ρ')
  obtain ⟨h0, h1, h2, h3⟩ := h c
  obtain ⟨e0, e1, e2, e3⟩ := hargs c
  rw [e0, e1, e2, e3] at h0
  rw [e1, e2] at h1
  rw [e1, e3] at h2
  exact ⟨h0.trans rfl, h1.trans rfl, h2.trans rfl, h3⟩

end Cert.Proof

end
-- ==== Proof.Cube.lean ====
/-
  The host's operations on arrays of eight heads, over the reals: an array of rows `[8, 8192, 128]` and an array of
  scores `[8, 8192, 8192]` are given by real functions of head, row and column, and each operation is read off as an
  operation on those functions.
-/
module

public import Idealize.ShloMosaic.Lib.MatmulPlain
public import Idealize.ShloMosaic.Lib.Pipeline.Value
public import Idealize.ShloMosaic.Lib.IdealHost
public import Idealize.ShloMosaic.Lib.WordCmp
public import Idealize.ShloMosaic.Lib.Pointwise
public import Mathlib.Algebra.BigOperators.Intervals

@[expose] public section

set_option maxRecDepth 16384

noncomputable section

namespace Cert.Cube

open Idealize.ShloMosaic hiding ix2 eq_ix2 ix3 eq_ix3 ix4 eq_ix4
open Idealize.ShloMosaic.ValueIdx Idealize.ShloMosaic.WordCmp
open scoped BigOperators
open Finset (range)

abbrev S0 : Shape := ⟨0, ![]⟩
abbrev Rows : Shape := ⟨3, ![8, 8192, 128]⟩
abbrev Cols : Shape := ⟨3, ![8, 128, 8192]⟩
abbrev Scores : Shape := ⟨3, ![8, 8192, 8192]⟩
abbrev Flat : Shape := ⟨2, ![8192, 8192]⟩

/-- An array of rows. -/
def rows (a : Fin 8 → ℕ → Fin 128 → ℝ) : FVec Ideal Rows .f32 := fun j => ((a (j 0) (j 1).val (j 2) : ℝ) : EReal)
/-- The same array with its last two axes exchanged. -/
def cols (a : Fin 8 → ℕ → Fin 128 → ℝ) : FVec Ideal Cols .f32 := fun j => ((a (j 0) (j 2).val (j 1) : ℝ) : EReal)
/-- An array of scores. -/
def cube (a : Fin 8 → ℕ → ℕ → ℝ) : FVec Ideal Scores .f32 := fun j => ((a (j 0) (j 1).val (j 2).val : ℝ) : EReal)

theorem ext_rows {x y : FVec Ideal Rows .f32} (h : ∀ (a : Fin 8) (b : Fin 8192) (c : Fin 128), x (ix3 a b c) = y (ix3 a b c)) : x = y := by
  funext j; rw [eq_ix3 j]; exact h _ _ _
theorem ext_cols {x y : FVec Ideal Cols .f32} (h : ∀ (a : Fin 8) (b : Fin 128) (c : Fin 8192), x (ix3 a b c) = y (ix3 a b c)) : x = y := by
  funext j; rw [eq_ix3 j]; exact h _ _ _
theorem ext_cube {x y : FVec Ideal Scores .f32} (h : ∀ (a : Fin 8) (b c : Fin 8192), x (ix3 a b c) = y (ix3 a b c)) : x = y := by
  funext j; rw [eq_ix3 j]; exact h _ _ _

theorem cube_congr {a b : Fin 8 → ℕ → ℕ → ℝ} (h : ∀ p t s, t < 8192 → s < 8192 → a p t s = b p t s) : cube a = cube b :=
  ext_cube fun p t s => congrArg (fun x : ℝ => (x : EReal)) (h p t.val s.val t.isLt s.isLt)

theorem coe_sum {ι : Type} (S : Finset ι) (f : ι → ℝ) : ∑ k ∈ S, ((f k : ℝ) : EReal) = ((∑ k ∈ S, f k : ℝ) : EReal) := by
  classical
  induction S using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem zero_bits : Ideal.ofBits .f32 0x00000000#32 = ((0 : ℝ) : EReal) := by simp

/-! ## Products, head by head -/

variable (a b : Fin 8 → ℕ → Fin 128 → ℝ) (x y : Fin 8 → ℕ → ℕ → ℝ)

/-- Rows against rows. -/
def dotScore (wf : DotDims.WF Rows Rows Scores [2] [2] [1] [1] [0] [0]) : DotDims Rows Rows Scores := ⟨[2], [2], [1], [1], [0], [0], wf⟩

theorem dotScore_cube (wf) : Host.dotGeneral (dotScore wf) none (rows a) (rows b) = cube fun p t s => ∑ d, a p t d * b p s d := by
  refine ext_cube fun p t s => ?_
  simp only [Host.dotGeneral]
  let D := dotScore wf
  have hr : D.contr.rank = 1 := rfl
  have c0 : D.contr.size ⟨0, by rw [hr]; omega⟩ = 128 := rfl
  rw [Ideal.dotGeneral_apply, ← Equiv.sum_comp (contrEquiv1 D 128 hr c0).symm]
  refine Eq.trans (Finset.sum_congr rfl fun k _ => ?_) (coe_sum Finset.univ fun k => a p t.val k * b p s.val k)
  have h0 := contrEquiv1_symm_val D 128 hr c0 k
  have el : D.lhsIdx (ix3 p t s) ((contrEquiv1 D 128 hr c0).symm k) = ix3 p t k := by
    funext i; apply Fin.ext
    match i with
    | ⟨0, _⟩ => rfl
    | ⟨1, _⟩ => rfl
    | ⟨2, _⟩ => exact h0
  have er : D.rhsIdx (ix3 p t s) ((contrEquiv1 D 128 hr c0).symm k) = ix3 p s k := by
    funext i; apply Fin.ext
    match i with
    | ⟨0, _⟩ => rfl
    | ⟨1, _⟩ => rfl
    | ⟨2, _⟩ => exact h0
  rw [el, er]
  exact (EReal.coe_mul _ _).symm

/-- Scores against rows, the columns of the scores summed. -/
def dotRow (wf : DotDims.WF Scores Rows Rows [2] [1] [1] [2] [0] [0]) : DotDims Scores Rows Rows := ⟨[2], [1], [1], [2], [0], [0], wf⟩

theorem dotRow_rows (wf) : Host.dotGeneral (dotRow wf) none (cube x) (rows b)
    = rows fun p t d => ∑ s ∈ range 8192, x p t s * b p s d := by
  refine ext_rows fun p t d => ?_
  simp only [Host.dotGeneral]
  let D := dotRow wf
  have hr : D.contr.rank = 1 := rfl
  have c0 : D.contr.size ⟨0, by rw [hr]; omega⟩ = 8192 := rfl
  rw [Ideal.dotGeneral_apply, ← Equiv.sum_comp (contrEquiv1 D 8192 hr c0).symm]
  refine Eq.trans (Finset.sum_congr rfl fun k _ => ?_) ((coe_sum Finset.univ fun k : Fin 8192 => x p t.val k.val * b p k.val d).trans
    (congrArg (fun r : ℝ => (r : EReal)) (Fin.sum_univ_eq_sum_range (fun k => x p t.val k * b p k d) 8192)))
  have h0 := contrEquiv1_symm_val D 8192 hr c0 k
  have el : D.lhsIdx (ix3 p t d) ((contrEquiv1 D 8192 hr c0).symm k) = ix3 p t k := by
    funext i; apply Fin.ext
    match i with
    | ⟨0, _⟩ => rfl
    | ⟨1, _⟩ => rfl
    | ⟨2, _⟩ => exact h0
  have er : D.rhsIdx (ix3 p t d) ((contrEquiv1 D 8192 hr c0).symm k) = ix3 p k d := by
    funext i; apply Fin.ext
    match i with
    | ⟨0, _⟩ => rfl
    | ⟨1, _⟩ => exact h0
    | ⟨2, _⟩ => rfl
  rw [el, er]
  exact (EReal.coe_mul _ _).symm

/-- Scores against rows, the rows of the scores summed. -/
def dotCol (wf : DotDims.WF Scores Rows Rows [1] [1] [2] [2] [0] [0]) : DotDims Scores Rows Rows := ⟨[1], [1], [2], [2], [0], [0], wf⟩

theorem dotCol_rows (wf) : Host.dotGeneral (dotCol wf) none (cube x) (rows b)
    = rows fun p s d => ∑ t ∈ range 8192, x p t s * b p t d := by
  refine ext_rows fun p s d => ?_
  simp only [Host.dotGeneral]
  let D := dotCol wf
  have hr : D.contr.rank = 1 := rfl
  have c0 : D.contr.size ⟨0, by rw [hr]; omega⟩ = 8192 := rfl
  rw [Ideal.dotGeneral_apply, ← Equiv.sum_comp (contrEquiv1 D 8192 hr c0).symm]
  refine Eq.trans (Finset.sum_congr rfl fun k _ => ?_) ((coe_sum Finset.univ fun k : Fin 8192 => x p k.val s.val * b p k.val d).trans
    (congrArg (fun r : ℝ => (r : EReal)) (Fin.sum_univ_eq_sum_range (fun k => x p k s.val * b p k d) 8192)))
  have h0 := contrEquiv1_symm_val D 8192 hr c0 k
  have el : D.lhsIdx (ix3 p s d) ((contrEquiv1 D 8192 hr c0).symm k) = ix3 p k s := by
    funext i; apply Fin.ext
    match i with
    | ⟨0, _⟩ => rfl
    | ⟨1, _⟩ => exact h0
    | ⟨2, _⟩ => rfl
  have er : D.rhsIdx (ix3 p s d) ((contrEquiv1 D 8192 hr c0).symm k) = ix3 p k d := by
    funext i; apply Fin.ext
    match i with
    | ⟨0, _⟩ => rfl
    | ⟨1, _⟩ => exact h0
    | ⟨2, _⟩ => rfl
  rw [el, er]
  exact (EReal.coe_mul _ _).symm

/-- Rows against scores, the rows summed; the result has its last two axes exchanged. -/
def dotVal (wf : DotDims.WF Rows Scores Cols [1] [1] [2] [2] [0] [0]) : DotDims Rows Scores Cols := ⟨[1], [1], [2], [2], [0], [0], wf⟩

theorem dotVal_cols (wf) : Host.dotGeneral (dotVal wf) none (rows a) (cube x)
    = cols fun p s d => ∑ t ∈ range 8192, a p t d * x p t s := by
  refine ext_cols fun p d s => ?_
  simp only [Host.dotGeneral]
  let D := dotVal wf
  have hr : D.contr.rank = 1 := rfl
  have c0 : D.contr.size ⟨0, by rw [hr]; omega⟩ = 8192 := rfl
  rw [Ideal.dotGeneral_apply, ← Equiv.sum_comp (contrEquiv1 D 8192 hr c0).symm]
  refine Eq.trans (Finset.sum_congr rfl fun k _ => ?_) ((coe_sum Finset.univ fun k : Fin 8192 => a p k.val d * x p k.val s.val).trans
    (congrArg (fun r : ℝ => (r : EReal)) (Fin.sum_univ_eq_sum_range (fun k => a p k d * x p k s.val) 8192)))
  have h0 := contrEquiv1_symm_val D 8192 hr c0 k
  have el : D.lhsIdx (ix3 p d s) ((contrEquiv1 D 8192 hr c0).symm k) = ix3 p k d := by
    funext i; apply Fin.ext
    match i with
    | ⟨0, _⟩ => rfl
    | ⟨1, _⟩ => exact h0
    | ⟨2, _⟩ => rfl
  have er : D.rhsIdx (ix3 p d s) ((contrEquiv1 D 8192 hr c0).symm k) = ix3 p k s := by
    funext i; apply Fin.ext
    match i with
    | ⟨0, _⟩ => rfl
    | ⟨1, _⟩ => exact h0
    | ⟨2, _⟩ => rfl
  rw [el, er]
  exact (EReal.coe_mul _ _).symm

/-! ## Entry by entry -/

/-- A constant at every entry. -/
def fill (w : BitVec 32) : FVec Ideal Scores .f32 := broadcastInDim Scores ![] (by decide) (constant S0 .f32 w)
/-- The past of every row: the columns before it. -/
def past : IVec Scores 1 := broadcastInDim Scores ![1, 2] (by decide) (cmpi .slt (iotaInDim Flat 32 1) (iotaInDim Flat 32 0))
/-- The entries of `u` in the past, zero elsewhere. -/
def keep (u : FVec Ideal Scores .f32) : FVec Ideal Scores .f32 := select past u (fill 0x00000000#32)
/-- `log (1 + exp u)`. -/
def soft (u : FVec Ideal Scores .f32) : FVec Ideal Scores .f32 :=
  select (cmpf .une (subf u (fill 0x00000000#32)) (subf u (fill 0x00000000#32))) (addf u (fill 0x00000000#32))
    (addf (maximumf u (fill 0x00000000#32)) (Host.log1p (Host.exp (Host.negf (Host.absf (subf u (fill 0x00000000#32)))))))
/-- `u`, with zero for an infinity. -/
def tame (u : FVec Ideal Scores .f32) : FVec Ideal Scores .f32 :=
  select (cmpf .oeq u (fill 0x7F800000#32)) (fill 0x00000000#32) u

theorem fill_apply (w : BitVec 32) (j : Scores.Idx) : fill w j = Ideal.ofBits .f32 w := by
  unfold fill; rw [broadcastInDim_scalar_apply]; rfl

theorem fill_zero (j : Scores.Idx) : fill 0x00000000#32 j = ((0 : ℝ) : EReal) := (fill_apply _ j).trans zero_bits

theorem neg_cube : Host.negf (cube x) = cube fun p t s => -x p t s :=
  ext_cube fun p t s => (EReal.coe_neg _).symm
theorem mul_cube : mulf (cube x) (cube y) = cube fun p t s => x p t s * y p t s :=
  ext_cube fun p t s => (EReal.coe_mul _ _).symm
theorem add_cube : addf (cube x) (cube y) = cube fun p t s => x p t s + y p t s :=
  ext_cube fun p t s => (EReal.coe_add _ _).symm
theorem sub_cube : subf (cube x) (cube y) = cube fun p t s => x p t s - y p t s :=
  ext_cube fun p t s => (EReal.coe_sub _ _).symm
theorem exp_cube : Host.exp (cube x) = cube fun p t s => Real.exp (x p t s) :=
  ext_cube fun p t s => Ideal.exp_coe _
theorem scale_cube (w : BitVec 32) (r : ℝ) (hr : Ideal.ofBits .f32 w = r) : mulf (cube x) (fill w) = cube fun p t s => x p t s * r :=
  ext_cube fun p t s => by
    show ((x p t.val s.val : ℝ) : EReal) * fill w _ = _
    rw [fill_apply, hr, ← EReal.coe_mul]; rfl

theorem past_apply (p : Fin 8) (t s : Fin 8192) : past (ix3 p t s) = BitVec.ofBool (decide (s.val < t.val)) := by
  unfold past
  rw [broadcastInDim_apply _ _ _ _ (ix2 t s) (by intro i; fin_cases i <;> rfl)]
  exact cmpi_slt_ofNat (show s.val < 2 ^ 31 by omega) (show t.val < 2 ^ 31 by omega)

theorem keep_cube : keep (cube x) = cube fun p t s => if s < t then x p t s else 0 := by
  refine ext_cube fun p t s => ?_
  show Scalar.select (past (ix3 p t s)) ((x p t.val s.val : ℝ) : EReal) (fill 0x00000000#32 (ix3 p t s)) = _
  rw [past_apply, fill_zero]
  by_cases h : s.val < t.val
  · simp [Scalar.select, cube, h]
  · simp [Scalar.select, cube, h]

theorem soft_real (z : ℝ) : max z 0 + Real.log (1 + Real.exp (-max z (-z))) = Real.log (1 + Real.exp z) := by
  have hpos := Real.exp_pos (-z)
  rcases le_total 0 z with h | h
  · rw [max_eq_left h, max_eq_left (by linarith)]
    have : 1 + Real.exp z = Real.exp z * (1 + Real.exp (-z)) := by
      rw [mul_add, ← Real.exp_add]; simp; ring
    rw [this, Real.log_mul (Real.exp_pos z).ne' (by positivity), Real.log_exp]
  · rw [max_eq_right h, max_eq_right (by linarith)]; simp

theorem soft_cube : soft (cube x) = cube fun p t s => Real.log (1 + Real.exp (x p t s)) := by
  refine ext_cube fun p t s => ?_
  set j : Scores.Idx := ix3 p t s with hj
  show Scalar.select (Ideal.cmp .une (((x p t.val s.val : ℝ) : EReal) - fill 0x00000000#32 j) (((x p t.val s.val : ℝ) : EReal) - fill 0x00000000#32 j))
      (((x p t.val s.val : ℝ) : EReal) + fill 0x00000000#32 j)
      (max ((x p t.val s.val : ℝ) : EReal) (fill 0x00000000#32 j) + Ideal.log1p (Ideal.exp (-(max (((x p t.val s.val : ℝ) : EReal) - fill 0x00000000#32 j)
        (-(((x p t.val s.val : ℝ) : EReal) - fill 0x00000000#32 j)))))) = _
  rw [fill_zero, ← EReal.coe_sub, sub_zero, ← EReal.coe_neg, coe_max, coe_max, ← EReal.coe_neg, Ideal.exp_coe]
  have hc : Ideal.cmp .une ((x p t.val s.val : ℝ) : EReal) ((x p t.val s.val : ℝ) : EReal) = 0#1 := by simp [Ideal.cmp]
  rw [hc]
  have hp : (0 : ℝ) < Real.exp (-max (x p t.val s.val) (-x p t.val s.val)) := Real.exp_pos _
  have hl : Ideal.log1p ((Real.exp (-max (x p t.val s.val) (-x p t.val s.val)) : ℝ) : EReal)
      = ((Real.log (1 + Real.exp (-max (x p t.val s.val) (-x p t.val s.val))) : ℝ) : EReal) := by
    unfold Ideal.log1p
    rw [← EReal.coe_one, ← EReal.coe_add, Ideal.log_coe, if_neg (by linarith)]
  rw [hl, ← EReal.coe_add]
  exact congrArg (fun r : ℝ => (r : EReal)) (soft_real _)

theorem tame_cube : tame (cube x) = cube x := by
  refine ext_cube fun p t s => ?_
  show Scalar.select (Ideal.cmp .oeq ((x p t.val s.val : ℝ) : EReal) (fill 0x7F800000#32 (ix3 p t s))) (fill 0x00000000#32 (ix3 p t s)) ((x p t.val s.val : ℝ) : EReal) = _
  have hi : Ideal.ofBits .f32 0x7F800000#32 = ⊤ := by simp [Ideal.ofBits, Ideal.ieee]
  rw [fill_apply, hi]
  have hc : Ideal.cmp .oeq ((x p t.val s.val : ℝ) : EReal) ⊤ = 0#1 := by simp [Ideal.cmp]
  rw [hc]; rfl

/-! ## Sums along a row -/

theorem foldl_sum {n : ℕ} (f : Fin n → EReal) (v : EReal) : (List.finRange n).foldl (fun r k => r + f k) v = v + ∑ k, f k := by
  have : ∀ (l : List (Fin n)) (v : EReal), l.foldl (fun r k => r + f k) v = v + (l.map f).sum := by
    intro l; induction l with
    | nil => intro v; simp
    | cons a l ih => intro v; simp [ih, add_assoc]
  rw [this, ← List.ofFn_eq_map, List.sum_ofFn]

section Window

variable {A B N : ℕ}

/-- A window along the last axis is given by its last coordinate. -/
def winEquiv (N : ℕ) : Fin N ≃ (⟨3, ![1, 1, N]⟩ : Shape).Idx where
  toFun n := ix3 (0 : Fin 1) (0 : Fin 1) n
  invFun w := w 2
  left_inv n := rfl
  right_inv w := by
    funext i
    match i with
    | ⟨0, _⟩ => exact Subsingleton.elim (α := Fin 1) _ _
    | ⟨1, _⟩ => exact Subsingleton.elim (α := Fin 1) _ _
    | ⟨2, _⟩ => rfl

/-- What a window with `lo` zeros before the row contributes at its position `w`. -/
def piece (lo : Fin 3 → ℕ) (u : (⟨3, ![A, B, N]⟩ : Shape).Idx → EReal) (v : EReal) (j : (⟨3, ![A, B, N]⟩ : Shape).Idx)
    (w : (⟨3, ![1, 1, N]⟩ : Shape).Idx) : EReal :=
  let p : Fin 3 → ℕ := fun a => (j a).val * (![1, 1, 1] : Fin 3 → ℕ) a + (w a).val
  if hin : ∀ a, lo a ≤ p a ∧ p a - lo a < (⟨3, ![A, B, N]⟩ : Shape).size a then u (fun a => ⟨p a - lo a, (hin a).2⟩) else v

theorem window_apply (lo hi : Fin 3 → ℕ) (u : FVec Ideal ⟨3, ![A, B, N]⟩ .f32) (z : FVec Ideal S0 .f32)
    (h : (⟨3, ![A, B, N]⟩ : Shape).ReduceWindows ![1, 1, N] ![1, 1, 1] lo hi ⟨3, ![A, B, N]⟩) (hu : 0 < S0.numel) (hz : ∀ i, z i = 0)
    (j : (⟨3, ![A, B, N]⟩ : Shape).Idx) :
    Host.reduceWindowAdd ![1, 1, N] ![1, 1, 1] lo hi u z h hu j = ∑ n : Fin N, piece lo u 0 j (winEquiv N n) := by
  have h1 : Host.reduceWindowAdd ![1, 1, N] ![1, 1, 1] lo hi u z h hu j
      = (List.finRange (⟨3, ![1, 1, N]⟩ : Shape).numel).foldl
        (fun r n => r + piece lo u (z (Shape.Idx.first hu)) j ((⟨3, ![1, 1, N]⟩ : Shape).rowMajor.symm n)) (z (Shape.Idx.first hu)) := by
    simp only [Host.reduceWindowAdd, Ideal.hostReduceWindowAdd_def, Ideal.hostReduceWindowAdd, Host.reduceWindow]
    refine congrArg (fun f => List.foldl f _ _) (funext fun r => funext fun n => ?_)
    rfl
  rw [h1, hz, foldl_sum, zero_add, Equiv.sum_comp (⟨3, ![1, 1, N]⟩ : Shape).rowMajor.symm (piece lo u 0 j), ← Equiv.sum_comp (winEquiv N)]

theorem piece_in (L : ℕ) (u : (⟨3, ![A, B, N]⟩ : Shape).Idx → EReal) (a : Fin A) (b : Fin B) (s n : Fin N) (k : Fin N)
    (hk : s.val + n.val = L + k.val) : piece ![0, 0, L] u 0 (ix3 a b s) (winEquiv N n) = u (ix3 a b k) := by
  have hin : ∀ i : Fin 3, (![0, 0, L] : Fin 3 → ℕ) i ≤ ((ix3 a b s : (⟨3, ![A, B, N]⟩ : Shape).Idx) i).val * (![1, 1, 1] : Fin 3 → ℕ) i + (winEquiv N n i).val
      ∧ ((ix3 a b s : (⟨3, ![A, B, N]⟩ : Shape).Idx) i).val * (![1, 1, 1] : Fin 3 → ℕ) i + (winEquiv N n i).val - (![0, 0, L] : Fin 3 → ℕ) i
        < (⟨3, ![A, B, N]⟩ : Shape).size i := by
    intro i
    match i with
    | ⟨0, _⟩ => have := a.isLt; show 0 ≤ a.val * 1 + 0 ∧ a.val * 1 + 0 - 0 < A; omega
    | ⟨1, _⟩ => have := b.isLt; show 0 ≤ b.val * 1 + 0 ∧ b.val * 1 + 0 - 0 < B; omega
    | ⟨2, _⟩ => have := k.isLt; show L ≤ s.val * 1 + n.val ∧ s.val * 1 + n.val - L < N; omega
  refine (dif_pos hin).trans (congrArg u (funext fun i => Fin.ext ?_))
  match i with
  | ⟨0, _⟩ => show a.val * 1 + 0 - 0 = a.val; omega
  | ⟨1, _⟩ => show b.val * 1 + 0 - 0 = b.val; omega
  | ⟨2, _⟩ => show s.val * 1 + n.val - L = k.val; omega

theorem piece_out (L : ℕ) (u : (⟨3, ![A, B, N]⟩ : Shape).Idx → EReal) (a : Fin A) (b : Fin B) (s n : Fin N)
    (hk : s.val + n.val < L ∨ L + N ≤ s.val + n.val) : piece ![0, 0, L] u 0 (ix3 a b s) (winEquiv N n) = 0 := by
  refine dif_neg fun hin => ?_
  have h2 : L ≤ s.val * 1 + n.val ∧ s.val * 1 + n.val - L < N := hin 2
  omega

end Window

/-- The zero a sum starts from. -/
def nought : FVec Ideal S0 .f32 := broadcastInDim S0 ![] (by decide) (constant S0 .f32 0x00000000#32)

theorem nought_apply (j : S0.Idx) : nought j = 0 := by
  unfold nought; rw [broadcastInDim_scalar_apply]; exact zero_bits.trans EReal.coe_zero

theorem window_onward (h : Scores.ReduceWindows ![1, 1, 8192] ![1, 1, 1] ![0, 0, 0] ![0, 0, 8191] Scores) (hu : 0 < S0.numel) :
    Host.reduceWindowAdd ![1, 1, 8192] ![1, 1, 1] ![0, 0, 0] ![0, 0, 8191] (cube x) nought h hu
      = cube fun p t s => ∑ n ∈ range 8192, if s + n < 8192 then x p t (s + n) else 0 := by
  refine ext_cube fun p t s => ?_
  rw [window_apply _ _ _ _ _ _ nought_apply]
  refine Eq.trans (Finset.sum_congr rfl fun n _ => ?_) ((coe_sum Finset.univ fun n : Fin 8192 => if s.val + n.val < 8192 then x p t.val (s.val + n.val) else 0).trans
    (congrArg (fun r : ℝ => (r : EReal)) (Fin.sum_univ_eq_sum_range (fun n => if s.val + n < 8192 then x p t.val (s.val + n) else 0) 8192)))
  by_cases hn : s.val + n.val < 8192
  · rw [piece_in 0 _ p t s n ⟨s.val + n.val, hn⟩ (by simp), if_pos hn]; rfl
  · rw [piece_out 0 _ p t s n (by omega), if_neg hn]; rfl

theorem window_upward (h : Scores.ReduceWindows ![1, 1, 8192] ![1, 1, 1] ![0, 0, 8191] ![0, 0, 0] Scores) (hu : 0 < S0.numel) :
    Host.reduceWindowAdd ![1, 1, 8192] ![1, 1, 1] ![0, 0, 8191] ![0, 0, 0] (cube x) nought h hu
      = cube fun p t s => ∑ n ∈ range 8192, if 8191 ≤ s + n then x p t (s + n - 8191) else 0 := by
  refine ext_cube fun p t s => ?_
  rw [window_apply _ _ _ _ _ _ nought_apply]
  refine Eq.trans (Finset.sum_congr rfl fun n _ => ?_) ((coe_sum Finset.univ fun n : Fin 8192 => if 8191 ≤ s.val + n.val then x p t.val (s.val + n.val - 8191) else 0).trans
    (congrArg (fun r : ℝ => (r : EReal)) (Fin.sum_univ_eq_sum_range (fun n => if 8191 ≤ s.val + n then x p t.val (s.val + n - 8191) else 0) 8192)))
  by_cases hn : 8191 ≤ s.val + n.val
  · rw [piece_in 8191 _ p t s n ⟨s.val + n.val - 8191, by omega⟩ (by show s.val + n.val = 8191 + (s.val + n.val - 8191); omega), if_pos hn]; rfl
  · rw [piece_out 8191 _ p t s n (by omega), if_neg hn]; rfl

/-- A sum from a column on is the whole sum less the sum before it. -/
theorem sum_onward (f : ℕ → ℝ) {n s : ℕ} (hs : s ≤ n) :
    (∑ k ∈ range n, if s + k < n then f (s + k) else 0) = ∑ k ∈ range n, f k - ∑ k ∈ range s, f k := by
  have h1 : ∑ k ∈ range n, f k = ∑ k ∈ range s, f k + ∑ k ∈ range (n - s), f (s + k) := by
    rw [← Finset.sum_range_add, Nat.add_sub_cancel' hs]
  have h2 : (∑ k ∈ range n, if s + k < n then f (s + k) else 0) = ∑ k ∈ range (n - s), f (s + k) := by
    rw [← Finset.sum_filter]
    refine Finset.sum_congr ?_ fun _ _ => rfl
    ext k; simp only [Finset.mem_filter, Finset.mem_range]; omega
  rw [h1, h2]; ring

/-- The sum up to a column, read through a window that ends there. -/
theorem sum_upward (f : ℕ → ℝ) {n s : ℕ} (hs : s ≤ n) :
    (∑ k ∈ range (n + 1), if n ≤ s + k then f (s + k - n) else 0) = ∑ k ∈ range (s + 1), f k := by
  have h1 : ∑ k ∈ range (n + 1), (if n ≤ s + k then f (s + k - n) else 0)
      = ∑ k ∈ range ((n - s) + (s + 1)), (if n ≤ s + k then f (s + k - n) else 0) := by congr 2; omega
  rw [h1, Finset.sum_range_add]
  rw [Finset.sum_eq_zero fun k hk => if_neg (by have := Finset.mem_range.mp hk; omega), zero_add]
  refine Finset.sum_congr rfl fun k _ => ?_
  rw [if_pos (by omega)]; congr 1; omega

/-- The sum along a row, over all its columns. -/
theorem sum_cube (h : Scores.ReducesTo [2] ⟨2, ![8, 8192]⟩) (v : EReal) (hv : v = 0) (p : Fin 8) (r : Fin 8192) :
    Ideal.hostReduceAdd h (cube x) v (ix2 p r) = ((∑ s ∈ range 8192, x p r.val s : ℝ) : EReal) := by
  rw [Ideal.hostReduceAdd_r3_a2, hv, zero_add]
  exact (coe_sum Finset.univ fun n : Fin 8192 => x p r.val n.val).trans
    (congrArg (fun r : ℝ => (r : EReal)) (Fin.sum_univ_eq_sum_range (fun n => x p r.val n) 8192))

/-! ## Heads in and out of a matrix -/

abbrev Mat (n : ℕ) : Shape := ⟨2, ![8192, n]⟩
abbrev Split : Shape := ⟨3, ![8192, 8, 128]⟩

/-- A matrix given by a real function of row and column. -/
def mat (n : ℕ) (φ : FTy) (X : ℕ → ℕ → ℝ) : FVec Ideal (Mat n) φ := fun j => ((X (j 0).val (j 1).val : ℝ) : EReal)

/-- Eight heads of 128 columns cut out of a matrix. -/
theorem heads_in {n off : ℕ} (X : ℕ → ℕ → ℝ) (h1 : (Mat n).Slices ![0, off] (Mat 1024)) (h2 : (Mat 1024).ShapeCasts Split)
    (h3 : Split.Transposes [1, 0, 2] Rows) :
    transpose Rows [1, 0, 2] (shapeCast Split (extractStridedSlice (Mat 1024) ![0, off] (mat n .f32 X) h1) h2) h3
      = rows fun p t d => X t (off + 128 * p.val + d.val) := by
  refine ext_rows fun p t d => ?_
  rw [transpose_apply _ _ _ _ (ix3 t p d) (by intro i; fin_cases i <;> rfl),
    shapeCast_apply _ _ _ (ix2 t (⟨128 * p.val + d.val, by omega⟩ : Fin 1024)) (by
      rw [Shape.rowMajor_val_two, Shape.rowMajor_val_three]
      show t.val * 1024 + (128 * p.val + d.val) = (t.val * 8 + p.val) * 128 + d.val; omega)]
  have hs := h1.2 1
  have hb : off + 1024 ≤ n := hs
  rw [extractStridedSlice_apply _ _ _ _ (ix2 t (⟨off + (128 * p.val + d.val), by omega⟩ : Fin n)) (by
    intro i
    match i with
    | ⟨0, _⟩ => show t.val = 0 + t.val; omega
    | ⟨1, _⟩ => rfl)]
  show ((X t.val (off + (128 * p.val + d.val)) : ℝ) : EReal) = ((X t.val (off + 128 * p.val + d.val) : ℝ) : EReal)
  rw [Nat.add_assoc]

/-- Eight heads laid side by side in a matrix, and rounded to a narrower format. -/
theorem heads_out (a : Fin 8 → ℕ → Fin 128 → ℝ) (h3 : Rows.Transposes [1, 0, 2] Split) (h2 : Split.ShapeCasts (Mat 1024))
    (hb : FTy.bf16.bits < FTy.f32.bits) :
    (truncf .bf16 (shapeCast (Mat 1024) (transpose Split [1, 0, 2] (rows a) h3) h2) hb : FVec Ideal (Mat 1024) .bf16)
      = fun j => ((a ⟨(j 1).val / 128, by have := idx2_lt1 j; omega⟩ (j 0).val ⟨(j 1).val % 128, Nat.mod_lt _ (by norm_num)⟩ : ℝ) : EReal) := by
  funext j
  have hj1 := idx2_lt1 j
  have hj0 := idx2_lt0 j
  show (shapeCast (Mat 1024) (transpose Split [1, 0, 2] (rows a) h3) h2) j = _
  rw [shapeCast_apply _ _ _ (ix3 (⟨(j 0).val, hj0⟩ : Fin 8192) (⟨(j 1).val / 128, by omega⟩ : Fin 8) (⟨(j 1).val % 128, by omega⟩ : Fin 128)) (by
      rw [Shape.rowMajor_val_two, Shape.rowMajor_val_three]
      show ((j 0).val * 8 + (j 1).val / 128) * 128 + (j 1).val % 128 = (j 0).val * 1024 + (j 1).val; omega),
    transpose_apply _ _ _ _ (ix3 (⟨(j 1).val / 128, by omega⟩ : Fin 8) (⟨(j 0).val, hj0⟩ : Fin 8192) (⟨(j 1).val % 128, by omega⟩ : Fin 128))
      (by intro i; fin_cases i <;> rfl)]
  rfl

/-- Exchanging the last two axes back. -/
theorem cols_back (a : Fin 8 → ℕ → Fin 128 → ℝ) (h : Cols.Transposes [0, 2, 1] Rows) : transpose Rows [0, 2, 1] (cols a) h = rows a := by
  refine ext_rows fun p t d => ?_
  rw [transpose_apply _ _ _ _ (ix3 p d t) (by intro i; fin_cases i <;> rfl)]
  rfl

end Cert.Cube
-- ==== Proof.Dots.lean ====
/-
  Products of matrices as sums, at the extended reals: a product of matrices with finite entries has finite entries, and a
  product by a transposed matrix is, entry by entry, the sum over the shared axis.
-/
module

public import proofs.«01_k».proof.Proof.Cube
public import Idealize.ShloMosaic.Lib.MatmulPlain
public import Idealize.ShloMosaic.Lib.StackMember

@[expose] public section

set_option maxRecDepth 16384

noncomputable section

namespace Cert.Dots

open Idealize.ShloMosaic hiding ix2 eq_ix2 ix3 eq_ix3 ix4 eq_ix4
open Idealize.ShloMosaic.ValueIdx Idealize.ShloMosaic.TcCoe

/-- Neither infinity. -/
def Fin' (x : EReal) : Prop := x ≠ ⊤ ∧ x ≠ ⊥

theorem fin_coe (x : ℝ) : Fin' (x : EReal) := ⟨EReal.coe_ne_top x, EReal.coe_ne_bot x⟩

/-- A finite extended real is a real. -/
theorem exists_coe {x : EReal} (h : Fin' x) : ∃ r : ℝ, x = r := ⟨x.toReal, (EReal.coe_toReal h.1 h.2).symm⟩

/-- A sum of products of finite values is finite. -/
theorem fin_sum {ι : Type} (S : Finset ι) (f g : ι → EReal) (hf : ∀ k, Fin' (f k)) (hg : ∀ k, Fin' (g k)) : Fin' (∑ k ∈ S, f k * g k) := by
  choose u hu using fun k => exists_coe (hf k)
  choose v hv using fun k => exists_coe (hg k)
  have e : ∑ k ∈ S, f k * g k = ((∑ k ∈ S, u k * v k : ℝ) : EReal) :=
    (Finset.sum_congr rfl fun k _ => by rw [hu, hv, EReal.coe_mul]).trans (Cert.Cube.coe_sum S fun k => u k * v k)
  rw [e]; exact fin_coe _

/-- A product of matrices of finite entries has finite entries. -/
theorem fin_dot {sl sr so : Shape} {φ₁ φ₂ : FTy} (d : DotDims sl sr so) (x : FVec Ideal sl φ₁) (y : FVec Ideal sr φ₂)
    (hx : ∀ j, Fin' (x j)) (hy : ∀ j, Fin' (y j)) (j : so.Idx) : Fin' (Host.dotGeneral d none x y j) := by
  simp only [Host.dotGeneral]
  rw [Ideal.dotGeneral_apply]
  exact fin_sum _ _ _ (fun k => hx _) fun k => hy _

/-- A product by a transposed matrix, entry by entry. -/
theorem host_transposed {M K N : ℕ} {φ₁ φ₂ : FTy} (x : FVec Ideal ⟨2, ![M, K]⟩ φ₁) (y : FVec Ideal ⟨2, ![N, K]⟩ φ₂) (r : Fin M) (c : Fin N) :
    Host.dotGeneral (DotDims.transposedRhs M K N) none x y (ix2 r c) = ∑ k : Fin K, x (ix2 r k) * y (ix2 c k) := by
  refine Eq.trans ?_ (((Ideal.matmul_transposedRhs_apply none x y (fun _ => 0) r c)).trans (zero_add _))
  simp only [Host.dotGeneral]
  rw [Ideal.dotGeneral_apply, Ideal.matmul_apply]
  exact (zero_add _).symm

end Cert.Dots

end
-- ==== Proof.Crossed.lean ====
/-
  Products of a transposed matrix by a matrix, entry by entry: the sum over the rows of both. And a sum over 8192 rows is the sums
  over four quarters of them, added in turn.
-/
module

public import proofs.«01_k».proof.Proof.Dots

@[expose] public section

set_option maxRecDepth 16384

noncomputable section

namespace Cert.Crossed

open Idealize.ShloMosaic hiding ix2 eq_ix2 ix3 eq_ix3 ix4 eq_ix4
open Idealize.ShloMosaic.ValueIdx Idealize.ShloMosaic.TcCoe

variable {K M N : ℕ} {φ₁ φ₂ : FTy}

/-- Rows against rows: the first axis of both operands is summed. -/
def dims (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ :=
  ⟨[0], [0], [1], [1], [], [], wf⟩

theorem sum_contr (wf) (x : FVec Ideal ⟨2, ![K, M]⟩ φ₁) (y : FVec Ideal ⟨2, ![K, N]⟩ φ₂) (i : Fin M) (j : Fin N) :
    (∑ k, x ((dims wf).lhsIdx (ix2 i j) k) * y ((dims wf).rhsIdx (ix2 i j) k)) = ∑ k : Fin K, x (ix2 k i) * y (ix2 k j) := by
  let D := dims (K := K) (M := M) (N := N) wf
  have hr : D.contr.rank = 1 := rfl
  have c0 : D.contr.size ⟨0, by rw [hr]; omega⟩ = K := rfl
  rw [← Equiv.sum_comp (contrEquiv1 D K hr c0).symm]
  refine Finset.sum_congr rfl fun k _ => ?_
  have h0 := contrEquiv1_symm_val D K hr c0 k
  have el : D.lhsIdx (ix2 i j) ((contrEquiv1 D K hr c0).symm k) = ix2 k i := by
    funext a; apply Fin.ext
    match a with
    | ⟨0, _⟩ => exact h0
    | ⟨1, _⟩ => rfl
  have er : D.rhsIdx (ix2 i j) ((contrEquiv1 D K hr c0).symm k) = ix2 k j := by
    funext a; apply Fin.ext
    match a with
    | ⟨0, _⟩ => exact h0
    | ⟨1, _⟩ => rfl
  exact congrArg₂ (fun u v : EReal => u * v) (congrArg x el) (congrArg y er)

/-- The product on the matrix unit, over an accumulator of zeros. -/
theorem matmul_apply (wf) (x : FVec Ideal ⟨2, ![K, M]⟩ φ₁) (y : FVec Ideal ⟨2, ![K, N]⟩ φ₂) (i : Fin M) (j : Fin N) :
    matmul (F := Ideal) (dims wf) none x y (constant (F := Ideal) ⟨2, ![M, N]⟩ .f32 0x00000000#32) (ix2 i j) = ∑ k : Fin K, x (ix2 k i) * y (ix2 k j) := by
  refine Eq.trans (Ideal.matmul_apply (dims wf) none x y (constant (F := Ideal) ⟨2, ![M, N]⟩ .f32 0x00000000#32) (ix2 i j)) ?_
  refine (congrArg (· + _) (show Ideal.ofBits .f32 0x00000000#32 = 0 by simp)).trans ((zero_add _).trans ?_)
  exact sum_contr wf x y i j

/-- The product on the host. -/
theorem host_apply (wf) (x : FVec Ideal ⟨2, ![K, M]⟩ φ₁) (y : FVec Ideal ⟨2, ![K, N]⟩ φ₂) (i : Fin M) (j : Fin N) :
    Host.dotGeneral (dims wf) none x y (ix2 i j) = ∑ k : Fin K, x (ix2 k i) * y (ix2 k j) := by
  simp only [Host.dotGeneral]
  rw [Ideal.dotGeneral_apply]
  exact sum_contr wf x y i j

/-- Row `k` of quarter `e`. -/
def tick (e : Fin 4) (k : Fin 2048) : Fin 8192 := ⟨e.val * 2048 + k.val, by omega⟩

theorem sum_quarters (f : Fin 8192 → EReal) :
    ∑ k, f k = (((∑ k, f (tick 0 k)) + ∑ k, f (tick 1 k)) + ∑ k, f (tick 2 k)) + ∑ k, f (tick 3 k) := by
  refine (Fin.sum_univ_add (a := 6144) (b := 2048) f).trans (congrArg₂ (fun x y : EReal => x + y) ?_ ?_)
  · refine (Fin.sum_univ_add (a := 4096) (b := 2048) _).trans (congrArg₂ (fun x y : EReal => x + y) ?_ ?_)
    · refine (Fin.sum_univ_add (a := 2048) (b := 2048) _).trans (congrArg₂ (fun x y : EReal => x + y) ?_ ?_)
      · exact Finset.sum_congr rfl fun k _ => congrArg f (Fin.ext (by show k.val = 0 * 2048 + k.val; omega))
      · exact Finset.sum_congr rfl fun k _ => congrArg f (Fin.ext (by show 2048 + k.val = 1 * 2048 + k.val; omega))
    · exact Finset.sum_congr rfl fun k _ => congrArg f (Fin.ext (by show 4096 + k.val = 2 * 2048 + k.val; omega))
  · exact Finset.sum_congr rfl fun k _ => congrArg f (Fin.ext (by show 6144 + k.val = 3 * 2048 + k.val; omega))

end Cert.Crossed

end
-- ==== Proof.Grouped.lean ====
/-
  Products made group by group: 2048 features in four groups of 512, each with its own square of weights. The forward product, its
  gradient by the input and its gradient by the weights, entry by entry.
-/
module

public import proofs.«01_k».proof.Proof.Crossed
public import Idealize.ShloMosaic.Lib.ValueLayout

@[expose] public section

set_option maxRecDepth 16384

noncomputable section

namespace Cert.Grouped

open Idealize.ShloMosaic hiding ix2 eq_ix2 ix3 eq_ix3 ix4 eq_ix4 ix5 eq_ix5
open Idealize.ShloMosaic.ValueIdx Idealize.ShloMosaic.TcCoe

abbrev Rows : Shape := ⟨2, ![8192, 2048]⟩
abbrev Cut : Shape := ⟨3, ![8192, 4, 512]⟩
abbrev Squares : Shape := ⟨3, ![4, 512, 512]⟩
abbrev Turned : Shape := ⟨3, ![4, 512, 8192]⟩
abbrev Stacked : Shape := ⟨3, ![4, 8192, 512]⟩

/-- Feature `k` of group `g`, and a feature's group and place in its group. -/
def lane (g : Fin 4) (k : Fin 512) : Fin 2048 := ⟨g.val * 512 + k.val, by omega⟩
def grp (j : Fin 2048) : Fin 4 := ⟨j.val / 512, by omega⟩
def place (j : Fin 2048) : Fin 512 := ⟨j.val % 512, by omega⟩

/-- The three products, entry by entry. -/
def fwd (x : Rows.Idx → EReal) (w : Squares.Idx → EReal) (i : Fin 8192) (g : Fin 4) (d : Fin 512) : EReal :=
  ∑ k : Fin 512, x (ix2 i (lane g k)) * w (ix3 g k d)
def back (y : Rows.Idx → EReal) (w : Squares.Idx → EReal) (i : Fin 8192) (g : Fin 4) (r : Fin 512) : EReal :=
  ∑ k : Fin 512, y (ix2 i (lane g k)) * w (ix3 g r k)

theorem cut_apply (x : Rows.Idx → EReal) (h : Rows.ShapeCasts Cut) (i : Fin 8192) (g : Fin 4) (k : Fin 512) :
    shapeCast Cut x h (ix3 i g k) = x (ix2 i (lane g k)) := by
  refine shapeCast_apply x h _ _ ?_
  rw [Shape.rowMajor_val_three, Shape.rowMajor_val_two]
  show i.val * 2048 + (g.val * 512 + k.val) = (i.val * 4 + g.val) * 512 + k.val
  omega

theorem joined_apply (x : Cut.Idx → EReal) (h : Cut.ShapeCasts Rows) (i : Fin 8192) (j : Fin 2048) :
    shapeCast Rows x h (ix2 i j) = x (ix3 i (grp j) (place j)) := by
  refine shapeCast_apply x h _ _ ?_
  rw [Shape.rowMajor_val_three, Shape.rowMajor_val_two]
  show (i.val * 4 + j.val / 512) * 512 + j.val % 512 = i.val * 2048 + j.val
  omega

/-- The gradient turned so that its rows come last. -/
theorem turned_apply (y : Rows.Idx → EReal) (h : Rows.ShapeCasts Cut) (ht : Cut.Transposes [1, 2, 0] Turned) (g : Fin 4) (k : Fin 512) (i : Fin 8192) :
    transpose Turned [1, 2, 0] (shapeCast Cut y h) ht (ix3 g k i) = y (ix2 i (lane g k)) :=
  (transpose_apply _ _ ht (ix3 g k i) (ix3 i g k) fun a => match a with | ⟨0, _⟩ => rfl | ⟨1, _⟩ => rfl | ⟨2, _⟩ => rfl).trans (cut_apply y h i g k)

/-- The forward product, with the rows last. -/
theorem fwd_dot (wf : DotDims.WF Squares Cut Turned [1] [2] [2] [0] [0] [1]) (w : FVec Ideal Squares .f32) (x : FVec Ideal Cut .f32)
    (g : Fin 4) (d : Fin 512) (i : Fin 8192) :
    Host.dotGeneral (⟨[1], [2], [2], [0], [0], [1], wf⟩ : DotDims Squares Cut Turned) none w x (ix3 g d i)
      = ∑ k : Fin 512, w (ix3 g k d) * x (ix3 i g k) := by
  let D : DotDims Squares Cut Turned := ⟨[1], [2], [2], [0], [0], [1], wf⟩
  simp only [Host.dotGeneral]
  rw [Ideal.dotGeneral_apply]
  have hr : D.contr.rank = 1 := rfl
  have c0 : D.contr.size ⟨0, by rw [hr]; omega⟩ = 512 := rfl
  rw [← Equiv.sum_comp (contrEquiv1 D 512 hr c0).symm]
  refine Finset.sum_congr rfl fun k _ => ?_
  have h0 := contrEquiv1_symm_val D 512 hr c0 k
  have el : D.lhsIdx (ix3 g d i) ((contrEquiv1 D 512 hr c0).symm k) = ix3 g k d := by
    funext a; apply Fin.ext
    match a with
    | ⟨0, _⟩ => rfl
    | ⟨1, _⟩ => exact h0
    | ⟨2, _⟩ => rfl
  have er : D.rhsIdx (ix3 g d i) ((contrEquiv1 D 512 hr c0).symm k) = ix3 i g k := by
    funext a; apply Fin.ext
    match a with
    | ⟨0, _⟩ => rfl
    | ⟨1, _⟩ => rfl
    | ⟨2, _⟩ => exact h0
  exact congrArg₂ (fun u v : EReal => u * v) (congrArg w el) (congrArg x er)

/-- The gradient by the input, group by group. -/
theorem back_dot (wf : DotDims.WF Turned Squares Stacked [1] [2] [2] [1] [0] [0]) (y : FVec Ideal Turned .f32) (w : FVec Ideal Squares .f32)
    (g : Fin 4) (i : Fin 8192) (r : Fin 512) :
    Host.dotGeneral (⟨[1], [2], [2], [1], [0], [0], wf⟩ : DotDims Turned Squares Stacked) none y w (ix3 g i r)
      = ∑ k : Fin 512, y (ix3 g k i) * w (ix3 g r k) := by
  let D : DotDims Turned Squares Stacked := ⟨[1], [2], [2], [1], [0], [0], wf⟩
  simp only [Host.dotGeneral]
  rw [Ideal.dotGeneral_apply]
  have hr : D.contr.rank = 1 := rfl
  have c0 : D.contr.size ⟨0, by rw [hr]; omega⟩ = 512 := rfl
  rw [← Equiv.sum_comp (contrEquiv1 D 512 hr c0).symm]
  refine Finset.sum_congr rfl fun k _ => ?_
  have h0 := contrEquiv1_symm_val D 512 hr c0 k
  have el : D.lhsIdx (ix3 g i r) ((contrEquiv1 D 512 hr c0).symm k) = ix3 g k i := by
    funext a; apply Fin.ext
    match a with
    | ⟨0, _⟩ => rfl
    | ⟨1, _⟩ => exact h0
    | ⟨2, _⟩ => rfl
  have er : D.rhsIdx (ix3 g i r) ((contrEquiv1 D 512 hr c0).symm k) = ix3 g r k := by
    funext a; apply Fin.ext
    match a with
    | ⟨0, _⟩ => rfl
    | ⟨1, _⟩ => rfl
    | ⟨2, _⟩ => exact h0
  exact congrArg₂ (fun u v : EReal => u * v) (congrArg y el) (congrArg w er)

/-- The gradient by the weights, transposed. -/
theorem weights_dot (wf : DotDims.WF Turned Cut Squares [2] [0] [1] [2] [0] [1]) (y : FVec Ideal Turned .f32) (x : FVec Ideal Cut .f32)
    (g : Fin 4) (b : Fin 512) (r : Fin 512) :
    Host.dotGeneral (⟨[2], [0], [1], [2], [0], [1], wf⟩ : DotDims Turned Cut Squares) none y x (ix3 g b r)
      = ∑ k : Fin 8192, y (ix3 g b k) * x (ix3 k g r) := by
  let D : DotDims Turned Cut Squares := ⟨[2], [0], [1], [2], [0], [1], wf⟩
  simp only [Host.dotGeneral]
  rw [Ideal.dotGeneral_apply]
  have hr : D.contr.rank = 1 := rfl
  have c0 : D.contr.size ⟨0, by rw [hr]; omega⟩ = 8192 := rfl
  rw [← Equiv.sum_comp (contrEquiv1 D 8192 hr c0).symm]
  refine Finset.sum_congr rfl fun k _ => ?_
  have h0 := contrEquiv1_symm_val D 8192 hr c0 k
  have el : D.lhsIdx (ix3 g b r) ((contrEquiv1 D 8192 hr c0).symm k) = ix3 g b k := by
    funext a; apply Fin.ext
    match a with
    | ⟨0, _⟩ => rfl
    | ⟨1, _⟩ => rfl
    | ⟨2, _⟩ => exact h0
  have er : D.rhsIdx (ix3 g b r) ((contrEquiv1 D 8192 hr c0).symm k) = ix3 k g r := by
    funext a; apply Fin.ext
    match a with
    | ⟨0, _⟩ => exact h0
    | ⟨1, _⟩ => rfl
    | ⟨2, _⟩ => rfl
  exact congrArg₂ (fun u v : EReal => u * v) (congrArg y el) (congrArg x er)

/-- The forward product as the reference lays it out. -/
theorem fwd_apply (wf) (x : FVec Ideal Rows .f32) (w : FVec Ideal Squares .f32) (h : Rows.ShapeCasts Cut) (ht : Turned.Transposes [2, 0, 1] Cut)
    (h' : Cut.ShapeCasts Rows) (i : Fin 8192) (j : Fin 2048) :
    shapeCast Rows (transpose Cut [2, 0, 1] (Host.dotGeneral (⟨[1], [2], [2], [0], [0], [1], wf⟩ : DotDims Squares Cut Turned) none w (shapeCast Cut x h)) ht) h' (ix2 i j)
      = fwd x w i (grp j) (place j) := by
  refine (joined_apply _ h' i j).trans ?_
  refine (transpose_apply _ _ ht _ (ix3 (grp j) (place j) i) fun a => match a with | ⟨0, _⟩ => rfl | ⟨1, _⟩ => rfl | ⟨2, _⟩ => rfl).trans ?_
  refine (fwd_dot wf w _ _ _ i).trans (Finset.sum_congr rfl fun k _ => ?_)
  rw [cut_apply x h i (grp j) k]
  exact mul_comm _ _

/-- The gradient by the input as the reference lays it out. -/
theorem back_apply (wf) (y : FVec Ideal Rows .f32) (w : FVec Ideal Squares .f32) (h : Rows.ShapeCasts Cut) (ht : Cut.Transposes [1, 2, 0] Turned)
    (hu : Stacked.Transposes [1, 0, 2] Cut) (h' : Cut.ShapeCasts Rows) (i : Fin 8192) (j : Fin 2048) :
    shapeCast Rows (transpose Cut [1, 0, 2] (Host.dotGeneral (⟨[1], [2], [2], [1], [0], [0], wf⟩ : DotDims Turned Squares Stacked) none
      (transpose Turned [1, 2, 0] (shapeCast Cut y h) ht) w) hu) h' (ix2 i j) = back y w i (grp j) (place j) := by
  refine (joined_apply _ h' i j).trans ?_
  refine (transpose_apply _ _ hu _ (ix3 (grp j) i (place j)) fun a => match a with | ⟨0, _⟩ => rfl | ⟨1, _⟩ => rfl | ⟨2, _⟩ => rfl).trans ?_
  refine (back_dot wf _ w _ i _).trans (Finset.sum_congr rfl fun k _ => ?_)
  rw [turned_apply y h ht (grp j) k i]

/-- The gradient by the weights as the reference lays it out: group `g` is layer half `e`, `l`; row `r` is device `d`'s row `a`. -/
theorem weights_apply (wf) (x y : FVec Ideal Rows .f32) (h : Rows.ShapeCasts Cut) (ht : Cut.Transposes [1, 2, 0] Turned)
    (hu : Squares.Transposes [0, 2, 1] Squares) (hc : Squares.ShapeCasts ⟨5, ![2, 2, 4, 128, 512]⟩)
    (hv : (⟨5, ![2, 2, 4, 128, 512]⟩ : Shape).Transposes [2, 0, 1, 3, 4] ⟨5, ![4, 2, 2, 128, 512]⟩)
    (d : Fin 4) (e l : Fin 2) (a : Fin 128) (b : Fin 512) (i j : Fin 2048)
    (hi : i.val = (e.val * 2 + l.val) * 512 + d.val * 128 + a.val) (hj : j.val = (e.val * 2 + l.val) * 512 + b.val) :
    transpose ⟨5, ![4, 2, 2, 128, 512]⟩ [2, 0, 1, 3, 4] (shapeCast ⟨5, ![2, 2, 4, 128, 512]⟩ (transpose Squares [0, 2, 1]
      (Host.dotGeneral (⟨[2], [0], [1], [2], [0], [1], wf⟩ : DotDims Turned Cut Squares) none (transpose Turned [1, 2, 0] (shapeCast Cut y h) ht) (shapeCast Cut x h)) hu) hc) hv (ix5 d e l a b)
      = ∑ k : Fin 8192, x (ix2 k i) * y (ix2 k j) := by
  let g : Fin 4 := ⟨e.val * 2 + l.val, by omega⟩
  let r : Fin 512 := ⟨d.val * 128 + a.val, by omega⟩
  refine (transpose_apply _ _ hv (ix5 d e l a b) (ix5 e l d a b) (fun x => ?_)).trans ?_
  · match x with
    | ⟨0, _⟩ => rfl
    | ⟨1, _⟩ => rfl
    | ⟨2, _⟩ => rfl
    | ⟨3, _⟩ => rfl
    | ⟨4, _⟩ => rfl
  refine (shapeCast_apply _ hc (ix5 e l d a b) (ix3 g r b) ?_).trans ?_
  · rw [Shape.rowMajor_val_five, Shape.rowMajor_val_three]
    show ((e.val * 2 + l.val) * 512 + (d.val * 128 + a.val)) * 512 + b.val = (((e.val * 2 + l.val) * 4 + d.val) * 128 + a.val) * 512 + b.val
    omega
  refine (transpose_ix3_021_apply _ hu g r b).trans ((weights_dot wf _ _ g b r).trans (Finset.sum_congr rfl fun k _ => ?_))
  rw [turned_apply y h ht g b k, cut_apply x h k g r]
  have ei : lane g r = i := Fin.ext (by show (e.val * 2 + l.val) * 512 + (d.val * 128 + a.val) = i.val; omega)
  have ej : lane g b = j := Fin.ext (by show (e.val * 2 + l.val) * 512 + b.val = j.val; omega)
  rw [ei, ej]
  exact mul_comm _ _

end Cert.Grouped

end
-- ==== Proof.PoolValue.lean ====
/-
  The pooled features mixed group by group and added, scaled, to the layer's input, block by block: each block of the launch is a
  product of a block of rows of a group by the group's weights, made in four chunks of rows.
-/
module

public import proofs.«01_k».proof.Proof.Grouped
public import proofs.«01_k».proof.Proof.Gen.PoolIdeal.Value
public import proofs.«01_k».proof.Proof.Gen.PoolIdeal.Frame
public import Idealize.ShloMosaic.Lib.StackMember
public import Idealize.ShloMosaic.Lib.ValueLayout
public import Idealize.ShloMosaic.Lib.Pipeline.ValueKit.Tiles

@[expose] public section

set_option maxRecDepth 16384

noncomputable section

namespace Cert.PoolIdeal.Run

open Cert.PoolIdeal Cert.PoolIdeal.Gen Cert.Grouped
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of a product: row `y 0` of `X` by column `y 1` of `W`. -/
def prodB (X : FVec Ideal S1024x512 .bf16) (W : FVec Ideal S1x512x512 .bf16) (y : S1024x512.Idx) : EReal :=
  ∑ k : Fin 512, X (ix2 (y 0) k) * W (ix3 0 k (y 1))

theorem pay4_apply (P0 : FVec Ideal S256x512 .bf16) (P1 : FVec Ideal S1x512x512 .bf16) (r : Fin 256) (c : Fin 512) :
    k0_pay4 (F := Ideal) P0 P1 (ix2 r c) = ∑ k : Fin 512, P0 (ix2 r k) * P1 (ix3 0 k c) := by
  unfold k0_pay4
  refine (Ideal.matmul_plain_apply none (shapeCast S256x512 P0 shapeCasts_S256x512_S256x512)
    (shapeCast S512x512 P1 shapeCasts_S1x512x512_S512x512) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x512x512_S512x512 k c)

theorem ld1 (W : FVec Ideal S1x512x512 .bf16) : View.ld (Val := Elt Ideal) (e' := .bf16) W r0_1 = W :=
  View.ld_unit_lit (Val := Elt Ideal) (S := S1x512x512) (e := .bf16) (off := ![0, 0, 0]) _ W (by decide)

theorem ldS (U : FVec Ideal S1x512 .f32) : View.ld (Val := Elt Ideal) (e' := .f32) U r0_5 = U :=
  View.ld_unit_lit (Val := Elt Ideal) (S := S1x512) (e := .f32) (off := ![0, 0]) _ U (by decide)

/-- A chunk of 256 rows of the product is the rows of the product from the chunk's first. -/
theorem chunk (X : FVec Ideal S1024x512 .bf16) (W : FVec Ideal S1x512x512 .bf16) (o : ℕ)
    (hy : ∀ a, (![o, 0] : Fin 2 → ℕ) a + S256x512.size a ≤ S1024x512.size a) (x : S256x512.Idx) :
    k0_pay4 (F := Ideal) (View.ld (Val := Elt Ideal) (e' := .bf16) X (Rect.unit (s := S1024x512) ![o, 0] S256x512.size hy))
        (View.ld (Val := Elt Ideal) (e' := .bf16) W r0_1) x
      = prodB X W ((Rect.unit (s := S1024x512) ![o, 0] S256x512.size hy).emb x) := by
  obtain ⟨r, c, rfl⟩ : ∃ (r : Fin 256) (c : Fin 512), x = ix2 r c := ⟨x 0, x 1, eq_ix2 x⟩
  rw [ld1]
  refine (pay4_apply _ W r c).trans (Finset.sum_congr rfl fun k _ => ?_)
  refine congrArg₂ (fun x y : EReal => x * y) (congrArg X (funext fun a => Fin.ext ((Rect.idx_unit_val (s := S1024x512) ![o, 0] S256x512.size hy (ix2 r k) a).trans ?_))) (congrArg W ?_)
  · match a with
    | ⟨0, _⟩ => exact (Rect.idx_unit_val (s := S1024x512) ![o, 0] S256x512.size hy (ix2 r c) 0).symm
    | ⟨1, _⟩ => exact Nat.zero_add _
  · refine congrArg (ix3 0 k) (Fin.ext ?_)
    exact ((Rect.idx_unit_val (s := S1024x512) ![o, 0] S256x512.size hy (ix2 r c) 1).trans (Nat.zero_add _)).symm

/-- The same chunk scaled and added to the same rows of the input. -/
theorem chunk_x (X : FVec Ideal S1024x512 .bf16) (W : FVec Ideal S1x512x512 .bf16) (Z : FVec Ideal S1024x512 .f32) (U : FVec Ideal S1x512 .f32) (o : ℕ)
    (hy : ∀ a, (![o, 0] : Fin 2 → ℕ) a + S256x512.size a ≤ S1024x512.size a) (x : S256x512.Idx) :
    k0_pay1 (F := Ideal) (k0_pay4 (F := Ideal) (View.ld (Val := Elt Ideal) (e' := .bf16) X (Rect.unit (s := S1024x512) ![o, 0] S256x512.size hy))
        (View.ld (Val := Elt Ideal) (e' := .bf16) W r0_1))
        (View.ld (Val := Elt Ideal) (e' := .f32) Z (Rect.unit (s := S1024x512) ![o, 0] S256x512.size hy))
        (View.ld (Val := Elt Ideal) (e' := .f32) U r0_5) x
      = (fun y : S1024x512.Idx => Z y + prodB X W y * U (ix2 0 (y 1))) ((Rect.unit (s := S1024x512) ![o, 0] S256x512.size hy).emb x) := by
  rw [ldS]
  refine congrArg₂ (fun p u : EReal => Z _ + p * u) (chunk X W o hy x) ?_
  obtain ⟨r, c, rfl⟩ : ∃ (r : Fin 256) (c : Fin 512), x = ix2 r c := ⟨x 0, x 1, eq_ix2 x⟩
  refine (broadcastTo_1b_ab_apply U broadcasts_S1x512_S256x512 r c).trans (congrArg (fun j : Fin 512 => U (ix2 0 j)) (Fin.ext ?_))
  exact ((Rect.idx_unit_val (s := S1024x512) ![o, 0] S256x512.size hy (ix2 r c) 1).trans (Nat.zero_add _)).symm

/-- What a point leaves in its two result blocks, at one place. -/
theorem x_canon (X : FVec Ideal S1024x512 .bf16) (W : FVec Ideal S1x512x512 .bf16) (Z : FVec Ideal S1024x512 .f32) (U : FVec Ideal S1x512 .f32) (y : S1024x512.Idx) :
    out0_4 (F := Ideal) X W Z U y = Z y + prodB X W y * U (ix2 0 (y 1)) := by
  unfold out0_4
  refine View.canon_apply_of_pieces (Val := Elt Ideal) (S := S1024x512) (e := .f32) (fun y => Z y + prodB X W y * U (ix2 0 (y 1))) _ ?_ y (cover0_4 _ _ _ _ y)
  exact List.forall_mem_cons.mpr ⟨fun x => chunk_x X W Z U 768 inb_S1024x512_S256x512_768_0 x, List.forall_mem_cons.mpr ⟨fun x => chunk_x X W Z U 512 inb_S1024x512_S256x512_512_0 x,
    List.forall_mem_cons.mpr ⟨fun x => chunk_x X W Z U 256 inb_S1024x512_S256x512_256_0 x, List.forall_mem_cons.mpr ⟨fun x => chunk_x X W Z U 0 inb_S1024x512_S256x512_0_0 x, fun p hp => nomatch hp⟩⟩⟩⟩

theorem p_canon (X : FVec Ideal S1024x512 .bf16) (W : FVec Ideal S1x512x512 .bf16) (Z : FVec Ideal S1024x512 .f32) (U : FVec Ideal S1x512 .f32) (y : S1024x512.Idx) :
    out0_5 (F := Ideal) X W Z U y = prodB X W y := by
  unfold out0_5
  refine View.canon_apply_of_pieces (Val := Elt Ideal) (S := S1024x512) (e := .f32) (fun y => prodB X W y) _ ?_ y (cover0_5 _ _ _ _ y)
  exact List.forall_mem_cons.mpr ⟨fun x => chunk X W 768 inb_S1024x512_S256x512_768_0 x, List.forall_mem_cons.mpr ⟨fun x => chunk X W 512 inb_S1024x512_S256x512_512_0 x,
    List.forall_mem_cons.mpr ⟨fun x => chunk X W 256 inb_S1024x512_S256x512_256_0 x, List.forall_mem_cons.mpr ⟨fun x => chunk X W 0 inb_S1024x512_S256x512_0_0 x, fun p hp => nomatch hp⟩⟩⟩⟩

/-! ## The arguments -/

variable (m : (ℓ : Loc nD τ sig) → Buf (Elt Ideal) ℓ) (c : Dev nD)

abbrev arg0 : FVec Ideal S8192x2048 .f32 := m ((c.tc : Thread nD τ).loc main_arg0)
abbrev arg1 : FVec Ideal S8192x2048 .f32 := m ((c.tc : Thread nD τ).loc main_arg1)
abbrev arg2 : FVec Ideal S4x512x512 .f32 := m ((c.tc : Thread nD τ).loc main_arg2)
abbrev arg3 : FVec Ideal S1x2048 .f32 := m ((c.tc : Thread nD τ).loc main_arg3)

theorem V_arg0 : V m c main_arg0 = arg0 m c := V_main_arg0 m c
theorem V_arg3 : V m c main_arg3 = arg3 m c := V_main_arg3 m c
theorem V_v0 : V m c main_v0 = (truncf .bf16 (arg1 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v1 : V m c main_v1 = (truncf .bf16 (arg2 m c) bitsLt_bf16_f32 : FVec Ideal S4x512x512 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 8 ∧ (cfg0.win 0).index t 1 = t.val / 8 :=
  (by decide +kernel : ∀ t : Fin grid0.N, (cfg0.win 0).index t 0 = t.val % 8 ∧ (cfg0.win 0).index t 1 = t.val / 8)
theorem where1 : ∀ t : Fin cfg0.N, (cfg0.win 1).index t 0 = t.val / 8 ∧ (cfg0.win 1).index t 1 = 0 ∧ (cfg0.win 1).index t 2 = 0 :=
  (by decide +kernel : ∀ t : Fin grid0.N, (cfg0.win 1).index t 0 = t.val / 8 ∧ (cfg0.win 1).index t 1 = 0 ∧ (cfg0.win 1).index t 2 = 0)
theorem where2 : ∀ t : Fin cfg0.N, (cfg0.win 2).index t 0 = t.val % 8 ∧ (cfg0.win 2).index t 1 = t.val / 8 :=
  (by decide +kernel : ∀ t : Fin grid0.N, (cfg0.win 2).index t 0 = t.val % 8 ∧ (cfg0.win 2).index t 1 = t.val / 8)
theorem where3 : ∀ t : Fin cfg0.N, (cfg0.win 3).index t 0 = 0 ∧ (cfg0.win 3).index t 1 = t.val / 8 :=
  (by decide +kernel : ∀ t : Fin grid0.N, (cfg0.win 3).index t 0 = 0 ∧ (cfg0.win 3).index t 1 = t.val / 8)
theorem where4 : ∀ t : Fin cfg0.N, (cfg0.win 4).index t 0 = t.val % 8 ∧ (cfg0.win 4).index t 1 = t.val / 8 :=
  (by decide +kernel : ∀ t : Fin grid0.N, (cfg0.win 4).index t 0 = t.val % 8 ∧ (cfg0.win 4).index t 1 = t.val / 8)
theorem where5 : ∀ t : Fin cfg0.N, (cfg0.win 5).index t 0 = t.val % 8 ∧ (cfg0.win 5).index t 1 = t.val / 8 :=
  (by decide +kernel : ∀ t : Fin grid0.N, (cfg0.win 5).index t 0 = t.val % 8 ∧ (cfg0.win 5).index t 1 = t.val / 8)

/-- A point's group, and the row and the place in the result array of a place in a block. -/
def side (t : Fin cfg0.N) : Fin 4 := ⟨t.val / 8, by have : t.val < 32 := t.isLt.trans_eq N_0; omega⟩
def row (t : Fin cfg0.N) (r : Fin 1024) : Fin 8192 := ⟨t.val % 8 * 1024 + r.val, by omega⟩
def at' (t : Fin cfg0.N) (r : Fin 1024) (q : Fin 512) : S8192x2048.Idx := ix2 (row t r) (lane (side t) q)

theorem blk_p (t : Fin cfg0.N) (r : Fin 1024) (k : Fin 512) :
    (iblk m c 0 t : FVec Ideal S1024x512 .bf16) (ix2 r k) = arg1 m c (at' t r k) := by
  obtain ⟨w0, w1⟩ := where0 t
  refine (congrFun (V_v0 m c) (((cfg0.win 0).rect t).emb (ix2 r k))).trans (congrArg (arg1 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; rfl))

theorem blk_w (t : Fin cfg0.N) (k : Fin 512) (q : Fin 512) :
    (iblk m c 1 t : FVec Ideal S1x512x512 .bf16) (ix3 0 k q) = arg2 m c (ix3 (side t) k q) := by
  obtain ⟨w0, w1, w2⟩ := where1 t
  refine (congrFun (V_v1 m c) (((cfg0.win 1).rect t).emb (ix3 0 k q))).trans (congrArg (arg2 m c) ?_)
  funext a
  match a with
  | ⟨0, _⟩ => exact Fin.ext ((Pipeline.Window.rect_emb_val (cfg0.win 1) t (ix3 0 k q) 0).trans (by rw [w0]; show t.val / 8 * 1 + 0 = t.val / 8; omega))
  | ⟨1, _⟩ => exact Fin.ext ((Pipeline.Window.rect_emb_val (cfg0.win 1) t (ix3 0 k q) 1).trans (by rw [w1]; show 0 * 512 + k.val = k.val; omega))
  | ⟨2, _⟩ => exact Fin.ext ((Pipeline.Window.rect_emb_val (cfg0.win 1) t (ix3 0 k q) 2).trans (by rw [w2]; show 0 * 512 + q.val = q.val; omega))

theorem blk_x (t : Fin cfg0.N) (r : Fin 1024) (q : Fin 512) :
    (iblk m c 2 t : FVec Ideal S1024x512 .f32) (ix2 r q) = arg0 m c (at' t r q) := by
  obtain ⟨w0, w1⟩ := where2 t
  refine (congrFun (V_arg0 m c) (((cfg0.win 2).rect t).emb (ix2 r q))).trans (congrArg (arg0 m c) ?_)
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))

theorem blk_s (t : Fin cfg0.N) (q : Fin 512) :
    (iblk m c 3 t : FVec Ideal S1x512 .f32) (ix2 0 q) = arg3 m c (ix2 0 (lane (side t) q)) := by
  obtain ⟨w0, w1⟩ := where3 t
  refine (congrFun (V_arg3 m c) (((cfg0.win 3).rect t).emb (ix2 0 q))).trans (congrArg (arg3 m c) ?_)
  funext a
  match a with
  | ⟨0, _⟩ => exact Fin.ext ((Pipeline.Window.rect_emb_val (cfg0.win 3) t (ix2 0 q) 0).trans (by rw [w0]; rfl))
  | ⟨1, _⟩ => exact Fin.ext ((Pipeline.Window.rect_emb_val (cfg0.win 3) t (ix2 0 q) 1).trans (by rw [w1]; rfl))

/-! ## The arrays -/

/-- The results as whole arrays: each group of the pooled features by the group's weights, and the layer's input with the scaled
    product added. -/
def pArr : FVec Ideal S8192x2048 .f32 := fun i => fwd (arg1 m c) (arg2 m c) (i 0) (grp (i 1)) (place (i 1))
def xArr : FVec Ideal S8192x2048 .f32 := fun i => arg0 m c i + pArr m c i * arg3 m c (ix2 0 (i 1))

theorem grp_lane (g : Fin 4) (k : Fin 512) : grp (lane g k) = g := Fin.ext (by show (g.val * 512 + k.val) / 512 = g.val; omega)
theorem place_lane (g : Fin 4) (k : Fin 512) : place (lane g k) = k := Fin.ext (by show (g.val * 512 + k.val) % 512 = k.val; omega)

theorem prod_at (t : Fin cfg0.N) (r : Fin 1024) (q : Fin 512) : prodB (iblk m c 0 t) (iblk m c 1 t) (ix2 r q) = pArr m c (at' t r q) := by
  show prodB _ _ _ = fwd _ _ (row t r) (grp (lane (side t) q)) (place (lane (side t) q))
  rw [grp_lane, place_lane]
  exact Finset.sum_congr rfl fun k _ => congrArg₂ (fun x y : EReal => x * y) (blk_p m c t r k) (blk_w m c t k q)

theorem x_point (t : Fin cfg0.N) (r : Fin 1024) (q : Fin 512) :
    out0_4 (F := Ideal) (iblk m c 0 t) (iblk m c 1 t) (iblk m c 2 t) (iblk m c 3 t) (ix2 r q) = xArr m c (at' t r q) :=
  (x_canon _ _ _ _ _).trans (congrArg₂ (fun x y : EReal => x + y) (blk_x m c t r q)
    (congrArg₂ (fun x y : EReal => x * y) (prod_at m c t r q) (blk_s m c t q)))

theorem p_point (t : Fin cfg0.N) (r : Fin 1024) (q : Fin 512) :
    out0_5 (F := Ideal) (iblk m c 0 t) (iblk m c 1 t) (iblk m c 2 t) (iblk m c 3 t) (ix2 r q) = pArr m c (at' t r q) :=
  (p_canon _ _ _ _ _).trans (prod_at m c t r q)

/-- The point whose block holds a place, and where in the block. -/
theorem exists_at (i : S8192x2048.Idx) : ∃ (t : Fin cfg0.N) (r : Fin 1024) (q : Fin 512), at' t r q = i := by
  have h0 := idx2_lt0 (n0 := 8192) (n1 := 2048) i
  have h1 := idx2_lt1 (n0 := 8192) (n1 := 2048) i
  refine ⟨⟨8 * ((i 1).val / 512) + (i 0).val / 1024, by show _ < grid0.N; rw [N_0]; omega⟩, ⟨(i 0).val % 1024, by omega⟩, ⟨(i 1).val % 512, by omega⟩, ?_⟩
  funext a
  match a with
  | ⟨0, _⟩ => exact Fin.ext (by show (8 * ((i 1).val / 512) + (i 0).val / 1024) % 8 * 1024 + (i 0).val % 1024 = (i 0).val; omega)
  | ⟨1, _⟩ => exact Fin.ext (by show (8 * ((i 1).val / 512) + (i 0).val / 1024) / 8 * 512 + (i 1).val % 512 = (i 1).val; omega)

theorem emb4 (t : Fin cfg0.N) (r : Fin 1024) (q : Fin 512) : ((cfg0.win 4).rect t).emb (ix2 r q) = at' t r q := by
  obtain ⟨w0, w1⟩ := where4 t
  funext a
  match a with
  | ⟨0, _⟩ => exact Fin.ext ((Pipeline.Window.rect_emb_val (cfg0.win 4) t (ix2 r q) 0).trans (by rw [w0]; rfl))
  | ⟨1, _⟩ => exact Fin.ext ((Pipeline.Window.rect_emb_val (cfg0.win 4) t (ix2 r q) 1).trans (by rw [w1]; rfl))

theorem emb5 (t : Fin cfg0.N) (r : Fin 1024) (q : Fin 512) : ((cfg0.win 5).rect t).emb (ix2 r q) = at' t r q := by
  obtain ⟨w0, w1⟩ := where5 t
  funext a
  match a with
  | ⟨0, _⟩ => exact Fin.ext ((Pipeline.Window.rect_emb_val (cfg0.win 5) t (ix2 r q) 0).trans (by rw [w0]; rfl))
  | ⟨1, _⟩ => exact Fin.ext ((Pipeline.Window.rect_emb_val (cfg0.win 5) t (ix2 r q) 1).trans (by rw [w1]; rfl))

theorem x_array : (dats (F := Ideal) m 0 c).arrAt 4 cfg0.N = xArr m c := by
  refine Pipeline.Dat.arrAt_eq_of_cover (dats m 0 c) 4 (xArr m c) (fun t ht => ?_) fun i => ?_
  · rw [Value.flushed4]
    funext y
    obtain ⟨r, q, rfl⟩ : ∃ (r : Fin 1024) (q : Fin 512), y = ix2 r q := ⟨y 0, y 1, eq_ix2 y⟩
    exact (x_point m c t r q).trans (congrArg (xArr m c) (emb4 t r q)).symm
  · obtain ⟨t, r, q, h⟩ := exists_at i
    exact ⟨t, flush0_4 t, Finset.mem_map.mpr ⟨ix2 r q, Finset.mem_univ _, (emb4 t r q).trans h⟩⟩

theorem p_array : (dats (F := Ideal) m 0 c).arrAt 5 cfg0.N = pArr m c := by
  refine Pipeline.Dat.arrAt_eq_of_cover (dats m 0 c) 5 (pArr m c) (fun t ht => ?_) fun i => ?_
  · rw [Value.flushed5]
    funext y
    obtain ⟨r, q, rfl⟩ : ∃ (r : Fin 1024) (q : Fin 512), y = ix2 r q := ⟨y 0, y 1, eq_ix2 y⟩
    exact (p_point m c t r q).trans (congrArg (pArr m c) (emb5 t r q)).symm
  · obtain ⟨t, r, q, h⟩ := exists_at i
    exact ⟨t, flush0_5 t, Finset.mem_map.mpr ⟨ix2 r q, Finset.mem_univ _, (emb5 t r q).trans h⟩⟩

end Cert.PoolIdeal.Run

end
-- ==== Proof.DpooledValue.lean ====
/-
  The gradient of the pooled features, block by block: each block of the launch is a product of a block of rows of the incoming
  gradient by the rows of its group's weights, made in two chunks of rows.
-/
module

public import proofs.«01_k».proof.Proof.Grouped
public import proofs.«01_k».proof.Proof.Gen.DpooledIdeal.Value
public import proofs.«01_k».proof.Proof.Gen.DpooledIdeal.Frame
public import Idealize.ShloMosaic.Lib.StackMember
public import Idealize.ShloMosaic.Lib.Pipeline.ValueKit.Tiles

@[expose] public section

set_option maxRecDepth 16384

noncomputable section

namespace Cert.DpooledIdeal.Run

open Cert.DpooledIdeal Cert.DpooledIdeal.Gen Cert.Grouped
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of a product: row `y 0` of `X` by row `y 1` of `W`. -/
def prodB (X : FVec Ideal S1024x512 .bf16) (W : FVec Ideal S1x512x512 .bf16) (y : S1024x512.Idx) : EReal :=
  ∑ k : Fin 512, X (ix2 (y 0) k) * W (ix3 0 (y 1) k)

theorem pay1_apply (P0 : FVec Ideal S512x512 .bf16) (P1 : FVec Ideal S1x512x512 .bf16) (r : Fin 512) (c : Fin 512) :
    k0_pay1 (F := Ideal) P0 P1 (ix2 r c) = ∑ k : Fin 512, P0 (ix2 r k) * P1 (ix3 0 c k) := by
  unfold k0_pay1
  refine (Ideal.matmul_transposedRhs_apply none (shapeCast S512x512 P0 shapeCasts_S512x512_S512x512)
    (shapeCast S512x512 P1 shapeCasts_S1x512x512_S512x512) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x512x512_S512x512 c k)

theorem ld1 (W : FVec Ideal S1x512x512 .bf16) : View.ld (Val := Elt Ideal) (e' := .bf16) W r0_1 = W :=
  View.ld_unit_lit (Val := Elt Ideal) (S := S1x512x512) (e := .bf16) (off := ![0, 0, 0]) _ W (by decide)

/-- A chunk of 512 rows of the block product is the rows of the product from the chunk's first. -/
theorem chunk (X : FVec Ideal S1024x512 .bf16) (W : FVec Ideal S1x512x512 .bf16) (o : ℕ)
    (hx : ∀ a, (![o, 0] : Fin 2 → ℕ) a + S512x512.size a ≤ S1024x512.size a) (hy : ∀ a, (![o, 0] : Fin 2 → ℕ) a + S512x512.size a ≤ S1024x512.size a)
    (x : S512x512.Idx) :
    k0_pay1 (F := Ideal) (View.ld (Val := Elt Ideal) (e' := .bf16) X (Rect.unit (s := S1024x512) ![o, 0] S512x512.size hx))
        (View.ld (Val := Elt Ideal) (e' := .bf16) W r0_1) x
      = prodB X W ((Rect.unit (s := S1024x512) ![o, 0] S512x512.size hy).emb x) := by
  obtain ⟨r, c, rfl⟩ : ∃ (r : Fin 512) (c : Fin 512), x = ix2 r c := ⟨x 0, x 1, eq_ix2 x⟩
  rw [ld1]
  refine (pay1_apply _ W r c).trans (Finset.sum_congr rfl fun k _ => ?_)
  refine congrArg₂ (fun x y : EReal => x * y) (congrArg X (funext fun a => Fin.ext ((Rect.idx_unit_val (s := S1024x512) ![o, 0] S512x512.size hx (ix2 r k) a).trans ?_))) (congrArg W ?_)
  · match a with
    | ⟨0, _⟩ => exact (Rect.idx_unit_val (s := S1024x512) ![o, 0] S512x512.size hy (ix2 r c) 0).symm
    | ⟨1, _⟩ => exact Nat.zero_add _
  · refine congrArg (fun j : Fin 512 => ix3 0 j k) (Fin.ext ?_)
    exact ((Rect.idx_unit_val (s := S1024x512) ![o, 0] S512x512.size hy (ix2 r c) 1).trans (Nat.zero_add _)).symm

/-- What a point leaves in its result block, at one place. -/
theorem canon (X : FVec Ideal S1024x512 .bf16) (W : FVec Ideal S1x512x512 .bf16) (y : S1024x512.Idx) :
    out0_2 (F := Ideal) X W y = prodB X W y := by
  unfold out0_2
  refine View.canon_apply_of_pieces (Val := Elt Ideal) (S := S1024x512) (e := .f32) (fun y => prodB X W y) _ ?_ y (cover0_2 _ _ y)
  exact List.forall_mem_cons.mpr ⟨fun x => chunk X W 512 inb_S1024x512_S512x512_512_0 inb_S1024x512_S512x512_512_0 x,
    List.forall_mem_cons.mpr ⟨fun x => chunk X W 0 inb_S1024x512_S512x512_0_0 inb_S1024x512_S512x512_0_0 x, fun p hp => nomatch hp⟩⟩

/-! ## The arguments -/

variable (m : (ℓ : Loc nD τ sig) → Buf (Elt Ideal) ℓ) (c : Dev nD)

abbrev arg1 : FVec Ideal S4x512x512 .f32 := m ((c.tc : Thread nD τ).loc main_arg1)
abbrev arg2 : FVec Ideal S8192x2048 .f32 := m ((c.tc : Thread nD τ).loc main_arg2)

theorem V_v0 : V m c main_v0 = (truncf .bf16 (arg2 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v1 : V m c main_v1 = (truncf .bf16 (arg1 m c) bitsLt_bf16_f32 : FVec Ideal S4x512x512 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 8 ∧ (cfg0.win 0).index t 1 = t.val / 8 :=
  (by decide +kernel : ∀ t : Fin grid0.N, (cfg0.win 0).index t 0 = t.val % 8 ∧ (cfg0.win 0).index t 1 = t.val / 8)
theorem where1 : ∀ t : Fin cfg0.N, (cfg0.win 1).index t 0 = t.val / 8 ∧ (cfg0.win 1).index t 1 = 0 ∧ (cfg0.win 1).index t 2 = 0 :=
  (by decide +kernel : ∀ t : Fin grid0.N, (cfg0.win 1).index t 0 = t.val / 8 ∧ (cfg0.win 1).index t 1 = 0 ∧ (cfg0.win 1).index t 2 = 0)
theorem where2 : ∀ t : Fin cfg0.N, (cfg0.win 2).index t 0 = t.val % 8 ∧ (cfg0.win 2).index t 1 = t.val / 8 :=
  (by decide +kernel : ∀ t : Fin grid0.N, (cfg0.win 2).index t 0 = t.val % 8 ∧ (cfg0.win 2).index t 1 = t.val / 8)

/-- A point's group, and the row and the place in the result array of a place in a block. -/
def side (t : Fin cfg0.N) : Fin 4 := ⟨t.val / 8, by have : t.val < 32 := t.isLt.trans_eq N_0; omega⟩
def row (t : Fin cfg0.N) (r : Fin 1024) : Fin 8192 := ⟨t.val % 8 * 1024 + r.val, by omega⟩
def at' (t : Fin cfg0.N) (r : Fin 1024) (q : Fin 512) : S8192x2048.Idx := ix2 (row t r) (lane (side t) q)

theorem blk_g (t : Fin cfg0.N) (r : Fin 1024) (k : Fin 512) :
    (iblk m c 0 t : FVec Ideal S1024x512 .bf16) (ix2 r k) = arg2 m c (at' t r k) := by
  obtain ⟨w0, w1⟩ := where0 t
  refine (congrFun (V_v0 m c) (((cfg0.win 0).rect t).emb (ix2 r k))).trans (congrArg (arg2 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; rfl))

theorem blk_w (t : Fin cfg0.N) (q : Fin 512) (k : Fin 512) :
    (iblk m c 1 t : FVec Ideal S1x512x512 .bf16) (ix3 0 q k) = arg1 m c (ix3 (side t) q k) := by
  obtain ⟨w0, w1, w2⟩ := where1 t
  refine (congrFun (V_v1 m c) (((cfg0.win 1).rect t).emb (ix3 0 q k))).trans (congrArg (arg1 m c) ?_)
  funext a
  match a with
  | ⟨0, _⟩ => exact Fin.ext ((Pipeline.Window.rect_emb_val (cfg0.win 1) t (ix3 0 q k) 0).trans (by rw [w0]; show t.val / 8 * 1 + 0 = t.val / 8; omega))
  | ⟨1, _⟩ => exact Fin.ext ((Pipeline.Window.rect_emb_val (cfg0.win 1) t (ix3 0 q k) 1).trans (by rw [w1]; show 0 * 512 + q.val = q.val; omega))
  | ⟨2, _⟩ => exact Fin.ext ((Pipeline.Window.rect_emb_val (cfg0.win 1) t (ix3 0 q k) 2).trans (by rw [w2]; show 0 * 512 + k.val = k.val; omega))

/-! ## The array -/

/-- The result as a whole array: each group of the incoming gradient by the group's transposed weights. -/
def xArr : FVec Ideal S8192x2048 .f32 := fun i => back (arg2 m c) (arg1 m c) (i 0) (grp (i 1)) (place (i 1))

theorem grp_lane (g : Fin 4) (k : Fin 512) : grp (lane g k) = g := Fin.ext (by show (g.val * 512 + k.val) / 512 = g.val; omega)
theorem place_lane (g : Fin 4) (k : Fin 512) : place (lane g k) = k := Fin.ext (by show (g.val * 512 + k.val) % 512 = k.val; omega)

theorem x_point (t : Fin cfg0.N) (r : Fin 1024) (q : Fin 512) :
    out0_2 (F := Ideal) (iblk m c 0 t) (iblk m c 1 t) (ix2 r q) = xArr m c (at' t r q) := by
  refine (canon _ _ _).trans ?_
  show prodB _ _ _ = back _ _ (row t r) (grp (lane (side t) q)) (place (lane (side t) q))
  rw [grp_lane, place_lane]
  exact Finset.sum_congr rfl fun k _ => congrArg₂ (fun x y : EReal => x * y) (blk_g m c t r k) (blk_w m c t q k)

/-- The point whose block holds a place, and where in the block. -/
theorem exists_at (i : S8192x2048.Idx) : ∃ (t : Fin cfg0.N) (r : Fin 1024) (q : Fin 512), at' t r q = i := by
  have h0 := idx2_lt0 (n0 := 8192) (n1 := 2048) i
  have h1 := idx2_lt1 (n0 := 8192) (n1 := 2048) i
  refine ⟨⟨8 * ((i 1).val / 512) + (i 0).val / 1024, by show _ < grid0.N; rw [N_0]; omega⟩, ⟨(i 0).val % 1024, by omega⟩, ⟨(i 1).val % 512, by omega⟩, ?_⟩
  funext a
  match a with
  | ⟨0, _⟩ => exact Fin.ext (by show (8 * ((i 1).val / 512) + (i 0).val / 1024) % 8 * 1024 + (i 0).val % 1024 = (i 0).val; omega)
  | ⟨1, _⟩ => exact Fin.ext (by show (8 * ((i 1).val / 512) + (i 0).val / 1024) / 8 * 512 + (i 1).val % 512 = (i 1).val; omega)

theorem emb2 (t : Fin cfg0.N) (r : Fin 1024) (q : Fin 512) : ((cfg0.win 2).rect t).emb (ix2 r q) = at' t r q := by
  obtain ⟨w0, w1⟩ := where2 t
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))

theorem x_array : (dats (F := Ideal) m 0 c).arrAt 2 cfg0.N = xArr m c := by
  refine Pipeline.Dat.arrAt_eq_of_cover (dats m 0 c) 2 (xArr m c) (fun t ht => ?_) fun i => ?_
  · rw [Value.flushed2]
    funext y
    obtain ⟨r, q, rfl⟩ : ∃ (r : Fin 1024) (q : Fin 512), y = ix2 r q := ⟨y 0, y 1, eq_ix2 y⟩
    exact (x_point m c t r q).trans (congrArg (xArr m c) (emb2 t r q)).symm
  · obtain ⟨t, r, q, h⟩ := exists_at i
    exact ⟨t, flush0_2 t, Finset.mem_map.mpr ⟨ix2 r q, Finset.mem_univ _, (emb2 t r q).trans h⟩⟩

end Cert.DpooledIdeal.Run

end
-- ==== Proof.DwpoolValue.lean ====
/-
  The gradient of the pooling weights, block by block: each block of the launch is visited four times, once for each quarter of the
  rows, and the four visits' products are added in turn.
-/
module

public import proofs.«01_k».proof.Proof.Crossed
public import proofs.«01_k».proof.Proof.Gen.DwpoolIdeal.Value
public import proofs.«01_k».proof.Proof.Gen.DwpoolIdeal.Frame
public import Idealize.ShloMosaic.Lib.Pipeline.ValueKit.Acc

@[expose] public section

set_option maxRecDepth 16384

noncomputable section

namespace Cert.DwpoolIdeal.Run

open Cert.DwpoolIdeal Cert.DwpoolIdeal.Gen Cert.Crossed
open Idealize.ShloMosaic hiding ix2 eq_ix2 ix5 eq_ix5
open Idealize.ShloMosaic.ValueIdx Idealize.ShloMosaic.TcCoe Idealize.ShloMosaic.StableHlo
open Idealize.SL.Sem

/-! ## A block -/

/-- The block of the product the kernel makes at a point. -/
theorem pay1_apply (X : FVec Ideal S2048x128 .bf16) (G : FVec Ideal S2048x512 .bf16) (r : Fin 128) (q : Fin 512) :
    k0_pay1 (F := Ideal) X G (ix2 r q) = ∑ k : Fin 2048, X (ix2 k r) * G (ix2 k q) := by
  unfold k0_pay1
  rw [shapeCast_self, shapeCast_self]
  exact matmul_apply _ X G r q

theorem pay2_eq (X : FVec Ideal S2048x128 .bf16) (G : FVec Ideal S2048x512 .bf16) : k0_pay2 (F := Ideal) X G = k0_pay1 (F := Ideal) X G := by
  unfold k0_pay2; rw [shapeCast_self]

theorem pay3_apply (X : FVec Ideal S2048x128 .bf16) (G : FVec Ideal S2048x512 .bf16) (Z : FVec Ideal S128x512 .f32) (y : S128x512.Idx) :
    k0_pay3 (F := Ideal) X G Z y = Z y + k0_pay1 (F := Ideal) X G y := by
  unfold k0_pay3; rw [shapeCast_self]; rfl

theorem pay4_apply (Z : FVec Ideal S128x512 .f32) (u v w : Fin 1) (r : Fin 128) (q : Fin 512) :
    k0_pay4 (F := Ideal) Z (ix5 u v w r q) = Z (ix2 r q) := by
  unfold k0_pay4
  refine shapeCast_apply Z _ _ _ ?_
  rw [Shape.rowMajor_val_five, Shape.rowMajor_val_two]
  show r.val * 512 + q.val = (((u.val * 1 + v.val) * 1 + w.val) * 128 + r.val) * 512 + q.val
  omega

variable (m : (ℓ : Loc nD τ sig) → Buf (Elt Ideal) ℓ) (c : Dev nD)

/-- The product of a point's blocks. -/
def part (t : Fin cfg0.N) : FVec Ideal S128x512 .f32 := k0_pay1 (F := Ideal) (iblk m c 0 t) (iblk m c 1 t)

/-- The point before. -/
abbrev prev (t : Fin cfg0.N) : Fin cfg0.N := ⟨t.val - 1, Nat.lt_of_le_of_lt (Nat.sub_le _ _) t.isLt⟩

theorem first (t : Fin cfg0.N) (h : t.val % 4 = 0) : (outsAt0 m c t.val t.isLt).2 = part m c t := by
  rw [outsAt0_A m c t h (by omega) (by omega)]
  frame_out
  exact pay2_eq _ _

theorem next (t : Fin cfg0.N) (h : 1 ≤ t.val % 4) (h' : ¬ t.val % 4 = 3) (y : S128x512.Idx) :
    (outsAt0 m c t.val t.isLt).2 y = (outsAt0 m c (prev t).val (prev t).isLt).2 y + part m c t y := by
  rw [outsAt0_B m c t (by omega) h h']
  frame_out
  exact (pay3_apply _ _ _ y).trans (congrArg (· + part m c t y) (congrFun (Memref.IsWhole.read_unread (Val := Elt Ideal) (Memref.isWhole_whole cc0_scratch0) _) y))

theorem last (t : Fin cfg0.N) (h : t.val % 4 = 3) (u v w : Fin 1) (r : Fin 128) (q : Fin 512) :
    (outsAt0 m c t.val t.isLt).1 (ix5 u v w r q) = (outsAt0 m c (prev t).val (prev t).isLt).2 (ix2 r q) + part m c t (ix2 r q) := by
  rw [outsAt0_C m c t (by omega) (by omega) h]
  frame_out
  refine (pay4_apply _ u v w r q).trans ?_
  exact (pay3_apply _ _ _ (ix2 r q)).trans (congrArg (· + part m c t (ix2 r q)) (congrFun (Memref.IsWhole.read_unread (Val := Elt Ideal) (Memref.isWhole_whole cc0_scratch0) _) (ix2 r q)))

/-! ## The arguments -/

abbrev arg0 : FVec Ideal S8192x2048 .f32 := m ((c.tc : Thread nD τ).loc main_arg0)
abbrev arg1 : FVec Ideal S8192x2048 .f32 := m ((c.tc : Thread nD τ).loc main_arg1)

theorem V_v0 : V m c main_v0 = (truncf .bf16 (arg0 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v1 : V m c main_v1 = (truncf .bf16 (arg1 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 4 ∧ (cfg0.win 0).index t 1 = t.val / 4 :=
  (by decide +kernel : ∀ t : Fin grid0.N, (cfg0.win 0).index t 0 = t.val % 4 ∧ (cfg0.win 0).index t 1 = t.val / 4)
theorem where1 : ∀ t : Fin cfg0.N, (cfg0.win 1).index t 0 = t.val % 4 ∧ (cfg0.win 1).index t 1 = t.val / 16 :=
  (by decide +kernel : ∀ t : Fin grid0.N, (cfg0.win 1).index t 0 = t.val % 4 ∧ (cfg0.win 1).index t 1 = t.val / 16)
theorem where2 : ∀ t : Fin cfg0.N, (cfg0.win 2).index t 0 = t.val / 4 % 4 ∧ (cfg0.win 2).index t 1 = t.val / 32 ∧ (cfg0.win 2).index t 2 = t.val / 16 % 2
    ∧ (cfg0.win 2).index t 3 = 0 ∧ (cfg0.win 2).index t 4 = 0 :=
  (by decide +kernel : ∀ t : Fin grid0.N, (cfg0.win 2).index t 0 = t.val / 4 % 4 ∧ (cfg0.win 2).index t 1 = t.val / 32 ∧ (cfg0.win 2).index t 2 = t.val / 16 % 2
    ∧ (cfg0.win 2).index t 3 = 0 ∧ (cfg0.win 2).index t 4 = 0)

/-- The quarter of the rows a point sums over, and the input's and the gradient's feature of a place in a block. -/
def side (t : Fin cfg0.N) : Fin 4 := ⟨t.val % 4, by omega⟩
def row (t : Fin cfg0.N) (r : Fin 128) : Fin 2048 := ⟨t.val / 4 * 128 + r.val, by have : t.val < 64 := t.isLt.trans_eq N_0; omega⟩
def col (t : Fin cfg0.N) (q : Fin 512) : Fin 2048 := ⟨t.val / 16 * 512 + q.val, by have : t.val < 64 := t.isLt.trans_eq N_0; omega⟩

theorem blk_h (t : Fin cfg0.N) (k : Fin 2048) (r : Fin 128) :
    (iblk m c 0 t : FVec Ideal S2048x128 .bf16) (ix2 k r) = arg0 m c (ix2 (tick (side t) k) (row t r)) := by
  obtain ⟨w0, w1⟩ := where0 t
  refine (congrFun (V_v0 m c) (((cfg0.win 0).rect t).emb (ix2 k r))).trans (congrArg (arg0 m c) ?_)
  funext a
  match a with
  | ⟨0, _⟩ => exact Fin.ext ((Pipeline.Window.rect_emb_val (cfg0.win 0) t (ix2 k r) 0).trans (by rw [w0]; rfl))
  | ⟨1, _⟩ => exact Fin.ext ((Pipeline.Window.rect_emb_val (cfg0.win 0) t (ix2 k r) 1).trans (by rw [w1]; rfl))

theorem blk_g (t : Fin cfg0.N) (k : Fin 2048) (q : Fin 512) :
    (iblk m c 1 t : FVec Ideal S2048x512 .bf16) (ix2 k q) = arg1 m c (ix2 (tick (side t) k) (col t q)) := by
  obtain ⟨w0, w1⟩ := where1 t
  refine (congrFun (V_v1 m c) (((cfg0.win 1).rect t).emb (ix2 k q))).trans (congrArg (arg1 m c) ?_)
  funext a
  match a with
  | ⟨0, _⟩ => exact Fin.ext ((Pipeline.Window.rect_emb_val (cfg0.win 1) t (ix2 k q) 0).trans (by rw [w0]; rfl))
  | ⟨1, _⟩ => exact Fin.ext ((Pipeline.Window.rect_emb_val (cfg0.win 1) t (ix2 k q) 1).trans (by rw [w1]; rfl))

/-! ## The array -/

/-- What one quarter of the rows gives of the gradient of a feature of the input and a feature of the result. -/
def quarter (e : Fin 4) (i : Fin 2048) (j : Fin 2048) : EReal :=
  ∑ k : Fin 2048, arg0 m c (ix2 (tick e k) i) * arg1 m c (ix2 (tick e k) j)

theorem part_quarter (t : Fin cfg0.N) (r : Fin 128) (q : Fin 512) : part m c t (ix2 r q) = quarter m c (side t) (row t r) (col t q) :=
  (pay1_apply _ _ r q).trans (Finset.sum_congr rfl fun k _ => congrArg₂ (fun x y : EReal => x * y) (blk_h m c t k r) (blk_g m c t k q))

/-- The gradient of a feature of the input and a feature of the result. -/
def grad (i : Fin 2048) (j : Fin 2048) : EReal := ∑ k : Fin 8192, arg0 m c (ix2 k i) * arg1 m c (ix2 k j)

/-- A quarter of an earlier visit to the same block. -/
theorem part_before (t s : Fin cfg0.N) (e : Fin 4) (hs : s.val / 4 = t.val / 4) (he : s.val % 4 = e.val) (r : Fin 128) (q : Fin 512) :
    part m c s (ix2 r q) = quarter m c e (row t r) (col t q) := by
  rw [part_quarter]
  have e1 : side s = e := Fin.ext he
  have e2 : row s r = row t r := Fin.ext (by show s.val / 4 * 128 + r.val = t.val / 4 * 128 + r.val; omega)
  have e3 : col s q = col t q := Fin.ext (by show s.val / 16 * 512 + q.val = t.val / 16 * 512 + q.val; omega)
  rw [e1, e2, e3]

theorem point (t : Fin cfg0.N) (h : t.val % 4 = 3) (u v w : Fin 1) (r : Fin 128) (q : Fin 512) :
    (outsAt0 m c t.val t.isLt).1 (ix5 u v w r q) = grad m c (row t r) (col t q) := by
  rw [last m c t h, next m c (prev t) (by show 1 ≤ (t.val - 1) % 4; omega) (by show ¬ (t.val - 1) % 4 = 3; omega),
    next m c (prev (prev t)) (by show 1 ≤ (t.val - 1 - 1) % 4; omega) (by show ¬ (t.val - 1 - 1) % 4 = 3; omega),
    first m c (prev (prev (prev t))) (by show (t.val - 1 - 1 - 1) % 4 = 0; omega),
    part_before m c t t 3 rfl h, part_before m c t (prev t) 2 (by show (t.val - 1) / 4 = t.val / 4; omega) (by show (t.val - 1) % 4 = 2; omega),
    part_before m c t (prev (prev t)) 1 (by show (t.val - 1 - 1) / 4 = t.val / 4; omega) (by show (t.val - 1 - 1) % 4 = 1; omega),
    part_before m c t (prev (prev (prev t))) 0 (by show (t.val - 1 - 1 - 1) / 4 = t.val / 4; omega) (by show (t.val - 1 - 1 - 1) % 4 = 0; omega)]
  exact (sum_quarters fun k => arg0 m c (ix2 k (row t r)) * arg1 m c (ix2 k (col t q))).symm

/-- The result as a whole array: by the device that keeps the rows, the two parts of the group's number, the row and the column. -/
def dwArr : FVec Ideal S4x2x2x128x512 .f32 := fun i =>
  grad m c ⟨((i 1).val * 2 + (i 2).val) * 512 + (i 0).val * 128 + (i 3).val, by
      have h0 : (i 0).val < 4 := (i 0).isLt
      have h1 : (i 1).val < 2 := (i 1).isLt
      have h2 : (i 2).val < 2 := (i 2).isLt
      have h3 : (i 3).val < 128 := (i 3).isLt
      omega⟩
    ⟨((i 1).val * 2 + (i 2).val) * 512 + (i 4).val, by
      have h1 : (i 1).val < 2 := (i 1).isLt
      have h2 : (i 2).val < 2 := (i 2).isLt
      have h4 : (i 4).val < 512 := (i 4).isLt
      omega⟩

/-- The place in the result array of a place in a block. -/
def at' (t : Fin cfg0.N) (r : Fin 128) (q : Fin 512) : S4x2x2x128x512.Idx :=
  ix5 (⟨t.val / 4 % 4, by omega⟩ : Fin 4) (⟨t.val / 32, by have : t.val < 64 := t.isLt.trans_eq N_0; omega⟩ : Fin 2) (⟨t.val / 16 % 2, by omega⟩ : Fin 2) r q

theorem arr_at (t : Fin cfg0.N) (r : Fin 128) (q : Fin 512) : dwArr m c (at' t r q) = grad m c (row t r) (col t q) :=
  congrArg₂ (grad m c)
    (Fin.ext (by show (t.val / 32 * 2 + t.val / 16 % 2) * 512 + t.val / 4 % 4 * 128 + r.val = t.val / 4 * 128 + r.val; omega))
    (Fin.ext (by show (t.val / 32 * 2 + t.val / 16 % 2) * 512 + q.val = t.val / 16 * 512 + q.val; omega))

theorem emb2 (t : Fin cfg0.N) (u v w : Fin 1) (r : Fin 128) (q : Fin 512) : ((cfg0.win 2).rect t).emb (ix5 u v w r q) = at' t r q := by
  obtain ⟨w0, w1, w2, w3, w4⟩ := where2 t
  have hu : u.val = 0 := by omega
  have hv : v.val = 0 := by omega
  have hw : w.val = 0 := by omega
  funext a
  match a with
  | ⟨0, _⟩ => exact Fin.ext ((Pipeline.Window.rect_emb_val (cfg0.win 2) t (ix5 u v w r q) 0).trans (by rw [w0]; show t.val / 4 % 4 * 1 + u.val = t.val / 4 % 4; omega))
  | ⟨1, _⟩ => exact Fin.ext ((Pipeline.Window.rect_emb_val (cfg0.win 2) t (ix5 u v w r q) 1).trans (by rw [w1]; show t.val / 32 * 1 + v.val = t.val / 32; omega))
  | ⟨2, _⟩ => exact Fin.ext ((Pipeline.Window.rect_emb_val (cfg0.win 2) t (ix5 u v w r q) 2).trans (by rw [w2]; show t.val / 16 % 2 * 1 + w.val = t.val / 16 % 2; omega))
  | ⟨3, _⟩ => exact Fin.ext ((Pipeline.Window.rect_emb_val (cfg0.win 2) t (ix5 u v w r q) 3).trans (by rw [w3]; show 0 * 128 + r.val = r.val; omega))
  | ⟨4, _⟩ => exact Fin.ext ((Pipeline.Window.rect_emb_val (cfg0.win 2) t (ix5 u v w r q) 4).trans (by rw [w4]; show 0 * 512 + q.val = q.val; omega))

/-- The point that writes the block holding a place, and where in the block. -/
theorem exists_at (i : S4x2x2x128x512.Idx) : ∃ (t : Fin cfg0.N) (r : Fin 128) (q : Fin 512), t.val % 4 = 3 ∧ at' t r q = i := by
  have h0 : (i 0).val < 4 := (i 0).isLt
  have h1 : (i 1).val < 2 := (i 1).isLt
  have h2 : (i 2).val < 2 := (i 2).isLt
  refine ⟨⟨(i 1).val * 32 + (i 2).val * 16 + (i 0).val * 4 + 3, by show _ < grid0.N; rw [N_0]; omega⟩, i 3, i 4,
    by show ((i 1).val * 32 + (i 2).val * 16 + (i 0).val * 4 + 3) % 4 = 3; omega, ?_⟩
  funext a
  match a with
  | ⟨0, _⟩ => exact Fin.ext (by show ((i 1).val * 32 + (i 2).val * 16 + (i 0).val * 4 + 3) / 4 % 4 = (i 0).val; omega)
  | ⟨1, _⟩ => exact Fin.ext (by show ((i 1).val * 32 + (i 2).val * 16 + (i 0).val * 4 + 3) / 32 = (i 1).val; omega)
  | ⟨2, _⟩ => exact Fin.ext (by show ((i 1).val * 32 + (i 2).val * 16 + (i 0).val * 4 + 3) / 16 % 2 = (i 2).val; omega)
  | ⟨3, _⟩ => rfl
  | ⟨4, _⟩ => rfl

theorem dw_array : (dats (F := Ideal) m 0 c).arrAt 2 cfg0.N = dwArr m c := by
  refine Pipeline.Dat.arrAt_eq_of_cover (dats m 0 c) 2 (dwArr m c) (fun t ht => ?_) fun i => ?_
  · rw [Value.flushed2]
    funext y
    obtain ⟨u, v, w, r, q, rfl⟩ : ∃ (u v w : Fin 1) (r : Fin 128) (q : Fin 512), y = ix5 u v w r q := ⟨y 0, y 1, y 2, y 3, y 4, eq_ix5 y⟩
    exact (point m c t ((flush0_2 t).mp ht) u v w r q).trans ((arr_at m c t r q).symm.trans (congrArg (dwArr m c) (emb2 t u v w r q)).symm)
  · obtain ⟨t, r, q, ht, h⟩ := exists_at i
    exact ⟨t, (flush0_2 t).mpr ht, Finset.mem_map.mpr ⟨ix5 0 0 0 r q, Finset.mem_univ _, (emb2 t 0 0 0 r q).trans h⟩⟩

end Cert.DwpoolIdeal.Run

end
-- ==== Proof.Pooling.lean ====
/-
  The runs of the pooling layer's three calls and of their references.
-/
module

public import proofs.«01_k».proof.Proof.PoolValue
public import proofs.«01_k».proof.Proof.DpooledValue
public import proofs.«01_k».proof.Proof.DwpoolValue
public import proofs.«01_k».proof.Proof.Gen.Pool.Frame
public import proofs.«01_k».proof.Proof.Gen.Dpooled.Frame
public import proofs.«01_k».proof.Proof.Gen.Dwpool.Frame
public import proofs.«01_k».proof.Proof.Gen.PoolReferenceIdeal.Run
public import proofs.«01_k».proof.Proof.Gen.DpooledReferenceIdeal.Run
public import proofs.«01_k».proof.Proof.Gen.DwpoolReferenceIdeal.Run
public import proofs.«01_k».proof.Defs
public import Idealize.ShloMosaic.Lib.Quiescent

@[expose] public section

set_option maxRecDepth 16384

noncomputable section

namespace Cert.Proof

open Idealize.ShloMosaic hiding ix2 eq_ix2 ix3 eq_ix3 ix4 eq_ix4 ix5 eq_ix5
open Idealize.ShloMosaic.ValueIdx Idealize.ShloMosaic.TcCoe Idealize.SL.Sem
open Cert.Grouped

/-- Each reference reaches its end with its arguments unchanged and no counter left over. -/
theorem frame_pool_ri : Cert.quiescent_PoolReferenceIdeal := fun m ρ _ =>
  (θ_run Cert.PoolReferenceIdeal.defs _ _).mono
    (fun r h => ⟨fun c => (h c).2.2, sem_eq_zero_of_no_sems (by decide) r.2⟩)
    (Cert.PoolReferenceIdeal.Value.run (F := Ideal) m ρ)
theorem frame_dpooled_ri : Cert.quiescent_DpooledReferenceIdeal := fun m ρ _ =>
  (θ_run Cert.DpooledReferenceIdeal.defs _ _).mono
    (fun r h => ⟨fun c => (h c).2, sem_eq_zero_of_no_sems (by decide) r.2⟩)
    (Cert.DpooledReferenceIdeal.Value.run (F := Ideal) m ρ)
theorem frame_dwpool_ri : Cert.quiescent_DwpoolReferenceIdeal := fun m ρ _ =>
  (θ_run Cert.DwpoolReferenceIdeal.defs _ _).mono
    (fun r h => ⟨fun c => (h c).2, sem_eq_zero_of_no_sems (by decide) r.2⟩)
    (Cert.DwpoolReferenceIdeal.Value.run (F := Ideal) m ρ)

/-- The pooling layer: kernel and reference end with the same layer output and the same product. -/
theorem algebraic_pool : Cert.algebraic_PoolIdeal_PoolReferenceIdeal := by
  intro m ρ m' ρ' _ hargs
  refine ⟨Cert.PoolIdeal.Run.xArr m, Cert.PoolIdeal.Run.pArr m, ?_, ?_⟩
  · refine (θ_run Cert.PoolIdeal.defs _ _).mono (fun r h c => ?_) (Cert.PoolIdeal.Value.run_blocks (F := Ideal) m ρ)
    obtain ⟨h0, h1, h2⟩ := h c
    exact ⟨h0.trans (Cert.PoolIdeal.Run.x_array m c), h1.trans (Cert.PoolIdeal.Run.p_array m c), h2⟩
  · refine (θ_run Cert.PoolReferenceIdeal.defs _ _).mono (fun r h c => ?_) (Cert.PoolReferenceIdeal.Value.run (F := Ideal) m' ρ')
    obtain ⟨h0, h1, h2⟩ := h c
    obtain ⟨e0, e1, e2, e3⟩ := hargs c
    rw [e0, e1, e2, e3] at h0
    rw [e1, e2] at h1
    refine ⟨h0.trans (funext fun y => ?_), h1.trans (funext fun y => ?_), h2⟩
    · obtain ⟨i, j, rfl⟩ : ∃ (i : Fin 8192) (j : Fin 2048), y = ix2 i j := ⟨y 0, y 1, eq_ix2 y⟩
      refine congrArg₂ (fun p u : EReal => Cert.PoolIdeal.Run.arg0 m c (ix2 i j) + p * u)
        (fwd_apply _ (Cert.PoolIdeal.Run.arg1 m c) (Cert.PoolIdeal.Run.arg2 m c) _ _ _ i j)
        (broadcastInDim_apply _ _ _ (ix2 i j) (ix2 (0 : Fin 1) j) (fun x => ?_))
      match x with
      | ⟨0, _⟩ => rfl
      | ⟨1, _⟩ => rfl
    · obtain ⟨i, j, rfl⟩ : ∃ (i : Fin 8192) (j : Fin 2048), y = ix2 i j := ⟨y 0, y 1, eq_ix2 y⟩
      exact fwd_apply _ (Cert.PoolIdeal.Run.arg1 m c) (Cert.PoolIdeal.Run.arg2 m c) _ _ _ i j

/-- The pooled features' gradient: kernel and reference end with the same array. -/
theorem algebraic_dpooled : Cert.algebraic_DpooledIdeal_DpooledReferenceIdeal := by
  intro m ρ m' ρ' _ hargs
  refine ⟨Cert.DpooledIdeal.Run.xArr m, ?_, ?_⟩
  · refine (θ_run Cert.DpooledIdeal.defs _ _).mono (fun r h c => ?_) (Cert.DpooledIdeal.Value.run_blocks (F := Ideal) m ρ)
    obtain ⟨h0, h1⟩ := h c
    exact ⟨h0.trans (Cert.DpooledIdeal.Run.x_array m c), h1⟩
  · refine (θ_run Cert.DpooledReferenceIdeal.defs _ _).mono (fun r h c => ?_) (Cert.DpooledReferenceIdeal.Value.run (F := Ideal) m' ρ')
    obtain ⟨h0, h1⟩ := h c
    obtain ⟨e0, e1, e2⟩ := hargs c
    rw [e1, e2] at h0
    refine ⟨h0.trans (funext fun y => ?_), h1⟩
    obtain ⟨i, j, rfl⟩ : ∃ (i : Fin 8192) (j : Fin 2048), y = ix2 i j := ⟨y 0, y 1, eq_ix2 y⟩
    exact back_apply _ (Cert.DpooledIdeal.Run.arg2 m c) (Cert.DpooledIdeal.Run.arg1 m c) _ _ _ _ i j

/-- The pooling weights: kernel and reference end with the same gradient. -/
theorem algebraic_dwpool : Cert.algebraic_DwpoolIdeal_DwpoolReferenceIdeal := by
  intro m ρ m' ρ' _ hargs
  refine ⟨Cert.DwpoolIdeal.Run.dwArr m, ?_, ?_⟩
  · refine (θ_run Cert.DwpoolIdeal.defs _ _).mono (fun r h c => ?_) (Cert.DwpoolIdeal.Value.run_blocks (F := Ideal) m ρ)
    obtain ⟨h0, h1⟩ := h c
    exact ⟨h0.trans (Cert.DwpoolIdeal.Run.dw_array m c), h1⟩
  · refine (θ_run Cert.DwpoolReferenceIdeal.defs _ _).mono (fun r h c => ?_) (Cert.DwpoolReferenceIdeal.Value.run (F := Ideal) m' ρ')
    obtain ⟨h0, h1⟩ := h c
    obtain ⟨e0, e1⟩ := hargs c
    rw [e0, e1] at h0
    refine ⟨h0.trans (funext fun y => ?_), h1⟩
    obtain ⟨d, e, l, a, b, rfl⟩ : ∃ (d : Fin 4) (e : Fin 2) (l : Fin 2) (a : Fin 128) (b : Fin 512), y = ix5 d e l a b :=
      ⟨y 0, y 1, y 2, y 3, y 4, eq_ix5 y⟩
    exact weights_apply _ (Cert.DwpoolIdeal.Run.arg0 m c) (Cert.DwpoolIdeal.Run.arg1 m c) _ _ _ _ _ d e l a b
      ⟨(e.val * 2 + l.val) * 512 + d.val * 128 + a.val, by omega⟩ ⟨(e.val * 2 + l.val) * 512 + b.val, by omega⟩ rfl rfl

end Cert.Proof

end
-- ==== Proof.GateValue.lean ====
/-
  The gradients of the feed-forward layer's two gates, block by block: each block of the launch is a product of a block of the
  incoming gradient by a block of the output weights, times the factors of the gate at the same places.
-/
module

public import proofs.«01_k».proof.Proof.Dots
public import proofs.«01_k».proof.Proof.Gen.GateIdeal.Value
public import proofs.«01_k».proof.Proof.Gen.GateIdeal.Frame
public import Idealize.ShloMosaic.Lib.Pipeline.ArrRel
public import Idealize.ShloMosaic.Lib.ValueLayout

@[expose] public section

set_option maxRecDepth 16384

noncomputable section

namespace Cert.GateIdeal.Run

open Cert.GateIdeal Cert.GateIdeal.Gen Cert.Dots
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## The factors of the gate -/

/-- The logistic function. -/
def logi (a : EReal) : EReal := Ideal.div 1 (1 + Ideal.exp (-a))

/-- The gradient of the first gate as the kernel writes it: `a` and `b` are the two projections, `g` the gradient of their
    gated product. -/
def daOf (g a b : EReal) : EReal := g * b * (logi a * (1 + a * (1 - logi a)))
/-- The gradient of the second gate. -/
def dbOf (g a : EReal) : EReal := g * (a * logi a)

theorem logi_coe (a : ℝ) : logi a = ((1 / (1 + Real.exp (-a)) : ℝ) : EReal) := by
  have h : (1 : ℝ) + Real.exp (-a) ≠ 0 := by positivity
  unfold logi
  rw [← EReal.coe_neg, Ideal.exp_coe, ← EReal.coe_one, ← EReal.coe_add]
  exact (Ideal.div_coe h _).trans ((EReal.coe_mul _ _).symm.trans (by rw [one_mul]))

/-- The gradient of the first gate as the product rule gives it, for finite values. -/
theorem daOf_rule {g a b : EReal} (hg : Fin' g) (ha : Fin' a) (hb : Fin' b) :
    g * b * logi a + a * (g * b) * (logi a * (1 - logi a)) = daOf g a b := by
  obtain ⟨g, rfl⟩ := exists_coe hg
  obtain ⟨a, rfl⟩ := exists_coe ha
  obtain ⟨b, rfl⟩ := exists_coe hb
  unfold daOf
  rw [logi_coe, ← EReal.coe_one]
  simp only [← EReal.coe_mul, ← EReal.coe_add, ← EReal.coe_sub]
  refine congrArg (fun x : ℝ => (x : EReal)) ?_
  ring

theorem dbOf_rule (g a : EReal) : a * logi a * g = dbOf g a := mul_comm _ _

/-! ## A block -/

/-- The block product the kernel makes. -/
theorem pay1_apply (P0 : FVec Ideal S512x2048 .bf16) (P1 : FVec Ideal S1x1408x2048 .bf16) (r : Fin 512) (c : Fin 1408) :
    k0_pay1 (F := Ideal) P0 P1 (ix2 r c) = ∑ k : Fin 2048, P0 (ix2 r k) * P1 (ix3 0 c k) := by
  unfold k0_pay1
  refine (Ideal.matmul_transposedRhs_apply none (shapeCast S512x2048 P0 shapeCasts_S512x2048_S512x2048)
    (shapeCast S1408x2048 P1 shapeCasts_S1x1408x2048_S1408x2048) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x1408x2048_S1408x2048 c k)

variable (m : (ℓ : Loc nD τ sig) → Buf (Elt Ideal) ℓ) (c : Dev nD)

abbrev arg0 : FVec Ideal S8192x2048 .f32 := m ((c.tc : Thread nD τ).loc main_arg0)
abbrev arg1 : FVec Ideal S8192x2048 .f32 := m ((c.tc : Thread nD τ).loc main_arg1)
abbrev arg2 : FVec Ideal S2048x5632 .f32 := m ((c.tc : Thread nD τ).loc main_arg2)
abbrev arg3 : FVec Ideal S2048x5632 .f32 := m ((c.tc : Thread nD τ).loc main_arg3)
abbrev arg4 : FVec Ideal S5632x2048 .f32 := m ((c.tc : Thread nD τ).loc main_arg4)

/-- The two projections, and the gradient of the gated product. -/
def projA : FVec Ideal S8192x5632 .f32 := Host.dotGeneral dot_S8192x2048_S2048x5632_S8192x5632_1_0_0_1_n_n none (arg0 m c) (arg2 m c)
def projB : FVec Ideal S8192x5632 .f32 := Host.dotGeneral dot_S8192x2048_S2048x5632_S8192x5632_1_0_0_1_n_n none (arg0 m c) (arg3 m c)
def gradS : FVec Ideal S8192x5632 .f32 := Host.dotGeneral (DotDims.transposedRhs 8192 2048 5632) none (arg1 m c) (arg4 m c)

theorem V_v1 : V m c main_v1 = (truncf .bf16 (projA m c) bitsLt_bf16_f32 : FVec Ideal S8192x5632 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v3 : V m c main_v3 = (truncf .bf16 (projB m c) bitsLt_bf16_f32 : FVec Ideal S8192x5632 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v4 : V m c main_v4 = (truncf .bf16 (arg1 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v6 : V m c main_v6 = (broadcastInDim S1x5632x2048 ![1, 2] bcast_S5632x2048_S1x5632x2048_1_2 (truncf .bf16 (arg4 m c) bitsLt_bf16_f32) : FVec Ideal S1x5632x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 16 ∧ (cfg0.win 0).index t 1 = 0 :=
  (by decide +kernel : ∀ t : Fin grid0.N, (cfg0.win 0).index t 0 = t.val % 16 ∧ (cfg0.win 0).index t 1 = 0)
theorem where1 : ∀ t : Fin cfg0.N, (cfg0.win 1).index t 0 = 0 ∧ (cfg0.win 1).index t 1 = t.val / 16 ∧ (cfg0.win 1).index t 2 = 0 :=
  (by decide +kernel : ∀ t : Fin grid0.N, (cfg0.win 1).index t 0 = 0 ∧ (cfg0.win 1).index t 1 = t.val / 16 ∧ (cfg0.win 1).index t 2 = 0)
theorem where2 : ∀ t : Fin cfg0.N, (cfg0.win 2).index t 0 = t.val % 16 ∧ (cfg0.win 2).index t 1 = t.val / 16 :=
  (by decide +kernel : ∀ t : Fin grid0.N, (cfg0.win 2).index t 0 = t.val % 16 ∧ (cfg0.win 2).index t 1 = t.val / 16)
theorem where3 : ∀ t : Fin cfg0.N, (cfg0.win 3).index t 0 = t.val % 16 ∧ (cfg0.win 3).index t 1 = t.val / 16 :=
  (by decide +kernel : ∀ t : Fin grid0.N, (cfg0.win 3).index t 0 = t.val % 16 ∧ (cfg0.win 3).index t 1 = t.val / 16)
theorem where4 : ∀ t : Fin cfg0.N, (cfg0.win 4).index t 0 = t.val % 16 ∧ (cfg0.win 4).index t 1 = t.val / 16 :=
  (by decide +kernel : ∀ t : Fin grid0.N, (cfg0.win 4).index t 0 = t.val % 16 ∧ (cfg0.win 4).index t 1 = t.val / 16)
theorem where5 : ∀ t : Fin cfg0.N, (cfg0.win 5).index t 0 = t.val % 16 ∧ (cfg0.win 5).index t 1 = t.val / 16 :=
  (by decide +kernel : ∀ t : Fin grid0.N, (cfg0.win 5).index t 0 = t.val % 16 ∧ (cfg0.win 5).index t 1 = t.val / 16)

/-- The place in a result array of a place in a block. -/
def at' (t : Fin cfg0.N) (r : Fin 512) (q : Fin 1408) : S8192x5632.Idx :=
  ix2 ⟨t.val % 16 * 512 + r.val, by omega⟩ ⟨t.val / 16 * 1408 + q.val, by have : t.val < 64 := t.isLt.trans_eq N_0; omega⟩

theorem blk_dx (t : Fin cfg0.N) (r : Fin 512) (k : Fin 2048) :
    (iblk m c 0 t : FVec Ideal S512x2048 .bf16) (ix2 r k) = arg1 m c (ix2 ⟨t.val % 16 * 512 + r.val, by omega⟩ k) := by
  obtain ⟨w0, w1⟩ := where0 t
  refine (congrFun (V_v4 m c) (((cfg0.win 0).rect t).emb (ix2 r k))).trans (congrArg (arg1 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; show 0 * 2048 + k.val = k.val; omega))

theorem blk_wd (t : Fin cfg0.N) (q : Fin 1408) (k : Fin 2048) :
    (iblk m c 1 t : FVec Ideal S1x1408x2048 .bf16) (ix3 0 q k)
      = arg4 m c (ix2 ⟨t.val / 16 * 1408 + q.val, by have : t.val < 64 := t.isLt.trans_eq N_0; omega⟩ k) := by
  obtain ⟨w0, w1, w2⟩ := where1 t
  refine (congrFun (V_v6 m c) (((cfg0.win 1).rect t).emb (ix3 0 q k))).trans (congrArg (arg4 m c) ?_)
  funext a
  match a with
  | ⟨0, _⟩ => exact Fin.ext ((Pipeline.Window.rect_emb_val (cfg0.win 1) t (ix3 0 q k) 1).trans (by rw [w1]; rfl))
  | ⟨1, _⟩ => exact Fin.ext ((Pipeline.Window.rect_emb_val (cfg0.win 1) t (ix3 0 q k) 2).trans (by rw [w2]; show 0 * 2048 + k.val = k.val; omega))

theorem blk_a (t : Fin cfg0.N) (r : Fin 512) (q : Fin 1408) :
    (iblk m c 2 t : FVec Ideal S512x1408 .bf16) (ix2 r q) = projA m c (at' t r q) := by
  obtain ⟨w0, w1⟩ := where2 t
  refine (congrFun (V_v1 m c) (((cfg0.win 2).rect t).emb (ix2 r q))).trans (congrArg (projA m c) ?_)
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))

theorem blk_b (t : Fin cfg0.N) (r : Fin 512) (q : Fin 1408) :
    (iblk m c 3 t : FVec Ideal S512x1408 .bf16) (ix2 r q) = projB m c (at' t r q) := by
  obtain ⟨w0, w1⟩ := where3 t
  refine (congrFun (V_v3 m c) (((cfg0.win 3).rect t).emb (ix2 r q))).trans (congrArg (projB m c) ?_)
  funext a
  match a with
  | ⟨0, _⟩ => exact Fin.ext ((Pipeline.Window.rect_emb_val (cfg0.win 3) t (ix2 r q) 0).trans (by rw [w0]; rfl))
  | ⟨1, _⟩ => exact Fin.ext ((Pipeline.Window.rect_emb_val (cfg0.win 3) t (ix2 r q) 1).trans (by rw [w1]; rfl))

/-- The block product is the block of the product. -/
theorem prod_block (t : Fin cfg0.N) (r : Fin 512) (q : Fin 1408) :
    k0_pay1 (F := Ideal) (iblk m c 0 t : FVec Ideal S512x2048 .bf16) (iblk m c 1 t : FVec Ideal S1x1408x2048 .bf16) (ix2 r q) = gradS m c (at' t r q) := by
  refine (pay1_apply _ _ r q).trans (Eq.trans ?_ (host_transposed (arg1 m c) (arg4 m c) _ _).symm)
  exact Finset.sum_congr rfl fun k _ => by rw [blk_dx, blk_wd]

/-- The two results as whole arrays. -/
def daArr : FVec Ideal S8192x5632 .bf16 := fun i => daOf (gradS m c i) (projA m c i) (projB m c i)
def dbArr : FVec Ideal S8192x5632 .bf16 := fun i => dbOf (gradS m c i) (projA m c i)

theorem pay_logi (a : EReal) : Ideal.div (Ideal.ofBits .f32 0x3F800000#32) (Ideal.ofBits .f32 0x3F800000#32 + Ideal.exp (Ideal.ofBits .f32 0x00000000#32 - a)) = logi a := by
  rw [Ideal.ofBits_one_f32, show Ideal.ofBits .f32 0x00000000#32 = (0 : EReal) by simp, zero_sub]; rfl

/-- A load of a whole block reads the block. -/
theorem ld0 (X : FVec Ideal S512x2048 .bf16) : View.ld (Val := Elt Ideal) (e' := .bf16) X r0_0 = X := View.ld_unit_lit (Val := Elt Ideal) (S := S512x2048) (e := .bf16) (off := ![0, 0]) _ X (by decide)
theorem ld1 (X : FVec Ideal S1x1408x2048 .bf16) : View.ld (Val := Elt Ideal) (e' := .bf16) X r0_1 = X := View.ld_unit_lit (Val := Elt Ideal) (S := S1x1408x2048) (e := .bf16) (off := ![0, 0, 0]) _ X (by decide)
theorem ld2 (X : FVec Ideal S512x1408 .bf16) : View.ld (Val := Elt Ideal) (e' := .bf16) X r0_2 = X := View.ld_unit_lit (Val := Elt Ideal) (S := S512x1408) (e := .bf16) (off := ![0, 0]) _ X (by decide)

/-- A block stored whole is what was stored. -/
theorem canon2 (w : FVec Ideal S512x1408 .bf16) : View.canon (Val := Elt Ideal) (s := S512x1408) (e := .bf16) [⟨r0_2, w⟩] = w :=
  View.canon_cons_unit_lit (Val := Elt Ideal) (S := S512x1408) (e := .bf16) (off := ![0, 0]) _ w [] (by decide)

theorem pay2_eq (A : FVec Ideal S512x1408 .bf16) : k0_pay2 (F := Ideal) A = A := by
  unfold k0_pay2; rw [shapeCast_self]; rfl

theorem pay3_apply (A : FVec Ideal S512x1408 .bf16) (y : S512x1408.Idx) : k0_pay3 (F := Ideal) A y = logi (A y) := by
  unfold k0_pay3; rw [pay2_eq]; exact pay_logi (A y)

theorem pay4_apply (P0 : FVec Ideal S512x2048 .bf16) (P1 : FVec Ideal S1x1408x2048 .bf16) (A B : FVec Ideal S512x1408 .bf16) (y : S512x1408.Idx) :
    k0_pay4 (F := Ideal) P0 P1 A B y = daOf (k0_pay1 (F := Ideal) P0 P1 y) (A y) (B y) := by
  unfold k0_pay4; rw [shapeCast_self, pay2_eq]
  generalize k0_pay1 (F := Ideal) P0 P1 = G
  have h := pay3_apply A y
  generalize k0_pay3 (F := Ideal) A = L at h ⊢
  unfold daOf
  rw [← h, ← Ideal.ofBits_one_f32]
  rfl

theorem pay5_apply (P0 : FVec Ideal S512x2048 .bf16) (P1 : FVec Ideal S1x1408x2048 .bf16) (A : FVec Ideal S512x1408 .bf16) (y : S512x1408.Idx) :
    k0_pay5 (F := Ideal) P0 P1 A y = dbOf (k0_pay1 (F := Ideal) P0 P1 y) (A y) := by
  unfold k0_pay5; rw [pay2_eq]
  generalize k0_pay1 (F := Ideal) P0 P1 = G
  have h := pay3_apply A y
  generalize k0_pay3 (F := Ideal) A = L at h ⊢
  unfold dbOf
  rw [← h]
  rfl

/-- What a point leaves in its two result blocks, at one place. -/
theorem da_canon (P0 : FVec Ideal S512x2048 .bf16) (P1 : FVec Ideal S1x1408x2048 .bf16) (A B : FVec Ideal S512x1408 .bf16) (y : S512x1408.Idx) :
    out0_4 (F := Ideal) P0 P1 A B y = daOf (k0_pay1 (F := Ideal) P0 P1 y) (A y) (B y) := by
  unfold out0_4
  rw [ld0, ld1, ld2, ld2, canon2]
  exact pay4_apply P0 P1 A B y

theorem db_canon (P0 : FVec Ideal S512x2048 .bf16) (P1 : FVec Ideal S1x1408x2048 .bf16) (A B : FVec Ideal S512x1408 .bf16) (y : S512x1408.Idx) :
    out0_5 (F := Ideal) P0 P1 A B y = dbOf (k0_pay1 (F := Ideal) P0 P1 y) (A y) := by
  unfold out0_5
  rw [ld0, ld1, ld2, canon2]
  exact pay5_apply P0 P1 A y

theorem da_point (t : Fin cfg0.N) (r : Fin 512) (q : Fin 1408) :
    out0_4 (F := Ideal) (iblk m c 0 t) (iblk m c 1 t) (iblk m c 2 t) (iblk m c 3 t) (ix2 r q) = daArr m c (at' t r q) := by
  refine (da_canon (iblk m c 0 t) (iblk m c 1 t) (iblk m c 2 t) (iblk m c 3 t) (ix2 r q)).trans ?_
  rw [prod_block, blk_a, blk_b]
  rfl

theorem db_point (t : Fin cfg0.N) (r : Fin 512) (q : Fin 1408) :
    out0_5 (F := Ideal) (iblk m c 0 t) (iblk m c 1 t) (iblk m c 2 t) (iblk m c 3 t) (ix2 r q) = dbArr m c (at' t r q) := by
  refine (db_canon (iblk m c 0 t) (iblk m c 1 t) (iblk m c 2 t) (iblk m c 3 t) (ix2 r q)).trans ?_
  rw [prod_block, blk_a]
  rfl

/-! ## The arrays -/

/-- The point whose block holds a place, and where in the block. -/
theorem exists_at (i : S8192x5632.Idx) : ∃ (t : Fin cfg0.N) (r : Fin 512) (q : Fin 1408), at' t r q = i := by
  have h0 := idx2_lt0 (n0 := 8192) (n1 := 5632) i
  have h1 := idx2_lt1 (n0 := 8192) (n1 := 5632) i
  refine ⟨⟨16 * ((i 1).val / 1408) + (i 0).val / 512, by show _ < grid0.N; rw [N_0]; omega⟩, ⟨(i 0).val % 512, by omega⟩, ⟨(i 1).val % 1408, by omega⟩, ?_⟩
  funext a
  match a with
  | ⟨0, _⟩ => exact Fin.ext (by show (16 * ((i 1).val / 1408) + (i 0).val / 512) % 16 * 512 + (i 0).val % 512 = (i 0).val; omega)
  | ⟨1, _⟩ => exact Fin.ext (by show (16 * ((i 1).val / 1408) + (i 0).val / 512) / 16 * 1408 + (i 1).val % 1408 = (i 1).val; omega)

theorem emb4 (t : Fin cfg0.N) (r : Fin 512) (q : Fin 1408) : ((cfg0.win 4).rect t).emb (ix2 r q) = at' t r q := by
  obtain ⟨w0, w1⟩ := where4 t
  funext a
  match a with
  | ⟨0, _⟩ => exact Fin.ext ((Pipeline.Window.rect_emb_val (cfg0.win 4) t (ix2 r q) 0).trans (by rw [w0]; rfl))
  | ⟨1, _⟩ => exact Fin.ext ((Pipeline.Window.rect_emb_val (cfg0.win 4) t (ix2 r q) 1).trans (by rw [w1]; rfl))
theorem emb5 (t : Fin cfg0.N) (r : Fin 512) (q : Fin 1408) : ((cfg0.win 5).rect t).emb (ix2 r q) = at' t r q := by
  obtain ⟨w0, w1⟩ := where5 t
  funext a
  match a with
  | ⟨0, _⟩ => exact Fin.ext ((Pipeline.Window.rect_emb_val (cfg0.win 5) t (ix2 r q) 0).trans (by rw [w0]; rfl))
  | ⟨1, _⟩ => exact Fin.ext ((Pipeline.Window.rect_emb_val (cfg0.win 5) t (ix2 r q) 1).trans (by rw [w1]; rfl))

theorem da_array : (dats (F := Ideal) m 0 c).arrAt 4 cfg0.N = daArr m c := by
  refine Pipeline.Dat.arrAt_eq_of_cover (dats m 0 c) 4 (daArr m c) (fun t ht => ?_) fun i => ?_
  · rw [Value.flushed4]
    funext y
    obtain ⟨r, q, rfl⟩ : ∃ (r : Fin 512) (q : Fin 1408), y = ix2 r q := ⟨y 0, y 1, eq_ix2 y⟩
    exact (da_point m c t r q).trans (congrArg (daArr m c) (emb4 t r q)).symm
  · obtain ⟨t, r, q, h⟩ := exists_at i
    exact ⟨t, flush0_4 t, Finset.mem_map.mpr ⟨ix2 r q, Finset.mem_univ _, (emb4 t r q).trans h⟩⟩

theorem db_array : (dats (F := Ideal) m 0 c).arrAt 5 cfg0.N = dbArr m c := by
  refine Pipeline.Dat.arrAt_eq_of_cover (dats m 0 c) 5 (dbArr m c) (fun t ht => ?_) fun i => ?_
  · rw [Value.flushed5]
    funext y
    obtain ⟨r, q, rfl⟩ : ∃ (r : Fin 512) (q : Fin 1408), y = ix2 r q := ⟨y 0, y 1, eq_ix2 y⟩
    exact (db_point m c t r q).trans (congrArg (dbArr m c) (emb5 t r q)).symm
  · obtain ⟨t, r, q, h⟩ := exists_at i
    exact ⟨t, flush0_5 t, Finset.mem_map.mpr ⟨ix2 r q, Finset.mem_univ _, (emb5 t r q).trans h⟩⟩

end Cert.GateIdeal.Run

end
-- ==== Proof.Finite.lean ====
module
public import proofs.«01_k».proof.Proof.Cube
public import proofs.«01_k».proof.Proof.Gen.Pre_finite
@[expose] public section
set_option maxRecDepth 16384
/-!
The finite inputs. The claim of the values is made of arguments every element of which has an
absolute value below infinity. The precondition says so by a program of its own, which compares each
element and takes the conjunction of all the answers. Here that program's answer is taken apart: when
it is yes, no element is an infinity.
-/
noncomputable section
namespace Cert.Finite
open Idealize.ShloMosaic

/-- The conjunction of two bits is yes only when both are. -/
theorem ands : ∀ a b : BitVec 1, IntOp.andi a b = 1#1 → a = 1#1 ∧ b = 1#1 := by decide

/-- A conjunction of bits taken one after another is yes only when it began with yes and every bit
    was yes. -/
theorem fold_and {ι : Type} (f : ι → BitVec 1) (l : List ι) (b : BitVec 1)
    (h : l.foldl (fun r n => IntOp.andi r (f n)) b = 1#1) : b = 1#1 ∧ ∀ n ∈ l, f n = 1#1 := by
  induction l generalizing b with
  | nil => exact ⟨h, by simp⟩
  | cons a l ih =>
    obtain ⟨h₁, h₂⟩ := ih _ h
    have hs := ands _ _ h₁
    refine ⟨hs.1, fun n hn => ?_⟩
    rcases List.mem_cons.1 hn with rfl | hn
    · exact hs.2
    · exact h₂ n hn

/-- When the conjunction of a whole array is yes, so is every element that falls to that place. -/
theorem reduce_and {s t u : Shape} {axes : List (Fin s.rank)} (x : s.Idx → BitVec 1)
    (init : u.Idx → BitVec 1) (h : s.ReducesTo axes t) (hu : 0 < u.numel) (j : t.Idx)
    (e : Host.reduce IntOp.andi x init h hu j = 1#1) (i : s.Idx) (hi : h.drop i = j) : x i = 1#1 := by
  have h₁ := (fold_and (fun n => x (s.rowMajor.symm n)) _ _ e).2 (s.rowMajor i)
    (List.mem_filter.2 ⟨List.mem_finRange _, by simpa using hi⟩)
  simpa using h₁

/-- An element whose absolute value is below infinity is neither infinity. -/
theorem below (x : EReal) (h : Ideal.cmp .olt (max x (-x)) (Ideal.ofBits .f32 0x7F800000#32) = 1#1) :
    x ≠ ⊤ ∧ x ≠ ⊥ := by
  have ht : Ideal.ofBits .f32 0x7F800000#32 = ⊤ := by simp [Ideal.ofBits, Ideal.ieee]
  rw [ht] at h
  constructor
  · rintro rfl
    simp [Ideal.cmp] at h
  · rintro rfl
    simp [Ideal.cmp] at h

/-- When the precondition's program answers yes, every element of both arguments is finite. -/
theorem finite_of (x : FVec Ideal Cert.Pre_finite.S8192x7168 .f32)
    (y : FVec Ideal Cert.Pre_finite.S8192x2048 .f32)
    (h : Cert.Pre_finite.fn (F := Ideal) x y = fun _ => 1#1) :
    (∀ j, x j ≠ ⊤ ∧ x j ≠ ⊥) ∧ ∀ j, y j ≠ ⊤ ∧ y j ≠ ⊥ := by
  have h₀ := congrFun h (Shape.Idx.first (by decide))
  obtain ⟨hx, hy⟩ := ands _ _ h₀
  have one : ∀ i j : Cert.Pre_finite.S_.Idx, i = j := fun i j => funext fun a => a.elim0
  exact ⟨fun j => below _ (reduce_and _ _ _ _ _ hx j (one _ _)),
    fun j => below _ (reduce_and _ _ _ _ _ hy j (one _ _))⟩

end Cert.Finite
end
-- ==== Proof.GateEnds.lean ====
/-
  The runs of the gate's gradient and of its reference, from finite arguments.
-/
module

public import proofs.«01_k».proof.Proof.GateValue
public import proofs.«01_k».proof.Proof.Finite
public import proofs.«01_k».proof.Proof.Gen.Pre_finite_dact
public import proofs.«01_k».proof.Proof.Gen.GateReferenceIdeal.Run

@[expose] public section

set_option maxRecDepth 16384

noncomputable section

namespace Cert.GateEnds

open Cert.Dots Cert.Finite
open Idealize.ShloMosaic hiding ix2 eq_ix2 ix3 eq_ix3 ix4 eq_ix4
open Idealize.ShloMosaic.ValueIdx Idealize.ShloMosaic.TcCoe
open Idealize.SL.Sem

/-- When the precondition's program answers yes, every element of all five arguments is finite. -/
theorem finite_of (x0 x1 : FVec Ideal Cert.Pre_finite_dact.S8192x2048 .f32) (x2 x3 : FVec Ideal Cert.Pre_finite_dact.S2048x5632 .f32)
    (x4 : FVec Ideal Cert.Pre_finite_dact.S5632x2048 .f32) (h : Cert.Pre_finite_dact.fn (F := Ideal) x0 x1 x2 x3 x4 = fun _ => 1#1) :
    (∀ j, Fin' (x0 j)) ∧ (∀ j, Fin' (x1 j)) ∧ (∀ j, Fin' (x2 j)) ∧ (∀ j, Fin' (x3 j)) ∧ ∀ j, Fin' (x4 j) := by
  have h₀ := congrFun h (Shape.Idx.first (by decide))
  obtain ⟨h₁, h4⟩ := ands _ _ h₀
  obtain ⟨h₂, h3⟩ := ands _ _ h₁
  obtain ⟨h₃, h2⟩ := ands _ _ h₂
  obtain ⟨h0, h1⟩ := ands _ _ h₃
  have one : ∀ i j : Cert.Pre_finite_dact.S_.Idx, i = j := fun i j => funext fun a => a.elim0
  exact ⟨fun j => below _ (reduce_and _ _ _ _ _ h0 j (one _ _)), fun j => below _ (reduce_and _ _ _ _ _ h1 j (one _ _)),
    fun j => below _ (reduce_and _ _ _ _ _ h2 j (one _ _)), fun j => below _ (reduce_and _ _ _ _ _ h3 j (one _ _)),
    fun j => below _ (reduce_and _ _ _ _ _ h4 j (one _ _))⟩

end Cert.GateEnds

namespace Cert.GateReferenceIdeal.Real

open Cert.GateReferenceIdeal Cert.GateReferenceIdeal.Gen Cert.GateReferenceIdeal.Facts Cert.Dots Cert.GateEnds
open Cert.GateIdeal.Run (logi daOf dbOf daOf_rule dbOf_rule)
open Idealize.ShloMosaic hiding ix2 eq_ix2 ix3 eq_ix3 ix4 eq_ix4
open Idealize.ShloMosaic.ValueIdx Idealize.ShloMosaic.TcCoe

/-- The logistic function as the reference writes it, over a whole matrix. -/
def logis (A : FVec Ideal S8192x5632 .f32) : FVec Ideal S8192x5632 .f32 :=
  Host.divf (broadcastInDim S8192x5632 ![] bcast_S_S8192x5632 (constant S_ .f32 0x3F800000#32))
    (addf (broadcastInDim S8192x5632 ![] bcast_S_S8192x5632 (constant S_ .f32 0x3F800000#32)) (Host.exp (Host.negf A)))

theorem logis_apply (A : FVec Ideal S8192x5632 .f32) (i : S8192x5632.Idx) : logis A i = logi (A i) := by
  show Ideal.div (Ideal.ofBits .f32 0x3F800000#32) (Ideal.ofBits .f32 0x3F800000#32 + Ideal.exp (-(A i))) = _
  rw [Ideal.ofBits_one_f32]; rfl

/-- The first gate's gradient as the reference writes it. -/
theorem rule_a (G A B : FVec Ideal S8192x5632 .f32) (hG : ∀ i, Fin' (G i)) (hA : ∀ i, Fin' (A i)) (hB : ∀ i, Fin' (B i)) :
    truncf .bf16 (addf (mulf (mulf G B) (logis A)) (mulf (mulf A (mulf G B))
      (mulf (logis A) (subf (broadcastInDim S8192x5632 ![] bcast_S_S8192x5632 (constant S_ .f32 0x3F800000#32)) (logis A))))) bitsLt_bf16_f32
      = (fun i => daOf (G i) (A i) (B i) : FVec Ideal S8192x5632 .bf16) := by
  funext i
  show G i * B i * logis A i + A i * (G i * B i) * (logis A i * (Ideal.ofBits .f32 0x3F800000#32 - logis A i)) = _
  rw [logis_apply, Ideal.ofBits_one_f32]
  exact daOf_rule (hG i) (hA i) (hB i)

/-- The second gate's gradient as the reference writes it. -/
theorem rule_b (G A : FVec Ideal S8192x5632 .f32) :
    truncf .bf16 (mulf (mulf A (logis A)) G) bitsLt_bf16_f32 = (fun i => dbOf (G i) (A i) : FVec Ideal S8192x5632 .bf16) := by
  funext i
  show A i * logis A i * G i = _
  rw [logis_apply]
  exact dbOf_rule _ _

end Cert.GateReferenceIdeal.Real

end
-- ==== Proof.UpValue.lean ====
/-
  The feed-forward layer's two projections and their gated product, block by block: each block of the launch is two products of
  a block of rows by a block of columns, made in four chunks of rows, and the gate of the two at the same places.
-/
module

public import proofs.«01_k».proof.Proof.GateValue
public import proofs.«01_k».proof.Proof.Gen.UpIdeal.Value
public import proofs.«01_k».proof.Proof.Gen.UpIdeal.Frame
public import Idealize.ShloMosaic.Lib.StackMember
public import Idealize.ShloMosaic.Lib.Pipeline.ValueKit.Tiles

@[expose] public section

set_option maxRecDepth 16384

noncomputable section

namespace Cert.UpIdeal.Run

open Cert.UpIdeal Cert.UpIdeal.Gen Cert.Dots
open Cert.GateIdeal.Run (logi pay_logi)
open Idealize.ShloMosaic hiding ix2 eq_ix2 ix3 eq_ix3 ix4 eq_ix4
open Idealize.ShloMosaic.ValueIdx Idealize.ShloMosaic.TcCoe Idealize.ShloMosaic.StableHlo
open Idealize.SL.Sem

/-- The gated product of two projections. -/
def gated (a b : EReal) : EReal := a * logi a * b

/-! ## A block -/

/-- The block of a product: row `y 0` of `X` by column `y 1` of `W`. -/
def prodB (X : FVec Ideal S1024x2048 .bf16) (W : FVec Ideal S1x2048x512 .bf16) (y : S1024x512.Idx) : EReal :=
  ∑ k : Fin 2048, X (ix2 (y 0) k) * W (ix3 0 k (y 1))

theorem pay4_apply (P0 : FVec Ideal S256x2048 .bf16) (P1 : FVec Ideal S1x2048x512 .bf16) (r : Fin 256) (c : Fin 512) :
    k0_pay4 (F := Ideal) P0 P1 (ix2 r c) = ∑ k : Fin 2048, P0 (ix2 r k) * P1 (ix3 0 k c) := by
  unfold k0_pay4
  refine (Ideal.matmul_plain_apply none (shapeCast S256x2048 P0 shapeCasts_S256x2048_S256x2048)
    (shapeCast S2048x512 P1 shapeCasts_S1x2048x512_S2048x512) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x2048x512_S2048x512 k c)

theorem ld1 (W : FVec Ideal S1x2048x512 .bf16) : View.ld (Val := Elt Ideal) (e' := .bf16) W r0_1 = W :=
  View.ld_unit_lit (Val := Elt Ideal) (S := S1x2048x512) (e := .bf16) (off := ![0, 0, 0]) _ W (by decide)

/-- A chunk of 256 rows of the block product is the rows of the product from the chunk's first. -/
theorem chunk (X : FVec Ideal S1024x2048 .bf16) (W : FVec Ideal S1x2048x512 .bf16) (o : ℕ)
    (hx : ∀ a, (![o, 0] : Fin 2 → ℕ) a + S256x2048.size a ≤ S1024x2048.size a) (hy : ∀ a, (![o, 0] : Fin 2 → ℕ) a + S256x512.size a ≤ S1024x512.size a)
    (x : S256x512.Idx) :
    k0_pay4 (F := Ideal) (View.ld (Val := Elt Ideal) (e' := .bf16) X (Rect.unit (s := S1024x2048) ![o, 0] S256x2048.size hx))
        (View.ld (Val := Elt Ideal) (e' := .bf16) W r0_1) x
      = prodB X W ((Rect.unit (s := S1024x512) ![o, 0] S256x512.size hy).emb x) := by
  obtain ⟨r, c, rfl⟩ : ∃ (r : Fin 256) (c : Fin 512), x = ix2 r c := ⟨x 0, x 1, eq_ix2 x⟩
  rw [ld1]
  refine (pay4_apply _ W r c).trans (Finset.sum_congr rfl fun k _ => ?_)
  refine congrArg₂ (fun x y : EReal => x * y) (congrArg X (funext fun a => Fin.ext ((Rect.idx_unit_val (s := S1024x2048) ![o, 0] S256x2048.size hx (ix2 r k) a).trans ?_))) (congrArg W ?_)
  · match a with
    | ⟨0, _⟩ => exact (Rect.idx_unit_val (s := S1024x512) ![o, 0] S256x512.size hy (ix2 r c) 0).symm
    | ⟨1, _⟩ => exact Nat.zero_add _
  · refine congrArg (ix3 0 k) (Fin.ext ?_)
    exact ((Rect.idx_unit_val (s := S1024x512) ![o, 0] S256x512.size hy (ix2 r c) 1).trans (Nat.zero_add _)).symm

theorem pay14_apply (A B : FVec Ideal S256x512 .f32) (y : S256x512.Idx) : k0_pay14 (F := Ideal) A B y = gated (A y) (B y) := by
  show A y * Ideal.div (Ideal.ofBits .f32 0x3F800000#32) (Ideal.ofBits .f32 0x3F800000#32 + Ideal.exp (Ideal.ofBits .f32 0x00000000#32 - A y)) * B y = _
  rw [pay_logi]; rfl

/-- A chunk of the gated product. -/
theorem chunk_gated (X : FVec Ideal S1024x2048 .bf16) (W U : FVec Ideal S1x2048x512 .bf16) (o : ℕ)
    (hx : ∀ a, (![o, 0] : Fin 2 → ℕ) a + S256x2048.size a ≤ S1024x2048.size a) (hy : ∀ a, (![o, 0] : Fin 2 → ℕ) a + S256x512.size a ≤ S1024x512.size a)
    (x : S256x512.Idx) :
    k0_pay14 (F := Ideal) (k0_pay4 (F := Ideal) (View.ld (Val := Elt Ideal) (e' := .bf16) X (Rect.unit (s := S1024x2048) ![o, 0] S256x2048.size hx))
          (View.ld (Val := Elt Ideal) (e' := .bf16) W r0_1))
        (k0_pay4 (F := Ideal) (View.ld (Val := Elt Ideal) (e' := .bf16) X (Rect.unit (s := S1024x2048) ![o, 0] S256x2048.size hx))
          (View.ld (Val := Elt Ideal) (e' := .bf16) U r0_1)) x
      = gated (prodB X W ((Rect.unit (s := S1024x512) ![o, 0] S256x512.size hy).emb x)) (prodB X U ((Rect.unit (s := S1024x512) ![o, 0] S256x512.size hy).emb x)) := by
  rw [pay14_apply, chunk X W o hx hy x, chunk X U o hx hy x]

/-- What a point leaves in its three result blocks, at one place. -/
theorem a_canon (X : FVec Ideal S1024x2048 .bf16) (W U : FVec Ideal S1x2048x512 .bf16) (y : S1024x512.Idx) :
    out0_3 (F := Ideal) X W U y = prodB X W y := by
  unfold out0_3
  refine View.canon_apply_of_pieces (Val := Elt Ideal) (S := S1024x512) (e := .bf16) (fun y => prodB X W y) _ ?_ y (cover0_3 _ _ _ _ y)
  refine List.forall_mem_cons.mpr ⟨fun x => chunk X W 768 inb_S1024x2048_S256x2048_768_0 inb_S1024x512_S256x512_768_0 x, List.forall_mem_cons.mpr ⟨fun x => chunk X W 512 inb_S1024x2048_S256x2048_512_0 inb_S1024x512_S256x512_512_0 x,
    List.forall_mem_cons.mpr ⟨fun x => chunk X W 256 inb_S1024x2048_S256x2048_256_0 inb_S1024x512_S256x512_256_0 x, List.forall_mem_cons.mpr ⟨fun x => chunk X W 0 inb_S1024x2048_S256x2048_0_0 inb_S1024x512_S256x512_0_0 x, fun p hp => nomatch hp⟩⟩⟩⟩

theorem b_canon (X : FVec Ideal S1024x2048 .bf16) (W U : FVec Ideal S1x2048x512 .bf16) (y : S1024x512.Idx) :
    out0_4 (F := Ideal) X W U y = prodB X U y := by
  unfold out0_4
  refine View.canon_apply_of_pieces (Val := Elt Ideal) (S := S1024x512) (e := .bf16) (fun y => prodB X U y) _ ?_ y (cover0_4 _ _ _ _ y)
  refine List.forall_mem_cons.mpr ⟨fun x => chunk X U 768 inb_S1024x2048_S256x2048_768_0 inb_S1024x512_S256x512_768_0 x, List.forall_mem_cons.mpr ⟨fun x => chunk X U 512 inb_S1024x2048_S256x2048_512_0 inb_S1024x512_S256x512_512_0 x,
    List.forall_mem_cons.mpr ⟨fun x => chunk X U 256 inb_S1024x2048_S256x2048_256_0 inb_S1024x512_S256x512_256_0 x, List.forall_mem_cons.mpr ⟨fun x => chunk X U 0 inb_S1024x2048_S256x2048_0_0 inb_S1024x512_S256x512_0_0 x, fun p hp => nomatch hp⟩⟩⟩⟩

theorem s_canon (X : FVec Ideal S1024x2048 .bf16) (W U : FVec Ideal S1x2048x512 .bf16) (y : S1024x512.Idx) :
    out0_5 (F := Ideal) X W U y = gated (prodB X W y) (prodB X U y) := by
  unfold out0_5
  refine View.canon_apply_of_pieces (Val := Elt Ideal) (S := S1024x512) (e := .bf16) (fun y => gated (prodB X W y) (prodB X U y)) _ ?_ y (cover0_5 _ _ _ _ y)
  refine List.forall_mem_cons.mpr ⟨fun x => chunk_gated X W U 768 inb_S1024x2048_S256x2048_768_0 inb_S1024x512_S256x512_768_0 x, List.forall_mem_cons.mpr ⟨fun x => chunk_gated X W U 512 inb_S1024x2048_S256x2048_512_0 inb_S1024x512_S256x512_512_0 x,
    List.forall_mem_cons.mpr ⟨fun x => chunk_gated X W U 256 inb_S1024x2048_S256x2048_256_0 inb_S1024x512_S256x512_256_0 x, List.forall_mem_cons.mpr ⟨fun x => chunk_gated X W U 0 inb_S1024x2048_S256x2048_0_0 inb_S1024x512_S256x512_0_0 x, fun p hp => nomatch hp⟩⟩⟩⟩

/-! ## The arguments -/

variable (m : (ℓ : Loc nD τ sig) → Buf (Elt Ideal) ℓ) (c : Dev nD)

abbrev arg0 : FVec Ideal S8192x2048 .f32 := m ((c.tc : Thread nD τ).loc main_arg0)
abbrev arg1 : FVec Ideal S2048x5632 .f32 := m ((c.tc : Thread nD τ).loc main_arg1)
abbrev arg2 : FVec Ideal S2048x5632 .f32 := m ((c.tc : Thread nD τ).loc main_arg2)

/-- The two projections. -/
def projA : FVec Ideal S8192x5632 .f32 := Host.dotGeneral (DotDims.plain 8192 2048 5632) none (arg0 m c) (arg1 m c)
def projB : FVec Ideal S8192x5632 .f32 := Host.dotGeneral (DotDims.plain 8192 2048 5632) none (arg0 m c) (arg2 m c)

theorem V_v0 : V m c main_v0 = (truncf .bf16 (arg0 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v2 : V m c main_v2 = (broadcastInDim S1x2048x5632 ![1, 2] bcast_S2048x5632_S1x2048x5632_1_2 (truncf .bf16 (arg1 m c) bitsLt_bf16_f32) : FVec Ideal S1x2048x5632 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v4 : V m c main_v4 = (broadcastInDim S1x2048x5632 ![1, 2] bcast_S2048x5632_S1x2048x5632_1_2 (truncf .bf16 (arg2 m c) bitsLt_bf16_f32) : FVec Ideal S1x2048x5632 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val / 11 ∧ (cfg0.win 0).index t 1 = 0 :=
  (by decide +kernel : ∀ t : Fin grid0.N, (cfg0.win 0).index t 0 = t.val / 11 ∧ (cfg0.win 0).index t 1 = 0)
theorem where1 : ∀ t : Fin cfg0.N, (cfg0.win 1).index t 0 = 0 ∧ (cfg0.win 1).index t 1 = 0 ∧ (cfg0.win 1).index t 2 = t.val % 11 :=
  (by decide +kernel : ∀ t : Fin grid0.N, (cfg0.win 1).index t 0 = 0 ∧ (cfg0.win 1).index t 1 = 0 ∧ (cfg0.win 1).index t 2 = t.val % 11)
theorem where2 : ∀ t : Fin cfg0.N, (cfg0.win 2).index t 0 = 0 ∧ (cfg0.win 2).index t 1 = 0 ∧ (cfg0.win 2).index t 2 = t.val % 11 :=
  (by decide +kernel : ∀ t : Fin grid0.N, (cfg0.win 2).index t 0 = 0 ∧ (cfg0.win 2).index t 1 = 0 ∧ (cfg0.win 2).index t 2 = t.val % 11)
theorem where3 : ∀ t : Fin cfg0.N, (cfg0.win 3).index t 0 = t.val / 11 ∧ (cfg0.win 3).index t 1 = t.val % 11 :=
  (by decide +kernel : ∀ t : Fin grid0.N, (cfg0.win 3).index t 0 = t.val / 11 ∧ (cfg0.win 3).index t 1 = t.val % 11)
theorem where4 : ∀ t : Fin cfg0.N, (cfg0.win 4).index t 0 = t.val / 11 ∧ (cfg0.win 4).index t 1 = t.val % 11 :=
  (by decide +kernel : ∀ t : Fin grid0.N, (cfg0.win 4).index t 0 = t.val / 11 ∧ (cfg0.win 4).index t 1 = t.val % 11)
theorem where5 : ∀ t : Fin cfg0.N, (cfg0.win 5).index t 0 = t.val / 11 ∧ (cfg0.win 5).index t 1 = t.val % 11 :=
  (by decide +kernel : ∀ t : Fin grid0.N, (cfg0.win 5).index t 0 = t.val / 11 ∧ (cfg0.win 5).index t 1 = t.val % 11)

/-- The place in a result array of a place in a block. -/
def at' (t : Fin cfg0.N) (r : Fin 1024) (q : Fin 512) : S8192x5632.Idx :=
  ix2 ⟨t.val / 11 * 1024 + r.val, by have : t.val < 88 := t.isLt.trans_eq N_0; omega⟩ ⟨t.val % 11 * 512 + q.val, by omega⟩

theorem blk_h (t : Fin cfg0.N) (r : Fin 1024) (k : Fin 2048) :
    (iblk m c 0 t : FVec Ideal S1024x2048 .bf16) (ix2 r k) = arg0 m c (ix2 ⟨t.val / 11 * 1024 + r.val, by have : t.val < 88 := t.isLt.trans_eq N_0; omega⟩ k) := by
  obtain ⟨w0, w1⟩ := where0 t
  refine (congrFun (V_v0 m c) (((cfg0.win 0).rect t).emb (ix2 r k))).trans (congrArg (arg0 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; show 0 * 2048 + k.val = k.val; omega))

theorem blk_wg (t : Fin cfg0.N) (k : Fin 2048) (q : Fin 512) :
    (iblk m c 1 t : FVec Ideal S1x2048x512 .bf16) (ix3 0 k q) = arg1 m c (ix2 k ⟨t.val % 11 * 512 + q.val, by omega⟩) := by
  obtain ⟨w0, w1, w2⟩ := where1 t
  refine (congrFun (V_v2 m c) (((cfg0.win 1).rect t).emb (ix3 0 k q))).trans (congrArg (arg1 m c) ?_)
  funext a
  match a with
  | ⟨0, _⟩ => exact Fin.ext ((Pipeline.Window.rect_emb_val (cfg0.win 1) t (ix3 0 k q) 1).trans (by rw [w1]; show 0 * 2048 + k.val = k.val; omega))
  | ⟨1, _⟩ => exact Fin.ext ((Pipeline.Window.rect_emb_val (cfg0.win 1) t (ix3 0 k q) 2).trans (by rw [w2]; rfl))

theorem blk_wu (t : Fin cfg0.N) (k : Fin 2048) (q : Fin 512) :
    (iblk m c 2 t : FVec Ideal S1x2048x512 .bf16) (ix3 0 k q) = arg2 m c (ix2 k ⟨t.val % 11 * 512 + q.val, by omega⟩) := by
  obtain ⟨w0, w1, w2⟩ := where2 t
  refine (congrFun (V_v4 m c) (((cfg0.win 2).rect t).emb (ix3 0 k q))).trans (congrArg (arg2 m c) ?_)
  funext a
  match a with
  | ⟨0, _⟩ => exact Fin.ext ((Pipeline.Window.rect_emb_val (cfg0.win 2) t (ix3 0 k q) 1).trans (by rw [w1]; show 0 * 2048 + k.val = k.val; omega))
  | ⟨1, _⟩ => exact Fin.ext ((Pipeline.Window.rect_emb_val (cfg0.win 2) t (ix3 0 k q) 2).trans (by rw [w2]; rfl))

/-- The block products are the blocks of the products. -/
theorem a_block (t : Fin cfg0.N) (r : Fin 1024) (q : Fin 512) : prodB (iblk m c 0 t) (iblk m c 1 t) (ix2 r q) = projA m c (at' t r q) := by
  refine Eq.trans ?_ (StackMember.dotGeneral_plain_apply none (arg0 m c) (arg1 m c) _ _).symm
  exact Finset.sum_congr rfl fun k _ => congrArg₂ (· * ·) (blk_h m c t r k) (blk_wg m c t k q)
theorem b_block (t : Fin cfg0.N) (r : Fin 1024) (q : Fin 512) : prodB (iblk m c 0 t) (iblk m c 2 t) (ix2 r q) = projB m c (at' t r q) := by
  refine Eq.trans ?_ (StackMember.dotGeneral_plain_apply none (arg0 m c) (arg2 m c) _ _).symm
  exact Finset.sum_congr rfl fun k _ => congrArg₂ (· * ·) (blk_h m c t r k) (blk_wu m c t k q)

/-! ## The arrays -/

/-- The three results as whole arrays. -/
def aArr : FVec Ideal S8192x5632 .bf16 := fun i => projA m c i
def bArr : FVec Ideal S8192x5632 .bf16 := fun i => projB m c i
def sArr : FVec Ideal S8192x5632 .bf16 := fun i => gated (projA m c i) (projB m c i)

theorem a_point (t : Fin cfg0.N) (r : Fin 1024) (q : Fin 512) :
    out0_3 (F := Ideal) (iblk m c 0 t) (iblk m c 1 t) (iblk m c 2 t) (ix2 r q) = aArr m c (at' t r q) :=
  (a_canon _ _ _ _).trans (a_block m c t r q)
theorem b_point (t : Fin cfg0.N) (r : Fin 1024) (q : Fin 512) :
    out0_4 (F := Ideal) (iblk m c 0 t) (iblk m c 1 t) (iblk m c 2 t) (ix2 r q) = bArr m c (at' t r q) :=
  (b_canon _ _ _ _).trans (b_block m c t r q)
theorem s_point (t : Fin cfg0.N) (r : Fin 1024) (q : Fin 512) :
    out0_5 (F := Ideal) (iblk m c 0 t) (iblk m c 1 t) (iblk m c 2 t) (ix2 r q) = sArr m c (at' t r q) :=
  (s_canon _ _ _ _).trans (congrArg₂ gated (a_block m c t r q) (b_block m c t r q))

/-- The point whose block holds a place, and where in the block. -/
theorem exists_at (i : S8192x5632.Idx) : ∃ (t : Fin cfg0.N) (r : Fin 1024) (q : Fin 512), at' t r q = i := by
  have h0 := idx2_lt0 (n0 := 8192) (n1 := 5632) i
  have h1 := idx2_lt1 (n0 := 8192) (n1 := 5632) i
  refine ⟨⟨11 * ((i 0).val / 1024) + (i 1).val / 512, by show _ < grid0.N; rw [N_0]; omega⟩, ⟨(i 0).val % 1024, by omega⟩, ⟨(i 1).val % 512, by omega⟩, ?_⟩
  funext a
  match a with
  | ⟨0, _⟩ => exact Fin.ext (by show (11 * ((i 0).val / 1024) + (i 1).val / 512) / 11 * 1024 + (i 0).val % 1024 = (i 0).val; omega)
  | ⟨1, _⟩ => exact Fin.ext (by show (11 * ((i 0).val / 1024) + (i 1).val / 512) % 11 * 512 + (i 1).val % 512 = (i 1).val; omega)

theorem emb3 (t : Fin cfg0.N) (r : Fin 1024) (q : Fin 512) : ((cfg0.win 3).rect t).emb (ix2 r q) = at' t r q := by
  obtain ⟨w0, w1⟩ := where3 t
  funext a
  match a with
  | ⟨0, _⟩ => exact Fin.ext ((Pipeline.Window.rect_emb_val (cfg0.win 3) t (ix2 r q) 0).trans (by rw [w0]; rfl))
  | ⟨1, _⟩ => exact Fin.ext ((Pipeline.Window.rect_emb_val (cfg0.win 3) t (ix2 r q) 1).trans (by rw [w1]; rfl))
theorem emb4 (t : Fin cfg0.N) (r : Fin 1024) (q : Fin 512) : ((cfg0.win 4).rect t).emb (ix2 r q) = at' t r q := by
  obtain ⟨w0, w1⟩ := where4 t
  funext a
  match a with
  | ⟨0, _⟩ => exact Fin.ext ((Pipeline.Window.rect_emb_val (cfg0.win 4) t (ix2 r q) 0).trans (by rw [w0]; rfl))
  | ⟨1, _⟩ => exact Fin.ext ((Pipeline.Window.rect_emb_val (cfg0.win 4) t (ix2 r q) 1).trans (by rw [w1]; rfl))
theorem emb5 (t : Fin cfg0.N) (r : Fin 1024) (q : Fin 512) : ((cfg0.win 5).rect t).emb (ix2 r q) = at' t r q := by
  obtain ⟨w0, w1⟩ := where5 t
  funext a
  match a with
  | ⟨0, _⟩ => exact Fin.ext ((Pipeline.Window.rect_emb_val (cfg0.win 5) t (ix2 r q) 0).trans (by rw [w0]; rfl))
  | ⟨1, _⟩ => exact Fin.ext ((Pipeline.Window.rect_emb_val (cfg0.win 5) t (ix2 r q) 1).trans (by rw [w1]; rfl))

theorem a_array : (dats (F := Ideal) m 0 c).arrAt 3 cfg0.N = aArr m c := by
  refine Pipeline.Dat.arrAt_eq_of_cover (dats m 0 c) 3 (aArr m c) (fun t ht => ?_) fun i => ?_
  · rw [Value.flushed3]
    funext y
    obtain ⟨r, q, rfl⟩ : ∃ (r : Fin 1024) (q : Fin 512), y = ix2 r q := ⟨y 0, y 1, eq_ix2 y⟩
    exact (a_point m c t r q).trans (congrArg (aArr m c) (emb3 t r q)).symm
  · obtain ⟨t, r, q, h⟩ := exists_at i
    exact ⟨t, flush0_3 t, Finset.mem_map.mpr ⟨ix2 r q, Finset.mem_univ _, (emb3 t r q).trans h⟩⟩

theorem b_array : (dats (F := Ideal) m 0 c).arrAt 4 cfg0.N = bArr m c := by
  refine Pipeline.Dat.arrAt_eq_of_cover (dats m 0 c) 4 (bArr m c) (fun t ht => ?_) fun i => ?_
  · rw [Value.flushed4]
    funext y
    obtain ⟨r, q, rfl⟩ : ∃ (r : Fin 1024) (q : Fin 512), y = ix2 r q := ⟨y 0, y 1, eq_ix2 y⟩
    exact (b_point m c t r q).trans (congrArg (bArr m c) (emb4 t r q)).symm
  · obtain ⟨t, r, q, h⟩ := exists_at i
    exact ⟨t, flush0_4 t, Finset.mem_map.mpr ⟨ix2 r q, Finset.mem_univ _, (emb4 t r q).trans h⟩⟩

theorem s_array : (dats (F := Ideal) m 0 c).arrAt 5 cfg0.N = sArr m c := by
  refine Pipeline.Dat.arrAt_eq_of_cover (dats m 0 c) 5 (sArr m c) (fun t ht => ?_) fun i => ?_
  · rw [Value.flushed5]
    funext y
    obtain ⟨r, q, rfl⟩ : ∃ (r : Fin 1024) (q : Fin 512), y = ix2 r q := ⟨y 0, y 1, eq_ix2 y⟩
    exact (s_point m c t r q).trans (congrArg (sArr m c) (emb5 t r q)).symm
  · obtain ⟨t, r, q, h⟩ := exists_at i
    exact ⟨t, flush0_5 t, Finset.mem_map.mpr ⟨ix2 r q, Finset.mem_univ _, (emb5 t r q).trans h⟩⟩

end Cert.UpIdeal.Run

end
-- ==== Proof.DownValue.lean ====
/-
  The feed-forward layer's second product added to the layer's input, block by block: each block of the launch is a product of a
  block of rows of the gated product by a block of columns of the output weights, made in four chunks of rows.
-/
module

public import proofs.«01_k».proof.Proof.GateEnds
public import proofs.«01_k».proof.Proof.Gen.DownIdeal.Value
public import proofs.«01_k».proof.Proof.Gen.DownIdeal.Frame
public import Idealize.ShloMosaic.Lib.StackMember
public import Idealize.ShloMosaic.Lib.Pipeline.ValueKit.Tiles

@[expose] public section

set_option maxRecDepth 16384

noncomputable section

namespace Cert.DownIdeal.Run

open Cert.DownIdeal Cert.DownIdeal.Gen Cert.Dots
open Cert.GateReferenceIdeal.Real (logis)
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of a product: row `y 0` of `X` by column `y 1` of `W`. -/
def prodB (X : FVec Ideal S1024x5632 .bf16) (W : FVec Ideal S1x5632x512 .bf16) (y : S1024x512.Idx) : EReal :=
  ∑ k : Fin 5632, X (ix2 (y 0) k) * W (ix3 0 k (y 1))

theorem pay3_apply (P0 : FVec Ideal S256x5632 .bf16) (P1 : FVec Ideal S1x5632x512 .bf16) (r : Fin 256) (c : Fin 512) :
    k0_pay3 (F := Ideal) P0 P1 (ix2 r c) = ∑ k : Fin 5632, P0 (ix2 r k) * P1 (ix3 0 k c) := by
  unfold k0_pay3
  refine (Ideal.matmul_plain_apply none (shapeCast S256x5632 P0 shapeCasts_S256x5632_S256x5632)
    (shapeCast S5632x512 P1 shapeCasts_S1x5632x512_S5632x512) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x5632x512_S5632x512 k c)

theorem ld1 (W : FVec Ideal S1x5632x512 .bf16) : View.ld (Val := Elt Ideal) (e' := .bf16) W r0_1 = W :=
  View.ld_unit_lit (Val := Elt Ideal) (S := S1x5632x512) (e := .bf16) (off := ![0, 0, 0]) _ W (by decide)

/-- A chunk of 256 rows of the block is the rows of the product from the chunk's first, added to the same rows of the input. -/
theorem chunk (X : FVec Ideal S1024x5632 .bf16) (W : FVec Ideal S1x5632x512 .bf16) (Z : FVec Ideal S1024x512 .f32) (o : ℕ)
    (hx : ∀ a, (![o, 0] : Fin 2 → ℕ) a + S256x5632.size a ≤ S1024x5632.size a) (hy : ∀ a, (![o, 0] : Fin 2 → ℕ) a + S256x512.size a ≤ S1024x512.size a)
    (x : S256x512.Idx) :
    k0_pay1 (F := Ideal) (k0_pay3 (F := Ideal) (View.ld (Val := Elt Ideal) (e' := .bf16) X (Rect.unit (s := S1024x5632) ![o, 0] S256x5632.size hx))
        (View.ld (Val := Elt Ideal) (e' := .bf16) W r0_1))
        (View.ld (Val := Elt Ideal) (e' := .f32) Z (Rect.unit (s := S1024x512) ![o, 0] S256x512.size hy)) x
      = Z ((Rect.unit (s := S1024x512) ![o, 0] S256x512.size hy).emb x) + prodB X W ((Rect.unit (s := S1024x512) ![o, 0] S256x512.size hy).emb x) := by
  obtain ⟨r, c, rfl⟩ : ∃ (r : Fin 256) (c : Fin 512), x = ix2 r c := ⟨x 0, x 1, eq_ix2 x⟩
  rw [ld1]
  refine congrArg (Z _ + ·) ((pay3_apply _ W r c).trans (Finset.sum_congr rfl fun k _ => ?_))
  refine congrArg₂ (fun x y : EReal => x * y) (congrArg X (funext fun a => Fin.ext ((Rect.idx_unit_val (s := S1024x5632) ![o, 0] S256x5632.size hx (ix2 r k) a).trans ?_))) (congrArg W ?_)
  · match a with
    | ⟨0, _⟩ => exact (Rect.idx_unit_val (s := S1024x512) ![o, 0] S256x512.size hy (ix2 r c) 0).symm
    | ⟨1, _⟩ => exact Nat.zero_add _
  · refine congrArg (ix3 0 k) (Fin.ext ?_)
    exact ((Rect.idx_unit_val (s := S1024x512) ![o, 0] S256x512.size hy (ix2 r c) 1).trans (Nat.zero_add _)).symm

/-- What a point leaves in its result block, at one place. -/
theorem x_canon (X : FVec Ideal S1024x5632 .bf16) (W : FVec Ideal S1x5632x512 .bf16) (Z : FVec Ideal S1024x512 .f32) (y : S1024x512.Idx) :
    out0_3 (F := Ideal) X W Z y = Z y + prodB X W y := by
  unfold out0_3
  refine View.canon_apply_of_pieces (Val := Elt Ideal) (S := S1024x512) (e := .f32) (fun y => Z y + prodB X W y) _ ?_ y (cover0_3 _ _ _ _ y)
  refine List.forall_mem_cons.mpr ⟨fun x => chunk X W Z 768 inb_S1024x5632_S256x5632_768_0 inb_S1024x512_S256x512_768_0 x, List.forall_mem_cons.mpr ⟨fun x => chunk X W Z 512 inb_S1024x5632_S256x5632_512_0 inb_S1024x512_S256x512_512_0 x,
    List.forall_mem_cons.mpr ⟨fun x => chunk X W Z 256 inb_S1024x5632_S256x5632_256_0 inb_S1024x512_S256x512_256_0 x, List.forall_mem_cons.mpr ⟨fun x => chunk X W Z 0 inb_S1024x5632_S256x5632_0_0 inb_S1024x512_S256x512_0_0 x, fun p hp => nomatch hp⟩⟩⟩⟩

/-! ## The arguments -/

variable (m : (ℓ : Loc nD τ sig) → Buf (Elt Ideal) ℓ) (c : Dev nD)

abbrev arg0 : FVec Ideal S8192x2048 .f32 := m ((c.tc : Thread nD τ).loc main_arg0)
abbrev arg1 : FVec Ideal S8192x2048 .f32 := m ((c.tc : Thread nD τ).loc main_arg1)
abbrev arg2 : FVec Ideal S2048x5632 .f32 := m ((c.tc : Thread nD τ).loc main_arg2)
abbrev arg3 : FVec Ideal S2048x5632 .f32 := m ((c.tc : Thread nD τ).loc main_arg3)
abbrev arg4 : FVec Ideal S5632x2048 .f32 := m ((c.tc : Thread nD τ).loc main_arg4)

/-- The two projections and their gated product. -/
def projA : FVec Ideal S8192x5632 .f32 := Host.dotGeneral (DotDims.plain 8192 2048 5632) none (arg1 m c) (arg2 m c)
def projB : FVec Ideal S8192x5632 .f32 := Host.dotGeneral (DotDims.plain 8192 2048 5632) none (arg1 m c) (arg3 m c)
def gate : FVec Ideal S8192x5632 .f32 := mulf (mulf (projA m c) (logis (projA m c))) (projB m c)

theorem V_arg0 : V m c main_arg0 = arg0 m c := V_main_arg0 m c
theorem V_v4 : V m c main_v4 = (truncf .bf16 (gate m c) bitsLt_bf16_f32 : FVec Ideal S8192x5632 .bf16) := by
  simp only [V, hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl
theorem V_v6 : V m c main_v6 = (broadcastInDim S1x5632x2048 ![1, 2] bcast_S5632x2048_S1x5632x2048_1_2 (truncf .bf16 (arg4 m c) bitsLt_bf16_f32) : FVec Ideal S1x5632x2048 .bf16) := by
  simp only [V, hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val / 4 ∧ (cfg0.win 0).index t 1 = 0 :=
  (by decide +kernel : ∀ t : Fin grid0.N, (cfg0.win 0).index t 0 = t.val / 4 ∧ (cfg0.win 0).index t 1 = 0)
theorem where1 : ∀ t : Fin cfg0.N, (cfg0.win 1).index t 0 = 0 ∧ (cfg0.win 1).index t 1 = 0 ∧ (cfg0.win 1).index t 2 = t.val % 4 :=
  (by decide +kernel : ∀ t : Fin grid0.N, (cfg0.win 1).index t 0 = 0 ∧ (cfg0.win 1).index t 1 = 0 ∧ (cfg0.win 1).index t 2 = t.val % 4)
theorem where2 : ∀ t : Fin cfg0.N, (cfg0.win 2).index t 0 = t.val / 4 ∧ (cfg0.win 2).index t 1 = t.val % 4 :=
  (by decide +kernel : ∀ t : Fin grid0.N, (cfg0.win 2).index t 0 = t.val / 4 ∧ (cfg0.win 2).index t 1 = t.val % 4)
theorem where3 : ∀ t : Fin cfg0.N, (cfg0.win 3).index t 0 = t.val / 4 ∧ (cfg0.win 3).index t 1 = t.val % 4 :=
  (by decide +kernel : ∀ t : Fin grid0.N, (cfg0.win 3).index t 0 = t.val / 4 ∧ (cfg0.win 3).index t 1 = t.val % 4)

/-- The place in the result array of a place in a block. -/
def at' (t : Fin cfg0.N) (r : Fin 1024) (q : Fin 512) : S8192x2048.Idx :=
  ix2 ⟨t.val / 4 * 1024 + r.val, by have : t.val < 32 := t.isLt.trans_eq N_0; omega⟩ ⟨t.val % 4 * 512 + q.val, by omega⟩

theorem blk_s (t : Fin cfg0.N) (r : Fin 1024) (k : Fin 5632) :
    (iblk m c 0 t : FVec Ideal S1024x5632 .bf16) (ix2 r k) = gate m c (ix2 ⟨t.val / 4 * 1024 + r.val, by have : t.val < 32 := t.isLt.trans_eq N_0; omega⟩ k) := by
  obtain ⟨w0, w1⟩ := where0 t
  refine (congrFun (V_v4 m c) (((cfg0.win 0).rect t).emb (ix2 r k))).trans (congrArg (gate m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; show 0 * 5632 + k.val = k.val; omega))

theorem blk_wd (t : Fin cfg0.N) (k : Fin 5632) (q : Fin 512) :
    (iblk m c 1 t : FVec Ideal S1x5632x512 .bf16) (ix3 0 k q) = arg4 m c (ix2 k ⟨t.val % 4 * 512 + q.val, by omega⟩) := by
  obtain ⟨w0, w1, w2⟩ := where1 t
  refine (congrFun (V_v6 m c) (((cfg0.win 1).rect t).emb (ix3 0 k q))).trans (congrArg (arg4 m c) ?_)
  funext a
  match a with
  | ⟨0, _⟩ => exact Fin.ext ((Pipeline.Window.rect_emb_val (cfg0.win 1) t (ix3 0 k q) 1).trans (by rw [w1]; show 0 * 5632 + k.val = k.val; omega))
  | ⟨1, _⟩ => exact Fin.ext ((Pipeline.Window.rect_emb_val (cfg0.win 1) t (ix3 0 k q) 2).trans (by rw [w2]; rfl))

theorem blk_x (t : Fin cfg0.N) (r : Fin 1024) (q : Fin 512) :
    (iblk m c 2 t : FVec Ideal S1024x512 .f32) (ix2 r q) = arg0 m c (at' t r q) := by
  obtain ⟨w0, w1⟩ := where2 t
  refine (congrFun (V_arg0 m c) (((cfg0.win 2).rect t).emb (ix2 r q))).trans (congrArg (arg0 m c) ?_)
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))

/-! ## The array -/

/-- The product of the gated product by the output weights, and the result: the product added to the layer's input. -/
def down : FVec Ideal S8192x2048 .f32 := Host.dotGeneral (DotDims.plain 8192 5632 2048) none (gate m c) (arg4 m c)
def xArr : FVec Ideal S8192x2048 .f32 := addf (arg0 m c) (down m c)

theorem down_block (t : Fin cfg0.N) (r : Fin 1024) (q : Fin 512) : prodB (iblk m c 0 t) (iblk m c 1 t) (ix2 r q) = down m c (at' t r q) := by
  refine Eq.trans ?_ (StackMember.dotGeneral_plain_apply none (gate m c) (arg4 m c) _ _).symm
  exact Finset.sum_congr rfl fun k _ => congrArg₂ (· * ·) (blk_s m c t r k) (blk_wd m c t k q)

theorem x_point (t : Fin cfg0.N) (r : Fin 1024) (q : Fin 512) :
    out0_3 (F := Ideal) (iblk m c 0 t) (iblk m c 1 t) (iblk m c 2 t) (ix2 r q) = xArr m c (at' t r q) :=
  (x_canon _ _ _ _).trans (congrArg₂ (fun x y : EReal => x + y) (blk_x m c t r q) (down_block m c t r q))

/-- The point whose block holds a place, and where in the block. -/
theorem exists_at (i : S8192x2048.Idx) : ∃ (t : Fin cfg0.N) (r : Fin 1024) (q : Fin 512), at' t r q = i := by
  have h0 := idx2_lt0 (n0 := 8192) (n1 := 2048) i
  have h1 := idx2_lt1 (n0 := 8192) (n1 := 2048) i
  refine ⟨⟨4 * ((i 0).val / 1024) + (i 1).val / 512, by show _ < grid0.N; rw [N_0]; omega⟩, ⟨(i 0).val % 1024, by omega⟩, ⟨(i 1).val % 512, by omega⟩, ?_⟩
  funext a
  match a with
  | ⟨0, _⟩ => exact Fin.ext (by show (4 * ((i 0).val / 1024) + (i 1).val / 512) / 4 * 1024 + (i 0).val % 1024 = (i 0).val; omega)
  | ⟨1, _⟩ => exact Fin.ext (by show (4 * ((i 0).val / 1024) + (i 1).val / 512) % 4 * 512 + (i 1).val % 512 = (i 1).val; omega)

theorem emb3 (t : Fin cfg0.N) (r : Fin 1024) (q : Fin 512) : ((cfg0.win 3).rect t).emb (ix2 r q) = at' t r q := by
  obtain ⟨w0, w1⟩ := where3 t
  funext a
  match a with
  | ⟨0, _⟩ => exact Fin.ext ((Pipeline.Window.rect_emb_val (cfg0.win 3) t (ix2 r q) 0).trans (by rw [w0]; rfl))
  | ⟨1, _⟩ => exact Fin.ext ((Pipeline.Window.rect_emb_val (cfg0.win 3) t (ix2 r q) 1).trans (by rw [w1]; rfl))

theorem x_array : (dats (F := Ideal) m 0 c).arrAt 3 cfg0.N = xArr m c := by
  refine Pipeline.Dat.arrAt_eq_of_cover (dats m 0 c) 3 (xArr m c) (fun t ht => ?_) fun i => ?_
  · rw [Value.flushed3]
    funext y
    obtain ⟨r, q, rfl⟩ : ∃ (r : Fin 1024) (q : Fin 512), y = ix2 r q := ⟨y 0, y 1, eq_ix2 y⟩
    exact (x_point m c t r q).trans (congrArg (xArr m c) (emb3 t r q)).symm
  · obtain ⟨t, r, q, h⟩ := exists_at i
    exact ⟨t, flush0_3 t, Finset.mem_map.mpr ⟨ix2 r q, Finset.mem_univ _, (emb3 t r q).trans h⟩⟩

end Cert.DownIdeal.Run

end
-- ==== Proof.DhValue.lean ====
/-
  The gradient of the feed-forward layer's input, block by block: each block of the launch is visited twice, once for each half of
  the gates, and the two visits' products are added.
-/
module

public import proofs.«01_k».proof.Proof.GateEnds
public import proofs.«01_k».proof.Proof.Gen.DhIdeal.Value
public import proofs.«01_k».proof.Proof.Gen.DhIdeal.Frame
public import Idealize.ShloMosaic.Lib.Pipeline.ValueKit.Acc

@[expose] public section

set_option maxRecDepth 16384

noncomputable section

namespace Cert.DhIdeal.Run

open Cert.DhIdeal Cert.DhIdeal.Gen Cert.Dots
open Cert.GateReferenceIdeal.Real (logis)
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of the two products the kernel makes at a point, added. -/
theorem pay1_apply (P0 : FVec Ideal S1024x2816 .bf16) (P1 : FVec Ideal S1x512x2816 .bf16) (P2 : FVec Ideal S1024x2816 .bf16)
    (P3 : FVec Ideal S1x512x2816 .bf16) (r : Fin 1024) (c : Fin 512) :
    k0_pay1 (F := Ideal) P0 P1 P2 P3 (ix2 r c)
      = (∑ k : Fin 2816, P0 (ix2 r k) * P1 (ix3 0 c k)) + ∑ k : Fin 2816, P2 (ix2 r k) * P3 (ix3 0 c k) := by
  unfold k0_pay1
  refine congrArg₂ (fun x y : EReal => x + y) ?_ ?_
  · refine (Ideal.matmul_transposedRhs_apply none (shapeCast S1024x2816 P0 shapeCasts_S1024x2816_S1024x2816)
      (shapeCast S512x2816 P1 shapeCasts_S1x512x2816_S512x2816) _ r c).trans ?_
    refine (congrArg (· + _) (show Ideal.ofBits .f32 0x00000000#32 = 0 by simp)).trans ((zero_add _).trans (Finset.sum_congr rfl fun k _ => ?_))
    rw [shapeCast_self]
    exact congrArg (P0 (ix2 r k) * ·) (shapeCast_1ab_ab_apply P1 shapeCasts_S1x512x2816_S512x2816 c k)
  · refine (Ideal.matmul_transposedRhs_apply none (shapeCast S1024x2816 P2 shapeCasts_S1024x2816_S1024x2816)
      (shapeCast S512x2816 P3 shapeCasts_S1x512x2816_S512x2816) _ r c).trans ?_
    refine (congrArg (· + _) (show Ideal.ofBits .f32 0x00000000#32 = 0 by simp)).trans ((zero_add _).trans (Finset.sum_congr rfl fun k _ => ?_))
    rw [shapeCast_self]
    exact congrArg (P2 (ix2 r k) * ·) (shapeCast_1ab_ab_apply P3 shapeCasts_S1x512x2816_S512x2816 c k)

theorem pay2_eq (P0 : FVec Ideal S1024x2816 .bf16) (P1 : FVec Ideal S1x512x2816 .bf16) (P2 : FVec Ideal S1024x2816 .bf16)
    (P3 : FVec Ideal S1x512x2816 .bf16) : k0_pay2 (F := Ideal) P0 P1 P2 P3 = k0_pay1 (F := Ideal) P0 P1 P2 P3 := by
  unfold k0_pay2; rw [shapeCast_self]

theorem pay3_apply (P0 : FVec Ideal S1024x2816 .bf16) (P1 : FVec Ideal S1x512x2816 .bf16) (P2 : FVec Ideal S1024x2816 .bf16)
    (P3 : FVec Ideal S1x512x2816 .bf16) (Z : FVec Ideal S1024x512 .f32) (y : S1024x512.Idx) :
    k0_pay3 (F := Ideal) P0 P1 P2 P3 Z y = Z y + k0_pay1 (F := Ideal) P0 P1 P2 P3 y := by
  unfold k0_pay3; rw [shapeCast_self]; rfl

variable (m : (ℓ : Loc nD τ sig) → Buf (Elt Ideal) ℓ) (c : Dev nD)

/-- The products of a point's blocks. -/
def part (t : Fin cfg0.N) : FVec Ideal S1024x512 .f32 := k0_pay1 (F := Ideal) (iblk m c 0 t) (iblk m c 1 t) (iblk m c 2 t) (iblk m c 3 t)

theorem first (t : Fin cfg0.N) (h : t.val % 2 = 0) : (outsAt0 m c t.val t.isLt).2 = part m c t := by
  rw [outsAt0_A m c t h (by omega) (by omega)]
  frame_out
  exact pay2_eq _ _ _ _

theorem second (t : Fin cfg0.N) (h : t.val % 2 = 1) (y : S1024x512.Idx) :
    (outsAt0 m c t.val t.isLt).1 y = part m c ⟨t.val - 1, Nat.lt_of_le_of_lt (Nat.sub_le _ _) t.isLt⟩ y + part m c t y := by
  rw [← first m c ⟨t.val - 1, Nat.lt_of_le_of_lt (Nat.sub_le _ _) t.isLt⟩ (by show (t.val - 1) % 2 = 0; omega)]
  rw [outsAt0_B m c t (by omega) h h]
  frame_out
  exact (pay3_apply _ _ _ _ _ y).trans (congrArg (· + part m c t y) (congrFun (Memref.IsWhole.read_unread (Val := Elt Ideal) (Memref.isWhole_whole cc0_scratch0) _) y))

/-! ## The arguments -/

abbrev arg0 : FVec Ideal S8192x2048 .f32 := m ((c.tc : Thread nD τ).loc main_arg0)
abbrev arg1 : FVec Ideal S8192x2048 .f32 := m ((c.tc : Thread nD τ).loc main_arg1)
abbrev arg2 : FVec Ideal S2048x5632 .f32 := m ((c.tc : Thread nD τ).loc main_arg2)
abbrev arg3 : FVec Ideal S2048x5632 .f32 := m ((c.tc : Thread nD τ).loc main_arg3)
abbrev arg4 : FVec Ideal S5632x2048 .f32 := m ((c.tc : Thread nD τ).loc main_arg4)

/-- The two projections, the gradient of the gated product, and the gradients of the two projections. -/
def projA : FVec Ideal S8192x5632 .f32 := Host.dotGeneral (DotDims.plain 8192 2048 5632) none (arg0 m c) (arg2 m c)
def projB : FVec Ideal S8192x5632 .f32 := Host.dotGeneral (DotDims.plain 8192 2048 5632) none (arg0 m c) (arg3 m c)
def gradS : FVec Ideal S8192x5632 .f32 := Host.dotGeneral (DotDims.transposedRhs 8192 2048 5632) none (arg1 m c) (arg4 m c)
def gradA : FVec Ideal S8192x5632 .f32 :=
  addf (mulf (mulf (gradS m c) (projB m c)) (logis (projA m c))) (mulf (mulf (projA m c) (mulf (gradS m c) (projB m c)))
    (mulf (logis (projA m c)) (subf (broadcastInDim S8192x5632 ![] bcast_S_S8192x5632 (constant S_ .f32 0x3F800000#32)) (logis (projA m c)))))
def gradB : FVec Ideal S8192x5632 .f32 := mulf (mulf (projA m c) (logis (projA m c))) (gradS m c)

theorem V_v9 : V m c main_v9 = (truncf .bf16 (gradA m c) bitsLt_bf16_f32 : FVec Ideal S8192x5632 .bf16) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl
theorem V_v10 : V m c main_v10 = (truncf .bf16 (gradB m c) bitsLt_bf16_f32 : FVec Ideal S8192x5632 .bf16) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl
theorem V_v12 : V m c main_v12 = (broadcastInDim S1x2048x5632 ![1, 2] bcast_S2048x5632_S1x2048x5632_1_2 (truncf .bf16 (arg2 m c) bitsLt_bf16_f32) : FVec Ideal S1x2048x5632 .bf16) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl
theorem V_v14 : V m c main_v14 = (broadcastInDim S1x2048x5632 ![1, 2] bcast_S2048x5632_S1x2048x5632_1_2 (truncf .bf16 (arg3 m c) bitsLt_bf16_f32) : FVec Ideal S1x2048x5632 .bf16) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val / 8 ∧ (cfg0.win 0).index t 1 = t.val % 2 :=
  (by decide +kernel : ∀ t : Fin grid0.N, (cfg0.win 0).index t 0 = t.val / 8 ∧ (cfg0.win 0).index t 1 = t.val % 2)
theorem where1 : ∀ t : Fin cfg0.N, (cfg0.win 1).index t 0 = 0 ∧ (cfg0.win 1).index t 1 = t.val % 8 / 2 ∧ (cfg0.win 1).index t 2 = t.val % 2 :=
  (by decide +kernel : ∀ t : Fin grid0.N, (cfg0.win 1).index t 0 = 0 ∧ (cfg0.win 1).index t 1 = t.val % 8 / 2 ∧ (cfg0.win 1).index t 2 = t.val % 2)
theorem where2 : ∀ t : Fin cfg0.N, (cfg0.win 2).index t 0 = t.val / 8 ∧ (cfg0.win 2).index t 1 = t.val % 2 :=
  (by decide +kernel : ∀ t : Fin grid0.N, (cfg0.win 2).index t 0 = t.val / 8 ∧ (cfg0.win 2).index t 1 = t.val % 2)
theorem where3 : ∀ t : Fin cfg0.N, (cfg0.win 3).index t 0 = 0 ∧ (cfg0.win 3).index t 1 = t.val % 8 / 2 ∧ (cfg0.win 3).index t 2 = t.val % 2 :=
  (by decide +kernel : ∀ t : Fin grid0.N, (cfg0.win 3).index t 0 = 0 ∧ (cfg0.win 3).index t 1 = t.val % 8 / 2 ∧ (cfg0.win 3).index t 2 = t.val % 2)
theorem where4 : ∀ t : Fin cfg0.N, (cfg0.win 4).index t 0 = t.val / 8 ∧ (cfg0.win 4).index t 1 = t.val % 8 / 2 :=
  (by decide +kernel : ∀ t : Fin grid0.N, (cfg0.win 4).index t 0 = t.val / 8 ∧ (cfg0.win 4).index t 1 = t.val % 8 / 2)

/-- The row and the column of the result of a place in a block, and the gate of a place in a half. -/
def row (t : Fin cfg0.N) (r : Fin 1024) : Fin 8192 := ⟨t.val / 8 * 1024 + r.val, by have : t.val < 64 := t.isLt.trans_eq N_0; omega⟩
def col (t : Fin cfg0.N) (q : Fin 512) : Fin 2048 := ⟨t.val % 8 / 2 * 512 + q.val, by omega⟩
def lane (e : Fin 2) (k : Fin 2816) : Fin 5632 := ⟨e.val * 2816 + k.val, by omega⟩
/-- Which half of the gates a point sums over. -/
def side (t : Fin cfg0.N) : Fin 2 := ⟨t.val % 2, by omega⟩

theorem blk_da (t : Fin cfg0.N) (r : Fin 1024) (k : Fin 2816) :
    (iblk m c 0 t : FVec Ideal S1024x2816 .bf16) (ix2 r k) = gradA m c (ix2 (row t r) (lane (side t) k)) := by
  obtain ⟨w0, w1⟩ := where0 t
  refine (congrFun (V_v9 m c) (((cfg0.win 0).rect t).emb (ix2 r k))).trans (congrArg (gradA m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; rfl))

theorem blk_db (t : Fin cfg0.N) (r : Fin 1024) (k : Fin 2816) :
    (iblk m c 2 t : FVec Ideal S1024x2816 .bf16) (ix2 r k) = gradB m c (ix2 (row t r) (lane (side t) k)) := by
  obtain ⟨w0, w1⟩ := where2 t
  refine (congrFun (V_v10 m c) (((cfg0.win 2).rect t).emb (ix2 r k))).trans (congrArg (gradB m c) ?_)
  funext a
  match a with
  | ⟨0, _⟩ => exact Fin.ext ((Pipeline.Window.rect_emb_val (cfg0.win 2) t (ix2 r k) 0).trans (by rw [w0]; rfl))
  | ⟨1, _⟩ => exact Fin.ext ((Pipeline.Window.rect_emb_val (cfg0.win 2) t (ix2 r k) 1).trans (by rw [w1]; rfl))

theorem blk_wg (t : Fin cfg0.N) (q : Fin 512) (k : Fin 2816) :
    (iblk m c 1 t : FVec Ideal S1x512x2816 .bf16) (ix3 0 q k) = arg2 m c (ix2 (col t q) (lane (side t) k)) := by
  obtain ⟨w0, w1, w2⟩ := where1 t
  refine (congrFun (V_v12 m c) (((cfg0.win 1).rect t).emb (ix3 0 q k))).trans (congrArg (arg2 m c) ?_)
  funext a
  match a with
  | ⟨0, _⟩ => exact Fin.ext ((Pipeline.Window.rect_emb_val (cfg0.win 1) t (ix3 0 q k) 1).trans (by rw [w1]; rfl))
  | ⟨1, _⟩ => exact Fin.ext ((Pipeline.Window.rect_emb_val (cfg0.win 1) t (ix3 0 q k) 2).trans (by rw [w2]; rfl))

theorem blk_wu (t : Fin cfg0.N) (q : Fin 512) (k : Fin 2816) :
    (iblk m c 3 t : FVec Ideal S1x512x2816 .bf16) (ix3 0 q k) = arg3 m c (ix2 (col t q) (lane (side t) k)) := by
  obtain ⟨w0, w1, w2⟩ := where3 t
  refine (congrFun (V_v14 m c) (((cfg0.win 3).rect t).emb (ix3 0 q k))).trans (congrArg (arg3 m c) ?_)
  funext a
  match a with
  | ⟨0, _⟩ => exact Fin.ext ((Pipeline.Window.rect_emb_val (cfg0.win 3) t (ix3 0 q k) 1).trans (by rw [w1]; rfl))
  | ⟨1, _⟩ => exact Fin.ext ((Pipeline.Window.rect_emb_val (cfg0.win 3) t (ix3 0 q k) 2).trans (by rw [w2]; rfl))

/-! ## The array -/

/-- What one half of the gates gives of the result at a place. -/
def half (e : Fin 2) (i : Fin 8192) (j : Fin 2048) : EReal :=
  (∑ k : Fin 2816, gradA m c (ix2 i (lane e k)) * arg2 m c (ix2 j (lane e k))) + ∑ k : Fin 2816, gradB m c (ix2 i (lane e k)) * arg3 m c (ix2 j (lane e k))

theorem part_half (t : Fin cfg0.N) (r : Fin 1024) (q : Fin 512) : part m c t (ix2 r q) = half m c (side t) (row t r) (col t q) := by
  refine (pay1_apply _ _ _ _ r q).trans (congrArg₂ (fun x y : EReal => x + y) ?_ ?_)
  · exact Finset.sum_congr rfl fun k _ => congrArg₂ (fun x y : EReal => x * y) (blk_da m c t r k) (blk_wg m c t q k)
  · exact Finset.sum_congr rfl fun k _ => congrArg₂ (fun x y : EReal => x * y) (blk_db m c t r k) (blk_wu m c t q k)

/-- A sum over the gates is the sums over the two halves, added. -/
theorem sum_lanes (f : Fin 5632 → EReal) : ∑ k, f k = (∑ k, f (lane 0 k)) + ∑ k, f (lane 1 k) := by
  refine (Fin.sum_univ_add (a := 2816) (b := 2816) f).trans (congrArg₂ (fun x y : EReal => x + y) ?_ ?_)
  · exact Finset.sum_congr rfl fun k _ => congrArg f (Fin.ext (by show k.val = 0 * 2816 + k.val; omega))
  · exact Finset.sum_congr rfl fun k _ => congrArg f (Fin.ext (by show 2816 + k.val = 1 * 2816 + k.val; omega))

/-- The result as a whole array: the two gates' gradients by their weights, added. -/
def dhArr : FVec Ideal S8192x2048 .f32 :=
  addf (Host.dotGeneral (DotDims.transposedRhs 8192 5632 2048) none (gradB m c) (arg3 m c)) (Host.dotGeneral (DotDims.transposedRhs 8192 5632 2048) none (gradA m c) (arg2 m c))

theorem halves (i : Fin 8192) (j : Fin 2048) : half m c 0 i j + half m c 1 i j = dhArr m c (ix2 i j) := by
  refine Eq.trans ?_ (congrArg₂ (fun x y : EReal => x + y) (host_transposed (gradB m c) (arg3 m c) i j) (host_transposed (gradA m c) (arg2 m c) i j)).symm
  rw [sum_lanes, sum_lanes]
  exact (add_add_add_comm _ _ _ _).trans (add_comm _ _)

/-- The place in the result array of a place in a block. -/
def at' (t : Fin cfg0.N) (r : Fin 1024) (q : Fin 512) : S8192x2048.Idx := ix2 (row t r) (col t q)

theorem dh_point (t : Fin cfg0.N) (h : t.val % 2 = 1) (r : Fin 1024) (q : Fin 512) :
    (outsAt0 m c t.val t.isLt).1 (ix2 r q) = dhArr m c (at' t r q) := by
  rw [second m c t h, part_half, part_half]
  refine Eq.trans ?_ (halves m c (row t r) (col t q))
  have e1 : side t = 1 := Fin.ext h
  have e0 : side ⟨t.val - 1, Nat.lt_of_le_of_lt (Nat.sub_le _ _) t.isLt⟩ = 0 := Fin.ext (by show (t.val - 1) % 2 = 0; omega)
  have er : row ⟨t.val - 1, Nat.lt_of_le_of_lt (Nat.sub_le _ _) t.isLt⟩ r = row t r :=
    Fin.ext (by show (t.val - 1) / 8 * 1024 + r.val = t.val / 8 * 1024 + r.val; omega)
  have eq : col ⟨t.val - 1, Nat.lt_of_le_of_lt (Nat.sub_le _ _) t.isLt⟩ q = col t q :=
    Fin.ext (by show (t.val - 1) % 8 / 2 * 512 + q.val = t.val % 8 / 2 * 512 + q.val; omega)
  rw [e1, e0, er, eq]

/-- The point that writes the block holding a place, and where in the block. -/
theorem exists_at (i : S8192x2048.Idx) : ∃ (t : Fin cfg0.N) (r : Fin 1024) (q : Fin 512), t.val % 2 = 1 ∧ at' t r q = i := by
  have h0 := idx2_lt0 (n0 := 8192) (n1 := 2048) i
  have h1 := idx2_lt1 (n0 := 8192) (n1 := 2048) i
  refine ⟨⟨8 * ((i 0).val / 1024) + (i 1).val / 512 * 2 + 1, by show _ < grid0.N; rw [N_0]; omega⟩, ⟨(i 0).val % 1024, by omega⟩, ⟨(i 1).val % 512, by omega⟩,
    by show (8 * ((i 0).val / 1024) + (i 1).val / 512 * 2 + 1) % 2 = 1; omega, ?_⟩
  funext a
  match a with
  | ⟨0, _⟩ => exact Fin.ext (by show (8 * ((i 0).val / 1024) + (i 1).val / 512 * 2 + 1) / 8 * 1024 + (i 0).val % 1024 = (i 0).val; omega)
  | ⟨1, _⟩ => exact Fin.ext (by show (8 * ((i 0).val / 1024) + (i 1).val / 512 * 2 + 1) % 8 / 2 * 512 + (i 1).val % 512 = (i 1).val; omega)

theorem emb4 (t : Fin cfg0.N) (r : Fin 1024) (q : Fin 512) : ((cfg0.win 4).rect t).emb (ix2 r q) = at' t r q := by
  obtain ⟨w0, w1⟩ := where4 t
  funext a
  match a with
  | ⟨0, _⟩ => exact Fin.ext ((Pipeline.Window.rect_emb_val (cfg0.win 4) t (ix2 r q) 0).trans (by rw [w0]; rfl))
  | ⟨1, _⟩ => exact Fin.ext ((Pipeline.Window.rect_emb_val (cfg0.win 4) t (ix2 r q) 1).trans (by rw [w1]; rfl))

theorem dh_array : (dats (F := Ideal) m 0 c).arrAt 4 cfg0.N = dhArr m c := by
  refine Pipeline.Dat.arrAt_eq_of_cover (dats m 0 c) 4 (dhArr m c) (fun t ht => ?_) fun i => ?_
  · rw [Value.flushed4]
    funext y
    obtain ⟨r, q, rfl⟩ : ∃ (r : Fin 1024) (q : Fin 512), y = ix2 r q := ⟨y 0, y 1, eq_ix2 y⟩
    exact (dh_point m c t ((flush0_4 t).mp ht) r q).trans (congrArg (dhArr m c) (emb4 t r q)).symm
  · obtain ⟨t, r, q, ht, h⟩ := exists_at i
    exact ⟨t, (flush0_4 t).mpr ht, Finset.mem_map.mpr ⟨ix2 r q, Finset.mem_univ _, (emb4 t r q).trans h⟩⟩

end Cert.DhIdeal.Run

end
-- ==== Proof.Ffn.lean ====
/-
  The runs of the feed-forward layer's calls and of their references: the projections with the gated product, the second product
  added to the input, and the gradient of the input.
-/
module

public import proofs.«01_k».proof.Defs
public import proofs.«01_k».proof.Proof.UpValue
public import proofs.«01_k».proof.Proof.DownValue
public import proofs.«01_k».proof.Proof.DhValue
public import proofs.«01_k».proof.Proof.Gen.Dh.Frame
public import proofs.«01_k».proof.Proof.Gen.Up.Frame
public import proofs.«01_k».proof.Proof.Gen.Down.Frame
public import proofs.«01_k».proof.Proof.Gen.DhReferenceIdeal.Run
public import proofs.«01_k».proof.Proof.Gen.UpReferenceIdeal.Run
public import proofs.«01_k».proof.Proof.Gen.DownReferenceIdeal.Run
public import Idealize.ShloMosaic.Lib.Quiescent

@[expose] public section

set_option maxRecDepth 16384

noncomputable section

namespace Cert.Proof

open Idealize.ShloMosaic Idealize.SL.Sem
open Cert.GateReferenceIdeal.Real (logis logis_apply)

/-- The gated product as the reference writes it, for any two projections. -/
theorem gated_mat (A B : FVec Ideal Cert.UpIdeal.S8192x5632 .f32) (hb : FTy.bits .bf16 < FTy.bits .f32) :
    (truncf .bf16 (mulf (mulf A (logis A)) B) hb : FVec Ideal Cert.UpIdeal.S8192x5632 .bf16)
      = fun i => Cert.UpIdeal.Run.gated (A i) (B i) := by
  funext i
  show A i * logis A i * B i = _
  rw [logis_apply]; rfl

/-- Each reference reaches its end with its arguments unchanged and no counter left over. -/
theorem frame_up_ri : Cert.quiescent_UpReferenceIdeal := fun m ρ _ =>
  (θ_run Cert.UpReferenceIdeal.defs _ _).mono
    (fun r h => ⟨fun c => (h c).2.2.2, sem_eq_zero_of_no_sems (by decide) r.2⟩)
    (Cert.UpReferenceIdeal.Value.run (F := Ideal) m ρ)
theorem frame_down_ri : Cert.quiescent_DownReferenceIdeal := fun m ρ _ =>
  (θ_run Cert.DownReferenceIdeal.defs _ _).mono
    (fun r h => ⟨fun c => (h c).2, sem_eq_zero_of_no_sems (by decide) r.2⟩)
    (Cert.DownReferenceIdeal.Value.run (F := Ideal) m ρ)
theorem frame_dh_ri : Cert.quiescent_DhReferenceIdeal := fun m ρ _ =>
  (θ_run Cert.DhReferenceIdeal.defs _ _).mono
    (fun r h => ⟨fun c => (h c).2, sem_eq_zero_of_no_sems (by decide) r.2⟩)
    (Cert.DhReferenceIdeal.Value.run (F := Ideal) m ρ)

/-- The projections' kernel and its reference end with the same two projections and the same gated product. -/
theorem algebraic_up : Cert.algebraic_UpIdeal_UpReferenceIdeal := by
  intro m ρ m' ρ' _ hargs
  refine ⟨Cert.UpIdeal.Run.aArr m, Cert.UpIdeal.Run.bArr m, Cert.UpIdeal.Run.sArr m, ?_, ?_⟩
  · refine (θ_run Cert.UpIdeal.defs _ _).mono (fun r h c => ?_) (Cert.UpIdeal.Value.run_blocks (F := Ideal) m ρ)
    obtain ⟨h0, h1, h2, h3⟩ := h c
    exact ⟨h0.trans (Cert.UpIdeal.Run.a_array m c), h1.trans (Cert.UpIdeal.Run.b_array m c), h2.trans (Cert.UpIdeal.Run.s_array m c), h3⟩
  · refine (θ_run Cert.UpReferenceIdeal.defs _ _).mono (fun r h c => ?_) (Cert.UpReferenceIdeal.Value.run (F := Ideal) m' ρ')
    obtain ⟨h0, h1, h2, h3⟩ := h c
    obtain ⟨e0, e1, e2⟩ := hargs c
    rw [e0, e1] at h0
    rw [e0, e2] at h1
    rw [e0, e1, e2] at h2
    exact ⟨h0, h1, h2.trans (gated_mat (Cert.UpIdeal.Run.projA m c) (Cert.UpIdeal.Run.projB m c) _), h3⟩

/-- The second product's kernel and its reference end with the same layer output. -/
theorem algebraic_down : Cert.algebraic_DownIdeal_DownReferenceIdeal := by
  intro m ρ m' ρ' _ hargs
  refine ⟨Cert.DownIdeal.Run.xArr m, ?_, ?_⟩
  · refine (θ_run Cert.DownIdeal.defs _ _).mono (fun r h c => ?_) (Cert.DownIdeal.Value.run_blocks (F := Ideal) m ρ)
    obtain ⟨h0, h1⟩ := h c
    exact ⟨h0.trans (Cert.DownIdeal.Run.x_array m c), h1⟩
  · refine (θ_run Cert.DownReferenceIdeal.defs _ _).mono (fun r h c => ?_) (Cert.DownReferenceIdeal.Value.run (F := Ideal) m' ρ')
    obtain ⟨h0, h1⟩ := h c
    obtain ⟨e0, e1, e2, e3, e4⟩ := hargs c
    rw [e0, e1, e2, e3, e4] at h0
    exact ⟨h0, h1⟩

/-- The input gradient's kernel and its reference end with the same gradient. -/
theorem algebraic_dh : Cert.algebraic_DhIdeal_DhReferenceIdeal := by
  intro m ρ m' ρ' _ hargs
  refine ⟨Cert.DhIdeal.Run.dhArr m, ?_, ?_⟩
  · refine (θ_run Cert.DhIdeal.defs _ _).mono (fun r h c => ?_) (Cert.DhIdeal.Value.run_blocks (F := Ideal) m ρ)
    obtain ⟨h0, h1⟩ := h c
    exact ⟨h0.trans (Cert.DhIdeal.Run.dh_array m c), h1⟩
  · refine (θ_run Cert.DhReferenceIdeal.defs _ _).mono (fun r h c => ?_) (Cert.DhReferenceIdeal.Value.run (F := Ideal) m' ρ')
    obtain ⟨h0, h1⟩ := h c
    obtain ⟨e0, e1, e2, e3, e4⟩ := hargs c
    rw [e0, e1, e2, e3, e4] at h0
    exact ⟨h0, h1⟩

end Cert.Proof

end
-- ==== Proof.DwValue.lean ====
/-
  The gradient of a gate's weights, block by block: each block of the launch is visited four times, once for each quarter of the
  rows, and the four visits' products are added in turn. The launch writes the lower layer's half of an array whose other half it
  leaves as it was.
-/
module

public import proofs.«01_k».proof.Proof.Crossed
public import proofs.«01_k».proof.Proof.Gen.DwIdeal.Value
public import proofs.«01_k».proof.Proof.Gen.DwIdeal.Frame
public import Idealize.ShloMosaic.Lib.Pipeline.ValueKit.Acc

@[expose] public section

set_option maxRecDepth 16384

noncomputable section

namespace Cert.DwIdeal.Run

open Cert.DwIdeal Cert.DwIdeal.Gen Cert.Crossed
open Idealize.ShloMosaic hiding ix2 eq_ix2 ix5 eq_ix5
open Idealize.ShloMosaic.ValueIdx Idealize.ShloMosaic.TcCoe Idealize.ShloMosaic.StableHlo
open Idealize.SL.Sem

/-! ## A block -/

/-- The block of the product the kernel makes at a point. -/
theorem pay1_apply (X : FVec Ideal S2048x512 .bf16) (G : FVec Ideal S2048x1408 .bf16) (r : Fin 512) (q : Fin 1408) :
    k0_pay1 (F := Ideal) X G (ix2 r q) = ∑ k : Fin 2048, X (ix2 k r) * G (ix2 k q) := by
  unfold k0_pay1
  rw [shapeCast_self, shapeCast_self]
  exact matmul_apply _ X G r q

theorem pay2_eq (X : FVec Ideal S2048x512 .bf16) (G : FVec Ideal S2048x1408 .bf16) : k0_pay2 (F := Ideal) X G = k0_pay1 (F := Ideal) X G := by
  unfold k0_pay2; rw [shapeCast_self]

theorem pay3_apply (X : FVec Ideal S2048x512 .bf16) (G : FVec Ideal S2048x1408 .bf16) (Z : FVec Ideal S512x1408 .f32) (y : S512x1408.Idx) :
    k0_pay3 (F := Ideal) X G Z y = Z y + k0_pay1 (F := Ideal) X G y := by
  unfold k0_pay3; rw [shapeCast_self]; rfl

theorem pay4_apply (Z : FVec Ideal S512x1408 .f32) (u v w : Fin 1) (r : Fin 512) (q : Fin 1408) :
    k0_pay4 (F := Ideal) Z (ix5 u v w r q) = Z (ix2 r q) := by
  unfold k0_pay4
  refine shapeCast_apply Z _ _ _ ?_
  rw [Shape.rowMajor_val_five, Shape.rowMajor_val_two]
  show r.val * 1408 + q.val = (((u.val * 1 + v.val) * 1 + w.val) * 512 + r.val) * 1408 + q.val
  omega

variable (m : (ℓ : Loc nD τ sig) → Buf (Elt Ideal) ℓ) (c : Dev nD)

/-- The product of a point's blocks. -/
def part (t : Fin cfg0.N) : FVec Ideal S512x1408 .f32 := k0_pay1 (F := Ideal) (iblk m c 0 t) (iblk m c 1 t)

/-- The point before. -/
abbrev prev (t : Fin cfg0.N) : Fin cfg0.N := ⟨t.val - 1, Nat.lt_of_le_of_lt (Nat.sub_le _ _) t.isLt⟩

theorem first (t : Fin cfg0.N) (h : t.val % 4 = 0) : (outsAt0 m c t.val t.isLt).2 = part m c t := by
  rw [outsAt0_A m c t h (by omega) (by omega)]
  frame_out
  exact pay2_eq _ _

theorem next (t : Fin cfg0.N) (h : 1 ≤ t.val % 4) (h' : ¬ t.val % 4 = 3) (y : S512x1408.Idx) :
    (outsAt0 m c t.val t.isLt).2 y = (outsAt0 m c (prev t).val (prev t).isLt).2 y + part m c t y := by
  rw [outsAt0_B m c t (by omega) h h']
  frame_out
  exact (pay3_apply _ _ _ y).trans (congrArg (· + part m c t y) (congrFun (Memref.IsWhole.read_unread (Val := Elt Ideal) (Memref.isWhole_whole cc0_scratch0) _) y))

theorem last (t : Fin cfg0.N) (h : t.val % 4 = 3) (u v w : Fin 1) (r : Fin 512) (q : Fin 1408) :
    (outsAt0 m c t.val t.isLt).1 (ix5 u v w r q) = (outsAt0 m c (prev t).val (prev t).isLt).2 (ix2 r q) + part m c t (ix2 r q) := by
  rw [outsAt0_C m c t (by omega) (by omega) h]
  frame_out
  refine (pay4_apply _ u v w r q).trans ?_
  exact (pay3_apply _ _ _ (ix2 r q)).trans (congrArg (· + part m c t (ix2 r q)) (congrFun (Memref.IsWhole.read_unread (Val := Elt Ideal) (Memref.isWhole_whole cc0_scratch0) _) (ix2 r q)))

/-! ## The arguments -/

abbrev arg0 : FVec Ideal S8192x2048 .f32 := m ((c.tc : Thread nD τ).loc main_arg0)
abbrev arg2 : FVec Ideal S4x2x2x1024x1408 .f32 := m ((c.tc : Thread nD τ).loc main_arg2)
abbrev arg1 : FVec Ideal S8192x5632 .f32 := m ((c.tc : Thread nD τ).loc main_arg1)

theorem V_v0 : V m c main_v0 = (truncf .bf16 (arg0 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v1 : V m c main_v1 = (truncf .bf16 (arg1 m c) bitsLt_bf16_f32 : FVec Ideal S8192x5632 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 4 ∧ (cfg0.win 0).index t 1 = t.val / 16 :=
  (by decide +kernel : ∀ t : Fin grid0.N, (cfg0.win 0).index t 0 = t.val % 4 ∧ (cfg0.win 0).index t 1 = t.val / 16)
theorem where1 : ∀ t : Fin cfg0.N, (cfg0.win 1).index t 0 = t.val % 4 ∧ (cfg0.win 1).index t 1 = t.val % 16 / 4 :=
  (by decide +kernel : ∀ t : Fin grid0.N, (cfg0.win 1).index t 0 = t.val % 4 ∧ (cfg0.win 1).index t 1 = t.val % 16 / 4)
theorem where2 : ∀ t : Fin cfg0.N, (cfg0.win 2).index t 0 = t.val % 16 / 4 ∧ (cfg0.win 2).index t 1 = t.val / 32 ∧ (cfg0.win 2).index t 2 = 0
    ∧ (cfg0.win 2).index t 3 = t.val / 16 % 2 ∧ (cfg0.win 2).index t 4 = 0 :=
  (by decide +kernel : ∀ t : Fin grid0.N, (cfg0.win 2).index t 0 = t.val % 16 / 4 ∧ (cfg0.win 2).index t 1 = t.val / 32 ∧ (cfg0.win 2).index t 2 = 0
    ∧ (cfg0.win 2).index t 3 = t.val / 16 % 2 ∧ (cfg0.win 2).index t 4 = 0)

/-- The quarter of the rows a point sums over, and the row and the column of the weights of a place in a block. -/
def side (t : Fin cfg0.N) : Fin 4 := ⟨t.val % 4, by omega⟩
def row (t : Fin cfg0.N) (r : Fin 512) : Fin 2048 := ⟨t.val / 16 * 512 + r.val, by have : t.val < 64 := t.isLt.trans_eq N_0; omega⟩
def col (t : Fin cfg0.N) (q : Fin 1408) : Fin 5632 := ⟨t.val % 16 / 4 * 1408 + q.val, by omega⟩

theorem blk_h (t : Fin cfg0.N) (k : Fin 2048) (r : Fin 512) :
    (iblk m c 0 t : FVec Ideal S2048x512 .bf16) (ix2 k r) = arg0 m c (ix2 (tick (side t) k) (row t r)) := by
  obtain ⟨w0, w1⟩ := where0 t
  refine (congrFun (V_v0 m c) (((cfg0.win 0).rect t).emb (ix2 k r))).trans (congrArg (arg0 m c) ?_)
  funext a
  match a with
  | ⟨0, _⟩ => exact Fin.ext ((Pipeline.Window.rect_emb_val (cfg0.win 0) t (ix2 k r) 0).trans (by rw [w0]; rfl))
  | ⟨1, _⟩ => exact Fin.ext ((Pipeline.Window.rect_emb_val (cfg0.win 0) t (ix2 k r) 1).trans (by rw [w1]; rfl))

theorem blk_g (t : Fin cfg0.N) (k : Fin 2048) (q : Fin 1408) :
    (iblk m c 1 t : FVec Ideal S2048x1408 .bf16) (ix2 k q) = arg1 m c (ix2 (tick (side t) k) (col t q)) := by
  obtain ⟨w0, w1⟩ := where1 t
  refine (congrFun (V_v1 m c) (((cfg0.win 1).rect t).emb (ix2 k q))).trans (congrArg (arg1 m c) ?_)
  funext a
  match a with
  | ⟨0, _⟩ => exact Fin.ext ((Pipeline.Window.rect_emb_val (cfg0.win 1) t (ix2 k q) 0).trans (by rw [w0]; rfl))
  | ⟨1, _⟩ => exact Fin.ext ((Pipeline.Window.rect_emb_val (cfg0.win 1) t (ix2 k q) 1).trans (by rw [w1]; rfl))

/-! ## The array -/

/-- What one quarter of the rows gives of the gradient at a row and a column of the weights. -/
def quarter (e : Fin 4) (i : Fin 2048) (j : Fin 5632) : EReal :=
  ∑ k : Fin 2048, arg0 m c (ix2 (tick e k) i) * arg1 m c (ix2 (tick e k) j)

theorem part_quarter (t : Fin cfg0.N) (r : Fin 512) (q : Fin 1408) : part m c t (ix2 r q) = quarter m c (side t) (row t r) (col t q) :=
  (pay1_apply _ _ r q).trans (Finset.sum_congr rfl fun k _ => congrArg₂ (fun x y : EReal => x * y) (blk_h m c t k r) (blk_g m c t k q))

/-- The gradient at a row and a column of the weights. -/
def grad (i : Fin 2048) (j : Fin 5632) : EReal := ∑ k : Fin 8192, arg0 m c (ix2 k i) * arg1 m c (ix2 k j)

/-- A quarter of an earlier visit to the same block. -/
theorem part_before (t s : Fin cfg0.N) (e : Fin 4) (hs : s.val / 4 = t.val / 4) (he : s.val % 4 = e.val) (r : Fin 512) (q : Fin 1408) :
    part m c s (ix2 r q) = quarter m c e (row t r) (col t q) := by
  rw [part_quarter]
  have e1 : side s = e := Fin.ext he
  have e2 : row s r = row t r := Fin.ext (by show s.val / 16 * 512 + r.val = t.val / 16 * 512 + r.val; omega)
  have e3 : col s q = col t q := Fin.ext (by show s.val % 16 / 4 * 1408 + q.val = t.val % 16 / 4 * 1408 + q.val; omega)
  rw [e1, e2, e3]

theorem point (t : Fin cfg0.N) (h : t.val % 4 = 3) (u v w : Fin 1) (r : Fin 512) (q : Fin 1408) :
    (outsAt0 m c t.val t.isLt).1 (ix5 u v w r q) = grad m c (row t r) (col t q) := by
  rw [last m c t h, next m c (prev t) (by show 1 ≤ (t.val - 1) % 4; omega) (by show ¬ (t.val - 1) % 4 = 3; omega),
    next m c (prev (prev t)) (by show 1 ≤ (t.val - 1 - 1) % 4; omega) (by show ¬ (t.val - 1 - 1) % 4 = 3; omega),
    first m c (prev (prev (prev t))) (by show (t.val - 1 - 1 - 1) % 4 = 0; omega),
    part_before m c t t 3 rfl h, part_before m c t (prev t) 2 (by show (t.val - 1) / 4 = t.val / 4; omega) (by show (t.val - 1) % 4 = 2; omega),
    part_before m c t (prev (prev t)) 1 (by show (t.val - 1 - 1) / 4 = t.val / 4; omega) (by show (t.val - 1 - 1) % 4 = 1; omega),
    part_before m c t (prev (prev (prev t))) 0 (by show (t.val - 1 - 1 - 1) / 4 = t.val / 4; omega) (by show (t.val - 1 - 1 - 1) % 4 = 0; omega)]
  exact (sum_quarters fun k => arg0 m c (ix2 k (row t r)) * arg1 m c (ix2 k (col t q))).symm

/-- The gradient at the place of the array that holds a device, a half, a row and a column. -/
def gradAt (d : Fin 4) (e : Fin 2) (a : Fin 1024) (b : Fin 1408) : EReal :=
  grad m c ⟨e.val * 1024 + a.val, by omega⟩ ⟨d.val * 1408 + b.val, by omega⟩

/-- The result as a whole array: by the device that keeps the columns, the half of the rows and the layer. The lower layer's is the
    gradient, the upper layer's what was there. -/
def dwArr : FVec Ideal S4x2x2x1024x1408 .f32 := fun i =>
  if (i 2).val = 0 then gradAt m c (i 0) (i 1) (i 3) (i 4) else arg2 m c i

/-- The place in the result array of a place in a block. -/
def at' (t : Fin cfg0.N) (r : Fin 512) (q : Fin 1408) : S4x2x2x1024x1408.Idx :=
  ix5 (⟨t.val % 16 / 4, by omega⟩ : Fin 4) (⟨t.val / 32, by have : t.val < 64 := t.isLt.trans_eq N_0; omega⟩ : Fin 2) (0 : Fin 2)
    (⟨t.val / 16 % 2 * 512 + r.val, by omega⟩ : Fin 1024) q

theorem arr_at (t : Fin cfg0.N) (r : Fin 512) (q : Fin 1408) : dwArr m c (at' t r q) = grad m c (row t r) (col t q) :=
  (if_pos rfl).trans (congrArg₂ (grad m c)
    (Fin.ext (by show t.val / 32 * 1024 + (t.val / 16 % 2 * 512 + r.val) = t.val / 16 * 512 + r.val; omega)) (Fin.ext rfl))

theorem emb2 (t : Fin cfg0.N) (u v w : Fin 1) (r : Fin 512) (q : Fin 1408) : ((cfg0.win 2).rect t).emb (ix5 u v w r q) = at' t r q := by
  obtain ⟨w0, w1, w2, w3, w4⟩ := where2 t
  have hu : u.val = 0 := by omega
  have hv : v.val = 0 := by omega
  have hw : w.val = 0 := by omega
  funext a
  match a with
  | ⟨0, _⟩ => exact Fin.ext ((Pipeline.Window.rect_emb_val (cfg0.win 2) t (ix5 u v w r q) 0).trans (by rw [w0]; show t.val % 16 / 4 * 1 + u.val = t.val % 16 / 4; omega))
  | ⟨1, _⟩ => exact Fin.ext ((Pipeline.Window.rect_emb_val (cfg0.win 2) t (ix5 u v w r q) 1).trans (by rw [w1]; show t.val / 32 * 1 + v.val = t.val / 32; omega))
  | ⟨2, _⟩ => exact Fin.ext ((Pipeline.Window.rect_emb_val (cfg0.win 2) t (ix5 u v w r q) 2).trans (by rw [w2]; show 0 * 1 + w.val = 0; omega))
  | ⟨3, _⟩ => exact Fin.ext ((Pipeline.Window.rect_emb_val (cfg0.win 2) t (ix5 u v w r q) 3).trans (by rw [w3]; rfl))
  | ⟨4, _⟩ => exact Fin.ext ((Pipeline.Window.rect_emb_val (cfg0.win 2) t (ix5 u v w r q) 4).trans (by rw [w4]; show 0 * 1408 + q.val = q.val; omega))

/-- The point that writes the block holding a place of the lower layer, and where in the block. -/
theorem exists_at (i : S4x2x2x1024x1408.Idx) (hi : (i 2).val = 0) : ∃ (t : Fin cfg0.N) (r : Fin 512) (q : Fin 1408), t.val % 4 = 3 ∧ at' t r q = i := by
  have h0 : (i 0).val < 4 := (i 0).isLt
  have h1 : (i 1).val < 2 := (i 1).isLt
  have h3 : (i 3).val < 1024 := (i 3).isLt
  refine ⟨⟨(i 1).val * 32 + (i 3).val / 512 * 16 + (i 0).val * 4 + 3, by show _ < grid0.N; rw [N_0]; omega⟩, ⟨(i 3).val % 512, by omega⟩, i 4,
    by show ((i 1).val * 32 + (i 3).val / 512 * 16 + (i 0).val * 4 + 3) % 4 = 3; omega, ?_⟩
  funext a
  match a with
  | ⟨0, _⟩ => exact Fin.ext (by show ((i 1).val * 32 + (i 3).val / 512 * 16 + (i 0).val * 4 + 3) % 16 / 4 = (i 0).val; omega)
  | ⟨1, _⟩ => exact Fin.ext (by show ((i 1).val * 32 + (i 3).val / 512 * 16 + (i 0).val * 4 + 3) / 32 = (i 1).val; omega)
  | ⟨2, _⟩ => exact Fin.ext hi.symm
  | ⟨3, _⟩ => exact Fin.ext (by show ((i 1).val * 32 + (i 3).val / 512 * 16 + (i 0).val * 4 + 3) / 16 % 2 * 512 + (i 3).val % 512 = (i 3).val; omega)
  | ⟨4, _⟩ => rfl

/-- A point's block lies in the lower layer. -/
theorem layer_of_mem (t : Fin cfg0.N) (i : S4x2x2x1024x1408.Idx) (h : i ∈ ((cfg0.win 2).blk t).view.set) : (i 2).val = 0 := by
  obtain ⟨y, _, rfl⟩ := Finset.mem_map.mp h
  obtain ⟨u, v, w, r, q, rfl⟩ : ∃ (u v w : Fin 1) (r : Fin 512) (q : Fin 1408), y = ix5 u v w r q := ⟨y 0, y 1, y 2, y 3, y 4, eq_ix5 y⟩
  exact congrArg (fun k : S4x2x2x1024x1408.Idx => (k 2).val) (emb2 t u v w r q)

theorem V_v2 : V m c main_v2 = arg2 m c := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem dw_array : (dats (F := Ideal) m 0 c).arrAt 2 cfg0.N = dwArr m c := by
  funext i
  by_cases hi : (i 2).val = 0
  · obtain ⟨t, r, q, ht, h⟩ := exists_at i hi
    refine Pipeline.Dat.arrAt_apply_of_mem (dats m 0 c) 2 (dwArr m c) (fun t ht => ?_) cfg0.N t i t.isLt ((flush0_2 t).mpr ht)
      (Finset.mem_map.mpr ⟨ix5 0 0 0 r q, Finset.mem_univ _, (emb2 t 0 0 0 r q).trans h⟩)
    rw [Value.flushed2]
    funext y
    obtain ⟨u, v, w, r, q, rfl⟩ : ∃ (u v w : Fin 1) (r : Fin 512) (q : Fin 1408), y = ix5 u v w r q := ⟨y 0, y 1, y 2, y 3, y 4, eq_ix5 y⟩
    exact (point m c t ((flush0_2 t).mp ht) u v w r q).trans ((arr_at m c t r q).symm.trans (congrArg (dwArr m c) (emb2 t u v w r q)).symm)
  · refine (Value.entry2 m c i fun t _ h => hi (layer_of_mem t i h)).trans ?_
    exact (congrFun (V_v2 m c) i).trans (if_neg hi).symm

end Cert.DwIdeal.Run

end
-- ==== Proof.DwinValue.lean ====
/-
  The gradient of the input projection's weights, block by block: each block of the launch is visited four times, once for each
  quarter of the rows, and the four visits' products are added in turn.
-/
module

public import proofs.«01_k».proof.Proof.Crossed
public import proofs.«01_k».proof.Proof.Gen.DwinIdeal.Value
public import proofs.«01_k».proof.Proof.Gen.DwinIdeal.Frame
public import Idealize.ShloMosaic.Lib.Pipeline.ValueKit.Acc

@[expose] public section

set_option maxRecDepth 16384

noncomputable section

namespace Cert.DwinIdeal.Run

open Cert.DwinIdeal Cert.DwinIdeal.Gen Cert.Crossed
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of the product the kernel makes at a point. -/
theorem pay1_apply (X : FVec Ideal S2048x512 .bf16) (G : FVec Ideal S2048x1792 .bf16) (r : Fin 512) (q : Fin 1792) :
    k0_pay1 (F := Ideal) X G (ix2 r q) = ∑ k : Fin 2048, X (ix2 k r) * G (ix2 k q) := by
  unfold k0_pay1
  rw [shapeCast_self, shapeCast_self]
  exact matmul_apply _ X G r q

theorem pay2_eq (X : FVec Ideal S2048x512 .bf16) (G : FVec Ideal S2048x1792 .bf16) : k0_pay2 (F := Ideal) X G = k0_pay1 (F := Ideal) X G := by
  unfold k0_pay2; rw [shapeCast_self]

theorem pay3_apply (X : FVec Ideal S2048x512 .bf16) (G : FVec Ideal S2048x1792 .bf16) (Z : FVec Ideal S512x1792 .f32) (y : S512x1792.Idx) :
    k0_pay3 (F := Ideal) X G Z y = Z y + k0_pay1 (F := Ideal) X G y := by
  unfold k0_pay3; rw [shapeCast_self]; rfl

theorem pay4_apply (Z : FVec Ideal S512x1792 .f32) (u v : Fin 1) (r : Fin 512) (q : Fin 1792) :
    k0_pay4 (F := Ideal) Z (ix4 u v r q) = Z (ix2 r q) := by
  unfold k0_pay4
  refine shapeCast_apply Z _ _ _ ?_
  rw [Shape.rowMajor_val_four, Shape.rowMajor_val_two]
  show r.val * 1792 + q.val = ((u.val * 1 + v.val) * 512 + r.val) * 1792 + q.val
  omega

variable (m : (ℓ : Loc nD τ sig) → Buf (Elt Ideal) ℓ) (c : Dev nD)

/-- The product of a point's blocks. -/
def part (t : Fin cfg0.N) : FVec Ideal S512x1792 .f32 := k0_pay1 (F := Ideal) (iblk m c 0 t) (iblk m c 1 t)

/-- The point before. -/
abbrev prev (t : Fin cfg0.N) : Fin cfg0.N := ⟨t.val - 1, Nat.lt_of_le_of_lt (Nat.sub_le _ _) t.isLt⟩

theorem first (t : Fin cfg0.N) (h : t.val % 4 = 0) : (outsAt0 m c t.val t.isLt).2 = part m c t := by
  rw [outsAt0_A m c t h (by omega) (by omega)]
  frame_out
  exact pay2_eq _ _

theorem next (t : Fin cfg0.N) (h : 1 ≤ t.val % 4) (h' : ¬ t.val % 4 = 3) (y : S512x1792.Idx) :
    (outsAt0 m c t.val t.isLt).2 y = (outsAt0 m c (prev t).val (prev t).isLt).2 y + part m c t y := by
  rw [outsAt0_B m c t (by omega) h h']
  frame_out
  exact (pay3_apply _ _ _ y).trans (congrArg (· + part m c t y) (congrFun (Memref.IsWhole.read_unread (Val := Elt Ideal) (Memref.isWhole_whole cc0_scratch0) _) y))

theorem last (t : Fin cfg0.N) (h : t.val % 4 = 3) (u v : Fin 1) (r : Fin 512) (q : Fin 1792) :
    (outsAt0 m c t.val t.isLt).1 (ix4 u v r q) = (outsAt0 m c (prev t).val (prev t).isLt).2 (ix2 r q) + part m c t (ix2 r q) := by
  rw [outsAt0_C m c t (by omega) (by omega) h]
  frame_out
  refine (pay4_apply _ u v r q).trans ?_
  exact (pay3_apply _ _ _ (ix2 r q)).trans (congrArg (· + part m c t (ix2 r q)) (congrFun (Memref.IsWhole.read_unread (Val := Elt Ideal) (Memref.isWhole_whole cc0_scratch0) _) (ix2 r q)))

/-! ## The arguments -/

abbrev arg0 : FVec Ideal S8192x2048 .f32 := m ((c.tc : Thread nD τ).loc main_arg0)
abbrev arg1 : FVec Ideal S8192x7168 .f32 := m ((c.tc : Thread nD τ).loc main_arg1)

theorem V_v0 : V m c main_v0 = (truncf .bf16 (arg0 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v1 : V m c main_v1 = (truncf .bf16 (arg1 m c) bitsLt_bf16_f32 : FVec Ideal S8192x7168 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 4 ∧ (cfg0.win 0).index t 1 = t.val / 16 :=
  (by decide +kernel : ∀ t : Fin grid0.N, (cfg0.win 0).index t 0 = t.val % 4 ∧ (cfg0.win 0).index t 1 = t.val / 16)
theorem where1 : ∀ t : Fin cfg0.N, (cfg0.win 1).index t 0 = t.val % 4 ∧ (cfg0.win 1).index t 1 = t.val % 16 / 4 :=
  (by decide +kernel : ∀ t : Fin grid0.N, (cfg0.win 1).index t 0 = t.val % 4 ∧ (cfg0.win 1).index t 1 = t.val % 16 / 4)
theorem where2 : ∀ t : Fin cfg0.N, (cfg0.win 2).index t 0 = t.val % 16 / 4 ∧ (cfg0.win 2).index t 1 = t.val / 32 ∧ (cfg0.win 2).index t 2 = t.val / 16 % 2 ∧ (cfg0.win 2).index t 3 = 0 :=
  (by decide +kernel : ∀ t : Fin grid0.N, (cfg0.win 2).index t 0 = t.val % 16 / 4 ∧ (cfg0.win 2).index t 1 = t.val / 32 ∧ (cfg0.win 2).index t 2 = t.val / 16 % 2 ∧ (cfg0.win 2).index t 3 = 0)

/-- The quarter of the rows a point sums over, and the row and the column of the weights of a place in a block. -/
def side (t : Fin cfg0.N) : Fin 4 := ⟨t.val % 4, by omega⟩
def row (t : Fin cfg0.N) (r : Fin 512) : Fin 2048 := ⟨t.val / 16 * 512 + r.val, by have : t.val < 64 := t.isLt.trans_eq N_0; omega⟩
def col (t : Fin cfg0.N) (q : Fin 1792) : Fin 7168 := ⟨t.val % 16 / 4 * 1792 + q.val, by omega⟩

theorem blk_h (t : Fin cfg0.N) (k : Fin 2048) (r : Fin 512) :
    (iblk m c 0 t : FVec Ideal S2048x512 .bf16) (ix2 k r) = arg0 m c (ix2 (tick (side t) k) (row t r)) := by
  obtain ⟨w0, w1⟩ := where0 t
  refine (congrFun (V_v0 m c) (((cfg0.win 0).rect t).emb (ix2 k r))).trans (congrArg (arg0 m c) ?_)
  funext a
  match a with
  | ⟨0, _⟩ => exact Fin.ext ((Pipeline.Window.rect_emb_val (cfg0.win 0) t (ix2 k r) 0).trans (by rw [w0]; rfl))
  | ⟨1, _⟩ => exact Fin.ext ((Pipeline.Window.rect_emb_val (cfg0.win 0) t (ix2 k r) 1).trans (by rw [w1]; rfl))

theorem blk_g (t : Fin cfg0.N) (k : Fin 2048) (q : Fin 1792) :
    (iblk m c 1 t : FVec Ideal S2048x1792 .bf16) (ix2 k q) = arg1 m c (ix2 (tick (side t) k) (col t q)) := by
  obtain ⟨w0, w1⟩ := where1 t
  refine (congrFun (V_v1 m c) (((cfg0.win 1).rect t).emb (ix2 k q))).trans (congrArg (arg1 m c) ?_)
  funext a
  match a with
  | ⟨0, _⟩ => exact Fin.ext ((Pipeline.Window.rect_emb_val (cfg0.win 1) t (ix2 k q) 0).trans (by rw [w0]; rfl))
  | ⟨1, _⟩ => exact Fin.ext ((Pipeline.Window.rect_emb_val (cfg0.win 1) t (ix2 k q) 1).trans (by rw [w1]; rfl))

/-! ## The array -/

/-- What one quarter of the rows gives of the gradient at a row and a column of the weights. -/
def quarter (e : Fin 4) (i : Fin 2048) (j : Fin 7168) : EReal :=
  ∑ k : Fin 2048, arg0 m c (ix2 (tick e k) i) * arg1 m c (ix2 (tick e k) j)

theorem part_quarter (t : Fin cfg0.N) (r : Fin 512) (q : Fin 1792) : part m c t (ix2 r q) = quarter m c (side t) (row t r) (col t q) :=
  (pay1_apply _ _ r q).trans (Finset.sum_congr rfl fun k _ => congrArg₂ (fun x y : EReal => x * y) (blk_h m c t k r) (blk_g m c t k q))

/-- The gradient at a row and a column of the weights. -/
def grad (i : Fin 2048) (j : Fin 7168) : EReal := ∑ k : Fin 8192, arg0 m c (ix2 k i) * arg1 m c (ix2 k j)

/-- A quarter of an earlier visit to the same block. -/
theorem part_before (t s : Fin cfg0.N) (e : Fin 4) (hs : s.val / 4 = t.val / 4) (he : s.val % 4 = e.val) (r : Fin 512) (q : Fin 1792) :
    part m c s (ix2 r q) = quarter m c e (row t r) (col t q) := by
  rw [part_quarter]
  have e1 : side s = e := Fin.ext he
  have e2 : row s r = row t r := Fin.ext (by show s.val / 16 * 512 + r.val = t.val / 16 * 512 + r.val; omega)
  have e3 : col s q = col t q := Fin.ext (by show s.val % 16 / 4 * 1792 + q.val = t.val % 16 / 4 * 1792 + q.val; omega)
  rw [e1, e2, e3]

theorem point (t : Fin cfg0.N) (h : t.val % 4 = 3) (u v : Fin 1) (r : Fin 512) (q : Fin 1792) :
    (outsAt0 m c t.val t.isLt).1 (ix4 u v r q) = grad m c (row t r) (col t q) := by
  rw [last m c t h, next m c (prev t) (by show 1 ≤ (t.val - 1) % 4; omega) (by show ¬ (t.val - 1) % 4 = 3; omega),
    next m c (prev (prev t)) (by show 1 ≤ (t.val - 1 - 1) % 4; omega) (by show ¬ (t.val - 1 - 1) % 4 = 3; omega),
    first m c (prev (prev (prev t))) (by show (t.val - 1 - 1 - 1) % 4 = 0; omega),
    part_before m c t t 3 rfl h, part_before m c t (prev t) 2 (by show (t.val - 1) / 4 = t.val / 4; omega) (by show (t.val - 1) % 4 = 2; omega),
    part_before m c t (prev (prev t)) 1 (by show (t.val - 1 - 1) / 4 = t.val / 4; omega) (by show (t.val - 1 - 1) % 4 = 1; omega),
    part_before m c t (prev (prev (prev t))) 0 (by show (t.val - 1 - 1 - 1) / 4 = t.val / 4; omega) (by show (t.val - 1 - 1 - 1) % 4 = 0; omega)]
  exact (sum_quarters fun k => arg0 m c (ix2 k (row t r)) * arg1 m c (ix2 k (col t q))).symm

/-- The result as a whole array: by the device that keeps the columns, then the half of the rows. -/
def dwArr : FVec Ideal S4x2x1024x1792 .f32 := fun i =>
  grad m c ⟨(i 1).val * 1024 + (i 2).val, by have := (i 1).isLt; have := (i 2).isLt; dsimp at *; omega⟩
    ⟨(i 0).val * 1792 + (i 3).val, by have := (i 0).isLt; have := (i 3).isLt; dsimp at *; omega⟩

/-- The place in the result array of a place in a block. -/
def at' (t : Fin cfg0.N) (r : Fin 512) (q : Fin 1792) : S4x2x1024x1792.Idx :=
  ix4 (⟨t.val % 16 / 4, by omega⟩ : Fin 4) (⟨t.val / 32, by have : t.val < 64 := t.isLt.trans_eq N_0; omega⟩ : Fin 2)
    (⟨t.val / 16 % 2 * 512 + r.val, by omega⟩ : Fin 1024) q

theorem arr_at (t : Fin cfg0.N) (r : Fin 512) (q : Fin 1792) : dwArr m c (at' t r q) = grad m c (row t r) (col t q) :=
  congrArg₂ (grad m c) (Fin.ext (by show t.val / 32 * 1024 + (t.val / 16 % 2 * 512 + r.val) = t.val / 16 * 512 + r.val; omega)) (Fin.ext rfl)

theorem emb2 (t : Fin cfg0.N) (u v : Fin 1) (r : Fin 512) (q : Fin 1792) : ((cfg0.win 2).rect t).emb (ix4 u v r q) = at' t r q := by
  obtain ⟨w0, w1, w2, w3⟩ := where2 t
  have hu : u.val = 0 := by omega
  have hv : v.val = 0 := by omega
  funext a
  match a with
  | ⟨0, _⟩ => exact Fin.ext ((Pipeline.Window.rect_emb_val (cfg0.win 2) t (ix4 u v r q) 0).trans (by rw [w0]; show t.val % 16 / 4 * 1 + u.val = t.val % 16 / 4; omega))
  | ⟨1, _⟩ => exact Fin.ext ((Pipeline.Window.rect_emb_val (cfg0.win 2) t (ix4 u v r q) 1).trans (by rw [w1]; show t.val / 32 * 1 + v.val = t.val / 32; omega))
  | ⟨2, _⟩ => exact Fin.ext ((Pipeline.Window.rect_emb_val (cfg0.win 2) t (ix4 u v r q) 2).trans (by rw [w2]; rfl))
  | ⟨3, _⟩ => exact Fin.ext ((Pipeline.Window.rect_emb_val (cfg0.win 2) t (ix4 u v r q) 3).trans (by rw [w3]; show 0 * 1792 + q.val = q.val; omega))

/-- The point that writes the block holding a place, and where in the block. -/
theorem exists_at (i : S4x2x1024x1792.Idx) : ∃ (t : Fin cfg0.N) (r : Fin 512) (q : Fin 1792), t.val % 4 = 3 ∧ at' t r q = i := by
  have h0 : (i 0).val < 4 := (i 0).isLt
  have h1 : (i 1).val < 2 := (i 1).isLt
  have h2 : (i 2).val < 1024 := (i 2).isLt
  refine ⟨⟨(i 1).val * 32 + (i 2).val / 512 * 16 + (i 0).val * 4 + 3, by show _ < grid0.N; rw [N_0]; omega⟩, ⟨(i 2).val % 512, by omega⟩, i 3,
    by show ((i 1).val * 32 + (i 2).val / 512 * 16 + (i 0).val * 4 + 3) % 4 = 3; omega, ?_⟩
  funext a
  match a with
  | ⟨0, _⟩ => exact Fin.ext (by show ((i 1).val * 32 + (i 2).val / 512 * 16 + (i 0).val * 4 + 3) % 16 / 4 = (i 0).val; omega)
  | ⟨1, _⟩ => exact Fin.ext (by show ((i 1).val * 32 + (i 2).val / 512 * 16 + (i 0).val * 4 + 3) / 32 = (i 1).val; omega)
  | ⟨2, _⟩ => exact Fin.ext (by show ((i 1).val * 32 + (i 2).val / 512 * 16 + (i 0).val * 4 + 3) / 16 % 2 * 512 + (i 2).val % 512 = (i 2).val; omega)
  | ⟨3, _⟩ => rfl

theorem dw_array : (dats (F := Ideal) m 0 c).arrAt 2 cfg0.N = dwArr m c := by
  refine Pipeline.Dat.arrAt_eq_of_cover (dats m 0 c) 2 (dwArr m c) (fun t ht => ?_) fun i => ?_
  · rw [Value.flushed2]
    funext y
    obtain ⟨u, v, r, q, rfl⟩ : ∃ (u v : Fin 1) (r : Fin 512) (q : Fin 1792), y = ix4 u v r q := ⟨y 0, y 1, y 2, y 3, eq_ix4 y⟩
    exact (point m c t ((flush0_2 t).mp ht) u v r q).trans ((arr_at m c t r q).symm.trans (congrArg (dwArr m c) (emb2 t u v r q)).symm)
  · obtain ⟨t, r, q, ht, h⟩ := exists_at i
    exact ⟨t, (flush0_2 t).mpr ht, Finset.mem_map.mpr ⟨ix4 0 0 r q, Finset.mem_univ _, (emb2 t 0 0 r q).trans h⟩⟩

end Cert.DwinIdeal.Run

end
-- ==== Proof.Weights.lean ====
/-
  The runs of the weight gradients' calls and of their references: the reference makes the gradient as one matrix, cuts its rows in
  halves and its columns among the devices, and for the gates' weights stacks it with the upper layer's.
-/
module

public import proofs.«01_k».proof.Defs
public import proofs.«01_k».proof.Proof.DwValue
public import proofs.«01_k».proof.Proof.DwinValue
public import proofs.«01_k».proof.Proof.Gen.Dw.Frame
public import proofs.«01_k».proof.Proof.Gen.Dwin.Frame
public import proofs.«01_k».proof.Proof.Gen.DwReferenceIdeal.Run
public import proofs.«01_k».proof.Proof.Gen.DwinReferenceIdeal.Run
public import Idealize.ShloMosaic.Lib.Quiescent
public import Idealize.ShloMosaic.Lib.ValueLayout

@[expose] public section

set_option maxRecDepth 16384

noncomputable section

namespace Cert.Proof

open Idealize.ShloMosaic hiding ix2 eq_ix2 ix3 eq_ix3 ix4 eq_ix4 ix5 eq_ix5
open Idealize.ShloMosaic.ValueIdx Idealize.ShloMosaic.TcCoe Idealize.SL.Sem
open Cert.Crossed

/-- The gradient of the weights as the reference lays it out: the columns by device, the rows by half. -/
theorem cut_apply {N n : ℕ} (hN : N = 4 * n) (wf) (h : FVec Ideal ⟨2, ![8192, 2048]⟩ .f32) (g : FVec Ideal ⟨2, ![8192, N]⟩ .f32)
    (ht : (⟨2, ![N, 2048]⟩ : Shape).Transposes [1, 0] ⟨2, ![2048, N]⟩) (hs : (⟨2, ![2048, N]⟩ : Shape).ShapeCasts ⟨4, ![2, 1024, 4, n]⟩)
    (hu : (⟨4, ![2, 1024, 4, n]⟩ : Shape).Transposes [2, 0, 1, 3] ⟨4, ![4, 2, 1024, n]⟩)
    (d : Fin 4) (e : Fin 2) (a : Fin 1024) (b : Fin n) (i : Fin 2048) (j : Fin N) (hi : i.val = e.val * 1024 + a.val) (hj : j.val = d.val * n + b.val) :
    transpose ⟨4, ![4, 2, 1024, n]⟩ [2, 0, 1, 3] (shapeCast ⟨4, ![2, 1024, 4, n]⟩
      (transpose ⟨2, ![2048, N]⟩ [1, 0] (Host.dotGeneral (dims (K := 8192) (M := N) (N := 2048) wf) none g h) ht) hs) hu (ix4 d e a b)
      = ∑ k : Fin 8192, h (ix2 k i) * g (ix2 k j) := by
  refine (transpose_apply _ _ hu (ix4 d e a b) (ix4 e a d b) (fun x => ?_)).trans ?_
  · match x with
    | ⟨0, _⟩ => rfl
    | ⟨1, _⟩ => rfl
    | ⟨2, _⟩ => rfl
    | ⟨3, _⟩ => rfl
  refine (shapeCast_apply _ hs (ix4 e a d b) (ix2 i j) ?_).trans ?_
  · rw [Shape.rowMajor_val_four, Shape.rowMajor_val_two]
    show i.val * N + j.val = ((e.val * 1024 + a.val) * 4 + d.val) * n + b.val
    rw [hi, hj, hN]; ring
  refine (transpose_ix2_apply _ ht i j).trans ?_
  exact (host_apply wf g h j i).trans (Finset.sum_congr rfl fun k _ => mul_comm _ _)

/-- Each reference reaches its end with its arguments unchanged and no counter left over. -/
theorem frame_dw_ri : Cert.quiescent_DwReferenceIdeal := fun m ρ _ =>
  (θ_run Cert.DwReferenceIdeal.defs _ _).mono
    (fun r h => ⟨fun c => (h c).2, sem_eq_zero_of_no_sems (by decide) r.2⟩)
    (Cert.DwReferenceIdeal.Value.run (F := Ideal) m ρ)
theorem frame_dwin_ri : Cert.quiescent_DwinReferenceIdeal := fun m ρ _ =>
  (θ_run Cert.DwinReferenceIdeal.defs _ _).mono
    (fun r h => ⟨fun c => (h c).2, sem_eq_zero_of_no_sems (by decide) r.2⟩)
    (Cert.DwinReferenceIdeal.Value.run (F := Ideal) m ρ)

/-- The input projection's kernel and its reference end with the same gradient of the weights. -/
theorem algebraic_dwin : Cert.algebraic_DwinIdeal_DwinReferenceIdeal := by
  intro m ρ m' ρ' _ hargs
  refine ⟨Cert.DwinIdeal.Run.dwArr m, ?_, ?_⟩
  · refine (θ_run Cert.DwinIdeal.defs _ _).mono (fun r h c => ?_) (Cert.DwinIdeal.Value.run_blocks (F := Ideal) m ρ)
    obtain ⟨h0, h1⟩ := h c
    exact ⟨h0.trans (Cert.DwinIdeal.Run.dw_array m c), h1⟩
  · refine (θ_run Cert.DwinReferenceIdeal.defs _ _).mono (fun r h c => ?_) (Cert.DwinReferenceIdeal.Value.run (F := Ideal) m' ρ')
    obtain ⟨h0, h1⟩ := h c
    obtain ⟨e0, e1⟩ := hargs c
    rw [e0, e1] at h0
    refine ⟨h0.trans (funext fun y => ?_), h1⟩
    obtain ⟨d, e, a, b, rfl⟩ : ∃ (d : Fin 4) (e : Fin 2) (a : Fin 1024) (b : Fin 1792), y = ix4 d e a b := ⟨y 0, y 1, y 2, y 3, eq_ix4 y⟩
    exact cut_apply (N := 7168) (n := 1792) rfl _ (Cert.DwinIdeal.Run.arg0 m c) (Cert.DwinIdeal.Run.arg1 m c) _ _ _ d e a b _ _ rfl rfl

/-- The gates' kernel and its reference end with the same gradients of the two layers' weights. -/
theorem algebraic_dw : Cert.algebraic_DwIdeal_DwReferenceIdeal := by
  intro m ρ m' ρ' _ hargs
  refine ⟨Cert.DwIdeal.Run.dwArr m, ?_, ?_⟩
  · refine (θ_run Cert.DwIdeal.defs _ _).mono (fun r h c => ?_) (Cert.DwIdeal.Value.run_blocks (F := Ideal) m ρ)
    obtain ⟨h0, h1⟩ := h c
    exact ⟨h0.trans (Cert.DwIdeal.Run.dw_array m c), h1⟩
  · refine (θ_run Cert.DwReferenceIdeal.defs _ _).mono (fun r h c => ?_) (Cert.DwReferenceIdeal.Value.run (F := Ideal) m' ρ')
    obtain ⟨h0, h1⟩ := h c
    obtain ⟨e0, e1, e2⟩ := hargs c
    rw [e0, e1, e2] at h0
    refine ⟨h0.trans (funext fun y => ?_), h1⟩
    obtain ⟨d, e, l, a, b, rfl⟩ : ∃ (d : Fin 4) (e : Fin 2) (l : Fin 2) (a : Fin 1024) (b : Fin 1408), y = ix5 d e l a b :=
      ⟨y 0, y 1, y 2, y 3, y 4, eq_ix5 y⟩
    by_cases hl : l.val = 0
    · refine (concatenate_pair_apply_left (s₁ := Cert.DwReferenceIdeal.S4x2x1x1024x1408) _ _ _ _ (ix5 d e l a b) rfl (ix5 d e (0 : Fin 1) a b) (fun x => ?_)).trans ?_
      · match x with
        | ⟨0, _⟩ => rfl
        | ⟨1, _⟩ => rfl
        | ⟨2, _⟩ => exact hl.symm
        | ⟨3, _⟩ => rfl
        | ⟨4, _⟩ => rfl
      refine (broadcastInDim_apply _ _ _ (ix5 d e (0 : Fin 1) a b) (ix4 d e a b) (fun x => ?_)).trans ?_
      · match x with
        | ⟨0, _⟩ => rfl
        | ⟨1, _⟩ => rfl
        | ⟨2, _⟩ => rfl
        | ⟨3, _⟩ => rfl
      refine (cut_apply (N := 5632) (n := 1408) rfl _ (Cert.DwIdeal.Run.arg0 m c) (Cert.DwIdeal.Run.arg1 m c) _ _ _ d e a b
        ⟨e.val * 1024 + a.val, by omega⟩ ⟨d.val * 1408 + b.val, by omega⟩ rfl rfl).trans ?_
      exact (if_pos hl).symm
    · have h1 : l.val = 1 := by omega
      refine (concatenate_pair_apply_right (s₁ := Cert.DwReferenceIdeal.S4x2x1x1024x1408) (s₂ := Cert.DwReferenceIdeal.S4x2x1x1024x1408) _ _ _ _ (ix5 d e l a b) rfl rfl (ix5 d e (0 : Fin 1) a b) (fun x hx => ?_) ?_).trans ?_
      · match x, hx with
        | ⟨0, _⟩, _ => rfl
        | ⟨1, _⟩, _ => rfl
        | ⟨2, _⟩, hx => exact absurd rfl hx
        | ⟨3, _⟩, _ => rfl
        | ⟨4, _⟩, _ => rfl
      · show 0 + 1 = l.val
        omega
      refine (broadcastInDim_apply _ _ _ (ix5 d e (0 : Fin 1) a b) (ix4 d e a b) (fun x => ?_)).trans ?_
      · match x with
        | ⟨0, _⟩ => rfl
        | ⟨1, _⟩ => rfl
        | ⟨2, _⟩ => rfl
        | ⟨3, _⟩ => rfl
      refine (shapeCast_apply _ _ (ix4 d e a b) (ix5 d e (0 : Fin 1) a b) ?_).trans ?_
      · rw [Shape.rowMajor_val_four, Shape.rowMajor_val_five]
        show (((d.val * 2 + e.val) * 1 + 0) * 1024 + a.val) * 1408 + b.val = ((d.val * 2 + e.val) * 1024 + a.val) * 1408 + b.val
        omega
      refine (extractStridedSlice_apply _ _ _ (ix5 d e (0 : Fin 1) a b) (ix5 d e l a b) (fun x => ?_)).trans (if_neg hl).symm
      match x with
      | ⟨0, _⟩ => exact (Nat.zero_add _).symm
      | ⟨1, _⟩ => exact (Nat.zero_add _).symm
      | ⟨2, _⟩ => exact h1
      | ⟨3, _⟩ => exact (Nat.zero_add _).symm
      | ⟨4, _⟩ => exact (Nat.zero_add _).symm

end Cert.Proof

end
-- ==== Proof.DwdValue.lean ====
/-
  The gradient of the feed-forward layer's output weights, block by block: each block of the launch is visited four times, once for
  each quarter of the rows, and the four visits' products are added in turn. The upper layer's half of the array is left as it was.
-/
module

public import proofs.«01_k».proof.Proof.Crossed
public import proofs.«01_k».proof.Proof.Gen.DwdIdeal.Value
public import proofs.«01_k».proof.Proof.Gen.DwdIdeal.Frame
public import Idealize.ShloMosaic.Lib.Pipeline.ValueKit.Acc

@[expose] public section

set_option maxRecDepth 16384

noncomputable section

namespace Cert.DwdIdeal.Run

open Cert.DwdIdeal Cert.DwdIdeal.Gen Cert.Crossed
open Idealize.ShloMosaic hiding ix2 eq_ix2 ix5 eq_ix5
open Idealize.ShloMosaic.ValueIdx Idealize.ShloMosaic.TcCoe Idealize.ShloMosaic.StableHlo
open Idealize.SL.Sem

/-! ## A block -/

/-- The block of the product the kernel makes at a point. -/
theorem pay1_apply (X : FVec Ideal S2048x1408 .bf16) (G : FVec Ideal S2048x512 .bf16) (r : Fin 1408) (q : Fin 512) :
    k0_pay1 (F := Ideal) X G (ix2 r q) = ∑ k : Fin 2048, X (ix2 k r) * G (ix2 k q) := by
  unfold k0_pay1
  rw [shapeCast_self, shapeCast_self]
  exact matmul_apply _ X G r q

theorem pay2_eq (X : FVec Ideal S2048x1408 .bf16) (G : FVec Ideal S2048x512 .bf16) : k0_pay2 (F := Ideal) X G = k0_pay1 (F := Ideal) X G := by
  unfold k0_pay2; rw [shapeCast_self]

theorem pay3_apply (X : FVec Ideal S2048x1408 .bf16) (G : FVec Ideal S2048x512 .bf16) (Z : FVec Ideal S1408x512 .f32) (y : S1408x512.Idx) :
    k0_pay3 (F := Ideal) X G Z y = Z y + k0_pay1 (F := Ideal) X G y := by
  unfold k0_pay3; rw [shapeCast_self]; rfl

theorem pay4_apply (Z : FVec Ideal S1408x512 .f32) (u v w : Fin 1) (r : Fin 1408) (q : Fin 512) :
    k0_pay4 (F := Ideal) Z (ix5 u v w r q) = Z (ix2 r q) := by
  unfold k0_pay4
  refine shapeCast_apply Z _ _ _ ?_
  rw [Shape.rowMajor_val_five, Shape.rowMajor_val_two]
  show r.val * 512 + q.val = (((u.val * 1 + v.val) * 1 + w.val) * 1408 + r.val) * 512 + q.val
  omega

variable (m : (ℓ : Loc nD τ sig) → Buf (Elt Ideal) ℓ) (c : Dev nD)

/-- The product of a point's blocks. -/
def part (t : Fin cfg0.N) : FVec Ideal S1408x512 .f32 := k0_pay1 (F := Ideal) (iblk m c 0 t) (iblk m c 1 t)

/-- The point before. -/
abbrev prev (t : Fin cfg0.N) : Fin cfg0.N := ⟨t.val - 1, Nat.lt_of_le_of_lt (Nat.sub_le _ _) t.isLt⟩

theorem first (t : Fin cfg0.N) (h : t.val % 4 = 0) : (outsAt0 m c t.val t.isLt).2 = part m c t := by
  rw [outsAt0_A m c t h (by omega) (by omega)]
  frame_out
  exact pay2_eq _ _

theorem next (t : Fin cfg0.N) (h : 1 ≤ t.val % 4) (h' : ¬ t.val % 4 = 3) (y : S1408x512.Idx) :
    (outsAt0 m c t.val t.isLt).2 y = (outsAt0 m c (prev t).val (prev t).isLt).2 y + part m c t y := by
  rw [outsAt0_B m c t (by omega) h h']
  frame_out
  exact (pay3_apply _ _ _ y).trans (congrArg (· + part m c t y) (congrFun (Memref.IsWhole.read_unread (Val := Elt Ideal) (Memref.isWhole_whole cc0_scratch0) _) y))

theorem last (t : Fin cfg0.N) (h : t.val % 4 = 3) (u v w : Fin 1) (r : Fin 1408) (q : Fin 512) :
    (outsAt0 m c t.val t.isLt).1 (ix5 u v w r q) = (outsAt0 m c (prev t).val (prev t).isLt).2 (ix2 r q) + part m c t (ix2 r q) := by
  rw [outsAt0_C m c t (by omega) (by omega) h]
  frame_out
  refine (pay4_apply _ u v w r q).trans ?_
  exact (pay3_apply _ _ _ (ix2 r q)).trans (congrArg (· + part m c t (ix2 r q)) (congrFun (Memref.IsWhole.read_unread (Val := Elt Ideal) (Memref.isWhole_whole cc0_scratch0) _) (ix2 r q)))

/-! ## The arguments -/

abbrev arg0 : FVec Ideal S8192x5632 .f32 := m ((c.tc : Thread nD τ).loc main_arg0)
abbrev arg2 : FVec Ideal S4x2x2x1408x1024 .f32 := m ((c.tc : Thread nD τ).loc main_arg2)
abbrev arg1 : FVec Ideal S8192x2048 .f32 := m ((c.tc : Thread nD τ).loc main_arg1)

theorem V_v0 : V m c main_v0 = (truncf .bf16 (arg0 m c) bitsLt_bf16_f32 : FVec Ideal S8192x5632 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v1 : V m c main_v1 = (truncf .bf16 (arg1 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 4 ∧ (cfg0.win 0).index t 1 = t.val / 16 :=
  (by decide +kernel : ∀ t : Fin grid0.N, (cfg0.win 0).index t 0 = t.val % 4 ∧ (cfg0.win 0).index t 1 = t.val / 16)
theorem where1 : ∀ t : Fin cfg0.N, (cfg0.win 1).index t 0 = t.val % 4 ∧ (cfg0.win 1).index t 1 = t.val % 16 / 4 :=
  (by decide +kernel : ∀ t : Fin grid0.N, (cfg0.win 1).index t 0 = t.val % 4 ∧ (cfg0.win 1).index t 1 = t.val % 16 / 4)
theorem where2 : ∀ t : Fin cfg0.N, (cfg0.win 2).index t 0 = t.val / 16 ∧ (cfg0.win 2).index t 1 = t.val % 16 / 8 ∧ (cfg0.win 2).index t 2 = 0
    ∧ (cfg0.win 2).index t 3 = 0 ∧ (cfg0.win 2).index t 4 = t.val / 4 % 2 :=
  (by decide +kernel : ∀ t : Fin grid0.N, (cfg0.win 2).index t 0 = t.val / 16 ∧ (cfg0.win 2).index t 1 = t.val % 16 / 8 ∧ (cfg0.win 2).index t 2 = 0
    ∧ (cfg0.win 2).index t 3 = 0 ∧ (cfg0.win 2).index t 4 = t.val / 4 % 2)

/-- The quarter of the rows a point sums over, and the row and the column of the weights of a place in a block. -/
def side (t : Fin cfg0.N) : Fin 4 := ⟨t.val % 4, by omega⟩
def row (t : Fin cfg0.N) (r : Fin 1408) : Fin 5632 := ⟨t.val / 16 * 1408 + r.val, by have : t.val < 64 := t.isLt.trans_eq N_0; omega⟩
def col (t : Fin cfg0.N) (q : Fin 512) : Fin 2048 := ⟨t.val % 16 / 4 * 512 + q.val, by omega⟩

theorem blk_h (t : Fin cfg0.N) (k : Fin 2048) (r : Fin 1408) :
    (iblk m c 0 t : FVec Ideal S2048x1408 .bf16) (ix2 k r) = arg0 m c (ix2 (tick (side t) k) (row t r)) := by
  obtain ⟨w0, w1⟩ := where0 t
  refine (congrFun (V_v0 m c) (((cfg0.win 0).rect t).emb (ix2 k r))).trans (congrArg (arg0 m c) ?_)
  funext a
  match a with
  | ⟨0, _⟩ => exact Fin.ext ((Pipeline.Window.rect_emb_val (cfg0.win 0) t (ix2 k r) 0).trans (by rw [w0]; rfl))
  | ⟨1, _⟩ => exact Fin.ext ((Pipeline.Window.rect_emb_val (cfg0.win 0) t (ix2 k r) 1).trans (by rw [w1]; rfl))

theorem blk_g (t : Fin cfg0.N) (k : Fin 2048) (q : Fin 512) :
    (iblk m c 1 t : FVec Ideal S2048x512 .bf16) (ix2 k q) = arg1 m c (ix2 (tick (side t) k) (col t q)) := by
  obtain ⟨w0, w1⟩ := where1 t
  refine (congrFun (V_v1 m c) (((cfg0.win 1).rect t).emb (ix2 k q))).trans (congrArg (arg1 m c) ?_)
  funext a
  match a with
  | ⟨0, _⟩ => exact Fin.ext ((Pipeline.Window.rect_emb_val (cfg0.win 1) t (ix2 k q) 0).trans (by rw [w0]; rfl))
  | ⟨1, _⟩ => exact Fin.ext ((Pipeline.Window.rect_emb_val (cfg0.win 1) t (ix2 k q) 1).trans (by rw [w1]; rfl))

/-! ## The array -/

/-- What one quarter of the rows gives of the gradient at a row and a column of the weights. -/
def quarter (e : Fin 4) (i : Fin 5632) (j : Fin 2048) : EReal :=
  ∑ k : Fin 2048, arg0 m c (ix2 (tick e k) i) * arg1 m c (ix2 (tick e k) j)

theorem part_quarter (t : Fin cfg0.N) (r : Fin 1408) (q : Fin 512) : part m c t (ix2 r q) = quarter m c (side t) (row t r) (col t q) :=
  (pay1_apply _ _ r q).trans (Finset.sum_congr rfl fun k _ => congrArg₂ (fun x y : EReal => x * y) (blk_h m c t k r) (blk_g m c t k q))

/-- The gradient at a row and a column of the weights. -/
def grad (i : Fin 5632) (j : Fin 2048) : EReal := ∑ k : Fin 8192, arg0 m c (ix2 k i) * arg1 m c (ix2 k j)

/-- A quarter of an earlier visit to the same block. -/
theorem part_before (t s : Fin cfg0.N) (e : Fin 4) (hs : s.val / 4 = t.val / 4) (he : s.val % 4 = e.val) (r : Fin 1408) (q : Fin 512) :
    part m c s (ix2 r q) = quarter m c e (row t r) (col t q) := by
  rw [part_quarter]
  have e1 : side s = e := Fin.ext he
  have e2 : row s r = row t r := Fin.ext (by show s.val / 16 * 1408 + r.val = t.val / 16 * 1408 + r.val; omega)
  have e3 : col s q = col t q := Fin.ext (by show s.val % 16 / 4 * 512 + q.val = t.val % 16 / 4 * 512 + q.val; omega)
  rw [e1, e2, e3]

theorem point (t : Fin cfg0.N) (h : t.val % 4 = 3) (u v w : Fin 1) (r : Fin 1408) (q : Fin 512) :
    (outsAt0 m c t.val t.isLt).1 (ix5 u v w r q) = grad m c (row t r) (col t q) := by
  rw [last m c t h, next m c (prev t) (by show 1 ≤ (t.val - 1) % 4; omega) (by show ¬ (t.val - 1) % 4 = 3; omega),
    next m c (prev (prev t)) (by show 1 ≤ (t.val - 1 - 1) % 4; omega) (by show ¬ (t.val - 1 - 1) % 4 = 3; omega),
    first m c (prev (prev (prev t))) (by show (t.val - 1 - 1 - 1) % 4 = 0; omega),
    part_before m c t t 3 rfl h, part_before m c t (prev t) 2 (by show (t.val - 1) / 4 = t.val / 4; omega) (by show (t.val - 1) % 4 = 2; omega),
    part_before m c t (prev (prev t)) 1 (by show (t.val - 1 - 1) / 4 = t.val / 4; omega) (by show (t.val - 1 - 1) % 4 = 1; omega),
    part_before m c t (prev (prev (prev t))) 0 (by show (t.val - 1 - 1 - 1) / 4 = t.val / 4; omega) (by show (t.val - 1 - 1 - 1) % 4 = 0; omega)]
  exact (sum_quarters fun k => arg0 m c (ix2 k (row t r)) * arg1 m c (ix2 k (col t q))).symm

/-- The gradient at the place of the array that holds a device, a half, a row and a column. -/
def gradAt (d : Fin 4) (e : Fin 2) (a : Fin 1408) (b : Fin 1024) : EReal :=
  grad m c ⟨d.val * 1408 + a.val, by omega⟩ ⟨e.val * 1024 + b.val, by omega⟩

/-- The result as a whole array: by the device that keeps the columns, the half of the rows and the layer. The lower layer's is the
    gradient, the upper layer's what was there. -/
def dwArr : FVec Ideal S4x2x2x1408x1024 .f32 := fun i =>
  if (i 2).val = 0 then gradAt m c (i 0) (i 1) (i 3) (i 4) else arg2 m c i

/-- The place in the result array of a place in a block. -/
def at' (t : Fin cfg0.N) (r : Fin 1408) (q : Fin 512) : S4x2x2x1408x1024.Idx :=
  ix5 (⟨t.val / 16, by have : t.val < 64 := t.isLt.trans_eq N_0; omega⟩ : Fin 4) (⟨t.val % 16 / 8, by omega⟩ : Fin 2) (0 : Fin 2)
    r (⟨t.val / 4 % 2 * 512 + q.val, by omega⟩ : Fin 1024)

theorem arr_at (t : Fin cfg0.N) (r : Fin 1408) (q : Fin 512) : dwArr m c (at' t r q) = grad m c (row t r) (col t q) :=
  (if_pos rfl).trans (congrArg₂ (grad m c)
    (Fin.ext rfl) (Fin.ext (by show t.val % 16 / 8 * 1024 + (t.val / 4 % 2 * 512 + q.val) = t.val % 16 / 4 * 512 + q.val; omega)))

theorem emb2 (t : Fin cfg0.N) (u v w : Fin 1) (r : Fin 1408) (q : Fin 512) : ((cfg0.win 2).rect t).emb (ix5 u v w r q) = at' t r q := by
  obtain ⟨w0, w1, w2, w3, w4⟩ := where2 t
  have hu : u.val = 0 := by omega
  have hv : v.val = 0 := by omega
  have hw : w.val = 0 := by omega
  funext a
  match a with
  | ⟨0, _⟩ => exact Fin.ext ((Pipeline.Window.rect_emb_val (cfg0.win 2) t (ix5 u v w r q) 0).trans (by rw [w0]; show t.val / 16 * 1 + u.val = t.val / 16; omega))
  | ⟨1, _⟩ => exact Fin.ext ((Pipeline.Window.rect_emb_val (cfg0.win 2) t (ix5 u v w r q) 1).trans (by rw [w1]; show t.val % 16 / 8 * 1 + v.val = t.val % 16 / 8; omega))
  | ⟨2, _⟩ => exact Fin.ext ((Pipeline.Window.rect_emb_val (cfg0.win 2) t (ix5 u v w r q) 2).trans (by rw [w2]; show 0 * 1 + w.val = 0; omega))
  | ⟨3, _⟩ => exact Fin.ext ((Pipeline.Window.rect_emb_val (cfg0.win 2) t (ix5 u v w r q) 3).trans (by rw [w3]; show 0 * 1408 + r.val = r.val; omega))
  | ⟨4, _⟩ => exact Fin.ext ((Pipeline.Window.rect_emb_val (cfg0.win 2) t (ix5 u v w r q) 4).trans (by rw [w4]; rfl))

/-- The point that writes the block holding a place of the lower layer, and where in the block. -/
theorem exists_at (i : S4x2x2x1408x1024.Idx) (hi : (i 2).val = 0) : ∃ (t : Fin cfg0.N) (r : Fin 1408) (q : Fin 512), t.val % 4 = 3 ∧ at' t r q = i := by
  have h0 : (i 0).val < 4 := (i 0).isLt
  have h1 : (i 1).val < 2 := (i 1).isLt
  have h4 : (i 4).val < 1024 := (i 4).isLt
  refine ⟨⟨(i 0).val * 16 + (i 1).val * 8 + (i 4).val / 512 * 4 + 3, by show _ < grid0.N; rw [N_0]; omega⟩, i 3, ⟨(i 4).val % 512, by omega⟩,
    by show ((i 0).val * 16 + (i 1).val * 8 + (i 4).val / 512 * 4 + 3) % 4 = 3; omega, ?_⟩
  funext a
  match a with
  | ⟨0, _⟩ => exact Fin.ext (by show ((i 0).val * 16 + (i 1).val * 8 + (i 4).val / 512 * 4 + 3) / 16 = (i 0).val; omega)
  | ⟨1, _⟩ => exact Fin.ext (by show ((i 0).val * 16 + (i 1).val * 8 + (i 4).val / 512 * 4 + 3) % 16 / 8 = (i 1).val; omega)
  | ⟨2, _⟩ => exact Fin.ext hi.symm
  | ⟨3, _⟩ => rfl
  | ⟨4, _⟩ => exact Fin.ext (by show ((i 0).val * 16 + (i 1).val * 8 + (i 4).val / 512 * 4 + 3) / 4 % 2 * 512 + (i 4).val % 512 = (i 4).val; omega)

/-- A point's block lies in the lower layer. -/
theorem layer_of_mem (t : Fin cfg0.N) (i : S4x2x2x1408x1024.Idx) (h : i ∈ ((cfg0.win 2).blk t).view.set) : (i 2).val = 0 := by
  obtain ⟨y, _, rfl⟩ := Finset.mem_map.mp h
  obtain ⟨u, v, w, r, q, rfl⟩ : ∃ (u v w : Fin 1) (r : Fin 1408) (q : Fin 512), y = ix5 u v w r q := ⟨y 0, y 1, y 2, y 3, y 4, eq_ix5 y⟩
  exact congrArg (fun k : S4x2x2x1408x1024.Idx => (k 2).val) (emb2 t u v w r q)

theorem V_v2 : V m c main_v2 = arg2 m c := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem dw_array : (dats (F := Ideal) m 0 c).arrAt 2 cfg0.N = dwArr m c := by
  funext i
  by_cases hi : (i 2).val = 0
  · obtain ⟨t, r, q, ht, h⟩ := exists_at i hi
    refine Pipeline.Dat.arrAt_apply_of_mem (dats m 0 c) 2 (dwArr m c) (fun t ht => ?_) cfg0.N t i t.isLt ((flush0_2 t).mpr ht)
      (Finset.mem_map.mpr ⟨ix5 0 0 0 r q, Finset.mem_univ _, (emb2 t 0 0 0 r q).trans h⟩)
    rw [Value.flushed2]
    funext y
    obtain ⟨u, v, w, r, q, rfl⟩ : ∃ (u v w : Fin 1) (r : Fin 1408) (q : Fin 512), y = ix5 u v w r q := ⟨y 0, y 1, y 2, y 3, y 4, eq_ix5 y⟩
    exact (point m c t ((flush0_2 t).mp ht) u v w r q).trans ((arr_at m c t r q).symm.trans (congrArg (dwArr m c) (emb2 t u v w r q)).symm)
  · refine (Value.entry2 m c i fun t _ h => hi (layer_of_mem t i h)).trans ?_
    exact (congrFun (V_v2 m c) i).trans (if_neg hi).symm

end Cert.DwdIdeal.Run

end
-- ==== Proof.DinValue.lean ====
/-
  The gradient of the input projection's input, block by block: each block of the launch is visited twice, once for each half of
  the projection's columns, and the two visits' products are added.
-/
module

public import proofs.«01_k».proof.Proof.Dots
public import proofs.«01_k».proof.Proof.Gen.DinIdeal.Value
public import proofs.«01_k».proof.Proof.Gen.DinIdeal.Frame
public import Idealize.ShloMosaic.Lib.Pipeline.ValueKit.Acc
public import Idealize.ShloMosaic.Lib.ValueLayout

@[expose] public section

set_option maxRecDepth 16384

noncomputable section

namespace Cert.DinIdeal.Run

open Cert.DinIdeal Cert.DinIdeal.Gen Cert.Dots
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of the product the kernel makes at a point. -/
theorem pay1_apply (P0 : FVec Ideal S1024x3584 .bf16) (P1 : FVec Ideal S1x512x3584 .bf16) (r : Fin 1024) (c : Fin 512) :
    k0_pay1 (F := Ideal) P0 P1 (ix2 r c) = ∑ k : Fin 3584, P0 (ix2 r k) * P1 (ix3 0 c k) := by
  unfold k0_pay1
  refine (Ideal.matmul_transposedRhs_apply none (shapeCast S1024x3584 P0 shapeCasts_S1024x3584_S1024x3584)
    (shapeCast S512x3584 P1 shapeCasts_S1x512x3584_S512x3584) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x512x3584_S512x3584 c k)

theorem pay2_eq (P0 : FVec Ideal S1024x3584 .bf16) (P1 : FVec Ideal S1x512x3584 .bf16) :
    k0_pay2 (F := Ideal) P0 P1 = k0_pay1 (F := Ideal) P0 P1 := by
  unfold k0_pay2; rw [shapeCast_self]

theorem pay3_apply (P0 : FVec Ideal S1024x3584 .bf16) (P1 : FVec Ideal S1x512x3584 .bf16) (Z : FVec Ideal S1024x512 .f32) (y : S1024x512.Idx) :
    k0_pay3 (F := Ideal) P0 P1 Z y = Z y + k0_pay1 (F := Ideal) P0 P1 y := by
  unfold k0_pay3; rw [shapeCast_self]; rfl

variable (m : (ℓ : Loc nD τ sig) → Buf (Elt Ideal) ℓ) (c : Dev nD)

/-- The product of a point's blocks. -/
def part (t : Fin cfg0.N) : FVec Ideal S1024x512 .f32 := k0_pay1 (F := Ideal) (iblk m c 0 t) (iblk m c 1 t)

theorem first (t : Fin cfg0.N) (h : t.val % 2 = 0) : (outsAt0 m c t.val t.isLt).2 = part m c t := by
  rw [outsAt0_A m c t h (by omega) (by omega)]
  frame_out
  exact pay2_eq _ _

theorem second (t : Fin cfg0.N) (h : t.val % 2 = 1) (y : S1024x512.Idx) :
    (outsAt0 m c t.val t.isLt).1 y = part m c ⟨t.val - 1, Nat.lt_of_le_of_lt (Nat.sub_le _ _) t.isLt⟩ y + part m c t y := by
  rw [← first m c ⟨t.val - 1, Nat.lt_of_le_of_lt (Nat.sub_le _ _) t.isLt⟩ (by show (t.val - 1) % 2 = 0; omega)]
  rw [outsAt0_B m c t (by omega) h h]
  frame_out
  exact (pay3_apply _ _ _ y).trans (congrArg (· + part m c t y) (congrFun (Memref.IsWhole.read_unread (Val := Elt Ideal) (Memref.isWhole_whole cc0_scratch0) _) y))

/-! ## The arguments -/

abbrev arg1 : FVec Ideal S2048x7168 .f32 := m ((c.tc : Thread nD τ).loc main_arg1)
abbrev arg2 : FVec Ideal S8192x7168 .f32 := m ((c.tc : Thread nD τ).loc main_arg2)

theorem V_v0 : V m c main_v0 = (truncf .bf16 (arg2 m c) bitsLt_bf16_f32 : FVec Ideal S8192x7168 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v2 : V m c main_v2 = (broadcastInDim S1x2048x7168 ![1, 2] bcast_S2048x7168_S1x2048x7168_1_2 (truncf .bf16 (arg1 m c) bitsLt_bf16_f32) : FVec Ideal S1x2048x7168 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val / 8 ∧ (cfg0.win 0).index t 1 = t.val % 2 :=
  (by decide +kernel : ∀ t : Fin grid0.N, (cfg0.win 0).index t 0 = t.val / 8 ∧ (cfg0.win 0).index t 1 = t.val % 2)
theorem where1 : ∀ t : Fin cfg0.N, (cfg0.win 1).index t 0 = 0 ∧ (cfg0.win 1).index t 1 = t.val % 8 / 2 ∧ (cfg0.win 1).index t 2 = t.val % 2 :=
  (by decide +kernel : ∀ t : Fin grid0.N, (cfg0.win 1).index t 0 = 0 ∧ (cfg0.win 1).index t 1 = t.val % 8 / 2 ∧ (cfg0.win 1).index t 2 = t.val % 2)
theorem where2 : ∀ t : Fin cfg0.N, (cfg0.win 2).index t 0 = t.val / 8 ∧ (cfg0.win 2).index t 1 = t.val % 8 / 2 :=
  (by decide +kernel : ∀ t : Fin grid0.N, (cfg0.win 2).index t 0 = t.val / 8 ∧ (cfg0.win 2).index t 1 = t.val % 8 / 2)

/-- The row and the column of the result of a place in a block, and the column summed over of a place in a half. -/
def row (t : Fin cfg0.N) (r : Fin 1024) : Fin 8192 := ⟨t.val / 8 * 1024 + r.val, by have : t.val < 64 := t.isLt.trans_eq N_0; omega⟩
def col (t : Fin cfg0.N) (q : Fin 512) : Fin 2048 := ⟨t.val % 8 / 2 * 512 + q.val, by omega⟩
def lane (e : Fin 2) (k : Fin 3584) : Fin 7168 := ⟨e.val * 3584 + k.val, by omega⟩
/-- Which half of the columns a point sums over. -/
def side (t : Fin cfg0.N) : Fin 2 := ⟨t.val % 2, by omega⟩

theorem blk_g (t : Fin cfg0.N) (r : Fin 1024) (k : Fin 3584) :
    (iblk m c 0 t : FVec Ideal S1024x3584 .bf16) (ix2 r k) = arg2 m c (ix2 (row t r) (lane (side t) k)) := by
  obtain ⟨w0, w1⟩ := where0 t
  refine (congrFun (V_v0 m c) (((cfg0.win 0).rect t).emb (ix2 r k))).trans (congrArg (arg2 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; rfl))

theorem blk_w (t : Fin cfg0.N) (q : Fin 512) (k : Fin 3584) :
    (iblk m c 1 t : FVec Ideal S1x512x3584 .bf16) (ix3 0 q k) = arg1 m c (ix2 (col t q) (lane (side t) k)) := by
  obtain ⟨w0, w1, w2⟩ := where1 t
  refine (congrFun (V_v2 m c) (((cfg0.win 1).rect t).emb (ix3 0 q k))).trans (congrArg (arg1 m c) ?_)
  funext a
  match a with
  | ⟨0, _⟩ => exact Fin.ext ((Pipeline.Window.rect_emb_val (cfg0.win 1) t (ix3 0 q k) 1).trans (by rw [w1]; rfl))
  | ⟨1, _⟩ => exact Fin.ext ((Pipeline.Window.rect_emb_val (cfg0.win 1) t (ix3 0 q k) 2).trans (by rw [w2]; rfl))

/-! ## The array -/

/-- What one half of the columns gives of the result at a place. -/
def half (e : Fin 2) (i : Fin 8192) (j : Fin 2048) : EReal := ∑ k : Fin 3584, arg2 m c (ix2 i (lane e k)) * arg1 m c (ix2 j (lane e k))

theorem part_half (t : Fin cfg0.N) (r : Fin 1024) (q : Fin 512) : part m c t (ix2 r q) = half m c (side t) (row t r) (col t q) :=
  (pay1_apply _ _ r q).trans (Finset.sum_congr rfl fun k _ => congrArg₂ (fun x y : EReal => x * y) (blk_g m c t r k) (blk_w m c t q k))

/-- A sum over the columns is the sums over the two halves, added. -/
theorem sum_lanes (f : Fin 7168 → EReal) : ∑ k, f k = (∑ k, f (lane 0 k)) + ∑ k, f (lane 1 k) := by
  refine (Fin.sum_univ_add (a := 3584) (b := 3584) f).trans (congrArg₂ (fun x y : EReal => x + y) ?_ ?_)
  · exact Finset.sum_congr rfl fun k _ => congrArg f (Fin.ext (by show k.val = 0 * 3584 + k.val; omega))
  · exact Finset.sum_congr rfl fun k _ => congrArg f (Fin.ext (by show 3584 + k.val = 1 * 3584 + k.val; omega))

/-- The result as a whole array: the incoming gradient by the transposed weights. -/
def dhArr : FVec Ideal S8192x2048 .f32 := Host.dotGeneral (DotDims.transposedRhs 8192 7168 2048) none (arg2 m c) (arg1 m c)

theorem halves (i : Fin 8192) (j : Fin 2048) : half m c 0 i j + half m c 1 i j = dhArr m c (ix2 i j) :=
  ((host_transposed (arg2 m c) (arg1 m c) i j).trans (sum_lanes _)).symm

/-- The place in the result array of a place in a block. -/
def at' (t : Fin cfg0.N) (r : Fin 1024) (q : Fin 512) : S8192x2048.Idx := ix2 (row t r) (col t q)

theorem dh_point (t : Fin cfg0.N) (h : t.val % 2 = 1) (r : Fin 1024) (q : Fin 512) :
    (outsAt0 m c t.val t.isLt).1 (ix2 r q) = dhArr m c (at' t r q) := by
  rw [second m c t h, part_half, part_half]
  refine Eq.trans ?_ (halves m c (row t r) (col t q))
  have e1 : side t = 1 := Fin.ext h
  have e0 : side ⟨t.val - 1, Nat.lt_of_le_of_lt (Nat.sub_le _ _) t.isLt⟩ = 0 := Fin.ext (by show (t.val - 1) % 2 = 0; omega)
  have er : row ⟨t.val - 1, Nat.lt_of_le_of_lt (Nat.sub_le _ _) t.isLt⟩ r = row t r :=
    Fin.ext (by show (t.val - 1) / 8 * 1024 + r.val = t.val / 8 * 1024 + r.val; omega)
  have eq : col ⟨t.val - 1, Nat.lt_of_le_of_lt (Nat.sub_le _ _) t.isLt⟩ q = col t q :=
    Fin.ext (by show (t.val - 1) % 8 / 2 * 512 + q.val = t.val % 8 / 2 * 512 + q.val; omega)
  rw [e1, e0, er, eq]

/-- The point that writes the block holding a place, and where in the block. -/
theorem exists_at (i : S8192x2048.Idx) : ∃ (t : Fin cfg0.N) (r : Fin 1024) (q : Fin 512), t.val % 2 = 1 ∧ at' t r q = i := by
  have h0 := idx2_lt0 (n0 := 8192) (n1 := 2048) i
  have h1 := idx2_lt1 (n0 := 8192) (n1 := 2048) i
  refine ⟨⟨8 * ((i 0).val / 1024) + (i 1).val / 512 * 2 + 1, by show _ < grid0.N; rw [N_0]; omega⟩, ⟨(i 0).val % 1024, by omega⟩, ⟨(i 1).val % 512, by omega⟩,
    by show (8 * ((i 0).val / 1024) + (i 1).val / 512 * 2 + 1) % 2 = 1; omega, ?_⟩
  funext a
  match a with
  | ⟨0, _⟩ => exact Fin.ext (by show (8 * ((i 0).val / 1024) + (i 1).val / 512 * 2 + 1) / 8 * 1024 + (i 0).val % 1024 = (i 0).val; omega)
  | ⟨1, _⟩ => exact Fin.ext (by show (8 * ((i 0).val / 1024) + (i 1).val / 512 * 2 + 1) % 8 / 2 * 512 + (i 1).val % 512 = (i 1).val; omega)

theorem emb2 (t : Fin cfg0.N) (r : Fin 1024) (q : Fin 512) : ((cfg0.win 2).rect t).emb (ix2 r q) = at' t r q := by
  obtain ⟨w0, w1⟩ := where2 t
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))

theorem dh_array : (dats (F := Ideal) m 0 c).arrAt 2 cfg0.N = dhArr m c := by
  refine Pipeline.Dat.arrAt_eq_of_cover (dats m 0 c) 2 (dhArr m c) (fun t ht => ?_) fun i => ?_
  · rw [Value.flushed2]
    funext y
    obtain ⟨r, q, rfl⟩ : ∃ (r : Fin 1024) (q : Fin 512), y = ix2 r q := ⟨y 0, y 1, eq_ix2 y⟩
    exact (dh_point m c t ((flush0_2 t).mp ht) r q).trans (congrArg (dhArr m c) (emb2 t r q)).symm
  · obtain ⟨t, r, q, ht, h⟩ := exists_at i
    exact ⟨t, (flush0_2 t).mpr ht, Finset.mem_map.mpr ⟨ix2 r q, Finset.mem_univ _, (emb2 t r q).trans h⟩⟩

end Cert.DinIdeal.Run

end
-- ==== Proof.PinValue.lean ====
/-
  The input projection, block by block: each block of the launch is a product of a block of rows by a block of the weights' columns,
  made in two chunks of rows and kept in both formats.
-/
module

public import proofs.«01_k».proof.Proof.GateValue
public import proofs.«01_k».proof.Proof.Gen.PinIdeal.Value
public import proofs.«01_k».proof.Proof.Gen.PinIdeal.Frame
public import Idealize.ShloMosaic.Lib.StackMember
public import Idealize.ShloMosaic.Lib.Pipeline.ValueKit.Tiles

@[expose] public section

set_option maxRecDepth 16384

noncomputable section

namespace Cert.PinIdeal.Run

open Cert.PinIdeal Cert.PinIdeal.Gen Cert.Dots
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of a product: row `y 0` of `X` by column `y 1` of `W`. -/
def prodB (X : FVec Ideal S512x2048 .bf16) (W : FVec Ideal S1x2048x1792 .bf16) (y : S512x1792.Idx) : EReal :=
  ∑ k : Fin 2048, X (ix2 (y 0) k) * W (ix3 0 k (y 1))

theorem pay1_apply (P0 : FVec Ideal S256x2048 .bf16) (P1 : FVec Ideal S1x2048x1792 .bf16) (r : Fin 256) (c : Fin 1792) :
    k0_pay1 (F := Ideal) P0 P1 (ix2 r c) = ∑ k : Fin 2048, P0 (ix2 r k) * P1 (ix3 0 k c) := by
  unfold k0_pay1
  refine (Ideal.matmul_plain_apply none (shapeCast S256x2048 P0 shapeCasts_S256x2048_S256x2048)
    (shapeCast S2048x1792 P1 shapeCasts_S1x2048x1792_S2048x1792) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x2048x1792_S2048x1792 k c)

theorem ld1 (W : FVec Ideal S1x2048x1792 .bf16) : View.ld (Val := Elt Ideal) (e' := .bf16) W r0_1 = W :=
  View.ld_unit_lit (Val := Elt Ideal) (S := S1x2048x1792) (e := .bf16) (off := ![0, 0, 0]) _ W (by decide)

/-- A chunk of 256 rows of the block product is the rows of the product from the chunk's first. -/
theorem chunk (X : FVec Ideal S512x2048 .bf16) (W : FVec Ideal S1x2048x1792 .bf16) (o : ℕ)
    (hx : ∀ a, (![o, 0] : Fin 2 → ℕ) a + S256x2048.size a ≤ S512x2048.size a) (hy : ∀ a, (![o, 0] : Fin 2 → ℕ) a + S256x1792.size a ≤ S512x1792.size a)
    (x : S256x1792.Idx) :
    k0_pay1 (F := Ideal) (View.ld (Val := Elt Ideal) (e' := .bf16) X (Rect.unit (s := S512x2048) ![o, 0] S256x2048.size hx))
        (View.ld (Val := Elt Ideal) (e' := .bf16) W r0_1) x
      = prodB X W ((Rect.unit (s := S512x1792) ![o, 0] S256x1792.size hy).emb x) := by
  obtain ⟨r, c, rfl⟩ : ∃ (r : Fin 256) (c : Fin 1792), x = ix2 r c := ⟨x 0, x 1, eq_ix2 x⟩
  rw [ld1]
  refine (pay1_apply _ W r c).trans (Finset.sum_congr rfl fun k _ => ?_)
  refine congrArg₂ (fun x y : EReal => x * y) (congrArg X (funext fun a => Fin.ext ((Rect.idx_unit_val (s := S512x2048) ![o, 0] S256x2048.size hx (ix2 r k) a).trans ?_))) (congrArg W ?_)
  · match a with
    | ⟨0, _⟩ => exact (Rect.idx_unit_val (s := S512x1792) ![o, 0] S256x1792.size hy (ix2 r c) 0).symm
    | ⟨1, _⟩ => exact Nat.zero_add _
  · refine congrArg (ix3 0 k) (Fin.ext ?_)
    exact ((Rect.idx_unit_val (s := S512x1792) ![o, 0] S256x1792.size hy (ix2 r c) 1).trans (Nat.zero_add _)).symm

/-- What a point leaves in its two result blocks, at one place. -/
theorem a_canon (X : FVec Ideal S512x2048 .bf16) (W : FVec Ideal S1x2048x1792 .bf16) (y : S512x1792.Idx) :
    out0_2 (F := Ideal) X W y = prodB X W y := by
  unfold out0_2
  refine View.canon_apply_of_pieces (Val := Elt Ideal) (S := S512x1792) (e := .f32) (fun y => prodB X W y) _ ?_ y (cover0_2 _ _ y)
  exact List.forall_mem_cons.mpr ⟨fun x => chunk X W 256 inb_S512x2048_S256x2048_256_0 inb_S512x1792_S256x1792_256_0 x,
    List.forall_mem_cons.mpr ⟨fun x => chunk X W 0 inb_S512x2048_S256x2048_0_0 inb_S512x1792_S256x1792_0_0 x, fun p hp => nomatch hp⟩⟩

theorem b_canon (X : FVec Ideal S512x2048 .bf16) (W : FVec Ideal S1x2048x1792 .bf16) (y : S512x1792.Idx) :
    out0_3 (F := Ideal) X W y = prodB X W y := by
  unfold out0_3
  refine View.canon_apply_of_pieces (Val := Elt Ideal) (S := S512x1792) (e := .bf16) (fun y => prodB X W y) _ ?_ y (cover0_3 _ _ y)
  exact List.forall_mem_cons.mpr ⟨fun x => chunk X W 256 inb_S512x2048_S256x2048_256_0 inb_S512x1792_S256x1792_256_0 x,
    List.forall_mem_cons.mpr ⟨fun x => chunk X W 0 inb_S512x2048_S256x2048_0_0 inb_S512x1792_S256x1792_0_0 x, fun p hp => nomatch hp⟩⟩

/-! ## The arguments -/

variable (m : (ℓ : Loc nD τ sig) → Buf (Elt Ideal) ℓ) (c : Dev nD)

abbrev arg0 : FVec Ideal S8192x2048 .f32 := m ((c.tc : Thread nD τ).loc main_arg0)
abbrev arg1 : FVec Ideal S2048x7168 .f32 := m ((c.tc : Thread nD τ).loc main_arg1)

/-- The projection. -/
def proj : FVec Ideal S8192x7168 .f32 := Host.dotGeneral (DotDims.plain 8192 2048 7168) none (arg0 m c) (arg1 m c)

theorem V_v0 : V m c main_v0 = (truncf .bf16 (arg0 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v2 : V m c main_v2 = (broadcastInDim S1x2048x7168 ![1, 2] bcast_S2048x7168_S1x2048x7168_1_2 (truncf .bf16 (arg1 m c) bitsLt_bf16_f32) : FVec Ideal S1x2048x7168 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 16 ∧ (cfg0.win 0).index t 1 = 0 :=
  (by decide +kernel : ∀ t : Fin grid0.N, (cfg0.win 0).index t 0 = t.val % 16 ∧ (cfg0.win 0).index t 1 = 0)
theorem where1 : ∀ t : Fin cfg0.N, (cfg0.win 1).index t 0 = 0 ∧ (cfg0.win 1).index t 1 = 0 ∧ (cfg0.win 1).index t 2 = t.val / 16 :=
  (by decide +kernel : ∀ t : Fin grid0.N, (cfg0.win 1).index t 0 = 0 ∧ (cfg0.win 1).index t 1 = 0 ∧ (cfg0.win 1).index t 2 = t.val / 16)
theorem where2 : ∀ t : Fin cfg0.N, (cfg0.win 2).index t 0 = t.val % 16 ∧ (cfg0.win 2).index t 1 = t.val / 16 :=
  (by decide +kernel : ∀ t : Fin grid0.N, (cfg0.win 2).index t 0 = t.val % 16 ∧ (cfg0.win 2).index t 1 = t.val / 16)
theorem where3 : ∀ t : Fin cfg0.N, (cfg0.win 3).index t 0 = t.val % 16 ∧ (cfg0.win 3).index t 1 = t.val / 16 :=
  (by decide +kernel : ∀ t : Fin grid0.N, (cfg0.win 3).index t 0 = t.val % 16 ∧ (cfg0.win 3).index t 1 = t.val / 16)

/-- The place in a result array of a place in a block. -/
def at' (t : Fin cfg0.N) (r : Fin 512) (q : Fin 1792) : S8192x7168.Idx :=
  ix2 ⟨t.val % 16 * 512 + r.val, by omega⟩ ⟨t.val / 16 * 1792 + q.val, by have : t.val < 64 := t.isLt.trans_eq N_0; omega⟩

theorem blk_h (t : Fin cfg0.N) (r : Fin 512) (k : Fin 2048) :
    (iblk m c 0 t : FVec Ideal S512x2048 .bf16) (ix2 r k) = arg0 m c (ix2 ⟨t.val % 16 * 512 + r.val, by omega⟩ k) := by
  obtain ⟨w0, w1⟩ := where0 t
  refine (congrFun (V_v0 m c) (((cfg0.win 0).rect t).emb (ix2 r k))).trans (congrArg (arg0 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; show 0 * 2048 + k.val = k.val; omega))

theorem blk_w (t : Fin cfg0.N) (k : Fin 2048) (q : Fin 1792) :
    (iblk m c 1 t : FVec Ideal S1x2048x1792 .bf16) (ix3 0 k q) = arg1 m c (ix2 k ⟨t.val / 16 * 1792 + q.val, by have : t.val < 64 := t.isLt.trans_eq N_0; omega⟩) := by
  obtain ⟨w0, w1, w2⟩ := where1 t
  refine (congrFun (V_v2 m c) (((cfg0.win 1).rect t).emb (ix3 0 k q))).trans (congrArg (arg1 m c) ?_)
  funext a
  match a with
  | ⟨0, _⟩ => exact Fin.ext ((Pipeline.Window.rect_emb_val (cfg0.win 1) t (ix3 0 k q) 1).trans (by rw [w1]; show 0 * 2048 + k.val = k.val; omega))
  | ⟨1, _⟩ => exact Fin.ext ((Pipeline.Window.rect_emb_val (cfg0.win 1) t (ix3 0 k q) 2).trans (by rw [w2]; rfl))

/-- The block product is the block of the product. -/
theorem block (t : Fin cfg0.N) (r : Fin 512) (q : Fin 1792) : prodB (iblk m c 0 t) (iblk m c 1 t) (ix2 r q) = proj m c (at' t r q) := by
  refine Eq.trans ?_ (StackMember.dotGeneral_plain_apply none (arg0 m c) (arg1 m c) _ _).symm
  exact Finset.sum_congr rfl fun k _ => congrArg₂ (· * ·) (blk_h m c t r k) (blk_w m c t k q)

/-! ## The arrays -/

/-- The two results as whole arrays: the projection in both formats. -/
def aArr : FVec Ideal S8192x7168 .f32 := proj m c
def bArr : FVec Ideal S8192x7168 .bf16 := fun i => proj m c i

theorem a_point (t : Fin cfg0.N) (r : Fin 512) (q : Fin 1792) :
    out0_2 (F := Ideal) (iblk m c 0 t) (iblk m c 1 t) (ix2 r q) = aArr m c (at' t r q) := (a_canon _ _ _).trans (block m c t r q)
theorem b_point (t : Fin cfg0.N) (r : Fin 512) (q : Fin 1792) :
    out0_3 (F := Ideal) (iblk m c 0 t) (iblk m c 1 t) (ix2 r q) = bArr m c (at' t r q) := (b_canon _ _ _).trans (block m c t r q)

/-- The point whose block holds a place, and where in the block. -/
theorem exists_at (i : S8192x7168.Idx) : ∃ (t : Fin cfg0.N) (r : Fin 512) (q : Fin 1792), at' t r q = i := by
  have h0 := idx2_lt0 (n0 := 8192) (n1 := 7168) i
  have h1 := idx2_lt1 (n0 := 8192) (n1 := 7168) i
  refine ⟨⟨16 * ((i 1).val / 1792) + (i 0).val / 512, by show _ < grid0.N; rw [N_0]; omega⟩, ⟨(i 0).val % 512, by omega⟩, ⟨(i 1).val % 1792, by omega⟩, ?_⟩
  funext a
  match a with
  | ⟨0, _⟩ => exact Fin.ext (by show (16 * ((i 1).val / 1792) + (i 0).val / 512) % 16 * 512 + (i 0).val % 512 = (i 0).val; omega)
  | ⟨1, _⟩ => exact Fin.ext (by show (16 * ((i 1).val / 1792) + (i 0).val / 512) / 16 * 1792 + (i 1).val % 1792 = (i 1).val; omega)

theorem emb2 (t : Fin cfg0.N) (r : Fin 512) (q : Fin 1792) : ((cfg0.win 2).rect t).emb (ix2 r q) = at' t r q := by
  obtain ⟨w0, w1⟩ := where2 t
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))
theorem emb3 (t : Fin cfg0.N) (r : Fin 512) (q : Fin 1792) : ((cfg0.win 3).rect t).emb (ix2 r q) = at' t r q := by
  obtain ⟨w0, w1⟩ := where3 t
  funext a
  match a with
  | ⟨0, _⟩ => exact Fin.ext ((Pipeline.Window.rect_emb_val (cfg0.win 3) t (ix2 r q) 0).trans (by rw [w0]; rfl))
  | ⟨1, _⟩ => exact Fin.ext ((Pipeline.Window.rect_emb_val (cfg0.win 3) t (ix2 r q) 1).trans (by rw [w1]; rfl))

theorem a_array : (dats (F := Ideal) m 0 c).arrAt 2 cfg0.N = aArr m c := by
  refine Pipeline.Dat.arrAt_eq_of_cover (dats m 0 c) 2 (aArr m c) (fun t ht => ?_) fun i => ?_
  · rw [Value.flushed2]
    funext y
    obtain ⟨r, q, rfl⟩ : ∃ (r : Fin 512) (q : Fin 1792), y = ix2 r q := ⟨y 0, y 1, eq_ix2 y⟩
    exact (a_point m c t r q).trans (congrArg (aArr m c) (emb2 t r q)).symm
  · obtain ⟨t, r, q, h⟩ := exists_at i
    exact ⟨t, flush0_2 t, Finset.mem_map.mpr ⟨ix2 r q, Finset.mem_univ _, (emb2 t r q).trans h⟩⟩

theorem b_array : (dats (F := Ideal) m 0 c).arrAt 3 cfg0.N = bArr m c := by
  refine Pipeline.Dat.arrAt_eq_of_cover (dats m 0 c) 3 (bArr m c) (fun t ht => ?_) fun i => ?_
  · rw [Value.flushed3]
    funext y
    obtain ⟨r, q, rfl⟩ : ∃ (r : Fin 512) (q : Fin 1792), y = ix2 r q := ⟨y 0, y 1, eq_ix2 y⟩
    exact (b_point m c t r q).trans (congrArg (bArr m c) (emb3 t r q)).symm
  · obtain ⟨t, r, q, h⟩ := exists_at i
    exact ⟨t, flush0_3 t, Finset.mem_map.mpr ⟨ix2 r q, Finset.mem_univ _, (emb3 t r q).trans h⟩⟩

end Cert.PinIdeal.Run

end
-- ==== Proof.PoutValue.lean ====
/-
  The output projection added to the layer's input, block by block: each block of the launch is a product of a block of rows of the
  joined heads by a block of columns of the output weights, made in four chunks of rows.
-/
module

public import proofs.«01_k».proof.Proof.Dots
public import proofs.«01_k».proof.Proof.Gen.PoutIdeal.Value
public import proofs.«01_k».proof.Proof.Gen.PoutIdeal.Frame
public import Idealize.ShloMosaic.Lib.StackMember
public import Idealize.ShloMosaic.Lib.ValueLayout
public import Idealize.ShloMosaic.Lib.Pipeline.ValueKit.Tiles

@[expose] public section

set_option maxRecDepth 16384

noncomputable section

namespace Cert.PoutIdeal.Run

open Cert.PoutIdeal Cert.PoutIdeal.Gen Cert.Dots
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of a product: row `y 0` of `X` by column `y 1` of `W`. -/
def prodB (X : FVec Ideal S1024x2048 .bf16) (W : FVec Ideal S1x2048x512 .bf16) (y : S1024x512.Idx) : EReal :=
  ∑ k : Fin 2048, X (ix2 (y 0) k) * W (ix3 0 k (y 1))

theorem pay3_apply (P0 : FVec Ideal S256x2048 .bf16) (P1 : FVec Ideal S1x2048x512 .bf16) (r : Fin 256) (c : Fin 512) :
    k0_pay3 (F := Ideal) P0 P1 (ix2 r c) = ∑ k : Fin 2048, P0 (ix2 r k) * P1 (ix3 0 k c) := by
  unfold k0_pay3
  refine (Ideal.matmul_plain_apply none (shapeCast S256x2048 P0 shapeCasts_S256x2048_S256x2048)
    (shapeCast S2048x512 P1 shapeCasts_S1x2048x512_S2048x512) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x2048x512_S2048x512 k c)

theorem ld1 (W : FVec Ideal S1x2048x512 .bf16) : View.ld (Val := Elt Ideal) (e' := .bf16) W r0_1 = W :=
  View.ld_unit_lit (Val := Elt Ideal) (S := S1x2048x512) (e := .bf16) (off := ![0, 0, 0]) _ W (by decide)

/-- A chunk of 256 rows of the block is the rows of the product from the chunk's first, added to the same rows of the input. -/
theorem chunk (X : FVec Ideal S1024x2048 .bf16) (W : FVec Ideal S1x2048x512 .bf16) (Z : FVec Ideal S1024x512 .f32) (o : ℕ)
    (hx : ∀ a, (![o, 0] : Fin 2 → ℕ) a + S256x2048.size a ≤ S1024x2048.size a) (hy : ∀ a, (![o, 0] : Fin 2 → ℕ) a + S256x512.size a ≤ S1024x512.size a)
    (x : S256x512.Idx) :
    k0_pay1 (F := Ideal) (k0_pay3 (F := Ideal) (View.ld (Val := Elt Ideal) (e' := .bf16) X (Rect.unit (s := S1024x2048) ![o, 0] S256x2048.size hx))
        (View.ld (Val := Elt Ideal) (e' := .bf16) W r0_1))
        (View.ld (Val := Elt Ideal) (e' := .f32) Z (Rect.unit (s := S1024x512) ![o, 0] S256x512.size hy)) x
      = Z ((Rect.unit (s := S1024x512) ![o, 0] S256x512.size hy).emb x) + prodB X W ((Rect.unit (s := S1024x512) ![o, 0] S256x512.size hy).emb x) := by
  obtain ⟨r, c, rfl⟩ : ∃ (r : Fin 256) (c : Fin 512), x = ix2 r c := ⟨x 0, x 1, eq_ix2 x⟩
  rw [ld1]
  refine congrArg (Z _ + ·) ((pay3_apply _ W r c).trans (Finset.sum_congr rfl fun k _ => ?_))
  refine congrArg₂ (fun x y : EReal => x * y) (congrArg X (funext fun a => Fin.ext ((Rect.idx_unit_val (s := S1024x2048) ![o, 0] S256x2048.size hx (ix2 r k) a).trans ?_))) (congrArg W ?_)
  · match a with
    | ⟨0, _⟩ => exact (Rect.idx_unit_val (s := S1024x512) ![o, 0] S256x512.size hy (ix2 r c) 0).symm
    | ⟨1, _⟩ => exact Nat.zero_add _
  · refine congrArg (ix3 0 k) (Fin.ext ?_)
    exact ((Rect.idx_unit_val (s := S1024x512) ![o, 0] S256x512.size hy (ix2 r c) 1).trans (Nat.zero_add _)).symm

/-- What a point leaves in its result block, at one place. -/
theorem x_canon (X : FVec Ideal S1024x2048 .bf16) (W : FVec Ideal S1x2048x512 .bf16) (Z : FVec Ideal S1024x512 .f32) (y : S1024x512.Idx) :
    out0_3 (F := Ideal) X W Z y = Z y + prodB X W y := by
  unfold out0_3
  refine View.canon_apply_of_pieces (Val := Elt Ideal) (S := S1024x512) (e := .f32) (fun y => Z y + prodB X W y) _ ?_ y (cover0_3 _ _ _ _ y)
  refine List.forall_mem_cons.mpr ⟨fun x => chunk X W Z 768 inb_S1024x2048_S256x2048_768_0 inb_S1024x512_S256x512_768_0 x, List.forall_mem_cons.mpr ⟨fun x => chunk X W Z 512 inb_S1024x2048_S256x2048_512_0 inb_S1024x512_S256x512_512_0 x,
    List.forall_mem_cons.mpr ⟨fun x => chunk X W Z 256 inb_S1024x2048_S256x2048_256_0 inb_S1024x512_S256x512_256_0 x, List.forall_mem_cons.mpr ⟨fun x => chunk X W Z 0 inb_S1024x2048_S256x2048_0_0 inb_S1024x512_S256x512_0_0 x, fun p hp => nomatch hp⟩⟩⟩⟩

/-! ## The arguments -/

variable (m : (ℓ : Loc nD τ sig) → Buf (Elt Ideal) ℓ) (c : Dev nD)

abbrev arg0 : FVec Ideal S8192x2048 .f32 := m ((c.tc : Thread nD τ).loc main_arg0)
abbrev arg1 : FVec Ideal S8192x2048 .f32 := m ((c.tc : Thread nD τ).loc main_arg1)
abbrev arg2 : FVec Ideal S2048x2048 .f32 := m ((c.tc : Thread nD τ).loc main_arg2)

theorem V_arg0 : V m c main_arg0 = arg0 m c := V_main_arg0 m c
theorem V_v0 : V m c main_v0 = (truncf .bf16 (arg1 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v2 : V m c main_v2 = (broadcastInDim S1x2048x2048 ![1, 2] bcast_S2048x2048_S1x2048x2048_1_2 (truncf .bf16 (arg2 m c) bitsLt_bf16_f32) : FVec Ideal S1x2048x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val / 4 ∧ (cfg0.win 0).index t 1 = 0 :=
  (by decide +kernel : ∀ t : Fin grid0.N, (cfg0.win 0).index t 0 = t.val / 4 ∧ (cfg0.win 0).index t 1 = 0)
theorem where1 : ∀ t : Fin cfg0.N, (cfg0.win 1).index t 0 = 0 ∧ (cfg0.win 1).index t 1 = 0 ∧ (cfg0.win 1).index t 2 = t.val % 4 :=
  (by decide +kernel : ∀ t : Fin grid0.N, (cfg0.win 1).index t 0 = 0 ∧ (cfg0.win 1).index t 1 = 0 ∧ (cfg0.win 1).index t 2 = t.val % 4)
theorem where2 : ∀ t : Fin cfg0.N, (cfg0.win 2).index t 0 = t.val / 4 ∧ (cfg0.win 2).index t 1 = t.val % 4 :=
  (by decide +kernel : ∀ t : Fin grid0.N, (cfg0.win 2).index t 0 = t.val / 4 ∧ (cfg0.win 2).index t 1 = t.val % 4)
theorem where3 : ∀ t : Fin cfg0.N, (cfg0.win 3).index t 0 = t.val / 4 ∧ (cfg0.win 3).index t 1 = t.val % 4 :=
  (by decide +kernel : ∀ t : Fin grid0.N, (cfg0.win 3).index t 0 = t.val / 4 ∧ (cfg0.win 3).index t 1 = t.val % 4)

/-- The place in the result array of a place in a block. -/
def at' (t : Fin cfg0.N) (r : Fin 1024) (q : Fin 512) : S8192x2048.Idx :=
  ix2 ⟨t.val / 4 * 1024 + r.val, by have : t.val < 32 := t.isLt.trans_eq N_0; omega⟩ ⟨t.val % 4 * 512 + q.val, by omega⟩

theorem blk_cat (t : Fin cfg0.N) (r : Fin 1024) (k : Fin 2048) :
    (iblk m c 0 t : FVec Ideal S1024x2048 .bf16) (ix2 r k) = arg1 m c (ix2 ⟨t.val / 4 * 1024 + r.val, by have : t.val < 32 := t.isLt.trans_eq N_0; omega⟩ k) := by
  obtain ⟨w0, w1⟩ := where0 t
  refine (congrFun (V_v0 m c) (((cfg0.win 0).rect t).emb (ix2 r k))).trans (congrArg (arg1 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; show 0 * 2048 + k.val = k.val; omega))

theorem blk_w (t : Fin cfg0.N) (k : Fin 2048) (q : Fin 512) :
    (iblk m c 1 t : FVec Ideal S1x2048x512 .bf16) (ix3 0 k q) = arg2 m c (ix2 k ⟨t.val % 4 * 512 + q.val, by omega⟩) := by
  obtain ⟨w0, w1, w2⟩ := where1 t
  refine (congrFun (V_v2 m c) (((cfg0.win 1).rect t).emb (ix3 0 k q))).trans (congrArg (arg2 m c) ?_)
  funext a
  match a with
  | ⟨0, _⟩ => exact Fin.ext ((Pipeline.Window.rect_emb_val (cfg0.win 1) t (ix3 0 k q) 1).trans (by rw [w1]; show 0 * 2048 + k.val = k.val; omega))
  | ⟨1, _⟩ => exact Fin.ext ((Pipeline.Window.rect_emb_val (cfg0.win 1) t (ix3 0 k q) 2).trans (by rw [w2]; rfl))

theorem blk_x (t : Fin cfg0.N) (r : Fin 1024) (q : Fin 512) :
    (iblk m c 2 t : FVec Ideal S1024x512 .f32) (ix2 r q) = arg0 m c (at' t r q) := by
  obtain ⟨w0, w1⟩ := where2 t
  refine (congrFun (V_arg0 m c) (((cfg0.win 2).rect t).emb (ix2 r q))).trans (congrArg (arg0 m c) ?_)
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))

/-! ## The array -/

/-- The product of the heads by the output weights, and the result: the product added to the layer's input. -/
def down : FVec Ideal S8192x2048 .f32 := Host.dotGeneral (DotDims.plain 8192 2048 2048) none (arg1 m c) (arg2 m c)
def xArr : FVec Ideal S8192x2048 .f32 := addf (arg0 m c) (down m c)

theorem down_block (t : Fin cfg0.N) (r : Fin 1024) (q : Fin 512) : prodB (iblk m c 0 t) (iblk m c 1 t) (ix2 r q) = down m c (at' t r q) := by
  refine Eq.trans ?_ (StackMember.dotGeneral_plain_apply none (arg1 m c) (arg2 m c) _ _).symm
  exact Finset.sum_congr rfl fun k _ => congrArg₂ (· * ·) (blk_cat m c t r k) (blk_w m c t k q)

theorem x_point (t : Fin cfg0.N) (r : Fin 1024) (q : Fin 512) :
    out0_3 (F := Ideal) (iblk m c 0 t) (iblk m c 1 t) (iblk m c 2 t) (ix2 r q) = xArr m c (at' t r q) :=
  (x_canon _ _ _ _).trans (congrArg₂ (fun x y : EReal => x + y) (blk_x m c t r q) (down_block m c t r q))

/-- The point whose block holds a place, and where in the block. -/
theorem exists_at (i : S8192x2048.Idx) : ∃ (t : Fin cfg0.N) (r : Fin 1024) (q : Fin 512), at' t r q = i := by
  have h0 := idx2_lt0 (n0 := 8192) (n1 := 2048) i
  have h1 := idx2_lt1 (n0 := 8192) (n1 := 2048) i
  refine ⟨⟨4 * ((i 0).val / 1024) + (i 1).val / 512, by show _ < grid0.N; rw [N_0]; omega⟩, ⟨(i 0).val % 1024, by omega⟩, ⟨(i 1).val % 512, by omega⟩, ?_⟩
  funext a
  match a with
  | ⟨0, _⟩ => exact Fin.ext (by show (4 * ((i 0).val / 1024) + (i 1).val / 512) / 4 * 1024 + (i 0).val % 1024 = (i 0).val; omega)
  | ⟨1, _⟩ => exact Fin.ext (by show (4 * ((i 0).val / 1024) + (i 1).val / 512) % 4 * 512 + (i 1).val % 512 = (i 1).val; omega)

theorem emb3 (t : Fin cfg0.N) (r : Fin 1024) (q : Fin 512) : ((cfg0.win 3).rect t).emb (ix2 r q) = at' t r q := by
  obtain ⟨w0, w1⟩ := where3 t
  funext a
  match a with
  | ⟨0, _⟩ => exact Fin.ext ((Pipeline.Window.rect_emb_val (cfg0.win 3) t (ix2 r q) 0).trans (by rw [w0]; rfl))
  | ⟨1, _⟩ => exact Fin.ext ((Pipeline.Window.rect_emb_val (cfg0.win 3) t (ix2 r q) 1).trans (by rw [w1]; rfl))

theorem x_array : (dats (F := Ideal) m 0 c).arrAt 3 cfg0.N = xArr m c := by
  refine Pipeline.Dat.arrAt_eq_of_cover (dats m 0 c) 3 (xArr m c) (fun t ht => ?_) fun i => ?_
  · rw [Value.flushed3]
    funext y
    obtain ⟨r, q, rfl⟩ : ∃ (r : Fin 1024) (q : Fin 512), y = ix2 r q := ⟨y 0, y 1, eq_ix2 y⟩
    exact (x_point m c t r q).trans (congrArg (xArr m c) (emb3 t r q)).symm
  · obtain ⟨t, r, q, h⟩ := exists_at i
    exact ⟨t, flush0_3 t, Finset.mem_map.mpr ⟨ix2 r q, Finset.mem_univ _, (emb3 t r q).trans h⟩⟩

end Cert.PoutIdeal.Run

end
-- ==== Proof.DcatValue.lean ====
/-
  The gradient of the joined heads, block by block: each block of the launch is a product of a block of rows of the incoming gradient
  by a block of rows of the output weights, made in two chunks of rows.
-/
module

public import proofs.«01_k».proof.Proof.GateValue
public import proofs.«01_k».proof.Proof.Gen.DcatIdeal.Value
public import proofs.«01_k».proof.Proof.Gen.DcatIdeal.Frame
public import Idealize.ShloMosaic.Lib.StackMember
public import Idealize.ShloMosaic.Lib.Pipeline.ValueKit.Tiles

@[expose] public section

set_option maxRecDepth 16384

noncomputable section

namespace Cert.DcatIdeal.Run

open Cert.DcatIdeal Cert.DcatIdeal.Gen Cert.Dots
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of a product: row `y 0` of `X` by row `y 1` of `W`. -/
def prodB (X : FVec Ideal S1024x2048 .bf16) (W : FVec Ideal S1x512x2048 .bf16) (y : S1024x512.Idx) : EReal :=
  ∑ k : Fin 2048, X (ix2 (y 0) k) * W (ix3 0 (y 1) k)

theorem pay1_apply (P0 : FVec Ideal S512x2048 .bf16) (P1 : FVec Ideal S1x512x2048 .bf16) (r : Fin 512) (c : Fin 512) :
    k0_pay1 (F := Ideal) P0 P1 (ix2 r c) = ∑ k : Fin 2048, P0 (ix2 r k) * P1 (ix3 0 c k) := by
  unfold k0_pay1
  refine (Ideal.matmul_transposedRhs_apply none (shapeCast S512x2048 P0 shapeCasts_S512x2048_S512x2048)
    (shapeCast S512x2048 P1 shapeCasts_S1x512x2048_S512x2048) _ r c).trans ?_
  refine (congrArg (· + _) (show Ideal.ofBits .f32 0x00000000#32 = 0 by simp)).trans ((zero_add _).trans (Finset.sum_congr rfl fun k _ => ?_))
  rw [shapeCast_self]
  exact congrArg (P0 (ix2 r k) * ·) (shapeCast_1ab_ab_apply P1 shapeCasts_S1x512x2048_S512x2048 c k)

theorem ld1 (W : FVec Ideal S1x512x2048 .bf16) : View.ld (Val := Elt Ideal) (e' := .bf16) W r0_1 = W :=
  View.ld_unit_lit (Val := Elt Ideal) (S := S1x512x2048) (e := .bf16) (off := ![0, 0, 0]) _ W (by decide)

/-- A chunk of 512 rows of the block product is the rows of the product from the chunk's first. -/
theorem chunk (X : FVec Ideal S1024x2048 .bf16) (W : FVec Ideal S1x512x2048 .bf16) (o : ℕ)
    (hx : ∀ a, (![o, 0] : Fin 2 → ℕ) a + S512x2048.size a ≤ S1024x2048.size a) (hy : ∀ a, (![o, 0] : Fin 2 → ℕ) a + S512x512.size a ≤ S1024x512.size a)
    (x : S512x512.Idx) :
    k0_pay1 (F := Ideal) (View.ld (Val := Elt Ideal) (e' := .bf16) X (Rect.unit (s := S1024x2048) ![o, 0] S512x2048.size hx))
        (View.ld (Val := Elt Ideal) (e' := .bf16) W r0_1) x
      = prodB X W ((Rect.unit (s := S1024x512) ![o, 0] S512x512.size hy).emb x) := by
  obtain ⟨r, c, rfl⟩ : ∃ (r : Fin 512) (c : Fin 512), x = ix2 r c := ⟨x 0, x 1, eq_ix2 x⟩
  rw [ld1]
  refine (pay1_apply _ W r c).trans (Finset.sum_congr rfl fun k _ => ?_)
  refine congrArg₂ (fun x y : EReal => x * y) (congrArg X (funext fun a => Fin.ext ((Rect.idx_unit_val (s := S1024x2048) ![o, 0] S512x2048.size hx (ix2 r k) a).trans ?_))) (congrArg W ?_)
  · match a with
    | ⟨0, _⟩ => exact (Rect.idx_unit_val (s := S1024x512) ![o, 0] S512x512.size hy (ix2 r c) 0).symm
    | ⟨1, _⟩ => exact Nat.zero_add _
  · refine congrArg (fun j : Fin 512 => ix3 0 j k) (Fin.ext ?_)
    exact ((Rect.idx_unit_val (s := S1024x512) ![o, 0] S512x512.size hy (ix2 r c) 1).trans (Nat.zero_add _)).symm

/-- What a point leaves in its result block, at one place. -/
theorem canon (X : FVec Ideal S1024x2048 .bf16) (W : FVec Ideal S1x512x2048 .bf16) (y : S1024x512.Idx) :
    out0_2 (F := Ideal) X W y = prodB X W y := by
  unfold out0_2
  refine View.canon_apply_of_pieces (Val := Elt Ideal) (S := S1024x512) (e := .f32) (fun y => prodB X W y) _ ?_ y (cover0_2 _ _ y)
  exact List.forall_mem_cons.mpr ⟨fun x => chunk X W 512 inb_S1024x2048_S512x2048_512_0 inb_S1024x512_S512x512_512_0 x,
    List.forall_mem_cons.mpr ⟨fun x => chunk X W 0 inb_S1024x2048_S512x2048_0_0 inb_S1024x512_S512x512_0_0 x, fun p hp => nomatch hp⟩⟩

/-! ## The arguments -/

variable (m : (ℓ : Loc nD τ sig) → Buf (Elt Ideal) ℓ) (c : Dev nD)

abbrev arg2 : FVec Ideal S2048x2048 .f32 := m ((c.tc : Thread nD τ).loc main_arg2)
abbrev arg3 : FVec Ideal S8192x2048 .f32 := m ((c.tc : Thread nD τ).loc main_arg3)

theorem V_v0 : V m c main_v0 = (truncf .bf16 (arg3 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v2 : V m c main_v2 = (broadcastInDim S1x2048x2048 ![1, 2] bcast_S2048x2048_S1x2048x2048_1_2 (truncf .bf16 (arg2 m c) bitsLt_bf16_f32) : FVec Ideal S1x2048x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val / 4 ∧ (cfg0.win 0).index t 1 = 0 :=
  (by decide +kernel : ∀ t : Fin grid0.N, (cfg0.win 0).index t 0 = t.val / 4 ∧ (cfg0.win 0).index t 1 = 0)
theorem where1 : ∀ t : Fin cfg0.N, (cfg0.win 1).index t 0 = 0 ∧ (cfg0.win 1).index t 1 = t.val % 4 ∧ (cfg0.win 1).index t 2 = 0 :=
  (by decide +kernel : ∀ t : Fin grid0.N, (cfg0.win 1).index t 0 = 0 ∧ (cfg0.win 1).index t 1 = t.val % 4 ∧ (cfg0.win 1).index t 2 = 0)
theorem where2 : ∀ t : Fin cfg0.N, (cfg0.win 2).index t 0 = t.val / 4 ∧ (cfg0.win 2).index t 1 = t.val % 4 :=
  (by decide +kernel : ∀ t : Fin grid0.N, (cfg0.win 2).index t 0 = t.val / 4 ∧ (cfg0.win 2).index t 1 = t.val % 4)

/-- The place in the result array of a place in a block. -/
def at' (t : Fin cfg0.N) (r : Fin 1024) (q : Fin 512) : S8192x2048.Idx :=
  ix2 ⟨t.val / 4 * 1024 + r.val, by have : t.val < 32 := t.isLt.trans_eq N_0; omega⟩ ⟨t.val % 4 * 512 + q.val, by omega⟩

theorem blk_g (t : Fin cfg0.N) (r : Fin 1024) (k : Fin 2048) :
    (iblk m c 0 t : FVec Ideal S1024x2048 .bf16) (ix2 r k) = arg3 m c (ix2 ⟨t.val / 4 * 1024 + r.val, by have : t.val < 32 := t.isLt.trans_eq N_0; omega⟩ k) := by
  obtain ⟨w0, w1⟩ := where0 t
  refine (congrFun (V_v0 m c) (((cfg0.win 0).rect t).emb (ix2 r k))).trans (congrArg (arg3 m c) ?_)
  funext a
  match a with
  | ⟨0, _⟩ => exact Fin.ext ((Pipeline.Window.rect_emb_val (cfg0.win 0) t (ix2 r k) 0).trans (by rw [w0]; rfl))
  | ⟨1, _⟩ => exact Fin.ext ((Pipeline.Window.rect_emb_val (cfg0.win 0) t (ix2 r k) 1).trans (by rw [w1]; show 0 * 2048 + k.val = k.val; omega))

theorem blk_w (t : Fin cfg0.N) (q : Fin 512) (k : Fin 2048) :
    (iblk m c 1 t : FVec Ideal S1x512x2048 .bf16) (ix3 0 q k) = arg2 m c (ix2 ⟨t.val % 4 * 512 + q.val, by omega⟩ k) := by
  obtain ⟨w0, w1, w2⟩ := where1 t
  refine (congrFun (V_v2 m c) (((cfg0.win 1).rect t).emb (ix3 0 q k))).trans (congrArg (arg2 m c) ?_)
  funext a
  match a with
  | ⟨0, _⟩ => exact Fin.ext ((Pipeline.Window.rect_emb_val (cfg0.win 1) t (ix3 0 q k) 1).trans (by rw [w1]; rfl))
  | ⟨1, _⟩ => exact Fin.ext ((Pipeline.Window.rect_emb_val (cfg0.win 1) t (ix3 0 q k) 2).trans (by rw [w2]; show 0 * 2048 + k.val = k.val; omega))

/-! ## The array -/

/-- The result as a whole array: the incoming gradient by the transposed weights. -/
def xArr : FVec Ideal S8192x2048 .f32 := Host.dotGeneral (DotDims.transposedRhs 8192 2048 2048) none (arg3 m c) (arg2 m c)

theorem x_point (t : Fin cfg0.N) (r : Fin 1024) (q : Fin 512) :
    out0_2 (F := Ideal) (iblk m c 0 t) (iblk m c 1 t) (ix2 r q) = xArr m c (at' t r q) := by
  refine (canon _ _ _).trans (Eq.trans ?_ (host_transposed (arg3 m c) (arg2 m c) _ _).symm)
  exact Finset.sum_congr rfl fun k _ => congrArg₂ (· * ·) (blk_g m c t r k) (blk_w m c t q k)

/-- The point whose block holds a place, and where in the block. -/
theorem exists_at (i : S8192x2048.Idx) : ∃ (t : Fin cfg0.N) (r : Fin 1024) (q : Fin 512), at' t r q = i := by
  have h0 := idx2_lt0 (n0 := 8192) (n1 := 2048) i
  have h1 := idx2_lt1 (n0 := 8192) (n1 := 2048) i
  refine ⟨⟨4 * ((i 0).val / 1024) + (i 1).val / 512, by show _ < grid0.N; rw [N_0]; omega⟩, ⟨(i 0).val % 1024, by omega⟩, ⟨(i 1).val % 512, by omega⟩, ?_⟩
  funext a
  match a with
  | ⟨0, _⟩ => exact Fin.ext (by show (4 * ((i 0).val / 1024) + (i 1).val / 512) / 4 * 1024 + (i 0).val % 1024 = (i 0).val; omega)
  | ⟨1, _⟩ => exact Fin.ext (by show (4 * ((i 0).val / 1024) + (i 1).val / 512) % 4 * 512 + (i 1).val % 512 = (i 1).val; omega)

theorem emb2 (t : Fin cfg0.N) (r : Fin 1024) (q : Fin 512) : ((cfg0.win 2).rect t).emb (ix2 r q) = at' t r q := by
  obtain ⟨w0, w1⟩ := where2 t
  funext a
  match a with
  | ⟨0, _⟩ => exact Fin.ext ((Pipeline.Window.rect_emb_val (cfg0.win 2) t (ix2 r q) 0).trans (by rw [w0]; rfl))
  | ⟨1, _⟩ => exact Fin.ext ((Pipeline.Window.rect_emb_val (cfg0.win 2) t (ix2 r q) 1).trans (by rw [w1]; rfl))

theorem x_array : (dats (F := Ideal) m 0 c).arrAt 2 cfg0.N = xArr m c := by
  refine Pipeline.Dat.arrAt_eq_of_cover (dats m 0 c) 2 (xArr m c) (fun t ht => ?_) fun i => ?_
  · rw [Value.flushed2]
    funext y
    obtain ⟨r, q, rfl⟩ : ∃ (r : Fin 1024) (q : Fin 512), y = ix2 r q := ⟨y 0, y 1, eq_ix2 y⟩
    exact (x_point m c t r q).trans (congrArg (xArr m c) (emb2 t r q)).symm
  · obtain ⟨t, r, q, h⟩ := exists_at i
    exact ⟨t, flush0_2 t, Finset.mem_map.mpr ⟨ix2 r q, Finset.mem_univ _, (emb2 t r q).trans h⟩⟩

end Cert.DcatIdeal.Run

end
-- ==== Proof.DwoutValue.lean ====
/-
  The gradient of the output projection's weights, block by block: each block of the launch is visited four times, once for each
  quarter of the rows, and the four visits' products are added in turn.
-/
module

public import proofs.«01_k».proof.Proof.Crossed
public import proofs.«01_k».proof.Proof.Gen.DwoutIdeal.Value
public import proofs.«01_k».proof.Proof.Gen.DwoutIdeal.Frame
public import Idealize.ShloMosaic.Lib.Pipeline.ValueKit.Acc

@[expose] public section

set_option maxRecDepth 16384

noncomputable section

namespace Cert.DwoutIdeal.Run

open Cert.DwoutIdeal Cert.DwoutIdeal.Gen Cert.Crossed
open Idealize.ShloMosaic hiding ix2 eq_ix2 ix3 eq_ix3 ix4 eq_ix4
open Idealize.ShloMosaic.ValueIdx Idealize.ShloMosaic.TcCoe Idealize.ShloMosaic.StableHlo
open Idealize.SL.Sem

/-! ## A block -/

/-- The block of the product the kernel makes at a point. -/
theorem pay1_apply (X : FVec Ideal S2048x512 .bf16) (G : FVec Ideal S2048x512 .bf16) (r : Fin 512) (q : Fin 512) :
    k0_pay1 (F := Ideal) X G (ix2 r q) = ∑ k : Fin 2048, X (ix2 k r) * G (ix2 k q) := by
  unfold k0_pay1
  rw [shapeCast_self, shapeCast_self]
  exact matmul_apply _ X G r q

theorem pay2_eq (X : FVec Ideal S2048x512 .bf16) (G : FVec Ideal S2048x512 .bf16) : k0_pay2 (F := Ideal) X G = k0_pay1 (F := Ideal) X G := by
  unfold k0_pay2; rw [shapeCast_self]

theorem pay3_apply (X : FVec Ideal S2048x512 .bf16) (G : FVec Ideal S2048x512 .bf16) (Z : FVec Ideal S512x512 .f32) (y : S512x512.Idx) :
    k0_pay3 (F := Ideal) X G Z y = Z y + k0_pay1 (F := Ideal) X G y := by
  unfold k0_pay3; rw [shapeCast_self]; rfl

theorem pay4_apply (Z : FVec Ideal S512x512 .f32) (u : Fin 1) (r : Fin 512) (q : Fin 512) :
    k0_pay4 (F := Ideal) Z (ix3 u r q) = Z (ix2 r q) := by
  unfold k0_pay4
  refine shapeCast_apply Z _ _ _ ?_
  rw [Shape.rowMajor_val_three, Shape.rowMajor_val_two]
  show r.val * 512 + q.val = (u.val * 512 + r.val) * 512 + q.val
  omega

variable (m : (ℓ : Loc nD τ sig) → Buf (Elt Ideal) ℓ) (c : Dev nD)

/-- The product of a point's blocks. -/
def part (t : Fin cfg0.N) : FVec Ideal S512x512 .f32 := k0_pay1 (F := Ideal) (iblk m c 0 t) (iblk m c 1 t)

/-- The point before. -/
abbrev prev (t : Fin cfg0.N) : Fin cfg0.N := ⟨t.val - 1, Nat.lt_of_le_of_lt (Nat.sub_le _ _) t.isLt⟩

theorem first (t : Fin cfg0.N) (h : t.val % 4 = 0) : (outsAt0 m c t.val t.isLt).2 = part m c t := by
  rw [outsAt0_A m c t h (by omega) (by omega)]
  frame_out
  exact pay2_eq _ _

theorem next (t : Fin cfg0.N) (h : 1 ≤ t.val % 4) (h' : ¬ t.val % 4 = 3) (y : S512x512.Idx) :
    (outsAt0 m c t.val t.isLt).2 y = (outsAt0 m c (prev t).val (prev t).isLt).2 y + part m c t y := by
  rw [outsAt0_B m c t (by omega) h h']
  frame_out
  exact (pay3_apply _ _ _ y).trans (congrArg (· + part m c t y) (congrFun (Memref.IsWhole.read_unread (Val := Elt Ideal) (Memref.isWhole_whole cc0_scratch0) _) y))

theorem last (t : Fin cfg0.N) (h : t.val % 4 = 3) (u : Fin 1) (r : Fin 512) (q : Fin 512) :
    (outsAt0 m c t.val t.isLt).1 (ix3 u r q) = (outsAt0 m c (prev t).val (prev t).isLt).2 (ix2 r q) + part m c t (ix2 r q) := by
  rw [outsAt0_C m c t (by omega) (by omega) h]
  frame_out
  refine (pay4_apply _ u r q).trans ?_
  exact (pay3_apply _ _ _ (ix2 r q)).trans (congrArg (· + part m c t (ix2 r q)) (congrFun (Memref.IsWhole.read_unread (Val := Elt Ideal) (Memref.isWhole_whole cc0_scratch0) _) (ix2 r q)))

/-! ## The arguments -/

abbrev arg0 : FVec Ideal S8192x2048 .f32 := m ((c.tc : Thread nD τ).loc main_arg0)
abbrev arg1 : FVec Ideal S8192x2048 .f32 := m ((c.tc : Thread nD τ).loc main_arg1)

theorem V_v0 : V m c main_v0 = (truncf .bf16 (arg0 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl
theorem V_v1 : V m c main_v1 = (truncf .bf16 (arg1 m c) bitsLt_bf16_f32 : FVec Ideal S8192x2048 .bf16) := by
  simp only [V, hostOps0, List.flatten_cons, List.flatten_nil, List.append_nil, List.cons_append,
    List.nil_append, TRef.binary, TRef.nullary, TRef.ternary, TRef.unary, TRef.toBuf, TRef.ofBuf, cast_eq]
  after_results_simp <;> rfl

theorem where0 : ∀ t : Fin cfg0.N, (cfg0.win 0).index t 0 = t.val % 4 ∧ (cfg0.win 0).index t 1 = t.val / 16 :=
  (by decide +kernel : ∀ t : Fin grid0.N, (cfg0.win 0).index t 0 = t.val % 4 ∧ (cfg0.win 0).index t 1 = t.val / 16)
theorem where1 : ∀ t : Fin cfg0.N, (cfg0.win 1).index t 0 = t.val % 4 ∧ (cfg0.win 1).index t 1 = t.val % 16 / 4 :=
  (by decide +kernel : ∀ t : Fin grid0.N, (cfg0.win 1).index t 0 = t.val % 4 ∧ (cfg0.win 1).index t 1 = t.val % 16 / 4)
theorem where2 : ∀ t : Fin cfg0.N, (cfg0.win 2).index t 0 = 0 ∧ (cfg0.win 2).index t 1 = t.val / 16 ∧ (cfg0.win 2).index t 2 = t.val % 16 / 4 :=
  (by decide +kernel : ∀ t : Fin grid0.N, (cfg0.win 2).index t 0 = 0 ∧ (cfg0.win 2).index t 1 = t.val / 16 ∧ (cfg0.win 2).index t 2 = t.val % 16 / 4)

/-- The quarter of the rows a point sums over, and the row and the column of the weights of a place in a block. -/
def side (t : Fin cfg0.N) : Fin 4 := ⟨t.val % 4, by omega⟩
def row (t : Fin cfg0.N) (r : Fin 512) : Fin 2048 := ⟨t.val / 16 * 512 + r.val, by have : t.val < 64 := t.isLt.trans_eq N_0; omega⟩
def col (t : Fin cfg0.N) (q : Fin 512) : Fin 2048 := ⟨t.val % 16 / 4 * 512 + q.val, by omega⟩

theorem blk_h (t : Fin cfg0.N) (k : Fin 2048) (r : Fin 512) :
    (iblk m c 0 t : FVec Ideal S2048x512 .bf16) (ix2 k r) = arg0 m c (ix2 (tick (side t) k) (row t r)) := by
  obtain ⟨w0, w1⟩ := where0 t
  refine (congrFun (V_v0 m c) (((cfg0.win 0).rect t).emb (ix2 k r))).trans (congrArg (arg0 m c) ?_)
  funext a
  match a with
  | ⟨0, _⟩ => exact Fin.ext ((Pipeline.Window.rect_emb_val (cfg0.win 0) t (ix2 k r) 0).trans (by rw [w0]; rfl))
  | ⟨1, _⟩ => exact Fin.ext ((Pipeline.Window.rect_emb_val (cfg0.win 0) t (ix2 k r) 1).trans (by rw [w1]; rfl))

theorem blk_g (t : Fin cfg0.N) (k : Fin 2048) (q : Fin 512) :
    (iblk m c 1 t : FVec Ideal S2048x512 .bf16) (ix2 k q) = arg1 m c (ix2 (tick (side t) k) (col t q)) := by
  obtain ⟨w0, w1⟩ := where1 t
  refine (congrFun (V_v1 m c) (((cfg0.win 1).rect t).emb (ix2 k q))).trans (congrArg (arg1 m c) ?_)
  funext a
  match a with
  | ⟨0, _⟩ => exact Fin.ext ((Pipeline.Window.rect_emb_val (cfg0.win 1) t (ix2 k q) 0).trans (by rw [w0]; rfl))
  | ⟨1, _⟩ => exact Fin.ext ((Pipeline.Window.rect_emb_val (cfg0.win 1) t (ix2 k q) 1).trans (by rw [w1]; rfl))

/-! ## The array -/

/-- What one quarter of the rows gives of the gradient at a row and a column of the weights. -/
def quarter (e : Fin 4) (i : Fin 2048) (j : Fin 2048) : EReal :=
  ∑ k : Fin 2048, arg0 m c (ix2 (tick e k) i) * arg1 m c (ix2 (tick e k) j)

theorem part_quarter (t : Fin cfg0.N) (r : Fin 512) (q : Fin 512) : part m c t (ix2 r q) = quarter m c (side t) (row t r) (col t q) :=
  (pay1_apply _ _ r q).trans (Finset.sum_congr rfl fun k _ => congrArg₂ (fun x y : EReal => x * y) (blk_h m c t k r) (blk_g m c t k q))

/-- The gradient at a row and a column of the weights. -/
def grad (i : Fin 2048) (j : Fin 2048) : EReal := ∑ k : Fin 8192, arg0 m c (ix2 k i) * arg1 m c (ix2 k j)

/-- A quarter of an earlier visit to the same block. -/
theorem part_before (t s : Fin cfg0.N) (e : Fin 4) (hs : s.val / 4 = t.val / 4) (he : s.val % 4 = e.val) (r : Fin 512) (q : Fin 512) :
    part m c s (ix2 r q) = quarter m c e (row t r) (col t q) := by
  rw [part_quarter]
  have e1 : side s = e := Fin.ext he
  have e2 : row s r = row t r := Fin.ext (by show s.val / 16 * 512 + r.val = t.val / 16 * 512 + r.val; omega)
  have e3 : col s q = col t q := Fin.ext (by show s.val % 16 / 4 * 512 + q.val = t.val % 16 / 4 * 512 + q.val; omega)
  rw [e1, e2, e3]

theorem point (t : Fin cfg0.N) (h : t.val % 4 = 3) (u : Fin 1) (r : Fin 512) (q : Fin 512) :
    (outsAt0 m c t.val t.isLt).1 (ix3 u r q) = grad m c (row t r) (col t q) := by
  rw [last m c t h, next m c (prev t) (by show 1 ≤ (t.val - 1) % 4; omega) (by show ¬ (t.val - 1) % 4 = 3; omega),
    next m c (prev (prev t)) (by show 1 ≤ (t.val - 1 - 1) % 4; omega) (by show ¬ (t.val - 1 - 1) % 4 = 3; omega),
    first m c (prev (prev (prev t))) (by show (t.val - 1 - 1 - 1) % 4 = 0; omega),
    part_before m c t t 3 rfl h, part_before m c t (prev t) 2 (by show (t.val - 1) / 4 = t.val / 4; omega) (by show (t.val - 1) % 4 = 2; omega),
    part_before m c t (prev (prev t)) 1 (by show (t.val - 1 - 1) / 4 = t.val / 4; omega) (by show (t.val - 1 - 1) % 4 = 1; omega),
    part_before m c t (prev (prev (prev t))) 0 (by show (t.val - 1 - 1 - 1) / 4 = t.val / 4; omega) (by show (t.val - 1 - 1 - 1) % 4 = 0; omega)]
  exact (sum_quarters fun k => arg0 m c (ix2 k (row t r)) * arg1 m c (ix2 k (col t q))).symm

/-- The result as a whole array, with a leading axis of one. -/
def dwArr : FVec Ideal S1x2048x2048 .f32 := fun i =>
  grad m c (i 1) (i 2)

/-- The place in the result array of a place in a block. -/
def at' (t : Fin cfg0.N) (r : Fin 512) (q : Fin 512) : S1x2048x2048.Idx :=
  ix3 (0 : Fin 1) (row t r) (col t q)

theorem arr_at (t : Fin cfg0.N) (r : Fin 512) (q : Fin 512) : dwArr m c (at' t r q) = grad m c (row t r) (col t q) :=
  rfl

theorem emb2 (t : Fin cfg0.N) (u : Fin 1) (r : Fin 512) (q : Fin 512) : ((cfg0.win 2).rect t).emb (ix3 u r q) = at' t r q := by
  obtain ⟨w0, w1, w2⟩ := where2 t
  have hu : u.val = 0 := by omega
  funext a
  match a with
  | ⟨0, _⟩ => exact Fin.ext ((Pipeline.Window.rect_emb_val (cfg0.win 2) t (ix3 u r q) 0).trans (by rw [w0]; show 0 * 1 + u.val = 0; omega))
  | ⟨1, _⟩ => exact Fin.ext ((Pipeline.Window.rect_emb_val (cfg0.win 2) t (ix3 u r q) 1).trans (by rw [w1]; rfl))
  | ⟨2, _⟩ => exact Fin.ext ((Pipeline.Window.rect_emb_val (cfg0.win 2) t (ix3 u r q) 2).trans (by rw [w2]; rfl))

/-- The point that writes the block holding a place, and where in the block. -/
theorem exists_at (i : S1x2048x2048.Idx) : ∃ (t : Fin cfg0.N) (r : Fin 512) (q : Fin 512), t.val % 4 = 3 ∧ at' t r q = i := by
  have h0 : (i 0).val < 1 := (i 0).isLt
  have h1 : (i 1).val < 2048 := (i 1).isLt
  have h2 : (i 2).val < 2048 := (i 2).isLt
  refine ⟨⟨(i 1).val / 512 * 16 + (i 2).val / 512 * 4 + 3, by show _ < grid0.N; rw [N_0]; omega⟩, ⟨(i 1).val % 512, by omega⟩, ⟨(i 2).val % 512, by omega⟩,
    by show ((i 1).val / 512 * 16 + (i 2).val / 512 * 4 + 3) % 4 = 3; omega, ?_⟩
  funext a
  match a with
  | ⟨0, _⟩ => exact Fin.ext (by show 0 = (i 0).val; omega)
  | ⟨1, _⟩ => exact Fin.ext (by show ((i 1).val / 512 * 16 + (i 2).val / 512 * 4 + 3) / 16 * 512 + (i 1).val % 512 = (i 1).val; omega)
  | ⟨2, _⟩ => exact Fin.ext (by show ((i 1).val / 512 * 16 + (i 2).val / 512 * 4 + 3) % 16 / 4 * 512 + (i 2).val % 512 = (i 2).val; omega)

theorem dw_array : (dats (F := Ideal) m 0 c).arrAt 2 cfg0.N = dwArr m c := by
  refine Pipeline.Dat.arrAt_eq_of_cover (dats m 0 c) 2 (dwArr m c) (fun t ht => ?_) fun i => ?_
  · rw [Value.flushed2]
    funext y
    obtain ⟨u, r, q, rfl⟩ : ∃ (u : Fin 1) (r : Fin 512) (q : Fin 512), y = ix3 u r q := ⟨y 0, y 1, y 2, eq_ix3 y⟩
    exact (point m c t ((flush0_2 t).mp ht) u r q).trans ((arr_at m c t r q).symm.trans (congrArg (dwArr m c) (emb2 t u r q)).symm)
  · obtain ⟨t, r, q, ht, h⟩ := exists_at i
    exact ⟨t, (flush0_2 t).mpr ht, Finset.mem_map.mpr ⟨ix3 0 r q, Finset.mem_univ _, (emb2 t 0 r q).trans h⟩⟩

end Cert.DwoutIdeal.Run

end
-- ==== Proof.Projections.lean ====
/-
  The runs of the projections' calls, of the output weights' gradient of the feed-forward layer, and of their references.
-/
module

public import proofs.«01_k».proof.Proof.Weights
public import proofs.«01_k».proof.Proof.DwdValue
public import proofs.«01_k».proof.Proof.DinValue
public import proofs.«01_k».proof.Proof.PinValue
public import proofs.«01_k».proof.Proof.PoutValue
public import proofs.«01_k».proof.Proof.DcatValue
public import proofs.«01_k».proof.Proof.DwoutValue
public import proofs.«01_k».proof.Proof.Gen.Dwd.Frame
public import proofs.«01_k».proof.Proof.Gen.Din.Frame
public import proofs.«01_k».proof.Proof.Gen.Pin.Frame
public import proofs.«01_k».proof.Proof.Gen.Pout.Frame
public import proofs.«01_k».proof.Proof.Gen.Dcat.Frame
public import proofs.«01_k».proof.Proof.Gen.Dwout.Frame
public import proofs.«01_k».proof.Proof.Gen.DwdReferenceIdeal.Run
public import proofs.«01_k».proof.Proof.Gen.DinReferenceIdeal.Run
public import proofs.«01_k».proof.Proof.Gen.PinReferenceIdeal.Run
public import proofs.«01_k».proof.Proof.Gen.PoutReferenceIdeal.Run
public import proofs.«01_k».proof.Proof.Gen.DcatReferenceIdeal.Run
public import proofs.«01_k».proof.Proof.Gen.DwoutReferenceIdeal.Run
public import Idealize.ShloMosaic.Lib.Quiescent
public import Idealize.ShloMosaic.Lib.ValueLayout

@[expose] public section

set_option maxRecDepth 16384

noncomputable section

namespace Cert.Proof

open Idealize.ShloMosaic hiding ix2 eq_ix2 ix3 eq_ix3 ix4 eq_ix4 ix5 eq_ix5
open Idealize.ShloMosaic.ValueIdx Idealize.ShloMosaic.TcCoe Idealize.SL.Sem
open Cert.Crossed

/-- The gradient of the weights as the reference makes it, one matrix: the transpose of the incoming gradient against the input. -/
theorem grad_apply {M N : ℕ} (wf) (h : FVec Ideal ⟨2, ![8192, M]⟩ .f32) (g : FVec Ideal ⟨2, ![8192, N]⟩ .f32)
    (ht : (⟨2, ![N, M]⟩ : Shape).Transposes [1, 0] ⟨2, ![M, N]⟩) (i : Fin M) (j : Fin N) :
    transpose ⟨2, ![M, N]⟩ [1, 0] (Host.dotGeneral (dims (K := 8192) (M := N) (N := M) wf) none g h) ht (ix2 i j)
      = ∑ k : Fin 8192, h (ix2 k i) * g (ix2 k j) :=
  (transpose_ix2_apply _ ht i j).trans ((host_apply wf g h j i).trans (Finset.sum_congr rfl fun k _ => mul_comm _ _))

/-- The gradient of the feed-forward layer's output weights as the reference lays it out: the rows by device, the columns by half. -/
theorem cut_rows_apply (wf) (h : FVec Ideal ⟨2, ![8192, 5632]⟩ .f32) (g : FVec Ideal ⟨2, ![8192, 2048]⟩ .f32)
    (ht : (⟨2, ![2048, 5632]⟩ : Shape).Transposes [1, 0] ⟨2, ![5632, 2048]⟩) (hs : (⟨2, ![5632, 2048]⟩ : Shape).ShapeCasts ⟨4, ![4, 1408, 2, 1024]⟩)
    (hu : (⟨4, ![4, 1408, 2, 1024]⟩ : Shape).Transposes [0, 2, 1, 3] ⟨4, ![4, 2, 1408, 1024]⟩)
    (d : Fin 4) (e : Fin 2) (a : Fin 1408) (b : Fin 1024) (i : Fin 5632) (j : Fin 2048) (hi : i.val = d.val * 1408 + a.val) (hj : j.val = e.val * 1024 + b.val) :
    transpose ⟨4, ![4, 2, 1408, 1024]⟩ [0, 2, 1, 3] (shapeCast ⟨4, ![4, 1408, 2, 1024]⟩
      (transpose ⟨2, ![5632, 2048]⟩ [1, 0] (Host.dotGeneral (dims (K := 8192) (M := 2048) (N := 5632) wf) none g h) ht) hs) hu (ix4 d e a b)
      = ∑ k : Fin 8192, h (ix2 k i) * g (ix2 k j) := by
  refine (transpose_apply _ _ hu (ix4 d e a b) (ix4 d a e b) (fun x => ?_)).trans ?_
  · match x with
    | ⟨0, _⟩ => rfl
    | ⟨1, _⟩ => rfl
    | ⟨2, _⟩ => rfl
    | ⟨3, _⟩ => rfl
  refine (shapeCast_apply _ hs (ix4 d a e b) (ix2 i j) ?_).trans (grad_apply wf h g ht i j)
  rw [Shape.rowMajor_val_four, Shape.rowMajor_val_two]
  show i.val * 2048 + j.val = ((d.val * 1408 + a.val) * 2 + e.val) * 1024 + b.val
  rw [hi, hj]; ring

/-- Each reference reaches its end with its arguments unchanged and no counter left over. -/
theorem frame_dwd_ri : Cert.quiescent_DwdReferenceIdeal := fun m ρ _ =>
  (θ_run Cert.DwdReferenceIdeal.defs _ _).mono
    (fun r h => ⟨fun c => (h c).2, sem_eq_zero_of_no_sems (by decide) r.2⟩)
    (Cert.DwdReferenceIdeal.Value.run (F := Ideal) m ρ)
theorem frame_din_ri : Cert.quiescent_DinReferenceIdeal := fun m ρ _ =>
  (θ_run Cert.DinReferenceIdeal.defs _ _).mono
    (fun r h => ⟨fun c => (h c).2, sem_eq_zero_of_no_sems (by decide) r.2⟩)
    (Cert.DinReferenceIdeal.Value.run (F := Ideal) m ρ)
theorem frame_pin_ri : Cert.quiescent_PinReferenceIdeal := fun m ρ _ =>
  (θ_run Cert.PinReferenceIdeal.defs _ _).mono
    (fun r h => ⟨fun c => (h c).2.2, sem_eq_zero_of_no_sems (by decide) r.2⟩)
    (Cert.PinReferenceIdeal.Value.run (F := Ideal) m ρ)
theorem frame_pout_ri : Cert.quiescent_PoutReferenceIdeal := fun m ρ _ =>
  (θ_run Cert.PoutReferenceIdeal.defs _ _).mono
    (fun r h => ⟨fun c => (h c).2, sem_eq_zero_of_no_sems (by decide) r.2⟩)
    (Cert.PoutReferenceIdeal.Value.run (F := Ideal) m ρ)
theorem frame_dcat_ri : Cert.quiescent_DcatReferenceIdeal := fun m ρ _ =>
  (θ_run Cert.DcatReferenceIdeal.defs _ _).mono
    (fun r h => ⟨fun c => (h c).2, sem_eq_zero_of_no_sems (by decide) r.2⟩)
    (Cert.DcatReferenceIdeal.Value.run (F := Ideal) m ρ)
theorem frame_dwout_ri : Cert.quiescent_DwoutReferenceIdeal := fun m ρ _ =>
  (θ_run Cert.DwoutReferenceIdeal.defs _ _).mono
    (fun r h => ⟨fun c => (h c).2, sem_eq_zero_of_no_sems (by decide) r.2⟩)
    (Cert.DwoutReferenceIdeal.Value.run (F := Ideal) m ρ)

/-- The input projection's input gradient: kernel and reference end with the same array. -/
theorem algebraic_din : Cert.algebraic_DinIdeal_DinReferenceIdeal := by
  intro m ρ m' ρ' _ hargs
  refine ⟨Cert.DinIdeal.Run.dhArr m, ?_, ?_⟩
  · refine (θ_run Cert.DinIdeal.defs _ _).mono (fun r h c => ?_) (Cert.DinIdeal.Value.run_blocks (F := Ideal) m ρ)
    obtain ⟨h0, h1⟩ := h c
    exact ⟨h0.trans (Cert.DinIdeal.Run.dh_array m c), h1⟩
  · refine (θ_run Cert.DinReferenceIdeal.defs _ _).mono (fun r h c => ?_) (Cert.DinReferenceIdeal.Value.run (F := Ideal) m' ρ')
    obtain ⟨h0, h1⟩ := h c
    obtain ⟨e0, e1, e2⟩ := hargs c
    rw [e1, e2] at h0
    exact ⟨h0, h1⟩

/-- The input projection: kernel and reference end with the same product in both formats. -/
theorem algebraic_pin : Cert.algebraic_PinIdeal_PinReferenceIdeal := by
  intro m ρ m' ρ' _ hargs
  refine ⟨Cert.PinIdeal.Run.aArr m, Cert.PinIdeal.Run.bArr m, ?_, ?_⟩
  · refine (θ_run Cert.PinIdeal.defs _ _).mono (fun r h c => ?_) (Cert.PinIdeal.Value.run_blocks (F := Ideal) m ρ)
    obtain ⟨h0, h1, h2⟩ := h c
    exact ⟨h0.trans (Cert.PinIdeal.Run.a_array m c), h1.trans (Cert.PinIdeal.Run.b_array m c), h2⟩
  · refine (θ_run Cert.PinReferenceIdeal.defs _ _).mono (fun r h c => ?_) (Cert.PinReferenceIdeal.Value.run (F := Ideal) m' ρ')
    obtain ⟨h0, h1, h2⟩ := h c
    obtain ⟨e0, e1⟩ := hargs c
    rw [e0, e1] at h0
    rw [e0, e1] at h1
    exact ⟨h0, h1, h2⟩

/-- The output projection: kernel and reference end with the same layer output. -/
theorem algebraic_pout : Cert.algebraic_PoutIdeal_PoutReferenceIdeal := by
  intro m ρ m' ρ' _ hargs
  refine ⟨Cert.PoutIdeal.Run.xArr m, ?_, ?_⟩
  · refine (θ_run Cert.PoutIdeal.defs _ _).mono (fun r h c => ?_) (Cert.PoutIdeal.Value.run_blocks (F := Ideal) m ρ)
    obtain ⟨h0, h1⟩ := h c
    exact ⟨h0.trans (Cert.PoutIdeal.Run.x_array m c), h1⟩
  · refine (θ_run Cert.PoutReferenceIdeal.defs _ _).mono (fun r h c => ?_) (Cert.PoutReferenceIdeal.Value.run (F := Ideal) m' ρ')
    obtain ⟨h0, h1⟩ := h c
    obtain ⟨e0, e1, e2⟩ := hargs c
    rw [e0, e1, e2] at h0
    exact ⟨h0, h1⟩

/-- The joined heads' gradient: kernel and reference end with the same array. -/
theorem algebraic_dcat : Cert.algebraic_DcatIdeal_DcatReferenceIdeal := by
  intro m ρ m' ρ' _ hargs
  refine ⟨Cert.DcatIdeal.Run.xArr m, ?_, ?_⟩
  · refine (θ_run Cert.DcatIdeal.defs _ _).mono (fun r h c => ?_) (Cert.DcatIdeal.Value.run_blocks (F := Ideal) m ρ)
    obtain ⟨h0, h1⟩ := h c
    exact ⟨h0.trans (Cert.DcatIdeal.Run.x_array m c), h1⟩
  · refine (θ_run Cert.DcatReferenceIdeal.defs _ _).mono (fun r h c => ?_) (Cert.DcatReferenceIdeal.Value.run (F := Ideal) m' ρ')
    obtain ⟨h0, h1⟩ := h c
    obtain ⟨e0, e1, e2, e3⟩ := hargs c
    rw [e2, e3] at h0
    exact ⟨h0, h1⟩

/-- The output projection's weights: kernel and reference end with the same gradient. -/
theorem algebraic_dwout : Cert.algebraic_DwoutIdeal_DwoutReferenceIdeal := by
  intro m ρ m' ρ' _ hargs
  refine ⟨Cert.DwoutIdeal.Run.dwArr m, ?_, ?_⟩
  · refine (θ_run Cert.DwoutIdeal.defs _ _).mono (fun r h c => ?_) (Cert.DwoutIdeal.Value.run_blocks (F := Ideal) m ρ)
    obtain ⟨h0, h1⟩ := h c
    exact ⟨h0.trans (Cert.DwoutIdeal.Run.dw_array m c), h1⟩
  · refine (θ_run Cert.DwoutReferenceIdeal.defs _ _).mono (fun r h c => ?_) (Cert.DwoutReferenceIdeal.Value.run (F := Ideal) m' ρ')
    obtain ⟨h0, h1⟩ := h c
    obtain ⟨e0, e1⟩ := hargs c
    rw [e0, e1] at h0
    refine ⟨h0.trans (funext fun y => ?_), h1⟩
    obtain ⟨u, i, j, rfl⟩ : ∃ (u : Fin 1) (i j : Fin 2048), y = ix3 u i j := ⟨y 0, y 1, y 2, eq_ix3 y⟩
    refine (broadcastInDim_apply _ _ _ (ix3 u i j) (ix2 i j) (fun x => ?_)).trans ?_
    · match x with
      | ⟨0, _⟩ => rfl
      | ⟨1, _⟩ => rfl
    exact grad_apply _ (Cert.DwoutIdeal.Run.arg0 m c) (Cert.DwoutIdeal.Run.arg1 m c) _ i j

/-- The feed-forward layer's output weights: kernel and reference end with the same gradients of the two layers. -/
theorem algebraic_dwd : Cert.algebraic_DwdIdeal_DwdReferenceIdeal := by
  intro m ρ m' ρ' _ hargs
  refine ⟨Cert.DwdIdeal.Run.dwArr m, ?_, ?_⟩
  · refine (θ_run Cert.DwdIdeal.defs _ _).mono (fun r h c => ?_) (Cert.DwdIdeal.Value.run_blocks (F := Ideal) m ρ)
    obtain ⟨h0, h1⟩ := h c
    exact ⟨h0.trans (Cert.DwdIdeal.Run.dw_array m c), h1⟩
  · refine (θ_run Cert.DwdReferenceIdeal.defs _ _).mono (fun r h c => ?_) (Cert.DwdReferenceIdeal.Value.run (F := Ideal) m' ρ')
    obtain ⟨h0, h1⟩ := h c
    obtain ⟨e0, e1, e2⟩ := hargs c
    rw [e0, e1, e2] at h0
    refine ⟨h0.trans (funext fun y => ?_), h1⟩
    obtain ⟨d, e, l, a, b, rfl⟩ : ∃ (d : Fin 4) (e : Fin 2) (l : Fin 2) (a : Fin 1408) (b : Fin 1024), y = ix5 d e l a b :=
      ⟨y 0, y 1, y 2, y 3, y 4, eq_ix5 y⟩
    by_cases hl : l.val = 0
    · refine (concatenate_pair_apply_left (s₁ := Cert.DwdReferenceIdeal.S4x2x1x1408x1024) _ _ _ _ (ix5 d e l a b) rfl (ix5 d e (0 : Fin 1) a b) (fun x => ?_)).trans ?_
      · match x with
        | ⟨0, _⟩ => rfl
        | ⟨1, _⟩ => rfl
        | ⟨2, _⟩ => exact hl.symm
        | ⟨3, _⟩ => rfl
        | ⟨4, _⟩ => rfl
      refine (broadcastInDim_apply _ _ _ (ix5 d e (0 : Fin 1) a b) (ix4 d e a b) (fun x => ?_)).trans ?_
      · match x with
        | ⟨0, _⟩ => rfl
        | ⟨1, _⟩ => rfl
        | ⟨2, _⟩ => rfl
        | ⟨3, _⟩ => rfl
      refine (cut_rows_apply _ (Cert.DwdIdeal.Run.arg0 m c) (Cert.DwdIdeal.Run.arg1 m c) _ _ _ d e a b
        ⟨d.val * 1408 + a.val, by omega⟩ ⟨e.val * 1024 + b.val, by omega⟩ rfl rfl).trans ?_
      exact (if_pos hl).symm
    · have h1 : l.val = 1 := by omega
      refine (concatenate_pair_apply_right (s₁ := Cert.DwdReferenceIdeal.S4x2x1x1408x1024) (s₂ := Cert.DwdReferenceIdeal.S4x2x1x1408x1024) _ _ _ _ (ix5 d e l a b) rfl rfl (ix5 d e (0 : Fin 1) a b) (fun x hx => ?_) ?_).trans ?_
      · match x, hx with
        | ⟨0, _⟩, _ => rfl
        | ⟨1, _⟩, _ => rfl
        | ⟨2, _⟩, hx => exact absurd rfl hx
        | ⟨3, _⟩, _ => rfl
        | ⟨4, _⟩, _ => rfl
      · show 0 + 1 = l.val
        omega
      refine (broadcastInDim_apply _ _ _ (ix5 d e (0 : Fin 1) a b) (ix4 d e a b) (fun x => ?_)).trans ?_
      · match x with
        | ⟨0, _⟩ => rfl
        | ⟨1, _⟩ => rfl
        | ⟨2, _⟩ => rfl
        | ⟨3, _⟩ => rfl
      refine (shapeCast_apply _ _ (ix4 d e a b) (ix5 d e (0 : Fin 1) a b) ?_).trans ?_
      · rw [Shape.rowMajor_val_four, Shape.rowMajor_val_five]
        show (((d.val * 2 + e.val) * 1 + 0) * 1408 + a.val) * 1024 + b.val = ((d.val * 2 + e.val) * 1408 + a.val) * 1024 + b.val
        omega
      refine (extractStridedSlice_apply _ _ _ (ix5 d e (0 : Fin 1) a b) (ix5 d e l a b) (fun x => ?_)).trans (if_neg hl).symm
      match x with
      | ⟨0, _⟩ => exact (Nat.zero_add _).symm
      | ⟨1, _⟩ => exact (Nat.zero_add _).symm
      | ⟨2, _⟩ => exact h1
      | ⟨3, _⟩ => exact (Nat.zero_add _).symm
      | ⟨4, _⟩ => exact (Nat.zero_add _).symm

end Cert.Proof

end
-- ==== Proof.FrameIdeal.lean ====
/-
  The gradient kernel with its named constant: it runs to the end, its arguments end as they were, every
  counter ends at zero. Nothing is said here of what it computes. One run of the body from buffers of any
  contents to buffers of some contents covers every grid point.
-/
module

public import proofs.«01_k».proof.Proof.Gen.KernelIdeal.Frame
public import proofs.«01_k».proof.Proof.Gen.KernelIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref's elements held outright at the contents `f`. -/
abbrev held (c : Dev nD) {S : Shape} {e : EltTy} (M : Memref sig .tc .vmem S e) (f : BufTy.Contents (Elt F) M.view.ty) : sProp 𝕄 :=
  M.view.loc (c : Thread nD τ) ↦[M.view.set]{fullShare} f

/-- The two scratch accumulators. -/
abbrev scK : Memref sig .tc .vmem S2x32x128x256 .f32 := Memref.whole cc0_scratch0
abbrev scV : Memref sig .tc .vmem S2x32x128x256 .f32 := Memref.whole cc0_scratch1

/-- The condition under which the body clears its two accumulators: the query tile is the first. -/
abbrev clears (i : grid0.Coords) : BitVec 1 :=
  Scalar.cmpi .ne (Scalar.extui (Scalar.cmpi .eq (BitVec.ofNat 32 (i 1).val) 0#32) : BitVec 32) 0#32

set_option maxHeartbeats 4000000 in
/-- The ten buffers the body works on, each held at some contents. -/
abbrev buffers (c : Dev nD)
    (a2 : Memref sig .tc .vmem S256x256 .bf16) (a3 a4 : Memref sig .tc .vmem S8192x256 .bf16) (a5 a6 : Memref sig .tc .vmem S256x256 .f32)
    (a7 : Memref sig .tc .vmem S256x256 .bf16) (a8 a9 : Memref sig .tc .vmem S8192x256 .bf16)
    (a10 a11 : Memref sig .tc .vmem S2x32x128x256 .f32) : sProp 𝕄 :=
  iprop((∃ f, held c a2 f) ∗ (∃ f, held c a3 f) ∗ (∃ f, held c a4 f) ∗ (∃ f, held c a5 f) ∗ (∃ f, held c a6 f)
    ∗ (∃ f, held c a7 f) ∗ (∃ f, held c a8 f) ∗ (∃ f, held c a9 f) ∗ (∃ f, held c a10 f) ∗ (∃ f, held c a11 f))

set_option maxHeartbeats 4000000 in
/-- The body from ten buffers of any contents to the same ten buffers of some contents, whatever is done after. -/
theorem body_runs (c : Dev nD) (i : grid0.Coords)
    (a2 : Memref sig .tc .vmem S256x256 .bf16) (h2 : a2.IsWhole) (a3 : Memref sig .tc .vmem S8192x256 .bf16) (h3 : a3.IsWhole)
    (a4 : Memref sig .tc .vmem S8192x256 .bf16) (h4 : a4.IsWhole) (a5 : Memref sig .tc .vmem S256x256 .f32) (h5 : a5.IsWhole)
    (a6 : Memref sig .tc .vmem S256x256 .f32) (h6 : a6.IsWhole) (a7 : Memref sig .tc .vmem S256x256 .bf16) (h7 : a7.IsWhole)
    (a8 : Memref sig .tc .vmem S8192x256 .bf16) (h8 : a8.IsWhole) (a9 : Memref sig .tc .vmem S8192x256 .bf16) (h9 : a9.IsWhole)
    (a10 : Memref sig .tc .vmem S2x32x128x256 .f32) (h10 : a10.IsWhole) (a11 : Memref sig .tc .vmem S2x32x128x256 .f32) (h11 : a11.IsWhole)
    (K : PUnit → sProp 𝕄) :
    iprop(buffers c a2 a3 a4 a5 a6 a7 a8 a9 a10 a11 ∗ (buffers c a2 a3 a4 a5 a6 a7 a8 a9 a10 a11 -∗ K ⟨⟩))
      ⊢ wp frame (wpE (defs₀ (F := F)) Variants.none c none) Set.univ
          (cc0_attn_bwd i a2 h2 a3 h3 a4 h4 a5 h5 a6 h6 a7 h7 a8 h8 a9 h9 a10 h10 a11 h11) K := by
  simp only [cc0_attn_bwd_eq_skeleton]; unfold cc0_attn_bwd_skel
  by_cases hz : clears i = 1#1 <;> by_cases hl : k0_cond2 i = 1#1
  all_goals
    iintro ⟨⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩, Hk⟩
    sl_exec (disch := first | sl_exact hz | sl_exact hl)
    sl_step
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-! ## The proof data and the body obligation -/

/-- Each window's array as the launch finds it; nothing said of what the body leaves; the scratch at some contents
    throughout; the three windows on one array each hold their part of it; nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What the loop keeps between points: the two accumulators at some contents, the generator at some state. -/
theorem PhiA_eq (c : Dev nD) :
    (Pipeline.ΦA spec0 c : sProp 𝕄)
      = iprop(iprop((∃ f, owns (c : Thread nD τ) scK fullShare f) ∗ (∃ f, owns (c : Thread nD τ) scV fullShare f)) ∗ (∃ r, prngReg c r)) := by
  unfold Pipeline.ΦA; rw [scopedRest0_eq]; simp only [scK, scV, owns_whole]; try rfl

/-- A staging buffer owned at some contents. -/
abbrev owned (c : Dev nD) {S : Shape} {e : EltTy} (M : Memref sig .tc .vmem S e) : sProp 𝕄 :=
  iprop(∃ X, ⌜True⌝ ∗ owns (c : Thread nD τ) M fullShare X)

/-- What the body is called with at point `t`. -/
def bodyPre (c : Dev nD) (t : Fin cfg0.N) : sProp 𝕄 :=
  iprop((rdat m c).Φ t.castSucc ∗ (rdat m c).owesAt () t.castSucc ∗ owned c (st0_0 t) ∗ owned c (st0_1 t) ∗ owned c (st0_2 t)
    ∗ owned c (st0_3 t) ∗ owned c (st0_4 t) ∗ owned c (st0_5 t) ∗ owned c (st0_6 t) ∗ owned c (st0_7 t))
/-- What the body returns at point `t`. -/
def bodyPost (c : Dev nD) (t : Fin cfg0.N) : sProp 𝕄 :=
  iprop((rdat m c).Φ t.succ ∗ (rdat m c).owesAt () t.succ ∗ owned c (st0_0 t) ∗ owned c (st0_1 t) ∗ owned c (st0_2 t)
    ∗ owned c (st0_3 t) ∗ owned c (st0_4 t) ∗ owned c (st0_5 t) ∗ owned c (st0_6 t) ∗ owned c (st0_7 t))

/-- The body at a grid point, from the loop's invariant to the loop's invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (rdat m c).Φ t.succ = Pipeline.ΦA spec0 c from rfl, show (rdat m c).Φ t.castSucc = Pipeline.ΦA spec0 c from rfl,
    show (rdat m c).owesAt () t.succ = (rdat m c).owesAt () t.castSucc from rfl, PhiA_eq]
  unfold owned owns
  iintro ⟨⟨⟨⟨%e0, %g0, -, G0⟩, ⟨%e1, %g1, -, G1⟩⟩, Hg⟩, HW, ⟨%d0, -, %f0, -, H0⟩, ⟨%d1, -, %f1, -, H1⟩, ⟨%d2, -, %f2, -, H2⟩, ⟨%d3, -, %f3, -, H3⟩, ⟨%d4, -, %f4, -, H4⟩, ⟨%d5, -, %f5, -, H5⟩, ⟨%d6, -, %f6, -, H6⟩, ⟨%d7, -, %f7, -, H7⟩⟩
  iapply (body_runs (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    scK (Memref.isWhole_whole _) scV (Memref.isWhole_whole _) _)
  isplitr [HW Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [G0]
    · iexists _; iexact G0
    iexists _; iexact G1
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%g0, G0⟩, ⟨%g1, G1⟩⟩
  isplitl [G0 G1 Hg]
  · isplitl [G0 G1]
    · isplitl [G0]
      · iexists _, _; isplitr; swap; · iexact G0
        ipureintro; rfl
      iexists _, _; isplitr; swap; · iexact G1
      ipureintro; rfl
    iexact Hg
  isplitl [HW]; · iexact HW
  isplitl [H0]
  · iexists _; isplitr; · ipureintro; trivial
    iexists _; isplitr; swap; · iexact H0
    ipureintro; rfl
  isplitl [H1]
  · iexists _; isplitr; · ipureintro; trivial
    iexists _; isplitr; swap; · iexact H1
    ipureintro; rfl
  isplitl [H2]
  · iexists _; isplitr; · ipureintro; trivial
    iexists _; isplitr; swap; · iexact H2
    ipureintro; rfl
  isplitl [H3]
  · iexists _; isplitr; · ipureintro; trivial
    iexists _; isplitr; swap; · iexact H3
    ipureintro; rfl
  isplitl [H4]
  · iexists _; isplitr; · ipureintro; trivial
    iexists _; isplitr; swap; · iexact H4
    ipureintro; rfl
  isplitl [H5]
  · iexists _; isplitr; · ipureintro; trivial
    iexists _; isplitr; swap; · iexact H5
    ipureintro; rfl
  isplitl [H6]
  · iexists _; isplitr; · ipureintro; trivial
    iexists _; isplitr; swap; · iexact H6
    ipureintro; rfl
  iexists _; isplitr; · ipureintro; trivial
  iexists _; isplitr; swap; · iexact H7
  ipureintro; rfl

/-- The body table's row at the point is the body there. -/
theorem defs₀_row (t : Fin cfg0.N) : defs₀ (F := F) .tc cfg0.body (cfg0.bodyArgs t (cfg0.slots t)) = bodyAt0 t := by
  unfold defs₀; rw [Defs.onTc_tc]

/-- A staging buffer owned at known contents is owned at some contents. -/
theorem owned_of {c : Dev nD} {S : Shape} {e : EltTy} {M : Memref sig .tc .vmem S e} {X : S.Idx → Elt F e} :
    owns (c : Thread nD τ) M fullShare X ⊢ owned (F := F) c M := by
  iintro H; iexists X; isplitr; · ipureintro; trivial
  iexact H

/-- The obligation the launch asks of the body at every point. -/
theorem body_obligation (c : Dev nD) :
    (rdat (F := F) m c).BodyObligation (defs₀ (F := F)) Variants.none () Set.univ := fun t Y _ => by
  rw [bigSep_W0, bigSep_W0, defs₀_row]
  refine triple_restated (sound_body m c t) rfl ?_ fun _ => .rfl
  unfold bodyPre
  exact BIClass.sep_mono .rfl (BIClass.sep_mono .rfl (BIClass.sep_mono owned_of (BIClass.sep_mono owned_of (BIClass.sep_mono owned_of (BIClass.sep_mono owned_of
    (BIClass.sep_mono owned_of (BIClass.sep_mono owned_of (BIClass.sep_mono owned_of owned_of))))))))

/-! ## The launch -/

-- the launch theorem's implicit arguments are found by unifying its conclusion with this statement
set_option backward.isDefEq.respectTransparency.types false in
/-- From any memory with zero counters every execution ends, the arrays no window writes as the launch found them and
    every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m) (hmain := hmain m Variants.none)
    (hA := fun _ _ => rfl) (hin := fun _ => .rfl) (hout := fun _ => .rfl) (hQ' := fun _ h => h)

/-- The frame: every execution ends, both arguments as they were, every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_arg0 (Pipeline.mem_restRefs_of main_arg0 (by decide) (by decide))).trans (V_main_arg0 m c),
      (((Pipeline.RDat.ArrAt_in (rdat m c) 3 rfl _).le _ ((h.1 c).1 3))).trans (V_main_arg1 m c)⟩, h.2⟩) (run_main m ρ)

end Cert.KernelIdeal.Run

end
-- ==== Proof.Stick.lean ====
/-
  The gradient of one head of stick-breaking attention, over the reals, and the sums by which it is taken up tile by
  tile. Rows and columns are natural numbers; every sum runs over an initial segment.
-/
module

public import Mathlib.Analysis.SpecialFunctions.Log.Basic
public import Mathlib.Algebra.BigOperators.Fin

@[expose] public section

noncomputable section

namespace Cert.Stick

open scoped BigOperators
open Finset (range)

/-- One head: its scale, the rows of its queries, keys and values, and the gradient of its output. -/
structure Head where
  c : ℝ
  q : ℕ → Fin 128 → ℝ
  k : ℕ → Fin 128 → ℝ
  v : ℕ → Fin 128 → ℝ
  g : ℕ → Fin 128 → ℝ

namespace Head

variable (H : Head)

/-- The score of column `s` in row `t`. -/
def z (t s : ℕ) : ℝ := ∑ d, H.q t d * H.c * H.k s d
/-- The cost `log (1 + exp z)` of leaving column `s` unused; a column not in the past costs nothing. -/
def sp (t s : ℕ) : ℝ := if s < t then Real.log (1 + Real.exp (H.z t s)) else 0
/-- What row `t` pays in all. -/
def spent (t : ℕ) : ℝ := ∑ s ∈ range t, H.sp t s
/-- What is still to be paid before the columns under `n` are taken off. -/
def left (n t : ℕ) : ℝ := H.spent t - ∑ s ∈ range n, H.sp t s
/-- The gradient of the weight. -/
def dw (t s : ℕ) : ℝ := ∑ d, H.g t d * H.v s d
/-- The weight of column `s` in row `t`. -/
def w (t s : ℕ) : ℝ := if s < t then Real.exp (H.z t s - H.left s t) else 0
/-- The gradient of the weight's logarithm. -/
def e (t s : ℕ) : ℝ := H.dw t s * H.w t s
/-- The sum of those gradients over the columns under `n`. -/
def upto (n t : ℕ) : ℝ := ∑ s ∈ range n, H.e t s
/-- The gradient of the score. -/
def dz (t s : ℕ) : ℝ :=
  if s < t then H.e t s - Real.exp (H.z t s - Real.log (1 + Real.exp (H.z t s))) * H.upto (s + 1) t else 0
/-- The gradient of the scaled query, from the columns under `n`. -/
def dqTo (n t : ℕ) (d : Fin 128) : ℝ := ∑ s ∈ range n, H.dz t s * H.k s d
/-- The gradient of the key of column `s`, from the rows under `n`. -/
def dkTo (n : ℕ) (d : Fin 128) (s : ℕ) : ℝ := ∑ t ∈ range n, H.q t d * H.c * H.dz t s
/-- The gradient of the value of column `s`, from the rows under `n`. -/
def dvTo (n : ℕ) (d : Fin 128) (s : ℕ) : ℝ := ∑ t ∈ range n, H.g t d * H.w t s

end Head

/-! ## Sums over a tile -/

/-- The terms of one tile that pass a threshold are those between two ends. -/
theorem tile_below (f : ℕ → ℝ) (a : ℕ) (c : ℕ) (hc : c ≤ 256) :
    ∑ k : Fin 256, f (a + k.val) * (if k.val < c then 1 else 0) = ∑ s ∈ range (a + c), f s - ∑ s ∈ range a, f s := by
  rw [Finset.sum_range_add, add_sub_cancel_left, Fin.sum_univ_eq_sum_range (fun k => f (a + k) * (if k < c then (1 : ℝ) else 0)) 256]
  simp only [mul_ite, mul_one, mul_zero]
  rw [← Finset.sum_filter]
  refine Finset.sum_congr ?_ fun _ _ => rfl
  ext k; simp only [Finset.mem_filter, Finset.mem_range]; omega

/-- A whole tile. -/
theorem tile_sum (f : ℕ → ℝ) (a : ℕ) : ∑ k : Fin 256, f (a + k.val) = ∑ s ∈ range (a + 256), f s - ∑ s ∈ range a, f s := by
  rw [← tile_below f a 256 le_rfl]
  exact Finset.sum_congr rfl fun k _ => by rw [if_pos k.isLt, mul_one]

namespace Head

variable (H : Head)

/-- The weight from the cost still to be paid at the tile's start and the costs before it in the tile. -/
theorem weight_tile (a t : ℕ) (c : Fin 256) :
    Real.exp (H.z t (a + c.val) - H.left a t + ∑ k : Fin 256, H.sp t (a + k.val) * (if k.val < c.val then 1 else 0))
      = Real.exp (H.z t (a + c.val) - H.left (a + c.val) t) := by
  rw [tile_below (H.sp t) a c.val c.isLt.le]; congr 1; unfold left; ring

/-- The gradients up to and including a column, from those before the tile and those in it. -/
theorem upto_tile (a t : ℕ) (c : Fin 256) :
    H.upto a t + ∑ k : Fin 256, H.e t (a + k.val) * (if k.val ≤ c.val then 1 else 0) = H.upto (a + c.val + 1) t := by
  have h := tile_below (H.e t) a (c.val + 1) c.isLt
  simp only [Nat.lt_succ_iff] at h
  rw [h]; unfold upto; rw [← add_assoc]; ring

/-- The cost of a tile, as its last prefix and its last column. -/
theorem left_tile (a t : ℕ) :
    H.left a t - (∑ k : Fin 256, H.sp t (a + k.val) * (if k.val < 255 then 1 else 0) + H.sp t (a + 255)) = H.left (a + 256) t := by
  rw [tile_below (H.sp t) a 255 (by norm_num)]; unfold left
  have h : ∑ s ∈ range (a + 256), H.sp t s = ∑ s ∈ range (a + 255), H.sp t s + H.sp t (a + 255) := Finset.sum_range_succ _ _
  rw [h]; ring

theorem dqTo_tile (a t : ℕ) (d : Fin 128) :
    H.dqTo a t d + ∑ k : Fin 256, H.dz t (a + k.val) * H.k (a + k.val) d = H.dqTo (a + 256) t d := by
  rw [tile_sum (fun s => H.dz t s * H.k s d) a]; unfold dqTo; ring

theorem dkTo_tile (a s : ℕ) (d : Fin 128) :
    H.dkTo a d s + ∑ r : Fin 256, H.q (a + r.val) d * H.c * H.dz (a + r.val) s = H.dkTo (a + 256) d s := by
  rw [tile_sum (fun t => H.q t d * H.c * H.dz t s) a]; unfold dkTo; ring

theorem dvTo_tile (a s : ℕ) (d : Fin 128) :
    H.dvTo a d s + ∑ r : Fin 256, H.g (a + r.val) d * H.w (a + r.val) s = H.dvTo (a + 256) d s := by
  rw [tile_sum (fun t => H.g t d * H.w t s) a]; unfold dvTo; ring

/-- A row takes nothing from a column that is not in its past. -/
theorem dz_of_le {t s : ℕ} (h : t ≤ s) : H.dz t s = 0 := if_neg (Nat.not_lt.mpr h)
theorem w_of_le {t s : ℕ} (h : t ≤ s) : H.w t s = 0 := if_neg (Nat.not_lt.mpr h)

theorem dkTo_of_le {n m s : ℕ} (d : Fin 128) (hn : n ≤ m) (h : m ≤ s + 1) : H.dkTo m d s = H.dkTo n d s := by
  unfold dkTo
  refine (Finset.sum_subset (Finset.range_mono hn) fun t ht _ => ?_).symm
  rw [H.dz_of_le (by have := Finset.mem_range.mp ht; omega), mul_zero]
theorem dvTo_of_le {n m s : ℕ} (d : Fin 128) (hn : n ≤ m) (h : m ≤ s + 1) : H.dvTo m d s = H.dvTo n d s := by
  unfold dvTo
  refine (Finset.sum_subset (Finset.range_mono hn) fun t ht _ => ?_).symm
  rw [H.w_of_le (by have := Finset.mem_range.mp ht; omega), mul_zero]
theorem dqTo_of_le {n m t : ℕ} (d : Fin 128) (hn : n ≤ m) (h : t ≤ n) : H.dqTo m t d = H.dqTo n t d := by
  unfold dqTo
  refine (Finset.sum_subset (Finset.range_mono hn) fun s _ hs => ?_).symm
  rw [H.dz_of_le (by simp at hs; omega), zero_mul]
theorem upto_zero (t : ℕ) : H.upto 0 t = 0 := by simp [upto]
theorem left_zero (t : ℕ) : H.left 0 t = H.spent t := by simp [left]
theorem dqTo_zero (t : ℕ) (d : Fin 128) : H.dqTo 0 t d = 0 := by simp [dqTo]

end Head

end Cert.Stick

end
-- ==== Proof.Grad.lean ====
/-
  The gradient of stick-breaking attention as automatic differentiation spells it, read off over the reals: it is the
  gradient of one head, head by head.
-/
module

public import proofs.«01_k».proof.Proof.Cube
public import proofs.«01_k».proof.Proof.Stick

@[expose] public section

set_option maxRecDepth 16384

noncomputable section

namespace Cert.Cube

open Idealize.ShloMosaic hiding ix2 eq_ix2 ix3 eq_ix3 ix4 eq_ix4
open Idealize.ShloMosaic.ValueIdx
open scoped BigOperators
open Finset (range)
open Cert.Stick (Head)

section Vectors

variable (hS : DotDims.WF Rows Rows Scores [2] [2] [1] [1] [0] [0]) (q k v g : FVec Ideal Rows .f32) (w : BitVec 32)
  (hO : Scores.ReduceWindows ![1, 1, 8192] ![1, 1, 1] ![0, 0, 0] ![0, 0, 8191] Scores)
  (hU : Scores.ReduceWindows ![1, 1, 8192] ![1, 1, 1] ![0, 0, 8191] ![0, 0, 0] Scores)
  (h0 : 0 < S0.numel)

/-- The scaled scores. -/
def score : FVec Ideal Scores .f32 := mulf (Host.dotGeneral (dotScore hS) none q k) (fill w)
/-- The logarithm of what passing over each column leaves, zero outside the past; `z` is the scores. -/
def logLeft (z : FVec Ideal Scores .f32) : FVec Ideal Scores .f32 := keep (Host.negf (soft (Host.negf (Host.negf z))))
/-- The weights before the mask: the column taken, the later ones passed over. -/
def weight (z : FVec Ideal Scores .f32) : FVec Ideal Scores .f32 :=
  Host.exp (addf (Host.negf (soft (Host.negf z)))
    (subf (Host.reduceWindowAdd ![1, 1, 8192] ![1, 1, 1] ![0, 0, 0] ![0, 0, 8191] (logLeft z) nought hO h0) (logLeft z)))
/-- The gradient of the logarithm of the weights. -/
def slope (z : FVec Ideal Scores .f32) : FVec Ideal Scores .f32 :=
  mulf (keep (Host.dotGeneral (dotScore hS) none g v)) (weight hO h0 z)
/-- `exp (u - log (1 + exp u))`, with the infinities taken out. -/
def ratio (u : FVec Ideal Scores .f32) : FVec Ideal Scores .f32 := Host.exp (subf (tame u) (tame (soft u)))
/-- The gradient of the scaled scores' dot products, from the gradient `e` of the weights' logarithm. -/
def slopeScore (z e : FVec Ideal Scores .f32) : FVec Ideal Scores .f32 :=
  mulf (addf (Host.negf (mulf (Host.negf e) (ratio (Host.negf z))))
    (Host.negf (Host.negf (mulf (Host.negf (keep (addf (Host.negf e)
      (Host.reduceWindowAdd ![1, 1, 8192] ![1, 1, 1] ![0, 0, 8191] ![0, 0, 0] e nought hU h0)))) (ratio (Host.negf (Host.negf z))))))) (fill w)

end Vectors

/-! ## Over the reals -/

variable (Hs : Fin 8 → Head) (hS : DotDims.WF Rows Rows Scores [2] [2] [1] [1] [0] [0]) (w : BitVec 32) (r : ℝ)
  (hO : Scores.ReduceWindows ![1, 1, 8192] ![1, 1, 1] ![0, 0, 0] ![0, 0, 8191] Scores)
  (hU : Scores.ReduceWindows ![1, 1, 8192] ![1, 1, 1] ![0, 0, 8191] ![0, 0, 0] Scores)
  (h0 : 0 < S0.numel)

/-- The scores of the heads. -/
theorem score_heads (hw : Ideal.ofBits .f32 w = r) (hc : ∀ p, (Hs p).c = r) :
    score hS (rows fun p => (Hs p).q) (rows fun p => (Hs p).k) w = cube fun p => (Hs p).z := by
  unfold score
  rw [dotScore_cube, scale_cube _ _ r hw]
  refine cube_congr fun p t s _ _ => ?_
  rw [Head.z, hc, Finset.sum_mul]
  exact Finset.sum_congr rfl fun d _ => by ring

/-- What passing over a column leaves. -/
theorem logLeft_heads : logLeft (cube fun p => (Hs p).z) = cube fun p t s => -(Hs p).sp t s := by
  unfold logLeft
  rw [neg_cube, neg_cube, soft_cube, neg_cube, keep_cube]
  refine cube_congr fun p t s _ _ => ?_
  simp only [Head.sp, neg_neg]
  split_ifs <;> simp

theorem log_neg (z : ℝ) : Real.log (1 + Real.exp (-z)) = Real.log (1 + Real.exp z) - z := by
  have : 1 + Real.exp z = Real.exp z * (1 + Real.exp (-z)) := by
    rw [mul_add, ← Real.exp_add]; simp; ring
  rw [this, Real.log_mul (Real.exp_pos z).ne' (by positivity), Real.log_exp]; ring

theorem spent_all (H : Head) {t n : ℕ} (ht : t ≤ n) : ∑ s ∈ range n, H.sp t s = H.spent t := by
  rw [Head.spent, ← Finset.sum_range_add_sum_Ico _ ht, Finset.sum_eq_zero (s := Finset.Ico t n), add_zero]
  intro s hs
  exact if_neg (Nat.not_lt.mpr (Finset.mem_Ico.mp hs).1)

/-- The weights of the heads, in the past and elsewhere. -/
theorem weight_heads : weight hO h0 (cube fun p => (Hs p).z) = cube fun p t s => Real.exp ((Hs p).z t s - (Real.log (1 + Real.exp ((Hs p).z t s)) - (Hs p).sp t s + (Hs p).left s t)) := by
  unfold weight
  rw [logLeft_heads, window_onward, sub_cube, neg_cube, soft_cube, neg_cube, add_cube, exp_cube]
  refine cube_congr fun p t s ht hs => ?_
  congr 1
  rw [sum_onward (fun n => -(Hs p).sp t n) hs.le, Finset.sum_neg_distrib, Finset.sum_neg_distrib, spent_all _ ht.le, log_neg, Head.left]
  ring

theorem keep_weight : keep (cube fun p t s => Real.exp ((Hs p).z t s - (Real.log (1 + Real.exp ((Hs p).z t s)) - (Hs p).sp t s + (Hs p).left s t)))
    = cube fun p => (Hs p).w := by
  rw [keep_cube]
  refine cube_congr fun p t s _ _ => ?_
  rw [Head.w]
  split_ifs with h
  · rw [Head.sp, if_pos h]; congr 1; ring
  · rfl

/-- The gradient of the logarithm of the heads' weights. -/
theorem slope_heads : slope hS (rows fun p => (Hs p).v) (rows fun p => (Hs p).g) hO h0 (cube fun p => (Hs p).z) = cube fun p => (Hs p).e := by
  unfold slope
  rw [dotScore_cube, keep_cube, weight_heads, mul_cube]
  refine cube_congr fun p t s _ _ => ?_
  rw [Head.e, Head.w, Head.dw]
  split_ifs with h
  · rw [Head.sp, if_pos h]; congr 2; ring
  · simp

theorem ratio_cube (x : Fin 8 → ℕ → ℕ → ℝ) : ratio (cube x) = cube fun p t s => Real.exp (x p t s - Real.log (1 + Real.exp (x p t s))) := by
  unfold ratio
  rw [soft_cube, tame_cube, tame_cube, sub_cube, exp_cube]

theorem ratio_neg (z : ℝ) : Real.exp (-z - Real.log (1 + Real.exp (-z))) = 1 - Real.exp (z - Real.log (1 + Real.exp z)) := by
  have hp : 0 < 1 + Real.exp z := by have := Real.exp_pos z; linarith
  rw [log_neg, show -z - (Real.log (1 + Real.exp z) - z) = -Real.log (1 + Real.exp z) by ring, Real.exp_sub, Real.exp_neg, Real.exp_log hp]
  field_simp; ring

/-- The gradient of the heads' scores, times the scale. -/
theorem slopeScore_heads (hw : Ideal.ofBits .f32 w = r) :
    slopeScore w hU h0 (cube fun p => (Hs p).z) (cube fun p => (Hs p).e) = cube fun p t s => (Hs p).dz t s * r := by
  unfold slopeScore
  rw [neg_cube, neg_cube, neg_cube, ratio_cube, ratio_cube, window_upward, mul_cube, neg_cube, add_cube, keep_cube, neg_cube, mul_cube, neg_cube, neg_cube,
    add_cube, scale_cube _ _ r hw]
  refine cube_congr fun p t s ht hs => ?_
  simp only [neg_neg]
  rw [ratio_neg, show (8192 : ℕ) = 8191 + 1 from rfl, sum_upward (fun n => (Hs p).e t n) (show s ≤ 8191 by omega), Head.dz, Head.upto]
  congr 1
  split_ifs with h
  · rw [Finset.sum_range_succ]; ring
  · have : (Hs p).e t s = 0 := by rw [Head.e, Head.w, if_neg h, mul_zero]
    rw [this]; ring

end Cert.Cube
-- ==== Proof.Heads.lean ====
/-
  The eight heads of the attention as they lie in the two arguments, and the three results as matrices of real numbers.
-/
module

public import proofs.«01_k».proof.Proof.Cube
public import proofs.«01_k».proof.Proof.Stick

@[expose] public section

noncomputable section

namespace Cert.Cube

open Idealize.ShloMosaic hiding ix2 eq_ix2 ix3 eq_ix3 ix4 eq_ix4
open Idealize.ShloMosaic.ValueIdx
open Cert.Stick (Head)

/-- Head `n` of the projections `X` and of the gradient `Y` of the concatenated outputs, at the scale `r`. -/
def head (r : ℝ) (X Y : ℕ → ℕ → ℝ) (n : ℕ) : Head where
  c := r
  q t d := X t (4096 + 128 * n + d.val)
  k t d := X t (5120 + 128 * n + d.val)
  v t d := X t (6144 + 128 * n + d.val)
  g t d := Y t (1024 + 128 * n + d.val)

variable (r : ℝ) (X Y : ℕ → ℕ → ℝ)

/-- The gradient of the queries, head beside head. -/
def dqMat : FVec Ideal (Mat 1024) .bf16 := fun j =>
  (((head r X Y ((j 1).val / 128)).dqTo 8192 (j 0).val ⟨(j 1).val % 128, Nat.mod_lt _ (by norm_num)⟩ * r : ℝ) : EReal)
/-- The gradient of the keys, head beside head. -/
def dkMat : FVec Ideal (Mat 1024) .bf16 := fun j =>
  (((head r X Y ((j 1).val / 128)).dkTo 8192 ⟨(j 1).val % 128, Nat.mod_lt _ (by norm_num)⟩ (j 0).val : ℝ) : EReal)
/-- The gradient of the values, head beside head. -/
def dvMat : FVec Ideal (Mat 1024) .bf16 := fun j =>
  (((head r X Y ((j 1).val / 128)).dvTo 8192 ⟨(j 1).val % 128, Nat.mod_lt _ (by norm_num)⟩ (j 0).val : ℝ) : EReal)

/-- An array of extended reals none of which is infinite is a matrix of real numbers. -/
theorem exists_mat {n : ℕ} {φ : FTy} (x : FVec Ideal (Mat n) φ) (h : ∀ j, x j ≠ ⊤ ∧ x j ≠ ⊥) : ∃ X : ℕ → ℕ → ℝ, x = mat n φ X := by
  refine ⟨fun a b => if hab : a < 8192 ∧ b < n then EReal.toReal (x (ix2 ⟨a, hab.1⟩ ⟨b, hab.2⟩)) else 0, funext fun j => ?_⟩
  unfold mat; beta_reduce
  rw [dif_pos (show (j 0).val < 8192 ∧ (j 1).val < n from ⟨idx2_lt0 j, idx2_lt1 j⟩)]
  refine (congrArg x (eq_ix2 j)).trans (EReal.coe_toReal ?_ ?_).symm
  · exact (h _).1
  · exact (h _).2

end Cert.Cube
-- ==== Proof.Stage.lean ====
/-
  The stages of one tile of the attention's backward pass, as vector functions, and their values over the reals. Each
  stage is written once and serves both heads and both kinds of tile: the ones wholly in the past and the ones on the
  diagonal, where `keep` masks.
-/
module

public import proofs.«01_k».proof.Proof.Gen.KernelIdeal.Skeleton
public import Idealize.ShloMosaic.Lib.MatmulPlain
public import Idealize.ShloMosaic.Lib.Pipeline.Value
public import Idealize.ShloMosaic.Lib.IdealHost
public import Idealize.ShloMosaic.Lib.WordCmp
public import Idealize.ShloMosaic.Lib.Pointwise

@[expose] public section

set_option maxRecDepth 16384

noncomputable section

namespace Cert.KernelIdeal.Stage

open Cert.KernelIdeal Cert.KernelIdeal.Gen
open Idealize.ShloMosaic hiding ix2 eq_ix2 ix4 eq_ix4
open Idealize.ShloMosaic.ValueIdx Idealize.ShloMosaic.WordCmp
open scoped BigOperators

section Vectors

variable {F : FTy → Type} [FloatOps F] [Named F]

/-- Rows of one operand against rows of the other. -/
def score (a : FVec F S256x128 .bf16) (b : Vec F S256x128 .bf16) : FVec F S256x256 .f32 :=
  matmul dot_S256x128_S256x128_S256x256_1_1_0_0_n_n none a (shapeCast S256x128 b shapeCasts_S256x128_S256x128)
    (constant S256x256 .f32 0x00000000#32)

/-- `log (1 + exp z)`, as `max z 0 + log (1 + 2 ^ (-|z| / log 2))`. -/
def soft (z : FVec F S256x256 .f32) : FVec F S256x256 .f32 :=
  addf (maximumf z (broadcast S256x256 (Scalar.ofBits .f32 0x00000000#32)))
    (log (addf (broadcast S256x256 (Scalar.ofBits .f32 0x3F800000#32))
      (exp2 (mulf (absf z) (broadcast S256x256 (Named.named κ "neg_log2_e" 0xBFB8AA3B#32))))))

/-- `exp (z - log (1 + exp z))`. -/
def gate (z : FVec F S256x256 .f32) : FVec F S256x256 .f32 := exp (subf z (soft z))

/-- The entries of `x` where the mask is set, zero elsewhere. -/
def keep (m : IVec S256x256 1) (x : FVec F S256x256 .f32) : FVec F S256x256 .f32 :=
  select m x (broadcast S256x256 (Scalar.ofBits .f32 0x00000000#32))

/-- `x` times a matrix of ones and zeros: sums along each row. -/
def along (b : FVec F S256x256 .bf16) (x : FVec F S256x256 .f32) : FVec F S256x256 .f32 :=
  matmul dot_S256x256_S256x256_S256x256_1_0_0_1_n_n none (truncf .bf16 x bitsLt_bf16_f32) b (constant S256x256 .f32 0x00000000#32)

/-- The last column. -/
def final (x : FVec F S256x256 .f32) : FVec F S256x1 .f32 :=
  extractStridedSlice S256x1 ![0, 255] x slices_S256x256_o0_255_S256x1

/-- The weights of a tile, before any mask. -/
def weight (b : FVec F S256x256 .bf16) (z sp : FVec F S256x256 .f32) (u : FVec F S256x1 .f32) : FVec F S256x256 .f32 :=
  exp (addf (subf z (broadcastTo S256x256 u broadcasts_S256x1_S256x256)) (along b sp))

/-- The gradient of the scores of a tile, before any mask. -/
def slope (b : FVec F S256x256 .bf16) (e s : FVec F S256x256 .f32) (u : FVec F S256x1 .f32) : FVec F S256x256 .f32 :=
  subf e (mulf s (addf (broadcastTo S256x256 u broadcasts_S256x1_S256x256) (along b e)))

/-- A running sum of products with rows of `k`. -/
def gather (u : FVec F S256x128 .f32) (x : FVec F S256x256 .bf16) (k : Vec F S256x128 .bf16) : FVec F S256x128 .f32 :=
  addf u (matmul dot_S256x256_S256x128_S256x128_1_0_0_1_n_n none x (shapeCast S256x128 k shapeCasts_S256x128_S256x128)
    (constant S256x128 .f32 0x00000000#32))

/-- A slab of an accumulator with one more product added. -/
def slab (a : FVec F S128x256 .bf16) (x : FVec F S256x256 .bf16) (f : Vec F S1x1x128x256 .f32) : FVec F S1x1x128x256 .f32 :=
  shapeCast S1x1x128x256 (addf (shapeCast S128x256 f shapeCasts_S1x1x128x256_S128x256)
    (matmul dot_S128x256_S256x256_S128x256_1_0_0_1_n_n none a x (constant S128x256 .f32 0x00000000#32))) shapeCasts_S128x256_S1x1x128x256

end Vectors

/-! ## Over the reals -/

/-- A real matrix as a vector of extended reals. -/
def up {m n : ℕ} (φ : FTy) (a : Fin m → Fin n → ℝ) : FVec Ideal ⟨2, ![m, n]⟩ φ := fun j => ((a (j 0) (j 1) : ℝ) : EReal)

theorem up_apply {m n : ℕ} (φ : FTy) (a : Fin m → Fin n → ℝ) (r : Fin m) (c : Fin n) : up φ a (ix2 r c) = ((a r c : ℝ) : EReal) := rfl

/-- Two vectors are equal when they agree at each row and column. -/
theorem ext2 {m n : ℕ} {φ : FTy} {x y : FVec Ideal ⟨2, ![m, n]⟩ φ} (h : ∀ r c, x (ix2 r c) = y (ix2 r c)) : x = y := by
  funext j; rw [eq_ix2 j]; exact h _ _

theorem coe_sum {n : ℕ} (f : Fin n → ℝ) : ∑ k, ((f k : ℝ) : EReal) = ((∑ k, f k : ℝ) : EReal) := by
  induction (Finset.univ : Finset (Fin n)) using Finset.induction_on with
  | empty => simp
  | insert a s ha ih => rw [Finset.sum_insert ha, Finset.sum_insert ha, ih, EReal.coe_add]

theorem zero_bits : Ideal.ofBits .f32 0x00000000#32 = ((0 : ℝ) : EReal) := by simp

theorem score_up (a b : Fin 256 → Fin 128 → ℝ) : score (up .bf16 a) (up .bf16 b) = up .f32 fun r c => ∑ d, a r d * b c d := by
  refine ext2 fun r c => ?_
  unfold score
  rw [shapeCast_self]
  refine (Ideal.matmul_transposedRhs_apply none _ _ _ r c).trans ?_
  rw [show (constant (F := Ideal) S256x256 .f32 0x00000000#32 : FVec Ideal S256x256 .f32) (ix2 r c) = ((0 : ℝ) : EReal) from zero_bits]
  simp only [up_apply, ← EReal.coe_mul, coe_sum, ← EReal.coe_add, zero_add]

theorem along_up (b x : Fin 256 → Fin 256 → ℝ) : along (up .bf16 b) (up .f32 x) = up .f32 fun r c => ∑ k, x r k * b k c := by
  refine ext2 fun r c => ?_
  unfold along
  refine (Ideal.matmul_plain_apply none _ _ _ r c).trans ?_
  rw [show (constant (F := Ideal) S256x256 .f32 0x00000000#32 : FVec Ideal S256x256 .f32) (ix2 r c) = ((0 : ℝ) : EReal) from zero_bits]
  rw [show (truncf .bf16 (up .f32 x) bitsLt_bf16_f32 : FVec Ideal S256x256 .bf16) = up .bf16 x from rfl]
  simp only [up_apply, ← EReal.coe_mul, coe_sum, ← EReal.coe_add, zero_add]

theorem soft_real (z : ℝ) : max z 0 + Real.log (1 + Real.rpow 2 (|z| * -((Real.log 2)⁻¹))) = Real.log (1 + Real.exp z) := by
  have h2 : Real.log 2 ≠ 0 := (Real.log_pos (by norm_num)).ne'
  have hp : Real.rpow 2 (|z| * -((Real.log 2)⁻¹)) = Real.exp (-|z|) := by
    show (2 : ℝ) ^ (|z| * -((Real.log 2)⁻¹)) = _
    rw [Real.rpow_def_of_pos (by norm_num)]
    congr 1; field_simp
  rw [hp]
  have hpos := Real.exp_pos (-|z|)
  rcases le_total 0 z with h | h
  · rw [max_eq_left h, abs_of_nonneg h]
    have : 1 + Real.exp z = Real.exp z * (1 + Real.exp (-z)) := by
      rw [mul_add, ← Real.exp_add]; simp; ring
    rw [this, Real.log_mul (Real.exp_pos z).ne' (by positivity), Real.log_exp]
  · rw [max_eq_right h, abs_of_nonpos h]; simp

theorem coe_max (a b : ℝ) : max (a : EReal) (b : EReal) = ((max a b : ℝ) : EReal) :=
  (EReal.coe_strictMono.monotone.map_max).symm

theorem soft_up (z : Fin 256 → Fin 256 → ℝ) : soft (up .f32 z) = up .f32 fun r c => Real.log (1 + Real.exp (z r c)) := by
  refine ext2 fun r c => ?_
  show max ((z r c : ℝ) : EReal) (Ideal.ofBits .f32 0x00000000#32) + Ideal.log (Ideal.ofBits .f32 0x3F800000#32
    + Ideal.exp2 (max ((z r c : ℝ) : EReal) (-((z r c : ℝ) : EReal)) * ((-((Real.log 2)⁻¹) : ℝ) : EReal))) = _
  rw [zero_bits, Ideal.ofBits_one_f32, ← EReal.coe_neg, coe_max, coe_max, ← EReal.coe_mul, Ideal.exp2_coe, ← EReal.coe_one,
    ← EReal.coe_add, Ideal.log_coe, if_neg, ← EReal.coe_add]
  · exact congrArg _ (soft_real _)
  · have : (0:ℝ) < (Real.rpow 2 (max (z r c) (-z r c) * -(Real.log 2)⁻¹)) := Real.rpow_pos_of_pos (by norm_num) _
    linarith

theorem gather_up (u : Fin 256 → Fin 128 → ℝ) (x : Fin 256 → Fin 256 → ℝ) (k : Fin 256 → Fin 128 → ℝ) :
    gather (up .f32 u) (up .bf16 x) (up .bf16 k) = up .f32 fun r d => u r d + ∑ s, x r s * k s d := by
  refine ext2 fun r c => ?_
  unfold gather
  rw [shapeCast_self]
  show up .f32 u (ix2 r c) + FloatOps.matmul (DotDims.plain 256 256 128) none _ _ _ (ix2 r c) = _
  rw [Ideal.matmul_plain_apply]
  rw [show (constant (F := Ideal) S256x128 .f32 0x00000000#32 : FVec Ideal S256x128 .f32) (ix2 r c) = ((0 : ℝ) : EReal) from zero_bits]
  simp only [up_apply, ← EReal.coe_mul, coe_sum, ← EReal.coe_add, zero_add]

theorem final_up (x : Fin 256 → Fin 256 → ℝ) : final (up .f32 x) = up .f32 fun r (_ : Fin 1) => x r 255 := by
  refine ext2 fun r c => ?_
  unfold final
  rw [extractStridedSlice_apply _ _ _ _ (ix2 r 255) (by intro a; fin_cases a <;> simp <;> omega)]
  rfl

theorem col_up (u : Fin 256 → Fin 1 → ℝ) : broadcastTo S256x256 (up .f32 u) broadcasts_S256x1_S256x256 = up .f32 fun r (_ : Fin 256) => u r 0 := by
  refine ext2 fun r c => ?_
  rw [broadcastTo_apply _ _ _ (ix2 r 0) (by intro a; fin_cases a <;> simp)]
  rfl

theorem gate_up (z : Fin 256 → Fin 256 → ℝ) :
    gate (up .f32 z) = up .f32 fun r c => Real.exp (z r c - Real.log (1 + Real.exp (z r c))) := by
  unfold gate; rw [soft_up]
  refine ext2 fun r c => ?_
  show Ideal.exp (((z r c : ℝ) : EReal) - ((Real.log (1 + Real.exp (z r c)) : ℝ) : EReal)) = _
  rw [← EReal.coe_sub, Ideal.exp_coe]; rfl

theorem weight_up (b z sp : Fin 256 → Fin 256 → ℝ) (u : Fin 256 → Fin 1 → ℝ) :
    weight (up .bf16 b) (up .f32 z) (up .f32 sp) (up .f32 u)
      = up .f32 fun r c => Real.exp (z r c - u r 0 + ∑ k, sp r k * b k c) := by
  unfold weight; rw [along_up, col_up]
  refine ext2 fun r c => ?_
  show Ideal.exp (((z r c : ℝ) : EReal) - ((u r 0 : ℝ) : EReal) + ((∑ k, sp r k * b k c : ℝ) : EReal)) = _
  rw [← EReal.coe_sub, ← EReal.coe_add, Ideal.exp_coe]; rfl

theorem slope_up (b e s : Fin 256 → Fin 256 → ℝ) (u : Fin 256 → Fin 1 → ℝ) :
    slope (up .bf16 b) (up .f32 e) (up .f32 s) (up .f32 u)
      = up .f32 fun r c => e r c - s r c * (u r 0 + ∑ k, e r k * b k c) := by
  unfold slope; rw [along_up, col_up]
  refine ext2 fun r c => ?_
  show ((e r c : ℝ) : EReal) - ((s r c : ℝ) : EReal) * (((u r 0 : ℝ) : EReal) + ((∑ k, e r k * b k c : ℝ) : EReal)) = _
  rw [← EReal.coe_add, ← EReal.coe_mul, ← EReal.coe_sub]; rfl

theorem mul_up {m n : ℕ} (x y : Fin m → Fin n → ℝ) :
    (mulf (up .f32 x) (up .f32 y) : FVec Ideal ⟨2, ![m, n]⟩ .f32) = up .f32 fun r c => x r c * y r c :=
  ext2 fun r c => (EReal.coe_mul _ _).symm
theorem add_up {m n : ℕ} (x y : Fin m → Fin n → ℝ) :
    (addf (up .f32 x) (up .f32 y) : FVec Ideal ⟨2, ![m, n]⟩ .f32) = up .f32 fun r c => x r c + y r c :=
  ext2 fun r c => (EReal.coe_add _ _).symm
theorem sub_up {m n : ℕ} (x y : Fin m → Fin n → ℝ) :
    (subf (up .f32 x) (up .f32 y) : FVec Ideal ⟨2, ![m, n]⟩ .f32) = up .f32 fun r c => x r c - y r c :=
  ext2 fun r c => (EReal.coe_sub _ _).symm

theorem iota_row (r c : Fin 256) : iota .tc S256x256 32 [0] iota_S256x256_d0_w32 (ix2 r c) = BitVec.ofNat 32 r.val := by
  rw [iota_apply]; simp

theorem iota_col (r c : Fin 256) : iota .tc S256x256 32 [1] iota_S256x256_d1_w32 (ix2 r c) = BitVec.ofNat 32 c.val := by
  rw [iota_apply]; simp

theorem before_up : (k0_pay77 : FVec Ideal S256x256 .bf16) = up .bf16 fun r c => if r < c then 1 else 0 := by
  refine ext2 fun r c => ?_
  have h1 := r.isLt
  have h2 := c.isLt
  show (((IntOp.cmpi .slt (iota .tc S256x256 32 [0] iota_S256x256_d0_w32 (ix2 r c)) (iota .tc S256x256 32 [1] iota_S256x256_d1_w32 (ix2 r c))).setWidth 32).toInt : ℝ) = (_ : EReal)
  rw [iota_row, iota_col, cmpi_slt_ofNat (by omega) (by omega), up_apply]
  by_cases h : r < c
  · have h' : r.val < c.val := h
    simp [h, h']
  · have h' : ¬ r.val < c.val := h
    simp [h, h']

theorem upto_up : (k0_pay78 : FVec Ideal S256x256 .bf16) = up .bf16 fun r c => if r ≤ c then 1 else 0 := by
  refine ext2 fun r c => ?_
  have h1 := r.isLt
  have h2 := c.isLt
  show (((IntOp.cmpi .sle (iota .tc S256x256 32 [0] iota_S256x256_d0_w32 (ix2 r c)) (iota .tc S256x256 32 [1] iota_S256x256_d1_w32 (ix2 r c))).setWidth 32).toInt : ℝ) = (_ : EReal)
  rw [iota_row, iota_col, cmpi_sle_ofNat (by omega) (by omega), up_apply]
  by_cases h : r ≤ c
  · have h' : r.val ≤ c.val := h
    simp [h, h']
  · have h' : ¬ r.val ≤ c.val := h
    simp [h, h']

theorem keep_up (x : Fin 256 → Fin 256 → ℝ) : keep k0_pay79 (up .f32 x) = up .f32 fun r c => if c < r then x r c else 0 := by
  refine ext2 fun r c => ?_
  have h1 := r.isLt
  have h2 := c.isLt
  unfold keep
  rw [select_apply]
  have hp : k0_pay79 (ix2 r c) = IntOp.cmpi .slt (iota .tc S256x256 32 [1] iota_S256x256_d1_w32 (ix2 r c)) (iota .tc S256x256 32 [0] iota_S256x256_d0_w32 (ix2 r c)) := rfl
  rw [hp, iota_row, iota_col, cmpi_slt_ofNat (by omega) (by omega)]
  show (if _ then _ else Ideal.ofBits .f32 0x00000000#32) = _
  rw [zero_bits, up_apply, up_apply]
  by_cases h : c < r
  · have h' : c.val < r.val := h
    simp [h, h']
  · have h' : ¬ c.val < r.val := h
    simp [h, h']
theorem truncf_up {m n : ℕ} (x : Fin m → Fin n → ℝ) :
    (truncf .bf16 (up .f32 x) bitsLt_bf16_f32 : FVec Ideal ⟨2, ![m, n]⟩ .bf16) = up .bf16 x := rfl

/-- A slab of an accumulator holding a real matrix. -/
def pile (b : Fin 128 → Fin 256 → ℝ) : FVec Ideal S1x1x128x256 .f32 := fun j => ((b (j 2) (j 3) : ℝ) : EReal)

theorem of_pile (b : Fin 128 → Fin 256 → ℝ) : shapeCast S128x256 (pile b) shapeCasts_S1x1x128x256_S128x256 = up .f32 b := by
  refine ext2 fun d s => ?_
  rw [shapeCast_apply _ _ _ (ix4 0 0 d s) (by
    rw [Shape.rowMajor_val_four, Shape.rowMajor_val_two]
    show ((0 * 1 + 0) * 128 + d.val) * 256 + s.val = d.val * 256 + s.val
    omega)]
  rfl

theorem to_pile (b : Fin 128 → Fin 256 → ℝ) : shapeCast S1x1x128x256 (up .f32 b) shapeCasts_S128x256_S1x1x128x256 = pile b := by
  funext j
  refine (shapeCast_apply (up .f32 b) _ j (ix2 (j 2) (j 3)) (by
    have h0 : (j 0).val = 0 := by have := (j 0).isLt; simp at this; omega
    have h1 : (j 1).val = 0 := by have := (j 1).isLt; simp at this; omega
    rw [Shape.rowMajor_val_four, Shape.rowMajor_val_two, h0, h1]; simp)).trans ?_
  rfl

theorem slab_up (a : Fin 128 → Fin 256 → ℝ) (x : Fin 256 → Fin 256 → ℝ) (b : Fin 128 → Fin 256 → ℝ) :
    slab (up .bf16 a) (up .bf16 x) (pile b) = pile fun d s => b d s + ∑ r, a d r * x r s := by
  unfold slab
  rw [of_pile, ← to_pile]
  congr 1
  refine ext2 fun d s => ?_
  show up .f32 b (ix2 d s) + FloatOps.matmul (DotDims.plain 128 256 256) none _ _ _ (ix2 d s) = _
  rw [Ideal.matmul_plain_apply]
  rw [show (constant (F := Ideal) S128x256 .f32 0x00000000#32 : FVec Ideal S128x256 .f32) (ix2 d s) = ((0 : ℝ) : EReal) from zero_bits]
  simp only [up_apply, ← EReal.coe_mul, coe_sum, ← EReal.coe_add, zero_add]

end Cert.KernelIdeal.Stage

end
-- ==== Proof.Tile.lean ====
/-
  What one tile contributes, for either head: the weights, the gradient of the scores, and the two running sums each row
  carries from tile to tile. First as vector functions, then their values over the reals in the closed forms of
  `Stick`.
-/
module

public import proofs.«01_k».proof.Proof.Stage
public import proofs.«01_k».proof.Proof.Stick

@[expose] public section

set_option maxRecDepth 16384

noncomputable section

namespace Cert.KernelIdeal.Stage

open Cert.KernelIdeal Cert.KernelIdeal.Gen Cert.Stick
open Idealize.ShloMosaic hiding ix2 eq_ix2 ix4 eq_ix4
open Idealize.ShloMosaic.ValueIdx

section Vectors

variable {F : FTy → Type} [FloatOps F] [Named F]
variable (m : FVec F S256x256 .f32 → FVec F S256x256 .f32) (b b' : FVec F S256x256 .bf16) (q g : FVec F S256x128 .bf16)
variable (k v : Vec F S256x128 .bf16) (u u' : FVec F S256x1 .f32)

/-- The costs of a tile. The tile's mask is `m`: the identity in the past, `keep` on the diagonal. -/
def tileSp : FVec F S256x256 .f32 := m (soft (score q k))
/-- The weights of a tile. -/
def tileW : FVec F S256x256 .f32 := m (weight b (score q k) (tileSp m q k) u)
/-- The gradients of the weights' logarithms. -/
def tileE : FVec F S256x256 .f32 := mulf (score g v) (tileW m b q k u)
/-- The gradients of the scores. -/
def tileDz : FVec F S256x256 .bf16 :=
  truncf .bf16 (m (slope b' (tileE m b q g k v u) (gate (score q k)) u')) bitsLt_bf16_f32
/-- What is still to be paid after a tile. -/
def tileLeft : FVec F S256x1 .f32 := subf u (addf (final (along b (tileSp m q k))) (final (tileSp m q k)))
/-- The sum of the gradients of the logarithms after a tile. -/
def tileUpto : FVec F S256x1 .f32 := addf u' (final (along b' (tileE m b q g k v u)))

end Vectors

/-! ## Closed forms -/

variable (H : Head) (i j : ℕ)

def rQ (r : Fin 256) (d : Fin 128) : ℝ := H.q (256 * i + r.val) d * H.c
def rG (r : Fin 256) (d : Fin 128) : ℝ := H.g (256 * i + r.val) d
def rK (r : Fin 256) (d : Fin 128) : ℝ := H.k (256 * j + r.val) d
def rV (r : Fin 256) (d : Fin 128) : ℝ := H.v (256 * j + r.val) d
def rLeft (r : Fin 256) (_ : Fin 1) : ℝ := H.left (256 * j) (256 * i + r.val)
def rUpto (r : Fin 256) (_ : Fin 1) : ℝ := H.upto (256 * j) (256 * i + r.val)
def rDq (r : Fin 256) (d : Fin 128) : ℝ := H.dqTo (256 * j) (256 * i + r.val) d
def rZ (r c : Fin 256) : ℝ := H.z (256 * i + r.val) (256 * j + c.val)
def rSp (r c : Fin 256) : ℝ := H.sp (256 * i + r.val) (256 * j + c.val)
def rW (r c : Fin 256) : ℝ := H.w (256 * i + r.val) (256 * j + c.val)
def rE (r c : Fin 256) : ℝ := H.e (256 * i + r.val) (256 * j + c.val)
def rDz (r c : Fin 256) : ℝ := H.dz (256 * i + r.val) (256 * j + c.val)

/-- `m` is the mask of tile `(i, j)`: it keeps exactly the entries whose column is in the past of their row. -/
def Masks (m : FVec Ideal S256x256 .f32 → FVec Ideal S256x256 .f32) : Prop :=
  ∀ x : Fin 256 → Fin 256 → ℝ, m (up .f32 x) = up .f32 fun r c => if 256 * j + c.val < 256 * i + r.val then x r c else 0

theorem masks_past (h : j < i) : Masks i j id := fun x => by
  refine congrArg (up .f32) (funext fun r => funext fun c => ?_)
  rw [if_pos (by have := c.isLt; omega)]

theorem masks_diagonal : Masks i i (keep k0_pay79) := fun x => by
  rw [keep_up]
  refine congrArg (up .f32) (funext fun r => funext fun c => ?_)
  refine if_congr ?_ rfl rfl
  rw [Fin.lt_def]; omega

variable {i j} {m : FVec Ideal S256x256 .f32 → FVec Ideal S256x256 .f32}

theorem score_val : score (up .bf16 (rQ H i)) (up .bf16 (rK H j)) = up .f32 (rZ H i j) := score_up _ _

theorem tileSp_val (hm : Masks i j m) : tileSp m (up .bf16 (rQ H i)) (up .bf16 (rK H j)) = up .f32 (rSp H i j) := by
  unfold tileSp; rw [score_val, soft_up, hm]; rfl

theorem tileW_val (hm : Masks i j m) :
    tileW m k0_pay77 (up .bf16 (rQ H i)) (up .bf16 (rK H j)) (up .f32 (rLeft H i j)) = up .f32 (rW H i j) := by
  unfold tileW; rw [tileSp_val H hm, score_val, before_up, weight_up, hm]
  refine congrArg (up .f32) (funext fun r => funext fun c => ?_)
  exact if_congr Iff.rfl (H.weight_tile (256 * j) (256 * i + r.val) c) rfl

theorem tileE_val (hm : Masks i j m) :
    tileE m k0_pay77 (up .bf16 (rQ H i)) (up .bf16 (rG H i)) (up .bf16 (rK H j)) (up .bf16 (rV H j)) (up .f32 (rLeft H i j))
      = up .f32 (rE H i j) := by
  unfold tileE; rw [tileW_val H hm, score_up, mul_up]; rfl

theorem tileDz_val (hm : Masks i j m) :
    tileDz m k0_pay77 k0_pay78 (up .bf16 (rQ H i)) (up .bf16 (rG H i)) (up .bf16 (rK H j)) (up .bf16 (rV H j)) (up .f32 (rLeft H i j))
      (up .f32 (rUpto H i j)) = up .bf16 (rDz H i j) := by
  unfold tileDz; rw [tileE_val H hm, score_val, gate_up, upto_up, slope_up, hm, truncf_up]
  refine congrArg (up .bf16) (funext fun r => funext fun c => ?_)
  refine if_congr Iff.rfl ?_ rfl
  rw [← H.upto_tile (256 * j) (256 * i + r.val) c]; rfl

theorem tileLeft_val (hm : Masks i j m) :
    tileLeft m k0_pay77 (up .bf16 (rQ H i)) (up .bf16 (rK H j)) (up .f32 (rLeft H i j)) = up .f32 (rLeft H i (j + 1)) := by
  unfold tileLeft; rw [tileSp_val H hm, before_up, along_up, final_up, final_up, add_up, sub_up]
  refine congrArg (up .f32) (funext fun r => funext fun c => ?_)
  exact H.left_tile (256 * j) (256 * i + r.val)

theorem tileUpto_val (hm : Masks i j m) :
    tileUpto m k0_pay77 k0_pay78 (up .bf16 (rQ H i)) (up .bf16 (rG H i)) (up .bf16 (rK H j)) (up .bf16 (rV H j)) (up .f32 (rLeft H i j))
      (up .f32 (rUpto H i j)) = up .f32 (rUpto H i (j + 1)) := by
  unfold tileUpto; rw [tileE_val H hm, upto_up, along_up, final_up, add_up]
  refine congrArg (up .f32) (funext fun r => funext fun c => ?_)
  exact H.upto_tile (256 * j) (256 * i + r.val) 255

/-- The gradient of the queries after one more tile. -/
theorem gather_val : gather (up .f32 (rDq H i j)) (up .bf16 (rDz H i j)) (up .bf16 (rK H j)) = up .f32 (rDq H i (j + 1)) := by
  rw [gather_up]
  refine congrArg (up .f32) (funext fun r => funext fun d => ?_)
  exact H.dqTo_tile (256 * j) (256 * i + r.val) d

/-- The gradient of a tile's keys after one more tile of rows. -/
theorem slabK_val : slab (up .bf16 fun d r => rQ H i r d) (up .bf16 (rDz H i j)) (pile fun d c => H.dkTo (256 * i) d (256 * j + c.val))
    = pile fun d c => H.dkTo (256 * (i + 1)) d (256 * j + c.val) := by
  rw [slab_up]
  refine congrArg pile (funext fun d => funext fun c => ?_)
  exact H.dkTo_tile (256 * i) (256 * j + c.val) d

/-- The gradient of a tile's values after one more tile of rows. -/
theorem slabV_val : slab (up .bf16 fun d r => rG H i r d) (truncf .bf16 (up .f32 (rW H i j)) bitsLt_bf16_f32)
    (pile fun d c => H.dvTo (256 * i) d (256 * j + c.val)) = pile fun d c => H.dvTo (256 * (i + 1)) d (256 * j + c.val) := by
  rw [truncf_up, slab_up]
  refine congrArg pile (funext fun d => funext fun c => ?_)
  exact H.dvTo_tile (256 * i) (256 * j + c.val) d

end Cert.KernelIdeal.Stage

end
-- ==== Proof.Trip.lean ====
/-
  The loop over the tiles in the past. One trip adds one tile for each of the two heads; after `n` trips the six carried
  vectors and the two accumulators have their closed forms.
-/
module

public import proofs.«01_k».proof.Proof.Tile
public import proofs.«01_k».proof.Proof.Gen.KernelIdeal.Loops
public import Idealize.ShloMosaic.Lib.WritesUnit

@[expose] public section

set_option maxRecDepth 16384

noncomputable section

namespace Cert.KernelIdeal.Stage

open Cert.KernelIdeal Cert.KernelIdeal.Gen Cert.Stick
open Idealize.ShloMosaic hiding ix2 eq_ix2 ix4 eq_ix4
open Idealize.ShloMosaic.ValueIdx Idealize.ShloMosaic.TcCoe

section Trip

variable {F : FTy → Type} [FloatOps F] [Named F] [∀ e, Nonempty (Elt F e)]
variable (𝒱 : Variants) (c : Dev nD) (bd : Option 𝒱.V) (i : grid0.Coords) (arg2 : Memref sig .tc .vmem S256x256 .bf16)
variable (harg2 : arg2.IsWhole) (arg3 : Memref sig .tc .vmem S8192x256 .bf16) (harg3 : arg3.IsWhole)
variable (arg4 : Memref sig .tc .vmem S8192x256 .bf16) (harg4 : arg4.IsWhole) (arg5 : Memref sig .tc .vmem S256x256 .f32)
variable (harg5 : arg5.IsWhole) (arg6 : Memref sig .tc .vmem S256x256 .f32) (harg6 : arg6.IsWhole)
variable (arg7 : Memref sig .tc .vmem S256x256 .bf16) (harg7 : arg7.IsWhole) (arg8 : Memref sig .tc .vmem S8192x256 .bf16)
variable (harg8 : arg8.IsWhole) (arg9 : Memref sig .tc .vmem S8192x256 .bf16) (harg9 : arg9.IsWhole)
variable (arg10 : Memref sig .tc .vmem S2x32x128x256 .f32) (harg10 : arg10.IsWhole) (arg11 : Memref sig .tc .vmem S2x32x128x256 .f32)
variable (harg11 : arg11.IsWhole) (arg1 : BitVec 32) (v8 : FVec F S256x256 .bf16) (v12 : FVec F S256x256 .bf16)
variable (v24 : FVec F S256x128 .bf16) (v25 : FVec F S256x128 .bf16) (v27 : FVec F S128x256 .bf16) (v29 : FVec F S128x256 .bf16)
variable (v32 : FVec F S256x128 .bf16) (v33 : FVec F S256x128 .bf16) (v35 : FVec F S128x256 .bf16) (v37 : FVec F S128x256 .bf16)
variable (v38 : FVec F S256x128 .f32) (v41 : FVec F S256x1 .f32) (X_arg3 : BufTy.Contents (Elt F) arg3.view.ty)
variable (X_arg4 : BufTy.Contents (Elt F) arg4.view.ty)
variable (k : Fin (k0_t1_loop i).trips)

/-- The columns of the first head, and of the second, in the rows the trip reads. -/
abbrev rows0 (a : Memref sig .tc .vmem S8192x256 .bf16) (X : BufTy.Contents (Elt F) a.view.ty) : Vec F S256x128 .bf16 :=
  a.view.readAt (Elt F) (Rect.unit (s := S8192x256) (k0_off1 i k) S256x128.size (k0_off1_inb i k)).toLoadRect X
abbrev rows1 (a : Memref sig .tc .vmem S8192x256 .bf16) (X : BufTy.Contents (Elt F) a.view.ty) : Vec F S256x128 .bf16 :=
  a.view.readAt (Elt F) (Rect.unit (s := S8192x256) (k0_off2 i k) S256x128.size (k0_off2_inb i k)).toLoadRect X
/-- The slab of the first head, and of the second, that the trip adds to. -/
abbrev slab0 (a : Memref sig .tc .vmem S2x32x128x256 .f32) (X : BufTy.Contents (Elt F) a.view.ty) : Vec F S1x1x128x256 .f32 :=
  a.view.readAt (Elt F) (Rect.unit (s := S2x32x128x256) (k0_off3 i k) S1x1x128x256.size (k0_off3_inb i k)).toLoadRect X
abbrev slab1 (a : Memref sig .tc .vmem S2x32x128x256 .f32) (X : BufTy.Contents (Elt F) a.view.ty) : Vec F S1x1x128x256 .f32 :=
  a.view.readAt (Elt F) (Rect.unit (s := S2x32x128x256) (k0_off4 i k) S1x1x128x256.size (k0_off4_inb i k)).toLoadRect X
/-- Both slabs stored, the first head's first. -/
abbrev stored (w0 w1 : Vec F S1x1x128x256 .f32) : List (View.Piece (Elt F) S2x32x128x256 .f32) :=
  [⟨Rect.unit (s := S2x32x128x256) (k0_off4 i k) S1x1x128x256.size (k0_off4_inb i k), w1⟩,
    ⟨Rect.unit (s := S2x32x128x256) (k0_off3 i k) S1x1x128x256.size (k0_off3_inb i k), w0⟩]

variable (acc : FVec F S256x128 .f32 × FVec F S256x1 .f32 × FVec F S256x1 .f32 × FVec F S256x128 .f32 × FVec F S256x1 .f32 × FVec F S256x1 .f32)
variable (f_arg10 : BufTy.Contents (Elt F) arg10.view.ty) (f_arg11 : BufTy.Contents (Elt F) arg11.view.ty)

/-- What a trip yields. -/
theorem trip_yields :
    tripR_k0_t1 (F := F) 𝒱 c bd i arg2 harg2 arg3 harg3 arg4 harg4 arg5 harg5 arg6 harg6 arg7 harg7 arg8 harg8 arg9 harg9 arg10 harg10
    arg11 harg11 arg1 v8 v12 v24 v25 v27 v29 v32 v33 v35 v37 v38 v41 X_arg3 X_arg4 k acc f_arg10 f_arg11
      = (gather acc.1 (tileDz id v8 v12 v24 v32 (rows0 i k arg3 X_arg3) (rows0 i k arg4 X_arg4) acc.2.1 acc.2.2.1) (rows0 i k arg3 X_arg3),
        tileLeft id v8 v24 (rows0 i k arg3 X_arg3) acc.2.1,
        tileUpto id v8 v12 v24 v32 (rows0 i k arg3 X_arg3) (rows0 i k arg4 X_arg4) acc.2.1 acc.2.2.1,
        gather acc.2.2.2.1 (tileDz id v8 v12 v25 v33 (rows1 i k arg3 X_arg3) (rows1 i k arg4 X_arg4) acc.2.2.2.2.1 acc.2.2.2.2.2)
          (rows1 i k arg3 X_arg3),
        tileLeft id v8 v25 (rows1 i k arg3 X_arg3) acc.2.2.2.2.1,
        tileUpto id v8 v12 v25 v33 (rows1 i k arg3 X_arg3) (rows1 i k arg4 X_arg4) acc.2.2.2.2.1 acc.2.2.2.2.2) := by
  unfold tripR_k0_t1 trip_k0_t1
  rfl

/-- What a trip stores in the two accumulators. -/
theorem trip_stores :
    tripL_k0_t1 (F := F) 𝒱 c bd i arg2 harg2 arg3 harg3 arg4 harg4 arg5 harg5 arg6 harg6 arg7 harg7 arg8 harg8 arg9 harg9 arg10 harg10
    arg11 harg11 arg1 v8 v12 v24 v25 v27 v29 v32 v33 v35 v37 v38 v41 X_arg3 X_arg4 k acc f_arg10 f_arg11
      = (stored i k
          (slab v27 (tileDz id v8 v12 v24 v32 (rows0 i k arg3 X_arg3) (rows0 i k arg4 X_arg4) acc.2.1 acc.2.2.1) (slab0 i k arg10 f_arg10))
          (slab v29 (tileDz id v8 v12 v25 v33 (rows1 i k arg3 X_arg3) (rows1 i k arg4 X_arg4) acc.2.2.2.2.1 acc.2.2.2.2.2)
            (slab1 i k arg10 f_arg10)),
        stored i k (slab v35 (truncf .bf16 (tileW id v8 v24 (rows0 i k arg3 X_arg3) acc.2.1) bitsLt_bf16_f32) (slab0 i k arg11 f_arg11))
          (slab v37 (truncf .bf16 (tileW id v8 v25 (rows1 i k arg3 X_arg3) acc.2.2.2.2.1) bitsLt_bf16_f32) (slab1 i k arg11 f_arg11))) := by
  unfold tripL_k0_t1 trip_k0_t1
  rfl

end Trip

end Cert.KernelIdeal.Stage

end
-- ==== Proof.Places.lean ====
/-
  Where the body reads and stores, and what it finds there: the trip counts of its loops, the places of its loads and
  stores, a load of one head's columns from a window of two heads, and a load and the stores of one head's slab of the
  accumulators.
-/
module

public import proofs.«01_k».proof.Proof.Tile
public import Idealize.ShloMosaic.Lib.WritesUnit

@[expose] public section

set_option maxRecDepth 16384

noncomputable section

namespace Cert.KernelIdeal.Stage

open Cert.KernelIdeal Cert.KernelIdeal.Gen Cert.Stick
open Idealize.ShloMosaic hiding ix2 eq_ix2 ix4 eq_ix4
open Idealize.ShloMosaic.ValueIdx

/-! ## Places -/

/-- The loop over the past makes as many trips as there are tiles before this one; the loop over the remainder none. -/
theorem trips1 (i : grid0.Coords) : (k0_t1_loop i).trips = (i 1).val := by
  have h : ∀ n : Fin 32, Scf.trips (0#32) (Scalar.addi 0#32 (Scalar.muli (Scalar.divsi (Scalar.subi (BitVec.ofNat 32 n.val) 0#32) 1#32) 1#32)) 1#32
      = n.val := by decide +kernel
  exact h (i 1)
theorem trips2 (i : grid0.Coords) : (k0_t2_loop i).trips = 0 := by
  have h : ∀ n : Fin 32, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact h (i 1)
theorem trips3 : k0_t3_loop.trips = 32 := by decide +kernel

theorem past_lt {i : grid0.Coords} (k : Fin (k0_t1_loop i).trips) : k.val < (i 1).val := lt_of_lt_of_eq k.isLt (trips1 i)
theorem tile_lt (i : grid0.Coords) : (i 1).val < 32 := (i 1).isLt

theorem row_word (n : ℕ) (h : n < 32) :
    (Scalar.indexCast (Scalar.muli (Scf.iv 0#32 1#32 n) 256#32)).toNat = 256 * n ∧ (Scalar.indexCast (Scf.iv 0#32 1#32 n)).toNat = n
      ∧ (Scalar.indexCast (Scalar.muli (BitVec.ofNat 32 n) 256#32)).toNat = 256 * n ∧ (Scalar.indexCast (BitVec.ofNat 32 n)).toNat = n := by
  have h' : ∀ n : Fin 32, (Scalar.indexCast (Scalar.muli (Scf.iv 0#32 1#32 n.val) 256#32)).toNat = 256 * n.val
      ∧ (Scalar.indexCast (Scf.iv 0#32 1#32 n.val)).toNat = n.val
      ∧ (Scalar.indexCast (Scalar.muli (BitVec.ofNat 32 n.val) 256#32)).toNat = 256 * n.val
      ∧ (Scalar.indexCast (BitVec.ofNat 32 n.val)).toNat = n.val := by decide +kernel
  exact h' ⟨n, h⟩

variable (i : grid0.Coords) (k : Fin (k0_t1_loop i).trips) (p : Fin k0_t3_loop.trips)

theorem at1 : k0_off1 i k = ![256 * k.val, 0] := by
  unfold k0_off1; simp only [(row_word k.val ((past_lt k).trans (tile_lt i))).1]
theorem at2 : k0_off2 i k = ![256 * k.val, 128] := by
  unfold k0_off2; simp only [(row_word k.val ((past_lt k).trans (tile_lt i))).1]
theorem at3 : k0_off3 i k = ![0, k.val, 0, 0] := by
  unfold k0_off3; simp only [(row_word k.val ((past_lt k).trans (tile_lt i))).2.1]
theorem at4 : k0_off4 i k = ![1, k.val, 0, 0] := by
  unfold k0_off4; simp only [(row_word k.val ((past_lt k).trans (tile_lt i))).2.1]
theorem at9 : k0_off9 i = ![256 * (i 1).val, 0] := by
  unfold k0_off9; simp only [(row_word _ (tile_lt i)).2.2.1]
theorem at10 : k0_off10 i = ![256 * (i 1).val, 128] := by
  unfold k0_off10; simp only [(row_word _ (tile_lt i)).2.2.1]
theorem at11 : k0_off11 i = ![0, (i 1).val, 0, 0] := by
  unfold k0_off11; simp only [(row_word _ (tile_lt i)).2.2.2]
theorem at12 : k0_off12 i = ![1, (i 1).val, 0, 0] := by
  unfold k0_off12; simp only [(row_word _ (tile_lt i)).2.2.2]
theorem at13 : k0_off13 p = ![0, p.val, 0, 0] := by
  unfold k0_off13; simp only [(row_word p.val (lt_of_lt_of_eq p.isLt trips3)).2.1]
theorem at14 : k0_off14 p = ![256 * p.val, 0] := by
  unfold k0_off14; simp only [(row_word p.val (lt_of_lt_of_eq p.isLt trips3)).1]
theorem at15 : k0_off15 p = ![1, p.val, 0, 0] := by
  unfold k0_off15; simp only [(row_word p.val (lt_of_lt_of_eq p.isLt trips3)).2.1]
theorem at16 : k0_off16 p = ![256 * p.val, 128] := by
  unfold k0_off16; simp only [(row_word p.val (lt_of_lt_of_eq p.isLt trips3)).1]

/-! ## A window of two heads -/

/-- `n` rows of two heads side by side, from row `o` on. -/
def wide {n : ℕ} (φ : FTy) (f : Fin 2 → ℕ → Fin 128 → ℝ) (o : ℕ) : FVec Ideal ⟨2, ![n, 256]⟩ φ := fun j =>
  ((f ⟨(j 1).val / 128, by have : (j 1).val < 256 := (j 1).isLt; omega⟩ (o + (j 0).val) ⟨(j 1).val % 128, Nat.mod_lt _ (by norm_num)⟩ : ℝ) : EReal)

variable {sg : RefSig} {κ' : Kind} {sp : Space}

/-- Such a window at 256 rows of one head. -/
theorem wide_at {n : ℕ} (φ : FTy) (f : Fin 2 → ℕ → Fin 128 → ℝ) (o : ℕ) {off : Fin 2 → ℕ} (h : Fin 2) {a : ℕ} (hoff : off = ![a, 128 * h.val])
    (inb : ∀ x, off x + S256x128.size x ≤ (![n, 256] : Fin 2 → ℕ) x) :
    (fun y => wide (n := n) φ f o ((Rect.unit (s := ⟨2, ![n, 256]⟩) off S256x128.size inb).idx y)) = up φ fun r d => f h (o + a + r.val) d := by
  subst hoff
  refine ext2 fun r d => ?_
  have hr := r.isLt
  have hd := d.isLt
  have hh := h.isLt
  have e0 : ((Rect.unit (s := ⟨2, ![n, 256]⟩) ![a, 128 * h.val] S256x128.size inb).idx (ix2 r d) 0).val = a + r.val := by
    show a + 1 * r.val = _; omega
  have e1 : ((Rect.unit (s := ⟨2, ![n, 256]⟩) ![a, 128 * h.val] S256x128.size inb).idx (ix2 r d) 1).val = 128 * h.val + d.val := by
    show 128 * h.val + 1 * d.val = _; omega
  unfold wide
  rw [up_apply]
  refine congrArg (fun x : ℝ => (x : EReal)) ?_
  have key : ∀ (x : Fin 2) (t : ℕ) (y : Fin 128), x = h → t = o + a + r.val → y = d → f x t y = f h (o + a + r.val) d := by
    rintro _ _ _ rfl rfl rfl; rfl
  refine key _ _ _ (Fin.ext ?_) ?_ (Fin.ext ?_)
  · simp only [e1]; omega
  · rw [e0]; omega
  · simp only [e1]; omega

/-- A load of 256 rows of one head, in either format. -/
theorem load_head {n : ℕ} (v : View sg κ' sp ⟨2, ![n, 256]⟩ .bf16) (X : v.ty.Contents (Elt Ideal)) {f : Fin 2 → ℕ → Fin 128 → ℝ} {o : ℕ}
    (hX : v.read (Elt Ideal) X = wide .bf16 f o) {off : Fin 2 → ℕ} (h : Fin 2) {a : ℕ} (hoff : off = ![a, 128 * h.val])
    (inb : ∀ x, off x + S256x128.size x ≤ (![n, 256] : Fin 2 → ℕ) x) :
    v.readAt (Elt Ideal) (Rect.unit (s := ⟨2, ![n, 256]⟩) off S256x128.size inb).toLoadRect X = up .bf16 fun r d => f h (o + a + r.val) d := by
  rw [← wide_at (n := n) .bf16 f o h hoff inb, ← hX]; rfl
theorem load_head32 {n : ℕ} (v : View sg κ' sp ⟨2, ![n, 256]⟩ .f32) (X : v.ty.Contents (Elt Ideal)) {f : Fin 2 → ℕ → Fin 128 → ℝ} {o : ℕ}
    (hX : v.read (Elt Ideal) X = wide .f32 f o) {off : Fin 2 → ℕ} (h : Fin 2) {a : ℕ} (hoff : off = ![a, 128 * h.val])
    (inb : ∀ x, off x + S256x128.size x ≤ (![n, 256] : Fin 2 → ℕ) x) :
    v.readAt (Elt Ideal) (Rect.unit (s := ⟨2, ![n, 256]⟩) off S256x128.size inb).toLoadRect X = up .f32 fun r d => f h (o + a + r.val) d := by
  rw [← wide_at (n := n) .f32 f o h hoff inb, ← hX]; rfl

/-! ## The accumulators -/

/-- An accumulator: entry `(h, j, d, s)` is `T h (n j) d` at column `256 j + s`. -/
def accs (T : Fin 2 → ℕ → Fin 128 → ℕ → ℝ) (n : ℕ → ℕ) : FVec Ideal S2x32x128x256 .f32 := fun y =>
  ((T (y 0) (n (y 1).val) (y 2) (256 * (y 1).val + (y 3).val) : ℝ) : EReal)

variable (v : View sg κ' sp S2x32x128x256 .f32) (X : v.ty.Contents (Elt Ideal)) {T : Fin 2 → ℕ → Fin 128 → ℕ → ℝ} {n : ℕ → ℕ}

/-- A load of one slab. -/
theorem load_slab (hX : v.read (Elt Ideal) X = accs T n) {off : Fin 4 → ℕ} (h : Fin 2) {a : ℕ} (hoff : off = ![h.val, a, 0, 0])
    (inb : ∀ x, off x + S1x1x128x256.size x ≤ S2x32x128x256.size x) :
    v.readAt (Elt Ideal) (Rect.unit (s := S2x32x128x256) off S1x1x128x256.size inb).toLoadRect X = pile fun d c => T h (n a) d (256 * a + c.val) := by
  subst hoff
  funext y
  show v.read (Elt Ideal) X ((Rect.unit (s := S2x32x128x256) ![h.val, a, 0, 0] S1x1x128x256.size inb).idx y) = _
  rw [hX]
  have h0 : (y 0).val = 0 := by have : (y 0).val < 1 := (y 0).isLt; omega
  have h1 : (y 1).val = 0 := by have : (y 1).val < 1 := (y 1).isLt; omega
  have e0 : (Rect.unit (s := S2x32x128x256) ![h.val, a, 0, 0] S1x1x128x256.size inb).idx y 0 = h :=
    Fin.ext (by show h.val + 1 * (y 0).val = _; omega)
  have e1 : ((Rect.unit (s := S2x32x128x256) ![h.val, a, 0, 0] S1x1x128x256.size inb).idx y 1).val = a := by
    show a + 1 * (y 1).val = _; omega
  have e2 : (Rect.unit (s := S2x32x128x256) ![h.val, a, 0, 0] S1x1x128x256.size inb).idx y 2 = y 2 :=
    Fin.ext (by show 0 + 1 * (y 2).val = _; omega)
  have e3 : ((Rect.unit (s := S2x32x128x256) ![h.val, a, 0, 0] S1x1x128x256.size inb).idx y 3).val = (y 3).val := by
    show 0 + 1 * (y 3).val = _; omega
  unfold accs pile
  rw [e0, e1, e2, e3]

/-- After both heads' slabs of column tile `a` are stored, that tile's count is the new one. -/
theorem store_slabs (hX : v.read (Elt Ideal) X = accs T n) {off0 off1 : Fin 4 → ℕ} {a : ℕ} (h0 : off0 = ![0, a, 0, 0]) (h1 : off1 = ![1, a, 0, 0])
    (inb0 : ∀ x, off0 x + S1x1x128x256.size x ≤ S2x32x128x256.size x) (inb1 : ∀ x, off1 x + S1x1x128x256.size x ≤ S2x32x128x256.size x)
    {w0 w1 : Vec Ideal S1x1x128x256 .f32} {m : ℕ}
    (hw0 : w0 = pile fun d c => T 0 m d (256 * a + c.val)) (hw1 : w1 = pile fun d c => T 1 m d (256 * a + c.val)) :
    v.read (Elt Ideal) (v.writes (Elt Ideal) X [⟨Rect.unit (s := S2x32x128x256) off1 S1x1x128x256.size inb1, w1⟩,
      ⟨Rect.unit (s := S2x32x128x256) off0 S1x1x128x256.size inb0, w0⟩]) = accs T (Function.update n a m) := by
  subst hw0 hw1
  funext y
  have y0 : (y 0).val < 2 := (y 0).isLt
  have y2 : (y 2).val < 128 := (y 2).isLt
  have y3 : (y 3).val < 256 := (y 3).isLt
  rcases eq_or_ne (y 1).val a with ha | ha
  · unfold accs
    rw [ha, Function.update_self]
    rcases Nat.lt_or_ge (y 0).val 1 with hy | hy
    · rw [View.read_writes_cons_unit_of_not_mem v X inb1 _ _ y h1 0 (Or.inl (by show (y 0).val < 1; omega)),
        View.read_writes_cons_unit_of_mem v X inb0 _ _ y (ix4 0 0 (y 2) (y 3)) h0 (fun x => by
          fin_cases x
          · show (y 0).val = 0 + 0; omega
          · show (y 1).val = a + 0; omega
          · show (y 2).val = 0 + (y 2).val; omega
          · show (y 3).val = 0 + (y 3).val; omega)]
      rw [show y 0 = (0 : Fin 2) from Fin.ext (by show (y 0).val = 0; omega)]; rfl
    · rw [View.read_writes_cons_unit_of_mem v X inb1 _ _ y (ix4 0 0 (y 2) (y 3)) h1 (fun x => by
          fin_cases x
          · show (y 0).val = 1 + 0; omega
          · show (y 1).val = a + 0; omega
          · show (y 2).val = 0 + (y 2).val; omega
          · show (y 3).val = 0 + (y 3).val; omega)]
      rw [show y 0 = (1 : Fin 2) from Fin.ext (by show (y 0).val = 1; omega)]; rfl
  · have hno : (y 1).val < a ∨ a + 1 ≤ (y 1).val := by omega
    rw [View.read_writes_cons_unit_of_not_mem v X inb1 _ _ y h1 1 hno, View.read_writes_cons_unit_of_not_mem v X inb0 _ _ y h0 1 hno,
      View.writes_nil, hX]
    unfold accs
    rw [Function.update_of_ne ha]

end Cert.KernelIdeal.Stage

end
-- ==== Proof.Past.lean ====
/-
  The loop over the tiles in the past, run to any trip: the six carried vectors and the two accumulators have their
  closed forms.
-/
module

public import proofs.«01_k».proof.Proof.Trip
public import proofs.«01_k».proof.Proof.Places

@[expose] public section

set_option maxRecDepth 16384

noncomputable section

namespace Cert.KernelIdeal.Stage

open Cert.KernelIdeal Cert.KernelIdeal.Gen Cert.Stick
open Idealize.ShloMosaic hiding ix2 eq_ix2 ix4 eq_ix4
open Idealize.ShloMosaic.ValueIdx Idealize.ShloMosaic.TcCoe

/-- What the rows of tile `i` carry after `n` tiles, for the two heads. -/
def carry (Hs : Fin 2 → Head) (i n : ℕ) : FVec Ideal S256x128 .f32 × FVec Ideal S256x1 .f32 × FVec Ideal S256x1 .f32 × FVec Ideal S256x128 .f32
    × FVec Ideal S256x1 .f32 × FVec Ideal S256x1 .f32 :=
  (up .f32 (rDq (Hs 0) i n), up .f32 (rLeft (Hs 0) i n), up .f32 (rUpto (Hs 0) i n),
    up .f32 (rDq (Hs 1) i n), up .f32 (rLeft (Hs 1) i n), up .f32 (rUpto (Hs 1) i n))

/-- The rows the accumulators have taken in, tile of columns by tile of columns, when the rows of tile `i` have passed `n`
    tiles. -/
def taken (i n : ℕ) (j : ℕ) : ℕ := 256 * (i + if j < n then 1 else 0)

theorem taken_succ (i n : ℕ) : Function.update (taken i n) n (256 * (i + 1)) = taken i (n + 1) := by
  funext j
  unfold taken
  rcases lt_trichotomy j n with h | h | h
  · rw [Function.update_of_ne h.ne, if_pos h, if_pos (by omega)]
  · subst h; rw [Function.update_self, if_pos (by omega)]
  · rw [Function.update_of_ne h.ne', if_neg (by omega), if_neg (by omega)]

theorem taken_self (i n : ℕ) : taken i n n = 256 * i := by unfold taken; rw [if_neg (lt_irrefl n), Nat.add_zero]

/-- The two accumulators' entries. -/
abbrev keysOf (Hs : Fin 2 → Head) (h : Fin 2) : ℕ → Fin 128 → ℕ → ℝ := (Hs h).dkTo
abbrev valuesOf (Hs : Fin 2 → Head) (h : Fin 2) : ℕ → Fin 128 → ℕ → ℝ := (Hs h).dvTo

section Past

variable (𝒱 : Variants) (c : Dev nD) (bd : Option 𝒱.V) (i : grid0.Coords) (arg2 : Memref sig .tc .vmem S256x256 .bf16)
variable (harg2 : arg2.IsWhole) (arg3 : Memref sig .tc .vmem S8192x256 .bf16) (harg3 : arg3.IsWhole)
variable (arg4 : Memref sig .tc .vmem S8192x256 .bf16) (harg4 : arg4.IsWhole) (arg5 : Memref sig .tc .vmem S256x256 .f32)
variable (harg5 : arg5.IsWhole) (arg6 : Memref sig .tc .vmem S256x256 .f32) (harg6 : arg6.IsWhole)
variable (arg7 : Memref sig .tc .vmem S256x256 .bf16) (harg7 : arg7.IsWhole) (arg8 : Memref sig .tc .vmem S8192x256 .bf16)
variable (harg8 : arg8.IsWhole) (arg9 : Memref sig .tc .vmem S8192x256 .bf16) (harg9 : arg9.IsWhole)
variable (arg10 : Memref sig .tc .vmem S2x32x128x256 .f32) (harg10 : arg10.IsWhole) (arg11 : Memref sig .tc .vmem S2x32x128x256 .f32)
variable (harg11 : arg11.IsWhole) (arg1 : BitVec 32) (v8 : FVec Ideal S256x256 .bf16) (v12 : FVec Ideal S256x256 .bf16)
variable (v24 : FVec Ideal S256x128 .bf16) (v25 : FVec Ideal S256x128 .bf16) (v27 : FVec Ideal S128x256 .bf16) (v29 : FVec Ideal S128x256 .bf16)
variable (v32 : FVec Ideal S256x128 .bf16) (v33 : FVec Ideal S256x128 .bf16) (v35 : FVec Ideal S128x256 .bf16) (v37 : FVec Ideal S128x256 .bf16)
variable (v38 : FVec Ideal S256x128 .f32) (v41 : FVec Ideal S256x1 .f32) (X_arg3 : BufTy.Contents (Elt Ideal) arg3.view.ty)
variable (X_arg4 : BufTy.Contents (Elt Ideal) arg4.view.ty)
variable (G_arg10 : BufTy.Contents (Elt Ideal) arg10.view.ty) (G_arg11 : BufTy.Contents (Elt Ideal) arg11.view.ty)
variable (init : FVec Ideal S256x128 .f32 × FVec Ideal S256x1 .f32 × FVec Ideal S256x1 .f32 × FVec Ideal S256x128 .f32 × FVec Ideal S256x1 .f32 × FVec Ideal S256x1 .f32)
variable (Hs : Fin 2 → Head)

/-- After `n` trips of the loop over the past. -/
theorem past (h8 : v8 = k0_pay77) (h12 : v12 = k0_pay78) (h24 : v24 = up .bf16 (rQ (Hs 0) (i 1).val)) (h25 : v25 = up .bf16 (rQ (Hs 1) (i 1).val))
    (h27 : v27 = up .bf16 fun d r => rQ (Hs 0) (i 1).val r d) (h29 : v29 = up .bf16 fun d r => rQ (Hs 1) (i 1).val r d)
    (h32 : v32 = up .bf16 (rG (Hs 0) (i 1).val)) (h33 : v33 = up .bf16 (rG (Hs 1) (i 1).val))
    (h35 : v35 = up .bf16 fun d r => rG (Hs 0) (i 1).val r d) (h37 : v37 = up .bf16 fun d r => rG (Hs 1) (i 1).val r d)
    (hX3 : arg3.view.read (Elt Ideal) X_arg3 = wide .bf16 (fun h => (Hs h).k) 0)
    (hX4 : arg4.view.read (Elt Ideal) X_arg4 = wide .bf16 (fun h => (Hs h).v) 0)
    (hG10 : arg10.view.read (Elt Ideal) G_arg10 = accs (keysOf Hs) (taken (i 1).val 0))
    (hG11 : arg11.view.read (Elt Ideal) G_arg11 = accs (valuesOf Hs) (taken (i 1).val 0)) (hinit : init = carry Hs (i 1).val 0) :
    ∀ n : ℕ, n ≤ (i 1).val →
    (st_k0_t1 (F := Ideal) 𝒱 c bd i arg2 harg2 arg3 harg3 arg4 harg4 arg5 harg5 arg6 harg6 arg7 harg7 arg8 harg8 arg9 harg9 arg10 harg10
      arg11 harg11 arg1 v8 v12 v24 v25 v27 v29 v32 v33 v35 v37 v38 v41 X_arg3 X_arg4 G_arg10 G_arg11 init n).1 = carry Hs (i 1).val n
    ∧ arg10.view.read (Elt Ideal) (arg10.view.writes (Elt Ideal) G_arg10 (st_k0_t1 (F := Ideal) 𝒱 c bd i arg2 harg2 arg3 harg3 arg4 harg4 arg5 harg5 arg6 harg6 arg7 harg7 arg8 harg8 arg9 harg9 arg10 harg10
      arg11 harg11 arg1 v8 v12 v24 v25 v27 v29 v32 v33 v35 v37 v38 v41 X_arg3 X_arg4 G_arg10 G_arg11 init n).2.1) = accs (keysOf Hs) (taken (i 1).val n)
    ∧ arg11.view.read (Elt Ideal) (arg11.view.writes (Elt Ideal) G_arg11 (st_k0_t1 (F := Ideal) 𝒱 c bd i arg2 harg2 arg3 harg3 arg4 harg4 arg5 harg5 arg6 harg6 arg7 harg7 arg8 harg8 arg9 harg9 arg10 harg10
      arg11 harg11 arg1 v8 v12 v24 v25 v27 v29 v32 v33 v35 v37 v38 v41 X_arg3 X_arg4 G_arg10 G_arg11 init n).2.2) = accs (valuesOf Hs) (taken (i 1).val n) := by
  subst h8 h12 h24 h25 h27 h29 h32 h33 h35 h37 hinit
  intro n
  induction n with
  | zero => exact fun _ => ⟨rfl, hG10, hG11⟩
  | succ n ih =>
    intro hn
    obtain ⟨hc, hK, hV⟩ := ih (by omega)
    have hlt : n < (k0_t1_loop i).trips := by rw [trips1]; omega
    have hm := masks_past (i 1).val n (by omega)
    have k0 : rows0 i ⟨n, hlt⟩ arg3 X_arg3 = up .bf16 (rK (Hs 0) n) :=
      (load_head arg3.view X_arg3 hX3 0 (at1 i ⟨n, hlt⟩) _).trans (by simp only [Nat.zero_add]; rfl)
    have k1 : rows1 i ⟨n, hlt⟩ arg3 X_arg3 = up .bf16 (rK (Hs 1) n) :=
      (load_head arg3.view X_arg3 hX3 1 (at2 i ⟨n, hlt⟩) _).trans (by simp only [Nat.zero_add]; rfl)
    have v0 : rows0 i ⟨n, hlt⟩ arg4 X_arg4 = up .bf16 (rV (Hs 0) n) :=
      (load_head arg4.view X_arg4 hX4 0 (at1 i ⟨n, hlt⟩) _).trans (by simp only [Nat.zero_add]; rfl)
    have v1 : rows1 i ⟨n, hlt⟩ arg4 X_arg4 = up .bf16 (rV (Hs 1) n) :=
      (load_head arg4.view X_arg4 hX4 1 (at2 i ⟨n, hlt⟩) _).trans (by simp only [Nat.zero_add]; rfl)
    rw [st_k0_t1_succ (k := ⟨n, hlt⟩)]
    have sK0 := load_slab arg10.view _ hK 0 (at3 i ⟨n, hlt⟩) (k0_off3_inb i ⟨n, hlt⟩)
    have sK1 := load_slab arg10.view _ hK 1 (at4 i ⟨n, hlt⟩) (k0_off4_inb i ⟨n, hlt⟩)
    have sV0 := load_slab arg11.view _ hV 0 (at3 i ⟨n, hlt⟩) (k0_off3_inb i ⟨n, hlt⟩)
    have sV1 := load_slab arg11.view _ hV 1 (at4 i ⟨n, hlt⟩) (k0_off4_inb i ⟨n, hlt⟩)
    simp only [taken_self] at sK0 sK1 sV0 sV1
    refine ⟨?_, ?_, ?_⟩
    · rw [trip_yields, hc, k0, k1, v0, v1]
      unfold carry
      rw [tileDz_val _ hm, tileDz_val _ hm, tileLeft_val _ hm, tileLeft_val _ hm, tileUpto_val _ hm, tileUpto_val _ hm, gather_val, gather_val]
    · rw [trip_stores, View.writes_append, hc, k0, k1, v0, v1, ← taken_succ]
      refine store_slabs arg10.view _ hK (at3 i ⟨n, hlt⟩) (at4 i ⟨n, hlt⟩) (k0_off3_inb i ⟨n, hlt⟩) (k0_off4_inb i ⟨n, hlt⟩) ?_ ?_
      · unfold carry; rw [tileDz_val _ hm]; exact (congrArg _ sK0).trans (slabK_val _)
      · unfold carry; rw [tileDz_val _ hm]; exact (congrArg _ sK1).trans (slabK_val _)
    · rw [trip_stores, View.writes_append, hc, k0, k1, ← taken_succ]
      refine store_slabs arg11.view _ hV (at3 i ⟨n, hlt⟩) (at4 i ⟨n, hlt⟩) (k0_off3_inb i ⟨n, hlt⟩) (k0_off4_inb i ⟨n, hlt⟩) ?_ ?_
      · unfold carry; rw [tileW_val _ hm]; exact (congrArg _ sV0).trans (slabV_val _)
      · unfold carry; rw [tileW_val _ hm]; exact (congrArg _ sV1).trans (slabV_val _)

end Past

end Cert.KernelIdeal.Stage

end
-- ==== Proof.Point.lean ====
/-
  What the body leaves at a grid point, in named parts: the loop over the tiles in the past, the loop that makes no trip, the
  tile on the diagonal.
-/
module

public import proofs.«01_k».proof.Proof.Past

@[expose] public section

set_option maxRecDepth 16384

noncomputable section

namespace Cert.KernelIdeal.Stage

open Cert.KernelIdeal Cert.KernelIdeal.Gen Cert.Stick
open Idealize.ShloMosaic hiding ix2 eq_ix2 ix4 eq_ix4
open Idealize.ShloMosaic.ValueIdx Idealize.ShloMosaic.TcCoe

section Point

variable {F : FTy → Type} [FloatOps F] [Named F] [∀ e, Nonempty (Elt F e)]

/-- The columns of the first head, and of the second, in a tile of rows. -/
abbrev cut0 {e : EltTy} (a : Memref sig .tc .vmem S256x256 e) (X : BufTy.Contents (Elt F) a.view.ty) : Vec F S256x128 e :=
  a.view.readAt (Elt F) (Rect.unit (s := S256x256) ![0, 0] S256x128.size inb_S256x256_S256x128_0_0).toLoadRect X
abbrev cut1 {e : EltTy} (a : Memref sig .tc .vmem S256x256 e) (X : BufTy.Contents (Elt F) a.view.ty) : Vec F S256x128 e :=
  a.view.readAt (Elt F) (Rect.unit (s := S256x256) ![0, 128] S256x128.size inb_S256x256_S256x128_0_128).toLoadRect X

variable (c : Dev nD) (i : grid0.Coords)
variable (a2 : Memref sig .tc .vmem S256x256 .bf16) (h2 : a2.IsWhole) (a3 : Memref sig .tc .vmem S8192x256 .bf16) (h3 : a3.IsWhole)
variable (a4 : Memref sig .tc .vmem S8192x256 .bf16) (h4 : a4.IsWhole) (a5 : Memref sig .tc .vmem S256x256 .f32) (h5 : a5.IsWhole)
variable (a6 : Memref sig .tc .vmem S256x256 .f32) (h6 : a6.IsWhole) (a7 : Memref sig .tc .vmem S256x256 .bf16) (h7 : a7.IsWhole)
variable (a8 : Memref sig .tc .vmem S8192x256 .bf16) (h8 : a8.IsWhole) (a9 : Memref sig .tc .vmem S8192x256 .bf16) (h9 : a9.IsWhole)
variable (a10 : Memref sig .tc .vmem S2x32x128x256 .f32) (h10 : a10.IsWhole) (a11 : Memref sig .tc .vmem S2x32x128x256 .f32) (h11 : a11.IsWhole)
variable (f2 : BufTy.Contents (Elt F) a2.view.ty) (f3 : BufTy.Contents (Elt F) a3.view.ty) (f4 : BufTy.Contents (Elt F) a4.view.ty)
variable (f5 : BufTy.Contents (Elt F) a5.view.ty) (f6 : BufTy.Contents (Elt F) a6.view.ty)
variable (g10 : BufTy.Contents (Elt F) a10.view.ty) (g11 : BufTy.Contents (Elt F) a11.view.ty)

/-- The two heads' rows of the diagonal tile. -/
abbrev diag0 (a : Memref sig .tc .vmem S8192x256 .bf16) (X : BufTy.Contents (Elt F) a.view.ty) : Vec F S256x128 .bf16 :=
  a.view.readAt (Elt F) (Rect.unit (s := S8192x256) (k0_off9 i) S256x128.size (k0_off9_inb i)).toLoadRect X
abbrev diag1 (a : Memref sig .tc .vmem S8192x256 .bf16) (X : BufTy.Contents (Elt F) a.view.ty) : Vec F S256x128 .bf16 :=
  a.view.readAt (Elt F) (Rect.unit (s := S8192x256) (k0_off10 i) S256x128.size (k0_off10_inb i)).toLoadRect X

/-- What the loop over the past leaves. -/
abbrev pastSt := st_k0_t1 (F := F) Variants.none c none i a2 h2 a3 h3 a4 h4 a5 h5 a6 h6 a7 h7 a8 h8 a9 h9 a10 h10 a11 h11 (BitVec.ofNat 32 (i 1).val) k0_pay77 k0_pay78 (k0_pay82 (cut0 a2 f2)) (k0_pay83 (cut1 a2 f2)) (k0_pay84 (cut0 a2 f2)) (k0_pay85 (cut1 a2 f2))
    (k0_pay86 (cut0 a5 f5)) (k0_pay87 (cut1 a5 f5)) (k0_pay88 (cut0 a5 f5)) (k0_pay89 (cut1 a5 f5)) k0_pay90 (k0_pay91 (cut0 a6 f6)) f3 f4 g10 g11
    (k0_pay90, k0_pay91 (cut0 a6 f6), k0_pay92, k0_pay93, k0_pay94 (cut1 a6 f6), k0_pay95) (k0_t1_loop i).trips

/-- What the loop that makes no trip leaves. -/
abbrev doneSt := st_k0_t2 (F := F) Variants.none c none i a2 h2 a3 h3 a4 h4 a5 h5 a6 h6 a7 h7 a8 h8 a9 h9 a10 h10 a11 h11 (BitVec.ofNat 32 (i 1).val) k0_pay77 k0_pay78 (k0_pay82 (cut0 a2 f2)) (k0_pay83 (cut1 a2 f2)) (k0_pay84 (cut0 a2 f2)) (k0_pay85 (cut1 a2 f2))
    (k0_pay86 (cut0 a5 f5)) (k0_pay87 (cut1 a5 f5)) (k0_pay88 (cut0 a5 f5)) (k0_pay89 (cut1 a5 f5)) k0_pay90 (k0_pay91 (cut0 a6 f6))
    (Scalar.addi (0#32) (Scalar.muli (Scalar.divsi (Scalar.subi (BitVec.ofNat 32 (i 1).val) 0#32) 1#32) 1#32)) f3 f4
    (a10.view.writes (Elt F) g10 (pastSt c i a2 h2 a3 h3 a4 h4 a5 h5 a6 h6 a7 h7 a8 h8 a9 h9 a10 h10 a11 h11 f2 f3 f4 f5 f6 g10 g11).2.1) (a11.view.writes (Elt F) g11 (pastSt c i a2 h2 a3 h3 a4 h4 a5 h5 a6 h6 a7 h7 a8 h8 a9 h9 a10 h10 a11 h11 f2 f3 f4 f5 f6 g10 g11).2.2)
    ((pastSt c i a2 h2 a3 h3 a4 h4 a5 h5 a6 h6 a7 h7 a8 h8 a9 h9 a10 h10 a11 h11 f2 f3 f4 f5 f6 g10 g11).1.1, (pastSt c i a2 h2 a3 h3 a4 h4 a5 h5 a6 h6 a7 h7 a8 h8 a9 h9 a10 h10 a11 h11 f2 f3 f4 f5 f6 g10 g11).1.2.1, (pastSt c i a2 h2 a3 h3 a4 h4 a5 h5 a6 h6 a7 h7 a8 h8 a9 h9 a10 h10 a11 h11 f2 f3 f4 f5 f6 g10 g11).1.2.2.1,
      (pastSt c i a2 h2 a3 h3 a4 h4 a5 h5 a6 h6 a7 h7 a8 h8 a9 h9 a10 h10 a11 h11 f2 f3 f4 f5 f6 g10 g11).1.2.2.2.1, (pastSt c i a2 h2 a3 h3 a4 h4 a5 h5 a6 h6 a7 h7 a8 h8 a9 h9 a10 h10 a11 h11 f2 f3 f4 f5 f6 g10 g11).1.2.2.2.2.1, (pastSt c i a2 h2 a3 h3 a4 h4 a5 h5 a6 h6 a7 h7 a8 h8 a9 h9 a10 h10 a11 h11 f2 f3 f4 f5 f6 g10 g11).1.2.2.2.2.2)
    (k0_t2_loop i).trips

/-- The score gradients of the diagonal tile, for the two heads. -/
abbrev dz0 := tileDz (F := F) (keep k0_pay79) k0_pay77 k0_pay78 (k0_pay82 (cut0 a2 f2)) (k0_pay86 (cut0 a5 f5)) (diag0 i a3 f3) (diag0 i a4 f4)
    (doneSt c i a2 h2 a3 h3 a4 h4 a5 h5 a6 h6 a7 h7 a8 h8 a9 h9 a10 h10 a11 h11 f2 f3 f4 f5 f6 g10 g11).1.2.1 (doneSt c i a2 h2 a3 h3 a4 h4 a5 h5 a6 h6 a7 h7 a8 h8 a9 h9 a10 h10 a11 h11 f2 f3 f4 f5 f6 g10 g11).1.2.2.1
abbrev dz1 := tileDz (F := F) (keep k0_pay79) k0_pay77 k0_pay78 (k0_pay83 (cut1 a2 f2)) (k0_pay87 (cut1 a5 f5)) (diag1 i a3 f3) (diag1 i a4 f4)
    (doneSt c i a2 h2 a3 h3 a4 h4 a5 h5 a6 h6 a7 h7 a8 h8 a9 h9 a10 h10 a11 h11 f2 f3 f4 f5 f6 g10 g11).1.2.2.2.2.1 (doneSt c i a2 h2 a3 h3 a4 h4 a5 h5 a6 h6 a7 h7 a8 h8 a9 h9 a10 h10 a11 h11 f2 f3 f4 f5 f6 g10 g11).1.2.2.2.2.2

/-- The pieces the two loops store in the accumulators. -/
abbrev oldK := (doneSt c i a2 h2 a3 h3 a4 h4 a5 h5 a6 h6 a7 h7 a8 h8 a9 h9 a10 h10 a11 h11 f2 f3 f4 f5 f6 g10 g11).2.1 ++ (pastSt c i a2 h2 a3 h3 a4 h4 a5 h5 a6 h6 a7 h7 a8 h8 a9 h9 a10 h10 a11 h11 f2 f3 f4 f5 f6 g10 g11).2.1
abbrev oldV := (doneSt c i a2 h2 a3 h3 a4 h4 a5 h5 a6 h6 a7 h7 a8 h8 a9 h9 a10 h10 a11 h11 f2 f3 f4 f5 f6 g10 g11).2.2 ++ (pastSt c i a2 h2 a3 h3 a4 h4 a5 h5 a6 h6 a7 h7 a8 h8 a9 h9 a10 h10 a11 h11 f2 f3 f4 f5 f6 g10 g11).2.2

/-- The first head's slab of the diagonal tile, as stored. -/
abbrev pieceK : View.Piece (Elt F) S2x32x128x256 .f32 :=
  ⟨Rect.unit (s := S2x32x128x256) (k0_off11 i) S1x1x128x256.size (k0_off11_inb i), slab (k0_pay84 (cut0 a2 f2)) (dz0 c i a2 h2 a3 h3 a4 h4 a5 h5 a6 h6 a7 h7 a8 h8 a9 h9 a10 h10 a11 h11 f2 f3 f4 f5 f6 g10 g11)
    (a10.view.readAt (Elt F) (Rect.unit (s := S2x32x128x256) (k0_off11 i) S1x1x128x256.size (k0_off11_inb i)).toLoadRect
      (a10.view.writes (Elt F) g10 (oldK c i a2 h2 a3 h3 a4 h4 a5 h5 a6 h6 a7 h7 a8 h8 a9 h9 a10 h10 a11 h11 f2 f3 f4 f5 f6 g10 g11)))⟩
abbrev pieceV : View.Piece (Elt F) S2x32x128x256 .f32 :=
  ⟨Rect.unit (s := S2x32x128x256) (k0_off11 i) S1x1x128x256.size (k0_off11_inb i), slab (k0_pay88 (cut0 a5 f5))
    (truncf .bf16 (tileW (keep k0_pay79) k0_pay77 (k0_pay82 (cut0 a2 f2)) (diag0 i a3 f3) (doneSt c i a2 h2 a3 h3 a4 h4 a5 h5 a6 h6 a7 h7 a8 h8 a9 h9 a10 h10 a11 h11 f2 f3 f4 f5 f6 g10 g11).1.2.1) bitsLt_bf16_f32)
    (a11.view.readAt (Elt F) (Rect.unit (s := S2x32x128x256) (k0_off11 i) S1x1x128x256.size (k0_off11_inb i)).toLoadRect
      (a11.view.writes (Elt F) g11 (oldV c i a2 h2 a3 h3 a4 h4 a5 h5 a6 h6 a7 h7 a8 h8 a9 h9 a10 h10 a11 h11 f2 f3 f4 f5 f6 g10 g11)))⟩

/-- Everything the body stores in the accumulator of the keys, latest first. -/
abbrev newK : List (View.Piece (Elt F) S2x32x128x256 .f32) :=
  ⟨Rect.unit (s := S2x32x128x256) (k0_off12 i) S1x1x128x256.size (k0_off12_inb i), slab (k0_pay85 (cut1 a2 f2)) (dz1 c i a2 h2 a3 h3 a4 h4 a5 h5 a6 h6 a7 h7 a8 h8 a9 h9 a10 h10 a11 h11 f2 f3 f4 f5 f6 g10 g11)
    (a10.view.readAt (Elt F) (Rect.unit (s := S2x32x128x256) (k0_off12 i) S1x1x128x256.size (k0_off12_inb i)).toLoadRect
      (a10.view.writes (Elt F) g10 (pieceK c i a2 h2 a3 h3 a4 h4 a5 h5 a6 h6 a7 h7 a8 h8 a9 h9 a10 h10 a11 h11 f2 f3 f4 f5 f6 g10 g11 :: oldK c i a2 h2 a3 h3 a4 h4 a5 h5 a6 h6 a7 h7 a8 h8 a9 h9 a10 h10 a11 h11 f2 f3 f4 f5 f6 g10 g11)))⟩ ::
  pieceK c i a2 h2 a3 h3 a4 h4 a5 h5 a6 h6 a7 h7 a8 h8 a9 h9 a10 h10 a11 h11 f2 f3 f4 f5 f6 g10 g11 :: oldK c i a2 h2 a3 h3 a4 h4 a5 h5 a6 h6 a7 h7 a8 h8 a9 h9 a10 h10 a11 h11 f2 f3 f4 f5 f6 g10 g11

/-- Everything the body stores in the accumulator of the values, latest first. -/
abbrev newV : List (View.Piece (Elt F) S2x32x128x256 .f32) :=
  ⟨Rect.unit (s := S2x32x128x256) (k0_off12 i) S1x1x128x256.size (k0_off12_inb i), slab (k0_pay89 (cut1 a5 f5))
    (truncf .bf16 (tileW (keep k0_pay79) k0_pay77 (k0_pay83 (cut1 a2 f2)) (diag1 i a3 f3) (doneSt c i a2 h2 a3 h3 a4 h4 a5 h5 a6 h6 a7 h7 a8 h8 a9 h9 a10 h10 a11 h11 f2 f3 f4 f5 f6 g10 g11).1.2.2.2.2.1) bitsLt_bf16_f32)
    (a11.view.readAt (Elt F) (Rect.unit (s := S2x32x128x256) (k0_off12 i) S1x1x128x256.size (k0_off12_inb i)).toLoadRect
      (a11.view.writes (Elt F) g11 (pieceV c i a2 h2 a3 h3 a4 h4 a5 h5 a6 h6 a7 h7 a8 h8 a9 h9 a10 h10 a11 h11 f2 f3 f4 f5 f6 g10 g11 :: oldV c i a2 h2 a3 h3 a4 h4 a5 h5 a6 h6 a7 h7 a8 h8 a9 h9 a10 h10 a11 h11 f2 f3 f4 f5 f6 g10 g11)))⟩ ::
  pieceV c i a2 h2 a3 h3 a4 h4 a5 h5 a6 h6 a7 h7 a8 h8 a9 h9 a10 h10 a11 h11 f2 f3 f4 f5 f6 g10 g11 :: oldV c i a2 h2 a3 h3 a4 h4 a5 h5 a6 h6 a7 h7 a8 h8 a9 h9 a10 h10 a11 h11 f2 f3 f4 f5 f6 g10 g11

/-- Everything the body stores in the window of the queries' gradient. -/
abbrev newQ : List (View.Piece (Elt F) S256x256 .bf16) :=
  [⟨Rect.unit (s := S256x256) ![0, 128] S256x128.size inb_S256x256_S256x128_0_128,
      k0_pay4 (gather (doneSt c i a2 h2 a3 h3 a4 h4 a5 h5 a6 h6 a7 h7 a8 h8 a9 h9 a10 h10 a11 h11 f2 f3 f4 f5 f6 g10 g11).1.2.2.2.1 (dz1 c i a2 h2 a3 h3 a4 h4 a5 h5 a6 h6 a7 h7 a8 h8 a9 h9 a10 h10 a11 h11 f2 f3 f4 f5 f6 g10 g11) (diag1 i a3 f3))⟩,
    ⟨Rect.unit (s := S256x256) ![0, 0] S256x128.size inb_S256x256_S256x128_0_0,
      k0_pay3 (gather (doneSt c i a2 h2 a3 h3 a4 h4 a5 h5 a6 h6 a7 h7 a8 h8 a9 h9 a10 h10 a11 h11 f2 f3 f4 f5 f6 g10 g11).1.1 (dz0 c i a2 h2 a3 h3 a4 h4 a5 h5 a6 h6 a7 h7 a8 h8 a9 h9 a10 h10 a11 h11 f2 f3 f4 f5 f6 g10 g11) (diag0 i a3 f3))⟩]

end Point

end Cert.KernelIdeal.Stage

end
-- ==== Proof.Body.lean ====
/-
  The run of the body with the contents of its ten buffers followed, at a tile that is neither the first of its pair of heads
  nor the last.
-/
module

public import proofs.«01_k».proof.Proof.FrameIdeal
public import proofs.«01_k».proof.Proof.Point

@[expose] public section

set_option maxRecDepth 16384

noncomputable section

namespace Cert.KernelIdeal.Run

open Cert.KernelIdeal Cert.KernelIdeal.Gen Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F] [∀ e, Nonempty (Elt F e)]

local notation "𝕄" => MT nD τ sig Unit (Elt F) ℕ (UR sig nD τ) ℕ

variable (c : Dev nD) (i : grid0.Coords)
variable (a2 : Memref sig .tc .vmem S256x256 .bf16) (h2 : a2.IsWhole) (a3 : Memref sig .tc .vmem S8192x256 .bf16) (h3 : a3.IsWhole)
variable (a4 : Memref sig .tc .vmem S8192x256 .bf16) (h4 : a4.IsWhole) (a5 : Memref sig .tc .vmem S256x256 .f32) (h5 : a5.IsWhole)
variable (a6 : Memref sig .tc .vmem S256x256 .f32) (h6 : a6.IsWhole) (a7 : Memref sig .tc .vmem S256x256 .bf16) (h7 : a7.IsWhole)
variable (a8 : Memref sig .tc .vmem S8192x256 .bf16) (h8 : a8.IsWhole) (a9 : Memref sig .tc .vmem S8192x256 .bf16) (h9 : a9.IsWhole)
variable (a10 : Memref sig .tc .vmem S2x32x128x256 .f32) (h10 : a10.IsWhole) (a11 : Memref sig .tc .vmem S2x32x128x256 .f32) (h11 : a11.IsWhole)
variable (f2 : BufTy.Contents (Elt F) a2.view.ty) (f3 : BufTy.Contents (Elt F) a3.view.ty) (f4 : BufTy.Contents (Elt F) a4.view.ty)
variable (f5 : BufTy.Contents (Elt F) a5.view.ty) (f6 : BufTy.Contents (Elt F) a6.view.ty)
variable (g10 : BufTy.Contents (Elt F) a10.view.ty) (g11 : BufTy.Contents (Elt F) a11.view.ty)
variable (f7 : BufTy.Contents (Elt F) a7.view.ty) (f8 : BufTy.Contents (Elt F) a8.view.ty) (f9 : BufTy.Contents (Elt F) a9.view.ty)

/-- The ten buffers at given contents. -/
abbrev tenHeld : sProp 𝕄 :=
  iprop(held c a2 f2 ∗ held c a3 f3 ∗ held c a4 f4 ∗ held c a5 f5 ∗ held c a6 f6 ∗ held c a7 f7 ∗ held c a8 f8 ∗ held c a9 f9 ∗ held c a10 g10 ∗ held c a11 g11)

set_option maxHeartbeats 4000000 in
/-- Between the first tile and the last. -/
theorem body_between (hz : ¬ clears i = 1#1) (hl : ¬ k0_cond2 i = 1#1) (K : PUnit → sProp 𝕄) :
    iprop(tenHeld c a2 a3 a4 a5 a6 a7 a8 a9 a10 a11 f2 f3 f4 f5 f6 g10 g11 f7 f8 f9
        ∗ (tenHeld c a2 a3 a4 a5 a6 a7 a8 a9 a10 a11 f2 f3 f4 f5 f6 (a10.view.writes (Elt F) g10 (newK c i a2 h2 a3 h3 a4 h4 a5 h5 a6 h6 a7 h7 a8 h8 a9 h9 a10 h10 a11 h11 f2 f3 f4 f5 f6 g10 g11))
            (a11.view.writes (Elt F) g11 (newV c i a2 h2 a3 h3 a4 h4 a5 h5 a6 h6 a7 h7 a8 h8 a9 h9 a10 h10 a11 h11 f2 f3 f4 f5 f6 g10 g11)) (a7.view.writes (Elt F) f7 (newQ c i a2 h2 a3 h3 a4 h4 a5 h5 a6 h6 a7 h7 a8 h8 a9 h9 a10 h10 a11 h11 f2 f3 f4 f5 f6 g10 g11)) f8 f9 -∗ K ⟨⟩))
      ⊢ wp frame (wpE (defs₀ (F := F)) Variants.none c none) Set.univ
          (cc0_attn_bwd i a2 h2 a3 h3 a4 h4 a5 h5 a6 h6 a7 h7 a8 h8 a9 h9 a10 h10 a11 h11) K := by
  simp only [cc0_attn_bwd_eq_skeleton]; unfold cc0_attn_bwd_skel
  iintro ⟨⟨H2, H3, H4, H5, H6, H7, H8, H9, H10, H11⟩, Hk⟩
  sl_exec (disch := first | sl_exact hz | sl_exact hl)
  sl_step
  iapply Hk
  sl_unfold_words
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Run

end
-- ==== Proof.BodyFirst.lean ====
/-
  The run of the body at the first tile of a pair of heads.
-/
module

public import proofs.«01_k».proof.Proof.Body

@[expose] public section

set_option maxRecDepth 16384

noncomputable section

namespace Cert.KernelIdeal.Run

open Cert.KernelIdeal Cert.KernelIdeal.Gen Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F] [∀ e, Nonempty (Elt F e)]

local notation "𝕄" => MT nD τ sig Unit (Elt F) ℕ (UR sig nD τ) ℕ

variable (c : Dev nD) (i : grid0.Coords)
variable (a2 : Memref sig .tc .vmem S256x256 .bf16) (h2 : a2.IsWhole) (a3 : Memref sig .tc .vmem S8192x256 .bf16) (h3 : a3.IsWhole)
variable (a4 : Memref sig .tc .vmem S8192x256 .bf16) (h4 : a4.IsWhole) (a5 : Memref sig .tc .vmem S256x256 .f32) (h5 : a5.IsWhole)
variable (a6 : Memref sig .tc .vmem S256x256 .f32) (h6 : a6.IsWhole) (a7 : Memref sig .tc .vmem S256x256 .bf16) (h7 : a7.IsWhole)
variable (a8 : Memref sig .tc .vmem S8192x256 .bf16) (h8 : a8.IsWhole) (a9 : Memref sig .tc .vmem S8192x256 .bf16) (h9 : a9.IsWhole)
variable (a10 : Memref sig .tc .vmem S2x32x128x256 .f32) (h10 : a10.IsWhole) (a11 : Memref sig .tc .vmem S2x32x128x256 .f32) (h11 : a11.IsWhole)
variable (f2 : BufTy.Contents (Elt F) a2.view.ty) (f3 : BufTy.Contents (Elt F) a3.view.ty) (f4 : BufTy.Contents (Elt F) a4.view.ty)
variable (f5 : BufTy.Contents (Elt F) a5.view.ty) (f6 : BufTy.Contents (Elt F) a6.view.ty)
variable (g10 : BufTy.Contents (Elt F) a10.view.ty) (g11 : BufTy.Contents (Elt F) a11.view.ty)
variable (f7 : BufTy.Contents (Elt F) a7.view.ty) (f8 : BufTy.Contents (Elt F) a8.view.ty) (f9 : BufTy.Contents (Elt F) a9.view.ty)

/-- The two accumulators cleared. -/
abbrev clearK : BufTy.Contents (Elt F) a10.view.ty :=
  a10.view.writes (Elt F) a10.view.junk [⟨Rect.unit (s := S2x32x128x256) ![0, 0, 0, 0] S2x32x128x256.size inb_S2x32x128x256_S2x32x128x256_0_0_0_0, k0_pay75 (F := F)⟩]
abbrev clearV : BufTy.Contents (Elt F) a11.view.ty :=
  a11.view.writes (Elt F) a11.view.junk [⟨Rect.unit (s := S2x32x128x256) ![0, 0, 0, 0] S2x32x128x256.size inb_S2x32x128x256_S2x32x128x256_0_0_0_0, k0_pay76 (F := F)⟩]

set_option maxHeartbeats 4000000 in
/-- At the first tile. -/
theorem body_first (hz : clears i = 1#1) (hl : ¬ k0_cond2 i = 1#1) (K : PUnit → sProp 𝕄) :
    iprop(tenHeld c a2 a3 a4 a5 a6 a7 a8 a9 a10 a11 f2 f3 f4 f5 f6 g10 g11 f7 f8 f9
        ∗ (tenHeld c a2 a3 a4 a5 a6 a7 a8 a9 a10 a11 f2 f3 f4 f5 f6 (a10.view.writes (Elt F) (clearK a10) (newK c i a2 h2 a3 h3 a4 h4 a5 h5 a6 h6 a7 h7 a8 h8 a9 h9 a10 h10 a11 h11 f2 f3 f4 f5 f6 (clearK a10) (clearV a11)))
            (a11.view.writes (Elt F) (clearV a11) (newV c i a2 h2 a3 h3 a4 h4 a5 h5 a6 h6 a7 h7 a8 h8 a9 h9 a10 h10 a11 h11 f2 f3 f4 f5 f6 (clearK a10) (clearV a11))) (a7.view.writes (Elt F) f7 (newQ c i a2 h2 a3 h3 a4 h4 a5 h5 a6 h6 a7 h7 a8 h8 a9 h9 a10 h10 a11 h11 f2 f3 f4 f5 f6 (clearK a10) (clearV a11))) f8 f9 -∗ K ⟨⟩))
      ⊢ wp frame (wpE (defs₀ (F := F)) Variants.none c none) Set.univ
          (cc0_attn_bwd i a2 h2 a3 h3 a4 h4 a5 h5 a6 h6 a7 h7 a8 h8 a9 h9 a10 h10 a11 h11) K := by
  simp only [cc0_attn_bwd_eq_skeleton]; unfold cc0_attn_bwd_skel
  iintro ⟨⟨H2, H3, H4, H5, H6, H7, H8, H9, H10, H11⟩, Hk⟩
  sl_exec (disch := first | sl_exact hz | sl_exact hl)
  sl_step
  iapply Hk
  sl_unfold_words
  simp only [View.writes_append, View.writes_cons, View.writes_nil]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Run

end
-- ==== Proof.Clear.lean ====
/-
  The two accumulators cleared hold sums over no tile, and the two conditions the body tests, by the query tile.
-/
module

public import proofs.«01_k».proof.Proof.BodyFirst

@[expose] public section

set_option maxRecDepth 16384

noncomputable section

namespace Cert.KernelIdeal.Run

open Cert.KernelIdeal Cert.KernelIdeal.Gen Cert.KernelIdeal.Stage Cert.Stick
open Idealize.ShloMosaic Idealize.ShloMosaic.TcCoe

theorem word_first : ∀ n : Fin 32,
    (Scalar.cmpi .ne (Scalar.extui (Scalar.cmpi .eq (BitVec.ofNat 32 n.val) 0#32) : BitVec 32) 0#32 = 1#1) ↔ n.val = 0 := by decide +kernel
theorem word_last : ∀ n : Fin 32,
    (Scalar.cmpi .ne (Scalar.extui (Scalar.cmpi .eq (BitVec.ofNat 32 n.val) 31#32) : BitVec 32) 0#32 = 1#1) ↔ n.val = 31 := by decide +kernel

/-- The accumulators are cleared at the first query tile, -/
theorem clears_iff (i : grid0.Coords) : clears i = 1#1 ↔ (i 1).val = 0 := word_first ⟨(i 1).val, tile_lt i⟩
/-- and put out at the last. -/
theorem puts_iff (i : grid0.Coords) : k0_cond2 i = 1#1 ↔ (i 1).val = 31 := word_last ⟨(i 1).val, tile_lt i⟩

/-- A store of zero everywhere. -/
theorem zeroed {sg : RefSig} {κ' : Kind} {sp : Space} (v : View sg κ' sp S2x32x128x256 .f32) (X : v.ty.Contents (Elt Ideal))
    (T : Fin 2 → ℕ → Fin 128 → ℕ → ℝ) (hT : ∀ h d s, T h 0 d s = 0) {w : Vec Ideal S2x32x128x256 .f32} (hw : ∀ y, w y = 0) :
    v.read (Elt Ideal) (v.writes (Elt Ideal) X [⟨Rect.unit (s := S2x32x128x256) ![0, 0, 0, 0] S2x32x128x256.size inb_S2x32x128x256_S2x32x128x256_0_0_0_0, w⟩])
      = accs T fun _ => 0 := by
  funext y
  rw [View.read_writes_cons_unit_of_mem v X inb_S2x32x128x256_S2x32x128x256_0_0_0_0 _ _ y y rfl (fun x => by fin_cases x <;> exact (Nat.zero_add _).symm)]
  exact (hw y).trans (congrArg (fun x : ℝ => (x : EReal)) (hT (y 0) (y 2) (256 * (y 1).val + (y 3).val)).symm)

theorem pay75_zero (y : Shape.Idx S2x32x128x256) : (k0_pay75 (F := Ideal)) y = 0 := by
  unfold k0_pay75
  rw [shapeCast_self]; exact zero_bits
theorem pay76_zero (y : Shape.Idx S2x32x128x256) : (k0_pay76 (F := Ideal)) y = 0 := by
  unfold k0_pay76
  rw [shapeCast_self]; exact zero_bits

/-- The cleared accumulators are the sums over no tile. -/
theorem clearK_read (a : Memref sig .tc .vmem S2x32x128x256 .f32) (Hs : Fin 2 → Head) :
    a.view.read (Elt Ideal) (clearK (F := Ideal) a) = accs (keysOf Hs) fun _ => 0 :=
  zeroed a.view _ _ (fun h d s => by show (Hs h).dkTo 0 d s = 0; unfold Head.dkTo; exact Finset.sum_range_zero _) pay75_zero
theorem clearV_read (a : Memref sig .tc .vmem S2x32x128x256 .f32) (Hs : Fin 2 → Head) :
    a.view.read (Elt Ideal) (clearV (F := Ideal) a) = accs (valuesOf Hs) fun _ => 0 :=
  zeroed a.view _ _ (fun h d s => by show (Hs h).dvTo 0 d s = 0; unfold Head.dvTo; exact Finset.sum_range_zero _) pay76_zero

end Cert.KernelIdeal.Run

end
-- ==== Proof.BodyLast.lean ====
/-
  The run of the body at the last tile of a pair of heads.
-/
module

public import proofs.«01_k».proof.Proof.Body

@[expose] public section

set_option maxRecDepth 16384

noncomputable section

namespace Cert.KernelIdeal.Run

open Cert.KernelIdeal Cert.KernelIdeal.Gen Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F] [∀ e, Nonempty (Elt F e)]

local notation "𝕄" => MT nD τ sig Unit (Elt F) ℕ (UR sig nD τ) ℕ

variable (c : Dev nD) (i : grid0.Coords)
variable (a2 : Memref sig .tc .vmem S256x256 .bf16) (h2 : a2.IsWhole) (a3 : Memref sig .tc .vmem S8192x256 .bf16) (h3 : a3.IsWhole)
variable (a4 : Memref sig .tc .vmem S8192x256 .bf16) (h4 : a4.IsWhole) (a5 : Memref sig .tc .vmem S256x256 .f32) (h5 : a5.IsWhole)
variable (a6 : Memref sig .tc .vmem S256x256 .f32) (h6 : a6.IsWhole) (a7 : Memref sig .tc .vmem S256x256 .bf16) (h7 : a7.IsWhole)
variable (a8 : Memref sig .tc .vmem S8192x256 .bf16) (h8 : a8.IsWhole) (a9 : Memref sig .tc .vmem S8192x256 .bf16) (h9 : a9.IsWhole)
variable (a10 : Memref sig .tc .vmem S2x32x128x256 .f32) (h10 : a10.IsWhole) (a11 : Memref sig .tc .vmem S2x32x128x256 .f32) (h11 : a11.IsWhole)
variable (f2 : BufTy.Contents (Elt F) a2.view.ty) (f3 : BufTy.Contents (Elt F) a3.view.ty) (f4 : BufTy.Contents (Elt F) a4.view.ty)
variable (f5 : BufTy.Contents (Elt F) a5.view.ty) (f6 : BufTy.Contents (Elt F) a6.view.ty)
variable (g10 : BufTy.Contents (Elt F) a10.view.ty) (g11 : BufTy.Contents (Elt F) a11.view.ty)
variable (f7 : BufTy.Contents (Elt F) a7.view.ty) (f8 : BufTy.Contents (Elt F) a8.view.ty) (f9 : BufTy.Contents (Elt F) a9.view.ty)

/-- The accumulators as the body leaves them. -/
abbrev leftK : BufTy.Contents (Elt F) a10.view.ty := a10.view.writes (Elt F) g10 (newK c i a2 h2 a3 h3 a4 h4 a5 h5 a6 h6 a7 h7 a8 h8 a9 h9 a10 h10 a11 h11 f2 f3 f4 f5 f6 g10 g11)
abbrev leftV : BufTy.Contents (Elt F) a11.view.ty := a11.view.writes (Elt F) g11 (newV c i a2 h2 a3 h3 a4 h4 a5 h5 a6 h6 a7 h7 a8 h8 a9 h9 a10 h10 a11 h11 f2 f3 f4 f5 f6 g10 g11)

set_option maxHeartbeats 4000000 in
/-- At the last tile. -/
theorem body_last (hz : ¬ clears i = 1#1) (hl : k0_cond2 i = 1#1) (K : PUnit → sProp 𝕄) :
    iprop(tenHeld c a2 a3 a4 a5 a6 a7 a8 a9 a10 a11 f2 f3 f4 f5 f6 g10 g11 f7 f8 f9
        ∗ (tenHeld c a2 a3 a4 a5 a6 a7 a8 a9 a10 a11 f2 f3 f4 f5 f6 (leftK c i a2 h2 a3 h3 a4 h4 a5 h5 a6 h6 a7 h7 a8 h8 a9 h9 a10 h10 a11 h11 f2 f3 f4 f5 f6 g10 g11)
            (leftV c i a2 h2 a3 h3 a4 h4 a5 h5 a6 h6 a7 h7 a8 h8 a9 h9 a10 h10 a11 h11 f2 f3 f4 f5 f6 g10 g11) (a7.view.writes (Elt F) a7.view.junk (newQ c i a2 h2 a3 h3 a4 h4 a5 h5 a6 h6 a7 h7 a8 h8 a9 h9 a10 h10 a11 h11 f2 f3 f4 f5 f6 g10 g11))
            (a8.view.writes (Elt F) f8 (pb_k0_t3 (F := F) Variants.none c none i a2 h2 a3 h3 a4 h4 a5 h5 a6 h6 a7 h7 a8 h8 a9 h9 a10 h10 a11 h11 hl (leftK c i a2 h2 a3 h3 a4 h4 a5 h5 a6 h6 a7 h7 a8 h8 a9 h9 a10 h10 a11 h11 f2 f3 f4 f5 f6 g10 g11) (leftV c i a2 h2 a3 h3 a4 h4 a5 h5 a6 h6 a7 h7 a8 h8 a9 h9 a10 h10 a11 h11 f2 f3 f4 f5 f6 g10 g11) k0_t3_loop.trips).1)
            (a9.view.writes (Elt F) f9 (pb_k0_t3 (F := F) Variants.none c none i a2 h2 a3 h3 a4 h4 a5 h5 a6 h6 a7 h7 a8 h8 a9 h9 a10 h10 a11 h11 hl (leftK c i a2 h2 a3 h3 a4 h4 a5 h5 a6 h6 a7 h7 a8 h8 a9 h9 a10 h10 a11 h11 f2 f3 f4 f5 f6 g10 g11) (leftV c i a2 h2 a3 h3 a4 h4 a5 h5 a6 h6 a7 h7 a8 h8 a9 h9 a10 h10 a11 h11 f2 f3 f4 f5 f6 g10 g11) k0_t3_loop.trips).2) -∗ K ⟨⟩))
      ⊢ wp frame (wpE (defs₀ (F := F)) Variants.none c none) Set.univ
          (cc0_attn_bwd i a2 h2 a3 h3 a4 h4 a5 h5 a6 h6 a7 h7 a8 h8 a9 h9 a10 h10 a11 h11) K := by
  simp only [cc0_attn_bwd_eq_skeleton]; unfold cc0_attn_bwd_skel
  iintro ⟨⟨H2, H3, H4, H5, H6, H7, H8, H9, H10, H11⟩, Hk⟩
  sl_exec (disch := first | sl_exact hz | sl_exact hl)
  sl_step
  iapply Hk
  sl_unfold_words
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Run

end
-- ==== Proof.Put.lean ====
/-
  Two heads stored side by side in a window, and the loop that puts the two accumulators out: tile after tile of columns,
  transposed.
-/
module

public import proofs.«01_k».proof.Proof.Past

@[expose] public section

set_option maxRecDepth 16384

noncomputable section

namespace Cert.KernelIdeal.Stage

open Cert.KernelIdeal Cert.KernelIdeal.Gen Cert.Stick
open Idealize.ShloMosaic hiding ix2 eq_ix2 ix4 eq_ix4
open Idealize.ShloMosaic.ValueIdx Idealize.ShloMosaic.TcCoe

section Pair

variable {sg : RefSig} {κ' : Kind} {sp : Space} {n : ℕ} (v : View sg κ' sp ⟨2, ![n, 256]⟩ .bf16) (X : v.ty.Contents (Elt Ideal))
variable {off0 off1 : Fin 2 → ℕ} {a : ℕ}
variable (inb0 : ∀ x, off0 x + S256x128.size x ≤ (![n, 256] : Fin 2 → ℕ) x) (inb1 : ∀ x, off1 x + S256x128.size x ≤ (![n, 256] : Fin 2 → ℕ) x)
variable (f : Fin 2 → ℕ → Fin 128 → ℝ) (o : ℕ) {w0 w1 : Vec Ideal S256x128 .bf16} (L : List (View.Piece (Elt Ideal) ⟨2, ![n, 256]⟩ .bf16))

/-- Within the rows stored last the window holds the two heads. -/
theorem read_pair (h0 : off0 = ![a, 0]) (h1 : off1 = ![a, 128]) (hw0 : w0 = up .bf16 fun r d => f 0 (o + a + r.val) d) (hw1 : w1 = up .bf16 fun r d => f 1 (o + a + r.val) d)
    (y : Shape.Idx ⟨2, ![n, 256]⟩) (hy : a ≤ (y 0).val) (hy' : (y 0).val < a + 256) :
    v.read (Elt Ideal) (v.writes (Elt Ideal) X (⟨Rect.unit (s := ⟨2, ![n, 256]⟩) off1 S256x128.size inb1, w1⟩
      :: ⟨Rect.unit (s := ⟨2, ![n, 256]⟩) off0 S256x128.size inb0, w0⟩ :: L)) y = wide (n := n) .bf16 f o y := by
  subst hw0 hw1
  have y1 : (y 1).val < 256 := (y 1).isLt
  unfold wide
  rcases Nat.lt_or_ge (y 1).val 128 with hc | hc
  · rw [View.read_writes_cons_unit_of_not_mem v X inb1 _ _ y h1 1 (Or.inl hc),
      View.read_writes_cons_unit_of_mem v X inb0 _ _ y (ix2 ⟨(y 0).val - a, by omega⟩ ⟨(y 1).val, hc⟩) h0 (fun x => by
        fin_cases x
        · show (y 0).val = a + ((y 0).val - a); omega
        · show (y 1).val = 0 + (y 1).val; omega), up_apply]
    refine congrArg (fun x : ℝ => (x : EReal)) ?_
    rw [show (⟨(y 1).val / 128, by omega⟩ : Fin 2) = 0 from Fin.ext (by show (y 1).val / 128 = 0; omega),
      show (⟨(y 1).val % 128, Nat.mod_lt _ (by norm_num)⟩ : Fin 128) = ⟨(y 1).val, hc⟩ from Fin.ext (by show (y 1).val % 128 = (y 1).val; omega),
      show o + a + ((y 0).val - a) = o + (y 0).val by omega]
  · rw [View.read_writes_cons_unit_of_mem v X inb1 _ _ y (ix2 ⟨(y 0).val - a, by omega⟩ ⟨(y 1).val - 128, by omega⟩) h1 (fun x => by
        fin_cases x
        · show (y 0).val = a + ((y 0).val - a); omega
        · show (y 1).val = 128 + ((y 1).val - 128); omega), up_apply]
    refine congrArg (fun x : ℝ => (x : EReal)) ?_
    rw [show (⟨(y 1).val / 128, by omega⟩ : Fin 2) = 1 from Fin.ext (by show (y 1).val / 128 = 1; omega),
      show (⟨(y 1).val % 128, Nat.mod_lt _ (by norm_num)⟩ : Fin 128) = ⟨(y 1).val - 128, by omega⟩ from Fin.ext (by show (y 1).val % 128 = (y 1).val - 128; omega),
      show o + a + ((y 0).val - a) = o + (y 0).val by omega]

/-- Outside them it holds what it held. -/
theorem read_other (h0 : off0 = ![a, 0]) (h1 : off1 = ![a, 128]) (y : Shape.Idx ⟨2, ![n, 256]⟩) (hy : (y 0).val < a ∨ a + 256 ≤ (y 0).val) :
    v.read (Elt Ideal) (v.writes (Elt Ideal) X (⟨Rect.unit (s := ⟨2, ![n, 256]⟩) off1 S256x128.size inb1, w1⟩
      :: ⟨Rect.unit (s := ⟨2, ![n, 256]⟩) off0 S256x128.size inb0, w0⟩ :: L)) y = v.read (Elt Ideal) (v.writes (Elt Ideal) X L) y := by
  rw [View.read_writes_cons_unit_of_not_mem v X inb1 _ _ y h1 0 hy, View.read_writes_cons_unit_of_not_mem v X inb0 _ _ y h0 0 hy]

end Pair

/-- The transpose of a slab. -/
theorem put_pile (b : Fin 128 → Fin 256 → ℝ) :
    truncf .bf16 (transpose S256x128 [1, 0] (shapeCast S128x256 (pile b) shapeCasts_S1x1x128x256_S128x256) transposes_S128x256_p1_0_S256x128) bitsLt_bf16_f32
      = up .bf16 fun s d => b d s := by
  rw [of_pile, ← truncf_up]
  congr 1

section Loop

variable (c : Dev nD) (i : grid0.Coords)
variable (a2 : Memref sig .tc .vmem S256x256 .bf16) (h2 : a2.IsWhole) (a3 : Memref sig .tc .vmem S8192x256 .bf16) (h3 : a3.IsWhole)
variable (a4 : Memref sig .tc .vmem S8192x256 .bf16) (h4 : a4.IsWhole) (a5 : Memref sig .tc .vmem S256x256 .f32) (h5 : a5.IsWhole)
variable (a6 : Memref sig .tc .vmem S256x256 .f32) (h6 : a6.IsWhole) (a7 : Memref sig .tc .vmem S256x256 .bf16) (h7 : a7.IsWhole)
variable (a8 : Memref sig .tc .vmem S8192x256 .bf16) (h8 : a8.IsWhole) (a9 : Memref sig .tc .vmem S8192x256 .bf16) (h9 : a9.IsWhole)
variable (a10 : Memref sig .tc .vmem S2x32x128x256 .f32) (h10 : a10.IsWhole) (a11 : Memref sig .tc .vmem S2x32x128x256 .f32) (h11 : a11.IsWhole)
variable (hl : k0_cond2 i = 1#1)

/-- The two pieces a trip stores in an output window. -/
abbrev pairOf {F : FTy → Type} (p : Fin k0_t3_loop.trips) (w0 w1 : Vec F S256x128 .bf16) : List (View.Piece (Elt F) S8192x256 .bf16) :=
  [⟨Rect.unit (s := S8192x256) (k0_off16 p) S256x128.size (k0_off16_inb i p hl), w1⟩,
    ⟨Rect.unit (s := S8192x256) (k0_off14 p) S256x128.size (k0_off14_inb i p hl), w0⟩]
/-- The slabs a trip reads. -/
abbrev out0 {F : FTy → Type} (p : Fin k0_t3_loop.trips) (a : Memref sig .tc .vmem S2x32x128x256 .f32) (X : BufTy.Contents (Elt F) a.view.ty) : Vec F S1x1x128x256 .f32 :=
  a.view.readAt (Elt F) (Rect.unit (s := S2x32x128x256) (k0_off13 p) S1x1x128x256.size (k0_off13_inb i p hl)).toLoadRect X
abbrev out1 {F : FTy → Type} (p : Fin k0_t3_loop.trips) (a : Memref sig .tc .vmem S2x32x128x256 .f32) (X : BufTy.Contents (Elt F) a.view.ty) : Vec F S1x1x128x256 .f32 :=
  a.view.readAt (Elt F) (Rect.unit (s := S2x32x128x256) (k0_off15 p) S1x1x128x256.size (k0_off15_inb i p hl)).toLoadRect X

/-- What a trip stores. -/
theorem put_stores {F : FTy → Type} [FloatOps F] [Named F] [∀ e, Nonempty (Elt F e)]
    (X10 : BufTy.Contents (Elt F) a10.view.ty) (X11 : BufTy.Contents (Elt F) a11.view.ty) (p : Fin k0_t3_loop.trips) :
    tripL_k0_t3 (F := F) Variants.none c none i a2 h2 a3 h3 a4 h4 a5 h5 a6 h6 a7 h7 a8 h8 a9 h9 a10 h10 a11 h11 hl X10 X11 p
      = (pairOf i hl p (k0_pay5 (out0 i hl p a10 X10)) (k0_pay7 (out1 i hl p a10 X10)), pairOf i hl p (k0_pay6 (out0 i hl p a11 X11)) (k0_pay8 (out1 i hl p a11 X11))) := by
  unfold tripL_k0_t3 trip_k0_t3
  rfl

variable (X10 : BufTy.Contents (Elt Ideal) a10.view.ty) (X11 : BufTy.Contents (Elt Ideal) a11.view.ty)
variable (f8 : BufTy.Contents (Elt Ideal) a8.view.ty) (f9 : BufTy.Contents (Elt Ideal) a9.view.ty)
variable {T T' : Fin 2 → ℕ → Fin 128 → ℕ → ℝ} {N : ℕ}

/-- After `n` trips the first `256 n` rows are out. -/
theorem put (hK : a10.view.read (Elt Ideal) X10 = accs T fun _ => N) (hV : a11.view.read (Elt Ideal) X11 = accs T' fun _ => N) :
    ∀ n : ℕ, n ≤ 32 → ∀ y : Shape.Idx S8192x256, (y 0).val < 256 * n →
    a8.view.read (Elt Ideal) (a8.view.writes (Elt Ideal) f8 (pb_k0_t3 (F := Ideal) Variants.none c none i a2 h2 a3 h3 a4 h4 a5 h5 a6 h6 a7 h7 a8 h8 a9 h9 a10 h10 a11 h11 hl X10 X11 n).1) y
        = wide (n := 8192) .bf16 (fun h s d => T h N d s) 0 y
    ∧ a9.view.read (Elt Ideal) (a9.view.writes (Elt Ideal) f9 (pb_k0_t3 (F := Ideal) Variants.none c none i a2 h2 a3 h3 a4 h4 a5 h5 a6 h6 a7 h7 a8 h8 a9 h9 a10 h10 a11 h11 hl X10 X11 n).2) y
        = wide (n := 8192) .bf16 (fun h s d => T' h N d s) 0 y := by
  intro n
  induction n with
  | zero => intro _ y hy; exact absurd hy (by omega)
  | succ n ih =>
    intro hn y hy
    have hlt : n < k0_t3_loop.trips := by rw [trips3]; omega
    rw [pb_k0_t3_succ (k := ⟨n, hlt⟩), put_stores]
    have K0 : out0 i hl ⟨n, hlt⟩ a10 X10 = _ := load_slab a10.view _ hK 0 (at13 ⟨n, hlt⟩) (k0_off13_inb i ⟨n, hlt⟩ hl)
    have K1 : out1 i hl ⟨n, hlt⟩ a10 X10 = _ := load_slab a10.view _ hK 1 (at15 ⟨n, hlt⟩) (k0_off15_inb i ⟨n, hlt⟩ hl)
    have V0 : out0 i hl ⟨n, hlt⟩ a11 X11 = _ := load_slab a11.view _ hV 0 (at13 ⟨n, hlt⟩) (k0_off13_inb i ⟨n, hlt⟩ hl)
    have V1 : out1 i hl ⟨n, hlt⟩ a11 X11 = _ := load_slab a11.view _ hV 1 (at15 ⟨n, hlt⟩) (k0_off15_inb i ⟨n, hlt⟩ hl)
    rw [K0, K1, V0, V1]
    rcases Nat.lt_or_ge (y 0).val (256 * n) with h | h
    · obtain ⟨e, e'⟩ := ih (by omega) y h
      exact ⟨(read_other a8.view f8 _ _ _ (at14 ⟨n, hlt⟩) (at16 ⟨n, hlt⟩) y (Or.inl h)).trans e,
        (read_other a9.view f9 _ _ _ (at14 ⟨n, hlt⟩) (at16 ⟨n, hlt⟩) y (Or.inl h)).trans e'⟩
    · refine ⟨read_pair a8.view f8 _ _ (fun h s d => T h N d s) 0 _ (at14 ⟨n, hlt⟩) (at16 ⟨n, hlt⟩) ?_ ?_ y h (by omega),
        read_pair a9.view f9 _ _ (fun h s d => T' h N d s) 0 _ (at14 ⟨n, hlt⟩) (at16 ⟨n, hlt⟩) ?_ ?_ y h (by omega)⟩ <;>
      exact (put_pile _).trans (by simp only [Nat.zero_add])

end Loop

end Cert.KernelIdeal.Stage

end
-- ==== Proof.PointValue.lean ====
/-
  The values a grid point leaves: from windows that hold two heads side by side and accumulators that have taken in the rows
  of the tiles before, the rows of the queries' gradient and accumulators that have taken in this tile's rows too.
-/
module

public import proofs.«01_k».proof.Proof.Point
public import proofs.«01_k».proof.Proof.Put

@[expose] public section

set_option maxRecDepth 16384

noncomputable section

namespace Cert.KernelIdeal.Stage

open Cert.KernelIdeal Cert.KernelIdeal.Gen Cert.Stick
open Idealize.ShloMosaic hiding ix2 eq_ix2 ix4 eq_ix4
open Idealize.ShloMosaic.ValueIdx Idealize.ShloMosaic.TcCoe

/-- The scale of the scores, the number the constant of the program denotes. -/
def scale : ℝ := 11863283 / 134217728

theorem scale_bits : Ideal.ofBits .f32 0x3DB504F3#32 = ((scale : ℝ) : EReal) := by
  unfold scale
  simp [Ideal.ofBits, Ideal.ieee, -EReal.coe_mul]; norm_num

/-- A vector times the scale. -/
theorem scaled_up (x : Fin 256 → Fin 128 → ℝ) :
    (mulf (up .f32 x) (broadcast S256x128 (FloatOps.ofBits (F := Ideal) .f32 0x3DB504F3#32)) : FVec Ideal S256x128 .f32) = up .f32 fun r d => x r d * scale := by
  refine ext2 fun r d => ?_
  show ((x r d : ℝ) : EReal) * Ideal.ofBits .f32 0x3DB504F3#32 = _
  rw [scale_bits, ← EReal.coe_mul]
  rfl

theorem turned_up (x : Fin 256 → Fin 128 → ℝ) :
    (transpose S128x256 [1, 0] (up .f32 x) transposes_S256x128_p1_0_S128x256 : FVec Ideal S128x256 .f32) = up .f32 fun d r => x r d := by
  refine ext2 fun d r => ?_
  rw [transpose_apply _ _ _ _ (ix2 r d) (by intro a; fin_cases a <;> rfl)]
  rfl

theorem column_up (x : Fin 256 → Fin 128 → ℝ) :
    (extractStridedSlice S256x1 ![0, 0] (up .f32 x) slices_S256x128_o0_0_S256x1 : FVec Ideal S256x1 .f32) = up .f32 fun r _ => x r 0 := by
  refine ext2 fun r c => ?_
  rw [extractStridedSlice_apply _ _ _ _ (ix2 r 0) (by intro a; fin_cases a <;> simp <;> omega)]
  rfl

/-- The second head's slab read after the first head's was stored. -/
theorem load_past {sg : RefSig} {κ' : Kind} {sp : Space} (v : View sg κ' sp S2x32x128x256 .f32) (X : v.ty.Contents (Elt Ideal))
    {off0 off1 : Fin 4 → ℕ} {a b : ℕ} (h0 : off0 = ![0, a, 0, 0]) (h1 : off1 = ![1, b, 0, 0])
    (inb0 : ∀ x, off0 x + S1x1x128x256.size x ≤ S2x32x128x256.size x) (inb1 : ∀ x, off1 x + S1x1x128x256.size x ≤ S2x32x128x256.size x)
    (w : Vec Ideal S1x1x128x256 .f32) :
    v.readAt (Elt Ideal) (Rect.unit (s := S2x32x128x256) off1 S1x1x128x256.size inb1).toLoadRect
        (v.writes (Elt Ideal) X [⟨Rect.unit (s := S2x32x128x256) off0 S1x1x128x256.size inb0, w⟩])
      = v.readAt (Elt Ideal) (Rect.unit (s := S2x32x128x256) off1 S1x1x128x256.size inb1).toLoadRect X := by
  funext y
  refine View.read_writes_cons_unit_of_not_mem v X inb0 _ _ ((Rect.unit (s := S2x32x128x256) off1 S1x1x128x256.size inb1).idx y) h0 0 (Or.inr ?_)
  subst h1
  show 0 + 1 ≤ 1 + 1 * (y 0).val
  omega

/-- Once the diagonal tile is done every column has taken in the same rows. -/
theorem level (T : Fin 2 → ℕ → Fin 128 → ℕ → ℝ) (hT : ∀ h n m d s, n ≤ m → m ≤ s + 1 → T h m d s = T h n d s) (i : ℕ) :
    accs T (Function.update (taken i i) i (256 * (i + 1))) = accs T fun _ => 256 * (i + 1) := by
  funext y
  unfold accs
  rw [taken_succ]
  refine congrArg (fun x : ℝ => (x : EReal)) ?_
  unfold taken
  rcases Nat.lt_or_ge (y 1).val (i + 1) with h | h
  · rw [if_pos h]
  · rw [if_neg (by omega)]
    exact (hT _ _ _ _ _ (by show 256 * (i + 0) ≤ 256 * (i + 1); omega) (by show 256 * (i + 1) ≤ 256 * (y 1).val + (y 3).val + 1; omega)).symm

section PointValue

variable (c : Dev nD) (i : grid0.Coords)
variable (a2 : Memref sig .tc .vmem S256x256 .bf16) (h2 : a2.IsWhole) (a3 : Memref sig .tc .vmem S8192x256 .bf16) (h3 : a3.IsWhole)
variable (a4 : Memref sig .tc .vmem S8192x256 .bf16) (h4 : a4.IsWhole) (a5 : Memref sig .tc .vmem S256x256 .f32) (h5 : a5.IsWhole)
variable (a6 : Memref sig .tc .vmem S256x256 .f32) (h6 : a6.IsWhole) (a7 : Memref sig .tc .vmem S256x256 .bf16) (h7 : a7.IsWhole)
variable (a8 : Memref sig .tc .vmem S8192x256 .bf16) (h8 : a8.IsWhole) (a9 : Memref sig .tc .vmem S8192x256 .bf16) (h9 : a9.IsWhole)
variable (a10 : Memref sig .tc .vmem S2x32x128x256 .f32) (h10 : a10.IsWhole) (a11 : Memref sig .tc .vmem S2x32x128x256 .f32) (h11 : a11.IsWhole)
variable (f2 : BufTy.Contents (Elt Ideal) a2.view.ty) (f3 : BufTy.Contents (Elt Ideal) a3.view.ty) (f4 : BufTy.Contents (Elt Ideal) a4.view.ty)
variable (f5 : BufTy.Contents (Elt Ideal) a5.view.ty) (f6 : BufTy.Contents (Elt Ideal) a6.view.ty)
variable (g10 : BufTy.Contents (Elt Ideal) a10.view.ty) (g11 : BufTy.Contents (Elt Ideal) a11.view.ty)

variable (Hs : Fin 2 → Head)

/-- What the body finds: the windows hold two heads side by side, the accumulators have taken in the tiles before. -/
structure Finds : Prop where
  scaled : ∀ h, (Hs h).c = scale
  q : a2.view.read (Elt Ideal) f2 = wide (n := 256) .bf16 (fun h => (Hs h).q) (256 * (i 1).val)
  k : a3.view.read (Elt Ideal) f3 = wide (n := 8192) .bf16 (fun h => (Hs h).k) 0
  v : a4.view.read (Elt Ideal) f4 = wide (n := 8192) .bf16 (fun h => (Hs h).v) 0
  g : a5.view.read (Elt Ideal) f5 = wide (n := 256) .f32 (fun h => (Hs h).g) (256 * (i 1).val)
  spent : a6.view.read (Elt Ideal) f6 = wide (n := 256) .f32 (fun h t _ => (Hs h).spent t) (256 * (i 1).val)
  keys : a10.view.read (Elt Ideal) g10 = accs (keysOf Hs) fun _ => 256 * (i 1).val
  values : a11.view.read (Elt Ideal) g11 = accs (valuesOf Hs) fun _ => 256 * (i 1).val

set_option maxHeartbeats 4000000 in
/-- What it leaves. -/
theorem point_values (hf : Finds i a2 a3 a4 a5 a6 a10 a11 f2 f3 f4 f5 f6 g10 g11 Hs) (f7 : BufTy.Contents (Elt Ideal) a7.view.ty) :
    a7.view.read (Elt Ideal) (a7.view.writes (Elt Ideal) f7 (newQ c i a2 h2 a3 h3 a4 h4 a5 h5 a6 h6 a7 h7 a8 h8 a9 h9 a10 h10 a11 h11 f2 f3 f4 f5 f6 g10 g11))
        = wide (n := 256) .bf16 (fun h t d => (Hs h).dqTo 8192 t d * scale) (256 * (i 1).val)
    ∧ a10.view.read (Elt Ideal) (a10.view.writes (Elt Ideal) g10 (newK c i a2 h2 a3 h3 a4 h4 a5 h5 a6 h6 a7 h7 a8 h8 a9 h9 a10 h10 a11 h11 f2 f3 f4 f5 f6 g10 g11)) = accs (keysOf Hs) (fun _ => 256 * ((i 1).val + 1))
    ∧ a11.view.read (Elt Ideal) (a11.view.writes (Elt Ideal) g11 (newV c i a2 h2 a3 h3 a4 h4 a5 h5 a6 h6 a7 h7 a8 h8 a9 h9 a10 h10 a11 h11 f2 f3 f4 f5 f6 g10 g11)) = accs (valuesOf Hs) (fun _ => 256 * ((i 1).val + 1)) := by
  obtain ⟨hc, hq, hk, hv, hg, hs, hK, hV⟩ := hf
  have hlt := tile_lt i
  -- the loads
  have q0 : cut0 a2 f2 = up .bf16 fun r d => (Hs 0).q (256 * (i 1).val + r.val) d := load_head a2.view f2 hq 0 rfl inb_S256x256_S256x128_0_0
  have q1 : cut1 a2 f2 = up .bf16 fun r d => (Hs 1).q (256 * (i 1).val + r.val) d := load_head a2.view f2 hq 1 rfl inb_S256x256_S256x128_0_128
  have g0 : cut0 a5 f5 = up .f32 (rG (Hs 0) (i 1).val) := load_head32 a5.view f5 hg 0 rfl inb_S256x256_S256x128_0_0
  have g1 : cut1 a5 f5 = up .f32 (rG (Hs 1) (i 1).val) := load_head32 a5.view f5 hg 1 rfl inb_S256x256_S256x128_0_128
  have s0 : cut0 a6 f6 = up .f32 fun r _ => (Hs 0).spent (256 * (i 1).val + r.val) := load_head32 a6.view f6 hs 0 rfl inb_S256x256_S256x128_0_0
  have s1 : cut1 a6 f6 = up .f32 fun r _ => (Hs 1).spent (256 * (i 1).val + r.val) := load_head32 a6.view f6 hs 1 rfl inb_S256x256_S256x128_0_128
  have K0 : diag0 i a3 f3 = up .bf16 (rK (Hs 0) (i 1).val) :=
    (load_head a3.view f3 hk 0 (at9 i) (k0_off9_inb i)).trans (by simp only [Nat.zero_add]; rfl)
  have K1 : diag1 i a3 f3 = up .bf16 (rK (Hs 1) (i 1).val) :=
    (load_head a3.view f3 hk 1 (at10 i) (k0_off10_inb i)).trans (by simp only [Nat.zero_add]; rfl)
  have V0 : diag0 i a4 f4 = up .bf16 (rV (Hs 0) (i 1).val) :=
    (load_head a4.view f4 hv 0 (at9 i) (k0_off9_inb i)).trans (by simp only [Nat.zero_add]; rfl)
  have V1 : diag1 i a4 f4 = up .bf16 (rV (Hs 1) (i 1).val) :=
    (load_head a4.view f4 hv 1 (at10 i) (k0_off10_inb i)).trans (by simp only [Nat.zero_add]; rfl)
  -- the words made of them
  have eQ (h : Fin 2) (r : Fin 256) (d : Fin 128) : (Hs h).q (256 * (i 1).val + r.val) d * scale = rQ (Hs h) (i 1).val r d := by
    unfold rQ; rw [hc h]
  have w24 : k0_pay82 (cut0 a2 f2) = up .bf16 (rQ (Hs 0) (i 1).val) := by
    rw [q0]; unfold k0_pay82 k0_pay80; rw [shapeCast_self]; exact (congrArg (truncf .bf16 · bitsLt_bf16_f32) (scaled_up _)).trans ((truncf_up _).trans (congrArg (up .bf16) (funext fun r => funext fun d => eQ 0 r d)))
  have w25 : k0_pay83 (cut1 a2 f2) = up .bf16 (rQ (Hs 1) (i 1).val) := by
    rw [q1]; unfold k0_pay83 k0_pay81; rw [shapeCast_self]; exact (congrArg (truncf .bf16 · bitsLt_bf16_f32) (scaled_up _)).trans ((truncf_up _).trans (congrArg (up .bf16) (funext fun r => funext fun d => eQ 1 r d)))
  have w27 : k0_pay84 (cut0 a2 f2) = up .bf16 fun d r => rQ (Hs 0) (i 1).val r d := by
    rw [q0]; unfold k0_pay84 k0_pay80; rw [shapeCast_self]
    exact (congrArg (fun x => truncf .bf16 (transpose S128x256 [1, 0] x transposes_S256x128_p1_0_S128x256) bitsLt_bf16_f32) (scaled_up _)).trans
      ((congrArg (truncf .bf16 · bitsLt_bf16_f32) (turned_up _)).trans ((truncf_up _).trans (congrArg (up .bf16) (funext fun d => funext fun r => eQ 0 r d))))
  have w29 : k0_pay85 (cut1 a2 f2) = up .bf16 fun d r => rQ (Hs 1) (i 1).val r d := by
    rw [q1]; unfold k0_pay85 k0_pay81; rw [shapeCast_self]
    exact (congrArg (fun x => truncf .bf16 (transpose S128x256 [1, 0] x transposes_S256x128_p1_0_S128x256) bitsLt_bf16_f32) (scaled_up _)).trans
      ((congrArg (truncf .bf16 · bitsLt_bf16_f32) (turned_up _)).trans ((truncf_up _).trans (congrArg (up .bf16) (funext fun d => funext fun r => eQ 1 r d))))
  have w32 : k0_pay86 (cut0 a5 f5) = up .bf16 (rG (Hs 0) (i 1).val) := by rw [g0]; exact truncf_up _
  have w33 : k0_pay87 (cut1 a5 f5) = up .bf16 (rG (Hs 1) (i 1).val) := by rw [g1]; exact truncf_up _
  have w35 : k0_pay88 (cut0 a5 f5) = up .bf16 fun d r => rG (Hs 0) (i 1).val r d := by
    rw [g0]; exact (congrArg (truncf .bf16 · bitsLt_bf16_f32) (turned_up _)).trans (truncf_up _)
  have w37 : k0_pay89 (cut1 a5 f5) = up .bf16 fun d r => rG (Hs 1) (i 1).val r d := by
    rw [g1]; exact (congrArg (truncf .bf16 · bitsLt_bf16_f32) (turned_up _)).trans (truncf_up _)
  have w41 : k0_pay91 (cut0 a6 f6) = up .f32 (rLeft (Hs 0) (i 1).val 0) := by
    rw [s0]; unfold k0_pay91; rw [shapeCast_self]; exact (column_up _).trans (congrArg (up .f32) (funext fun r => funext fun _ => ((Hs 0).left_zero _).symm))
  have w46 : k0_pay94 (cut1 a6 f6) = up .f32 (rLeft (Hs 1) (i 1).val 0) := by
    rw [s1]; unfold k0_pay94; rw [shapeCast_self]; exact (column_up _).trans (congrArg (up .f32) (funext fun r => funext fun _ => ((Hs 1).left_zero _).symm))
  have z (n m : ℕ) : (fun j => Ideal.ofBits .f32 0x00000000#32 : FVec Ideal ⟨2, ![n, m]⟩ .f32) = up .f32 fun _ _ => 0 :=
    ext2 fun _ _ => zero_bits
  have dq (h : Fin 2) : up .f32 (fun _ _ => 0) = up .f32 (rDq (Hs h) (i 1).val 0) :=
    congrArg (up .f32) (funext fun r => funext fun d => ((Hs h).dqTo_zero _ d).symm)
  have ut (h : Fin 2) : up .f32 (fun _ _ => 0) = up .f32 (rUpto (Hs h) (i 1).val 0) :=
    congrArg (up .f32) (funext fun r => funext fun d => ((Hs h).upto_zero _).symm)
  have start : (k0_pay90, k0_pay91 (cut0 a6 f6), k0_pay92, k0_pay93, k0_pay94 (cut1 a6 f6), k0_pay95) = carry Hs (i 1).val 0 := by
    unfold carry
    rw [w41, w46, ← dq 0, ← dq 1, ← ut 0, ← ut 1]
    exact congrArg₂ Prod.mk (z 256 128) (congrArg (Prod.mk _) (congrArg₂ Prod.mk (z 256 1) (congrArg₂ Prod.mk (z 256 128) (congrArg (Prod.mk _) (z 256 1)))))
  have lev : taken (i 1).val 0 = fun _ => 256 * (i 1).val := funext fun j => by unfold taken; rw [if_neg (Nat.not_lt_zero j), Nat.add_zero]
  -- the loop over the past
  have loop : (pastSt c i a2 h2 a3 h3 a4 h4 a5 h5 a6 h6 a7 h7 a8 h8 a9 h9 a10 h10 a11 h11 f2 f3 f4 f5 f6 g10 g11).1 = carry Hs (i 1).val (k0_t1_loop i).trips
      ∧ a10.view.read (Elt Ideal) (a10.view.writes (Elt Ideal) g10 (pastSt c i a2 h2 a3 h3 a4 h4 a5 h5 a6 h6 a7 h7 a8 h8 a9 h9 a10 h10 a11 h11 f2 f3 f4 f5 f6 g10 g11).2.1) = accs (keysOf Hs) (taken (i 1).val (k0_t1_loop i).trips)
      ∧ a11.view.read (Elt Ideal) (a11.view.writes (Elt Ideal) g11 (pastSt c i a2 h2 a3 h3 a4 h4 a5 h5 a6 h6 a7 h7 a8 h8 a9 h9 a10 h10 a11 h11 f2 f3 f4 f5 f6 g10 g11).2.2) = accs (valuesOf Hs) (taken (i 1).val (k0_t1_loop i).trips) :=
    past Variants.none c none i a2 h2 a3 h3 a4 h4 a5 h5 a6 h6 a7 h7 a8 h8 a9 h9 a10 h10 a11 h11 (BitVec.ofNat 32 (i 1).val) k0_pay77 k0_pay78
    (k0_pay82 (cut0 a2 f2)) (k0_pay83 (cut1 a2 f2)) (k0_pay84 (cut0 a2 f2)) (k0_pay85 (cut1 a2 f2))
    (k0_pay86 (cut0 a5 f5)) (k0_pay87 (cut1 a5 f5)) (k0_pay88 (cut0 a5 f5)) (k0_pay89 (cut1 a5 f5)) k0_pay90 (k0_pay91 (cut0 a6 f6)) f3 f4 g10 g11
    (k0_pay90, k0_pay91 (cut0 a6 f6), k0_pay92, k0_pay93, k0_pay94 (cut1 a6 f6), k0_pay95) Hs rfl rfl w24 w25 w27 w29 w32 w33 w35 w37 hk hv
      (hK.trans (by rw [lev])) (hV.trans (by rw [lev])) start (k0_t1_loop i).trips (trips1 i).le
  have done : doneSt c i a2 h2 a3 h3 a4 h4 a5 h5 a6 h6 a7 h7 a8 h8 a9 h9 a10 h10 a11 h11 f2 f3 f4 f5 f6 g10 g11 = ((pastSt c i a2 h2 a3 h3 a4 h4 a5 h5 a6 h6 a7 h7 a8 h8 a9 h9 a10 h10 a11 h11 f2 f3 f4 f5 f6 g10 g11).1, [], []) := by
    unfold doneSt; rw [trips2]; rfl
  unfold newQ newK newV oldK oldV pieceK pieceV oldK oldV dz0 dz1
  rw [done]
  clear done start
  generalize pastSt c i a2 h2 a3 h3 a4 h4 a5 h5 a6 h6 a7 h7 a8 h8 a9 h9 a10 h10 a11 h11 f2 f3 f4 f5 f6 g10 g11 = st at loop ⊢
  rw [trips1] at loop
  obtain ⟨hc', hK', hV'⟩ := loop
  rw [hc', w24, w25, w27, w29, w32, w33, w35, w37, K0, K1, V0, V1]
  unfold carry
  dsimp only
  rw [tileDz_val _ (masks_diagonal _), tileDz_val _ (masks_diagonal _), tileW_val _ (masks_diagonal _), tileW_val _ (masks_diagonal _)]
  refine ⟨?_, ?_, ?_⟩
  · funext y
    have hy : (y 0).val < 256 := (y 0).isLt
    have e (h : Fin 2) : up .bf16 (fun (r : Fin 256) d => rDq (Hs h) (i 1).val ((i 1).val + 1) r d * scale)
        = up .bf16 fun (r : Fin 256) d => (Hs h).dqTo 8192 (256 * (i 1).val + 0 + r.val) d * scale :=
      congrArg (up .bf16) (funext fun r => funext fun d => by
        have := r.isLt
        rw [(Hs h).dqTo_of_le d (n := 256 * ((i 1).val + 1)) (by omega) (by omega)]; rfl)
    refine read_pair a7.view f7 _ _ (fun h t d => (Hs h).dqTo 8192 t d * scale) (256 * (i 1).val) [] rfl rfl ?_ ?_ y (Nat.zero_le _) (by omega)
    · rw [gather_val]; exact ((congrArg (truncf .bf16 · bitsLt_bf16_f32) (scaled_up _)).trans (truncf_up _)).trans (e 0)
    · rw [gather_val]; exact ((congrArg (truncf .bf16 · bitsLt_bf16_f32) (scaled_up _)).trans (truncf_up _)).trans (e 1)
  · refine (store_slabs a10.view _ hK' (at11 i) (at12 i) (k0_off11_inb i) (k0_off12_inb i) ?_ ?_).trans
      (level (keysOf Hs) (fun h n m d s hn hm => (Hs h).dkTo_of_le d hn hm) _)
    · refine (congrArg _ (load_slab a10.view _ hK' 0 (at11 i) (k0_off11_inb i))).trans ?_
      simp only [taken_self]; exact slabK_val _
    · refine (congrArg _ ((load_past a10.view _ (at11 i) (at12 i) (k0_off11_inb i) (k0_off12_inb i) _).trans (load_slab a10.view _ hK' 1 (at12 i) (k0_off12_inb i)))).trans ?_
      simp only [taken_self]; exact slabK_val _
  · refine (store_slabs a11.view _ hV' (at11 i) (at12 i) (k0_off11_inb i) (k0_off12_inb i) ?_ ?_).trans
      (level (valuesOf Hs) (fun h n m d s hn hm => (Hs h).dvTo_of_le d hn hm) _)
    · refine (congrArg _ (load_slab a11.view _ hV' 0 (at11 i) (k0_off11_inb i))).trans ?_
      simp only [taken_self]; exact slabV_val _
    · refine (congrArg _ ((load_past a11.view _ (at11 i) (at12 i) (k0_off11_inb i) (k0_off12_inb i) _).trans (load_slab a11.view _ hV' 1 (at12 i) (k0_off12_inb i)))).trans ?_
      simp only [taken_self]; exact slabV_val _

end PointValue

end Cert.KernelIdeal.Stage

end
-- ==== Proof.Step.lean ====
/-
  One grid point: from windows that hold two heads and accumulators that have taken in the tiles before, to the output tile
  and accumulators that have taken in this one; at the last tile the two finished accumulators put out.
-/
module

public import proofs.«01_k».proof.Proof.Clear
public import proofs.«01_k».proof.Proof.BodyLast
public import proofs.«01_k».proof.Proof.PointValue
public import proofs.«01_k».proof.Proof.Put

@[expose] public section

set_option maxRecDepth 16384

noncomputable section

namespace Cert.KernelIdeal.Run

open Cert.KernelIdeal Cert.KernelIdeal.Gen Cert.KernelIdeal.Stage Cert.Stick
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (c : Dev nD) (i : grid0.Coords)
variable (a2 : Memref sig .tc .vmem S256x256 .bf16) (h2 : a2.IsWhole) (a3 : Memref sig .tc .vmem S8192x256 .bf16) (h3 : a3.IsWhole)
variable (a4 : Memref sig .tc .vmem S8192x256 .bf16) (h4 : a4.IsWhole) (a5 : Memref sig .tc .vmem S256x256 .f32) (h5 : a5.IsWhole)
variable (a6 : Memref sig .tc .vmem S256x256 .f32) (h6 : a6.IsWhole) (a7 : Memref sig .tc .vmem S256x256 .bf16) (h7 : a7.IsWhole)
variable (a8 : Memref sig .tc .vmem S8192x256 .bf16) (h8 : a8.IsWhole) (a9 : Memref sig .tc .vmem S8192x256 .bf16) (h9 : a9.IsWhole)
variable (a10 : Memref sig .tc .vmem S2x32x128x256 .f32) (h10 : a10.IsWhole) (a11 : Memref sig .tc .vmem S2x32x128x256 .f32) (h11 : a11.IsWhole)
variable (f2 : BufTy.Contents (Elt Ideal) a2.view.ty) (f3 : BufTy.Contents (Elt Ideal) a3.view.ty) (f4 : BufTy.Contents (Elt Ideal) a4.view.ty)
variable (f5 : BufTy.Contents (Elt Ideal) a5.view.ty) (f6 : BufTy.Contents (Elt Ideal) a6.view.ty)
variable (g10 : BufTy.Contents (Elt Ideal) a10.view.ty) (g11 : BufTy.Contents (Elt Ideal) a11.view.ty)
variable (f7 : BufTy.Contents (Elt Ideal) a7.view.ty) (f8 : BufTy.Contents (Elt Ideal) a8.view.ty) (f9 : BufTy.Contents (Elt Ideal) a9.view.ty)
variable (Hs : Fin 2 → Head)

/-- What a point leaves in its outputs and accumulators. -/
structure Leaves (f7 : BufTy.Contents (Elt Ideal) a7.view.ty) (f8 : BufTy.Contents (Elt Ideal) a8.view.ty) (f9 : BufTy.Contents (Elt Ideal) a9.view.ty)
    (g10 : BufTy.Contents (Elt Ideal) a10.view.ty) (g11 : BufTy.Contents (Elt Ideal) a11.view.ty) : Prop where
  dq : a7.view.read (Elt Ideal) f7 = wide (n := 256) .bf16 (fun h t d => (Hs h).dqTo 8192 t d * scale) (256 * (i 1).val)
  keys : a10.view.read (Elt Ideal) g10 = accs (keysOf Hs) fun _ => 256 * ((i 1).val + 1)
  values : a11.view.read (Elt Ideal) g11 = accs (valuesOf Hs) fun _ => 256 * ((i 1).val + 1)
  dk : (i 1).val = 31 → a8.view.read (Elt Ideal) f8 = wide (n := 8192) .bf16 (fun h s d => (Hs h).dkTo 8192 d s) 0
  dv : (i 1).val = 31 → a9.view.read (Elt Ideal) f9 = wide (n := 8192) .bf16 (fun h s d => (Hs h).dvTo 8192 d s) 0

set_option maxHeartbeats 4000000 in
/-- The body at a point. -/
theorem body_step
    (hf : ∀ g10 g11, a10.view.read (Elt Ideal) g10 = accs (keysOf Hs) (fun _ => 256 * (i 1).val) →
      a11.view.read (Elt Ideal) g11 = accs (valuesOf Hs) (fun _ => 256 * (i 1).val) →
      Finds i a2 a3 a4 a5 a6 a10 a11 f2 f3 f4 f5 f6 g10 g11 Hs)
    (hK : (i 1).val ≠ 0 → a10.view.read (Elt Ideal) g10 = accs (keysOf Hs) fun _ => 256 * (i 1).val)
    (hV : (i 1).val ≠ 0 → a11.view.read (Elt Ideal) g11 = accs (valuesOf Hs) fun _ => 256 * (i 1).val)
    (K : PUnit → sProp 𝕄) :
    iprop(tenHeld c a2 a3 a4 a5 a6 a7 a8 a9 a10 a11 f2 f3 f4 f5 f6 g10 g11 f7 f8 f9
        ∗ ((∃ f7' f8' f9' g10' g11', ⌜Leaves i a7 a8 a9 a10 a11 Hs f7' f8' f9' g10' g11'⌝
            ∗ tenHeld c a2 a3 a4 a5 a6 a7 a8 a9 a10 a11 f2 f3 f4 f5 f6 g10' g11' f7' f8' f9') -∗ K ⟨⟩))
      ⊢ wp frame (wpE (defs₀ (F := Ideal)) Variants.none c none) Set.univ
          (cc0_attn_bwd i a2 h2 a3 h3 a4 h4 a5 h5 a6 h6 a7 h7 a8 h8 a9 h9 a10 h10 a11 h11) K := by
  by_cases hz : (i 1).val = 0
  · have hz' := (clears_iff i).2 hz
    have hl' : ¬ k0_cond2 i = 1#1 := fun h => by have := (puts_iff i).1 h; omega
    have cK := clearK_read a10 Hs
    have cV := clearV_read a11 Hs
    have e : 256 * (i 1).val = 0 := by omega
    obtain ⟨v7, v10, v11⟩ := point_values c i a2 h2 a3 h3 a4 h4 a5 h5 a6 h6 a7 h7 a8 h8 a9 h9 a10 h10 a11 h11 f2 f3 f4 f5 f6 _ _ Hs
      (hf (clearK a10) (clearV a11) (by rw [e]; exact cK) (by rw [e]; exact cV)) f7
    iintro ⟨H, Hk⟩
    iapply (body_first c i a2 h2 a3 h3 a4 h4 a5 h5 a6 h6 a7 h7 a8 h8 a9 h9 a10 h10 a11 h11 f2 f3 f4 f5 f6 g10 g11 f7 f8 f9 hz' hl' K)
    isplitl [H]; · iexact H
    iintro H
    iapply Hk
    iexists _, _, _, _, _
    isplitr; swap; · iexact H
    ipureintro
    exact ⟨v7, v10, v11, fun h => by omega, fun h => by omega⟩
  · have hz' : ¬ clears i = 1#1 := fun h => hz ((clears_iff i).1 h)
    have pv := point_values c i a2 h2 a3 h3 a4 h4 a5 h5 a6 h6 a7 h7 a8 h8 a9 h9 a10 h10 a11 h11 f2 f3 f4 f5 f6 _ _ Hs
      (hf g10 g11 (hK hz) (hV hz))
    by_cases hl : (i 1).val = 31
    · have hl' := (puts_iff i).2 hl
      obtain ⟨v7, v10, v11⟩ := pv a7.view.junk
      have e : 256 * ((i 1).val + 1) = 8192 := by omega
      rw [e] at v10 v11
      have hp := put c i a2 h2 a3 h3 a4 h4 a5 h5 a6 h6 a7 h7 a8 h8 a9 h9 a10 h10 a11 h11 hl' _ _ f8 f9 v10 v11 32 le_rfl
      iintro ⟨H, Hk⟩
      iapply (body_last c i a2 h2 a3 h3 a4 h4 a5 h5 a6 h6 a7 h7 a8 h8 a9 h9 a10 h10 a11 h11 f2 f3 f4 f5 f6 g10 g11 f7 f8 f9 hz' hl' K)
      isplitl [H]; · iexact H
      iintro H
      iapply Hk
      iexists _, _, _, _, _
      isplitr; swap; · iexact H
      ipureintro
      refine ⟨v7, by rw [e]; exact v10, by rw [e]; exact v11, fun _ => ?_, fun _ => ?_⟩
      · rw [trips3]; funext y; exact (hp y (y 0).isLt).1
      · rw [trips3]; funext y; exact (hp y (y 0).isLt).2
    · have hl' : ¬ k0_cond2 i = 1#1 := fun h => hl ((puts_iff i).1 h)
      obtain ⟨v7, v10, v11⟩ := pv f7
      iintro ⟨H, Hk⟩
      iapply (body_between c i a2 h2 a3 h3 a4 h4 a5 h5 a6 h6 a7 h7 a8 h8 a9 h9 a10 h10 a11 h11 f2 f3 f4 f5 f6 g10 g11 f7 f8 f9 hz' hl' K)
      isplitl [H]; · iexact H
      iintro H
      iapply Hk
      iexists _, _, _, _, _
      isplitr; swap; · iexact H
      ipureintro
      exact ⟨v7, v10, v11, fun h => absurd h hl, fun h => absurd h hl⟩

end Cert.KernelIdeal.Run

end
-- ==== Proof.ValueRun.lean ====
/-
  The run of the gradient kernel with its values followed: if the windows' blocks hold eight heads, two per row of the grid, the
  three output arrays end holding the heads' gradients.
-/
module

public import proofs.«01_k».proof.Proof.Step

@[expose] public section

set_option maxRecDepth 16384

noncomputable section

namespace Cert.KernelIdeal.Run

open Cert.KernelIdeal Cert.KernelIdeal.Gen Cert.KernelIdeal.Stage Cert.Stick
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg) (H : Dev nD → ℕ → Fin 2 → Head)

/-- The grid point's pair of heads and its query tile. -/
theorem point_row : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

/-- The blocks of the five inputs hold the heads. -/
structure Reads (c : Dev nD) : Prop where
  scaled : ∀ p h, (H c p h).c = scale
  q : ∀ t : Fin cfg0.N, (iblk m c 0 t : FVec Ideal S256x256 .bf16) = wide (n := 256) .bf16 (fun h => (H c (t.val / 32) h).q) (256 * (t.val % 32))
  k : ∀ t : Fin cfg0.N, (iblk m c 1 t : FVec Ideal S8192x256 .bf16) = wide (n := 8192) .bf16 (fun h => (H c (t.val / 32) h).k) 0
  v : ∀ t : Fin cfg0.N, (iblk m c 2 t : FVec Ideal S8192x256 .bf16) = wide (n := 8192) .bf16 (fun h => (H c (t.val / 32) h).v) 0
  g : ∀ t : Fin cfg0.N, (iblk m c 3 t : FVec Ideal S256x256 .f32) = wide (n := 256) .f32 (fun h => (H c (t.val / 32) h).g) (256 * (t.val % 32))
  spent : ∀ t : Fin cfg0.N, (iblk m c 4 t : FVec Ideal S256x256 .f32) = wide (n := 256) .f32 (fun h t' _ => (H c (t.val / 32) h).spent t') (256 * (t.val % 32))

/-- A buffer owned at contents that satisfy `P`. -/
abbrev kept (c : Dev nD) {S : Shape} {e : EltTy} (M : Memref sig .tc .vmem S e) (P : (S.Idx → Elt Ideal e) → Prop) : sProp 𝕄 :=
  iprop(∃ X, ⌜P X⌝ ∗ owns (c : Thread nD τ) M fullShare X)

/-- What the launch may find in the accumulators before point `n`: inside a row of the grid, the sums over the tiles before. -/
def Keys (c : Dev nD) (n : ℕ) (X : FVec Ideal S2x32x128x256 .f32) : Prop :=
  n % 32 ≠ 0 → X = accs (keysOf (H c (n / 32))) fun _ => 256 * (n % 32)
def Values (c : Dev nD) (n : ℕ) (X : FVec Ideal S2x32x128x256 .f32) : Prop :=
  n % 32 ≠ 0 → X = accs (valuesOf (H c (n / 32))) fun _ => 256 * (n % 32)

/-- What a point leaves in the three outputs. -/
def DqIs (c : Dev nD) (t : ℕ) (X : FVec Ideal S256x256 .bf16) : Prop :=
  X = wide (n := 256) .bf16 (fun h r d => (H c (t / 32) h).dqTo 8192 r d * scale) (256 * (t % 32))
def DkIs (c : Dev nD) (t : ℕ) (X : FVec Ideal S8192x256 .bf16) : Prop :=
  t % 32 = 31 → X = wide (n := 8192) .bf16 (fun h s d => (H c (t / 32) h).dkTo 8192 d s) 0
def DvIs (c : Dev nD) (t : ℕ) (X : FVec Ideal S8192x256 .bf16) : Prop :=
  t % 32 = 31 → X = wide (n := 8192) .bf16 (fun h s d => (H c (t / 32) h).dvTo 8192 d s) 0

/-- What the loop keeps between points. -/
abbrev between (c : Dev nD) (n : ℕ) : sProp 𝕄 :=
  iprop(iprop(kept c scK (Keys H c n) ∗ kept c scV (Values H c n)) ∗ (∃ r, prngReg c r))

/-- The launch's data: inputs left as found, outputs as above. -/
def vdat (c : Dev nD) : RDat τ (Elt Ideal) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => DqIs H c t.val X
    | ⟨6, _⟩ => fun _ X => DkIs H c t.val X
    | ⟨7, _⟩ => fun _ X => DvIs H c t.val X
  Φ n := between H c n.val
  q w := Pipeline.shareOf spec0 w
  owed _ := 0

/-- An input's staging buffer holds its block at every point. -/
theorem found (c : Dev nD) (t : Fin cfg0.N) (Y : (w : Fin cfg0.W) → (cfg0.win w).block.Idx → Elt Ideal (cfg0.win w).elt)
    (hY : ∀ w, (vdat m H c).Finds w t (Y w)) :
    Y 0 = iblk m c 0 t ∧ Y 1 = iblk m c 1 t ∧ Y 2 = iblk m c 2 t ∧ Y 3 = iblk m c 3 t ∧ Y 4 = iblk m c 4 t := by
  refine ⟨?_, ?_, ?_, ?_, ?_⟩
  · obtain ⟨d, e⟩ := (vdat m H c).finds_in_eq_fetched 0 rfl (fun _ _ _ => rfl) (fun _ _ _ h => h) t _ (hY 0)
    exact e
  · obtain ⟨d, e⟩ := (vdat m H c).finds_in_eq_fetched 1 rfl (fun _ _ _ => rfl) (fun _ _ _ h => h) t _ (hY 1)
    exact e
  · obtain ⟨d, e⟩ := (vdat m H c).finds_in_eq_fetched 2 rfl (fun _ _ _ => rfl) (fun _ _ _ h => h) t _ (hY 2)
    exact e
  · obtain ⟨d, e⟩ := (vdat m H c).finds_in_eq_fetched 3 rfl (fun _ _ _ => rfl) (fun _ _ _ h => h) t _ (hY 3)
    exact e
  · obtain ⟨d, e⟩ := (vdat m H c).finds_in_eq_fetched 4 rfl (fun _ _ _ => rfl) (fun _ _ _ h => h) t _ (hY 4)
    exact e

variable (Y0 : S256x256.Idx → Elt Ideal .bf16) (Y1 Y2 : S8192x256.Idx → Elt Ideal .bf16) (Y3 Y4 : S256x256.Idx → Elt Ideal .f32)
variable (Y5 : S256x256.Idx → Elt Ideal .bf16) (Y6 Y7 : S8192x256.Idx → Elt Ideal .bf16)

/-- What the body is called with at point `t`. -/
def valuePre (c : Dev nD) (t : Fin cfg0.N) : sProp 𝕄 :=
  iprop(between H c t.val ∗ (vdat m H c).owesAt () t.castSucc ∗ owns (c : Thread nD τ) (st0_0 t) fullShare Y0
    ∗ owns (c : Thread nD τ) (st0_1 t) fullShare Y1 ∗ owns (c : Thread nD τ) (st0_2 t) fullShare Y2
    ∗ owns (c : Thread nD τ) (st0_3 t) fullShare Y3 ∗ owns (c : Thread nD τ) (st0_4 t) fullShare Y4
    ∗ owns (c : Thread nD τ) (st0_5 t) fullShare Y5 ∗ owns (c : Thread nD τ) (st0_6 t) fullShare Y6
    ∗ owns (c : Thread nD τ) (st0_7 t) fullShare Y7)
/-- What it returns. -/
def valuePost (c : Dev nD) (t : Fin cfg0.N) : sProp 𝕄 :=
  iprop(between H c (t.val + 1) ∗ (vdat m H c).owesAt () t.castSucc ∗ kept c (st0_0 t) (fun X => X = Y0)
    ∗ kept c (st0_1 t) (fun X => X = Y1) ∗ kept c (st0_2 t) (fun X => X = Y2)
    ∗ kept c (st0_3 t) (fun X => X = Y3) ∗ kept c (st0_4 t) (fun X => X = Y4)
    ∗ kept c (st0_5 t) (fun X => DqIs H c t.val X) ∗ kept c (st0_6 t) (fun X => DkIs H c t.val X)
    ∗ kept c (st0_7 t) (fun X => DvIs H c t.val X))

/-- Contents after a point are those before the next. -/
theorem step_count (T : ℕ → FVec Ideal S2x32x128x256 .f32 → Prop) (n : ℕ) (f : ℕ → ℕ → FVec Ideal S2x32x128x256 .f32)
    (X : FVec Ideal S2x32x128x256 .f32) (hX : X = f (n / 32) (n % 32 + 1)) (h : (n + 1) % 32 ≠ 0) : X = f ((n + 1) / 32) ((n + 1) % 32) := by
  rw [hX, show (n + 1) / 32 = n / 32 by omega, show (n + 1) % 32 = n % 32 + 1 by omega]

set_option maxHeartbeats 4000000 in
/-- The body at a grid point. -/
theorem value_body (c : Dev nD) (hR : Reads m H c) (t : Fin cfg0.N)
    (e0 : Y0 = iblk m c 0 t) (e1 : Y1 = iblk m c 1 t) (e2 : Y2 = iblk m c 2 t) (e3 : Y3 = iblk m c 3 t) (e4 : Y4 = iblk m c 4 t) :
    valuePre m H Y0 Y1 Y2 Y3 Y4 Y5 Y6 Y7 c t
      ⊢ wp frame (wpE (defs₀ (F := Ideal)) Variants.none c none) Set.univ (bodyAt0 t) (fun _ => valuePost m H Y0 Y1 Y2 Y3 Y4 c t) := by
  unfold valuePre valuePost bodyAt0 between kept owns
  have hrow := (point_row t).2
  iintro ⟨⟨⟨⟨%X10, %p10, %g0, %r10, G0⟩, ⟨%X11, %p11, %g1, %r11, G1⟩⟩, Hg⟩, HW, ⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%f7, %r7, H7⟩⟩
  iapply (body_step c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    scK (Memref.isWhole_whole _) scV (Memref.isWhole_whole _) f0 f1 f2 f3 f4 g0 g1 f5 f6 f7 (H c (t.val / 32))
    (fun g10 g11 hk hv => ⟨hR.scaled _, r0.trans (e0.trans ((hR.q t).trans (by rw [hrow]))), r1.trans (e1.trans (hR.k t)), r2.trans (e2.trans (hR.v t)),
      r3.trans (e3.trans ((hR.g t).trans (by rw [hrow]))), r4.trans (e4.trans ((hR.spent t).trans (by rw [hrow]))), hk, hv⟩)
    (fun h => by rw [hrow] at h ⊢; exact r10.trans (p10 h))
    (fun h => by rw [hrow] at h ⊢; exact r11.trans (p11 h)) _)
  isplitl [H0 H1 H2 H3 H4 H5 H6 H7 G0 G1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    iexact G1
  iintro ⟨%k5, %k6, %k7, %k10, %k11, %hL, H0, H1, H2, H3, H4, H5, H6, H7, G0, G1⟩
  obtain ⟨l7, l10, l11, l8, l9⟩ := hL
  rw [hrow] at l7 l10 l11 l8 l9
  isplitl [G0 G1 Hg]
  · isplitl [G0 G1]
    · isplitl [G0]
      · iexists _; isplitr; swap
        · iexists _; isplitr; swap; · iexact G0
          ipureintro; rfl
        ipureintro
        exact fun h => step_count (fun _ _ => True) t.val (fun a b => accs (keysOf (H c a)) fun _ => 256 * b) _ l10 h
      iexists _; isplitr; swap
      · iexists _; isplitr; swap; · iexact G1
        ipureintro; rfl
      ipureintro
      exact fun h => step_count (fun _ _ => True) t.val (fun a b => accs (valuesOf (H c a)) fun _ => 256 * b) _ l11 h
    iexact Hg
  isplitl [HW]; · iexact HW
  isplitl [H0]
  · iexists _; isplitr; · ipureintro; rfl
    iexists _; isplitr; swap; · iexact H0
    ipureintro; exact r0
  isplitl [H1]
  · iexists _; isplitr; · ipureintro; rfl
    iexists _; isplitr; swap; · iexact H1
    ipureintro; exact r1
  isplitl [H2]
  · iexists _; isplitr; · ipureintro; rfl
    iexists _; isplitr; swap; · iexact H2
    ipureintro; exact r2
  isplitl [H3]
  · iexists _; isplitr; · ipureintro; rfl
    iexists _; isplitr; swap; · iexact H3
    ipureintro; exact r3
  isplitl [H4]
  · iexists _; isplitr; · ipureintro; rfl
    iexists _; isplitr; swap; · iexact H4
    ipureintro; exact r4
  isplitl [H5]
  · iexists _; isplitr; swap
    · iexists _; isplitr; swap; · iexact H5
      ipureintro; rfl
    ipureintro; exact l7
  isplitl [H6]
  · iexists _; isplitr; swap
    · iexists _; isplitr; swap; · iexact H6
      ipureintro; rfl
    ipureintro; exact l8
  iexists _; isplitr; swap
  · iexists _; isplitr; swap; · iexact H7
    ipureintro; rfl
  ipureintro; exact l9

/-- The obligation the launch asks of the body at every point. -/
theorem value_obligation (hR : ∀ c, Reads m H c) (c : Dev nD) :
    (vdat m H c).BodyObligation (defs₀ (F := Ideal)) Variants.none () Set.univ := fun t Y hY => by
  obtain ⟨e0, e1, e2, e3, e4⟩ := found m H c t Y hY
  rw [bigSep_W0, bigSep_W0, defs₀_row]
  exact triple_restated (value_body m H (Y 0) (Y 1) (Y 2) (Y 3) (Y 4) (Y 5) (Y 6) (Y 7) c (hR c) t e0 e1 e2 e3 e4) rfl .rfl fun _ => .rfl

/-- The launch begins and ends with accumulators of any contents. -/
theorem value_in (c : Dev nD) : (Pipeline.ΦA spec0 c : sProp 𝕄) ⊢ between H c 0 := by
  rw [PhiA_eq]
  iintro ⟨⟨⟨%e0, G0⟩, ⟨%e1, G1⟩⟩, Hg⟩
  isplitl [G0 G1]
  · isplitl [G0]
    · iexists _; isplitr; swap; · iexact G0
      ipureintro; exact fun h => absurd rfl h
    iexists _; isplitr; swap; · iexact G1
    ipureintro; exact fun h => absurd rfl h
  iexact Hg
theorem value_out (c : Dev nD) (n : ℕ) : between H c n ⊢ (Pipeline.ΦA spec0 c : sProp 𝕄) := by
  rw [PhiA_eq]
  iintro ⟨⟨⟨%e0, -, G0⟩, ⟨%e1, -, G1⟩⟩, Hg⟩
  isplitl [G0 G1]
  · isplitl [G0]
    · iexists _; iexact G0
    iexists _; iexact G1
  iexact Hg

-- the launch theorem's implicit arguments are found by unifying its conclusion with this statement
set_option backward.isDefEq.respectTransparency.types false in
/-- Every execution ends with the arrays as the points' outputs make them and every counter at zero. -/
theorem run_values (hR : ∀ c, Reads m H c) :
    θ_run defs (onTc (τ := τ) (main (F := Ideal))) (s₀ m ρ)
      (fun r => Pipeline.RDat.FramePost (cfgs 0) (vdat m H) (V m) r ∧ r.2.sem = fun _ => 0) :=
  Pipeline.RDat.θ_run_frame_track_shared (Q' := _) cfgs (0 : Fin 1) launch₀0 defs₀ Variants.none (vdat m H) m ρ main
    (hbody := value_obligation m H hR) (hq := fun _ _ _ => rfl) (howed := fun _ _ => rfl) (V := V m) (hmain := hmain m Variants.none)
    (hA := fun _ _ => rfl) (hin := fun c => value_in H c) (hout := fun c => value_out H c _) (hQ' := fun _ h => h)

end Cert.KernelIdeal.Run

end
-- ==== Proof.Reads.lean ====
/-
  What the launch finds: the blocks of the five inputs hold the queries, keys and values of the projections, the
  gradient of the outputs, and what every row pays in all, which the host computes beforehand.
-/
module

public import proofs.«01_k».proof.Proof.Grad
public import proofs.«01_k».proof.Proof.Heads
public import proofs.«01_k».proof.Proof.ValueRun
public import Idealize.ShloMosaic.Lib.StableHlo.Run

@[expose] public section

set_option maxRecDepth 16384

noncomputable section

namespace Cert.KernelIdeal.Run

open Cert.KernelIdeal Cert.KernelIdeal.Gen Cert.KernelIdeal.Stage Cert.Cube
open Idealize.ShloMosaic hiding ix2 eq_ix2 ix3 eq_ix3 ix4 eq_ix4
open Idealize.ShloMosaic.ValueIdx Idealize.ShloMosaic.TcCoe Idealize.ShloMosaic.StableHlo
open Idealize.SL.Sem

variable (m : (ℓ : Loc nD τ sig) → Buf (Elt Ideal) ℓ) (c : Dev nD)

/-- The projections and the gradient as launched. -/
abbrev arg0 : FVec Ideal (Mat 7168) .f32 := m ((c.tc : Thread nD τ).loc main_arg0)
abbrev arg1 : FVec Ideal (Mat 2048) .f32 := m ((c.tc : Thread nD τ).loc main_arg1)

def hostQ : FVec Ideal Rows .f32 := transpose Rows [1, 0, 2] (shapeCast Split (extractStridedSlice (Mat 1024) ![0, 4096] (arg0 m c) slices_S8192x7168_S8192x1024_0_4096) shapeCasts_S8192x1024_S8192x8x128) transposes_S8192x8x128_S8x8192x128_1_0_2
def hostK : FVec Ideal Rows .f32 := transpose Rows [1, 0, 2] (shapeCast Split (extractStridedSlice (Mat 1024) ![0, 5120] (arg0 m c) slices_S8192x7168_S8192x1024_0_5120) shapeCasts_S8192x1024_S8192x8x128) transposes_S8192x8x128_S8x8192x128_1_0_2
/-- What each row of each head pays in all. -/
def hostSpent : FVec Ideal ⟨2, ![8, 8192]⟩ .f32 :=
  Host.reduceAdd (keep (Host.negf (Host.negf (soft (Host.negf (Host.negf (score dot_S8x8192x128_S8x8192x128_S8x8192x8192_2_2_1_1_0_0_wf (hostQ m c) (hostK m c) 0x3DB504F3#32)))))))
    (constant S_ .f32 0x00000000#32) reducesTo_S8x8192x8192_S8x8192_d2 h_S_

/-- The projections in the narrower format. -/
theorem V_v21 : V m c main_v21 = (truncf .bf16 (arg0 m c) bitsLt_bf16_f32 : FVec Ideal (Mat 7168) .bf16) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
/-- What every row pays, 128 times over for the columns of its head. -/
theorem V_v20 : V m c main_v20 = (shapeCast (Mat 1024) (broadcastInDim Split ![0, 1, 2] bcast_S8192x8x1_S8192x8x128_0_1_2
    (broadcastInDim S8192x8x1 ![0, 1] bcast_S8192x8_S8192x8x1_0_1 (transpose S8192x8 [1, 0] (hostSpent m c) transposes_S8x8192_S8192x8_1_0)))
    shapeCasts_S8192x8x128_S8192x1024 : FVec Ideal (Mat 1024) .f32) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl

/-- Where each window of a point lies: its block of rows and its block of columns. -/
theorem where_q : ∀ t : Fin cfg0.N, (cfg0.win 0).index t 0 = t.val % 32 ∧ (cfg0.win 0).index t 1 = 16 + t.val / 32 :=
  (by decide +kernel : ∀ t : Fin grid0.N, (cfg0.win 0).index t 0 = t.val % 32 ∧ (cfg0.win 0).index t 1 = 16 + t.val / 32)
theorem where_k : ∀ t : Fin cfg0.N, (cfg0.win 1).index t 0 = 0 ∧ (cfg0.win 1).index t 1 = 20 + t.val / 32 :=
  (by decide +kernel : ∀ t : Fin grid0.N, (cfg0.win 1).index t 0 = 0 ∧ (cfg0.win 1).index t 1 = 20 + t.val / 32)
theorem where_v : ∀ t : Fin cfg0.N, (cfg0.win 2).index t 0 = 0 ∧ (cfg0.win 2).index t 1 = 24 + t.val / 32 :=
  (by decide +kernel : ∀ t : Fin grid0.N, (cfg0.win 2).index t 0 = 0 ∧ (cfg0.win 2).index t 1 = 24 + t.val / 32)
theorem where_g : ∀ t : Fin cfg0.N, (cfg0.win 3).index t 0 = t.val % 32 ∧ (cfg0.win 3).index t 1 = 4 + t.val / 32 :=
  (by decide +kernel : ∀ t : Fin grid0.N, (cfg0.win 3).index t 0 = t.val % 32 ∧ (cfg0.win 3).index t 1 = 4 + t.val / 32)
theorem where_s : ∀ t : Fin cfg0.N, (cfg0.win 4).index t 0 = t.val % 32 ∧ (cfg0.win 4).index t 1 = t.val / 32 :=
  (by decide +kernel : ∀ t : Fin grid0.N, (cfg0.win 4).index t 0 = t.val % 32 ∧ (cfg0.win 4).index t 1 = t.val / 32)

/-- The value at one place of a matrix's block. -/
theorem wide_eq {n : ℕ} {φ : FTy} (x : FVec Ideal ⟨2, ![n, 256]⟩ φ) (f : Fin 2 → ℕ → Fin 128 → ℝ) (o : ℕ)
    (h : ∀ (r : Fin n) (p : Fin 2) (d : Fin 128), x (ix2 r ⟨128 * p.val + d.val, by omega⟩) = ((f p (o + r.val) d : ℝ) : EReal)) : x = wide φ f o := by
  funext j
  have hj := idx2_lt1 j
  have := h (j 0) ⟨(j 1).val / 128, by omega⟩ ⟨(j 1).val % 128, by omega⟩
  refine Eq.trans (congrArg x ?_) this
  refine (eq_ix2 j).trans (congrArg (ix2 (j 0)) (Fin.ext ?_))
  show (j 1).val = 128 * ((j 1).val / 128) + (j 1).val % 128
  omega

/-! ## The blocks -/

variable (r : ℝ) (X Y : ℕ → ℕ → ℝ) (hX : arg0 m c = mat 7168 .f32 X) (hY : arg1 m c = mat 2048 .f32 Y)

/-- A block of a matrix of real numbers, from where the block lies. -/
theorem mat_block {n N : ℕ} {φ : FTy} (x : FVec Ideal ⟨2, ![n, 256]⟩ φ) (Z : ℕ → ℕ → ℝ) (f : Fin 2 → ℕ → Fin 128 → ℝ) (o col : ℕ)
    (e : (⟨2, ![n, 256]⟩ : Shape).Idx → (Mat N).Idx) (hx : ∀ y, x y = mat N φ Z (e y))
    (h0 : ∀ y, (e y 0).val = o + (y 0).val) (h1 : ∀ y, (e y 1).val = col + (y 1).val)
    (hf : ∀ t p d, f p t d = Z t (col + 128 * p.val + d.val)) : x = wide φ f o :=
  wide_eq x f o fun r p d => by
    rw [hx, hf]
    refine congrArg (fun z : ℝ => (z : EReal)) ?_
    rw [h0, h1]
    show Z (o + r.val) (col + (128 * p.val + d.val)) = _
    rw [Nat.add_assoc col]

include hX in
theorem V_v21_mat : V m c main_v21 = mat 7168 .bf16 X := by rw [V_v21, hX]; rfl

/-- The head in place `h` of pair `p`. -/
abbrev heads (p : ℕ) (h : Fin 2) : Stick.Head := head r X Y (2 * p + h.val)

include hX in
theorem q_block (t : Fin cfg0.N) : (iblk m c 0 t : FVec Ideal S256x256 .bf16) = wide (n := 256) .bf16 (fun h => (heads r X Y (t.val / 32) h).q) (256 * (t.val % 32)) := by
  obtain ⟨w0, w1⟩ := where_q t
  refine mat_block (N := 7168) _ X _ _ (4096 + 256 * (t.val / 32)) (fun y => ((cfg0.win 0).rect t).emb y) (fun y => congrFun (V_v21_mat m c X hX) _)
    (fun y => (Pipeline.Window.rect_emb_val (cfg0.win 0) t y 0).trans ?_) (fun y => (Pipeline.Window.rect_emb_val (cfg0.win 0) t y 1).trans ?_) fun t' p d => ?_
  · rw [w0]; show t.val % 32 * 256 + _ = _; omega
  · rw [w1]; show (16 + t.val / 32) * 256 + _ = _; omega
  · show X t' _ = X t' _; congr 1; omega

include hX in
theorem k_block (t : Fin cfg0.N) : (iblk m c 1 t : FVec Ideal S8192x256 .bf16) = wide (n := 8192) .bf16 (fun h => (heads r X Y (t.val / 32) h).k) 0 := by
  obtain ⟨w0, w1⟩ := where_k t
  refine mat_block (N := 7168) _ X _ _ (5120 + 256 * (t.val / 32)) (fun y => ((cfg0.win 1).rect t).emb y) (fun y => congrFun (V_v21_mat m c X hX) _)
    (fun y => (Pipeline.Window.rect_emb_val (cfg0.win 1) t y 0).trans ?_) (fun y => (Pipeline.Window.rect_emb_val (cfg0.win 1) t y 1).trans ?_) fun t' p d => ?_
  · rw [w0]; show 0 * 8192 + _ = _; omega
  · rw [w1]; show (20 + t.val / 32) * 256 + _ = _; omega
  · show X t' _ = X t' _; congr 1; omega

include hX in
theorem v_block (t : Fin cfg0.N) : (iblk m c 2 t : FVec Ideal S8192x256 .bf16) = wide (n := 8192) .bf16 (fun h => (heads r X Y (t.val / 32) h).v) 0 := by
  obtain ⟨w0, w1⟩ := where_v t
  refine mat_block (N := 7168) _ X _ _ (6144 + 256 * (t.val / 32)) (fun y => ((cfg0.win 2).rect t).emb y) (fun y => congrFun (V_v21_mat m c X hX) _)
    (fun y => (Pipeline.Window.rect_emb_val (cfg0.win 2) t y 0).trans ?_) (fun y => (Pipeline.Window.rect_emb_val (cfg0.win 2) t y 1).trans ?_) fun t' p d => ?_
  · rw [w0]; show 0 * 8192 + _ = _; omega
  · rw [w1]; show (24 + t.val / 32) * 256 + _ = _; omega
  · show X t' _ = X t' _; congr 1; omega

include hY in
theorem g_block (t : Fin cfg0.N) : (iblk m c 3 t : FVec Ideal S256x256 .f32) = wide (n := 256) .f32 (fun h => (heads r X Y (t.val / 32) h).g) (256 * (t.val % 32)) := by
  obtain ⟨w0, w1⟩ := where_g t
  refine mat_block (N := 2048) _ Y _ _ (1024 + 256 * (t.val / 32)) (fun y => ((cfg0.win 3).rect t).emb y) (fun y => congrFun ((V_main_arg1 m c).trans hY) _)
    (fun y => (Pipeline.Window.rect_emb_val (cfg0.win 3) t y 0).trans ?_) (fun y => (Pipeline.Window.rect_emb_val (cfg0.win 3) t y 1).trans ?_) fun t' p d => ?_
  · rw [w0]; show t.val % 32 * 256 + _ = _; omega
  · rw [w1]; show (4 + t.val / 32) * 256 + _ = _; omega
  · show Y t' _ = Y t' _; congr 1; omega

/-! ## What every row pays -/

variable (hr : Ideal.ofBits .f32 0x3DB504F3#32 = r)

include hX hr in
theorem hostSpent_at (p : Fin 8) (t : Fin 8192) : hostSpent m c (ix2 p t) = (((head r X Y p.val).spent t.val : ℝ) : EReal) := by
  have hq : hostQ m c = rows fun p => (head r X Y p.val).q := by unfold hostQ; rw [hX]; exact heads_in X _ _ _
  have hk : hostK m c = rows fun p => (head r X Y p.val).k := by unfold hostK; rw [hX]; exact heads_in X _ _ _
  unfold hostSpent
  rw [hq, hk, score_heads (fun p => head r X Y p.val) _ _ r hr fun _ => rfl, neg_cube, neg_cube, soft_cube, neg_cube, neg_cube, keep_cube]
  refine (hostReduceAdd_apply _ _ _ _ _).trans ?_
  refine (sum_cube _ _ _ (Cube.zero_bits.trans EReal.coe_zero) p t).trans ?_
  refine congrArg (fun z : ℝ => (z : EReal)) ?_
  rw [← spent_all _ t.isLt.le]
  refine Finset.sum_congr rfl fun s _ => ?_
  simp only [neg_neg]; rfl

/-- Every row of every head, with what it pays in each of its columns. -/
def paid : ℕ → ℕ → ℝ := fun t col => (head r X Y (col / 128)).spent t

include hX hr in
theorem V_v20_mat : V m c main_v20 = mat 1024 .f32 (paid r X Y) := by
  rw [V_v20]
  funext j
  have hj1 := idx2_lt1 j
  have hj0 := idx2_lt0 j
  rw [shapeCast_apply _ _ _ (ix3 (⟨(j 0).val, hj0⟩ : Fin 8192) (⟨(j 1).val / 128, by omega⟩ : Fin 8) (⟨(j 1).val % 128, by omega⟩ : Fin 128)) (by
      rw [Shape.rowMajor_val_two, Shape.rowMajor_val_three]
      show ((j 0).val * 8 + (j 1).val / 128) * 128 + (j 1).val % 128 = (j 0).val * 1024 + (j 1).val; omega),
    broadcastInDim_apply _ _ _ _ (ix3 (⟨(j 0).val, hj0⟩ : Fin 8192) (⟨(j 1).val / 128, by omega⟩ : Fin 8) (0 : Fin 1)) (by intro i; fin_cases i <;> rfl),
    broadcastInDim_apply _ _ _ _ (ix2 (⟨(j 0).val, hj0⟩ : Fin 8192) (⟨(j 1).val / 128, by omega⟩ : Fin 8)) (by intro i; fin_cases i <;> rfl),
    transpose_apply _ _ _ _ (ix2 (⟨(j 1).val / 128, by omega⟩ : Fin 8) (⟨(j 0).val, hj0⟩ : Fin 8192)) (by intro i; fin_cases i <;> rfl)]
  exact hostSpent_at m c r X Y hX hr _ _

include hX hr in
theorem spent_block (t : Fin cfg0.N) : (iblk m c 4 t : FVec Ideal S256x256 .f32)
    = wide (n := 256) .f32 (fun h t' _ => (heads r X Y (t.val / 32) h).spent t') (256 * (t.val % 32)) := by
  obtain ⟨w0, w1⟩ := where_s t
  refine mat_block (N := 1024) _ (paid r X Y) _ _ (256 * (t.val / 32)) (fun y => ((cfg0.win 4).rect t).emb y) (fun y => congrFun (V_v20_mat m c r X Y hX hr) _)
    (fun y => (Pipeline.Window.rect_emb_val (cfg0.win 4) t y 0).trans ?_) (fun y => (Pipeline.Window.rect_emb_val (cfg0.win 4) t y 1).trans ?_) fun t' p d => ?_
  · rw [w0]; show t.val % 32 * 256 + _ = _; omega
  · rw [w1]; show t.val / 32 * 256 + _ = _; omega
  · show (head r X Y _).spent t' = (head r X Y _).spent t'
    congr 2; have := d.isLt; omega

include hX hY hr in
/-- The blocks of the five inputs hold the heads. -/
theorem reads (hs : r = scale) : Reads m (fun _ p h => heads r X Y p h) c where
  scaled _ _ := hs
  q := q_block m c r X Y hX
  k := k_block m c r X Y hX
  v := v_block m c r X Y hX
  g := g_block m c r X Y hY
  spent := spent_block m c r X Y hX hr

end Cert.KernelIdeal.Run
-- ==== Proof.Arrays.lean ====
/-
  The three result arrays after the launch, read back block by block: the gradients of the queries, keys and values, head
  beside head.
-/
module

public import proofs.«01_k».proof.Proof.Reads
public import Idealize.ShloMosaic.Lib.Pipeline.ArrRel

@[expose] public section

set_option maxRecDepth 16384

noncomputable section

namespace Cert.KernelIdeal.Run

open Cert.KernelIdeal Cert.KernelIdeal.Gen Cert.KernelIdeal.Stage Cert.Cube
open Idealize.ShloMosaic hiding ix2 eq_ix2 ix3 eq_ix3 ix4 eq_ix4
open Idealize.ShloMosaic.ValueIdx Idealize.ShloMosaic.TcCoe
open Idealize.SL.Sem

variable (m : (ℓ : Loc nD τ sig) → Buf (Elt Ideal) ℓ) (ρ : Dev nD → PrngReg)

/-- Where each result block of a point lies. -/
theorem where_dq : ∀ t : Fin cfg0.N, (cfg0.win 5).index t 0 = t.val % 32 ∧ (cfg0.win 5).index t 1 = t.val / 32 :=
  (by decide +kernel : ∀ t : Fin grid0.N, (cfg0.win 5).index t 0 = t.val % 32 ∧ (cfg0.win 5).index t 1 = t.val / 32)
theorem where_dk : ∀ t : Fin cfg0.N, (cfg0.win 6).index t 0 = 0 ∧ (cfg0.win 6).index t 1 = t.val / 32 :=
  (by decide +kernel : ∀ t : Fin grid0.N, (cfg0.win 6).index t 0 = 0 ∧ (cfg0.win 6).index t 1 = t.val / 32)
theorem where_dv : ∀ t : Fin cfg0.N, (cfg0.win 7).index t 0 = 0 ∧ (cfg0.win 7).index t 1 = t.val / 32 :=
  (by decide +kernel : ∀ t : Fin grid0.N, (cfg0.win 7).index t 0 = 0 ∧ (cfg0.win 7).index t 1 = t.val / 32)

/-- A block of two heads, at the place in a matrix where it lies. -/
theorem wide_mat {n N : ℕ} {φ : FTy} (Z : ℕ → ℕ → ℝ) (f : Fin 2 → ℕ → Fin 128 → ℝ) (o col : ℕ) (y : (⟨2, ![n, 256]⟩ : Shape).Idx) (i : (Mat N).Idx)
    (h0 : (i 0).val = o + (y 0).val) (h1 : (i 1).val = col + (y 1).val) (hf : ∀ t p d, f p t d = Z t (col + 128 * p.val + d.val)) :
    wide φ f o y = mat N φ Z i := by
  have hy := idx2_lt1 y
  show ((f _ _ _ : ℝ) : EReal) = ((Z _ _ : ℝ) : EReal)
  rw [hf, h0, h1]
  refine congrArg (fun z : ℝ => (z : EReal)) (congrArg (Z _) ?_)
  show col + 128 * ((y 1).val / 128) + (y 1).val % 128 = col + (y 1).val
  omega

variable (r : ℝ) (X Y : ℕ → ℕ → ℝ) (c : Dev nD)
  (after : (w : Fin cfg0.W) → Fin cfg0.N → (cfg0.win w).block.Idx → Elt Ideal (cfg0.win w).elt)

abbrev Hd : Dev nD → ℕ → Fin 2 → Stick.Head := fun _ p h => heads r X Y p h

/-- A quantity of a head and a coordinate, taken at a column of the pair `p`. -/
theorem in_pair (f : Stick.Head → Fin 128 → ℝ) (p : ℕ) (h : Fin 2) (d : Fin 128) :
    f (heads r X Y p h) d = f (head r X Y ((256 * p + 128 * h.val + d.val) / 128)) ⟨(256 * p + 128 * h.val + d.val) % 128, Nat.mod_lt _ (by norm_num)⟩ := by
  have hd := d.isLt
  have h1 : (256 * p + 128 * h.val + d.val) / 128 = 2 * p + h.val := by omega
  have h2 : (⟨(256 * p + 128 * h.val + d.val) % 128, Nat.mod_lt _ (by norm_num)⟩ : Fin 128) = d := Fin.ext (by show _ % 128 = _; omega)
  rw [h1, h2]

/-- The gradient of the queries in its array. -/
theorem dq_array (hr : r = scale) (hL : ∀ u, (cfg0.win 5).flush u = true → (vdat m (Hd r X Y) c).Leaves 5 u (after 5 u)) :
    ((vdat m (Hd r X Y) c).withAfter after).arrAt 5 cfg0.N = dqMat r X Y := by
  refine Pipeline.Dat.arrAt_eq_of_cover ((vdat m (Hd r X Y) c).withAfter after) 5 (dqMat r X Y) (fun t ht => ?_) fun i => ?_
  · obtain ⟨w0, w1⟩ := where_dq t
    obtain ⟨_, _, hx⟩ := hL t ht
    have hx' : (after 5 t : FVec Ideal S256x256 .bf16) = _ := hx
    funext y
    have e0 := Pipeline.Window.rect_emb_val (cfg0.win 5) t y 0
    have e1 := Pipeline.Window.rect_emb_val (cfg0.win 5) t y 1
    rw [w0] at e0; rw [w1] at e1
    refine (congrFun hx' y).trans ?_
    refine wide_mat (N := 1024) (fun t col => (head r X Y (col / 128)).dqTo 8192 t ⟨col % 128, Nat.mod_lt _ (by norm_num)⟩ * r) _ _ (256 * (t.val / 32)) y
      (((cfg0.win 5).rect t).emb y) (e0.trans ?_) (e1.trans ?_) fun t' p d => ?_
    · show t.val % 32 * 256 + _ = _; omega
    · show t.val / 32 * 256 + _ = _; omega
    · subst hr; exact in_pair scale X Y (fun h d => h.dqTo 8192 t' d * scale) (t.val / 32) p d
  · have h0 := idx2_lt0 (n0 := 8192) (n1 := 1024) i
    have h1 := idx2_lt1 (n0 := 8192) (n1 := 1024) i
    obtain ⟨t, ht⟩ : ∃ t : Fin cfg0.N, t.val = 32 * ((i 1).val / 256) + (i 0).val / 256 := ⟨⟨32 * ((i 1).val / 256) + (i 0).val / 256, by show _ < grid0.N; rw [N_0]; omega⟩, rfl⟩
    obtain ⟨w0, w1⟩ := where_dq t
    refine ⟨t, flush0_5 t, Finset.mem_map.mpr ⟨ix2 (⟨(i 0).val % 256, by omega⟩ : Fin 256) (⟨(i 1).val % 256, by omega⟩ : Fin 256), Finset.mem_univ _, ?_⟩⟩
    funext a
    match a with
    | ⟨0, _⟩ => exact Fin.ext ((Pipeline.Window.rect_emb_val (cfg0.win 5) t _ 0).trans (by show (cfg0.win 5).index t 0 * 256 + (i 0).val % 256 = (i 0).val; rw [w0, show t.val = 32 * ((i 1).val / 256) + (i 0).val / 256 from ht]; omega))
    | ⟨1, _⟩ => exact Fin.ext ((Pipeline.Window.rect_emb_val (cfg0.win 5) t _ 1).trans (by
        show (cfg0.win 5).index t 1 * 256 + (i 1).val % 256 = (i 1).val
        rw [w1, show t.val = 32 * ((i 1).val / 256) + (i 0).val / 256 from ht]; omega))

/-- The gradient of the keys in its array. -/
theorem dk_array (hL : ∀ u, (cfg0.win 6).flush u = true → (vdat m (Hd r X Y) c).Leaves 6 u (after 6 u)) :
    ((vdat m (Hd r X Y) c).withAfter after).arrAt 6 cfg0.N = dkMat r X Y := by
  refine Pipeline.Dat.arrAt_eq_of_cover ((vdat m (Hd r X Y) c).withAfter after) 6 (dkMat r X Y) (fun t ht => ?_) fun i => ?_
  · obtain ⟨w0, w1⟩ := where_dk t
    obtain ⟨_, _, hx⟩ := hL t ht
    have hx' : (after 6 t : FVec Ideal S8192x256 .bf16) = _ := hx ((flush0_6 t).mp ht)
    funext y
    have e0 := Pipeline.Window.rect_emb_val (cfg0.win 6) t y 0
    have e1 := Pipeline.Window.rect_emb_val (cfg0.win 6) t y 1
    rw [w0] at e0; rw [w1] at e1
    refine (congrFun hx' y).trans ?_
    refine wide_mat (N := 1024) (fun t col => (head r X Y (col / 128)).dkTo 8192 ⟨col % 128, Nat.mod_lt _ (by norm_num)⟩ t) _ _ (256 * (t.val / 32)) y
      (((cfg0.win 6).rect t).emb y) (e0.trans ?_) (e1.trans ?_) fun t' p d => ?_
    · show 0 * 8192 + _ = _; omega
    · show t.val / 32 * 256 + _ = _; omega
    · exact in_pair r X Y (fun h d => h.dkTo 8192 d t') (t.val / 32) p d
  · have h0 := idx2_lt0 (n0 := 8192) (n1 := 1024) i
    have h1 := idx2_lt1 (n0 := 8192) (n1 := 1024) i
    obtain ⟨t, ht⟩ : ∃ t : Fin cfg0.N, t.val = 32 * ((i 1).val / 256) + 31 := ⟨⟨32 * ((i 1).val / 256) + 31, by show _ < grid0.N; rw [N_0]; omega⟩, rfl⟩
    obtain ⟨w0, w1⟩ := where_dk t
    refine ⟨t, (flush0_6 t).mpr (by rw [show t.val = 32 * ((i 1).val / 256) + 31 from ht]; omega), Finset.mem_map.mpr ⟨ix2 (⟨(i 0).val, by omega⟩ : Fin 8192) (⟨(i 1).val % 256, by omega⟩ : Fin 256), Finset.mem_univ _, ?_⟩⟩
    funext a
    match a with
    | ⟨0, _⟩ => exact Fin.ext ((Pipeline.Window.rect_emb_val (cfg0.win 6) t _ 0).trans (by show (cfg0.win 6).index t 0 * 8192 + (i 0).val = (i 0).val; rw [w0]; omega))
    | ⟨1, _⟩ => exact Fin.ext ((Pipeline.Window.rect_emb_val (cfg0.win 6) t _ 1).trans (by
        show (cfg0.win 6).index t 1 * 256 + (i 1).val % 256 = (i 1).val
        rw [w1, show t.val = 32 * ((i 1).val / 256) + 31 from ht]; omega))

/-- The gradient of the values in its array. -/
theorem dv_array (hL : ∀ u, (cfg0.win 7).flush u = true → (vdat m (Hd r X Y) c).Leaves 7 u (after 7 u)) :
    ((vdat m (Hd r X Y) c).withAfter after).arrAt 7 cfg0.N = dvMat r X Y := by
  refine Pipeline.Dat.arrAt_eq_of_cover ((vdat m (Hd r X Y) c).withAfter after) 7 (dvMat r X Y) (fun t ht => ?_) fun i => ?_
  · obtain ⟨w0, w1⟩ := where_dv t
    obtain ⟨_, _, hx⟩ := hL t ht
    have hx' : (after 7 t : FVec Ideal S8192x256 .bf16) = _ := hx ((flush0_7 t).mp ht)
    funext y
    have e0 := Pipeline.Window.rect_emb_val (cfg0.win 7) t y 0
    have e1 := Pipeline.Window.rect_emb_val (cfg0.win 7) t y 1
    rw [w0] at e0; rw [w1] at e1
    refine (congrFun hx' y).trans ?_
    refine wide_mat (N := 1024) (fun t col => (head r X Y (col / 128)).dvTo 8192 ⟨col % 128, Nat.mod_lt _ (by norm_num)⟩ t) _ _ (256 * (t.val / 32)) y
      (((cfg0.win 7).rect t).emb y) (e0.trans ?_) (e1.trans ?_) fun t' p d => ?_
    · show 0 * 8192 + _ = _; omega
    · show t.val / 32 * 256 + _ = _; omega
    · exact in_pair r X Y (fun h d => h.dvTo 8192 d t') (t.val / 32) p d
  · have h0 := idx2_lt0 (n0 := 8192) (n1 := 1024) i
    have h1 := idx2_lt1 (n0 := 8192) (n1 := 1024) i
    obtain ⟨t, ht⟩ : ∃ t : Fin cfg0.N, t.val = 32 * ((i 1).val / 256) + 31 := ⟨⟨32 * ((i 1).val / 256) + 31, by show _ < grid0.N; rw [N_0]; omega⟩, rfl⟩
    obtain ⟨w0, w1⟩ := where_dv t
    refine ⟨t, (flush0_7 t).mpr (by rw [show t.val = 32 * ((i 1).val / 256) + 31 from ht]; omega), Finset.mem_map.mpr ⟨ix2 (⟨(i 0).val, by omega⟩ : Fin 8192) (⟨(i 1).val % 256, by omega⟩ : Fin 256), Finset.mem_univ _, ?_⟩⟩
    funext a
    match a with
    | ⟨0, _⟩ => exact Fin.ext ((Pipeline.Window.rect_emb_val (cfg0.win 7) t _ 0).trans (by show (cfg0.win 7).index t 0 * 8192 + (i 0).val = (i 0).val; rw [w0]; omega))
    | ⟨1, _⟩ => exact Fin.ext ((Pipeline.Window.rect_emb_val (cfg0.win 7) t _ 1).trans (by
        show (cfg0.win 7).index t 1 * 256 + (i 1).val % 256 = (i 1).val
        rw [w1, show t.val = 32 * ((i 1).val / 256) + 31 from ht]; omega))

end Cert.KernelIdeal.Run
-- ==== Proof.Values.lean ====
/-
  The run of the kernel with its values: from finite arguments every execution ends with the three gradients in the result
  arrays and the arguments as they were.
-/
module

public import proofs.«01_k».proof.Proof.Arrays

@[expose] public section

set_option maxRecDepth 16384

noncomputable section

namespace Cert.KernelIdeal.Run

open Cert.KernelIdeal Cert.KernelIdeal.Gen Cert.KernelIdeal.Stage Cert.Cube
open Idealize.ShloMosaic hiding ix2 eq_ix2 ix3 eq_ix3 ix4 eq_ix4
open Idealize.ShloMosaic.ValueIdx Idealize.ShloMosaic.TcCoe
open Idealize.SL.Sem

variable (m : (ℓ : Loc nD τ sig) → Buf (Elt Ideal) ℓ) (ρ : Dev nD → PrngReg)

/-- From arguments that are matrices of real numbers, every execution ends with the gradients of the queries, the keys and the
    values in the three result arrays, and the arguments unchanged. -/
theorem ends (X Y : ℕ → ℕ → ℝ) (hX : ∀ c, arg0 m c = mat 7168 .f32 X) (hY : ∀ c, arg1 m c = mat 2048 .f32 Y) :
    θ_run defs (onTc (τ := τ) (main (F := Ideal))) ⟨m, fun _ => 0, ρ⟩ (fun r => ∀ c : Dev nD,
      r.2.mem ((c.tc : Thread nD τ).loc main_v22_0) = dqMat scale X Y
      ∧ r.2.mem ((c.tc : Thread nD τ).loc main_v22_1) = dkMat scale X Y
      ∧ r.2.mem ((c.tc : Thread nD τ).loc main_v22_2) = dvMat scale X Y
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_)
    (run_values m ρ (Hd scale X Y) fun c => reads m c scale X Y (hX c) (hY c) scale_bits rfl)
  obtain ⟨after, hL, ha⟩ := Pipeline.RDat.FramePost.exists_exact h.1 c
  exact ⟨(ha 5).trans (dq_array m scale X Y c after rfl fun u hu => hL 5 u hu),
    (ha 6).trans (dk_array m scale X Y c after fun u hu => hL 6 u hu),
    (ha 7).trans (dv_array m scale X Y c after fun u hu => hL 7 u hu),
    ((h.1 c).2 main_arg0 (Pipeline.mem_restRefs_of main_arg0 (by decide) (by decide))).trans (V_main_arg0 m c),
    (((Pipeline.RDat.ArrAt_in (vdat m (Hd scale X Y) c) 3 rfl _).le _ ((h.1 c).1 3))).trans (V_main_arg1 m c)⟩

end Cert.KernelIdeal.Run

end
-- ==== Proof.Reference.lean ====
/-
  The reference's three results over the reals: its host operations are the stages of the gradient, and the stages are
  the gradient of the heads.
-/
module

public import proofs.«01_k».proof.Proof.Grad
public import proofs.«01_k».proof.Proof.Heads
public import proofs.«01_k».proof.Proof.Gen.ReferenceIdeal.Run

@[expose] public section

set_option maxRecDepth 16384

noncomputable section

namespace Cert.ReferenceIdeal.Real

open Cert.ReferenceIdeal Cert.ReferenceIdeal.Gen Cert.Cube Cert.ReferenceIdeal.Value
open Idealize.ShloMosaic hiding ix2 eq_ix2 ix3 eq_ix3 ix4 eq_ix4
open Idealize.ShloMosaic.TcCoe

/-- The scale of the scores, as the program prints it. -/
abbrev scaleWord : BitVec 32 := 0x3DB504F3#32

variable (m : (ℓ : Loc nD τ sig) → Buf (Elt Ideal) ℓ) (c : Dev nD)

/-- The projections and the gradient as launched. -/
abbrev arg0 : FVec Ideal (Mat 7168) .f32 := m ((c.tc : Thread nD τ).loc main_arg0)
abbrev arg1 : FVec Ideal (Mat 2048) .f32 := m ((c.tc : Thread nD τ).loc main_arg1)

def q : FVec Ideal Rows .f32 := transpose Rows [1, 0, 2] (shapeCast Split (extractStridedSlice (Mat 1024) ![0, 4096] (arg0 m c) slices_S8192x7168_S8192x1024_0_4096) shapeCasts_S8192x1024_S8192x8x128) transposes_S8192x8x128_S8x8192x128_1_0_2
def k : FVec Ideal Rows .f32 := transpose Rows [1, 0, 2] (shapeCast Split (extractStridedSlice (Mat 1024) ![0, 5120] (arg0 m c) slices_S8192x7168_S8192x1024_0_5120) shapeCasts_S8192x1024_S8192x8x128) transposes_S8192x8x128_S8x8192x128_1_0_2
def v : FVec Ideal Rows .f32 := transpose Rows [1, 0, 2] (shapeCast Split (extractStridedSlice (Mat 1024) ![0, 6144] (arg0 m c) slices_S8192x7168_S8192x1024_0_6144) shapeCasts_S8192x1024_S8192x8x128) transposes_S8192x8x128_S8x8192x128_1_0_2
def g : FVec Ideal Rows .f32 := transpose Rows [1, 0, 2] (shapeCast Split (extractStridedSlice (Mat 1024) ![0, 1024] (arg1 m c) slices_S8192x2048_S8192x1024_0_1024) shapeCasts_S8192x1024_S8192x8x128) transposes_S8192x8x128_S8x8192x128_1_0_2

abbrev wfS := dot_S8x8192x128_S8x8192x128_S8x8192x8192_2_2_1_1_0_0_wf
abbrev wfR := dot_S8x8192x8192_S8x8192x128_S8x8192x128_2_1_1_2_0_0_wf
abbrev wfC := dot_S8x8192x8192_S8x8192x128_S8x8192x128_1_1_2_2_0_0_wf
abbrev wfV := dot_S8x8192x128_S8x8192x8192_S8x128x8192_1_1_2_2_0_0_wf
abbrev hOn := reduceWindows_S8x8192x8192_S8x8192x8192_w1s1p0_0_w1s1p0_0_w8192s1p0_8191
abbrev hUp := reduceWindows_S8x8192x8192_S8x8192x8192_w1s1p0_0_w1s1p0_0_w8192s1p8191_0

def z : FVec Ideal Scores .f32 := score wfS (q m c) (k m c) scaleWord
def dz : FVec Ideal Scores .f32 := slopeScore scaleWord hUp h_S_ (z m c) (slope wfS (v m c) (g m c) hOn h_S_ (z m c))

theorem dv_stages : (res_out2 m c : FVec Ideal (Mat 1024) .bf16)
    = truncf .bf16 (shapeCast (Mat 1024) (transpose Split [1, 0, 2] (transpose Rows [0, 2, 1]
        (Host.dotGeneral (dotVal wfV) none (g m c) (keep (weight hOn h_S_ (z m c)))) transposes_S8x128x8192_S8x8192x128_0_2_1)
        transposes_S8x8192x128_S8192x8x128_1_0_2) shapeCasts_S8192x8x128_S8192x1024) bitsLt_bf16_f32 := rfl

theorem dk_stages : (res_out1 m c : FVec Ideal (Mat 1024) .bf16)
    = truncf .bf16 (shapeCast (Mat 1024) (transpose Split [1, 0, 2] (Host.dotGeneral (dotCol wfC) none (dz m c) (q m c))
        transposes_S8x8192x128_S8192x8x128_1_0_2) shapeCasts_S8192x8x128_S8192x1024) bitsLt_bf16_f32 := rfl

theorem dq_stages : (res_out0 m c : FVec Ideal (Mat 1024) .bf16)
    = truncf .bf16 (shapeCast (Mat 1024) (transpose Split [1, 0, 2] (Host.dotGeneral (dotRow wfR) none (dz m c) (k m c))
        transposes_S8x8192x128_S8192x8x128_1_0_2) shapeCasts_S8192x8x128_S8192x1024) bitsLt_bf16_f32 := rfl

/-! ## Over the reals -/

variable (r : ℝ) (hr : Ideal.ofBits .f32 scaleWord = r) (X Y : ℕ → ℕ → ℝ) (hX : arg0 m c = mat 7168 .f32 X) (hY : arg1 m c = mat 2048 .f32 Y)

include hX in
theorem q_rows : q m c = rows fun p => (head r X Y p.val).q := by
  unfold q; rw [hX]; exact heads_in X _ _ _
include hX in
theorem k_rows : k m c = rows fun p => (head r X Y p.val).k := by
  unfold k; rw [hX]; exact heads_in X _ _ _
include hX in
theorem v_rows : v m c = rows fun p => (head r X Y p.val).v := by
  unfold v; rw [hX]; exact heads_in X _ _ _
include hY in
theorem g_rows : g m c = rows fun p => (head r X Y p.val).g := by
  unfold g; rw [hY]; exact heads_in Y _ _ _

include hr hX in
theorem z_cube : z m c = cube fun p => (head r X Y p.val).z := by
  unfold z; rw [q_rows m c r X Y hX, k_rows m c r X Y hX]
  exact score_heads (fun p => head r X Y p.val) _ _ r hr fun _ => rfl

include hr hX hY in
theorem dz_cube : dz m c = cube fun p t s => (head r X Y p.val).dz t s * r := by
  unfold dz
  rw [z_cube m c r hr X Y hX, v_rows m c r X Y hX, g_rows m c r X Y hY, slope_heads (fun p => head r X Y p.val)]
  exact slopeScore_heads (fun p => head r X Y p.val) _ r _ _ hr

include hr hX hY in
/-- The gradient of the queries. -/
theorem dq_mat : (res_out0 m c : FVec Ideal (Mat 1024) .bf16) = dqMat r X Y := by
  rw [dq_stages, dz_cube m c r hr X Y hX hY, k_rows m c r X Y hX, dotRow_rows, heads_out]
  funext j
  refine congrArg (fun x : ℝ => (x : EReal)) ?_
  rw [Stick.Head.dqTo, Finset.sum_mul]
  exact Finset.sum_congr rfl fun s _ => by ring

include hr hX hY in
/-- The gradient of the keys. -/
theorem dk_mat : (res_out1 m c : FVec Ideal (Mat 1024) .bf16) = dkMat r X Y := by
  rw [dk_stages, dz_cube m c r hr X Y hX hY, q_rows m c r X Y hX, dotCol_rows, heads_out]
  funext j
  refine congrArg (fun x : ℝ => (x : EReal)) ?_
  rw [Stick.Head.dkTo]
  exact Finset.sum_congr rfl fun t _ => by show _ * r * _ = _ * r * _; ring

include hr hX hY in
/-- The gradient of the values. -/
theorem dv_mat : (res_out2 m c : FVec Ideal (Mat 1024) .bf16) = dvMat r X Y := by
  rw [dv_stages, z_cube m c r hr X Y hX, g_rows m c r X Y hY, weight_heads (fun p => head r X Y p.val), keep_weight (fun p => head r X Y p.val),
    dotVal_cols, cols_back, heads_out]
  rfl

end Cert.ReferenceIdeal.Real
-- ==== Proof.lean ====
/-
  The certificate of the attention gradient, of the feed-forward layer's calls, of the projections', of the pooling layer's, of the
  weight gradients and of the optimiser on the small weights: each kernel, in both its forms, and its reference run to the end, leave
  their arguments as they were and every counter at zero; the one named constant stands for the printed one; and the kernels and their
  references end with the same results, for the attention and the gates' gradient from finite arguments, for the other calls from any.
-/
module

public import proofs.«01_k».proof.Proof.Optimiser
public import proofs.«01_k».proof.Proof.Pooling
public import proofs.«01_k».proof.Proof.Gen.Pre_finite
public import proofs.«01_k».proof.Defs
public import proofs.«01_k».proof.Proof.GateEnds
public import proofs.«01_k».proof.Proof.Ffn
public import proofs.«01_k».proof.Proof.Weights
public import proofs.«01_k».proof.Proof.Projections
public import proofs.«01_k».proof.Proof.Gen.Gate.Frame
public import proofs.«01_k».proof.Proof.FrameKernel
public import proofs.«01_k».proof.Proof.FrameIdeal
public import proofs.«01_k».proof.Proof.Values
public import proofs.«01_k».proof.Proof.Finite
public import proofs.«01_k».proof.Proof.Reference
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem
open Cert.KernelIdeal.Stage (scale scale_bits)

/-- The named constant is `-1 / log 2`. -/
theorem preserves : Cert.preserves_Kernel_KernelIdeal :=
  IdealRules.named_const.statement Cert.KernelIdeal.κ "neg_log2_e" .f32 0xBFB8AA3B#32 ((-((Real.log 2)⁻¹) : ℝ) : EReal) rfl

/-- The reference reaches its end with its arguments unchanged and no counter left over. -/
theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- From finite arguments the kernel and the reference, started with the same arguments, end with the same gradients of the
    queries, the keys and the values. The two finite arguments are two matrices of real numbers, and each program is shown to
    end with the gradients of the attention written out over those. -/
theorem algebraic : Cert.algebraic_KernelIdeal_ReferenceIdeal_pre_finite := by
  intro m ρ m' ρ' hpre hargs
  obtain ⟨fx, fy⟩ := Cert.Finite.finite_of _ _ (hpre 0)
  obtain ⟨X, hX⟩ := Cert.Cube.exists_mat (n := 7168) (φ := .f32) (Cert.KernelIdeal.Run.arg0 m 0) fx
  obtain ⟨Y, hY⟩ := Cert.Cube.exists_mat (n := 2048) (φ := .f32) (Cert.KernelIdeal.Run.arg1 m 0) fy
  have one : ∀ c : Dev Cert.KernelIdeal.nD, c = 0 := fun c => Subsingleton.elim c 0
  have hX' : ∀ c, Cert.KernelIdeal.Run.arg0 m c = Cert.Cube.mat 7168 .f32 X := fun c => by rw [one c]; exact hX
  have hY' : ∀ c, Cert.KernelIdeal.Run.arg1 m c = Cert.Cube.mat 2048 .f32 Y := fun c => by rw [one c]; exact hY
  have rX : ∀ c, Cert.ReferenceIdeal.Real.arg0 m' c = Cert.Cube.mat 7168 .f32 X := fun c => (hargs c).1.trans (hX' c)
  have rY : ∀ c, Cert.ReferenceIdeal.Real.arg1 m' c = Cert.Cube.mat 2048 .f32 Y := fun c => (hargs c).2.trans (hY' c)
  refine ⟨fun _ => Cert.Cube.dqMat scale X Y, fun _ => Cert.Cube.dkMat scale X Y, fun _ => Cert.Cube.dvMat scale X Y,
    Cert.KernelIdeal.Run.ends m ρ X Y hX' hY', ?_⟩
  refine (θ_run Cert.ReferenceIdeal.defs _ _).mono (fun r h c => ?_) (Cert.ReferenceIdeal.Value.run (F := Ideal) m' ρ')
  obtain ⟨h0, h1, h2, h3, h4⟩ := h c
  exact ⟨h0.trans (Cert.ReferenceIdeal.Real.dq_mat m' c scale scale_bits X Y (rX c) (rY c)),
    h1.trans (Cert.ReferenceIdeal.Real.dk_mat m' c scale scale_bits X Y (rX c) (rY c)),
    h2.trans (Cert.ReferenceIdeal.Real.dv_mat m' c scale scale_bits X Y (rX c) (rY c)), h3, h4⟩

/-- The gates' reference reaches its end with its arguments unchanged and no counter left over. -/
theorem frame_gate_ri : Cert.quiescent_GateReferenceIdeal := fun m ρ _ =>
  (θ_run Cert.GateReferenceIdeal.defs _ _).mono
    (fun r h => ⟨fun c => (h c).2.2, sem_eq_zero_of_no_sems (by decide) r.2⟩)
    (Cert.GateReferenceIdeal.Value.run (F := Ideal) m ρ)

/-- From finite arguments the gates' kernel and its reference end with the same two gradients. -/
theorem algebraic_gate : Cert.algebraic_GateIdeal_GateReferenceIdeal_pre_finite_dact := by
  intro m ρ m' ρ' hpre hargs
  refine ⟨Cert.GateIdeal.Run.daArr m, Cert.GateIdeal.Run.dbArr m, ?_, ?_⟩
  · refine (θ_run Cert.GateIdeal.defs _ _).mono (fun r h c => ?_) (Cert.GateIdeal.Value.run_blocks (F := Ideal) m ρ)
    obtain ⟨h0, h1, h2⟩ := h c
    exact ⟨h0.trans (Cert.GateIdeal.Run.da_array m c), h1.trans (Cert.GateIdeal.Run.db_array m c), h2⟩
  · refine (θ_run Cert.GateReferenceIdeal.defs _ _).mono (fun r h c => ?_) (Cert.GateReferenceIdeal.Value.run (F := Ideal) m' ρ')
    obtain ⟨h0, h1, h2⟩ := h c
    obtain ⟨f0, f1, f2, f3, f4⟩ := Cert.GateEnds.finite_of _ _ _ _ _ (hpre c)
    obtain ⟨e0, e1, e2, e3, e4⟩ := hargs c
    rw [e0, e1, e2, e3, e4] at h0
    rw [e0, e1, e2, e4] at h1
    exact ⟨h0.trans (Cert.GateReferenceIdeal.Real.rule_a (Cert.GateIdeal.Run.gradS m c) (Cert.GateIdeal.Run.projA m c) (Cert.GateIdeal.Run.projB m c)
        (Cert.Dots.fin_dot _ _ _ f1 f4) (Cert.Dots.fin_dot _ _ _ f0 f2) (Cert.Dots.fin_dot _ _ _ f0 f3)),
      h1.trans (Cert.GateReferenceIdeal.Real.rule_b (Cert.GateIdeal.Run.gradS m c) (Cert.GateIdeal.Run.projA m c)), h2⟩

/-- The certificate: the programs' frames, the named constant, and the equalities of the results. -/
theorem claim : Cert.Claim :=
  ⟨Cert.Kernel.Gen.facts, Cert.KernelIdeal.Gen.facts, Cert.ReferenceIdeal.Gen.facts,
    Cert.Gate.Gen.facts, Cert.GateIdeal.Gen.facts, Cert.GateReferenceIdeal.Gen.facts,
    Cert.Dh.Gen.facts, Cert.DhIdeal.Gen.facts, Cert.DhReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Dw.Gen.facts, Cert.DwIdeal.Gen.facts, Cert.DwReferenceIdeal.Gen.facts,
    Cert.Dwin.Gen.facts, Cert.DwinIdeal.Gen.facts, Cert.DwinReferenceIdeal.Gen.facts,
    Cert.Dwd.Gen.facts, Cert.DwdIdeal.Gen.facts, Cert.DwdReferenceIdeal.Gen.facts,
    Cert.Din.Gen.facts, Cert.DinIdeal.Gen.facts, Cert.DinReferenceIdeal.Gen.facts,
    Cert.Pin.Gen.facts, Cert.PinIdeal.Gen.facts, Cert.PinReferenceIdeal.Gen.facts,
    Cert.Pout.Gen.facts, Cert.PoutIdeal.Gen.facts, Cert.PoutReferenceIdeal.Gen.facts,
    Cert.Dcat.Gen.facts, Cert.DcatIdeal.Gen.facts, Cert.DcatReferenceIdeal.Gen.facts,
    Cert.Dwout.Gen.facts, Cert.DwoutIdeal.Gen.facts, Cert.DwoutReferenceIdeal.Gen.facts,
    Cert.Pool.Gen.facts, Cert.PoolIdeal.Gen.facts, Cert.PoolReferenceIdeal.Gen.facts,
    Cert.Dpooled.Gen.facts, Cert.DpooledIdeal.Gen.facts, Cert.DpooledReferenceIdeal.Gen.facts,
    Cert.Dwpool.Gen.facts, Cert.DwpoolIdeal.Gen.facts, Cert.DwpoolReferenceIdeal.Gen.facts,
    Cert.Adam2.Gen.facts, Cert.Adam2Ideal.Gen.facts, Cert.Adam2ReferenceIdeal.Gen.facts,
    Cert.Adam1.Gen.facts, Cert.Adam1Ideal.Gen.facts, Cert.Adam1ReferenceIdeal.Gen.facts,
    Cert.Adamlb.Gen.facts, Cert.AdamlbIdeal.Gen.facts, Cert.AdamlbReferenceIdeal.Gen.facts,
    Cert.Adamhg.Gen.facts, Cert.AdamhgIdeal.Gen.facts, Cert.AdamhgReferenceIdeal.Gen.facts,
    Cert.Adamsc.Gen.facts, Cert.AdamscIdeal.Gen.facts, Cert.AdamscReferenceIdeal.Gen.facts,
    Cert.Pre_finite.Gen.facts, Cert.Pre_finite_dact.Gen.facts,
    fun m g _ => Cert.Kernel.Run.quiescent (F := Bits) m g,
    fun m g _ => Cert.KernelIdeal.Run.quiescent (F := Ideal) m g,
    fun m g _ => Cert.KernelIdeal.Run.quiescent (F := Ideal) m g,
    frame_ri, fun m g _ => frame_ri m g trivial,
    fun m g _ => Cert.Gate.Gen.frame (F := Bits) m g,
    fun m g _ => Cert.GateIdeal.Gen.frame (F := Ideal) m g,
    fun m g _ => Cert.GateIdeal.Gen.frame (F := Ideal) m g,
    frame_gate_ri, fun m g _ => frame_gate_ri m g trivial,
    fun m g _ => Cert.Dh.Gen.frame (F := Bits) m g, fun m g _ => Cert.DhIdeal.Gen.frame (F := Ideal) m g, frame_dh_ri,
    fun m g _ => Cert.Up.Gen.frame (F := Bits) m g, fun m g _ => Cert.UpIdeal.Gen.frame (F := Ideal) m g, frame_up_ri,
    fun m g _ => Cert.Down.Gen.frame (F := Bits) m g, fun m g _ => Cert.DownIdeal.Gen.frame (F := Ideal) m g, frame_down_ri,
    fun m g _ => Cert.Dw.Gen.frame (F := Bits) m g, fun m g _ => Cert.DwIdeal.Gen.frame (F := Ideal) m g, frame_dw_ri,
    fun m g _ => Cert.Dwin.Gen.frame (F := Bits) m g, fun m g _ => Cert.DwinIdeal.Gen.frame (F := Ideal) m g, frame_dwin_ri,
    fun m g _ => Cert.Dwd.Gen.frame (F := Bits) m g, fun m g _ => Cert.DwdIdeal.Gen.frame (F := Ideal) m g, frame_dwd_ri,
    fun m g _ => Cert.Din.Gen.frame (F := Bits) m g, fun m g _ => Cert.DinIdeal.Gen.frame (F := Ideal) m g, frame_din_ri,
    fun m g _ => Cert.Pin.Gen.frame (F := Bits) m g, fun m g _ => Cert.PinIdeal.Gen.frame (F := Ideal) m g, frame_pin_ri,
    fun m g _ => Cert.Pout.Gen.frame (F := Bits) m g, fun m g _ => Cert.PoutIdeal.Gen.frame (F := Ideal) m g, frame_pout_ri,
    fun m g _ => Cert.Dcat.Gen.frame (F := Bits) m g, fun m g _ => Cert.DcatIdeal.Gen.frame (F := Ideal) m g, frame_dcat_ri,
    fun m g _ => Cert.Dwout.Gen.frame (F := Bits) m g, fun m g _ => Cert.DwoutIdeal.Gen.frame (F := Ideal) m g, frame_dwout_ri,
    fun m g _ => Cert.Pool.Gen.frame (F := Bits) m g, fun m g _ => Cert.PoolIdeal.Gen.frame (F := Ideal) m g, frame_pool_ri,
    fun m g _ => Cert.Dpooled.Gen.frame (F := Bits) m g, fun m g _ => Cert.DpooledIdeal.Gen.frame (F := Ideal) m g, frame_dpooled_ri,
    fun m g _ => Cert.Dwpool.Gen.frame (F := Bits) m g, fun m g _ => Cert.DwpoolIdeal.Gen.frame (F := Ideal) m g, frame_dwpool_ri,
    fun m g _ => Cert.Adam2.Gen.frame (F := Bits) m g, fun m g _ => Cert.Adam2Ideal.Gen.frame (F := Ideal) m g, frame_adam2_ri,
    fun m g _ => Cert.Adam1.Gen.frame (F := Bits) m g, fun m g _ => Cert.Adam1Ideal.Gen.frame (F := Ideal) m g, frame_adam1_ri,
    fun m g _ => Cert.Adamlb.Gen.frame (F := Bits) m g, fun m g _ => Cert.AdamlbIdeal.Gen.frame (F := Ideal) m g, frame_adamlb_ri,
    fun m g _ => Cert.Adamhg.Gen.frame (F := Bits) m g, fun m g _ => Cert.AdamhgIdeal.Gen.frame (F := Ideal) m g, frame_adamhg_ri,
    fun m g _ => Cert.Adamsc.Gen.frame (F := Bits) m g, fun m g _ => Cert.AdamscIdeal.Gen.frame (F := Ideal) m g, frame_adamsc_ri,
    preserves, algebraic, trivial, algebraic_gate, trivial, algebraic_dh, trivial, algebraic_up, trivial, algebraic_down,
    trivial, algebraic_dw, trivial, algebraic_dwin,
    trivial, algebraic_dwd, trivial, algebraic_din, trivial, algebraic_pin, trivial, algebraic_pout, trivial, algebraic_dcat, trivial, algebraic_dwout,
    trivial, algebraic_pool, trivial, algebraic_dpooled, trivial, algebraic_dwpool,
    trivial, algebraic_adam2, trivial, algebraic_adam1, trivial, algebraic_adamlb, trivial, algebraic_adamhg, trivial, algebraic_adamsc⟩

end Cert.Proof

end
